-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_up [hPre_finite_up : Cert.Pre_finite_up.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_up.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_up [hPre_finite_up : Cert.Pre_finite_up.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_up.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_up_gate [hPre_finite_up_gate : Cert.Pre_finite_up_gate.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_up_gate.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_up_gate [hPre_finite_up_gate : Cert.Pre_finite_up_gate.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_up_gate.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_half_wide [hPre_half_wide : Cert.Pre_half_wide.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_half_wide.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_half_wide [hPre_half_wide : Cert.Pre_half_wide.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_half_wide.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_half_down [hPre_half_down : Cert.Pre_half_down.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_half_down.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_half_down [hPre_half_down : Cert.Pre_half_down.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_half_down.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5))) = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_half_w_in [hPre_half_w_in : Cert.Pre_half_w_in.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_half_w_in.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5))) = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_half_w_in [hPre_half_w_in : Cert.Pre_half_w_in.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_half_w_in.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4)) (m ((c.tc : Thread Cert.Reference21Ideal.nD Cert.Reference21Ideal.τ).loc Cert.Reference21Ideal.main_arg5))) = (fun _ => 1#1)

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_half_w_out [hPre_half_w_out : Cert.Pre_half_w_out.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_half_w_out.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4)) (m ((c.tc : Thread Cert.Kernel22Ideal.nD Cert.Kernel22Ideal.τ).loc Cert.Kernel22Ideal.main_arg5))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_half_w_out [hPre_half_w_out : Cert.Pre_half_w_out.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_half_w_out.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4)) (m ((c.tc : Thread Cert.Reference22Ideal.nD Cert.Reference22Ideal.τ).loc Cert.Reference22Ideal.main_arg5))) = (fun _ => 1#1)

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_half_pool_w [hPre_half_pool_w : Cert.Pre_half_pool_w.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_half_pool_w.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_half_pool_w [hPre_half_pool_w : Cert.Pre_half_pool_w.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_half_pool_w.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite_up [hKernel6Ideal : Cert.Kernel6Ideal.Facts] [hPre_finite_up : Cert.Pre_finite_up.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_up m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite_up [hReference6Ideal : Cert.Reference6Ideal.Facts] [hPre_finite_up : Cert.Pre_finite_up.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_up m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite_up_gate [hKernel7Ideal : Cert.Kernel7Ideal.Facts] [hPre_finite_up_gate : Cert.Pre_finite_up_gate.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_up_gate m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite_up_gate [hReference7Ideal : Cert.Reference7Ideal.Facts] [hPre_finite_up_gate : Cert.Pre_finite_up_gate.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_up_gate m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7)
      ∧ r.2.mem ((c.tc : Thread Cert.Kernel24.nD Cert.Kernel24.τ).loc Cert.Kernel24.main_arg8) = m ((c.tc : Thread Cert.Kernel24.nD Cert.Kernel24.τ).loc Cert.Kernel24.main_arg8)
      ∧ r.2.mem ((c.tc : Thread Cert.Kernel24.nD Cert.Kernel24.τ).loc Cert.Kernel24.main_arg9) = m ((c.tc : Thread Cert.Kernel24.nD Cert.Kernel24.τ).loc Cert.Kernel24.main_arg9)
      ∧ r.2.mem ((c.tc : Thread Cert.Kernel24.nD Cert.Kernel24.τ).loc Cert.Kernel24.main_arg10) = m ((c.tc : Thread Cert.Kernel24.nD Cert.Kernel24.τ).loc Cert.Kernel24.main_arg10)
      ∧ r.2.mem ((c.tc : Thread Cert.Kernel24.nD Cert.Kernel24.τ).loc Cert.Kernel24.main_arg11) = m ((c.tc : Thread Cert.Kernel24.nD Cert.Kernel24.τ).loc Cert.Kernel24.main_arg11)
      ∧ r.2.mem ((c.tc : Thread Cert.Kernel24.nD Cert.Kernel24.τ).loc Cert.Kernel24.main_arg12) = m ((c.tc : Thread Cert.Kernel24.nD Cert.Kernel24.τ).loc Cert.Kernel24.main_arg12)
      ∧ r.2.mem ((c.tc : Thread Cert.Kernel24.nD Cert.Kernel24.τ).loc Cert.Kernel24.main_arg13) = m ((c.tc : Thread Cert.Kernel24.nD Cert.Kernel24.τ).loc Cert.Kernel24.main_arg13)
      ∧ r.2.mem ((c.tc : Thread Cert.Kernel24.nD Cert.Kernel24.τ).loc Cert.Kernel24.main_arg14) = m ((c.tc : Thread Cert.Kernel24.nD Cert.Kernel24.τ).loc Cert.Kernel24.main_arg14)
      ∧ r.2.mem ((c.tc : Thread Cert.Kernel24.nD Cert.Kernel24.τ).loc Cert.Kernel24.main_arg15) = m ((c.tc : Thread Cert.Kernel24.nD Cert.Kernel24.τ).loc Cert.Kernel24.main_arg15)
      ∧ r.2.mem ((c.tc : Thread Cert.Kernel24.nD Cert.Kernel24.τ).loc Cert.Kernel24.main_arg16) = m ((c.tc : Thread Cert.Kernel24.nD Cert.Kernel24.τ).loc Cert.Kernel24.main_arg16)
      ∧ r.2.mem ((c.tc : Thread Cert.Kernel24.nD Cert.Kernel24.τ).loc Cert.Kernel24.main_arg17) = m ((c.tc : Thread Cert.Kernel24.nD Cert.Kernel24.τ).loc Cert.Kernel24.main_arg17)
      ∧ r.2.mem ((c.tc : Thread Cert.Kernel24.nD Cert.Kernel24.τ).loc Cert.Kernel24.main_arg18) = m ((c.tc : Thread Cert.Kernel24.nD Cert.Kernel24.τ).loc Cert.Kernel24.main_arg18)
      ∧ r.2.mem ((c.tc : Thread Cert.Kernel24.nD Cert.Kernel24.τ).loc Cert.Kernel24.main_arg19) = m ((c.tc : Thread Cert.Kernel24.nD Cert.Kernel24.τ).loc Cert.Kernel24.main_arg19)
      ∧ r.2.mem ((c.tc : Thread Cert.Kernel24.nD Cert.Kernel24.τ).loc Cert.Kernel24.main_arg20) = m ((c.tc : Thread Cert.Kernel24.nD Cert.Kernel24.τ).loc Cert.Kernel24.main_arg20)
      ∧ r.2.mem ((c.tc : Thread Cert.Kernel24.nD Cert.Kernel24.τ).loc Cert.Kernel24.main_arg21) = m ((c.tc : Thread Cert.Kernel24.nD Cert.Kernel24.τ).loc Cert.Kernel24.main_arg21)
      ∧ r.2.mem ((c.tc : Thread Cert.Kernel24.nD Cert.Kernel24.τ).loc Cert.Kernel24.main_arg22) = m ((c.tc : Thread Cert.Kernel24.nD Cert.Kernel24.τ).loc Cert.Kernel24.main_arg22)
      ∧ r.2.mem ((c.tc : Thread Cert.Kernel24.nD Cert.Kernel24.τ).loc Cert.Kernel24.main_arg23) = m ((c.tc : Thread Cert.Kernel24.nD Cert.Kernel24.τ).loc Cert.Kernel24.main_arg23)
      ∧ r.2.mem ((c.tc : Thread Cert.Kernel24.nD Cert.Kernel24.τ).loc Cert.Kernel24.main_arg24) = m ((c.tc : Thread Cert.Kernel24.nD Cert.Kernel24.τ).loc Cert.Kernel24.main_arg24)
      ∧ r.2.mem ((c.tc : Thread Cert.Kernel24.nD Cert.Kernel24.τ).loc Cert.Kernel24.main_arg25) = m ((c.tc : Thread Cert.Kernel24.nD Cert.Kernel24.τ).loc Cert.Kernel24.main_arg25)
      ∧ r.2.mem ((c.tc : Thread Cert.Kernel24.nD Cert.Kernel24.τ).loc Cert.Kernel24.main_arg26) = m ((c.tc : Thread Cert.Kernel24.nD Cert.Kernel24.τ).loc Cert.Kernel24.main_arg26)
      ∧ r.2.mem ((c.tc : Thread Cert.Kernel24.nD Cert.Kernel24.τ).loc Cert.Kernel24.main_arg27) = m ((c.tc : Thread Cert.Kernel24.nD Cert.Kernel24.τ).loc Cert.Kernel24.main_arg27))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
      ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
      ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9)
      ∧ r.2.mem ((c.tc : Thread Cert.Kernel24Ideal.nD Cert.Kernel24Ideal.τ).loc Cert.Kernel24Ideal.main_arg10) = m ((c.tc : Thread Cert.Kernel24Ideal.nD Cert.Kernel24Ideal.τ).loc Cert.Kernel24Ideal.main_arg10)
      ∧ r.2.mem ((c.tc : Thread Cert.Kernel24Ideal.nD Cert.Kernel24Ideal.τ).loc Cert.Kernel24Ideal.main_arg11) = m ((c.tc : Thread Cert.Kernel24Ideal.nD Cert.Kernel24Ideal.τ).loc Cert.Kernel24Ideal.main_arg11)
      ∧ r.2.mem ((c.tc : Thread Cert.Kernel24Ideal.nD Cert.Kernel24Ideal.τ).loc Cert.Kernel24Ideal.main_arg12) = m ((c.tc : Thread Cert.Kernel24Ideal.nD Cert.Kernel24Ideal.τ).loc Cert.Kernel24Ideal.main_arg12)
      ∧ r.2.mem ((c.tc : Thread Cert.Kernel24Ideal.nD Cert.Kernel24Ideal.τ).loc Cert.Kernel24Ideal.main_arg13) = m ((c.tc : Thread Cert.Kernel24Ideal.nD Cert.Kernel24Ideal.τ).loc Cert.Kernel24Ideal.main_arg13)
      ∧ r.2.mem ((c.tc : Thread Cert.Kernel24Ideal.nD Cert.Kernel24Ideal.τ).loc Cert.Kernel24Ideal.main_arg14) = m ((c.tc : Thread Cert.Kernel24Ideal.nD Cert.Kernel24Ideal.τ).loc Cert.Kernel24Ideal.main_arg14)
      ∧ r.2.mem ((c.tc : Thread Cert.Kernel24Ideal.nD Cert.Kernel24Ideal.τ).loc Cert.Kernel24Ideal.main_arg15) = m ((c.tc : Thread Cert.Kernel24Ideal.nD Cert.Kernel24Ideal.τ).loc Cert.Kernel24Ideal.main_arg15)
      ∧ r.2.mem ((c.tc : Thread Cert.Kernel24Ideal.nD Cert.Kernel24Ideal.τ).loc Cert.Kernel24Ideal.main_arg16) = m ((c.tc : Thread Cert.Kernel24Ideal.nD Cert.Kernel24Ideal.τ).loc Cert.Kernel24Ideal.main_arg16)
      ∧ r.2.mem ((c.tc : Thread Cert.Kernel24Ideal.nD Cert.Kernel24Ideal.τ).loc Cert.Kernel24Ideal.main_arg17) = m ((c.tc : Thread Cert.Kernel24Ideal.nD Cert.Kernel24Ideal.τ).loc Cert.Kernel24Ideal.main_arg17)
      ∧ r.2.mem ((c.tc : Thread Cert.Kernel24Ideal.nD Cert.Kernel24Ideal.τ).loc Cert.Kernel24Ideal.main_arg18) = m ((c.tc : Thread Cert.Kernel24Ideal.nD Cert.Kernel24Ideal.τ).loc Cert.Kernel24Ideal.main_arg18)
      ∧ r.2.mem ((c.tc : Thread Cert.Kernel24Ideal.nD Cert.Kernel24Ideal.τ).loc Cert.Kernel24Ideal.main_arg19) = m ((c.tc : Thread Cert.Kernel24Ideal.nD Cert.Kernel24Ideal.τ).loc Cert.Kernel24Ideal.main_arg19)
      ∧ r.2.mem ((c.tc : Thread Cert.Kernel24Ideal.nD Cert.Kernel24Ideal.τ).loc Cert.Kernel24Ideal.main_arg20) = m ((c.tc : Thread Cert.Kernel24Ideal.nD Cert.Kernel24Ideal.τ).loc Cert.Kernel24Ideal.main_arg20)
      ∧ r.2.mem ((c.tc : Thread Cert.Kernel24Ideal.nD Cert.Kernel24Ideal.τ).loc Cert.Kernel24Ideal.main_arg21) = m ((c.tc : Thread Cert.Kernel24Ideal.nD Cert.Kernel24Ideal.τ).loc Cert.Kernel24Ideal.main_arg21)
      ∧ r.2.mem ((c.tc : Thread Cert.Kernel24Ideal.nD Cert.Kernel24Ideal.τ).loc Cert.Kernel24Ideal.main_arg22) = m ((c.tc : Thread Cert.Kernel24Ideal.nD Cert.Kernel24Ideal.τ).loc Cert.Kernel24Ideal.main_arg22)
      ∧ r.2.mem ((c.tc : Thread Cert.Kernel24Ideal.nD Cert.Kernel24Ideal.τ).loc Cert.Kernel24Ideal.main_arg23) = m ((c.tc : Thread Cert.Kernel24Ideal.nD Cert.Kernel24Ideal.τ).loc Cert.Kernel24Ideal.main_arg23)
      ∧ r.2.mem ((c.tc : Thread Cert.Kernel24Ideal.nD Cert.Kernel24Ideal.τ).loc Cert.Kernel24Ideal.main_arg24) = m ((c.tc : Thread Cert.Kernel24Ideal.nD Cert.Kernel24Ideal.τ).loc Cert.Kernel24Ideal.main_arg24)
      ∧ r.2.mem ((c.tc : Thread Cert.Kernel24Ideal.nD Cert.Kernel24Ideal.τ).loc Cert.Kernel24Ideal.main_arg25) = m ((c.tc : Thread Cert.Kernel24Ideal.nD Cert.Kernel24Ideal.τ).loc Cert.Kernel24Ideal.main_arg25)
      ∧ r.2.mem ((c.tc : Thread Cert.Kernel24Ideal.nD Cert.Kernel24Ideal.τ).loc Cert.Kernel24Ideal.main_arg26) = m ((c.tc : Thread Cert.Kernel24Ideal.nD Cert.Kernel24Ideal.τ).loc Cert.Kernel24Ideal.main_arg26)
      ∧ r.2.mem ((c.tc : Thread Cert.Kernel24Ideal.nD Cert.Kernel24Ideal.τ).loc Cert.Kernel24Ideal.main_arg27) = m ((c.tc : Thread Cert.Kernel24Ideal.nD Cert.Kernel24Ideal.τ).loc Cert.Kernel24Ideal.main_arg27))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7)
      ∧ r.2.mem ((c.tc : Thread Cert.Reference24Ideal.nD Cert.Reference24Ideal.τ).loc Cert.Reference24Ideal.main_arg8) = m ((c.tc : Thread Cert.Reference24Ideal.nD Cert.Reference24Ideal.τ).loc Cert.Reference24Ideal.main_arg8)
      ∧ r.2.mem ((c.tc : Thread Cert.Reference24Ideal.nD Cert.Reference24Ideal.τ).loc Cert.Reference24Ideal.main_arg9) = m ((c.tc : Thread Cert.Reference24Ideal.nD Cert.Reference24Ideal.τ).loc Cert.Reference24Ideal.main_arg9)
      ∧ r.2.mem ((c.tc : Thread Cert.Reference24Ideal.nD Cert.Reference24Ideal.τ).loc Cert.Reference24Ideal.main_arg10) = m ((c.tc : Thread Cert.Reference24Ideal.nD Cert.Reference24Ideal.τ).loc Cert.Reference24Ideal.main_arg10)
      ∧ r.2.mem ((c.tc : Thread Cert.Reference24Ideal.nD Cert.Reference24Ideal.τ).loc Cert.Reference24Ideal.main_arg11) = m ((c.tc : Thread Cert.Reference24Ideal.nD Cert.Reference24Ideal.τ).loc Cert.Reference24Ideal.main_arg11)
      ∧ r.2.mem ((c.tc : Thread Cert.Reference24Ideal.nD Cert.Reference24Ideal.τ).loc Cert.Reference24Ideal.main_arg12) = m ((c.tc : Thread Cert.Reference24Ideal.nD Cert.Reference24Ideal.τ).loc Cert.Reference24Ideal.main_arg12)
      ∧ r.2.mem ((c.tc : Thread Cert.Reference24Ideal.nD Cert.Reference24Ideal.τ).loc Cert.Reference24Ideal.main_arg13) = m ((c.tc : Thread Cert.Reference24Ideal.nD Cert.Reference24Ideal.τ).loc Cert.Reference24Ideal.main_arg13)
      ∧ r.2.mem ((c.tc : Thread Cert.Reference24Ideal.nD Cert.Reference24Ideal.τ).loc Cert.Reference24Ideal.main_arg14) = m ((c.tc : Thread Cert.Reference24Ideal.nD Cert.Reference24Ideal.τ).loc Cert.Reference24Ideal.main_arg14)
      ∧ r.2.mem ((c.tc : Thread Cert.Reference24Ideal.nD Cert.Reference24Ideal.τ).loc Cert.Reference24Ideal.main_arg15) = m ((c.tc : Thread Cert.Reference24Ideal.nD Cert.Reference24Ideal.τ).loc Cert.Reference24Ideal.main_arg15)
      ∧ r.2.mem ((c.tc : Thread Cert.Reference24Ideal.nD Cert.Reference24Ideal.τ).loc Cert.Reference24Ideal.main_arg16) = m ((c.tc : Thread Cert.Reference24Ideal.nD Cert.Reference24Ideal.τ).loc Cert.Reference24Ideal.main_arg16)
      ∧ r.2.mem ((c.tc : Thread Cert.Reference24Ideal.nD Cert.Reference24Ideal.τ).loc Cert.Reference24Ideal.main_arg17) = m ((c.tc : Thread Cert.Reference24Ideal.nD Cert.Reference24Ideal.τ).loc Cert.Reference24Ideal.main_arg17)
      ∧ r.2.mem ((c.tc : Thread Cert.Reference24Ideal.nD Cert.Reference24Ideal.τ).loc Cert.Reference24Ideal.main_arg18) = m ((c.tc : Thread Cert.Reference24Ideal.nD Cert.Reference24Ideal.τ).loc Cert.Reference24Ideal.main_arg18)
      ∧ r.2.mem ((c.tc : Thread Cert.Reference24Ideal.nD Cert.Reference24Ideal.τ).loc Cert.Reference24Ideal.main_arg19) = m ((c.tc : Thread Cert.Reference24Ideal.nD Cert.Reference24Ideal.τ).loc Cert.Reference24Ideal.main_arg19)
      ∧ r.2.mem ((c.tc : Thread Cert.Reference24Ideal.nD Cert.Reference24Ideal.τ).loc Cert.Reference24Ideal.main_arg20) = m ((c.tc : Thread Cert.Reference24Ideal.nD Cert.Reference24Ideal.τ).loc Cert.Reference24Ideal.main_arg20)
      ∧ r.2.mem ((c.tc : Thread Cert.Reference24Ideal.nD Cert.Reference24Ideal.τ).loc Cert.Reference24Ideal.main_arg21) = m ((c.tc : Thread Cert.Reference24Ideal.nD Cert.Reference24Ideal.τ).loc Cert.Reference24Ideal.main_arg21)
      ∧ r.2.mem ((c.tc : Thread Cert.Reference24Ideal.nD Cert.Reference24Ideal.τ).loc Cert.Reference24Ideal.main_arg22) = m ((c.tc : Thread Cert.Reference24Ideal.nD Cert.Reference24Ideal.τ).loc Cert.Reference24Ideal.main_arg22)
      ∧ r.2.mem ((c.tc : Thread Cert.Reference24Ideal.nD Cert.Reference24Ideal.τ).loc Cert.Reference24Ideal.main_arg23) = m ((c.tc : Thread Cert.Reference24Ideal.nD Cert.Reference24Ideal.τ).loc Cert.Reference24Ideal.main_arg23)
      ∧ r.2.mem ((c.tc : Thread Cert.Reference24Ideal.nD Cert.Reference24Ideal.τ).loc Cert.Reference24Ideal.main_arg24) = m ((c.tc : Thread Cert.Reference24Ideal.nD Cert.Reference24Ideal.τ).loc Cert.Reference24Ideal.main_arg24)
      ∧ r.2.mem ((c.tc : Thread Cert.Reference24Ideal.nD Cert.Reference24Ideal.τ).loc Cert.Reference24Ideal.main_arg25) = m ((c.tc : Thread Cert.Reference24Ideal.nD Cert.Reference24Ideal.τ).loc Cert.Reference24Ideal.main_arg25)
      ∧ r.2.mem ((c.tc : Thread Cert.Reference24Ideal.nD Cert.Reference24Ideal.τ).loc Cert.Reference24Ideal.main_arg26) = m ((c.tc : Thread Cert.Reference24Ideal.nD Cert.Reference24Ideal.τ).loc Cert.Reference24Ideal.main_arg26)
      ∧ r.2.mem ((c.tc : Thread Cert.Reference24Ideal.nD Cert.Reference24Ideal.τ).loc Cert.Reference24Ideal.main_arg27) = m ((c.tc : Thread Cert.Reference24Ideal.nD Cert.Reference24Ideal.τ).loc Cert.Reference24Ideal.main_arg27))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Kernel19Ideal_pre_half_wide [hKernel19Ideal : Cert.Kernel19Ideal.Facts] [hPre_half_wide : Cert.Pre_half_wide.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_half_wide m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Reference19Ideal_pre_half_wide [hReference19Ideal : Cert.Reference19Ideal.Facts] [hPre_half_wide : Cert.Pre_half_wide.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_half_wide m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Kernel20Ideal_pre_half_down [hKernel20Ideal : Cert.Kernel20Ideal.Facts] [hPre_half_down : Cert.Pre_half_down.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_half_down m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def quiescent_Reference20Ideal_pre_half_down [hReference20Ideal : Cert.Reference20Ideal.Facts] [hPre_half_down : Cert.Pre_half_down.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_half_down m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Kernel21Ideal_pre_half_w_in [hKernel21Ideal : Cert.Kernel21Ideal.Facts] [hPre_half_w_in : Cert.Pre_half_w_in.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_half_w_in m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def quiescent_Reference21Ideal_pre_half_w_in [hReference21Ideal : Cert.Reference21Ideal.Facts] [hPre_half_w_in : Cert.Pre_half_w_in.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_half_w_in m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Kernel22Ideal_pre_half_w_out [hKernel22Ideal : Cert.Kernel22Ideal.Facts] [hPre_half_w_out : Cert.Pre_half_w_out.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_half_w_out m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Reference22Ideal_pre_half_w_out [hReference22Ideal : Cert.Reference22Ideal.Facts] [hPre_half_w_out : Cert.Pre_half_w_out.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_half_w_out m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Kernel23Ideal_pre_half_pool_w [hKernel23Ideal : Cert.Kernel23Ideal.Facts] [hPre_half_pool_w : Cert.Pre_half_pool_w.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_half_pool_w m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Reference23Ideal_pre_half_pool_w [hReference23Ideal : Cert.Reference23Ideal.Facts] [hPre_half_pool_w : Cert.Pre_half_pool_w.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_half_pool_w m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)) (v2 : (c : Dev Cert.KernelIdeal.nD) → Buf (Elt Ideal) ((c.tc : Thread Cert.KernelIdeal.nD Cert.KernelIdeal.τ).loc Cert.KernelIdeal.main_v31_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_v31_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v14) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite_up [hKernel6Ideal : Cert.Kernel6Ideal.Facts] [hReference6Ideal : Cert.Reference6Ideal.Facts] [hPre_finite_up : Cert.Pre_finite_up.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_up m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)) (v3 : (c : Dev Cert.Kernel6Ideal.nD) → Buf (Elt Ideal) ((c.tc : Thread Cert.Kernel6Ideal.nD Cert.Kernel6Ideal.τ).loc Cert.Kernel6Ideal.main_v1_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_v1_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_v12) = v1 c
          ∧ r.2.mem ((c.tc : Thread Cert.Reference6Ideal.nD Cert.Reference6Ideal.τ).loc Cert.Reference6Ideal.main_v13) = v2 c
          ∧ r.2.mem ((c.tc : Thread Cert.Reference6Ideal.nD Cert.Reference6Ideal.τ).loc Cert.Reference6Ideal.main_v15) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite_up_gate [hKernel7Ideal : Cert.Kernel7Ideal.Facts] [hReference7Ideal : Cert.Reference7Ideal.Facts] [hPre_finite_up_gate : Cert.Pre_finite_up_gate.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_up_gate m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_v10) = v1 c
          ∧ r.2.mem ((c.tc : Thread Cert.Reference7Ideal.nD Cert.Reference7Ideal.τ).loc Cert.Reference7Ideal.main_v11) = v2 c
          ∧ r.2.mem ((c.tc : Thread Cert.Reference7Ideal.nD Cert.Reference7Ideal.τ).loc Cert.Reference7Ideal.main_v13) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_arg0) = v0 c
          ∧ r.2.mem ((c.tc : Thread Cert.Reference17Ideal.nD Cert.Reference17Ideal.τ).loc Cert.Reference17Ideal.main_v23) = v1 c
          ∧ r.2.mem ((c.tc : Thread Cert.Reference17Ideal.nD Cert.Reference17Ideal.τ).loc Cert.Reference17Ideal.main_v4) = v2 c
          ∧ r.2.mem ((c.tc : Thread Cert.Reference17Ideal.nD Cert.Reference17Ideal.τ).loc Cert.Reference17Ideal.main_v10) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)
      ∧ m' ((c.tc : Thread Cert.Reference24Ideal.nD Cert.Reference24Ideal.τ).loc Cert.Reference24Ideal.main_arg8) = m ((c.tc : Thread Cert.Kernel24Ideal.nD Cert.Kernel24Ideal.τ).loc Cert.Kernel24Ideal.main_arg8)
      ∧ m' ((c.tc : Thread Cert.Reference24Ideal.nD Cert.Reference24Ideal.τ).loc Cert.Reference24Ideal.main_arg9) = m ((c.tc : Thread Cert.Kernel24Ideal.nD Cert.Kernel24Ideal.τ).loc Cert.Kernel24Ideal.main_arg9)
      ∧ m' ((c.tc : Thread Cert.Reference24Ideal.nD Cert.Reference24Ideal.τ).loc Cert.Reference24Ideal.main_arg10) = m ((c.tc : Thread Cert.Kernel24Ideal.nD Cert.Kernel24Ideal.τ).loc Cert.Kernel24Ideal.main_arg10)
      ∧ m' ((c.tc : Thread Cert.Reference24Ideal.nD Cert.Reference24Ideal.τ).loc Cert.Reference24Ideal.main_arg11) = m ((c.tc : Thread Cert.Kernel24Ideal.nD Cert.Kernel24Ideal.τ).loc Cert.Kernel24Ideal.main_arg11)
      ∧ m' ((c.tc : Thread Cert.Reference24Ideal.nD Cert.Reference24Ideal.τ).loc Cert.Reference24Ideal.main_arg12) = m ((c.tc : Thread Cert.Kernel24Ideal.nD Cert.Kernel24Ideal.τ).loc Cert.Kernel24Ideal.main_arg12)
      ∧ m' ((c.tc : Thread Cert.Reference24Ideal.nD Cert.Reference24Ideal.τ).loc Cert.Reference24Ideal.main_arg13) = m ((c.tc : Thread Cert.Kernel24Ideal.nD Cert.Kernel24Ideal.τ).loc Cert.Kernel24Ideal.main_arg13)
      ∧ m' ((c.tc : Thread Cert.Reference24Ideal.nD Cert.Reference24Ideal.τ).loc Cert.Reference24Ideal.main_arg14) = m ((c.tc : Thread Cert.Kernel24Ideal.nD Cert.Kernel24Ideal.τ).loc Cert.Kernel24Ideal.main_arg14)
      ∧ m' ((c.tc : Thread Cert.Reference24Ideal.nD Cert.Reference24Ideal.τ).loc Cert.Reference24Ideal.main_arg15) = m ((c.tc : Thread Cert.Kernel24Ideal.nD Cert.Kernel24Ideal.τ).loc Cert.Kernel24Ideal.main_arg15)
      ∧ m' ((c.tc : Thread Cert.Reference24Ideal.nD Cert.Reference24Ideal.τ).loc Cert.Reference24Ideal.main_arg16) = m ((c.tc : Thread Cert.Kernel24Ideal.nD Cert.Kernel24Ideal.τ).loc Cert.Kernel24Ideal.main_arg16)
      ∧ m' ((c.tc : Thread Cert.Reference24Ideal.nD Cert.Reference24Ideal.τ).loc Cert.Reference24Ideal.main_arg17) = m ((c.tc : Thread Cert.Kernel24Ideal.nD Cert.Kernel24Ideal.τ).loc Cert.Kernel24Ideal.main_arg17)
      ∧ m' ((c.tc : Thread Cert.Reference24Ideal.nD Cert.Reference24Ideal.τ).loc Cert.Reference24Ideal.main_arg18) = m ((c.tc : Thread Cert.Kernel24Ideal.nD Cert.Kernel24Ideal.τ).loc Cert.Kernel24Ideal.main_arg18)
      ∧ m' ((c.tc : Thread Cert.Reference24Ideal.nD Cert.Reference24Ideal.τ).loc Cert.Reference24Ideal.main_arg19) = m ((c.tc : Thread Cert.Kernel24Ideal.nD Cert.Kernel24Ideal.τ).loc Cert.Kernel24Ideal.main_arg19)
      ∧ m' ((c.tc : Thread Cert.Reference24Ideal.nD Cert.Reference24Ideal.τ).loc Cert.Reference24Ideal.main_arg20) = m ((c.tc : Thread Cert.Kernel24Ideal.nD Cert.Kernel24Ideal.τ).loc Cert.Kernel24Ideal.main_arg20)
      ∧ m' ((c.tc : Thread Cert.Reference24Ideal.nD Cert.Reference24Ideal.τ).loc Cert.Reference24Ideal.main_arg21) = m ((c.tc : Thread Cert.Kernel24Ideal.nD Cert.Kernel24Ideal.τ).loc Cert.Kernel24Ideal.main_arg21)
      ∧ m' ((c.tc : Thread Cert.Reference24Ideal.nD Cert.Reference24Ideal.τ).loc Cert.Reference24Ideal.main_arg22) = m ((c.tc : Thread Cert.Kernel24Ideal.nD Cert.Kernel24Ideal.τ).loc Cert.Kernel24Ideal.main_arg22)
      ∧ m' ((c.tc : Thread Cert.Reference24Ideal.nD Cert.Reference24Ideal.τ).loc Cert.Reference24Ideal.main_arg23) = m ((c.tc : Thread Cert.Kernel24Ideal.nD Cert.Kernel24Ideal.τ).loc Cert.Kernel24Ideal.main_arg23)
      ∧ m' ((c.tc : Thread Cert.Reference24Ideal.nD Cert.Reference24Ideal.τ).loc Cert.Reference24Ideal.main_arg24) = m ((c.tc : Thread Cert.Kernel24Ideal.nD Cert.Kernel24Ideal.τ).loc Cert.Kernel24Ideal.main_arg24)
      ∧ m' ((c.tc : Thread Cert.Reference24Ideal.nD Cert.Reference24Ideal.τ).loc Cert.Reference24Ideal.main_arg25) = m ((c.tc : Thread Cert.Kernel24Ideal.nD Cert.Kernel24Ideal.τ).loc Cert.Kernel24Ideal.main_arg25)
      ∧ m' ((c.tc : Thread Cert.Reference24Ideal.nD Cert.Reference24Ideal.τ).loc Cert.Reference24Ideal.main_arg26) = m ((c.tc : Thread Cert.Kernel24Ideal.nD Cert.Kernel24Ideal.τ).loc Cert.Kernel24Ideal.main_arg26)
      ∧ m' ((c.tc : Thread Cert.Reference24Ideal.nD Cert.Reference24Ideal.τ).loc Cert.Reference24Ideal.main_arg27) = m ((c.tc : Thread Cert.Kernel24Ideal.nD Cert.Kernel24Ideal.τ).loc Cert.Kernel24Ideal.main_arg27)) →
    ∃ (v0 : (c : Dev Cert.Kernel24Ideal.nD) → Buf (Elt Ideal) ((c.tc : Thread Cert.Kernel24Ideal.nD Cert.Kernel24Ideal.τ).loc Cert.Kernel24Ideal.main_v42)) (v1 : (c : Dev Cert.Kernel24Ideal.nD) → Buf (Elt Ideal) ((c.tc : Thread Cert.Kernel24Ideal.nD Cert.Kernel24Ideal.τ).loc Cert.Kernel24Ideal.main_v44)) (v2 : (c : Dev Cert.Kernel24Ideal.nD) → Buf (Elt Ideal) ((c.tc : Thread Cert.Kernel24Ideal.nD Cert.Kernel24Ideal.τ).loc Cert.Kernel24Ideal.main_v46)) (v3 : (c : Dev Cert.Kernel24Ideal.nD) → Buf (Elt Ideal) ((c.tc : Thread Cert.Kernel24Ideal.nD Cert.Kernel24Ideal.τ).loc Cert.Kernel24Ideal.main_v47)) (v4 : (c : Dev Cert.Kernel24Ideal.nD) → Buf (Elt Ideal) ((c.tc : Thread Cert.Kernel24Ideal.nD Cert.Kernel24Ideal.τ).loc Cert.Kernel24Ideal.main_v50)) (v5 : (c : Dev Cert.Kernel24Ideal.nD) → Buf (Elt Ideal) ((c.tc : Thread Cert.Kernel24Ideal.nD Cert.Kernel24Ideal.τ).loc Cert.Kernel24Ideal.main_v53)) (v6 : (c : Dev Cert.Kernel24Ideal.nD) → Buf (Elt Ideal) ((c.tc : Thread Cert.Kernel24Ideal.nD Cert.Kernel24Ideal.τ).loc Cert.Kernel24Ideal.main_v56)) (v7 : (c : Dev Cert.Kernel24Ideal.nD) → Buf (Elt Ideal) ((c.tc : Thread Cert.Kernel24Ideal.nD Cert.Kernel24Ideal.τ).loc Cert.Kernel24Ideal.main_v58)) (v8 : (c : Dev Cert.Kernel24Ideal.nD) → Buf (Elt Ideal) ((c.tc : Thread Cert.Kernel24Ideal.nD Cert.Kernel24Ideal.τ).loc Cert.Kernel24Ideal.main_v60)) (v9 : (c : Dev Cert.Kernel24Ideal.nD) → Buf (Elt Ideal) ((c.tc : Thread Cert.Kernel24Ideal.nD Cert.Kernel24Ideal.τ).loc Cert.Kernel24Ideal.main_v62)) (v10 : (c : Dev Cert.Kernel24Ideal.nD) → Buf (Elt Ideal) ((c.tc : Thread Cert.Kernel24Ideal.nD Cert.Kernel24Ideal.τ).loc Cert.Kernel24Ideal.main_v63)) (v11 : (c : Dev Cert.Kernel24Ideal.nD) → Buf (Elt Ideal) ((c.tc : Thread Cert.Kernel24Ideal.nD Cert.Kernel24Ideal.τ).loc Cert.Kernel24Ideal.main_v66)) (v12 : (c : Dev Cert.Kernel24Ideal.nD) → Buf (Elt Ideal) ((c.tc : Thread Cert.Kernel24Ideal.nD Cert.Kernel24Ideal.τ).loc Cert.Kernel24Ideal.main_v69)) (v13 : (c : Dev Cert.Kernel24Ideal.nD) → Buf (Elt Ideal) ((c.tc : Thread Cert.Kernel24Ideal.nD Cert.Kernel24Ideal.τ).loc Cert.Kernel24Ideal.main_v72)) (v14 : (c : Dev Cert.Kernel24Ideal.nD) → Buf (Elt Ideal) ((c.tc : Thread Cert.Kernel24Ideal.nD Cert.Kernel24Ideal.τ).loc Cert.Kernel24Ideal.main_v74)) (v15 : (c : Dev Cert.Kernel24Ideal.nD) → Buf (Elt Ideal) ((c.tc : Thread Cert.Kernel24Ideal.nD Cert.Kernel24Ideal.τ).loc Cert.Kernel24Ideal.main_v76)) (v16 : (c : Dev Cert.Kernel24Ideal.nD) → Buf (Elt Ideal) ((c.tc : Thread Cert.Kernel24Ideal.nD Cert.Kernel24Ideal.τ).loc Cert.Kernel24Ideal.main_v78)) (v17 : (c : Dev Cert.Kernel24Ideal.nD) → Buf (Elt Ideal) ((c.tc : Thread Cert.Kernel24Ideal.nD Cert.Kernel24Ideal.τ).loc Cert.Kernel24Ideal.main_v79)) (v18 : (c : Dev Cert.Kernel24Ideal.nD) → Buf (Elt Ideal) ((c.tc : Thread Cert.Kernel24Ideal.nD Cert.Kernel24Ideal.τ).loc Cert.Kernel24Ideal.main_v82)) (v19 : (c : Dev Cert.Kernel24Ideal.nD) → Buf (Elt Ideal) ((c.tc : Thread Cert.Kernel24Ideal.nD Cert.Kernel24Ideal.τ).loc Cert.Kernel24Ideal.main_v85)) (v20 : (c : Dev Cert.Kernel24Ideal.nD) → Buf (Elt Ideal) ((c.tc : Thread Cert.Kernel24Ideal.nD Cert.Kernel24Ideal.τ).loc Cert.Kernel24Ideal.main_v88)) (v21 : (c : Dev Cert.Kernel24Ideal.nD) → Buf (Elt Ideal) ((c.tc : Thread Cert.Kernel24Ideal.nD Cert.Kernel24Ideal.τ).loc Cert.Kernel24Ideal.main_v90)) (v22 : (c : Dev Cert.Kernel24Ideal.nD) → Buf (Elt Ideal) ((c.tc : Thread Cert.Kernel24Ideal.nD Cert.Kernel24Ideal.τ).loc Cert.Kernel24Ideal.main_v92)) (v23 : (c : Dev Cert.Kernel24Ideal.nD) → Buf (Elt Ideal) ((c.tc : Thread Cert.Kernel24Ideal.nD Cert.Kernel24Ideal.τ).loc Cert.Kernel24Ideal.main_v94)) (v24 : (c : Dev Cert.Kernel24Ideal.nD) → Buf (Elt Ideal) ((c.tc : Thread Cert.Kernel24Ideal.nD Cert.Kernel24Ideal.τ).loc Cert.Kernel24Ideal.main_v95)) (v25 : (c : Dev Cert.Kernel24Ideal.nD) → Buf (Elt Ideal) ((c.tc : Thread Cert.Kernel24Ideal.nD Cert.Kernel24Ideal.τ).loc Cert.Kernel24Ideal.main_v98)) (v26 : (c : Dev Cert.Kernel24Ideal.nD) → Buf (Elt Ideal) ((c.tc : Thread Cert.Kernel24Ideal.nD Cert.Kernel24Ideal.τ).loc Cert.Kernel24Ideal.main_v101)) (v27 : (c : Dev Cert.Kernel24Ideal.nD) → Buf (Elt Ideal) ((c.tc : Thread Cert.Kernel24Ideal.nD Cert.Kernel24Ideal.τ).loc Cert.Kernel24Ideal.main_v104)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v42) = v0 c
          ∧ r.2.mem ((c.tc : Thread Cert.Kernel24Ideal.nD Cert.Kernel24Ideal.τ).loc Cert.Kernel24Ideal.main_v44) = v1 c
          ∧ r.2.mem ((c.tc : Thread Cert.Kernel24Ideal.nD Cert.Kernel24Ideal.τ).loc Cert.Kernel24Ideal.main_v46) = v2 c
          ∧ r.2.mem ((c.tc : Thread Cert.Kernel24Ideal.nD Cert.Kernel24Ideal.τ).loc Cert.Kernel24Ideal.main_v47) = v3 c
          ∧ r.2.mem ((c.tc : Thread Cert.Kernel24Ideal.nD Cert.Kernel24Ideal.τ).loc Cert.Kernel24Ideal.main_v50) = v4 c
          ∧ r.2.mem ((c.tc : Thread Cert.Kernel24Ideal.nD Cert.Kernel24Ideal.τ).loc Cert.Kernel24Ideal.main_v53) = v5 c
          ∧ r.2.mem ((c.tc : Thread Cert.Kernel24Ideal.nD Cert.Kernel24Ideal.τ).loc Cert.Kernel24Ideal.main_v56) = v6 c
          ∧ r.2.mem ((c.tc : Thread Cert.Kernel24Ideal.nD Cert.Kernel24Ideal.τ).loc Cert.Kernel24Ideal.main_v58) = v7 c
          ∧ r.2.mem ((c.tc : Thread Cert.Kernel24Ideal.nD Cert.Kernel24Ideal.τ).loc Cert.Kernel24Ideal.main_v60) = v8 c
          ∧ r.2.mem ((c.tc : Thread Cert.Kernel24Ideal.nD Cert.Kernel24Ideal.τ).loc Cert.Kernel24Ideal.main_v62) = v9 c
          ∧ r.2.mem ((c.tc : Thread Cert.Kernel24Ideal.nD Cert.Kernel24Ideal.τ).loc Cert.Kernel24Ideal.main_v63) = v10 c
          ∧ r.2.mem ((c.tc : Thread Cert.Kernel24Ideal.nD Cert.Kernel24Ideal.τ).loc Cert.Kernel24Ideal.main_v66) = v11 c
          ∧ r.2.mem ((c.tc : Thread Cert.Kernel24Ideal.nD Cert.Kernel24Ideal.τ).loc Cert.Kernel24Ideal.main_v69) = v12 c
          ∧ r.2.mem ((c.tc : Thread Cert.Kernel24Ideal.nD Cert.Kernel24Ideal.τ).loc Cert.Kernel24Ideal.main_v72) = v13 c
          ∧ r.2.mem ((c.tc : Thread Cert.Kernel24Ideal.nD Cert.Kernel24Ideal.τ).loc Cert.Kernel24Ideal.main_v74) = v14 c
          ∧ r.2.mem ((c.tc : Thread Cert.Kernel24Ideal.nD Cert.Kernel24Ideal.τ).loc Cert.Kernel24Ideal.main_v76) = v15 c
          ∧ r.2.mem ((c.tc : Thread Cert.Kernel24Ideal.nD Cert.Kernel24Ideal.τ).loc Cert.Kernel24Ideal.main_v78) = v16 c
          ∧ r.2.mem ((c.tc : Thread Cert.Kernel24Ideal.nD Cert.Kernel24Ideal.τ).loc Cert.Kernel24Ideal.main_v79) = v17 c
          ∧ r.2.mem ((c.tc : Thread Cert.Kernel24Ideal.nD Cert.Kernel24Ideal.τ).loc Cert.Kernel24Ideal.main_v82) = v18 c
          ∧ r.2.mem ((c.tc : Thread Cert.Kernel24Ideal.nD Cert.Kernel24Ideal.τ).loc Cert.Kernel24Ideal.main_v85) = v19 c
          ∧ r.2.mem ((c.tc : Thread Cert.Kernel24Ideal.nD Cert.Kernel24Ideal.τ).loc Cert.Kernel24Ideal.main_v88) = v20 c
          ∧ r.2.mem ((c.tc : Thread Cert.Kernel24Ideal.nD Cert.Kernel24Ideal.τ).loc Cert.Kernel24Ideal.main_v90) = v21 c
          ∧ r.2.mem ((c.tc : Thread Cert.Kernel24Ideal.nD Cert.Kernel24Ideal.τ).loc Cert.Kernel24Ideal.main_v92) = v22 c
          ∧ r.2.mem ((c.tc : Thread Cert.Kernel24Ideal.nD Cert.Kernel24Ideal.τ).loc Cert.Kernel24Ideal.main_v94) = v23 c
          ∧ r.2.mem ((c.tc : Thread Cert.Kernel24Ideal.nD Cert.Kernel24Ideal.τ).loc Cert.Kernel24Ideal.main_v95) = v24 c
          ∧ r.2.mem ((c.tc : Thread Cert.Kernel24Ideal.nD Cert.Kernel24Ideal.τ).loc Cert.Kernel24Ideal.main_v98) = v25 c
          ∧ r.2.mem ((c.tc : Thread Cert.Kernel24Ideal.nD Cert.Kernel24Ideal.τ).loc Cert.Kernel24Ideal.main_v101) = v26 c
          ∧ r.2.mem ((c.tc : Thread Cert.Kernel24Ideal.nD Cert.Kernel24Ideal.τ).loc Cert.Kernel24Ideal.main_v104) = v27 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
          ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
          ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9)
          ∧ r.2.mem ((c.tc : Thread Cert.Kernel24Ideal.nD Cert.Kernel24Ideal.τ).loc Cert.Kernel24Ideal.main_arg10) = m ((c.tc : Thread Cert.Kernel24Ideal.nD Cert.Kernel24Ideal.τ).loc Cert.Kernel24Ideal.main_arg10)
          ∧ r.2.mem ((c.tc : Thread Cert.Kernel24Ideal.nD Cert.Kernel24Ideal.τ).loc Cert.Kernel24Ideal.main_arg11) = m ((c.tc : Thread Cert.Kernel24Ideal.nD Cert.Kernel24Ideal.τ).loc Cert.Kernel24Ideal.main_arg11)
          ∧ r.2.mem ((c.tc : Thread Cert.Kernel24Ideal.nD Cert.Kernel24Ideal.τ).loc Cert.Kernel24Ideal.main_arg12) = m ((c.tc : Thread Cert.Kernel24Ideal.nD Cert.Kernel24Ideal.τ).loc Cert.Kernel24Ideal.main_arg12)
          ∧ r.2.mem ((c.tc : Thread Cert.Kernel24Ideal.nD Cert.Kernel24Ideal.τ).loc Cert.Kernel24Ideal.main_arg13) = m ((c.tc : Thread Cert.Kernel24Ideal.nD Cert.Kernel24Ideal.τ).loc Cert.Kernel24Ideal.main_arg13)
          ∧ r.2.mem ((c.tc : Thread Cert.Kernel24Ideal.nD Cert.Kernel24Ideal.τ).loc Cert.Kernel24Ideal.main_arg14) = m ((c.tc : Thread Cert.Kernel24Ideal.nD Cert.Kernel24Ideal.τ).loc Cert.Kernel24Ideal.main_arg14)
          ∧ r.2.mem ((c.tc : Thread Cert.Kernel24Ideal.nD Cert.Kernel24Ideal.τ).loc Cert.Kernel24Ideal.main_arg15) = m ((c.tc : Thread Cert.Kernel24Ideal.nD Cert.Kernel24Ideal.τ).loc Cert.Kernel24Ideal.main_arg15)
          ∧ r.2.mem ((c.tc : Thread Cert.Kernel24Ideal.nD Cert.Kernel24Ideal.τ).loc Cert.Kernel24Ideal.main_arg16) = m ((c.tc : Thread Cert.Kernel24Ideal.nD Cert.Kernel24Ideal.τ).loc Cert.Kernel24Ideal.main_arg16)
          ∧ r.2.mem ((c.tc : Thread Cert.Kernel24Ideal.nD Cert.Kernel24Ideal.τ).loc Cert.Kernel24Ideal.main_arg17) = m ((c.tc : Thread Cert.Kernel24Ideal.nD Cert.Kernel24Ideal.τ).loc Cert.Kernel24Ideal.main_arg17)
          ∧ r.2.mem ((c.tc : Thread Cert.Kernel24Ideal.nD Cert.Kernel24Ideal.τ).loc Cert.Kernel24Ideal.main_arg18) = m ((c.tc : Thread Cert.Kernel24Ideal.nD Cert.Kernel24Ideal.τ).loc Cert.Kernel24Ideal.main_arg18)
          ∧ r.2.mem ((c.tc : Thread Cert.Kernel24Ideal.nD Cert.Kernel24Ideal.τ).loc Cert.Kernel24Ideal.main_arg19) = m ((c.tc : Thread Cert.Kernel24Ideal.nD Cert.Kernel24Ideal.τ).loc Cert.Kernel24Ideal.main_arg19)
          ∧ r.2.mem ((c.tc : Thread Cert.Kernel24Ideal.nD Cert.Kernel24Ideal.τ).loc Cert.Kernel24Ideal.main_arg20) = m ((c.tc : Thread Cert.Kernel24Ideal.nD Cert.Kernel24Ideal.τ).loc Cert.Kernel24Ideal.main_arg20)
          ∧ r.2.mem ((c.tc : Thread Cert.Kernel24Ideal.nD Cert.Kernel24Ideal.τ).loc Cert.Kernel24Ideal.main_arg21) = m ((c.tc : Thread Cert.Kernel24Ideal.nD Cert.Kernel24Ideal.τ).loc Cert.Kernel24Ideal.main_arg21)
          ∧ r.2.mem ((c.tc : Thread Cert.Kernel24Ideal.nD Cert.Kernel24Ideal.τ).loc Cert.Kernel24Ideal.main_arg22) = m ((c.tc : Thread Cert.Kernel24Ideal.nD Cert.Kernel24Ideal.τ).loc Cert.Kernel24Ideal.main_arg22)
          ∧ r.2.mem ((c.tc : Thread Cert.Kernel24Ideal.nD Cert.Kernel24Ideal.τ).loc Cert.Kernel24Ideal.main_arg23) = m ((c.tc : Thread Cert.Kernel24Ideal.nD Cert.Kernel24Ideal.τ).loc Cert.Kernel24Ideal.main_arg23)
          ∧ r.2.mem ((c.tc : Thread Cert.Kernel24Ideal.nD Cert.Kernel24Ideal.τ).loc Cert.Kernel24Ideal.main_arg24) = m ((c.tc : Thread Cert.Kernel24Ideal.nD Cert.Kernel24Ideal.τ).loc Cert.Kernel24Ideal.main_arg24)
          ∧ r.2.mem ((c.tc : Thread Cert.Kernel24Ideal.nD Cert.Kernel24Ideal.τ).loc Cert.Kernel24Ideal.main_arg25) = m ((c.tc : Thread Cert.Kernel24Ideal.nD Cert.Kernel24Ideal.τ).loc Cert.Kernel24Ideal.main_arg25)
          ∧ r.2.mem ((c.tc : Thread Cert.Kernel24Ideal.nD Cert.Kernel24Ideal.τ).loc Cert.Kernel24Ideal.main_arg26) = m ((c.tc : Thread Cert.Kernel24Ideal.nD Cert.Kernel24Ideal.τ).loc Cert.Kernel24Ideal.main_arg26)
          ∧ r.2.mem ((c.tc : Thread Cert.Kernel24Ideal.nD Cert.Kernel24Ideal.τ).loc Cert.Kernel24Ideal.main_arg27) = m ((c.tc : Thread Cert.Kernel24Ideal.nD Cert.Kernel24Ideal.τ).loc Cert.Kernel24Ideal.main_arg27))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_arg0) = v0 c
          ∧ r.2.mem ((c.tc : Thread Cert.Reference24Ideal.nD Cert.Reference24Ideal.τ).loc Cert.Reference24Ideal.main_arg1) = v1 c
          ∧ r.2.mem ((c.tc : Thread Cert.Reference24Ideal.nD Cert.Reference24Ideal.τ).loc Cert.Reference24Ideal.main_arg2) = v2 c
          ∧ r.2.mem ((c.tc : Thread Cert.Reference24Ideal.nD Cert.Reference24Ideal.τ).loc Cert.Reference24Ideal.main_arg3) = v3 c
          ∧ r.2.mem ((c.tc : Thread Cert.Reference24Ideal.nD Cert.Reference24Ideal.τ).loc Cert.Reference24Ideal.main_arg4) = v4 c
          ∧ r.2.mem ((c.tc : Thread Cert.Reference24Ideal.nD Cert.Reference24Ideal.τ).loc Cert.Reference24Ideal.main_arg5) = v5 c
          ∧ r.2.mem ((c.tc : Thread Cert.Reference24Ideal.nD Cert.Reference24Ideal.τ).loc Cert.Reference24Ideal.main_arg6) = v6 c
          ∧ r.2.mem ((c.tc : Thread Cert.Reference24Ideal.nD Cert.Reference24Ideal.τ).loc Cert.Reference24Ideal.main_v23) = v7 c
          ∧ r.2.mem ((c.tc : Thread Cert.Reference24Ideal.nD Cert.Reference24Ideal.τ).loc Cert.Reference24Ideal.main_v47) = v8 c
          ∧ r.2.mem ((c.tc : Thread Cert.Reference24Ideal.nD Cert.Reference24Ideal.τ).loc Cert.Reference24Ideal.main_v71) = v9 c
          ∧ r.2.mem ((c.tc : Thread Cert.Reference24Ideal.nD Cert.Reference24Ideal.τ).loc Cert.Reference24Ideal.main_v95) = v10 c
          ∧ r.2.mem ((c.tc : Thread Cert.Reference24Ideal.nD Cert.Reference24Ideal.τ).loc Cert.Reference24Ideal.main_v119) = v11 c
          ∧ r.2.mem ((c.tc : Thread Cert.Reference24Ideal.nD Cert.Reference24Ideal.τ).loc Cert.Reference24Ideal.main_v143) = v12 c
          ∧ r.2.mem ((c.tc : Thread Cert.Reference24Ideal.nD Cert.Reference24Ideal.τ).loc Cert.Reference24Ideal.main_v167) = v13 c
          ∧ r.2.mem ((c.tc : Thread Cert.Reference24Ideal.nD Cert.Reference24Ideal.τ).loc Cert.Reference24Ideal.main_v4) = v14 c
          ∧ r.2.mem ((c.tc : Thread Cert.Reference24Ideal.nD Cert.Reference24Ideal.τ).loc Cert.Reference24Ideal.main_v28) = v15 c
          ∧ r.2.mem ((c.tc : Thread Cert.Reference24Ideal.nD Cert.Reference24Ideal.τ).loc Cert.Reference24Ideal.main_v52) = v16 c
          ∧ r.2.mem ((c.tc : Thread Cert.Reference24Ideal.nD Cert.Reference24Ideal.τ).loc Cert.Reference24Ideal.main_v76) = v17 c
          ∧ r.2.mem ((c.tc : Thread Cert.Reference24Ideal.nD Cert.Reference24Ideal.τ).loc Cert.Reference24Ideal.main_v100) = v18 c
          ∧ r.2.mem ((c.tc : Thread Cert.Reference24Ideal.nD Cert.Reference24Ideal.τ).loc Cert.Reference24Ideal.main_v124) = v19 c
          ∧ r.2.mem ((c.tc : Thread Cert.Reference24Ideal.nD Cert.Reference24Ideal.τ).loc Cert.Reference24Ideal.main_v148) = v20 c
          ∧ r.2.mem ((c.tc : Thread Cert.Reference24Ideal.nD Cert.Reference24Ideal.τ).loc Cert.Reference24Ideal.main_v10) = v21 c
          ∧ r.2.mem ((c.tc : Thread Cert.Reference24Ideal.nD Cert.Reference24Ideal.τ).loc Cert.Reference24Ideal.main_v34) = v22 c
          ∧ r.2.mem ((c.tc : Thread Cert.Reference24Ideal.nD Cert.Reference24Ideal.τ).loc Cert.Reference24Ideal.main_v58) = v23 c
          ∧ r.2.mem ((c.tc : Thread Cert.Reference24Ideal.nD Cert.Reference24Ideal.τ).loc Cert.Reference24Ideal.main_v82) = v24 c
          ∧ r.2.mem ((c.tc : Thread Cert.Reference24Ideal.nD Cert.Reference24Ideal.τ).loc Cert.Reference24Ideal.main_v106) = v25 c
          ∧ r.2.mem ((c.tc : Thread Cert.Reference24Ideal.nD Cert.Reference24Ideal.τ).loc Cert.Reference24Ideal.main_v130) = v26 c
          ∧ r.2.mem ((c.tc : Thread Cert.Reference24Ideal.nD Cert.Reference24Ideal.τ).loc Cert.Reference24Ideal.main_v154) = v27 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7)
          ∧ r.2.mem ((c.tc : Thread Cert.Reference24Ideal.nD Cert.Reference24Ideal.τ).loc Cert.Reference24Ideal.main_arg8) = m' ((c.tc : Thread Cert.Reference24Ideal.nD Cert.Reference24Ideal.τ).loc Cert.Reference24Ideal.main_arg8)
          ∧ r.2.mem ((c.tc : Thread Cert.Reference24Ideal.nD Cert.Reference24Ideal.τ).loc Cert.Reference24Ideal.main_arg9) = m' ((c.tc : Thread Cert.Reference24Ideal.nD Cert.Reference24Ideal.τ).loc Cert.Reference24Ideal.main_arg9)
          ∧ r.2.mem ((c.tc : Thread Cert.Reference24Ideal.nD Cert.Reference24Ideal.τ).loc Cert.Reference24Ideal.main_arg10) = m' ((c.tc : Thread Cert.Reference24Ideal.nD Cert.Reference24Ideal.τ).loc Cert.Reference24Ideal.main_arg10)
          ∧ r.2.mem ((c.tc : Thread Cert.Reference24Ideal.nD Cert.Reference24Ideal.τ).loc Cert.Reference24Ideal.main_arg11) = m' ((c.tc : Thread Cert.Reference24Ideal.nD Cert.Reference24Ideal.τ).loc Cert.Reference24Ideal.main_arg11)
          ∧ r.2.mem ((c.tc : Thread Cert.Reference24Ideal.nD Cert.Reference24Ideal.τ).loc Cert.Reference24Ideal.main_arg12) = m' ((c.tc : Thread Cert.Reference24Ideal.nD Cert.Reference24Ideal.τ).loc Cert.Reference24Ideal.main_arg12)
          ∧ r.2.mem ((c.tc : Thread Cert.Reference24Ideal.nD Cert.Reference24Ideal.τ).loc Cert.Reference24Ideal.main_arg13) = m' ((c.tc : Thread Cert.Reference24Ideal.nD Cert.Reference24Ideal.τ).loc Cert.Reference24Ideal.main_arg13)
          ∧ r.2.mem ((c.tc : Thread Cert.Reference24Ideal.nD Cert.Reference24Ideal.τ).loc Cert.Reference24Ideal.main_arg14) = m' ((c.tc : Thread Cert.Reference24Ideal.nD Cert.Reference24Ideal.τ).loc Cert.Reference24Ideal.main_arg14)
          ∧ r.2.mem ((c.tc : Thread Cert.Reference24Ideal.nD Cert.Reference24Ideal.τ).loc Cert.Reference24Ideal.main_arg15) = m' ((c.tc : Thread Cert.Reference24Ideal.nD Cert.Reference24Ideal.τ).loc Cert.Reference24Ideal.main_arg15)
          ∧ r.2.mem ((c.tc : Thread Cert.Reference24Ideal.nD Cert.Reference24Ideal.τ).loc Cert.Reference24Ideal.main_arg16) = m' ((c.tc : Thread Cert.Reference24Ideal.nD Cert.Reference24Ideal.τ).loc Cert.Reference24Ideal.main_arg16)
          ∧ r.2.mem ((c.tc : Thread Cert.Reference24Ideal.nD Cert.Reference24Ideal.τ).loc Cert.Reference24Ideal.main_arg17) = m' ((c.tc : Thread Cert.Reference24Ideal.nD Cert.Reference24Ideal.τ).loc Cert.Reference24Ideal.main_arg17)
          ∧ r.2.mem ((c.tc : Thread Cert.Reference24Ideal.nD Cert.Reference24Ideal.τ).loc Cert.Reference24Ideal.main_arg18) = m' ((c.tc : Thread Cert.Reference24Ideal.nD Cert.Reference24Ideal.τ).loc Cert.Reference24Ideal.main_arg18)
          ∧ r.2.mem ((c.tc : Thread Cert.Reference24Ideal.nD Cert.Reference24Ideal.τ).loc Cert.Reference24Ideal.main_arg19) = m' ((c.tc : Thread Cert.Reference24Ideal.nD Cert.Reference24Ideal.τ).loc Cert.Reference24Ideal.main_arg19)
          ∧ r.2.mem ((c.tc : Thread Cert.Reference24Ideal.nD Cert.Reference24Ideal.τ).loc Cert.Reference24Ideal.main_arg20) = m' ((c.tc : Thread Cert.Reference24Ideal.nD Cert.Reference24Ideal.τ).loc Cert.Reference24Ideal.main_arg20)
          ∧ r.2.mem ((c.tc : Thread Cert.Reference24Ideal.nD Cert.Reference24Ideal.τ).loc Cert.Reference24Ideal.main_arg21) = m' ((c.tc : Thread Cert.Reference24Ideal.nD Cert.Reference24Ideal.τ).loc Cert.Reference24Ideal.main_arg21)
          ∧ r.2.mem ((c.tc : Thread Cert.Reference24Ideal.nD Cert.Reference24Ideal.τ).loc Cert.Reference24Ideal.main_arg22) = m' ((c.tc : Thread Cert.Reference24Ideal.nD Cert.Reference24Ideal.τ).loc Cert.Reference24Ideal.main_arg22)
          ∧ r.2.mem ((c.tc : Thread Cert.Reference24Ideal.nD Cert.Reference24Ideal.τ).loc Cert.Reference24Ideal.main_arg23) = m' ((c.tc : Thread Cert.Reference24Ideal.nD Cert.Reference24Ideal.τ).loc Cert.Reference24Ideal.main_arg23)
          ∧ r.2.mem ((c.tc : Thread Cert.Reference24Ideal.nD Cert.Reference24Ideal.τ).loc Cert.Reference24Ideal.main_arg24) = m' ((c.tc : Thread Cert.Reference24Ideal.nD Cert.Reference24Ideal.τ).loc Cert.Reference24Ideal.main_arg24)
          ∧ r.2.mem ((c.tc : Thread Cert.Reference24Ideal.nD Cert.Reference24Ideal.τ).loc Cert.Reference24Ideal.main_arg25) = m' ((c.tc : Thread Cert.Reference24Ideal.nD Cert.Reference24Ideal.τ).loc Cert.Reference24Ideal.main_arg25)
          ∧ r.2.mem ((c.tc : Thread Cert.Reference24Ideal.nD Cert.Reference24Ideal.τ).loc Cert.Reference24Ideal.main_arg26) = m' ((c.tc : Thread Cert.Reference24Ideal.nD Cert.Reference24Ideal.τ).loc Cert.Reference24Ideal.main_arg26)
          ∧ r.2.mem ((c.tc : Thread Cert.Reference24Ideal.nD Cert.Reference24Ideal.τ).loc Cert.Reference24Ideal.main_arg27) = m' ((c.tc : Thread Cert.Reference24Ideal.nD Cert.Reference24Ideal.τ).loc Cert.Reference24Ideal.main_arg27))

def preserves_Kernel19_Kernel19Ideal : Prop :=
  True

def algebraic_Kernel19Ideal_Reference19Ideal_pre_half_wide [hKernel19Ideal : Cert.Kernel19Ideal.Facts] [hReference19Ideal : Cert.Reference19Ideal.Facts] [hPre_half_wide : Cert.Pre_half_wide.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_half_wide m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_v29) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_v16) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def preserves_Kernel20_Kernel20Ideal : Prop :=
  True

def algebraic_Kernel20Ideal_Reference20Ideal_pre_half_down [hKernel20Ideal : Cert.Kernel20Ideal.Facts] [hReference20Ideal : Cert.Reference20Ideal.Facts] [hPre_half_down : Cert.Pre_half_down.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_half_down m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_v29) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_v16) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5))

def preserves_Kernel21_Kernel21Ideal : Prop :=
  True

def algebraic_Kernel21Ideal_Reference21Ideal_pre_half_w_in [hKernel21Ideal : Cert.Kernel21Ideal.Facts] [hReference21Ideal : Cert.Reference21Ideal.Facts] [hPre_half_w_in : Cert.Pre_half_w_in.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_half_w_in m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_v29) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_v16) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5))

def preserves_Kernel22_Kernel22Ideal : Prop :=
  True

def algebraic_Kernel22Ideal_Reference22Ideal_pre_half_w_out [hKernel22Ideal : Cert.Kernel22Ideal.Facts] [hReference22Ideal : Cert.Reference22Ideal.Facts] [hPre_half_w_out : Cert.Pre_half_w_out.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_half_w_out m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_v29) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_v16) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def preserves_Kernel23_Kernel23Ideal : Prop :=
  True

def algebraic_Kernel23Ideal_Reference23Ideal_pre_half_pool_w [hKernel23Ideal : Cert.Kernel23Ideal.Facts] [hReference23Ideal : Cert.Reference23Ideal.Facts] [hPre_half_pool_w : Cert.Pre_half_pool_w.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_half_pool_w m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_v29) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_v16) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel17 : Cert.Kernel17.Facts) (hKernel17Ideal : Cert.Kernel17Ideal.Facts) (hReference17Ideal : Cert.Reference17Ideal.Facts) (hKernel24 : Cert.Kernel24.Facts) (hKernel24Ideal : Cert.Kernel24Ideal.Facts) (hReference24Ideal : Cert.Reference24Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite : Cert.Pre_finite.Facts) (hPre_finite_ffn : Cert.Pre_finite_ffn.Facts) (hPre_finite_up : Cert.Pre_finite_up.Facts) (hPre_finite_up_gate : Cert.Pre_finite_up_gate.Facts) (hPre_half_wide : Cert.Pre_half_wide.Facts) (hPre_half_down : Cert.Pre_half_down.Facts) (hPre_half_w_in : Cert.Pre_half_w_in.Facts) (hPre_half_w_out : Cert.Pre_half_w_out.Facts) (hPre_half_pool_w : Cert.Pre_half_pool_w.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_up (hKernel6Ideal := hKernel6Ideal) (hPre_finite_up := hPre_finite_up)
    ∧ quiescent_Reference6Ideal (hReference6Ideal := hReference6Ideal)
    ∧ quiescent_Reference6Ideal_pre_finite_up (hReference6Ideal := hReference6Ideal) (hPre_finite_up := hPre_finite_up)
    ∧ quiescent_Kernel7 (hKernel7 := hKernel7)
    ∧ quiescent_Kernel7Ideal (hKernel7Ideal := hKernel7Ideal)
    ∧ quiescent_Kernel7Ideal_pre_finite_up_gate (hKernel7Ideal := hKernel7Ideal) (hPre_finite_up_gate := hPre_finite_up_gate)
    ∧ quiescent_Reference7Ideal (hReference7Ideal := hReference7Ideal)
    ∧ quiescent_Reference7Ideal_pre_finite_up_gate (hReference7Ideal := hReference7Ideal) (hPre_finite_up_gate := hPre_finite_up_gate)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel19 (hKernel19 := hKernel19)
    ∧ quiescent_Kernel19Ideal (hKernel19Ideal := hKernel19Ideal)
    ∧ quiescent_Kernel19Ideal_pre_half_wide (hKernel19Ideal := hKernel19Ideal) (hPre_half_wide := hPre_half_wide)
    ∧ quiescent_Reference19Ideal (hReference19Ideal := hReference19Ideal)
    ∧ quiescent_Reference19Ideal_pre_half_wide (hReference19Ideal := hReference19Ideal) (hPre_half_wide := hPre_half_wide)
    ∧ quiescent_Kernel20 (hKernel20 := hKernel20)
    ∧ quiescent_Kernel20Ideal (hKernel20Ideal := hKernel20Ideal)
    ∧ quiescent_Kernel20Ideal_pre_half_down (hKernel20Ideal := hKernel20Ideal) (hPre_half_down := hPre_half_down)
    ∧ quiescent_Reference20Ideal (hReference20Ideal := hReference20Ideal)
    ∧ quiescent_Reference20Ideal_pre_half_down (hReference20Ideal := hReference20Ideal) (hPre_half_down := hPre_half_down)
    ∧ quiescent_Kernel21 (hKernel21 := hKernel21)
    ∧ quiescent_Kernel21Ideal (hKernel21Ideal := hKernel21Ideal)
    ∧ quiescent_Kernel21Ideal_pre_half_w_in (hKernel21Ideal := hKernel21Ideal) (hPre_half_w_in := hPre_half_w_in)
    ∧ quiescent_Reference21Ideal (hReference21Ideal := hReference21Ideal)
    ∧ quiescent_Reference21Ideal_pre_half_w_in (hReference21Ideal := hReference21Ideal) (hPre_half_w_in := hPre_half_w_in)
    ∧ quiescent_Kernel22 (hKernel22 := hKernel22)
    ∧ quiescent_Kernel22Ideal (hKernel22Ideal := hKernel22Ideal)
    ∧ quiescent_Kernel22Ideal_pre_half_w_out (hKernel22Ideal := hKernel22Ideal) (hPre_half_w_out := hPre_half_w_out)
    ∧ quiescent_Reference22Ideal (hReference22Ideal := hReference22Ideal)
    ∧ quiescent_Reference22Ideal_pre_half_w_out (hReference22Ideal := hReference22Ideal) (hPre_half_w_out := hPre_half_w_out)
    ∧ quiescent_Kernel23 (hKernel23 := hKernel23)
    ∧ quiescent_Kernel23Ideal (hKernel23Ideal := hKernel23Ideal)
    ∧ quiescent_Kernel23Ideal_pre_half_pool_w (hKernel23Ideal := hKernel23Ideal) (hPre_half_pool_w := hPre_half_pool_w)
    ∧ quiescent_Reference23Ideal (hReference23Ideal := hReference23Ideal)
    ∧ quiescent_Reference23Ideal_pre_half_pool_w (hReference23Ideal := hReference23Ideal) (hPre_half_pool_w := hPre_half_pool_w)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_up (hKernel6Ideal := hKernel6Ideal) (hReference6Ideal := hReference6Ideal) (hPre_finite_up := hPre_finite_up)
    ∧ preserves_Kernel7_Kernel7Ideal
    ∧ algebraic_Kernel7Ideal_Reference7Ideal_pre_finite_up_gate (hKernel7Ideal := hKernel7Ideal) (hReference7Ideal := hReference7Ideal) (hPre_finite_up_gate := hPre_finite_up_gate)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel17_Kernel17Ideal
    ∧ algebraic_Kernel17Ideal_Reference17Ideal (hKernel17Ideal := hKernel17Ideal) (hReference17Ideal := hReference17Ideal)
    ∧ preserves_Kernel24_Kernel24Ideal
    ∧ algebraic_Kernel24Ideal_Reference24Ideal (hKernel24Ideal := hKernel24Ideal) (hReference24Ideal := hReference24Ideal)
    ∧ preserves_Kernel19_Kernel19Ideal
    ∧ algebraic_Kernel19Ideal_Reference19Ideal_pre_half_wide (hKernel19Ideal := hKernel19Ideal) (hReference19Ideal := hReference19Ideal) (hPre_half_wide := hPre_half_wide)
    ∧ preserves_Kernel20_Kernel20Ideal
    ∧ algebraic_Kernel20Ideal_Reference20Ideal_pre_half_down (hKernel20Ideal := hKernel20Ideal) (hReference20Ideal := hReference20Ideal) (hPre_half_down := hPre_half_down)
    ∧ preserves_Kernel21_Kernel21Ideal
    ∧ algebraic_Kernel21Ideal_Reference21Ideal_pre_half_w_in (hKernel21Ideal := hKernel21Ideal) (hReference21Ideal := hReference21Ideal) (hPre_half_w_in := hPre_half_w_in)
    ∧ preserves_Kernel22_Kernel22Ideal
    ∧ algebraic_Kernel22Ideal_Reference22Ideal_pre_half_w_out (hKernel22Ideal := hKernel22Ideal) (hReference22Ideal := hReference22Ideal) (hPre_half_w_out := hPre_half_w_out)
    ∧ preserves_Kernel23_Kernel23Ideal
    ∧ algebraic_Kernel23Ideal_Reference23Ideal_pre_half_pool_w (hKernel23Ideal := hKernel23Ideal) (hReference23Ideal := hReference23Ideal) (hPre_half_pool_w := hPre_half_pool_w)
-- ==== Pre_finite.lean ====
abbrev S2176x1024 : Shape := ⟨2, ![2176, 1024]⟩
abbrev S8x2176 : Shape := ⟨2, ![8, 2176]⟩
abbrev S_ : Shape := ⟨0, ![]⟩

class Facts : Prop where
  bcast_S_S8x2176 : S_.BroadcastsInDim S8x2176 (![] : Fin 0 → Fin S8x2176.rank)
  reducesTo_S8x2176_S_d0_1 : S8x2176.ReducesTo [0, 1] S_
  h_S_ : 0 < S_.numel
  bitsLt_bf16_f32 : FTy.bits .bf16 < FTy.bits .f32
  bcast_S_S2176x1024 : S_.BroadcastsInDim S2176x1024 (![] : Fin 0 → Fin S2176x1024.rank)
  reducesTo_S2176x1024_S_d0_1 : S2176x1024.ReducesTo [0, 1] S_

variable [Facts]

def fn_part1 {F : FTy → Type} [FloatOps F] (main_arg3 : FVec F S2176x1024 .bf16) (main_v15 : IVec S_ 1) (main_v17 : FVec F S2176x1024 .f32) : IVec S_ 1 :=
  let main_cst_4 : FVec F S_ .f32 := constant S_ .f32 0x7F800000#32
  let main_v18 : FVec F S2176x1024 .f32 := broadcastInDim S2176x1024 ![] bcast_S_S2176x1024 main_cst_4
  let main_v19 : IVec S2176x1024 1 := cmpf .olt main_v17 main_v18
  let main_c_5 : IVec S_ 1 := constantI S_ 1 1#1
  let main_v20 : IVec S_ 1 := (fun x v => Host.reduce IntOp.andi x v reducesTo_S2176x1024_S_d0_1 h_S_) main_v19 main_c_5
  let main_v21 : IVec S_ 1 := andi main_v15 main_v20
  let main_v22 : FVec F S2176x1024 .f32 := (extf .f32 · bitsLt_bf16_f32) main_arg3
  let main_v23 : FVec F S2176x1024 .f32 := Host.absf main_v22
  let main_cst_6 : FVec F S_ .f32 := constant S_ .f32 0x7F800000#32
  let main_v24 : FVec F S2176x1024 .f32 := broadcastInDim S2176x1024 ![] bcast_S_S2176x1024 main_cst_6
  let main_v25 : IVec S2176x1024 1 := cmpf .olt main_v23 main_v24
  let main_c_7 : IVec S_ 1 := constantI S_ 1 1#1
  let main_v26 : IVec S_ 1 := (fun x v => Host.reduce IntOp.andi x v reducesTo_S2176x1024_S_d0_1 h_S_) main_v25 main_c_7
  let main_v27 : IVec S_ 1 := andi main_v21 main_v26
  main_v27

def fn {F : FTy → Type} [FloatOps F] (main_arg0 : FVec F S2176x1024 .bf16) (main_arg1 : FVec F S2176x1024 .bf16) (main_arg2 : FVec F S2176x1024 .bf16) (main_arg3 : FVec F S2176x1024 .bf16) (main_arg4 : FVec F S8x2176 .f32) : IVec S_ 1 :=
  let main_v0 : FVec F S8x2176 .f32 := Host.absf main_arg4
  let main_cst : FVec F S_ .f32 := constant S_ .f32 0x7F800000#32
  let main_v1 : FVec F S8x2176 .f32 := broadcastInDim S8x2176 ![] bcast_S_S8x2176 main_cst
  let main_v2 : IVec S8x2176 1 := cmpf .olt main_v0 main_v1
  let main_c : IVec S_ 1 := constantI S_ 1 1#1
  let main_v3 : IVec S_ 1 := (fun x v => Host.reduce IntOp.andi x v reducesTo_S8x2176_S_d0_1 h_S_) main_v2 main_c
  let main_v4 : FVec F S2176x1024 .f32 := (extf .f32 · bitsLt_bf16_f32) main_arg0
  let main_v5 : FVec F S2176x1024 .f32 := Host.absf main_v4
  let main_cst_0 : FVec F S_ .f32 := constant S_ .f32 0x7F800000#32
  let main_v6 : FVec F S2176x1024 .f32 := broadcastInDim S2176x1024 ![] bcast_S_S2176x1024 main_cst_0
  let main_v7 : IVec S2176x1024 1 := cmpf .olt main_v5 main_v6
  let main_c_1 : IVec S_ 1 := constantI S_ 1 1#1
  let main_v8 : IVec S_ 1 := (fun x v => Host.reduce IntOp.andi x v reducesTo_S2176x1024_S_d0_1 h_S_) main_v7 main_c_1
  let main_v9 : IVec S_ 1 := andi main_v3 main_v8
  let main_v10 : FVec F S2176x1024 .f32 := (extf .f32 · bitsLt_bf16_f32) main_arg1
  let main_v11 : FVec F S2176x1024 .f32 := Host.absf main_v10
  let main_cst_2 : FVec F S_ .f32 := constant S_ .f32 0x7F800000#32
  let main_v12 : FVec F S2176x1024 .f32 := broadcastInDim S2176x1024 ![] bcast_S_S2176x1024 main_cst_2
  let main_v13 : IVec S2176x1024 1 := cmpf .olt main_v11 main_v12
  let main_c_3 : IVec S_ 1 := constantI S_ 1 1#1
  let main_v14 : IVec S_ 1 := (fun x v => Host.reduce IntOp.andi x v reducesTo_S2176x1024_S_d0_1 h_S_) main_v13 main_c_3
  let main_v15 : IVec S_ 1 := andi main_v9 main_v14
  let main_v16 : FVec F S2176x1024 .f32 := (extf .f32 · bitsLt_bf16_f32) main_arg2
  let main_v17 : FVec F S2176x1024 .f32 := Host.absf main_v16
  fn_part1 (F := F) main_arg3 main_v15 main_v17
-- ==== Pre_finite_ffn.lean ====
abbrev S2176x5632 : Shape := ⟨2, ![2176, 5632]⟩
abbrev S5632x2048 : Shape := ⟨2, ![5632, 2048]⟩
abbrev S2176x2048 : Shape := ⟨2, ![2176, 2048]⟩
abbrev S_ : Shape := ⟨0, ![]⟩

class Facts : Prop where
  bcast_S_S2176x5632 : S_.BroadcastsInDim S2176x5632 (![] : Fin 0 → Fin S2176x5632.rank)
  reducesTo_S2176x5632_S_d0_1 : S2176x5632.ReducesTo [0, 1] S_
  h_S_ : 0 < S_.numel
  bitsLt_bf16_f32 : FTy.bits .bf16 < FTy.bits .f32
  bcast_S_S5632x2048 : S_.BroadcastsInDim S5632x2048 (![] : Fin 0 → Fin S5632x2048.rank)
  reducesTo_S5632x2048_S_d0_1 : S5632x2048.ReducesTo [0, 1] S_
  bcast_S_S2176x2048 : S_.BroadcastsInDim S2176x2048 (![] : Fin 0 → Fin S2176x2048.rank)
  reducesTo_S2176x2048_S_d0_1 : S2176x2048.ReducesTo [0, 1] S_

variable [Facts]

def fn_part1 {F : FTy → Type} [FloatOps F] (main_v14 : IVec S_ 1) (main_v16 : FVec F S2176x2048 .f32) (main_cst_4 : FVec F S_ .f32) : IVec S_ 1 :=
  let main_v17 : FVec F S2176x2048 .f32 := broadcastInDim S2176x2048 ![] bcast_S_S2176x2048 main_cst_4
  let main_v18 : IVec S2176x2048 1 := cmpf .olt main_v16 main_v17
  let main_c_5 : IVec S_ 1 := constantI S_ 1 1#1
  let main_v19 : IVec S_ 1 := (fun x v => Host.reduce IntOp.andi x v reducesTo_S2176x2048_S_d0_1 h_S_) main_v18 main_c_5
  let main_v20 : IVec S_ 1 := andi main_v14 main_v19
  main_v20

def fn {F : FTy → Type} [FloatOps F] (main_arg0 : FVec F S2176x5632 .f32) (main_arg1 : FVec F S2176x5632 .f32) (main_arg2 : FVec F S5632x2048 .bf16) (main_arg3 : FVec F S2176x2048 .bf16) : IVec S_ 1 :=
  let main_v0 : FVec F S2176x5632 .f32 := Host.absf main_arg0
  let main_cst : FVec F S_ .f32 := constant S_ .f32 0x7F800000#32
  let main_v1 : FVec F S2176x5632 .f32 := broadcastInDim S2176x5632 ![] bcast_S_S2176x5632 main_cst
  let main_v2 : IVec S2176x5632 1 := cmpf .olt main_v0 main_v1
  let main_c : IVec S_ 1 := constantI S_ 1 1#1
  let main_v3 : IVec S_ 1 := (fun x v => Host.reduce IntOp.andi x v reducesTo_S2176x5632_S_d0_1 h_S_) main_v2 main_c
  let main_v4 : FVec F S2176x5632 .f32 := Host.absf main_arg1
  let main_cst_0 : FVec F S_ .f32 := constant S_ .f32 0x7F800000#32
  let main_v5 : FVec F S2176x5632 .f32 := broadcastInDim S2176x5632 ![] bcast_S_S2176x5632 main_cst_0
  let main_v6 : IVec S2176x5632 1 := cmpf .olt main_v4 main_v5
  let main_c_1 : IVec S_ 1 := constantI S_ 1 1#1
  let main_v7 : IVec S_ 1 := (fun x v => Host.reduce IntOp.andi x v reducesTo_S2176x5632_S_d0_1 h_S_) main_v6 main_c_1
  let main_v8 : IVec S_ 1 := andi main_v3 main_v7
  let main_v9 : FVec F S5632x2048 .f32 := (extf .f32 · bitsLt_bf16_f32) main_arg2
  let main_v10 : FVec F S5632x2048 .f32 := Host.absf main_v9
  let main_cst_2 : FVec F S_ .f32 := constant S_ .f32 0x7F800000#32
  let main_v11 : FVec F S5632x2048 .f32 := broadcastInDim S5632x2048 ![] bcast_S_S5632x2048 main_cst_2
  let main_v12 : IVec S5632x2048 1 := cmpf .olt main_v10 main_v11
  let main_c_3 : IVec S_ 1 := constantI S_ 1 1#1
  let main_v13 : IVec S_ 1 := (fun x v => Host.reduce IntOp.andi x v reducesTo_S5632x2048_S_d0_1 h_S_) main_v12 main_c_3
  let main_v14 : IVec S_ 1 := andi main_v8 main_v13
  let main_v15 : FVec F S2176x2048 .f32 := (extf .f32 · bitsLt_bf16_f32) main_arg3
  let main_v16 : FVec F S2176x2048 .f32 := Host.absf main_v15
  let main_cst_4 : FVec F S_ .f32 := constant S_ .f32 0x7F800000#32
  fn_part1 (F := F) main_v14 main_v16 main_cst_4
-- ==== Pre_finite_up.lean ====
abbrev S2176x2048 : Shape := ⟨2, ![2176, 2048]⟩
abbrev S2048x5632 : Shape := ⟨2, ![2048, 5632]⟩
abbrev S_ : Shape := ⟨0, ![]⟩

class Facts : Prop where
  bitsLt_bf16_f32 : FTy.bits .bf16 < FTy.bits .f32
  bcast_S_S2176x2048 : S_.BroadcastsInDim S2176x2048 (![] : Fin 0 → Fin S2176x2048.rank)
  reducesTo_S2176x2048_S_d0_1 : S2176x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_

variable [Facts]

def fn {F : FTy → Type} [FloatOps F] (main_arg0 : FVec F S2176x2048 .bf16) (main_arg1 : FVec F S2048x5632 .bf16) (main_arg2 : FVec F S2048x5632 .bf16) : IVec S_ 1 :=
  let main_v0 : FVec F S2176x2048 .f32 := (extf .f32 · bitsLt_bf16_f32) main_arg0
  let main_v1 : FVec F S2176x2048 .f32 := Host.absf main_v0
  let main_cst : FVec F S_ .f32 := constant S_ .f32 0x7F800000#32
  let main_v2 : FVec F S2176x2048 .f32 := broadcastInDim S2176x2048 ![] bcast_S_S2176x2048 main_cst
  let main_v3 : IVec S2176x2048 1 := cmpf .olt main_v1 main_v2
  let main_c : IVec S_ 1 := constantI S_ 1 1#1
  let main_v4 : IVec S_ 1 := (fun x v => Host.reduce IntOp.andi x v reducesTo_S2176x2048_S_d0_1 h_S_) main_v3 main_c
  let main_v5 : FVec F S2048x5632 .f32 := (extf .f32 · bitsLt_bf16_f32) main_arg1
  let main_v6 : FVec F S2048x5632 .f32 := Host.absf main_v5
  let main_cst_0 : FVec F S_ .f32 := constant S_ .f32 0x7F800000#32
  let main_v7 : FVec F S2048x5632 .f32 := broadcastInDim S2048x5632 ![] bcast_S_S2048x5632 main_cst_0
  let main_v8 : IVec S2048x5632 1 := cmpf .olt main_v6 main_v7
  let main_c_1 : IVec S_ 1 := constantI S_ 1 1#1
  let main_v9 : IVec S_ 1 := (fun x v => Host.reduce IntOp.andi x v reducesTo_S2048x5632_S_d0_1 h_S_) main_v8 main_c_1
  let main_v10 : IVec S_ 1 := andi main_v4 main_v9
  let main_v11 : FVec F S2048x5632 .f32 := (extf .f32 · bitsLt_bf16_f32) main_arg2
  let main_v12 : FVec F S2048x5632 .f32 := Host.absf main_v11
  let main_cst_2 : FVec F S_ .f32 := constant S_ .f32 0x7F800000#32
  let main_v13 : FVec F S2048x5632 .f32 := broadcastInDim S2048x5632 ![] bcast_S_S2048x5632 main_cst_2
  let main_v14 : IVec S2048x5632 1 := cmpf .olt main_v12 main_v13
  let main_c_3 : IVec S_ 1 := constantI S_ 1 1#1
  let main_v15 : IVec S_ 1 := (fun x v => Host.reduce IntOp.andi x v reducesTo_S2048x5632_S_d0_1 h_S_) main_v14 main_c_3
  let main_v16 : IVec S_ 1 := andi main_v10 main_v15
  main_v16
-- ==== Pre_finite_up_gate.lean ====
abbrev S2176x2048 : Shape := ⟨2, ![2176, 2048]⟩
abbrev S2176x5632 : Shape := ⟨2, ![2176, 5632]⟩
abbrev S2048x5632 : Shape := ⟨2, ![2048, 5632]⟩
abbrev S_ : Shape := ⟨0, ![]⟩

class Facts : Prop where
  bcast_S_S2176x5632 : S_.BroadcastsInDim S2176x5632 (![] : Fin 0 → Fin S2176x5632.rank)
  reducesTo_S2176x5632_S_d0_1 : S2176x5632.ReducesTo [0, 1] S_
  h_S_ : 0 < S_.numel
  bitsLt_bf16_f32 : FTy.bits .bf16 < FTy.bits .f32
  bcast_S_S2176x2048 : S_.BroadcastsInDim S2176x2048 (![] : Fin 0 → Fin S2176x2048.rank)
  reducesTo_S2176x2048_S_d0_1 : S2176x2048.ReducesTo [0, 1] S_
  bcast_S_S2048x5632 : S_.BroadcastsInDim S2048x5632 (![] : Fin 0 → Fin S2048x5632.rank)
  reducesTo_S2048x5632_S_d0_1 : S2048x5632.ReducesTo [0, 1] S_

variable [Facts]

def fn {F : FTy → Type} [FloatOps F] (main_arg0 : FVec F S2176x2048 .bf16) (main_arg1 : FVec F S2176x5632 .f32) (main_arg2 : FVec F S2048x5632 .bf16) : IVec S_ 1 :=
  let main_v0 : FVec F S2176x5632 .f32 := Host.absf main_arg1
  let main_cst : FVec F S_ .f32 := constant S_ .f32 0x7F800000#32
  let main_v1 : FVec F S2176x5632 .f32 := broadcastInDim S2176x5632 ![] bcast_S_S2176x5632 main_cst
  let main_v2 : IVec S2176x5632 1 := cmpf .olt main_v0 main_v1
  let main_c : IVec S_ 1 := constantI S_ 1 1#1
  let main_v3 : IVec S_ 1 := (fun x v => Host.reduce IntOp.andi x v reducesTo_S2176x5632_S_d0_1 h_S_) main_v2 main_c
  let main_v4 : FVec F S2176x2048 .f32 := (extf .f32 · bitsLt_bf16_f32) main_arg0
  let main_v5 : FVec F S2176x2048 .f32 := Host.absf main_v4
  let main_cst_0 : FVec F S_ .f32 := constant S_ .f32 0x7F800000#32
  let main_v6 : FVec F S2176x2048 .f32 := broadcastInDim S2176x2048 ![] bcast_S_S2176x2048 main_cst_0
  let main_v7 : IVec S2176x2048 1 := cmpf .olt main_v5 main_v6
  let main_c_1 : IVec S_ 1 := constantI S_ 1 1#1
  let main_v8 : IVec S_ 1 := (fun x v => Host.reduce IntOp.andi x v reducesTo_S2176x2048_S_d0_1 h_S_) main_v7 main_c_1
  let main_v9 : IVec S_ 1 := andi main_v3 main_v8
  let main_v10 : FVec F S2048x5632 .f32 := (extf .f32 · bitsLt_bf16_f32) main_arg2
  let main_v11 : FVec F S2048x5632 .f32 := Host.absf main_v10
  let main_cst_2 : FVec F S_ .f32 := constant S_ .f32 0x7F800000#32
  let main_v12 : FVec F S2048x5632 .f32 := broadcastInDim S2048x5632 ![] bcast_S_S2048x5632 main_cst_2
  let main_v13 : IVec S2048x5632 1 := cmpf .olt main_v11 main_v12
  let main_c_3 : IVec S_ 1 := constantI S_ 1 1#1
  let main_v14 : IVec S_ 1 := (fun x v => Host.reduce IntOp.andi x v reducesTo_S2048x5632_S_d0_1 h_S_) main_v13 main_c_3
  let main_v15 : IVec S_ 1 := andi main_v9 main_v14
  main_v15
-- ==== Pre_half_down.lean ====
abbrev S5 : Shape := ⟨1, ![5]⟩
abbrev S704x2048 : Shape := ⟨2, ![704, 2048]⟩
abbrev S1408x2048 : Shape := ⟨2, ![1408, 2048]⟩
abbrev S1 : Shape := ⟨1, ![1]⟩
abbrev S_ : Shape := ⟨0, ![]⟩

class Facts : Prop where
  slices_S5_S1_0 : S5.Slices ![0] S1
  shapeCasts_S1_S_ : S1.ShapeCasts S_

variable [Facts]

def fn {F : FTy → Type} [FloatOps F] (main_arg0 : IVec S5 32) (main_arg1 : FVec F S704x2048 .f32) (main_arg2 : FVec F S704x2048 .f32) (main_arg3 : FVec F S1408x2048 .f32) (main_arg4 : FVec F S1408x2048 .f32) (main_arg5 : FVec F S1408x2048 .f32) : IVec S_ 1 :=
  let main_v0 : IVec S1 32 := (extractStridedSlice S1 ![0] · slices_S5_S1_0) main_arg0
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![0] · slices_S5_S1_0) main_arg0
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := ori main_v2 main_v5
  main_v6
-- ==== Pre_half_pool_w.lean ====
abbrev S5 : Shape := ⟨1, ![5]⟩
abbrev S128x256 : Shape := ⟨2, ![128, 256]⟩
abbrev S256x256 : Shape := ⟨2, ![256, 256]⟩
abbrev S1 : Shape := ⟨1, ![1]⟩
abbrev S_ : Shape := ⟨0, ![]⟩

class Facts : Prop where
  slices_S5_S1_0 : S5.Slices ![0] S1
  shapeCasts_S1_S_ : S1.ShapeCasts S_

variable [Facts]

def fn {F : FTy → Type} [FloatOps F] (main_arg0 : IVec S5 32) (main_arg1 : FVec F S128x256 .f32) (main_arg2 : FVec F S128x256 .f32) (main_arg3 : FVec F S256x256 .f32) (main_arg4 : FVec F S256x256 .f32) (main_arg5 : FVec F S256x256 .f32) : IVec S_ 1 :=
  let main_v0 : IVec S1 32 := (extractStridedSlice S1 ![0] · slices_S5_S1_0) main_arg0
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![0] · slices_S5_S1_0) main_arg0
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := ori main_v2 main_v5
  main_v6
-- ==== Pre_half_w_in.lean ====
abbrev S5 : Shape := ⟨1, ![5]⟩
abbrev S1024x1026 : Shape := ⟨2, ![1024, 1026]⟩
abbrev S2048x1026 : Shape := ⟨2, ![2048, 1026]⟩
abbrev S1 : Shape := ⟨1, ![1]⟩
abbrev S_ : Shape := ⟨0, ![]⟩

class Facts : Prop where
  slices_S5_S1_0 : S5.Slices ![0] S1
  shapeCasts_S1_S_ : S1.ShapeCasts S_

variable [Facts]

def fn {F : FTy → Type} [FloatOps F] (main_arg0 : IVec S5 32) (main_arg1 : FVec F S1024x1026 .f32) (main_arg2 : FVec F S1024x1026 .f32) (main_arg3 : FVec F S2048x1026 .f32) (main_arg4 : FVec F S2048x1026 .f32) (main_arg5 : FVec F S2048x1026 .f32) : IVec S_ 1 :=
  let main_v0 : IVec S1 32 := (extractStridedSlice S1 ![0] · slices_S5_S1_0) main_arg0
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![0] · slices_S5_S1_0) main_arg0
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := ori main_v2 main_v5
  main_v6
-- ==== Pre_half_w_out.lean ====
abbrev S5 : Shape := ⟨1, ![5]⟩
abbrev S256x2048 : Shape := ⟨2, ![256, 2048]⟩
abbrev S512x2048 : Shape := ⟨2, ![512, 2048]⟩
abbrev S1 : Shape := ⟨1, ![1]⟩
abbrev S_ : Shape := ⟨0, ![]⟩

class Facts : Prop where
  slices_S5_S1_0 : S5.Slices ![0] S1
  shapeCasts_S1_S_ : S1.ShapeCasts S_

variable [Facts]

def fn {F : FTy → Type} [FloatOps F] (main_arg0 : IVec S5 32) (main_arg1 : FVec F S256x2048 .f32) (main_arg2 : FVec F S256x2048 .f32) (main_arg3 : FVec F S512x2048 .f32) (main_arg4 : FVec F S512x2048 .f32) (main_arg5 : FVec F S512x2048 .f32) : IVec S_ 1 :=
  let main_v0 : IVec S1 32 := (extractStridedSlice S1 ![0] · slices_S5_S1_0) main_arg0
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![0] · slices_S5_S1_0) main_arg0
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := ori main_v2 main_v5
  main_v6
-- ==== Pre_half_wide.lean ====
abbrev S5 : Shape := ⟨1, ![5]⟩
abbrev S1024x1408 : Shape := ⟨2, ![1024, 1408]⟩
abbrev S2048x1408 : Shape := ⟨2, ![2048, 1408]⟩
abbrev S1 : Shape := ⟨1, ![1]⟩
abbrev S_ : Shape := ⟨0, ![]⟩

class Facts : Prop where
  slices_S5_S1_0 : S5.Slices ![0] S1
  shapeCasts_S1_S_ : S1.ShapeCasts S_

variable [Facts]

def fn {F : FTy → Type} [FloatOps F] (main_arg0 : IVec S5 32) (main_arg1 : FVec F S1024x1408 .f32) (main_arg2 : FVec F S1024x1408 .f32) (main_arg3 : FVec F S2048x1408 .f32) (main_arg4 : FVec F S2048x1408 .f32) (main_arg5 : FVec F S2048x1408 .f32) : IVec S_ 1 :=
  let main_v0 : IVec S1 32 := (extractStridedSlice S1 ![0] · slices_S5_S1_0) main_arg0
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![0] · slices_S5_S1_0) main_arg0
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := ori main_v2 main_v5
  main_v6
-- ==== Kernel.lean ====
abbrev S2176x1024 : Shape := ⟨2, ![2176, 1024]⟩
abbrev S8x2176 : Shape := ⟨2, ![8, 2176]⟩
abbrev S2176x8x128 : Shape := ⟨3, ![2176, 8, 128]⟩
abbrev S2176 : Shape := ⟨1, ![2176]⟩
abbrev S8x2176x2176 : Shape := ⟨3, ![8, 2176, 2176]⟩
abbrev S_ : Shape := ⟨0, ![]⟩
abbrev S8x2176x1 : Shape := ⟨3, ![8, 2176, 1]⟩
abbrev S8x1x2176 : Shape := ⟨3, ![8, 1, 2176]⟩
abbrev S2176x1 : Shape := ⟨2, ![2176, 1]⟩
abbrev S1x2176 : Shape := ⟨2, ![1, 2176]⟩
abbrev S2176x2176 : Shape := ⟨2, ![2176, 2176]⟩
abbrev S128x256 : Shape := ⟨2, ![128, 256]⟩
abbrev S2176x256 : Shape := ⟨2, ![2176, 256]⟩
abbrev S2x128x1 : Shape := ⟨3, ![2, 128, 1]⟩
abbrev S2x1x2176 : Shape := ⟨3, ![2, 1, 2176]⟩
abbrev S2x1x128 : Shape := ⟨3, ![2, 1, 128]⟩
abbrev S128x1 : Shape := ⟨2, ![128, 1]⟩
abbrev S1x256 : Shape := ⟨2, ![1, 256]⟩
abbrev S256x128 : Shape := ⟨2, ![256, 128]⟩
abbrev S128x128 : Shape := ⟨2, ![128, 128]⟩
abbrev S1x128x1 : Shape := ⟨3, ![1, 128, 1]⟩
abbrev S1x1x256 : Shape := ⟨3, ![1, 1, 256]⟩
abbrev S128 : Shape := ⟨1, ![128]⟩
abbrev S1x128 : Shape := ⟨2, ![1, 128]⟩
abbrev S1x1x128 : Shape := ⟨3, ![1, 1, 128]⟩
abbrev S1x512 : Shape := ⟨2, ![1, 512]⟩
abbrev S512x128 : Shape := ⟨2, ![512, 128]⟩
abbrev S128x512 : Shape := ⟨2, ![128, 512]⟩
abbrev S1x1x512 : Shape := ⟨3, ![1, 1, 512]⟩
abbrev S1x768 : Shape := ⟨2, ![1, 768]⟩
abbrev S768x128 : Shape := ⟨2, ![768, 128]⟩
abbrev S128x768 : Shape := ⟨2, ![128, 768]⟩
abbrev S1x1x768 : Shape := ⟨3, ![1, 1, 768]⟩
abbrev S1x1024 : Shape := ⟨2, ![1, 1024]⟩
abbrev S1024x128 : Shape := ⟨2, ![1024, 128]⟩
abbrev S128x1024 : Shape := ⟨2, ![128, 1024]⟩
abbrev S1x1x1024 : Shape := ⟨3, ![1, 1, 1024]⟩
abbrev S1x1280 : Shape := ⟨2, ![1, 1280]⟩
abbrev S1280x128 : Shape := ⟨2, ![1280, 128]⟩
abbrev S128x1280 : Shape := ⟨2, ![128, 1280]⟩
abbrev S1x1x1280 : Shape := ⟨3, ![1, 1, 1280]⟩
abbrev S1x1536 : Shape := ⟨2, ![1, 1536]⟩
abbrev S1536x128 : Shape := ⟨2, ![1536, 128]⟩
abbrev S128x1536 : Shape := ⟨2, ![128, 1536]⟩
abbrev S1x1x1536 : Shape := ⟨3, ![1, 1, 1536]⟩
abbrev S1x1792 : Shape := ⟨2, ![1, 1792]⟩
abbrev S1792x128 : Shape := ⟨2, ![1792, 128]⟩
abbrev S128x1792 : Shape := ⟨2, ![128, 1792]⟩
abbrev S1x1x1792 : Shape := ⟨3, ![1, 1, 1792]⟩
abbrev S1x2048 : Shape := ⟨2, ![1, 2048]⟩
abbrev S2048x128 : Shape := ⟨2, ![2048, 128]⟩
abbrev S128x2048 : Shape := ⟨2, ![128, 2048]⟩
abbrev S1x1x2048 : Shape := ⟨3, ![1, 1, 2048]⟩
abbrev S2176x128 : Shape := ⟨2, ![2176, 128]⟩
abbrev S128x2176 : Shape := ⟨2, ![128, 2176]⟩
abbrev S1x1x2176 : Shape := ⟨3, ![1, 1, 2176]⟩

abbrev nBuf : Space → Nat
  | .hbm => 46
  | .vmem => 20
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S2176x1024, .bf16⟩
  | .hbm, ⟨3, _⟩ => ⟨S2176x1024, .bf16⟩
  | .hbm, ⟨4, _⟩ => ⟨S8x2176, .f32⟩
  | .hbm, ⟨5, _⟩ => ⟨S2176x1024, .f32⟩
  | .hbm, ⟨6, _⟩ => ⟨S2176x8x128, .f32⟩
  | .hbm, ⟨7, _⟩ => ⟨S2176x1024, .f32⟩
  | .hbm, ⟨8, _⟩ => ⟨S2176x8x128, .f32⟩
  | .hbm, ⟨9, _⟩ => ⟨S2176, .i32⟩
  | .hbm, ⟨10, _⟩ => ⟨S8x2176x2176, .f32⟩
  | .hbm, ⟨11, _⟩ => ⟨S_, .f32⟩
  | .hbm, ⟨12, _⟩ => ⟨S8x2176x2176, .f32⟩
  | .hbm, ⟨13, _⟩ => ⟨S8x2176x2176, .f32⟩
  | .hbm, ⟨14, _⟩ => ⟨S8x2176x1, .f32⟩
  | .hbm, ⟨15, _⟩ => ⟨S8x1x2176, .f32⟩
  | .hbm, ⟨16, _⟩ => ⟨S8x2176x2176, .f32⟩
  | .hbm, ⟨17, _⟩ => ⟨S8x2176x2176, .f32⟩
  | .hbm, ⟨18, _⟩ => ⟨S8x2176x2176, .f32⟩
  | .hbm, ⟨19, _⟩ => ⟨S8x2176x2176, .f32⟩
  | .hbm, ⟨20, _⟩ => ⟨S2176x1, .i32⟩
  | .hbm, ⟨21, _⟩ => ⟨S1x2176, .i32⟩
  | .hbm, ⟨22, _⟩ => ⟨S2176x2176, .i32⟩
  | .hbm, ⟨23, _⟩ => ⟨S2176x2176, .i32⟩
  | .hbm, ⟨24, _⟩ => ⟨S2176x2176, .i1⟩
  | .hbm, ⟨25, _⟩ => ⟨S_, .f32⟩
  | .hbm, ⟨26, _⟩ => ⟨S_, .f32⟩
  | .hbm, ⟨27, _⟩ => ⟨S8x2176x2176, .i1⟩
  | .hbm, ⟨28, _⟩ => ⟨S8x2176x2176, .f32⟩
  | .hbm, ⟨29, _⟩ => ⟨S8x2176x2176, .f32⟩
  | .hbm, ⟨30, _⟩ => ⟨S_, .f32⟩
  | .hbm, ⟨31, _⟩ => ⟨S8x2176, .f32⟩
  | .hbm, ⟨32, _⟩ => ⟨S8x2176x1, .f32⟩
  | .hbm, ⟨33, _⟩ => ⟨S8x2176x2176, .f32⟩
  | .hbm, ⟨34, _⟩ => ⟨S8x2176x2176, .f32⟩
  | .hbm, ⟨35, _⟩ => ⟨S8x2176x2176, .f32⟩
  | .hbm, ⟨36, _⟩ => ⟨S_, .f32⟩
  | .hbm, ⟨37, _⟩ => ⟨S8x2176, .f32⟩
  | .hbm, ⟨38, _⟩ => ⟨S8x2176, .f32⟩
  | .hbm, ⟨39, _⟩ => ⟨S8x2176, .f32⟩
  | .hbm, ⟨40, _⟩ => ⟨S8x2176x1, .f32⟩
  | .hbm, ⟨41, _⟩ => ⟨S8x1x2176, .f32⟩
  | .hbm, ⟨42, _⟩ => ⟨S8x2176x1, .f32⟩
  | .hbm, ⟨43, _⟩ => ⟨S2176x1024, .f32⟩
  | .hbm, ⟨44, _⟩ => ⟨S8x1x2176, .f32⟩
  | .hbm, ⟨45, _⟩ => ⟨S8x2176x1, .f32⟩
  | .local _ .vmem, ⟨0, _⟩ => ⟨S128x256, .bf16⟩
  | .local _ .vmem, ⟨1, _⟩ => ⟨S128x256, .bf16⟩
  | .local _ .vmem, ⟨2, _⟩ => ⟨S2176x256, .bf16⟩
  | .local _ .vmem, ⟨3, _⟩ => ⟨S2176x256, .bf16⟩
  | .local _ .vmem, ⟨4, _⟩ => ⟨S2176x256, .bf16⟩
  | .local _ .vmem, ⟨5, _⟩ => ⟨S2176x256, .bf16⟩
  | .local _ .vmem, ⟨6, _⟩ => ⟨S128x256, .bf16⟩
  | .local _ .vmem, ⟨7, _⟩ => ⟨S128x256, .bf16⟩
  | .local _ .vmem, ⟨8, _⟩ => ⟨S2x128x1, .f32⟩
  | .local _ .vmem, ⟨9, _⟩ => ⟨S2x128x1, .f32⟩
  | .local _ .vmem, ⟨10, _⟩ => ⟨S2x1x2176, .f32⟩
  | .local _ .vmem, ⟨11, _⟩ => ⟨S2x1x2176, .f32⟩
  | .local _ .vmem, ⟨12, _⟩ => ⟨S2x128x1, .f32⟩
  | .local _ .vmem, ⟨13, _⟩ => ⟨S2x128x1, .f32⟩
  | .local _ .vmem, ⟨14, _⟩ => ⟨S128x256, .f32⟩
  | .local _ .vmem, ⟨15, _⟩ => ⟨S128x256, .f32⟩
  | .local _ .vmem, ⟨16, _⟩ => ⟨S2x1x128, .f32⟩
  | .local _ .vmem, ⟨17, _⟩ => ⟨S2x1x128, .f32⟩
  | .local _ .vmem, ⟨18, _⟩ => ⟨S2x128x1, .f32⟩
  | .local _ .vmem, ⟨19, _⟩ => ⟨S2x128x1, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v31_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 17], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c2_i32_1 : BitVec 32 := 2#32
  let v5 : BitVec 1 := Scalar.cmpi .sge arg1 c2_i32_1
  let c4_i32 : BitVec 32 := 4#32
  let v6 : BitVec 1 := Scalar.cmpi .slt arg1 c4_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg1 : BitVec 32 := BitVec.ofNat 32 (i 1).val
  let c4_i32_3 : BitVec 32 := 4#32
  let v10 : BitVec 1 := Scalar.cmpi .sge arg1 c4_i32_3
  let c6_i32 : BitVec 32 := 6#32
  let v11 : BitVec 1 := Scalar.cmpi .slt arg1 c6_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg1 : BitVec 32 := BitVec.ofNat 32 (i 1).val
  let c6_i32_5 : BitVec 32 := 6#32
  let v15 : BitVec 1 := Scalar.cmpi .sge arg1 c6_i32_5
  let c8_i32 : BitVec 32 := 8#32
  let v16 : BitVec 1 := Scalar.cmpi .slt arg1 c8_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond5 (i : grid0.Coords) : BitVec 1 :=
  let arg1 : BitVec 32 := BitVec.ofNat 32 (i 1).val
  let c8_i32_7 : BitVec 32 := 8#32
  let v20 : BitVec 1 := Scalar.cmpi .sge arg1 c8_i32_7
  let c10_i32 : BitVec 32 := 10#32
  let v21 : BitVec 1 := Scalar.cmpi .slt arg1 c10_i32
  let v22 : BitVec 1 := Scalar.andi v20 v21
  let v23 : BitVec 32 := Scalar.extui v22
  let c0_i32_8 : BitVec 32 := 0#32
  let v24 : BitVec 1 := Scalar.cmpi .ne v23 c0_i32_8
  v24

def k0_cond6 (i : grid0.Coords) : BitVec 1 :=
  let arg1 : BitVec 32 := BitVec.ofNat 32 (i 1).val
  let c10_i32_9 : BitVec 32 := 10#32
  let v25 : BitVec 1 := Scalar.cmpi .sge arg1 c10_i32_9
  let c12_i32 : BitVec 32 := 12#32
  let v26 : BitVec 1 := Scalar.cmpi .slt arg1 c12_i32
  let v27 : BitVec 1 := Scalar.andi v25 v26
  let v28 : BitVec 32 := Scalar.extui v27
  let c0_i32_10 : BitVec 32 := 0#32
  let v29 : BitVec 1 := Scalar.cmpi .ne v28 c0_i32_10
  v29

def k0_cond7 (i : grid0.Coords) : BitVec 1 :=
  let arg1 : BitVec 32 := BitVec.ofNat 32 (i 1).val
  let c12_i32_11 : BitVec 32 := 12#32
  let v30 : BitVec 1 := Scalar.cmpi .sge arg1 c12_i32_11
  let c14_i32 : BitVec 32 := 14#32
  let v31 : BitVec 1 := Scalar.cmpi .slt arg1 c14_i32
  let v32 : BitVec 1 := Scalar.andi v30 v31
  let v33 : BitVec 32 := Scalar.extui v32
  let c0_i32_12 : BitVec 32 := 0#32
  let v34 : BitVec 1 := Scalar.cmpi .ne v33 c0_i32_12
  v34

def k0_cond8 (i : grid0.Coords) : BitVec 1 :=
  let arg1 : BitVec 32 := BitVec.ofNat 32 (i 1).val
  let c14_i32_13 : BitVec 32 := 14#32
  let v35 : BitVec 1 := Scalar.cmpi .sge arg1 c14_i32_13
  let c16_i32 : BitVec 32 := 16#32
  let v36 : BitVec 1 := Scalar.cmpi .slt arg1 c16_i32
  let v37 : BitVec 1 := Scalar.andi v35 v36
  let v38 : BitVec 32 := Scalar.extui v37
  let c0_i32_14 : BitVec 32 := 0#32
  let v39 : BitVec 1 := Scalar.cmpi .ne v38 c0_i32_14
  v39

def k0_cond9 (i : grid0.Coords) : BitVec 1 :=
  let arg1 : BitVec 32 := BitVec.ofNat 32 (i 1).val
  let c16_i32_15 : BitVec 32 := 16#32
  let v40 : BitVec 1 := Scalar.cmpi .sge arg1 c16_i32_15
  let c17_i32 : BitVec 32 := 17#32
  let v41 : BitVec 1 := Scalar.cmpi .slt arg1 c17_i32
  let v42 : BitVec 1 := Scalar.andi v40 v41
  let v43 : BitVec 32 := Scalar.extui v42
  let c0_i32_16 : BitVec 32 := 0#32
  let v44 : BitVec 1 := Scalar.cmpi .ne v43 c0_i32_16
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2176x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x2176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x128x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2176x1024 : Shape := ⟨2, ![2176, 1024]⟩
abbrev S8x2176 : Shape := ⟨2, ![8, 2176]⟩
abbrev S2176x8x128 : Shape := ⟨3, ![2176, 8, 128]⟩
abbrev S2176 : Shape := ⟨1, ![2176]⟩
abbrev S8x2176x2176 : Shape := ⟨3, ![8, 2176, 2176]⟩
abbrev S_ : Shape := ⟨0, ![]⟩
abbrev S8x2176x1 : Shape := ⟨3, ![8, 2176, 1]⟩
abbrev S8x1x2176 : Shape := ⟨3, ![8, 1, 2176]⟩
abbrev S2176x1 : Shape := ⟨2, ![2176, 1]⟩
abbrev S1x2176 : Shape := ⟨2, ![1, 2176]⟩
abbrev S2176x2176 : Shape := ⟨2, ![2176, 2176]⟩
abbrev S8x128x2176 : Shape := ⟨3, ![8, 128, 2176]⟩
abbrev S8x2176x128 : Shape := ⟨3, ![8, 2176, 128]⟩
abbrev S2176x8 : Shape := ⟨2, ![2176, 8]⟩

abbrev nBuf : Space → Nat
  | .hbm => 122
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S2176x1024, .bf16⟩
  | .hbm, ⟨3, _⟩ => ⟨S2176x1024, .bf16⟩
  | .hbm, ⟨4, _⟩ => ⟨S8x2176, .f32⟩
  | .hbm, ⟨5, _⟩ => ⟨S2176x1024, .f32⟩
  | .hbm, ⟨6, _⟩ => ⟨S2176x8x128, .f32⟩
  | .hbm, ⟨7, _⟩ => ⟨S2176x1024, .f32⟩
  | .hbm, ⟨8, _⟩ => ⟨S2176x8x128, .f32⟩
  | .hbm, ⟨9, _⟩ => ⟨S2176x1024, .f32⟩
  | .hbm, ⟨10, _⟩ => ⟨S2176x8x128, .f32⟩
  | .hbm, ⟨11, _⟩ => ⟨S2176x1024, .f32⟩
  | .hbm, ⟨12, _⟩ => ⟨S2176x8x128, .f32⟩
  | .hbm, ⟨13, _⟩ => ⟨S2176, .i32⟩
  | .hbm, ⟨14, _⟩ => ⟨S8x2176x2176, .f32⟩
  | .hbm, ⟨15, _⟩ => ⟨S_, .f32⟩
  | .hbm, ⟨16, _⟩ => ⟨S8x2176x2176, .f32⟩
  | .hbm, ⟨17, _⟩ => ⟨S8x2176x2176, .f32⟩
  | .hbm, ⟨18, _⟩ => ⟨S8x2176x1, .f32⟩
  | .hbm, ⟨19, _⟩ => ⟨S8x1x2176, .f32⟩
  | .hbm, ⟨20, _⟩ => ⟨S8x2176x2176, .f32⟩
  | .hbm, ⟨21, _⟩ => ⟨S8x2176x2176, .f32⟩
  | .hbm, ⟨22, _⟩ => ⟨S8x2176x2176, .f32⟩
  | .hbm, ⟨23, _⟩ => ⟨S8x2176x2176, .f32⟩
  | .hbm, ⟨24, _⟩ => ⟨S2176x1, .i32⟩
  | .hbm, ⟨25, _⟩ => ⟨S1x2176, .i32⟩
  | .hbm, ⟨26, _⟩ => ⟨S2176x2176, .i32⟩
  | .hbm, ⟨27, _⟩ => ⟨S2176x2176, .i32⟩
  | .hbm, ⟨28, _⟩ => ⟨S2176x2176, .i1⟩
  | .hbm, ⟨29, _⟩ => ⟨S_, .f32⟩
  | .hbm, ⟨30, _⟩ => ⟨S_, .f32⟩
  | .hbm, ⟨31, _⟩ => ⟨S8x2176x2176, .i1⟩
  | .hbm, ⟨32, _⟩ => ⟨S8x2176x2176, .f32⟩
  | .hbm, ⟨33, _⟩ => ⟨S8x2176x2176, .f32⟩
  | .hbm, ⟨34, _⟩ => ⟨S_, .f32⟩
  | .hbm, ⟨35, _⟩ => ⟨S8x2176x2176, .f32⟩
  | .hbm, ⟨36, _⟩ => ⟨S_, .f32⟩
  | .hbm, ⟨37, _⟩ => ⟨S8x2176, .f32⟩
  | .hbm, ⟨38, _⟩ => ⟨S8x2176x1, .f32⟩
  | .hbm, ⟨39, _⟩ => ⟨S8x2176x2176, .f32⟩
  | .hbm, ⟨40, _⟩ => ⟨S8x2176x2176, .i1⟩
  | .hbm, ⟨41, _⟩ => ⟨S8x2176x2176, .f32⟩
  | .hbm, ⟨42, _⟩ => ⟨S_, .f32⟩
  | .hbm, ⟨43, _⟩ => ⟨S8x2176, .f32⟩
  | .hbm, ⟨44, _⟩ => ⟨S_, .f32⟩
  | .hbm, ⟨45, _⟩ => ⟨S8x2176, .f32⟩
  | .hbm, ⟨46, _⟩ => ⟨S8x2176, .f32⟩
  | .hbm, ⟨47, _⟩ => ⟨S_, .f32⟩
  | .hbm, ⟨48, _⟩ => ⟨S8x2176, .f32⟩
  | .hbm, ⟨49, _⟩ => ⟨S8x2176, .i1⟩
  | .hbm, ⟨50, _⟩ => ⟨S_, .f32⟩
  | .hbm, ⟨51, _⟩ => ⟨S8x2176, .f32⟩
  | .hbm, ⟨52, _⟩ => ⟨S8x2176, .i1⟩
  | .hbm, ⟨53, _⟩ => ⟨S_, .f32⟩
  | .hbm, ⟨54, _⟩ => ⟨S8x2176, .f32⟩
  | .hbm, ⟨55, _⟩ => ⟨S_, .f32⟩
  | .hbm, ⟨56, _⟩ => ⟨S8x2176, .f32⟩
  | .hbm, ⟨57, _⟩ => ⟨S_, .f32⟩
  | .hbm, ⟨58, _⟩ => ⟨S8x2176, .f32⟩
  | .hbm, ⟨59, _⟩ => ⟨S8x2176, .f32⟩
  | .hbm, ⟨60, _⟩ => ⟨S8x2176, .f32⟩
  | .hbm, ⟨61, _⟩ => ⟨S8x2176x1, .f32⟩
  | .hbm, ⟨62, _⟩ => ⟨S8x2176x2176, .f32⟩
  | .hbm, ⟨63, _⟩ => ⟨S8x2176x2176, .f32⟩
  | .hbm, ⟨64, _⟩ => ⟨S8x2176x2176, .f32⟩
  | .hbm, ⟨65, _⟩ => ⟨S_, .f32⟩
  | .hbm, ⟨66, _⟩ => ⟨S8x2176, .f32⟩
  | .hbm, ⟨67, _⟩ => ⟨S8x2176x1, .f32⟩
  | .hbm, ⟨68, _⟩ => ⟨S8x2176x2176, .f32⟩
  | .hbm, ⟨69, _⟩ => ⟨S8x2176x2176, .f32⟩
  | .hbm, ⟨70, _⟩ => ⟨S8x2176x1, .f32⟩
  | .hbm, ⟨71, _⟩ => ⟨S_, .f32⟩
  | .hbm, ⟨72, _⟩ => ⟨S8x2176x1, .f32⟩
  | .hbm, ⟨73, _⟩ => ⟨S8x2176x1, .f32⟩
  | .hbm, ⟨74, _⟩ => ⟨S8x128x2176, .f32⟩
  | .hbm, ⟨75, _⟩ => ⟨S2176x8x128, .f32⟩
  | .hbm, ⟨76, _⟩ => ⟨S8x128x2176, .f32⟩
  | .hbm, ⟨77, _⟩ => ⟨S8x2176x2176, .f32⟩
  | .hbm, ⟨78, _⟩ => ⟨S8x128x2176, .f32⟩
  | .hbm, ⟨79, _⟩ => ⟨S2176x8x128, .f32⟩
  | .hbm, ⟨80, _⟩ => ⟨S8x2176x2176, .f32⟩
  | .hbm, ⟨81, _⟩ => ⟨S8x2176x2176, .f32⟩
  | .hbm, ⟨82, _⟩ => ⟨S8x2176x2176, .f32⟩
  | .hbm, ⟨83, _⟩ => ⟨S_, .f32⟩
  | .hbm, ⟨84, _⟩ => ⟨S8x2176, .f32⟩
  | .hbm, ⟨85, _⟩ => ⟨S8x2176x1, .f32⟩
  | .hbm, ⟨86, _⟩ => ⟨S8x2176x1, .f32⟩
  | .hbm, ⟨87, _⟩ => ⟨S8x2176x2176, .f32⟩
  | .hbm, ⟨88, _⟩ => ⟨S8x2176x2176, .f32⟩
  | .hbm, ⟨89, _⟩ => ⟨S_, .f32⟩
  | .hbm, ⟨90, _⟩ => ⟨S8x2176, .f32⟩
  | .hbm, ⟨91, _⟩ => ⟨S8x2176x2176, .f32⟩
  | .hbm, ⟨92, _⟩ => ⟨S8x2176x2176, .f32⟩
  | .hbm, ⟨93, _⟩ => ⟨S8x2176x2176, .f32⟩
  | .hbm, ⟨94, _⟩ => ⟨S_, .f32⟩
  | .hbm, ⟨95, _⟩ => ⟨S8x2176x2176, .f32⟩
  | .hbm, ⟨96, _⟩ => ⟨S8x2176x2176, .f32⟩
  | .hbm, ⟨97, _⟩ => ⟨S_, .f32⟩
  | .hbm, ⟨98, _⟩ => ⟨S8x2176, .f32⟩
  | .hbm, ⟨99, _⟩ => ⟨S8x2176x1, .f32⟩
  | .hbm, ⟨100, _⟩ => ⟨S8x2176x2176, .f32⟩
  | .hbm, ⟨101, _⟩ => ⟨S_, .f32⟩
  | .hbm, ⟨102, _⟩ => ⟨S8x2176, .f32⟩
  | .hbm, ⟨103, _⟩ => ⟨S8x1x2176, .f32⟩
  | .hbm, ⟨104, _⟩ => ⟨S_, .f32⟩
  | .hbm, ⟨105, _⟩ => ⟨S8x2176, .f32⟩
  | .hbm, ⟨106, _⟩ => ⟨S_, .f32⟩
  | .hbm, ⟨107, _⟩ => ⟨S8x2176, .f32⟩
  | .hbm, ⟨108, _⟩ => ⟨S_, .f32⟩
  | .hbm, ⟨109, _⟩ => ⟨S8x2176x2176, .f32⟩
  | .hbm, ⟨110, _⟩ => ⟨S8x2176x2176, .f32⟩
  | .hbm, ⟨111, _⟩ => ⟨S8x2176x128, .f32⟩
  | .hbm, ⟨112, _⟩ => ⟨S2176x8x128, .f32⟩
  | .hbm, ⟨113, _⟩ => ⟨S8x2176x128, .f32⟩
  | .hbm, ⟨114, _⟩ => ⟨S2176x8x128, .f32⟩
  | .hbm, ⟨115, _⟩ => ⟨S2176x8x128, .f32⟩
  | .hbm, ⟨116, _⟩ => ⟨S_, .f32⟩
  | .hbm, ⟨117, _⟩ => ⟨S2176x8, .f32⟩
  | .hbm, ⟨118, _⟩ => ⟨S8x2176, .f32⟩
  | .hbm, ⟨119, _⟩ => ⟨S2176x1024, .f32⟩
  | .hbm, ⟨120, _⟩ => ⟨S8x1x2176, .f32⟩
  | .hbm, ⟨121, _⟩ => ⟨S8x2176x1, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_v23_1 : Ref sig .tc := ⟨.hbm, 31, rfl⟩
abbrev main_call0_v2 : Ref sig .tc := ⟨.hbm, 32, rfl⟩
abbrev main_v23_0 : Ref sig .tc := ⟨.hbm, 33, rfl⟩
abbrev main_call0_cst : Ref sig .tc := ⟨.hbm, 34, rfl⟩
abbrev main_v23_2 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call1_cst : Ref sig .tc := ⟨.hbm, 94, rfl⟩
abbrev main_call1_v0 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_cst_17 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_18 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩

abbrev nD : Nat := 1
abbrev τ : Topo := Topo.v7x

variable {F : FTy → Type} [FloatOps F]
-- ==== Kernel2.lean ====
abbrev S2176x5632 : Shape := ⟨2, ![2176, 5632]⟩
abbrev S5632x2048 : Shape := ⟨2, ![5632, 2048]⟩
abbrev S2176x2048 : Shape := ⟨2, ![2176, 2048]⟩
abbrev S_ : Shape := ⟨0, ![]⟩
abbrev S1x1 : Shape := ⟨2, ![1, 1]⟩
abbrev S256x2048 : Shape := ⟨2, ![256, 2048]⟩
abbrev S2176x256 : Shape := ⟨2, ![2176, 256]⟩

abbrev nBuf : Space → Nat
  | .hbm => 32
  | .vmem => 11
  | .smem => 0
  | _ => 0

abbrev bufTy : (tb : Table) → Fin (tcTables nBuf tb) → BufTy
  | .hbm, ⟨0, _⟩ => ⟨S2176x5632, .f32⟩
  | .hbm, ⟨1, _⟩ => ⟨S2176x5632, .f32⟩
  | .hbm, ⟨2, _⟩ => ⟨S5632x2048, .bf16⟩
  | .hbm, ⟨3, _⟩ => ⟨S2176x2048, .bf16⟩
  | .hbm, ⟨4, _⟩ => ⟨S2176x5632, .f32⟩
  | .hbm, ⟨5, _⟩ => ⟨S2176x5632, .f32⟩
  | .hbm, ⟨6, _⟩ => ⟨S_, .f32⟩
  | .hbm, ⟨7, _⟩ => ⟨S2176x5632, .f32⟩
  | .hbm, ⟨8, _⟩ => ⟨S2176x5632, .f32⟩
  | .hbm, ⟨9, _⟩ => ⟨S_, .f32⟩
  | .hbm, ⟨10, _⟩ => ⟨S2176x5632, .f32⟩
  | .hbm, ⟨11, _⟩ => ⟨S2176x5632, .f32⟩
  | .hbm, ⟨12, _⟩ => ⟨S_, .f32⟩
  | .hbm, ⟨13, _⟩ => ⟨S2176x5632, .f32⟩
  | .hbm, ⟨14, _⟩ => ⟨S2176x5632, .f32⟩
  | .hbm, ⟨15, _⟩ => ⟨S2176x5632, .f32⟩
  | .hbm, ⟨16, _⟩ => ⟨S2176x5632, .f32⟩
  | .hbm, ⟨17, _⟩ => ⟨S2176x5632, .f32⟩
  | .hbm, ⟨18, _⟩ => ⟨S_, .f32⟩
  | .hbm, ⟨19, _⟩ => ⟨S2176x5632, .f32⟩
  | .hbm, ⟨20, _⟩ => ⟨S2176x5632, .f32⟩
  | .hbm, ⟨21, _⟩ => ⟨S2176x5632, .f32⟩
  | .hbm, ⟨22, _⟩ => ⟨S2176x5632, .f32⟩
  | .hbm, ⟨23, _⟩ => ⟨S2176x5632, .f32⟩
  | .hbm, ⟨24, _⟩ => ⟨S2176x5632, .f32⟩
  | .hbm, ⟨25, _⟩ => ⟨S2176x5632, .f32⟩
  | .hbm, ⟨26, _⟩ => ⟨S2176x5632, .bf16⟩
  | .hbm, ⟨27, _⟩ => ⟨S2176x5632, .bf16⟩
  | .hbm, ⟨28, _⟩ => ⟨S_, .f32⟩
  | .hbm, ⟨29, _⟩ => ⟨S1x1, .f32⟩
  | .hbm, ⟨30, _⟩ => ⟨S2176x5632, .bf16⟩
  | .hbm, ⟨31, _⟩ => ⟨S2176x5632, .bf16⟩
  | .local _ .vmem, ⟨0, _⟩ => ⟨S2176x2048, .bf16⟩
  | .local _ .vmem, ⟨1, _⟩ => ⟨S256x2048, .bf16⟩
  | .local _ .vmem, ⟨2, _⟩ => ⟨S256x2048, .bf16⟩
  | .local _ .vmem, ⟨3, _⟩ => ⟨S2176x256, .bf16⟩
  | .local _ .vmem, ⟨4, _⟩ => ⟨S2176x256, .bf16⟩
  | .local _ .vmem, ⟨5, _⟩ => ⟨S2176x256, .bf16⟩
  | .local _ .vmem, ⟨6, _⟩ => ⟨S2176x256, .bf16⟩
  | .local _ .vmem, ⟨7, _⟩ => ⟨S2176x256, .bf16⟩
  | .local _ .vmem, ⟨8, _⟩ => ⟨S2176x256, .bf16⟩
  | .local _ .vmem, ⟨9, _⟩ => ⟨S2176x256, .bf16⟩
  | .local _ .vmem, ⟨10, _⟩ => ⟨S2176x256, .bf16⟩
  | _, _ => ⟨S2176x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9_0 : Ref sig .tc := ⟨.hbm, 30, rfl⟩
abbrev main_v9_1 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2176x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2176x5632 : Shape := ⟨2, ![2176, 5632]⟩
abbrev S5632x2048 : Shape := ⟨2, ![5632, 2048]⟩
abbrev S2176x2048 : Shape := ⟨2, ![2176, 2048]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S2176x5632, .f32⟩
  | .hbm, ⟨1, _⟩ => ⟨S2176x5632, .f32⟩
  | .hbm, ⟨2, _⟩ => ⟨S5632x2048, .bf16⟩
  | .hbm, ⟨3, _⟩ => ⟨S2176x2048, .bf16⟩
  | .hbm, ⟨4, _⟩ => ⟨S5632x2048, .f32⟩
  | .hbm, ⟨5, _⟩ => ⟨S2176x5632, .f32⟩
  | .hbm, ⟨6, _⟩ => ⟨S2176x5632, .f32⟩
  | .hbm, ⟨7, _⟩ => ⟨S_, .f32⟩
  | .hbm, ⟨8, _⟩ => ⟨S2176x5632, .f32⟩
  | .hbm, ⟨9, _⟩ => ⟨S2176x5632, .f32⟩
  | .hbm, ⟨10, _⟩ => ⟨S_, .f32⟩
  | .hbm, ⟨11, _⟩ => ⟨S2176x5632, .f32⟩
  | .hbm, ⟨12, _⟩ => ⟨S2176x5632, .f32⟩
  | .hbm, ⟨13, _⟩ => ⟨S_, .f32⟩
  | .hbm, ⟨14, _⟩ => ⟨S2176x5632, .f32⟩
  | .hbm, ⟨15, _⟩ => ⟨S2176x5632, .f32⟩
  | .hbm, ⟨16, _⟩ => ⟨S2176x5632, .f32⟩
  | .hbm, ⟨17, _⟩ => ⟨S2176x5632, .f32⟩
  | .hbm, ⟨18, _⟩ => ⟨S2176x5632, .f32⟩
  | .hbm, ⟨19, _⟩ => ⟨S2176x2048, .f32⟩
  | .hbm, ⟨20, _⟩ => ⟨S_, .f32⟩
  | .hbm, ⟨21, _⟩ => ⟨S2176x2048, .f32⟩
  | .hbm, ⟨22, _⟩ => ⟨S2176x2048, .f32⟩
  | .hbm, ⟨23, _⟩ => ⟨S2176x2048, .f32⟩
  | .hbm, ⟨24, _⟩ => ⟨S_, .f32⟩
  | .hbm, ⟨25, _⟩ => ⟨S2176x2048, .f32⟩
  | .hbm, ⟨26, _⟩ => ⟨S2176x2048, .f32⟩
  | .hbm, ⟨27, _⟩ => ⟨S2176x5632, .f32⟩
  | .hbm, ⟨28, _⟩ => ⟨S2176x5632, .f32⟩
  | .hbm, ⟨29, _⟩ => ⟨S2176x5632, .f32⟩
  | .hbm, ⟨30, _⟩ => ⟨S2176x5632, .f32⟩
  | .hbm, ⟨31, _⟩ => ⟨S2176x5632, .f32⟩
  | .hbm, ⟨32, _⟩ => ⟨S2176x5632, .f32⟩
  | .hbm, ⟨33, _⟩ => ⟨S2176x5632, .f32⟩
  | .hbm, ⟨34, _⟩ => ⟨S2176x5632, .bf16⟩
  | .hbm, ⟨35, _⟩ => ⟨S2176x5632, .bf16⟩
  | _, _ => ⟨S2176x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩

abbrev nD : Nat := 1
abbrev τ : Topo := Topo.v7x

variable {F : FTy → Type} [FloatOps F]
-- ==== Kernel3.lean ====
abbrev S2176x5632 : Shape := ⟨2, ![2176, 5632]⟩
abbrev S2176x2048 : Shape := ⟨2, ![2176, 2048]⟩
abbrev S5632x2176 : Shape := ⟨2, ![5632, 2176]⟩
abbrev S_ : Shape := ⟨0, ![]⟩
abbrev S1x1 : Shape := ⟨2, ![1, 1]⟩
abbrev S5632x2048 : Shape := ⟨2, ![5632, 2048]⟩
abbrev S1408x2176 : Shape := ⟨2, ![1408, 2176]⟩
abbrev S2176x1024 : Shape := ⟨2, ![2176, 1024]⟩
abbrev S1408x1024 : Shape := ⟨2, ![1408, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2176x5632, .bf16⟩
  | .hbm, ⟨1, _⟩ => ⟨S2176x2048, .bf16⟩
  | .hbm, ⟨2, _⟩ => ⟨S5632x2176, .bf16⟩
  | .hbm, ⟨3, _⟩ => ⟨S_, .f32⟩
  | .hbm, ⟨4, _⟩ => ⟨S1x1, .f32⟩
  | .hbm, ⟨5, _⟩ => ⟨S5632x2048, .bf16⟩
  | .local _ .vmem, ⟨0, _⟩ => ⟨S1408x2176, .bf16⟩
  | .local _ .vmem, ⟨1, _⟩ => ⟨S1408x2176, .bf16⟩
  | .local _ .vmem, ⟨2, _⟩ => ⟨S2176x1024, .bf16⟩
  | .local _ .vmem, ⟨3, _⟩ => ⟨S2176x1024, .bf16⟩
  | .local _ .vmem, ⟨4, _⟩ => ⟨S1408x1024, .bf16⟩
  | .local _ .vmem, ⟨5, _⟩ => ⟨S1408x1024, .bf16⟩
  | _, _ => ⟨S2176x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2176x5632 : Shape := ⟨2, ![2176, 5632]⟩
abbrev S2176x2048 : Shape := ⟨2, ![2176, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 16
  | .vmem => 0
  | .smem => 0
  | _ => 0

abbrev bufTy : (tb : Table) → Fin (tcTables nBuf tb) → BufTy
  | .hbm, ⟨0, _⟩ => ⟨S2176x5632, .bf16⟩
  | .hbm, ⟨1, _⟩ => ⟨S2176x2048, .bf16⟩
  | .hbm, ⟨2, _⟩ => ⟨S_, .f32⟩
  | .hbm, ⟨3, _⟩ => ⟨S5632x2048, .f32⟩
  | .hbm, ⟨4, _⟩ => ⟨S2176x5632, .f32⟩
  | .hbm, ⟨5, _⟩ => ⟨S2176x2048, .f32⟩
  | .hbm, ⟨6, _⟩ => ⟨S_, .f32⟩
  | .hbm, ⟨7, _⟩ => ⟨S2176x2048, .f32⟩
  | .hbm, ⟨8, _⟩ => ⟨S2176x2048, .f32⟩
  | .hbm, ⟨9, _⟩ => ⟨S2176x2048, .f32⟩
  | .hbm, ⟨10, _⟩ => ⟨S_, .f32⟩
  | .hbm, ⟨11, _⟩ => ⟨S2176x2048, .f32⟩
  | .hbm, ⟨12, _⟩ => ⟨S2176x2048, .f32⟩
  | .hbm, ⟨13, _⟩ => ⟨S2048x5632, .f32⟩
  | .hbm, ⟨14, _⟩ => ⟨S5632x2048, .f32⟩
  | .hbm, ⟨15, _⟩ => ⟨S5632x2048, .bf16⟩
  | _, _ => ⟨S2176x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel4.lean ====
abbrev S2176x2048 : Shape := ⟨2, ![2176, 2048]⟩
abbrev S2176x5632 : Shape := ⟨2, ![2176, 5632]⟩
abbrev S2048x2176 : Shape := ⟨2, ![2048, 2176]⟩
abbrev S_ : Shape := ⟨0, ![]⟩
abbrev S1x1 : Shape := ⟨2, ![1, 1]⟩
abbrev S4x2048x1408 : Shape := ⟨3, ![4, 2048, 1408]⟩
abbrev S1024x2176 : Shape := ⟨2, ![1024, 2176]⟩
abbrev S2176x1408 : Shape := ⟨2, ![2176, 1408]⟩
abbrev S1x1024x1408 : Shape := ⟨3, ![1, 1024, 1408]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S2176x2048, .bf16⟩
  | .hbm, ⟨1, _⟩ => ⟨S2176x5632, .bf16⟩
  | .hbm, ⟨2, _⟩ => ⟨S2048x2176, .bf16⟩
  | .hbm, ⟨3, _⟩ => ⟨S_, .f32⟩
  | .hbm, ⟨4, _⟩ => ⟨S1x1, .f32⟩
  | .hbm, ⟨5, _⟩ => ⟨S4x2048x1408, .bf16⟩
  | .local _ .vmem, ⟨0, _⟩ => ⟨S1024x2176, .bf16⟩
  | .local _ .vmem, ⟨1, _⟩ => ⟨S1024x2176, .bf16⟩
  | .local _ .vmem, ⟨2, _⟩ => ⟨S2176x1408, .bf16⟩
  | .local _ .vmem, ⟨3, _⟩ => ⟨S2176x1408, .bf16⟩
  | .local _ .vmem, ⟨4, _⟩ => ⟨S1x1024x1408, .bf16⟩
  | .local _ .vmem, ⟨5, _⟩ => ⟨S1x1024x1408, .bf16⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2176x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2176x2048 : Shape := ⟨2, ![2176, 2048]⟩
abbrev S2176x5632 : Shape := ⟨2, ![2176, 5632]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2176x5632, .bf16⟩
  | .hbm, ⟨2, _⟩ => ⟨S_, .f32⟩
  | .hbm, ⟨3, _⟩ => ⟨S2048x5632, .f32⟩
  | .hbm, ⟨4, _⟩ => ⟨S2176x2048, .f32⟩
  | .hbm, ⟨5, _⟩ => ⟨S2176x5632, .f32⟩
  | .hbm, ⟨6, _⟩ => ⟨S2176x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | .hbm, ⟨10, _⟩ => ⟨S2048x4x1408, .bf16⟩
  | .hbm, ⟨11, _⟩ => ⟨S4x2048x1408, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S2176x5632 : Shape := ⟨2, ![2176, 5632]⟩
abbrev S2048x5632 : Shape := ⟨2, ![2048, 5632]⟩
abbrev S_ : Shape := ⟨0, ![]⟩
abbrev S1x1 : Shape := ⟨2, ![1, 1]⟩
abbrev S2176x2048 : Shape := ⟨2, ![2176, 2048]⟩
abbrev S2176x1408 : Shape := ⟨2, ![2176, 1408]⟩
abbrev S512x1408 : Shape := ⟨2, ![512, 1408]⟩
abbrev S2176x512 : Shape := ⟨2, ![2176, 512]⟩

abbrev nBuf : Space → Nat
  | .hbm => 7
  | .vmem => 11
  | .smem => 0
  | _ => 0

abbrev bufTy : (tb : Table) → Fin (tcTables nBuf tb) → BufTy
  | .hbm, ⟨0, _⟩ => ⟨S2176x5632, .bf16⟩
  | .hbm, ⟨1, _⟩ => ⟨S2176x5632, .bf16⟩
  | .hbm, ⟨2, _⟩ => ⟨S2048x5632, .bf16⟩
  | .hbm, ⟨3, _⟩ => ⟨S2048x5632, .bf16⟩
  | .hbm, ⟨4, _⟩ => ⟨S_, .f32⟩
  | .hbm, ⟨5, _⟩ => ⟨S1x1, .f32⟩
  | .hbm, ⟨6, _⟩ => ⟨S2176x2048, .f32⟩
  | .local _ .vmem, ⟨0, _⟩ => ⟨S2176x1408, .bf16⟩
  | .local _ .vmem, ⟨1, _⟩ => ⟨S2176x1408, .bf16⟩
  | .local _ .vmem, ⟨2, _⟩ => ⟨S2176x1408, .bf16⟩
  | .local _ .vmem, ⟨3, _⟩ => ⟨S2176x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S2176x512, .f32⟩
  | .local _ .vmem, ⟨9, _⟩ => ⟨S2176x512, .f32⟩
  | .local _ .vmem, ⟨10, _⟩ => ⟨S2176x512, .f32⟩
  | _, _ => ⟨S2176x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_17 : BitVec 32 := 0#32
  let v21 : BitVec 1 := Scalar.cmpi .ne v20 c0_i32_17
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2176x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2176x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S2176x5632 : Shape := ⟨2, ![2176, 5632]⟩
abbrev S2048x5632 : Shape := ⟨2, ![2048, 5632]⟩
abbrev S_ : Shape := ⟨0, ![]⟩
abbrev S2176x2048 : Shape := ⟨2, ![2176, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2176x5632, .bf16⟩
  | .hbm, ⟨1, _⟩ => ⟨S2176x5632, .bf16⟩
  | .hbm, ⟨2, _⟩ => ⟨S2048x5632, .bf16⟩
  | .hbm, ⟨3, _⟩ => ⟨S2048x5632, .bf16⟩
  | .hbm, ⟨4, _⟩ => ⟨S_, .f32⟩
  | .hbm, ⟨5, _⟩ => ⟨S2176x2048, .f32⟩
  | .hbm, ⟨6, _⟩ => ⟨S2048x5632, .f32⟩
  | .hbm, ⟨7, _⟩ => ⟨S2176x5632, .f32⟩
  | .hbm, ⟨8, _⟩ => ⟨S2048x5632, .f32⟩
  | .hbm, ⟨9, _⟩ => ⟨S2176x5632, .f32⟩
  | .hbm, ⟨10, _⟩ => ⟨S2176x5632, .f32⟩
  | .hbm, ⟨11, _⟩ => ⟨S2176x5632, .f32⟩
  | .hbm, ⟨12, _⟩ => ⟨S2176x2048, .f32⟩
  | .hbm, ⟨13, _⟩ => ⟨S2176x2048, .f32⟩
  | .hbm, ⟨14, _⟩ => ⟨S2176x2048, .f32⟩
  | _, _ => ⟨S2176x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel6.lean ====
abbrev S2176x2048 : Shape := ⟨2, ![2176, 2048]⟩
abbrev S2048x5632 : Shape := ⟨2, ![2048, 5632]⟩
abbrev S_ : Shape := ⟨0, ![]⟩
abbrev S1x1 : Shape := ⟨2, ![1, 1]⟩
abbrev S2176x5632 : Shape := ⟨2, ![2176, 5632]⟩
abbrev S5632x2176 : Shape := ⟨2, ![5632, 2176]⟩
abbrev S2048x256 : Shape := ⟨2, ![2048, 256]⟩
abbrev S2176x256 : Shape := ⟨2, ![2176, 256]⟩
abbrev S256x2176 : Shape := ⟨2, ![256, 2176]⟩

abbrev nBuf : Space → Nat
  | .hbm => 9
  | .vmem => 13
  | .smem => 0
  | _ => 0

abbrev bufTy : (tb : Table) → Fin (tcTables nBuf tb) → BufTy
  | .hbm, ⟨0, _⟩ => ⟨S2176x2048, .bf16⟩
  | .hbm, ⟨1, _⟩ => ⟨S2048x5632, .bf16⟩
  | .hbm, ⟨2, _⟩ => ⟨S2048x5632, .bf16⟩
  | .hbm, ⟨3, _⟩ => ⟨S_, .f32⟩
  | .hbm, ⟨4, _⟩ => ⟨S1x1, .f32⟩
  | .hbm, ⟨5, _⟩ => ⟨S2176x5632, .bf16⟩
  | .hbm, ⟨6, _⟩ => ⟨S2176x5632, .bf16⟩
  | .hbm, ⟨7, _⟩ => ⟨S2176x5632, .bf16⟩
  | .hbm, ⟨8, _⟩ => ⟨S5632x2176, .bf16⟩
  | .local _ .vmem, ⟨0, _⟩ => ⟨S2176x2048, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2176x256, .bf16⟩
  | .local _ .vmem, ⟨6, _⟩ => ⟨S2176x256, .bf16⟩
  | .local _ .vmem, ⟨7, _⟩ => ⟨S2176x256, .bf16⟩
  | .local _ .vmem, ⟨8, _⟩ => ⟨S2176x256, .bf16⟩
  | .local _ .vmem, ⟨9, _⟩ => ⟨S2176x256, .bf16⟩
  | .local _ .vmem, ⟨10, _⟩ => ⟨S2176x256, .bf16⟩
  | .local _ .vmem, ⟨11, _⟩ => ⟨S256x2176, .bf16⟩
  | .local _ .vmem, ⟨12, _⟩ => ⟨S256x2176, .bf16⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2176x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2176 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S2176x2048 : Shape := ⟨2, ![2176, 2048]⟩
abbrev S2048x5632 : Shape := ⟨2, ![2048, 5632]⟩
abbrev S2176x5632 : Shape := ⟨2, ![2176, 5632]⟩
abbrev S_ : Shape := ⟨0, ![]⟩
abbrev S5632x2176 : Shape := ⟨2, ![5632, 2176]⟩

abbrev nBuf : Space → Nat
  | .hbm => 35
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x5632, .bf16⟩
  | .hbm, ⟨2, _⟩ => ⟨S2048x5632, .bf16⟩
  | .hbm, ⟨3, _⟩ => ⟨S2176x2048, .f32⟩
  | .hbm, ⟨4, _⟩ => ⟨S2048x5632, .f32⟩
  | .hbm, ⟨5, _⟩ => ⟨S2176x5632, .f32⟩
  | .hbm, ⟨6, _⟩ => ⟨S2048x5632, .f32⟩
  | .hbm, ⟨7, _⟩ => ⟨S2176x5632, .f32⟩
  | .hbm, ⟨8, _⟩ => ⟨S2176x5632, .f32⟩
  | .hbm, ⟨9, _⟩ => ⟨S2176x5632, .f32⟩
  | .hbm, ⟨10, _⟩ => ⟨S_, .f32⟩
  | .hbm, ⟨11, _⟩ => ⟨S2176x5632, .f32⟩
  | .hbm, ⟨12, _⟩ => ⟨S2176x5632, .f32⟩
  | .hbm, ⟨13, _⟩ => ⟨S_, .f32⟩
  | .hbm, ⟨14, _⟩ => ⟨S2176x5632, .f32⟩
  | .hbm, ⟨15, _⟩ => ⟨S2176x5632, .f32⟩
  | .hbm, ⟨16, _⟩ => ⟨S_, .f32⟩
  | .hbm, ⟨17, _⟩ => ⟨S2176x5632, .f32⟩
  | .hbm, ⟨18, _⟩ => ⟨S2176x5632, .f32⟩
  | .hbm, ⟨19, _⟩ => ⟨S2176x5632, .f32⟩
  | .hbm, ⟨20, _⟩ => ⟨S2176x5632, .f32⟩
  | .hbm, ⟨21, _⟩ => ⟨S2176x5632, .f32⟩
  | .hbm, ⟨22, _⟩ => ⟨S_, .f32⟩
  | .hbm, ⟨23, _⟩ => ⟨S2176x5632, .f32⟩
  | .hbm, ⟨24, _⟩ => ⟨S2176x5632, .f32⟩
  | .hbm, ⟨25, _⟩ => ⟨S2176x5632, .f32⟩
  | .hbm, ⟨26, _⟩ => ⟨S2176x5632, .f32⟩
  | .hbm, ⟨27, _⟩ => ⟨S2176x5632, .f32⟩
  | .hbm, ⟨28, _⟩ => ⟨S2176x5632, .f32⟩
  | .hbm, ⟨29, _⟩ => ⟨S2176x5632, .f32⟩
  | .hbm, ⟨30, _⟩ => ⟨S2176x5632, .bf16⟩
  | .hbm, ⟨31, _⟩ => ⟨S2176x5632, .bf16⟩
  | .hbm, ⟨32, _⟩ => ⟨S2176x5632, .bf16⟩
  | .hbm, ⟨33, _⟩ => ⟨S5632x2176, .f32⟩
  | .hbm, ⟨34, _⟩ => ⟨S5632x2176, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v5_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v5_1 : Ref sig .tc := ⟨.hbm, 19, rfl⟩
abbrev main_v5_0 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== Kernel7.lean ====
abbrev S2176x2048 : Shape := ⟨2, ![2176, 2048]⟩
abbrev S2176x5632 : Shape := ⟨2, ![2176, 5632]⟩
abbrev S2048x5632 : Shape := ⟨2, ![2048, 5632]⟩
abbrev S5632x2176 : Shape := ⟨2, ![5632, 2176]⟩
abbrev S2176x256 : Shape := ⟨2, ![2176, 256]⟩
abbrev S2048x256 : Shape := ⟨2, ![2048, 256]⟩
abbrev S256x2176 : Shape := ⟨2, ![256, 2176]⟩

abbrev nBuf : Space → Nat
  | .hbm => 7
  | .vmem => 13
  | .smem => 0
  | _ => 0

abbrev bufTy : (tb : Table) → Fin (tcTables nBuf tb) → BufTy
  | .hbm, ⟨0, _⟩ => ⟨S2176x2048, .bf16⟩
  | .hbm, ⟨1, _⟩ => ⟨S2176x5632, .f32⟩
  | .hbm, ⟨2, _⟩ => ⟨S2048x5632, .bf16⟩
  | .hbm, ⟨3, _⟩ => ⟨S2176x5632, .bf16⟩
  | .hbm, ⟨4, _⟩ => ⟨S2176x5632, .bf16⟩
  | .hbm, ⟨5, _⟩ => ⟨S2176x5632, .bf16⟩
  | .hbm, ⟨6, _⟩ => ⟨S5632x2176, .bf16⟩
  | .local _ .vmem, ⟨0, _⟩ => ⟨S2176x2048, .bf16⟩
  | .local _ .vmem, ⟨1, _⟩ => ⟨S2176x256, .f32⟩
  | .local _ .vmem, ⟨2, _⟩ => ⟨S2176x256, .f32⟩
  | .local _ .vmem, ⟨3, _⟩ => ⟨S2048x256, .bf16⟩
  | .local _ .vmem, ⟨4, _⟩ => ⟨S2048x256, .bf16⟩
  | .local _ .vmem, ⟨5, _⟩ => ⟨S2176x256, .bf16⟩
  | .local _ .vmem, ⟨6, _⟩ => ⟨S2176x256, .bf16⟩
  | .local _ .vmem, ⟨7, _⟩ => ⟨S2176x256, .bf16⟩
  | .local _ .vmem, ⟨8, _⟩ => ⟨S2176x256, .bf16⟩
  | .local _ .vmem, ⟨9, _⟩ => ⟨S2176x256, .bf16⟩
  | .local _ .vmem, ⟨10, _⟩ => ⟨S2176x256, .bf16⟩
  | .local _ .vmem, ⟨11, _⟩ => ⟨S256x2176, .bf16⟩
  | .local _ .vmem, ⟨12, _⟩ => ⟨S256x2176, .bf16⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2176x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2176x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2176 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S2176x2048 : Shape := ⟨2, ![2176, 2048]⟩
abbrev S2176x5632 : Shape := ⟨2, ![2176, 5632]⟩
abbrev S2048x5632 : Shape := ⟨2, ![2048, 5632]⟩
abbrev S_ : Shape := ⟨0, ![]⟩
abbrev S5632x2176 : Shape := ⟨2, ![5632, 2176]⟩

abbrev nBuf : Space → Nat
  | .hbm => 33
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2176x5632, .f32⟩
  | .hbm, ⟨2, _⟩ => ⟨S2048x5632, .bf16⟩
  | .hbm, ⟨3, _⟩ => ⟨S2176x2048, .f32⟩
  | .hbm, ⟨4, _⟩ => ⟨S2048x5632, .f32⟩
  | .hbm, ⟨5, _⟩ => ⟨S2176x5632, .f32⟩
  | .hbm, ⟨6, _⟩ => ⟨S2176x5632, .f32⟩
  | .hbm, ⟨7, _⟩ => ⟨S2176x5632, .f32⟩
  | .hbm, ⟨8, _⟩ => ⟨S_, .f32⟩
  | .hbm, ⟨9, _⟩ => ⟨S2176x5632, .f32⟩
  | .hbm, ⟨10, _⟩ => ⟨S2176x5632, .f32⟩
  | .hbm, ⟨11, _⟩ => ⟨S_, .f32⟩
  | .hbm, ⟨12, _⟩ => ⟨S2176x5632, .f32⟩
  | .hbm, ⟨13, _⟩ => ⟨S2176x5632, .f32⟩
  | .hbm, ⟨14, _⟩ => ⟨S_, .f32⟩
  | .hbm, ⟨15, _⟩ => ⟨S2176x5632, .f32⟩
  | .hbm, ⟨16, _⟩ => ⟨S2176x5632, .f32⟩
  | .hbm, ⟨17, _⟩ => ⟨S2176x5632, .f32⟩
  | .hbm, ⟨18, _⟩ => ⟨S2176x5632, .f32⟩
  | .hbm, ⟨19, _⟩ => ⟨S2176x5632, .f32⟩
  | .hbm, ⟨20, _⟩ => ⟨S_, .f32⟩
  | .hbm, ⟨21, _⟩ => ⟨S2176x5632, .f32⟩
  | .hbm, ⟨22, _⟩ => ⟨S2176x5632, .f32⟩
  | .hbm, ⟨23, _⟩ => ⟨S2176x5632, .f32⟩
  | .hbm, ⟨24, _⟩ => ⟨S2176x5632, .f32⟩
  | .hbm, ⟨25, _⟩ => ⟨S2176x5632, .f32⟩
  | .hbm, ⟨26, _⟩ => ⟨S2176x5632, .f32⟩
  | .hbm, ⟨27, _⟩ => ⟨S2176x5632, .f32⟩
  | .hbm, ⟨28, _⟩ => ⟨S2176x5632, .bf16⟩
  | .hbm, ⟨29, _⟩ => ⟨S2176x5632, .bf16⟩
  | .hbm, ⟨30, _⟩ => ⟨S2176x5632, .bf16⟩
  | .hbm, ⟨31, _⟩ => ⟨S5632x2176, .f32⟩
  | .hbm, ⟨32, _⟩ => ⟨S5632x2176, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Kernel8.lean ====
abbrev S2176x2048 : Shape := ⟨2, ![2176, 2048]⟩
abbrev S2048x5632 : Shape := ⟨2, ![2048, 5632]⟩
abbrev S2176x5632 : Shape := ⟨2, ![2176, 5632]⟩
abbrev S2048x256 : Shape := ⟨2, ![2048, 256]⟩
abbrev S2176x256 : Shape := ⟨2, ![2176, 256]⟩

abbrev nBuf : Space → Nat
  | .hbm => 3
  | .vmem => 5
  | .smem => 0
  | _ => 0

abbrev bufTy : (tb : Table) → Fin (tcTables nBuf tb) → BufTy
  | .hbm, ⟨0, _⟩ => ⟨S2176x2048, .bf16⟩
  | .hbm, ⟨1, _⟩ => ⟨S2048x5632, .bf16⟩
  | .hbm, ⟨2, _⟩ => ⟨S2176x5632, .f32⟩
  | .local _ .vmem, ⟨0, _⟩ => ⟨S2176x2048, .bf16⟩
  | .local _ .vmem, ⟨1, _⟩ => ⟨S2048x256, .bf16⟩
  | .local _ .vmem, ⟨2, _⟩ => ⟨S2048x256, .bf16⟩
  | .local _ .vmem, ⟨3, _⟩ => ⟨S2176x256, .f32⟩
  | .local _ .vmem, ⟨4, _⟩ => ⟨S2176x256, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S2176x2048 : Shape := ⟨2, ![2176, 2048]⟩
abbrev S2048x5632 : Shape := ⟨2, ![2048, 5632]⟩
abbrev S2176x5632 : Shape := ⟨2, ![2176, 5632]⟩

abbrev nBuf : Space → Nat
  | .hbm => 5
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x5632, .bf16⟩
  | .hbm, ⟨2, _⟩ => ⟨S2176x2048, .f32⟩
  | .hbm, ⟨3, _⟩ => ⟨S2048x5632, .f32⟩
  | .hbm, ⟨4, _⟩ => ⟨S2176x5632, .f32⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S2176x5632 : Shape := ⟨2, ![2176, 5632]⟩
abbrev S5632x2048 : Shape := ⟨2, ![5632, 2048]⟩
abbrev S2176x2048 : Shape := ⟨2, ![2176, 2048]⟩
abbrev S_ : Shape := ⟨0, ![]⟩
abbrev S1x1 : Shape := ⟨2, ![1, 1]⟩
abbrev S5632x256 : Shape := ⟨2, ![5632, 256]⟩
abbrev S2176x256 : Shape := ⟨2, ![2176, 256]⟩

abbrev nBuf : Space → Nat
  | .hbm => 6
  | .vmem => 7
  | .smem => 0
  | _ => 0

abbrev bufTy : (tb : Table) → Fin (tcTables nBuf tb) → BufTy
  | .hbm, ⟨0, _⟩ => ⟨S2176x5632, .bf16⟩
  | .hbm, ⟨1, _⟩ => ⟨S5632x2048, .bf16⟩
  | .hbm, ⟨2, _⟩ => ⟨S2176x2048, .f32⟩
  | .hbm, ⟨3, _⟩ => ⟨S_, .f32⟩
  | .hbm, ⟨4, _⟩ => ⟨S1x1, .f32⟩
  | .hbm, ⟨5, _⟩ => ⟨S2176x2048, .f32⟩
  | .local _ .vmem, ⟨0, _⟩ => ⟨S2176x5632, .bf16⟩
  | .local _ .vmem, ⟨1, _⟩ => ⟨S5632x256, .bf16⟩
  | .local _ .vmem, ⟨2, _⟩ => ⟨S5632x256, .bf16⟩
  | .local _ .vmem, ⟨3, _⟩ => ⟨S2176x256, .f32⟩
  | .local _ .vmem, ⟨4, _⟩ => ⟨S2176x256, .f32⟩
  | .local _ .vmem, ⟨5, _⟩ => ⟨S2176x256, .f32⟩
  | .local _ .vmem, ⟨6, _⟩ => ⟨S2176x256, .f32⟩
  | _, _ => ⟨S2176x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5632x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S2176x5632 : Shape := ⟨2, ![2176, 5632]⟩
abbrev S5632x2048 : Shape := ⟨2, ![5632, 2048]⟩
abbrev S2176x2048 : Shape := ⟨2, ![2176, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2176x5632, .bf16⟩
  | .hbm, ⟨1, _⟩ => ⟨S5632x2048, .bf16⟩
  | .hbm, ⟨2, _⟩ => ⟨S2176x2048, .f32⟩
  | .hbm, ⟨3, _⟩ => ⟨S2176x5632, .f32⟩
  | .hbm, ⟨4, _⟩ => ⟨S5632x2048, .f32⟩
  | .hbm, ⟨5, _⟩ => ⟨S2176x2048, .f32⟩
  | .hbm, ⟨6, _⟩ => ⟨S_, .f32⟩
  | .hbm, ⟨7, _⟩ => ⟨S2176x2048, .f32⟩
  | .hbm, ⟨8, _⟩ => ⟨S2176x2048, .f32⟩
  | .hbm, ⟨9, _⟩ => ⟨S2176x2048, .f32⟩
  | _, _ => ⟨S2176x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel10.lean ====
abbrev S2176x2048 : Shape := ⟨2, ![2176, 2048]⟩
abbrev S2048x2048 : Shape := ⟨2, ![2048, 2048]⟩
abbrev S_ : Shape := ⟨0, ![]⟩
abbrev S1x1 : Shape := ⟨2, ![1, 1]⟩
abbrev S512x2048 : Shape := ⟨2, ![512, 2048]⟩
abbrev S2176x512 : Shape := ⟨2, ![2176, 512]⟩

abbrev nBuf : Space → Nat
  | .hbm => 5
  | .vmem => 5
  | .smem => 0
  | _ => 0

abbrev bufTy : (tb : Table) → Fin (tcTables nBuf tb) → BufTy
  | .hbm, ⟨0, _⟩ => ⟨S2176x2048, .bf16⟩
  | .hbm, ⟨1, _⟩ => ⟨S2048x2048, .bf16⟩
  | .hbm, ⟨2, _⟩ => ⟨S_, .f32⟩
  | .hbm, ⟨3, _⟩ => ⟨S1x1, .f32⟩
  | .hbm, ⟨4, _⟩ => ⟨S2176x2048, .f32⟩
  | .local _ .vmem, ⟨0, _⟩ => ⟨S2176x2048, .bf16⟩
  | .local _ .vmem, ⟨1, _⟩ => ⟨S512x2048, .bf16⟩
  | .local _ .vmem, ⟨2, _⟩ => ⟨S512x2048, .bf16⟩
  | .local _ .vmem, ⟨3, _⟩ => ⟨S2176x512, .f32⟩
  | .local _ .vmem, ⟨4, _⟩ => ⟨S2176x512, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S2176x2048 : Shape := ⟨2, ![2176, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x2048, .bf16⟩
  | .hbm, ⟨2, _⟩ => ⟨S_, .f32⟩
  | .hbm, ⟨3, _⟩ => ⟨S2176x2048, .f32⟩
  | .hbm, ⟨4, _⟩ => ⟨S2048x2048, .f32⟩
  | .hbm, ⟨5, _⟩ => ⟨S2176x2048, .f32⟩
  | .hbm, ⟨6, _⟩ => ⟨S2176x2048, .f32⟩
  | .hbm, ⟨7, _⟩ => ⟨S2176x2048, .f32⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S2176x2048 : Shape := ⟨2, ![2176, 2048]⟩
abbrev S2048x2176 : Shape := ⟨2, ![2048, 2176]⟩
abbrev S_ : Shape := ⟨0, ![]⟩
abbrev S1x1 : Shape := ⟨2, ![1, 1]⟩
abbrev S2048x2048 : Shape := ⟨2, ![2048, 2048]⟩
abbrev S1024x2176 : Shape := ⟨2, ![1024, 2176]⟩
abbrev S2176x1024 : Shape := ⟨2, ![2176, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2176x2048, .bf16⟩
  | .hbm, ⟨1, _⟩ => ⟨S2176x2048, .bf16⟩
  | .hbm, ⟨2, _⟩ => ⟨S2048x2176, .bf16⟩
  | .hbm, ⟨3, _⟩ => ⟨S_, .f32⟩
  | .hbm, ⟨4, _⟩ => ⟨S1x1, .f32⟩
  | .hbm, ⟨5, _⟩ => ⟨S2048x2048, .bf16⟩
  | .local _ .vmem, ⟨0, _⟩ => ⟨S1024x2176, .bf16⟩
  | .local _ .vmem, ⟨1, _⟩ => ⟨S1024x2176, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .bf16⟩
  | .local _ .vmem, ⟨5, _⟩ => ⟨S1024x1024, .bf16⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S2176x2048 : Shape := ⟨2, ![2176, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2176x2048, .bf16⟩
  | .hbm, ⟨2, _⟩ => ⟨S_, .f32⟩
  | .hbm, ⟨3, _⟩ => ⟨S2048x2048, .f32⟩
  | .hbm, ⟨4, _⟩ => ⟨S2176x2048, .f32⟩
  | .hbm, ⟨5, _⟩ => ⟨S2176x2048, .f32⟩
  | .hbm, ⟨6, _⟩ => ⟨S2176x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S2176x2048 : Shape := ⟨2, ![2176, 2048]⟩
abbrev S2176x4224 : Shape := ⟨2, ![2176, 4224]⟩
abbrev S2048x2176 : Shape := ⟨2, ![2048, 2176]⟩
abbrev S_ : Shape := ⟨0, ![]⟩
abbrev S1x1 : Shape := ⟨2, ![1, 1]⟩
abbrev S2048x4224 : Shape := ⟨2, ![2048, 4224]⟩
abbrev S1024x2176 : Shape := ⟨2, ![1024, 2176]⟩
abbrev S2176x1408 : Shape := ⟨2, ![2176, 1408]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S2176x2048, .bf16⟩
  | .hbm, ⟨1, _⟩ => ⟨S2176x4224, .bf16⟩
  | .hbm, ⟨2, _⟩ => ⟨S2048x2176, .bf16⟩
  | .hbm, ⟨3, _⟩ => ⟨S_, .f32⟩
  | .hbm, ⟨4, _⟩ => ⟨S1x1, .f32⟩
  | .hbm, ⟨5, _⟩ => ⟨S2048x4224, .bf16⟩
  | .local _ .vmem, ⟨0, _⟩ => ⟨S1024x2176, .bf16⟩
  | .local _ .vmem, ⟨1, _⟩ => ⟨S1024x2176, .bf16⟩
  | .local _ .vmem, ⟨2, _⟩ => ⟨S2176x1408, .bf16⟩
  | .local _ .vmem, ⟨3, _⟩ => ⟨S2176x1408, .bf16⟩
  | .local _ .vmem, ⟨4, _⟩ => ⟨S1024x1408, .bf16⟩
  | .local _ .vmem, ⟨5, _⟩ => ⟨S1024x1408, .bf16⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2176x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S2176x2048 : Shape := ⟨2, ![2176, 2048]⟩
abbrev S2176x4224 : Shape := ⟨2, ![2176, 4224]⟩
abbrev S_ : Shape := ⟨0, ![]⟩
abbrev S2048x4224 : Shape := ⟨2, ![2048, 4224]⟩
abbrev S4224x2048 : Shape := ⟨2, ![4224, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2176x4224, .bf16⟩
  | .hbm, ⟨2, _⟩ => ⟨S_, .f32⟩
  | .hbm, ⟨3, _⟩ => ⟨S2048x4224, .f32⟩
  | .hbm, ⟨4, _⟩ => ⟨S2176x2048, .f32⟩
  | .hbm, ⟨5, _⟩ => ⟨S2176x4224, .f32⟩
  | .hbm, ⟨6, _⟩ => ⟨S2176x4224, .f32⟩
  | .hbm, ⟨7, _⟩ => ⟨S4224x2048, .f32⟩
  | .hbm, ⟨8, _⟩ => ⟨S2048x4224, .f32⟩
  | .hbm, ⟨9, _⟩ => ⟨S2048x4224, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S2176x4224 : Shape := ⟨2, ![2176, 4224]⟩
abbrev S2048x4224 : Shape := ⟨2, ![2048, 4224]⟩
abbrev S_ : Shape := ⟨0, ![]⟩
abbrev S1x1 : Shape := ⟨2, ![1, 1]⟩
abbrev S2176x2048 : Shape := ⟨2, ![2176, 2048]⟩
abbrev S2176x1408 : Shape := ⟨2, ![2176, 1408]⟩
abbrev S512x1408 : Shape := ⟨2, ![512, 1408]⟩
abbrev S2176x512 : Shape := ⟨2, ![2176, 512]⟩

abbrev nBuf : Space → Nat
  | .hbm => 5
  | .vmem => 7
  | .smem => 0
  | _ => 0

abbrev bufTy : (tb : Table) → Fin (tcTables nBuf tb) → BufTy
  | .hbm, ⟨0, _⟩ => ⟨S2176x4224, .bf16⟩
  | .hbm, ⟨1, _⟩ => ⟨S2048x4224, .bf16⟩
  | .hbm, ⟨2, _⟩ => ⟨S_, .f32⟩
  | .hbm, ⟨3, _⟩ => ⟨S1x1, .f32⟩
  | .hbm, ⟨4, _⟩ => ⟨S2176x2048, .f32⟩
  | .local _ .vmem, ⟨0, _⟩ => ⟨S2176x1408, .bf16⟩
  | .local _ .vmem, ⟨1, _⟩ => ⟨S2176x1408, .bf16⟩
  | .local _ .vmem, ⟨2, _⟩ => ⟨S512x1408, .bf16⟩
  | .local _ .vmem, ⟨3, _⟩ => ⟨S512x1408, .bf16⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | _, _ => ⟨S2176x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference13Ideal.lean ====
abbrev S2176x4224 : Shape := ⟨2, ![2176, 4224]⟩
abbrev S2048x4224 : Shape := ⟨2, ![2048, 4224]⟩
abbrev S_ : Shape := ⟨0, ![]⟩
abbrev S2176x2048 : Shape := ⟨2, ![2176, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2176x4224, .bf16⟩
  | .hbm, ⟨1, _⟩ => ⟨S2048x4224, .bf16⟩
  | .hbm, ⟨2, _⟩ => ⟨S_, .f32⟩
  | .hbm, ⟨3, _⟩ => ⟨S2176x2048, .f32⟩
  | .hbm, ⟨4, _⟩ => ⟨S2048x4224, .f32⟩
  | .hbm, ⟨5, _⟩ => ⟨S2176x4224, .f32⟩
  | .hbm, ⟨6, _⟩ => ⟨S2176x4224, .f32⟩
  | .hbm, ⟨7, _⟩ => ⟨S2176x2048, .f32⟩
  | _, _ => ⟨S2176x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S2176x2048 : Shape := ⟨2, ![2176, 2048]⟩
abbrev S2048x4224 : Shape := ⟨2, ![2048, 4224]⟩
abbrev S2176x4224 : Shape := ⟨2, ![2176, 4224]⟩
abbrev S2048x384 : Shape := ⟨2, ![2048, 384]⟩
abbrev S2176x384 : Shape := ⟨2, ![2176, 384]⟩

abbrev nBuf : Space → Nat
  | .hbm => 3
  | .vmem => 5
  | .smem => 0
  | _ => 0

abbrev bufTy : (tb : Table) → Fin (tcTables nBuf tb) → BufTy
  | .hbm, ⟨0, _⟩ => ⟨S2176x2048, .bf16⟩
  | .hbm, ⟨1, _⟩ => ⟨S2048x4224, .bf16⟩
  | .hbm, ⟨2, _⟩ => ⟨S2176x4224, .f32⟩
  | .local _ .vmem, ⟨0, _⟩ => ⟨S2176x2048, .bf16⟩
  | .local _ .vmem, ⟨1, _⟩ => ⟨S2048x384, .bf16⟩
  | .local _ .vmem, ⟨2, _⟩ => ⟨S2048x384, .bf16⟩
  | .local _ .vmem, ⟨3, _⟩ => ⟨S2176x384, .f32⟩
  | .local _ .vmem, ⟨4, _⟩ => ⟨S2176x384, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S2176x2048 : Shape := ⟨2, ![2176, 2048]⟩
abbrev S2048x4224 : Shape := ⟨2, ![2048, 4224]⟩
abbrev S2176x4224 : Shape := ⟨2, ![2176, 4224]⟩

abbrev nBuf : Space → Nat
  | .hbm => 5
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x4224, .bf16⟩
  | .hbm, ⟨2, _⟩ => ⟨S2176x2048, .f32⟩
  | .hbm, ⟨3, _⟩ => ⟨S2048x4224, .f32⟩
  | .hbm, ⟨4, _⟩ => ⟨S2176x4224, .f32⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S2176x2048 : Shape := ⟨2, ![2176, 2048]⟩
abbrev S2048x2048 : Shape := ⟨2, ![2048, 2048]⟩
abbrev S_ : Shape := ⟨0, ![]⟩
abbrev S1x1 : Shape := ⟨2, ![1, 1]⟩
abbrev S2048x512 : Shape := ⟨2, ![2048, 512]⟩
abbrev S2176x512 : Shape := ⟨2, ![2176, 512]⟩

abbrev nBuf : Space → Nat
  | .hbm => 6
  | .vmem => 7
  | .smem => 0
  | _ => 0

abbrev bufTy : (tb : Table) → Fin (tcTables nBuf tb) → BufTy
  | .hbm, ⟨0, _⟩ => ⟨S2176x2048, .bf16⟩
  | .hbm, ⟨1, _⟩ => ⟨S2048x2048, .bf16⟩
  | .hbm, ⟨2, _⟩ => ⟨S2176x2048, .f32⟩
  | .hbm, ⟨3, _⟩ => ⟨S_, .f32⟩
  | .hbm, ⟨4, _⟩ => ⟨S1x1, .f32⟩
  | .hbm, ⟨5, _⟩ => ⟨S2176x2048, .f32⟩
  | .local _ .vmem, ⟨0, _⟩ => ⟨S2176x2048, .bf16⟩
  | .local _ .vmem, ⟨1, _⟩ => ⟨S2048x512, .bf16⟩
  | .local _ .vmem, ⟨2, _⟩ => ⟨S2048x512, .bf16⟩
  | .local _ .vmem, ⟨3, _⟩ => ⟨S2176x512, .f32⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference15Ideal.lean ====
abbrev S2176x2048 : Shape := ⟨2, ![2176, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x2048, .bf16⟩
  | .hbm, ⟨2, _⟩ => ⟨S2176x2048, .f32⟩
  | .hbm, ⟨3, _⟩ => ⟨S2176x2048, .f32⟩
  | .hbm, ⟨4, _⟩ => ⟨S2048x2048, .f32⟩
  | .hbm, ⟨5, _⟩ => ⟨S2176x2048, .f32⟩
  | .hbm, ⟨6, _⟩ => ⟨S2176x2048, .f32⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S16x512 : Shape := ⟨2, ![16, 512]⟩

abbrev nBuf : Space → Nat
  | .hbm => 8
  | .vmem => 8
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512, .f32⟩
  | .hbm, ⟨7, _⟩ => ⟨S16x512, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference17Ideal.lean ====
abbrev S16x512 : Shape := ⟨2, ![16, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S_, .f32⟩
  | .hbm, ⟨5, _⟩ => ⟨S16x512, .f32⟩
  | .hbm, ⟨6, _⟩ => ⟨S16x512, .f32⟩
  | .hbm, ⟨7, _⟩ => ⟨S_, .f32⟩
  | .hbm, ⟨8, _⟩ => ⟨S16x512, .f32⟩
  | .hbm, ⟨9, _⟩ => ⟨S16x512, .f32⟩
  | .hbm, ⟨10, _⟩ => ⟨S16x512, .f32⟩
  | .hbm, ⟨11, _⟩ => ⟨S_, .f32⟩
  | .hbm, ⟨12, _⟩ => ⟨S16x512, .f32⟩
  | .hbm, ⟨13, _⟩ => ⟨S16x512, .f32⟩
  | .hbm, ⟨14, _⟩ => ⟨S16x512, .f32⟩
  | .hbm, ⟨15, _⟩ => ⟨S_, .f32⟩
  | .hbm, ⟨16, _⟩ => ⟨S16x512, .f32⟩
  | .hbm, ⟨17, _⟩ => ⟨S16x512, .f32⟩
  | .hbm, ⟨18, _⟩ => ⟨S16x512, .f32⟩
  | .hbm, ⟨19, _⟩ => ⟨S_, .f32⟩
  | .hbm, ⟨20, _⟩ => ⟨S16x512, .f32⟩
  | .hbm, ⟨21, _⟩ => ⟨S16x512, .f32⟩
  | .hbm, ⟨22, _⟩ => ⟨S_, .f32⟩
  | .hbm, ⟨23, _⟩ => ⟨S16x512, .f32⟩
  | .hbm, ⟨24, _⟩ => ⟨S16x512, .f32⟩
  | .hbm, ⟨25, _⟩ => ⟨S16x512, .f32⟩
  | .hbm, ⟨26, _⟩ => ⟨S_, .f32⟩
  | .hbm, ⟨27, _⟩ => ⟨S16x512, .f32⟩
  | .hbm, ⟨28, _⟩ => ⟨S16x512, .f32⟩
  | .hbm, ⟨29, _⟩ => ⟨S16x512, .f32⟩
  | .hbm, ⟨30, _⟩ => ⟨S_, .f32⟩
  | .hbm, ⟨31, _⟩ => ⟨S16x512, .f32⟩
  | .hbm, ⟨32, _⟩ => ⟨S16x512, .f32⟩
  | .hbm, ⟨33, _⟩ => ⟨S16x512, .f32⟩
  | .hbm, ⟨34, _⟩ => ⟨S_, .f32⟩
  | .hbm, ⟨35, _⟩ => ⟨S16x512, .f32⟩
  | .hbm, ⟨36, _⟩ => ⟨S16x512, .f32⟩
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S1x2048 : Shape := ⟨2, ![1, 2048]⟩
abbrev S1x1024 : Shape := ⟨2, ![1, 1024]⟩
abbrev S1x128 : Shape := ⟨2, ![1, 128]⟩
abbrev S1x8 : Shape := ⟨2, ![1, 8]⟩
abbrev S2x1024 : Shape := ⟨2, ![2, 1024]⟩
abbrev S128 : Shape := ⟨1, ![128]⟩
abbrev S8 : Shape := ⟨1, ![8]⟩
abbrev S264 : Shape := ⟨1, ![264]⟩
abbrev S_ : Shape := ⟨0, ![]⟩
abbrev S1024 : Shape := ⟨1, ![1024]⟩
abbrev S8x1024 : Shape := ⟨2, ![8, 1024]⟩

abbrev nBuf : Space → Nat
  | .hbm => 144
  | .vmem => 8
  | .smem => 0
  | _ => 0

abbrev hbmTy0_0 (i : Nat) : BufTy := match i % 128 with
  | 0 => ⟨S1x2048, .f32⟩
  | 1 => ⟨S1x2048, .f32⟩
  | 2 => ⟨S1x2048, .f32⟩
  | 3 => ⟨S1x1024, .f32⟩
  | 4 => ⟨S1x128, .f32⟩
  | 5 => ⟨S1x128, .f32⟩
  | 6 => ⟨S1x8, .f32⟩
  | 7 => ⟨S1x2048, .f32⟩
  | 8 => ⟨S1x2048, .f32⟩
  | 9 => ⟨S1x2048, .f32⟩
  | 10 => ⟨S1x1024, .f32⟩
  | 11 => ⟨S1x128, .f32⟩
  | 12 => ⟨S1x128, .f32⟩
  | 13 => ⟨S1x8, .f32⟩
  | 14 => ⟨S1x2048, .f32⟩
  | 15 => ⟨S1x2048, .f32⟩
  | 16 => ⟨S1x2048, .f32⟩
  | 17 => ⟨S1x1024, .f32⟩
  | 18 => ⟨S1x128, .f32⟩
  | 19 => ⟨S1x128, .f32⟩
  | 20 => ⟨S1x8, .f32⟩
  | 21 => ⟨S1x2048, .f32⟩
  | 22 => ⟨S1x2048, .f32⟩
  | 23 => ⟨S1x2048, .f32⟩
  | 24 => ⟨S1x1024, .f32⟩
  | 25 => ⟨S1x128, .f32⟩
  | 26 => ⟨S1x128, .f32⟩
  | 27 => ⟨S1x8, .f32⟩
  | 28 => ⟨S2x1024, .f32⟩
  | 29 => ⟨S2x1024, .f32⟩
  | 30 => ⟨S2x1024, .f32⟩
  | 31 => ⟨S128, .f32⟩
  | 32 => ⟨S128, .f32⟩
  | 33 => ⟨S8, .f32⟩
  | 34 => ⟨S264, .f32⟩
  | 35 => ⟨S_, .i32⟩
  | 36 => ⟨S_, .f32⟩
  | 37 => ⟨S1024, .f32⟩
  | 38 => ⟨S1x1024, .f32⟩
  | 39 => ⟨S8x1024, .f32⟩
  | 40 => ⟨S2x1024, .f32⟩
  | 41 => ⟨S2x1024, .f32⟩
  | 42 => ⟨S2x1024, .f32⟩
  | 43 => ⟨S128, .f32⟩
  | 44 => ⟨S128, .f32⟩
  | 45 => ⟨S8, .f32⟩
  | 46 => ⟨S264, .f32⟩
  | 47 => ⟨S_, .i32⟩
  | 48 => ⟨S_, .f32⟩
  | 49 => ⟨S1024, .f32⟩
  | 50 => ⟨S1x1024, .f32⟩
  | 51 => ⟨S8x1024, .f32⟩
  | 52 => ⟨S2x1024, .f32⟩
  | 53 => ⟨S2x1024, .f32⟩
  | 54 => ⟨S2x1024, .f32⟩
  | 55 => ⟨S128, .f32⟩
  | 56 => ⟨S128, .f32⟩
  | 57 => ⟨S8, .f32⟩
  | 58 => ⟨S264, .f32⟩
  | 59 => ⟨S_, .i32⟩
  | 60 => ⟨S_, .f32⟩
  | 61 => ⟨S1024, .f32⟩
  | 62 => ⟨S1x1024, .f32⟩
  | 63 => ⟨S8x1024, .f32⟩
  | 64 => ⟨S2x1024, .f32⟩
  | 65 => ⟨S2x1024, .f32⟩
  | 66 => ⟨S2x1024, .f32⟩
  | 67 => ⟨S128, .f32⟩
  | 68 => ⟨S128, .f32⟩
  | 69 => ⟨S8, .f32⟩
  | 70 => ⟨S264, .f32⟩
  | 71 => ⟨S_, .i32⟩
  | 72 => ⟨S_, .f32⟩
  | 73 => ⟨S1024, .f32⟩
  | 74 => ⟨S1x1024, .f32⟩
  | 75 => ⟨S8x1024, .f32⟩
  | 76 => ⟨S8x1024, .f32⟩
  | 77 => ⟨S8x1024, .f32⟩
  | 78 => ⟨S8x1024, .f32⟩
  | 79 => ⟨S8x1024, .f32⟩
  | 80 => ⟨S2x1024, .f32⟩
  | 81 => ⟨S1x2048, .f32⟩
  | 82 => ⟨S2x1024, .f32⟩
  | 83 => ⟨S1x2048, .f32⟩
  | 84 => ⟨S2x1024, .f32⟩
  | 85 => ⟨S1x2048, .f32⟩
  | 86 => ⟨S1x1024, .f32⟩
  | 87 => ⟨S1x128, .f32⟩
  | 88 => ⟨S128, .f32⟩
  | 89 => ⟨S1x128, .f32⟩
  | 90 => ⟨S1x128, .f32⟩
  | 91 => ⟨S128, .f32⟩
  | 92 => ⟨S1x128, .f32⟩
  | 93 => ⟨S1x8, .f32⟩
  | 94 => ⟨S8, .f32⟩
  | 95 => ⟨S1x8, .f32⟩
  | 96 => ⟨S2x1024, .f32⟩
  | 97 => ⟨S1x2048, .f32⟩
  | 98 => ⟨S2x1024, .f32⟩
  | 99 => ⟨S1x2048, .f32⟩
  | 100 => ⟨S2x1024, .f32⟩
  | 101 => ⟨S1x2048, .f32⟩
  | 102 => ⟨S1x1024, .f32⟩
  | 103 => ⟨S1x128, .f32⟩
  | 104 => ⟨S128, .f32⟩
  | 105 => ⟨S1x128, .f32⟩
  | 106 => ⟨S1x128, .f32⟩
  | 107 => ⟨S128, .f32⟩
  | 108 => ⟨S1x128, .f32⟩
  | 109 => ⟨S1x8, .f32⟩
  | 110 => ⟨S8, .f32⟩
  | 111 => ⟨S1x8, .f32⟩
  | 112 => ⟨S2x1024, .f32⟩
  | 113 => ⟨S1x2048, .f32⟩
  | 114 => ⟨S2x1024, .f32⟩
  | 115 => ⟨S1x2048, .f32⟩
  | 116 => ⟨S2x1024, .f32⟩
  | 117 => ⟨S1x2048, .f32⟩
  | 118 => ⟨S1x1024, .f32⟩
  | 119 => ⟨S1x128, .f32⟩
  | 120 => ⟨S128, .f32⟩
  | 121 => ⟨S1x128, .f32⟩
  | 122 => ⟨S1x128, .f32⟩
  | 123 => ⟨S128, .f32⟩
  | 124 => ⟨S1x128, .f32⟩
  | 125 => ⟨S1x8, .f32⟩
  | 126 => ⟨S8, .f32⟩
  | 127 => ⟨S1x8, .f32⟩
  | _ => ⟨S1x2048, .f32⟩

abbrev hbmTy0_1 (i : Nat) : BufTy := match i % 128 with
  | 0 => ⟨S2x1024, .f32⟩
  | 1 => ⟨S1x2048, .f32⟩
  | 2 => ⟨S2x1024, .f32⟩
  | 3 => ⟨S1x2048, .f32⟩
  | 4 => ⟨S2x1024, .f32⟩
  | 5 => ⟨S1x2048, .f32⟩
  | 6 => ⟨S1x1024, .f32⟩
  | 7 => ⟨S1x128, .f32⟩
  | 8 => ⟨S128, .f32⟩
  | 9 => ⟨S1x128, .f32⟩
  | 10 => ⟨S1x128, .f32⟩
  | 11 => ⟨S128, .f32⟩
  | 12 => ⟨S1x128, .f32⟩
  | 13 => ⟨S1x8, .f32⟩
  | 14 => ⟨S8, .f32⟩
  | 15 => ⟨S1x8, .f32⟩
  | _ => ⟨S1x2048, .f32⟩

abbrev hbmTy (i : Nat) : BufTy := match i / 128 with
  | 0 => hbmTy0_0 i
  | 1 => hbmTy0_1 i
  | _ => ⟨S1x2048, .f32⟩

abbrev bufTy : (tb : Table) → Fin (tcTables nBuf tb) → BufTy
  | .hbm, ⟨i, _⟩ => hbmTy i
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_c : Ref sig .tc := ⟨.hbm, 35, rfl⟩
abbrev main_call0_v0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c_0 : Ref sig .tc := ⟨.hbm, 47, rfl⟩
abbrev main_call1_v0 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_c_1 : Ref sig .tc := ⟨.hbm, 59, rfl⟩
abbrev main_call2_v0 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_c_2 : Ref sig .tc := ⟨.hbm, 71, rfl⟩
abbrev main_call3_v0 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40_0 : Ref sig .tc := ⟨.hbm, 76, rfl⟩
abbrev main_v40_1 : Ref sig .tc := ⟨.hbm, 77, rfl⟩
abbrev main_v40_2 : Ref sig .tc := ⟨.hbm, 78, rfl⟩
abbrev main_v40_3 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference24Ideal.lean ====
abbrev S1x2048 : Shape := ⟨2, ![1, 2048]⟩
abbrev S1x1024 : Shape := ⟨2, ![1, 1024]⟩
abbrev S1x128 : Shape := ⟨2, ![1, 128]⟩
abbrev S1x8 : Shape := ⟨2, ![1, 8]⟩
abbrev S_ : Shape := ⟨0, ![]⟩

abbrev nBuf : Space → Nat
  | .hbm => 259
  | .vmem => 0
  | .smem => 0
  | _ => 0

abbrev hbmTy0_0 (i : Nat) : BufTy := match i % 128 with
  | 0 => ⟨S1x2048, .f32⟩
  | 1 => ⟨S1x2048, .f32⟩
  | 2 => ⟨S1x2048, .f32⟩
  | 3 => ⟨S1x1024, .f32⟩
  | 4 => ⟨S1x128, .f32⟩
  | 5 => ⟨S1x128, .f32⟩
  | 6 => ⟨S1x8, .f32⟩
  | 7 => ⟨S1x2048, .f32⟩
  | 8 => ⟨S1x2048, .f32⟩
  | 9 => ⟨S1x2048, .f32⟩
  | 10 => ⟨S1x1024, .f32⟩
  | 11 => ⟨S1x128, .f32⟩
  | 12 => ⟨S1x128, .f32⟩
  | 13 => ⟨S1x8, .f32⟩
  | 14 => ⟨S1x2048, .f32⟩
  | 15 => ⟨S1x2048, .f32⟩
  | 16 => ⟨S1x2048, .f32⟩
  | 17 => ⟨S1x1024, .f32⟩
  | 18 => ⟨S1x128, .f32⟩
  | 19 => ⟨S1x128, .f32⟩
  | 20 => ⟨S1x8, .f32⟩
  | 21 => ⟨S1x2048, .f32⟩
  | 22 => ⟨S1x2048, .f32⟩
  | 23 => ⟨S1x2048, .f32⟩
  | 24 => ⟨S1x1024, .f32⟩
  | 25 => ⟨S1x128, .f32⟩
  | 26 => ⟨S1x128, .f32⟩
  | 27 => ⟨S1x8, .f32⟩
  | 28 => ⟨S_, .f32⟩
  | 29 => ⟨S1x2048, .f32⟩
  | 30 => ⟨S1x2048, .f32⟩
  | 31 => ⟨S_, .f32⟩
  | 32 => ⟨S1x2048, .f32⟩
  | 33 => ⟨S1x2048, .f32⟩
  | 34 => ⟨S1x2048, .f32⟩
  | 35 => ⟨S_, .f32⟩
  | 36 => ⟨S1x2048, .f32⟩
  | 37 => ⟨S1x2048, .f32⟩
  | 38 => ⟨S1x2048, .f32⟩
  | 39 => ⟨S_, .f32⟩
  | 40 => ⟨S1x2048, .f32⟩
  | 41 => ⟨S1x2048, .f32⟩
  | 42 => ⟨S1x2048, .f32⟩
  | 43 => ⟨S_, .f32⟩
  | 44 => ⟨S1x2048, .f32⟩
  | 45 => ⟨S1x2048, .f32⟩
  | 46 => ⟨S_, .f32⟩
  | 47 => ⟨S1x2048, .f32⟩
  | 48 => ⟨S1x2048, .f32⟩
  | 49 => ⟨S1x2048, .f32⟩
  | 50 => ⟨S_, .f32⟩
  | 51 => ⟨S1x2048, .f32⟩
  | 52 => ⟨S1x2048, .f32⟩
  | 53 => ⟨S1x2048, .f32⟩
  | 54 => ⟨S_, .f32⟩
  | 55 => ⟨S1x2048, .f32⟩
  | 56 => ⟨S1x2048, .f32⟩
  | 57 => ⟨S1x2048, .f32⟩
  | 58 => ⟨S_, .f32⟩
  | 59 => ⟨S1x2048, .f32⟩
  | 60 => ⟨S1x2048, .f32⟩
  | 61 => ⟨S_, .f32⟩
  | 62 => ⟨S1x2048, .f32⟩
  | 63 => ⟨S1x2048, .f32⟩
  | 64 => ⟨S_, .f32⟩
  | 65 => ⟨S1x2048, .f32⟩
  | 66 => ⟨S1x2048, .f32⟩
  | 67 => ⟨S1x2048, .f32⟩
  | 68 => ⟨S_, .f32⟩
  | 69 => ⟨S1x2048, .f32⟩
  | 70 => ⟨S1x2048, .f32⟩
  | 71 => ⟨S1x2048, .f32⟩
  | 72 => ⟨S_, .f32⟩
  | 73 => ⟨S1x2048, .f32⟩
  | 74 => ⟨S1x2048, .f32⟩
  | 75 => ⟨S1x2048, .f32⟩
  | 76 => ⟨S_, .f32⟩
  | 77 => ⟨S1x2048, .f32⟩
  | 78 => ⟨S1x2048, .f32⟩
  | 79 => ⟨S_, .f32⟩
  | 80 => ⟨S1x2048, .f32⟩
  | 81 => ⟨S1x2048, .f32⟩
  | 82 => ⟨S1x2048, .f32⟩
  | 83 => ⟨S_, .f32⟩
  | 84 => ⟨S1x2048, .f32⟩
  | 85 => ⟨S1x2048, .f32⟩
  | 86 => ⟨S1x2048, .f32⟩
  | 87 => ⟨S_, .f32⟩
  | 88 => ⟨S1x2048, .f32⟩
  | 89 => ⟨S1x2048, .f32⟩
  | 90 => ⟨S1x2048, .f32⟩
  | 91 => ⟨S_, .f32⟩
  | 92 => ⟨S1x2048, .f32⟩
  | 93 => ⟨S1x2048, .f32⟩
  | 94 => ⟨S_, .f32⟩
  | 95 => ⟨S1x2048, .f32⟩
  | 96 => ⟨S1x2048, .f32⟩
  | 97 => ⟨S_, .f32⟩
  | 98 => ⟨S1x2048, .f32⟩
  | 99 => ⟨S1x2048, .f32⟩
  | 100 => ⟨S1x2048, .f32⟩
  | 101 => ⟨S_, .f32⟩
  | 102 => ⟨S1x2048, .f32⟩
  | 103 => ⟨S1x2048, .f32⟩
  | 104 => ⟨S1x2048, .f32⟩
  | 105 => ⟨S_, .f32⟩
  | 106 => ⟨S1x2048, .f32⟩
  | 107 => ⟨S1x2048, .f32⟩
  | 108 => ⟨S1x2048, .f32⟩
  | 109 => ⟨S_, .f32⟩
  | 110 => ⟨S1x2048, .f32⟩
  | 111 => ⟨S1x2048, .f32⟩
  | 112 => ⟨S_, .f32⟩
  | 113 => ⟨S1x2048, .f32⟩
  | 114 => ⟨S1x2048, .f32⟩
  | 115 => ⟨S1x2048, .f32⟩
  | 116 => ⟨S_, .f32⟩
  | 117 => ⟨S1x2048, .f32⟩
  | 118 => ⟨S1x2048, .f32⟩
  | 119 => ⟨S1x2048, .f32⟩
  | 120 => ⟨S_, .f32⟩
  | 121 => ⟨S1x2048, .f32⟩
  | 122 => ⟨S1x2048, .f32⟩
  | 123 => ⟨S1x2048, .f32⟩
  | 124 => ⟨S_, .f32⟩
  | 125 => ⟨S1x2048, .f32⟩
  | 126 => ⟨S1x2048, .f32⟩
  | 127 => ⟨S_, .f32⟩
  | _ => ⟨S1x2048, .f32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S1x1024, .f32⟩
  | 6 => ⟨S_, .f32⟩
  | 7 => ⟨S1x1024, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S_, .f32⟩
  | 18 => ⟨S1x1024, .f32⟩
  | 19 => ⟨S1x1024, .f32⟩
  | 20 => ⟨S1x1024, .f32⟩
  | 21 => ⟨S_, .f32⟩
  | 22 => ⟨S1x1024, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S1x1024, .f32⟩
  | 29 => ⟨S_, .f32⟩
  | 30 => ⟨S1x1024, .f32⟩
  | 31 => ⟨S1x1024, .f32⟩
  | 32 => ⟨S_, .f32⟩
  | 33 => ⟨S1x128, .f32⟩
  | 34 => ⟨S1x128, .f32⟩
  | 35 => ⟨S_, .f32⟩
  | 36 => ⟨S1x128, .f32⟩
  | 37 => ⟨S1x128, .f32⟩
  | 38 => ⟨S1x128, .f32⟩
  | 39 => ⟨S_, .f32⟩
  | 40 => ⟨S1x128, .f32⟩
  | 41 => ⟨S1x128, .f32⟩
  | 42 => ⟨S1x128, .f32⟩
  | 43 => ⟨S_, .f32⟩
  | 44 => ⟨S1x128, .f32⟩
  | 45 => ⟨S1x128, .f32⟩
  | 46 => ⟨S1x128, .f32⟩
  | 47 => ⟨S_, .f32⟩
  | 48 => ⟨S1x128, .f32⟩
  | 49 => ⟨S1x128, .f32⟩
  | 50 => ⟨S_, .f32⟩
  | 51 => ⟨S1x128, .f32⟩
  | 52 => ⟨S1x128, .f32⟩
  | 53 => ⟨S1x128, .f32⟩
  | 54 => ⟨S_, .f32⟩
  | 55 => ⟨S1x128, .f32⟩
  | 56 => ⟨S1x128, .f32⟩
  | 57 => ⟨S1x128, .f32⟩
  | 58 => ⟨S_, .f32⟩
  | 59 => ⟨S1x128, .f32⟩
  | 60 => ⟨S1x128, .f32⟩
  | 61 => ⟨S1x128, .f32⟩
  | 62 => ⟨S_, .f32⟩
  | 63 => ⟨S1x128, .f32⟩
  | 64 => ⟨S1x128, .f32⟩
  | 65 => ⟨S_, .f32⟩
  | 66 => ⟨S1x128, .f32⟩
  | 67 => ⟨S1x128, .f32⟩
  | 68 => ⟨S_, .f32⟩
  | 69 => ⟨S1x128, .f32⟩
  | 70 => ⟨S1x128, .f32⟩
  | 71 => ⟨S1x128, .f32⟩
  | 72 => ⟨S_, .f32⟩
  | 73 => ⟨S1x128, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S1x128, .f32⟩
  | 80 => ⟨S_, .f32⟩
  | 81 => ⟨S1x128, .f32⟩
  | 82 => ⟨S1x128, .f32⟩
  | 83 => ⟨S_, .f32⟩
  | 84 => ⟨S1x128, .f32⟩
  | 85 => ⟨S1x128, .f32⟩
  | 86 => ⟨S1x128, .f32⟩
  | 87 => ⟨S_, .f32⟩
  | 88 => ⟨S1x128, .f32⟩
  | 89 => ⟨S1x128, .f32⟩
  | 90 => ⟨S1x128, .f32⟩
  | 91 => ⟨S_, .f32⟩
  | 92 => ⟨S1x128, .f32⟩
  | 93 => ⟨S1x128, .f32⟩
  | 94 => ⟨S1x128, .f32⟩
  | 95 => ⟨S_, .f32⟩
  | 96 => ⟨S1x128, .f32⟩
  | 97 => ⟨S1x128, .f32⟩
  | 98 => ⟨S_, .f32⟩
  | 99 => ⟨S1x8, .f32⟩
  | 100 => ⟨S1x8, .f32⟩
  | 101 => ⟨S_, .f32⟩
  | 102 => ⟨S1x8, .f32⟩
  | 103 => ⟨S1x8, .f32⟩
  | 104 => ⟨S1x8, .f32⟩
  | 105 => ⟨S_, .f32⟩
  | 106 => ⟨S1x8, .f32⟩
  | 107 => ⟨S1x8, .f32⟩
  | 108 => ⟨S1x8, .f32⟩
  | 109 => ⟨S_, .f32⟩
  | 110 => ⟨S1x8, .f32⟩
  | 111 => ⟨S1x8, .f32⟩
  | 112 => ⟨S1x8, .f32⟩
  | 113 => ⟨S_, .f32⟩
  | 114 => ⟨S1x8, .f32⟩
  | 115 => ⟨S1x8, .f32⟩
  | 116 => ⟨S_, .f32⟩
  | 117 => ⟨S1x8, .f32⟩
  | 118 => ⟨S1x8, .f32⟩
  | 119 => ⟨S1x8, .f32⟩
  | 120 => ⟨S_, .f32⟩
  | 121 => ⟨S1x8, .f32⟩
  | 122 => ⟨S1x8, .f32⟩
  | 123 => ⟨S1x8, .f32⟩
  | 124 => ⟨S_, .f32⟩
  | 125 => ⟨S1x8, .f32⟩
  | 126 => ⟨S1x8, .f32⟩
  | 127 => ⟨S1x8, .f32⟩
  | _ => ⟨S1x2048, .f32⟩

abbrev hbmTy0_2 (i : Nat) : BufTy := match i % 128 with
  | 0 => ⟨S_, .f32⟩
  | 1 => ⟨S1x8, .f32⟩
  | 2 => ⟨S1x8, .f32⟩
  | _ => ⟨S1x2048, .f32⟩

abbrev hbmTy (i : Nat) : BufTy := match i / 128 with
  | 0 => hbmTy0_0 i
  | 1 => hbmTy0_1 i
  | 2 => hbmTy0_2 i
  | _ => ⟨S1x2048, .f32⟩

abbrev bufTy : (tb : Table) → Fin (tcTables nBuf tb) → BufTy
  | .hbm, ⟨i, _⟩ => hbmTy i
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_cst_9 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_12 : Ref sig .tc := ⟨.hbm, 76, rfl⟩
abbrev main_v35 : Ref sig .tc := ⟨.hbm, 77, rfl⟩
abbrev main_v36 : Ref sig .tc := ⟨.hbm, 78, rfl⟩
abbrev main_cst_13 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_15 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_16 : Ref sig .tc := ⟨.hbm, 91, rfl⟩
abbrev main_v46 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_19 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_20 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_21 : Ref sig .tc := ⟨.hbm, 109, rfl⟩
abbrev main_v59 : Ref sig .tc := ⟨.hbm, 110, rfl⟩
abbrev main_v60 : Ref sig .tc := ⟨.hbm, 111, rfl⟩
abbrev main_cst_22 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_23 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_24 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_25 : Ref sig .tc := ⟨.hbm, 124, rfl⟩
abbrev main_v70 : Ref sig .tc := ⟨.hbm, 125, rfl⟩
abbrev main_v71 : Ref sig .tc := ⟨.hbm, 126, rfl⟩
abbrev main_cst_26 : Ref sig .tc := ⟨.hbm, 127, rfl⟩
abbrev main_v72 : Ref sig .tc := ⟨.hbm, 128, rfl⟩
abbrev main_v73 : Ref sig .tc := ⟨.hbm, 129, rfl⟩
abbrev main_cst_27 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_28 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_29 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_30 : Ref sig .tc := ⟨.hbm, 142, rfl⟩
abbrev main_v83 : Ref sig .tc := ⟨.hbm, 143, rfl⟩
abbrev main_v84 : Ref sig .tc := ⟨.hbm, 144, rfl⟩
abbrev main_cst_31 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_32 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_33 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_34 : Ref sig .tc := ⟨.hbm, 157, rfl⟩
abbrev main_v94 : Ref sig .tc := ⟨.hbm, 158, rfl⟩
abbrev main_v95 : Ref sig .tc := ⟨.hbm, 159, rfl⟩
abbrev main_cst_35 : Ref sig .tc := ⟨.hbm, 160, rfl⟩
abbrev main_v96 : Ref sig .tc := ⟨.hbm, 161, rfl⟩
abbrev main_v97 : Ref sig .tc := ⟨.hbm, 162, rfl⟩
abbrev main_cst_36 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_37 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_38 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_39 : Ref sig .tc := ⟨.hbm, 175, rfl⟩
abbrev main_v107 : Ref sig .tc := ⟨.hbm, 176, rfl⟩
abbrev main_v108 : Ref sig .tc := ⟨.hbm, 177, rfl⟩
abbrev main_cst_40 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_41 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_42 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_43 : Ref sig .tc := ⟨.hbm, 190, rfl⟩
abbrev main_v118 : Ref sig .tc := ⟨.hbm, 191, rfl⟩
abbrev main_v119 : Ref sig .tc := ⟨.hbm, 192, rfl⟩
abbrev main_cst_44 : Ref sig .tc := ⟨.hbm, 193, rfl⟩
abbrev main_v120 : Ref sig .tc := ⟨.hbm, 194, rfl⟩
abbrev main_v121 : Ref sig .tc := ⟨.hbm, 195, rfl⟩
abbrev main_cst_45 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_46 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_47 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_48 : Ref sig .tc := ⟨.hbm, 208, rfl⟩
abbrev main_v131 : Ref sig .tc := ⟨.hbm, 209, rfl⟩
abbrev main_v132 : Ref sig .tc := ⟨.hbm, 210, rfl⟩
abbrev main_cst_49 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_50 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_51 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_52 : Ref sig .tc := ⟨.hbm, 223, rfl⟩
abbrev main_v142 : Ref sig .tc := ⟨.hbm, 224, rfl⟩
abbrev main_v143 : Ref sig .tc := ⟨.hbm, 225, rfl⟩
abbrev main_cst_53 : Ref sig .tc := ⟨.hbm, 226, rfl⟩
abbrev main_v144 : Ref sig .tc := ⟨.hbm, 227, rfl⟩
abbrev main_v145 : Ref sig .tc := ⟨.hbm, 228, rfl⟩
abbrev main_cst_54 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_55 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_cst_56 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_57 : Ref sig .tc := ⟨.hbm, 241, rfl⟩
abbrev main_v155 : Ref sig .tc := ⟨.hbm, 242, rfl⟩
abbrev main_v156 : Ref sig .tc := ⟨.hbm, 243, rfl⟩
abbrev main_cst_58 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_59 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_60 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_61 : Ref sig .tc := ⟨.hbm, 256, rfl⟩
abbrev main_v166 : Ref sig .tc := ⟨.hbm, 257, rfl⟩
abbrev main_v167 : Ref sig .tc := ⟨.hbm, 258, rfl⟩

abbrev nD : Nat := 1
abbrev τ : Topo := Topo.v7x

variable {F : FTy → Type} [FloatOps F]
-- ==== Kernel19.lean ====
abbrev S5 : Shape := ⟨1, ![5]⟩
abbrev S1024x1408 : Shape := ⟨2, ![1024, 1408]⟩
abbrev S2048x1408 : Shape := ⟨2, ![2048, 1408]⟩
abbrev S256x1408 : Shape := ⟨2, ![256, 1408]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | .local _ .smem, ⟨0, _⟩ => ⟨S5, .i32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c4_i32 : BitVec 32 := 4#32
  let v1 : BitVec 32 := Scalar.muli v0 c4_i32
  let v2 : BitVec 32 := Scalar.subi arg0 v1
  let c0_i32 : BitVec 32 := 0#32
  let c3_i32 : BitVec 32 := 3#32
  let v3 : BitVec 32 := Scalar.maxsi c0_i32 v2
  let v4 : BitVec 32 := Scalar.minsi c3_i32 v3
  let c0_i32_0 : BitVec 32 := 0#32
  let c0_i32_1 : BitVec 32 := 0#32
  ![v4.toNat, c0_i32_0.toNat]

def cc0_transform_1 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c1_i32 : BitVec 32 := 1#32
  let v1 : BitVec 32 := Scalar.subi c1_i32 v0
  let c4_i32 : BitVec 32 := 4#32
  let v2 : BitVec 32 := Scalar.muli v1 c4_i32
  let v3 : BitVec 32 := Scalar.subi arg0 v2
  let c0_i32 : BitVec 32 := 0#32
  let c3_i32 : BitVec 32 := 3#32
  let v4 : BitVec 32 := Scalar.maxsi c0_i32 v3
  let v5 : BitVec 32 := Scalar.minsi c3_i32 v4
  let c0_i32_0 : BitVec 32 := 0#32
  let c0_i32_1 : BitVec 32 := 0#32
  ![v5.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S5 : Shape := ⟨1, ![5]⟩
abbrev S1024x1408 : Shape := ⟨2, ![1024, 1408]⟩
abbrev S2048x1408 : Shape := ⟨2, ![2048, 1408]⟩
abbrev S1 : Shape := ⟨1, ![1]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S5, .i32⟩
  | .hbm, ⟨1, _⟩ => ⟨S1024x1408, .f32⟩
  | .hbm, ⟨2, _⟩ => ⟨S1024x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1024x1408, .f32⟩
  | .hbm, ⟨11, _⟩ => ⟨S1024x1408, .f32⟩
  | .hbm, ⟨12, _⟩ => ⟨S2048x1408, .f32⟩
  | .hbm, ⟨13, _⟩ => ⟨S_, .f32⟩
  | .hbm, ⟨14, _⟩ => ⟨S2048x1408, .f32⟩
  | .hbm, ⟨15, _⟩ => ⟨S2048x1408, .f32⟩
  | .hbm, ⟨16, _⟩ => ⟨S_, .f32⟩
  | .hbm, ⟨17, _⟩ => ⟨S2048x1408, .f32⟩
  | .hbm, ⟨18, _⟩ => ⟨S2048x1408, .f32⟩
  | .hbm, ⟨19, _⟩ => ⟨S2048x1408, .f32⟩
  | .hbm, ⟨20, _⟩ => ⟨S_, .f32⟩
  | .hbm, ⟨21, _⟩ => ⟨S2048x1408, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S_, .f32⟩
  | .hbm, ⟨32, _⟩ => ⟨S2048x1408, .f32⟩
  | .hbm, ⟨33, _⟩ => ⟨S2048x1408, .f32⟩
  | .hbm, ⟨34, _⟩ => ⟨S2048x1408, .f32⟩
  | .hbm, ⟨35, _⟩ => ⟨S_, .f32⟩
  | .hbm, ⟨36, _⟩ => ⟨S2048x1408, .f32⟩
  | .hbm, ⟨37, _⟩ => ⟨S2048x1408, .f32⟩
  | .hbm, ⟨38, _⟩ => ⟨S2048x1408, .f32⟩
  | .hbm, ⟨39, _⟩ => ⟨S_, .f32⟩
  | .hbm, ⟨40, _⟩ => ⟨S2048x1408, .f32⟩
  | .hbm, ⟨41, _⟩ => ⟨S2048x1408, .f32⟩
  | .hbm, ⟨42, _⟩ => ⟨S2048x1408, .f32⟩
  | .hbm, ⟨43, _⟩ => ⟨S_, .f32⟩
  | .hbm, ⟨44, _⟩ => ⟨S2048x1408, .f32⟩
  | .hbm, ⟨45, _⟩ => ⟨S2048x1408, .f32⟩
  | _, _ => ⟨S5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel20.lean ====
abbrev S5 : Shape := ⟨1, ![5]⟩
abbrev S704x2048 : Shape := ⟨2, ![704, 2048]⟩
abbrev S1408x2048 : Shape := ⟨2, ![1408, 2048]⟩
abbrev S176x2048 : Shape := ⟨2, ![176, 2048]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S176x2048, .f32⟩
  | .local _ .vmem, ⟨17, _⟩ => ⟨S176x2048, .f32⟩
  | .local _ .smem, ⟨0, _⟩ => ⟨S5, .i32⟩
  | _, _ => ⟨S704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c4_i32 : BitVec 32 := 4#32
  let v1 : BitVec 32 := Scalar.muli v0 c4_i32
  let v2 : BitVec 32 := Scalar.subi arg0 v1
  let c0_i32 : BitVec 32 := 0#32
  let c3_i32 : BitVec 32 := 3#32
  let v3 : BitVec 32 := Scalar.maxsi c0_i32 v2
  let v4 : BitVec 32 := Scalar.minsi c3_i32 v3
  let c0_i32_0 : BitVec 32 := 0#32
  let c0_i32_1 : BitVec 32 := 0#32
  ![v4.toNat, c0_i32_0.toNat]

def cc0_transform_1 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c1_i32 : BitVec 32 := 1#32
  let v1 : BitVec 32 := Scalar.subi c1_i32 v0
  let c4_i32 : BitVec 32 := 4#32
  let v2 : BitVec 32 := Scalar.muli v1 c4_i32
  let v3 : BitVec 32 := Scalar.subi arg0 v2
  let c0_i32 : BitVec 32 := 0#32
  let c3_i32 : BitVec 32 := 3#32
  let v4 : BitVec 32 := Scalar.maxsi c0_i32 v3
  let v5 : BitVec 32 := Scalar.minsi c3_i32 v4
  let c0_i32_0 : BitVec 32 := 0#32
  let c0_i32_1 : BitVec 32 := 0#32
  ![v5.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference20Ideal.lean ====
abbrev S5 : Shape := ⟨1, ![5]⟩
abbrev S704x2048 : Shape := ⟨2, ![704, 2048]⟩
abbrev S1408x2048 : Shape := ⟨2, ![1408, 2048]⟩
abbrev S1 : Shape := ⟨1, ![1]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S5, .i32⟩
  | .hbm, ⟨1, _⟩ => ⟨S704x2048, .f32⟩
  | .hbm, ⟨2, _⟩ => ⟨S704x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S704x2048, .f32⟩
  | .hbm, ⟨11, _⟩ => ⟨S704x2048, .f32⟩
  | .hbm, ⟨12, _⟩ => ⟨S1408x2048, .f32⟩
  | .hbm, ⟨13, _⟩ => ⟨S_, .f32⟩
  | .hbm, ⟨14, _⟩ => ⟨S1408x2048, .f32⟩
  | .hbm, ⟨15, _⟩ => ⟨S1408x2048, .f32⟩
  | .hbm, ⟨16, _⟩ => ⟨S_, .f32⟩
  | .hbm, ⟨17, _⟩ => ⟨S1408x2048, .f32⟩
  | .hbm, ⟨18, _⟩ => ⟨S1408x2048, .f32⟩
  | .hbm, ⟨19, _⟩ => ⟨S1408x2048, .f32⟩
  | .hbm, ⟨20, _⟩ => ⟨S_, .f32⟩
  | .hbm, ⟨21, _⟩ => ⟨S1408x2048, .f32⟩
  | .hbm, ⟨22, _⟩ => ⟨S1408x2048, .f32⟩
  | .hbm, ⟨23, _⟩ => ⟨S1408x2048, .f32⟩
  | .hbm, ⟨24, _⟩ => ⟨S_, .f32⟩
  | .hbm, ⟨25, _⟩ => ⟨S1408x2048, .f32⟩
  | .hbm, ⟨26, _⟩ => ⟨S1408x2048, .f32⟩
  | .hbm, ⟨27, _⟩ => ⟨S1408x2048, .f32⟩
  | .hbm, ⟨28, _⟩ => ⟨S_, .f32⟩
  | .hbm, ⟨29, _⟩ => ⟨S1408x2048, .f32⟩
  | .hbm, ⟨30, _⟩ => ⟨S1408x2048, .f32⟩
  | .hbm, ⟨31, _⟩ => ⟨S_, .f32⟩
  | .hbm, ⟨32, _⟩ => ⟨S1408x2048, .f32⟩
  | .hbm, ⟨33, _⟩ => ⟨S1408x2048, .f32⟩
  | .hbm, ⟨34, _⟩ => ⟨S1408x2048, .f32⟩
  | .hbm, ⟨35, _⟩ => ⟨S_, .f32⟩
  | .hbm, ⟨36, _⟩ => ⟨S1408x2048, .f32⟩
  | .hbm, ⟨37, _⟩ => ⟨S1408x2048, .f32⟩
  | .hbm, ⟨38, _⟩ => ⟨S1408x2048, .f32⟩
  | .hbm, ⟨39, _⟩ => ⟨S_, .f32⟩
  | .hbm, ⟨40, _⟩ => ⟨S1408x2048, .f32⟩
  | .hbm, ⟨41, _⟩ => ⟨S1408x2048, .f32⟩
  | .hbm, ⟨42, _⟩ => ⟨S1408x2048, .f32⟩
  | .hbm, ⟨43, _⟩ => ⟨S_, .f32⟩
  | .hbm, ⟨44, _⟩ => ⟨S1408x2048, .f32⟩
  | .hbm, ⟨45, _⟩ => ⟨S1408x2048, .f32⟩
  | _, _ => ⟨S5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel21.lean ====
abbrev S5 : Shape := ⟨1, ![5]⟩
abbrev S1024x1026 : Shape := ⟨2, ![1024, 1026]⟩
abbrev S2048x1026 : Shape := ⟨2, ![2048, 1026]⟩
abbrev S512x1026 : Shape := ⟨2, ![512, 1026]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S1024x1026, .f32⟩
  | .hbm, ⟨1, _⟩ => ⟨S1024x1026, .f32⟩
  | .hbm, ⟨2, _⟩ => ⟨S2048x1026, .f32⟩
  | .hbm, ⟨3, _⟩ => ⟨S2048x1026, .f32⟩
  | .hbm, ⟨4, _⟩ => ⟨S2048x1026, .f32⟩
  | .hbm, ⟨5, _⟩ => ⟨S2048x1026, .f32⟩
  | .hbm, ⟨6, _⟩ => ⟨S2048x1026, .f32⟩
  | .hbm, ⟨7, _⟩ => ⟨S2048x1026, .f32⟩
  | .hbm, ⟨8, _⟩ => ⟨S2048x1026, .f32⟩
  | .local _ .vmem, ⟨0, _⟩ => ⟨S512x1026, .f32⟩
  | .local _ .vmem, ⟨1, _⟩ => ⟨S512x1026, .f32⟩
  | .local _ .vmem, ⟨2, _⟩ => ⟨S512x1026, .f32⟩
  | .local _ .vmem, ⟨3, _⟩ => ⟨S512x1026, .f32⟩
  | .local _ .vmem, ⟨4, _⟩ => ⟨S512x1026, .f32⟩
  | .local _ .vmem, ⟨5, _⟩ => ⟨S512x1026, .f32⟩
  | .local _ .vmem, ⟨6, _⟩ => ⟨S512x1026, .f32⟩
  | .local _ .vmem, ⟨7, _⟩ => ⟨S512x1026, .f32⟩
  | .local _ .vmem, ⟨8, _⟩ => ⟨S512x1026, .f32⟩
  | .local _ .vmem, ⟨9, _⟩ => ⟨S512x1026, .f32⟩
  | .local _ .vmem, ⟨10, _⟩ => ⟨S512x1026, .f32⟩
  | .local _ .vmem, ⟨11, _⟩ => ⟨S512x1026, .f32⟩
  | .local _ .vmem, ⟨12, _⟩ => ⟨S512x1026, .f32⟩
  | .local _ .vmem, ⟨13, _⟩ => ⟨S512x1026, .f32⟩
  | .local _ .vmem, ⟨14, _⟩ => ⟨S512x1026, .f32⟩
  | .local _ .vmem, ⟨15, _⟩ => ⟨S512x1026, .f32⟩
  | .local _ .vmem, ⟨16, _⟩ => ⟨S512x1026, .f32⟩
  | .local _ .vmem, ⟨17, _⟩ => ⟨S512x1026, .f32⟩
  | .local _ .smem, ⟨0, _⟩ => ⟨S5, .i32⟩
  | _, _ => ⟨S1024x1026, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c2_i32 : BitVec 32 := 2#32
  let v1 : BitVec 32 := Scalar.muli v0 c2_i32
  let v2 : BitVec 32 := Scalar.subi arg0 v1
  let c0_i32 : BitVec 32 := 0#32
  let c1_i32 : BitVec 32 := 1#32
  let v3 : BitVec 32 := Scalar.maxsi c0_i32 v2
  let v4 : BitVec 32 := Scalar.minsi c1_i32 v3
  let c0_i32_0 : BitVec 32 := 0#32
  let c0_i32_1 : BitVec 32 := 0#32
  ![v4.toNat, c0_i32_0.toNat]

def cc0_transform_1 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c1_i32 : BitVec 32 := 1#32
  let v1 : BitVec 32 := Scalar.subi c1_i32 v0
  let c2_i32 : BitVec 32 := 2#32
  let v2 : BitVec 32 := Scalar.muli v1 c2_i32
  let v3 : BitVec 32 := Scalar.subi arg0 v2
  let c0_i32 : BitVec 32 := 0#32
  let c1_i32_0 : BitVec 32 := 1#32
  let v4 : BitVec 32 := Scalar.maxsi c0_i32 v3
  let v5 : BitVec 32 := Scalar.minsi c1_i32_0 v4
  let c0_i32_1 : BitVec 32 := 0#32
  let c0_i32_2 : BitVec 32 := 0#32
  ![v5.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1026 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1026 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1026 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1026 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1026 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1026 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1026 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1026 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1026 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference21Ideal.lean ====
abbrev S5 : Shape := ⟨1, ![5]⟩
abbrev S1024x1026 : Shape := ⟨2, ![1024, 1026]⟩
abbrev S2048x1026 : Shape := ⟨2, ![2048, 1026]⟩
abbrev S1 : Shape := ⟨1, ![1]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S5, .i32⟩
  | .hbm, ⟨1, _⟩ => ⟨S1024x1026, .f32⟩
  | .hbm, ⟨2, _⟩ => ⟨S1024x1026, .f32⟩
  | .hbm, ⟨3, _⟩ => ⟨S2048x1026, .f32⟩
  | .hbm, ⟨4, _⟩ => ⟨S2048x1026, .f32⟩
  | .hbm, ⟨5, _⟩ => ⟨S2048x1026, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1024x1026, .f32⟩
  | .hbm, ⟨11, _⟩ => ⟨S1024x1026, .f32⟩
  | .hbm, ⟨12, _⟩ => ⟨S2048x1026, .f32⟩
  | .hbm, ⟨13, _⟩ => ⟨S_, .f32⟩
  | .hbm, ⟨14, _⟩ => ⟨S2048x1026, .f32⟩
  | .hbm, ⟨15, _⟩ => ⟨S2048x1026, .f32⟩
  | .hbm, ⟨16, _⟩ => ⟨S_, .f32⟩
  | .hbm, ⟨17, _⟩ => ⟨S2048x1026, .f32⟩
  | .hbm, ⟨18, _⟩ => ⟨S2048x1026, .f32⟩
  | .hbm, ⟨19, _⟩ => ⟨S2048x1026, .f32⟩
  | .hbm, ⟨20, _⟩ => ⟨S_, .f32⟩
  | .hbm, ⟨21, _⟩ => ⟨S2048x1026, .f32⟩
  | .hbm, ⟨22, _⟩ => ⟨S2048x1026, .f32⟩
  | .hbm, ⟨23, _⟩ => ⟨S2048x1026, .f32⟩
  | .hbm, ⟨24, _⟩ => ⟨S_, .f32⟩
  | .hbm, ⟨25, _⟩ => ⟨S2048x1026, .f32⟩
  | .hbm, ⟨26, _⟩ => ⟨S2048x1026, .f32⟩
  | .hbm, ⟨27, _⟩ => ⟨S2048x1026, .f32⟩
  | .hbm, ⟨28, _⟩ => ⟨S_, .f32⟩
  | .hbm, ⟨29, _⟩ => ⟨S2048x1026, .f32⟩
  | .hbm, ⟨30, _⟩ => ⟨S2048x1026, .f32⟩
  | .hbm, ⟨31, _⟩ => ⟨S_, .f32⟩
  | .hbm, ⟨32, _⟩ => ⟨S2048x1026, .f32⟩
  | .hbm, ⟨33, _⟩ => ⟨S2048x1026, .f32⟩
  | .hbm, ⟨34, _⟩ => ⟨S2048x1026, .f32⟩
  | .hbm, ⟨35, _⟩ => ⟨S_, .f32⟩
  | .hbm, ⟨36, _⟩ => ⟨S2048x1026, .f32⟩
  | .hbm, ⟨37, _⟩ => ⟨S2048x1026, .f32⟩
  | .hbm, ⟨38, _⟩ => ⟨S2048x1026, .f32⟩
  | .hbm, ⟨39, _⟩ => ⟨S_, .f32⟩
  | .hbm, ⟨40, _⟩ => ⟨S2048x1026, .f32⟩
  | .hbm, ⟨41, _⟩ => ⟨S2048x1026, .f32⟩
  | .hbm, ⟨42, _⟩ => ⟨S2048x1026, .f32⟩
  | .hbm, ⟨43, _⟩ => ⟨S_, .f32⟩
  | .hbm, ⟨44, _⟩ => ⟨S2048x1026, .f32⟩
  | .hbm, ⟨45, _⟩ => ⟨S2048x1026, .f32⟩
  | _, _ => ⟨S5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel22.lean ====
abbrev S5 : Shape := ⟨1, ![5]⟩
abbrev S256x2048 : Shape := ⟨2, ![256, 2048]⟩
abbrev S512x2048 : Shape := ⟨2, ![512, 2048]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .smem, ⟨0, _⟩ => ⟨S5, .i32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c1_i32 : BitVec 32 := 1#32
  let v1 : BitVec 32 := Scalar.muli v0 c1_i32
  let v2 : BitVec 32 := Scalar.subi arg0 v1
  let c0_i32 : BitVec 32 := 0#32
  let c0_i32_0 : BitVec 32 := 0#32
  let v3 : BitVec 32 := Scalar.maxsi c0_i32 v2
  let v4 : BitVec 32 := Scalar.minsi c0_i32_0 v3
  let c0_i32_1 : BitVec 32 := 0#32
  let c0_i32_2 : BitVec 32 := 0#32
  ![v4.toNat, c0_i32_1.toNat]

def cc0_transform_1 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c1_i32 : BitVec 32 := 1#32
  let v1 : BitVec 32 := Scalar.subi c1_i32 v0
  let c1_i32_0 : BitVec 32 := 1#32
  let v2 : BitVec 32 := Scalar.muli v1 c1_i32_0
  let v3 : BitVec 32 := Scalar.subi arg0 v2
  let c0_i32 : BitVec 32 := 0#32
  let c0_i32_1 : BitVec 32 := 0#32
  let v4 : BitVec 32 := Scalar.maxsi c0_i32 v3
  let v5 : BitVec 32 := Scalar.minsi c0_i32_1 v4
  let c0_i32_2 : BitVec 32 := 0#32
  let c0_i32_3 : BitVec 32 := 0#32
  ![v5.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference22Ideal.lean ====
abbrev S5 : Shape := ⟨1, ![5]⟩
abbrev S256x2048 : Shape := ⟨2, ![256, 2048]⟩
abbrev S512x2048 : Shape := ⟨2, ![512, 2048]⟩
abbrev S1 : Shape := ⟨1, ![1]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S5, .i32⟩
  | .hbm, ⟨1, _⟩ => ⟨S256x2048, .f32⟩
  | .hbm, ⟨2, _⟩ => ⟨S256x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S256x2048, .f32⟩
  | .hbm, ⟨11, _⟩ => ⟨S256x2048, .f32⟩
  | .hbm, ⟨12, _⟩ => ⟨S512x2048, .f32⟩
  | .hbm, ⟨13, _⟩ => ⟨S_, .f32⟩
  | .hbm, ⟨14, _⟩ => ⟨S512x2048, .f32⟩
  | .hbm, ⟨15, _⟩ => ⟨S512x2048, .f32⟩
  | .hbm, ⟨16, _⟩ => ⟨S_, .f32⟩
  | .hbm, ⟨17, _⟩ => ⟨S512x2048, .f32⟩
  | .hbm, ⟨18, _⟩ => ⟨S512x2048, .f32⟩
  | .hbm, ⟨19, _⟩ => ⟨S512x2048, .f32⟩
  | .hbm, ⟨20, _⟩ => ⟨S_, .f32⟩
  | .hbm, ⟨21, _⟩ => ⟨S512x2048, .f32⟩
  | .hbm, ⟨22, _⟩ => ⟨S512x2048, .f32⟩
  | .hbm, ⟨23, _⟩ => ⟨S512x2048, .f32⟩
  | .hbm, ⟨24, _⟩ => ⟨S_, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S_, .f32⟩
  | .hbm, ⟨29, _⟩ => ⟨S512x2048, .f32⟩
  | .hbm, ⟨30, _⟩ => ⟨S512x2048, .f32⟩
  | .hbm, ⟨31, _⟩ => ⟨S_, .f32⟩
  | .hbm, ⟨32, _⟩ => ⟨S512x2048, .f32⟩
  | .hbm, ⟨33, _⟩ => ⟨S512x2048, .f32⟩
  | .hbm, ⟨34, _⟩ => ⟨S512x2048, .f32⟩
  | .hbm, ⟨35, _⟩ => ⟨S_, .f32⟩
  | .hbm, ⟨36, _⟩ => ⟨S512x2048, .f32⟩
  | .hbm, ⟨37, _⟩ => ⟨S512x2048, .f32⟩
  | .hbm, ⟨38, _⟩ => ⟨S512x2048, .f32⟩
  | .hbm, ⟨39, _⟩ => ⟨S_, .f32⟩
  | .hbm, ⟨40, _⟩ => ⟨S512x2048, .f32⟩
  | .hbm, ⟨41, _⟩ => ⟨S512x2048, .f32⟩
  | .hbm, ⟨42, _⟩ => ⟨S512x2048, .f32⟩
  | .hbm, ⟨43, _⟩ => ⟨S_, .f32⟩
  | .hbm, ⟨44, _⟩ => ⟨S512x2048, .f32⟩
  | .hbm, ⟨45, _⟩ => ⟨S512x2048, .f32⟩
  | _, _ => ⟨S5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel23.lean ====
abbrev S5 : Shape := ⟨1, ![5]⟩
abbrev S128x256 : Shape := ⟨2, ![128, 256]⟩
abbrev S256x256 : Shape := ⟨2, ![256, 256]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .smem, ⟨0, _⟩ => ⟨S5, .i32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c1_i32 : BitVec 32 := 1#32
  let v1 : BitVec 32 := Scalar.muli v0 c1_i32
  let v2 : BitVec 32 := Scalar.subi arg0 v1
  let c0_i32 : BitVec 32 := 0#32
  let c0_i32_0 : BitVec 32 := 0#32
  let v3 : BitVec 32 := Scalar.maxsi c0_i32 v2
  let v4 : BitVec 32 := Scalar.minsi c0_i32_0 v3
  let c0_i32_1 : BitVec 32 := 0#32
  let c0_i32_2 : BitVec 32 := 0#32
  ![v4.toNat, c0_i32_1.toNat]

def cc0_transform_1 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c1_i32 : BitVec 32 := 1#32
  let v1 : BitVec 32 := Scalar.subi c1_i32 v0
  let c1_i32_0 : BitVec 32 := 1#32
  let v2 : BitVec 32 := Scalar.muli v1 c1_i32_0
  let v3 : BitVec 32 := Scalar.subi arg0 v2
  let c0_i32 : BitVec 32 := 0#32
  let c0_i32_1 : BitVec 32 := 0#32
  let v4 : BitVec 32 := Scalar.maxsi c0_i32 v3
  let v5 : BitVec 32 := Scalar.minsi c0_i32_1 v4
  let c0_i32_2 : BitVec 32 := 0#32
  let c0_i32_3 : BitVec 32 := 0#32
  ![v5.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference23Ideal.lean ====
abbrev S5 : Shape := ⟨1, ![5]⟩
abbrev S128x256 : Shape := ⟨2, ![128, 256]⟩
abbrev S256x256 : Shape := ⟨2, ![256, 256]⟩
abbrev S1 : Shape := ⟨1, ![1]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S5, .i32⟩
  | .hbm, ⟨1, _⟩ => ⟨S128x256, .f32⟩
  | .hbm, ⟨2, _⟩ => ⟨S128x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S128x256, .f32⟩
  | .hbm, ⟨11, _⟩ => ⟨S128x256, .f32⟩
  | .hbm, ⟨12, _⟩ => ⟨S256x256, .f32⟩
  | .hbm, ⟨13, _⟩ => ⟨S_, .f32⟩
  | .hbm, ⟨14, _⟩ => ⟨S256x256, .f32⟩
  | .hbm, ⟨15, _⟩ => ⟨S256x256, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S_, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S_, .f32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S_, .f32⟩
  | .hbm, ⟨40, _⟩ => ⟨S256x256, .f32⟩
  | .hbm, ⟨41, _⟩ => ⟨S256x256, .f32⟩
  | .hbm, ⟨42, _⟩ => ⟨S256x256, .f32⟩
  | .hbm, ⟨43, _⟩ => ⟨S_, .f32⟩
  | .hbm, ⟨44, _⟩ => ⟨S256x256, .f32⟩
  | .hbm, ⟨45, _⟩ => ⟨S256x256, .f32⟩
  | _, _ => ⟨S5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Proof.Spec.lean ====
/-
  The gradient of causal attention with additive decay, over the real numbers: what both programs are proved to compute.
-/
module

public import Mathlib.Analysis.SpecialFunctions.Log.Basic
public import Mathlib.Algebra.BigOperators.Fin
public import Mathlib.Data.EReal.Inv

@[expose] public section

noncomputable section

open scoped BigOperators

namespace Cert.Spec

/-- Column `d` of head `h` in the packed layout of eight heads of 128 lanes. -/
def lane (h : Fin 8) (d : Fin 128) : Fin 1024 := ⟨h.val * 128 + d.val, by omega⟩

/-- The real data of the problem: queries, keys, values, the output's cotangent, the running sums of the log gates, and the
    scale of the scores. -/
structure Data where
  Q : Fin 2176 → Fin 1024 → ℝ
  K : Fin 2176 → Fin 1024 → ℝ
  V : Fin 2176 → Fin 1024 → ℝ
  D : Fin 2176 → Fin 1024 → ℝ
  C : Fin 8 → Fin 2176 → ℝ
  σ : ℝ

variable (a : Data)

/-- The score of query `i` against key `j` in head `h`. -/
def Data.score (h : Fin 8) (i j : Fin 2176) : ℝ :=
  (∑ d : Fin 128, a.Q i (lane h d) * a.K j (lane h d)) * a.σ + (a.C h i - a.C h j)

/-- The exponential of a score, nothing for a key after the query. -/
def Data.weight (h : Fin 8) (i j : Fin 2176) : ℝ := if j ≤ i then Real.exp (a.score h i j) else 0

/-- The sum of a query's weights. -/
def Data.total (h : Fin 8) (i : Fin 2176) : ℝ := ∑ j : Fin 2176, a.weight h i j

/-- The attention probability. -/
def Data.prob (h : Fin 8) (i j : Fin 2176) : ℝ := a.weight h i j / a.total h i

/-- The cotangent of a probability. -/
def Data.dprob (h : Fin 8) (i j : Fin 2176) : ℝ := ∑ d : Fin 128, a.D i (lane h d) * a.V j (lane h d)

/-- The row sum the softmax gradient subtracts. -/
def Data.delta (h : Fin 8) (i : Fin 2176) : ℝ := ∑ j : Fin 2176, a.prob h i j * a.dprob h i j

/-- The cotangent of a score. -/
def Data.dscore (h : Fin 8) (i j : Fin 2176) : ℝ := a.prob h i j * (a.dprob h i j - a.delta h i)

/-- The gradient of a query. -/
def Data.dq (h : Fin 8) (i : Fin 2176) (d : Fin 128) : ℝ := ∑ j : Fin 2176, a.dscore h i j * a.σ * a.K j (lane h d)

/-- The gradient of a running sum, as far as it enters through the query's side. -/
def Data.dcq (h : Fin 8) (i : Fin 2176) : ℝ := ∑ j : Fin 2176, a.dscore h i j

/-- The attention output. -/
def Data.out (h : Fin 8) (i : Fin 2176) (d : Fin 128) : ℝ := ∑ j : Fin 2176, a.prob h i j * a.V j (lane h d)

/-- A weight is not negative. -/
theorem Data.weight_nonneg (h : Fin 8) (i j : Fin 2176) : 0 ≤ a.weight h i j := by
  unfold Data.weight; split
  · exact (Real.exp_pos _).le
  · exact le_rfl

/-- Every query sees itself, so the sum of its weights is positive. -/
theorem Data.total_pos (h : Fin 8) (i : Fin 2176) : 0 < a.total h i := by
  refine Finset.sum_pos' (fun j _ => a.weight_nonneg h i j) ⟨i, Finset.mem_univ _, ?_⟩
  unfold Data.weight; rw [if_pos le_rfl]; exact Real.exp_pos _

/-- A key after the query has no probability. -/
theorem Data.prob_eq_zero (h : Fin 8) (i j : Fin 2176) (hj : ¬ j ≤ i) : a.prob h i j = 0 := by
  unfold Data.prob Data.weight; rw [if_neg hj, zero_div]

/-- A key after the query has no cotangent of its score. -/
theorem Data.dscore_eq_zero (h : Fin 8) (i j : Fin 2176) (hj : ¬ j ≤ i) : a.dscore h i j = 0 := by
  unfold Data.dscore; rw [a.prob_eq_zero h i j hj, zero_mul]

/-- The probability from the logarithm of the row's sum. -/
theorem Data.prob_eq_exp (h : Fin 8) (i j : Fin 2176) :
    a.prob h i j = if j ≤ i then Real.exp (a.score h i j - Real.log (a.total h i)) else 0 := by
  unfold Data.prob Data.weight
  split
  · rw [Real.exp_sub, Real.exp_log (a.total_pos h i)]
  · exact zero_div _

/-- The weights taken relative to any number `M`: their sum. -/
theorem Data.sum_shifted (h : Fin 8) (i : Fin 2176) (M : ℝ) :
    (∑ j : Fin 2176, if j ≤ i then Real.exp (a.score h i j - M) else 0) = a.total h i * Real.exp (-M) := by
  unfold Data.total; rw [Finset.sum_mul]
  refine Finset.sum_congr rfl fun j _ => ?_
  unfold Data.weight; split
  · rw [sub_eq_add_neg, Real.exp_add]
  · rw [zero_mul]

/-- The weights taken relative to any number `M`, over their sum, are the probabilities. -/
theorem Data.prob_eq_shifted (h : Fin 8) (i j : Fin 2176) (M : ℝ) :
    (if j ≤ i then Real.exp (a.score h i j - M) else 0) / (a.total h i * Real.exp (-M)) = a.prob h i j := by
  unfold Data.prob Data.weight; split
  · rw [sub_eq_add_neg, Real.exp_add, mul_div_mul_right _ _ (Real.exp_pos _).ne']
  · rw [zero_div, zero_div]

/-- The number `M` and the logarithm of the sum of the weights relative to it make the logarithm of the sum. -/
theorem Data.log_shifted (h : Fin 8) (i : Fin 2176) (M : ℝ) :
    M + Real.log (a.total h i * Real.exp (-M)) = Real.log (a.total h i) := by
  rw [Real.log_mul (a.total_pos h i).ne' (Real.exp_pos _).ne', Real.log_exp]; ring

/-- The row sum is also the output against its cotangent. -/
theorem Data.delta_eq_out (h : Fin 8) (i : Fin 2176) : ∑ d : Fin 128, a.D i (lane h d) * a.out h i d = a.delta h i := by
  unfold Data.out Data.delta Data.dprob
  simp only [Finset.mul_sum]
  rw [Finset.sum_comm]
  refine Finset.sum_congr rfl fun j _ => Finset.sum_congr rfl fun d _ => by ring

/-- A sum over the first `n` positions is the sum over all of them when nothing is left after the first `n`. -/
theorem sum_castLE {n : ℕ} (hn : n ≤ 2176) (f : Fin 2176 → ℝ) (hf : ∀ j : Fin 2176, n ≤ j.val → f j = 0) :
    ∑ c : Fin n, f (Fin.castLE hn c) = ∑ j : Fin 2176, f j := by
  refine Finset.sum_of_injOn (Fin.castLE hn) (fun _ _ _ _ e => Fin.castLE_injective hn e) (fun _ _ => Finset.mem_univ _)
    (fun j _ hj => hf j ?_) (fun _ _ => rfl)
  by_contra hlt
  exact hj ⟨⟨j.val, by omega⟩, by simp, Fin.ext rfl⟩

/-- A sum of real numbers read as extended reals. -/
theorem coe_sum {ι : Type} (s : Finset ι) (f : ι → ℝ) : ((∑ k ∈ s, f k : ℝ) : EReal) = ∑ k ∈ s, (f k : EReal) := by
  classical
  induction s using Finset.induction_on with
  | empty => simp
  | insert x s hx ih => rw [Finset.sum_insert hx, Finset.sum_insert hx, EReal.coe_add, ih]

end Cert.Spec
-- ==== Proof.Block.lean ====
/-
  One head's step of the query side of the gradient, on 128 query rows against the first `n` keys: what the kernel's
  operations compute, for every extent `n`.
-/
module

public import proofs.«01_k».proof.Proof.Spec
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.Value

@[expose] public section

noncomputable section

open Idealize.ShloMosaic Idealize.ShloMosaic.ValueIdx
open scoped BigOperators

namespace Cert.Block

/-- A matrix of extended reals. -/
abbrev Mat (a b : ℕ) (φ : FTy) := FVec Ideal ⟨2, ![a, b]⟩ φ

/-- The shape facts the operations of one step ask for. -/
structure Shapes (n : ℕ) : Prop where
  col : (⟨2, ![128, 1]⟩ : Shape).Broadcasts ⟨2, ![128, n]⟩
  row : (⟨2, ![1, n]⟩ : Shape).Broadcasts ⟨2, ![128, n]⟩
  castCol : (⟨3, ![1, 128, 1]⟩ : Shape).ShapeCasts ⟨2, ![128, 1]⟩
  castRow : (⟨3, ![1, 1, n]⟩ : Shape).ShapeCasts ⟨2, ![1, n]⟩
  red : (⟨2, ![128, n]⟩ : Shape).Reduces [1] ⟨1, ![128]⟩
  castVec : (⟨1, ![128]⟩ : Shape).ShapeCasts ⟨2, ![128, 1]⟩
  castSelf : (⟨2, ![128, 1]⟩ : Shape).ShapeCasts ⟨2, ![128, 1]⟩
  square : (⟨2, ![128, 1]⟩ : Shape).Broadcasts ⟨2, ![128, 128]⟩
  flip : (⟨2, ![128, 128]⟩ : Shape).Transposes [1, 0] ⟨2, ![128, 128]⟩
  top : (⟨2, ![128, 128]⟩ : Shape).Slices ![0, 0] ⟨2, ![1, 128]⟩
  upRow : (⟨2, ![1, 128]⟩ : Shape).ShapeCasts ⟨3, ![1, 1, 128]⟩
  upCol : (⟨2, ![128, 1]⟩ : Shape).ShapeCasts ⟨3, ![1, 128, 1]⟩

variable {n : ℕ} (H : Shapes n)

/-- The word of the scale of the scores. -/
abbrev scaleWord : BitVec 32 := 0x3DB504F3#32

/-- The product of rows with rows. -/
def prod (x : Mat 128 128 .bf16) (y : Mat n 128 .bf16) : Mat 128 n .f32 :=
  matmul (DotDims.transposedRhs 128 128 n) none x y (constant _ .f32 0x00000000#32)

/-- The scores before the causal selection. -/
def scores (k : Mat n 128 .bf16) (q : Mat 128 128 .bf16) (cq : FVec Ideal ⟨3, ![1, 128, 1]⟩ .f32)
    (ck : FVec Ideal ⟨3, ![1, 1, n]⟩ .f32) : Mat 128 n .f32 :=
  addf (mulf (prod q k) (broadcast _ (Scalar.ofBits .f32 scaleWord)))
    (subf (broadcastTo _ (shapeCast _ cq H.castCol) H.col) (broadcastTo _ (shapeCast _ ck H.castRow) H.row))

/-- The causal selection's condition. -/
def causal (rows : IVec ⟨2, ![128, 1]⟩ 32) (cols : IVec ⟨2, ![1, n]⟩ 32) : IVec ⟨2, ![128, n]⟩ 1 :=
  cmpi .sge (broadcastTo _ rows H.col) (broadcastTo _ cols H.row)

/-- The probabilities. -/
def probs (s : Mat 128 n .f32) (b : IVec ⟨2, ![128, n]⟩ 1) (mask : Ideal .f32) (l : FVec Ideal ⟨3, ![1, 128, 1]⟩ .f32) :
    Mat 128 n .f32 :=
  exp (subf (select b s (broadcast _ mask)) (broadcastTo _ (shapeCast ⟨2, ![128, 1]⟩ l H.castCol) H.col))

/-- The row sum of the probabilities against their cotangents. -/
def rowSum (p dp : Mat 128 n .f32) : Mat 128 1 .f32 :=
  shapeCast _ (multiReduction .add [1] ⟨1, ![128]⟩ (mulf p dp) 0x00000000#32 H.red (.inl rfl) rfl) H.castVec

/-- The cotangents of the scores. -/
def dscores (p dp : Mat 128 n .f32) : Mat 128 n .f32 := mulf p (subf dp (broadcastTo _ (rowSum H p dp) H.col))

/-- The gradient of the queries. -/
def dqs (k : Mat n 128 .bf16) (ds : Mat 128 n .f32) : Mat 128 128 .f32 :=
  matmul (DotDims.plain 128 n 128) none (truncf .bf16 (mulf ds (broadcast _ (Scalar.ofBits .f32 scaleWord))) (by decide)) k
    (constant _ .f32 0x00000000#32)

/-- A column turned into a row. -/
def asRow (x : Mat 128 1 .f32) : FVec Ideal ⟨3, ![1, 1, 128]⟩ .f32 :=
  shapeCast _ (extractStridedSlice ⟨2, ![1, 128]⟩ ![0, 0]
    (transpose ⟨2, ![128, 128]⟩ [1, 0] (broadcastTo ⟨2, ![128, 128]⟩ (shapeCast ⟨2, ![128, 1]⟩ x H.castSelf) H.square) H.flip)
    H.top) H.upRow

/-- The row sums of the scores' cotangents. -/
def dcqs (ds : Mat 128 n .f32) : FVec Ideal ⟨3, ![1, 128, 1]⟩ .f32 :=
  shapeCast _ (shapeCast ⟨2, ![128, 1]⟩
    (multiReduction .add [1] ⟨1, ![128]⟩ ds 0x00000000#32 H.red (.inl rfl) rfl) H.castVec) H.upCol

/-! ## The operations read at an index -/

/-- A column broadcast along the rows. -/
theorem broadcastCol_apply {α : Type} {m : ℕ} (v : (⟨2, ![128, 1]⟩ : Shape).Idx → α)
    (h : (⟨2, ![128, 1]⟩ : Shape).Broadcasts ⟨2, ![128, m]⟩) (r : Fin 128) (c : Fin m) :
    broadcastTo ⟨2, ![128, m]⟩ v h (ix2 r c) = v (ix2 r (0 : Fin 1)) :=
  broadcastTo_apply v h (ix2 r c) (ix2 r (0 : Fin 1)) fun ax => match ax with
    | ⟨0, _⟩ => rfl
    | ⟨1, _⟩ => rfl

/-- A row sum of a matrix. -/
theorem reduceRow_apply (x : Mat 128 n .f32) (h : (⟨2, ![128, n]⟩ : Shape).Reduces [1] ⟨1, ![128]⟩) (r : Fin 128) :
    multiReduction .add [1] ⟨1, ![128]⟩ x 0x00000000#32 h (.inl rfl) rfl (ix1 r) = ∑ c : Fin n, x (ix2 r c) := by
  refine (Ideal.multiReduction_add_single x 0x00000000#32 h (.inl rfl) rfl (ix1 r)).trans ?_
  refine Finset.sum_congr rfl fun c _ => congrArg x ?_
  funext ax
  match ax with
  | ⟨0, _⟩ => rfl
  | ⟨1, _⟩ => rfl

/-- The product of rows with rows read at an index. -/
theorem prod_apply (x : Mat 128 128 .bf16) (y : Mat n 128 .bf16) (r : Fin 128) (c : Fin n) :
    prod x y (ix2 r c) = ∑ d : Fin 128, x (ix2 r d) * y (ix2 c d) := by
  unfold prod
  rw [show matmul (DotDims.transposedRhs 128 128 n) none x y (constant _ .f32 0x00000000#32) (ix2 r c) = _ from
    Ideal.matmul_transposedRhs_apply none x y _ r c, constant_apply, Ideal.ofBits_zero_f32, zero_add]

/-- The scores read at an index. -/
theorem scores_apply (k : Mat n 128 .bf16) (q : Mat 128 128 .bf16) (cq : FVec Ideal ⟨3, ![1, 128, 1]⟩ .f32)
    (ck : FVec Ideal ⟨3, ![1, 1, n]⟩ .f32) (r : Fin 128) (c : Fin n) :
    scores H k q cq ck (ix2 r c) = (∑ d : Fin 128, q (ix2 r d) * k (ix2 c d)) * Ideal.ofBits .f32 scaleWord
      + (cq (ix3 (0 : Fin 1) r (0 : Fin 1)) - ck (ix3 (0 : Fin 1) (0 : Fin 1) c)) := by
  unfold scores
  rw [addf_apply, mulf_apply, subf_apply, prod_apply, broadcastCol_apply, broadcastTo_1b_ab_apply, shapeCast_1ab_ab_apply,
    shapeCast_1ab_ab_apply]
  rfl

/-- The probabilities read at an index. -/
theorem probs_apply (s : Mat 128 n .f32) (b : IVec ⟨2, ![128, n]⟩ 1) (mask : Ideal .f32)
    (l : FVec Ideal ⟨3, ![1, 128, 1]⟩ .f32) (r : Fin 128) (c : Fin n) :
    probs H s b mask l (ix2 r c)
      = Ideal.exp (Scalar.select (b (ix2 r c)) (s (ix2 r c)) mask - l (ix3 (0 : Fin 1) r (0 : Fin 1))) := by
  unfold probs
  rw [show ∀ x : Mat 128 n .f32, exp x (ix2 r c) = Ideal.exp (x (ix2 r c)) from fun _ => rfl,
    subf_apply, select_apply, broadcastCol_apply, shapeCast_1ab_ab_apply]
  rfl

/-- The row sums read at an index. -/
theorem rowSum_apply (p dp : Mat 128 n .f32) (r : Fin 128) (u : Fin 1) :
    rowSum H p dp (ix2 r u) = ∑ c : Fin n, p (ix2 r c) * dp (ix2 r c) := by
  unfold rowSum
  rw [shapeCast_a_a1_apply, reduceRow_apply]
  rfl

/-- The cotangents of the scores read at an index. -/
theorem dscores_apply (p dp : Mat 128 n .f32) (r : Fin 128) (c : Fin n) :
    dscores H p dp (ix2 r c) = p (ix2 r c) * (dp (ix2 r c) - ∑ c : Fin n, p (ix2 r c) * dp (ix2 r c)) := by
  unfold dscores
  rw [mulf_apply, subf_apply, broadcastCol_apply, rowSum_apply]

/-- The gradient of the queries read at an index. -/
theorem dqs_apply (k : Mat n 128 .bf16) (ds : Mat 128 n .f32) (r d : Fin 128) :
    dqs k ds (ix2 r d) = ∑ c : Fin n, ds (ix2 r c) * Ideal.ofBits .f32 scaleWord * k (ix2 c d) := by
  unfold dqs
  rw [show ∀ x : Mat 128 n .bf16, matmul (DotDims.plain 128 n 128) none x k (constant _ .f32 0x00000000#32) (ix2 r d) = _ from
    fun x => Ideal.matmul_plain_apply none x k _ r d, constant_apply, Ideal.ofBits_zero_f32, zero_add]
  rfl

/-- A column turned into a row, read at an index. -/
theorem asRow_apply (x : Mat 128 1 .f32) (u v : Fin 1) (c : Fin 128) : asRow H x (ix3 u v c) = x (ix2 c (0 : Fin 1)) := by
  unfold asRow
  have hv : v.val = 0 := by omega
  rw [shapeCast_ab_1ab_apply, extractStridedSlice_apply _ _ _ (ix2 v c) (ix2 (0 : Fin 128) c) (fun ax => match ax with
    | ⟨0, _⟩ => by show 0 = 0 + v.val; omega
    | ⟨1, _⟩ => by show c.val = 0 + c.val; omega), transpose_ix2_apply, broadcastCol_apply, shapeCast_self]

/-- The row sums of the scores' cotangents read at an index. -/
theorem dcqs_apply (ds : Mat 128 n .f32) (u v : Fin 1) (r : Fin 128) :
    dcqs H ds (ix3 u r v) = ∑ c : Fin n, ds (ix2 r c) := by
  unfold dcqs
  rw [shapeCast_ab_1ab_apply, shapeCast_a_a1_apply, reduceRow_apply]

end Cert.Block
-- ==== Proof.Step.lean ====
/-
  One head's step on real data: what the kernel's operations compute on 128 query rows and the first `n` keys is the
  gradient over all keys, because the rows see no key beyond the first `n`.
-/
module

public import proofs.«01_k».proof.Proof.Block

@[expose] public section

noncomputable section

open Idealize.ShloMosaic Idealize.ShloMosaic.ValueIdx
open scoped BigOperators

namespace Cert.Block

open Cert.Spec

/-- The scale of the scores as a real number: the value of its word. -/
def scaleReal : ℝ := 11863283 * (2 ^ 27)⁻¹

/-- The word of the scale is the word of that real number. -/
theorem ofBits_scale : Ideal.ofBits .f32 scaleWord = (scaleReal : EReal) := by
  simp [Ideal.ofBits, Ideal.ieee, scaleWord, FTy.bits, scaleReal]

/-- The blocks one head's step reads hold the data of the query rows `ρ` and of the first `n` keys. -/
structure Reads (a : Data) (h : Fin 8) {n : ℕ} (hn : n ≤ 2176) (ρ : Fin 128 → Fin 2176)
    (k v : Mat n 128 .bf16) (q d : Mat 128 128 .bf16) (cq : FVec Ideal ⟨3, ![1, 128, 1]⟩ .f32)
    (ck : FVec Ideal ⟨3, ![1, 1, n]⟩ .f32) (b : IVec ⟨2, ![128, n]⟩ 1) (mask : Ideal .f32)
    (l : FVec Ideal ⟨3, ![1, 128, 1]⟩ .f32) : Prop where
  last : ∀ r, (ρ r).val < n
  scale : a.σ = scaleReal
  k : ∀ c e, k (ix2 c e) = (a.K (Fin.castLE hn c) (lane h e) : EReal)
  v : ∀ c e, v (ix2 c e) = (a.V (Fin.castLE hn c) (lane h e) : EReal)
  q : ∀ r e, q (ix2 r e) = (a.Q (ρ r) (lane h e) : EReal)
  d : ∀ r e, d (ix2 r e) = (a.D (ρ r) (lane h e) : EReal)
  cq : ∀ r, cq (ix3 (0 : Fin 1) r (0 : Fin 1)) = (a.C h (ρ r) : EReal)
  ck : ∀ c, ck (ix3 (0 : Fin 1) (0 : Fin 1) c) = (a.C h (Fin.castLE hn c) : EReal)
  b : ∀ r c, b (ix2 r c) = if Fin.castLE hn c ≤ ρ r then 1#1 else 0#1
  mask : mask = ⊥
  l : ∀ r, l (ix3 (0 : Fin 1) r (0 : Fin 1)) = (Real.log (a.total h (ρ r)) : EReal)

variable {a : Data} {h : Fin 8} {n : ℕ} {hn : n ≤ 2176} {ρ : Fin 128 → Fin 2176}
  {k v : Mat n 128 .bf16} {q d : Mat 128 128 .bf16} {cq : FVec Ideal ⟨3, ![1, 128, 1]⟩ .f32}
  {ck : FVec Ideal ⟨3, ![1, 1, n]⟩ .f32} {b : IVec ⟨2, ![128, n]⟩ 1} {mask : Ideal .f32}
  {l : FVec Ideal ⟨3, ![1, 128, 1]⟩ .f32} (H : Shapes n) (E : Reads a h hn ρ k v q d cq ck b mask l)

include E

/-- The step's probabilities are the attention's. -/
theorem Reads.probs_eq (r : Fin 128) (c : Fin n) :
    probs H (scores H k q cq ck) b mask l (ix2 r c) = (a.prob h (ρ r) (Fin.castLE hn c) : EReal) := by
  rw [probs_apply, E.b, E.l, E.mask, a.prob_eq_exp]
  split
  · rw [select_one, scores_apply]
    simp only [E.q, E.k, E.cq, E.ck, ofBits_scale, ← EReal.coe_mul, ← coe_sum, ← EReal.coe_sub, ← EReal.coe_add, Ideal.exp_coe]
    unfold Data.score
    rw [E.scale]
  · rw [select_zero]
    rfl

/-- The step's cotangents of the probabilities are the attention's. -/
theorem Reads.prod_eq (r : Fin 128) (c : Fin n) :
    prod d v (ix2 r c) = (a.dprob h (ρ r) (Fin.castLE hn c) : EReal) := by
  rw [prod_apply]
  simp only [E.d, E.v, ← EReal.coe_mul, ← coe_sum]
  rfl

/-- A key the step does not read comes after the row. -/
theorem Reads.late (r : Fin 128) (j : Fin 2176) (hj : n ≤ j.val) : ¬ j ≤ ρ r := by
  have := E.last r
  intro h'
  have : j.val ≤ (ρ r).val := h'
  omega

/-- The step's sum over the keys it reads is the row sum over all keys. -/
theorem Reads.delta_sum (r : Fin 128) :
    (∑ c : Fin n, probs H (scores H k q cq ck) b mask l (ix2 r c) * prod d v (ix2 r c)) = (a.delta h (ρ r) : EReal) := by
  simp only [E.probs_eq H, E.prod_eq, ← EReal.coe_mul, ← coe_sum]
  rw [sum_castLE hn (fun j => a.prob h (ρ r) j * a.dprob h (ρ r) j)
    (fun j hj => by show a.prob h (ρ r) j * _ = 0; rw [a.prob_eq_zero h _ _ (E.late r j hj), zero_mul])]
  rfl

/-- The row sums as one head's step stores them. -/
theorem Reads.delta_eq (u w : Fin 1) (r : Fin 128) :
    asRow H (rowSum H (probs H (scores H k q cq ck) b mask l) (prod d v)) (ix3 u w r) = (a.delta h (ρ r) : EReal) := by
  rw [asRow_apply, rowSum_apply, E.delta_sum H]

/-- The step's cotangents of the scores are the attention's. -/
theorem Reads.dscores_eq (r : Fin 128) (c : Fin n) :
    dscores H (probs H (scores H k q cq ck) b mask l) (prod d v) (ix2 r c)
      = (a.dscore h (ρ r) (Fin.castLE hn c) : EReal) := by
  rw [dscores_apply, E.delta_sum H, E.probs_eq H, E.prod_eq, ← EReal.coe_sub, ← EReal.coe_mul]
  rfl

/-- The gradient of the queries as one head's step stores it. -/
theorem Reads.dq_eq (r e : Fin 128) :
    dqs k (dscores H (probs H (scores H k q cq ck) b mask l) (prod d v)) (ix2 r e) = (a.dq h (ρ r) e : EReal) := by
  rw [dqs_apply]
  simp only [E.dscores_eq H, E.k, ofBits_scale, ← E.scale, ← EReal.coe_mul, ← coe_sum]
  rw [sum_castLE hn (fun j => a.dscore h (ρ r) j * a.σ * a.K j (lane h e))
    (fun j hj => by show a.dscore h (ρ r) j * _ * _ = 0; rw [a.dscore_eq_zero h _ _ (E.late r j hj), zero_mul, zero_mul])]
  rfl

/-- The gradient of the running sums as one head's step stores it. -/
theorem Reads.dcq_eq (u w : Fin 1) (r : Fin 128) :
    dcqs H (dscores H (probs H (scores H k q cq ck) b mask l) (prod d v)) (ix3 u r w) = (a.dcq h (ρ r) : EReal) := by
  rw [dcqs_apply]
  simp only [E.dscores_eq H, ← coe_sum]
  rw [sum_castLE hn (fun j => a.dscore h (ρ r) j) (fun j hj => a.dscore_eq_zero h _ _ (E.late r j hj))]
  rfl

end Cert.Block
-- ==== Proof.Tile.lean ====
/-
  A grid point's input blocks on real data, and one head's step read off them. A block holds two heads side by side.
-/
module

public import proofs.«01_k».proof.Proof.Step
public import Idealize.ShloMosaic.Lib.Pipeline.ValueKit
public import Idealize.ShloMosaic.Lib.WordCmp

@[expose] public section

noncomputable section

open Idealize.ShloMosaic hiding ix0 ix1 ix2 ix3
open Idealize.ShloMosaic.ValueIdx
open scoped BigOperators

namespace Cert.Block

open Cert.Spec

/-- Column `e` of the block's head `p`. -/
def half (p : Fin 2) (e : Fin 128) : Fin 256 := ⟨p.val * 128 + e.val, by omega⟩

/-- The head a block's column belongs to. -/
def headOf (c : Fin 256) : Fin 2 := ⟨c.val / 128, by omega⟩

/-- A block's column within its head. -/
def laneOf (c : Fin 256) : Fin 128 := ⟨c.val % 128, by omega⟩

/-- The head of a column of a half. -/
theorem headOf_half (p : Fin 2) (e : Fin 128) : headOf (half p e) = p := Fin.ext (by simp only [headOf, half]; omega)
/-- The lane of a column of a half. -/
theorem laneOf_half (p : Fin 2) (e : Fin 128) : laneOf (half p e) = e := Fin.ext (by simp only [laneOf, half]; omega)

/-- The blocks a grid point reads hold the data of its two heads `g`, its 128 query rows `ρ` and all keys. -/
structure Tile (a : Data) (g : Fin 2 → Fin 8) (ρ : Fin 128 → Fin 2176)
    (x0 : Mat 128 256 .bf16) (x1 x2 : Mat 2176 256 .bf16) (x3 : Mat 128 256 .bf16)
    (x4 : FVec Ideal ⟨3, ![2, 128, 1]⟩ .f32) (x5 : FVec Ideal ⟨3, ![2, 1, 2176]⟩ .f32)
    (x6 : FVec Ideal ⟨3, ![2, 128, 1]⟩ .f32) : Prop where
  scale : a.σ = scaleReal
  q : ∀ p r e, x0 (ix2 r (half p e)) = (a.Q (ρ r) (lane (g p) e) : EReal)
  k : ∀ p j e, x1 (ix2 j (half p e)) = (a.K j (lane (g p) e) : EReal)
  v : ∀ p j e, x2 (ix2 j (half p e)) = (a.V j (lane (g p) e) : EReal)
  d : ∀ p r e, x3 (ix2 r (half p e)) = (a.D (ρ r) (lane (g p) e) : EReal)
  cq : ∀ p r, x4 (ix3 p r (0 : Fin 1)) = (a.C (g p) (ρ r) : EReal)
  ck : ∀ p j, x5 (ix3 p (0 : Fin 1) j) = (a.C (g p) j : EReal)
  l : ∀ p r, x6 (ix3 p r (0 : Fin 1)) = (Real.log (a.total (g p) (ρ r)) : EReal)

/-- The word of row `r` of row block `i`. -/
abbrev rowWord (i r : ℕ) : BitVec 32 := IntOp.addi (Scalar.muli (BitVec.ofNat 32 i) 128#32) (BitVec.ofNat 32 r)

/-- The causal comparison on words is the comparison of the positions. -/
theorem sge_word (i r j : ℕ) (hi : i < 17) (hr : r < 128) (hj : j < 2176) :
    IntOp.cmpi .sge (rowWord i r) (BitVec.ofNat 32 j) = if j ≤ i * 128 + r then 1#1 else 0#1 := by
  refine (WordCmp.cmpi_sge_mul_add_ofNat i 128 r j ?_ ?_).trans ?_
  · show _ < 2 ^ 31; omega
  · show _ < 2 ^ 31; omega
  · split <;> simp_all

variable {a : Data} {g : Fin 2 → Fin 8} {ρ : Fin 128 → Fin 2176}
  {x0 : Mat 128 256 .bf16} {x1 x2 : Mat 2176 256 .bf16} {x3 : Mat 128 256 .bf16}
  {x4 : FVec Ideal ⟨3, ![2, 128, 1]⟩ .f32} {x5 : FVec Ideal ⟨3, ![2, 1, 2176]⟩ .f32}
  {x6 : FVec Ideal ⟨3, ![2, 128, 1]⟩ .f32}

/-- The rows the block's `p`-th head's step loads hold that head's data. -/
theorem Tile.reads (T : Tile a g ρ x0 x1 x2 x3 x4 x5 x6) (p : Fin 2) {n : ℕ} (hn : n ≤ 2176) (H : Shapes n) (i : ℕ)
    (hρ : ∀ r, (ρ r).val = i * 128 + r.val) (hlast : i * 128 + 127 < n)
    (rows : IVec ⟨2, ![128, 1]⟩ 32) (cols : IVec ⟨2, ![1, n]⟩ 32)
    (hrows : ∀ r, rows (ix2 r (0 : Fin 1)) = rowWord i r.val) (hcols : ∀ c, cols (ix2 (0 : Fin 1) c) = BitVec.ofNat 32 c.val)
    (o2 : Fin 2 → ℕ) (ho2 : o2 = ![0, p.val * 128]) (o3 : Fin 3 → ℕ) (ho3 : o3 = ![p.val, 0, 0])
    (f0 f1 f2 f3 f4 f5 f6) (mask : Ideal .f32) (hmask : mask = ⊥) :
    Reads a (g p) hn ρ
      (View.ld (Val := Elt Ideal) (e' := .bf16) x1 (Rect.unit o2 ![n, 128] f1))
      (View.ld (Val := Elt Ideal) (e' := .bf16) x2 (Rect.unit o2 ![n, 128] f2))
      (View.ld (Val := Elt Ideal) (e' := .bf16) x0 (Rect.unit o2 ![128, 128] f0))
      (View.ld (Val := Elt Ideal) (e' := .bf16) x3 (Rect.unit o2 ![128, 128] f3))
      (View.ld (Val := Elt Ideal) (e' := .f32) x4 (Rect.unit o3 ![1, 128, 1] f4))
      (View.ld (Val := Elt Ideal) (e' := .f32) x5 (Rect.unit o3 ![1, 1, n] f5))
      (causal H rows cols) mask
      (View.ld (Val := Elt Ideal) (e' := .f32) x6 (Rect.unit o3 ![1, 128, 1] f6)) := by
  subst ho2 ho3
  have e2 : ∀ {m l : ℕ} (X : Mat m 256 .bf16) (hl : l ≤ m) (f) (r : Fin l) (e : Fin 128),
      View.ld (Val := Elt Ideal) (e' := .bf16) X (Rect.unit ![0, p.val * 128] ![l, 128] f) (ix2 r e)
        = X (ix2 (Fin.castLE hl r) (half p e)) := fun X hl f r e =>
    View.ld_unit_apply_of (Val := Elt Ideal) (e := .bf16) X _ _ f (ix2 r e) (ix2 (Fin.castLE hl r) (half p e)) fun ax => match ax with
      | ⟨0, _⟩ => (Nat.zero_add _).symm
      | ⟨1, _⟩ => rfl
  have e3 : ∀ {m u l w : ℕ} (X : FVec Ideal ⟨3, ![2, m, u]⟩ .f32) (hl : l ≤ m) (hw : w ≤ u) (f) (r : Fin l) (c : Fin w),
      View.ld (Val := Elt Ideal) (e' := .f32) X (Rect.unit ![p.val, 0, 0] ![1, l, w] f) (ix3 (0 : Fin 1) r c)
        = X (ix3 p (Fin.castLE hl r) (Fin.castLE hw c)) := fun X hl hw f r c =>
    View.ld_unit_apply_of (Val := Elt Ideal) (e := .f32) X _ _ f (ix3 (0 : Fin 1) r c) (ix3 p (Fin.castLE hl r) (Fin.castLE hw c)) fun ax => match ax with
      | ⟨0, _⟩ => rfl
      | ⟨1, _⟩ => (Nat.zero_add _).symm
      | ⟨2, _⟩ => (Nat.zero_add _).symm
  refine ⟨fun r => ?_, T.scale, fun c e => ?_, fun c e => ?_, fun r e => ?_, fun r e => ?_, fun r => ?_, fun c => ?_,
    fun r c => ?_, hmask, fun r => ?_⟩
  · rw [hρ]; omega
  · exact (e2 x1 hn f1 c e).trans (T.k p _ e)
  · exact (e2 x2 hn f2 c e).trans (T.v p _ e)
  · exact (e2 x0 le_rfl f0 r e).trans (T.q p _ e)
  · exact (e2 x3 le_rfl f3 r e).trans (T.d p _ e)
  · exact (e3 x4 le_rfl le_rfl f4 r 0).trans (T.cq p _)
  · exact (e3 x5 le_rfl hn f5 0 c).trans (T.ck p _)
  · have hi : i < 17 := by have := (ρ 127).isLt; rw [hρ] at this; simp at this; omega
    show IntOp.cmpi .sge (broadcastTo _ rows H.col (ix2 r c)) (broadcastTo _ cols H.row (ix2 r c)) = _
    rw [broadcastCol_apply, broadcastTo_1b_ab_apply, hrows, hcols, sge_word _ _ _ hi r.isLt (by omega)]
    simp only [Fin.le_def, hρ, Fin.val_castLE]
  · exact (e3 x6 le_rfl le_rfl f6 r 0).trans (T.l p _)

/-- The gradient of the queries on a block: two heads side by side. -/
def dqBlock (a : Data) (g : Fin 2 → Fin 8) (ρ : Fin 128 → Fin 2176) : FVec Ideal ⟨2, ![128, 256]⟩ .f32 :=
  fun y => (a.dq (g (headOf (y 1))) (ρ (y 0)) (laneOf (y 1)) : EReal)

/-- The row sums on a block, each head's a row. -/
def deltaBlock (a : Data) (g : Fin 2 → Fin 8) (ρ : Fin 128 → Fin 2176) : FVec Ideal ⟨3, ![2, 1, 128]⟩ .f32 :=
  fun y => (a.delta (g (y 0)) (ρ (y 2)) : EReal)

/-- The gradient of the running sums on a block, each head's a column. -/
def dcqBlock (a : Data) (g : Fin 2 → Fin 8) (ρ : Fin 128 → Fin 2176) : FVec Ideal ⟨3, ![2, 128, 1]⟩ .f32 :=
  fun y => (a.dcq (g (y 0)) (ρ (y 1)) : EReal)

section Stores

variable {p : Fin 2} {n : ℕ} {hn : n ≤ 2176} {k v : Mat n 128 .bf16} {q d : Mat 128 128 .bf16}
  {cq : FVec Ideal ⟨3, ![1, 128, 1]⟩ .f32} {ck : FVec Ideal ⟨3, ![1, 1, n]⟩ .f32} {b : IVec ⟨2, ![128, n]⟩ 1}
  {mask : Ideal .f32} {l : FVec Ideal ⟨3, ![1, 128, 1]⟩ .f32} (H : Shapes n)
  (E : Reads a (g p) hn ρ k v q d cq ck b mask l)

include E

/-- What the `p`-th head's step stores of the queries' gradient is its part of the block. -/
theorem Reads.dq_piece (o : Fin 2 → ℕ) (ho : o = ![0, p.val * 128]) (f) (x : (⟨2, ![128, 128]⟩ : Shape).Idx) :
    dqs k (dscores H (probs H (scores H k q cq ck) b mask l) (prod d v)) x
      = dqBlock a g ρ ((Rect.unit (s := ⟨2, ![128, 256]⟩) o ![128, 128] f).emb x) := by
  subst ho
  obtain ⟨r, e, rfl⟩ : ∃ (r : Fin 128) (e : Fin 128), x = ix2 r e := ⟨x 0, x 1, ValueIdx.eq_ix2 x⟩
  have h : (Rect.unit (s := ⟨2, ![128, 256]⟩) ![0, p.val * 128] ![128, 128] f).emb (ix2 r e) = ix2 r (half p e) :=
    (ValueIdx.eq_ix2 _).trans (congrArg₂ ix2
      (Fin.ext ((ValueKit.rect_emb_unit_val _ _ f (ix2 r e) 0).trans (Nat.zero_add _)))
      (Fin.ext (ValueKit.rect_emb_unit_val _ _ f (ix2 r e) 1)))
  rw [h, E.dq_eq H]
  exact congrArg₂ (fun h d => (a.dq (g h) (ρ r) d : EReal)) (headOf_half p e).symm (laneOf_half p e).symm

/-- What it stores of the row sums is its part of the block. -/
theorem Reads.delta_piece (o : Fin 3 → ℕ) (ho : o = ![p.val, 0, 0]) (f) (x : (⟨3, ![1, 1, 128]⟩ : Shape).Idx) :
    asRow H (rowSum H (probs H (scores H k q cq ck) b mask l) (prod d v)) x
      = deltaBlock a g ρ ((Rect.unit (s := ⟨3, ![2, 1, 128]⟩) o ![1, 1, 128] f).emb x) := by
  subst ho
  obtain ⟨u, w, r, rfl⟩ : ∃ (u : Fin 1) (w : Fin 1) (r : Fin 128), x = ix3 u w r := ⟨x 0, x 1, x 2, ValueIdx.eq_ix3 x⟩
  have h : (Rect.unit (s := ⟨3, ![2, 1, 128]⟩) ![p.val, 0, 0] ![1, 1, 128] f).emb (ix3 u w r) = ix3 p w r := by
    refine (ValueIdx.eq_ix3 _).trans ?_
    congr 1
    · exact Fin.ext ((ValueKit.rect_emb_unit_val _ _ f (ix3 u w r) 0).trans
        (by show p.val + u.val = p.val; omega))
    · exact Fin.ext ((ValueKit.rect_emb_unit_val _ _ f (ix3 u w r) 1).trans (Nat.zero_add _))
    · exact Fin.ext ((ValueKit.rect_emb_unit_val _ _ f (ix3 u w r) 2).trans (Nat.zero_add _))
  rw [h, E.delta_eq H]
  rfl

/-- What it stores of the running sums' gradient is its part of the block. -/
theorem Reads.dcq_piece (o : Fin 3 → ℕ) (ho : o = ![p.val, 0, 0]) (f) (x : (⟨3, ![1, 128, 1]⟩ : Shape).Idx) :
    dcqs H (dscores H (probs H (scores H k q cq ck) b mask l) (prod d v)) x
      = dcqBlock a g ρ ((Rect.unit (s := ⟨3, ![2, 128, 1]⟩) o ![1, 128, 1] f).emb x) := by
  subst ho
  obtain ⟨u, r, w, rfl⟩ : ∃ (u : Fin 1) (r : Fin 128) (w : Fin 1), x = ix3 u r w := ⟨x 0, x 1, x 2, ValueIdx.eq_ix3 x⟩
  have h : (Rect.unit (s := ⟨3, ![2, 128, 1]⟩) ![p.val, 0, 0] ![1, 128, 1] f).emb (ix3 u r w) = ix3 p r w := by
    refine (ValueIdx.eq_ix3 _).trans ?_
    congr 1
    · exact Fin.ext ((ValueKit.rect_emb_unit_val _ _ f (ix3 u r w) 0).trans
        (by show p.val + u.val = p.val; omega))
    · exact Fin.ext ((ValueKit.rect_emb_unit_val _ _ f (ix3 u r w) 1).trans (Nat.zero_add _))
    · exact Fin.ext ((ValueKit.rect_emb_unit_val _ _ f (ix3 u r w) 2).trans (Nat.zero_add _))
  rw [h, E.dcq_eq H]
  rfl

end Stores

end Cert.Block
-- ==== Proof.CaseA.lean ====
/-
  Case A of the query-side gradient kernel: the pieces its stores write, for the first 256 keys.
-/
module

public import proofs.«01_k».proof.Proof.Gen.KernelIdeal.Frame.RunA
public import proofs.«01_k».proof.Proof.Tile

@[expose] public section

set_option maxRecDepth 16384

noncomputable section

namespace Cert.KernelIdeal.Pieces

open Cert.KernelIdeal Cert.KernelIdeal.Gen Cert.Block Cert.Spec Idealize.SL.Sem Idealize.ShloMosaic.TcCoe
open Idealize.ShloMosaic hiding ix0 ix1 ix2 ix3
open Idealize.ShloMosaic.ValueIdx

/-- The shape facts of 256 keys. -/
theorem shapesA : Shapes 256 :=
  ⟨broadcasts_S128x1_S128x256, broadcasts_S1x256_S128x256, shapeCasts_S1x128x1_S128x1, shapeCasts_S1x1x256_S1x256,
    reduces_S128x256_S128, shapeCasts_S128_S128x1, shapeCasts_S128x1_S128x1, broadcasts_S128x1_S128x128,
    transposes_S128x128_p1_0_S128x128, slices_S128x128_o0_0_S1x128, shapeCasts_S1x128_S1x1x128, shapeCasts_S128x1_S1x128x1⟩

/-- Every piece the case writes holds the gradient's rows of its head. -/
theorem piecesA (c : Dev nD) (i : grid0.Coords) (arg2 : Memref sig .tc .vmem S128x256 .bf16) (harg2 : arg2.IsWhole) (arg3 : Memref sig .tc .vmem S2176x256 .bf16) (harg3 : arg3.IsWhole) (arg4 : Memref sig .tc .vmem S2176x256 .bf16) (harg4 : arg4.IsWhole) (arg5 : Memref sig .tc .vmem S128x256 .bf16) (harg5 : arg5.IsWhole) (arg6 : Memref sig .tc .vmem S2x128x1 .f32) (harg6 : arg6.IsWhole) (arg7 : Memref sig .tc .vmem S2x1x2176 .f32) (harg7 : arg7.IsWhole) (arg8 : Memref sig .tc .vmem S2x128x1 .f32) (harg8 : arg8.IsWhole) (arg9 : Memref sig .tc .vmem S128x256 .f32) (harg9 : arg9.IsWhole) (arg10 : Memref sig .tc .vmem S2x1x128 .f32) (harg10 : arg10.IsWhole) (arg11 : Memref sig .tc .vmem S2x128x1 .f32) (harg11 : arg11.IsWhole) (hc0 : cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec Ideal S128x256 .bf16) (x1 : Vec Ideal S2176x256 .bf16) (x2 : Vec Ideal S2176x256 .bf16) (x3 : Vec Ideal S128x256 .bf16) (x4 : Vec Ideal S2x128x1 .f32) (x5 : Vec Ideal S2x1x2176 .f32) (x6 : Vec Ideal S2x128x1 .f32)
    {a : Data} {g : Fin 2 → Fin 8} {ρ : Fin 128 → Fin 2176} (T : Tile a g ρ x0 x1 x2 x3 x4 x5 x6)
    (hρ : ∀ r, (ρ r).val = (i 1).val * 128 + r.val) (hlast : (i 1).val * 128 + 127 < 256) :
    (∀ p ∈ (kernelRun0_A c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).1, ∀ x : p.1.shape.Idx, p.2 x = dqBlock a g ρ (p.1.emb x))
    ∧ (∀ p ∈ (kernelRun0_A c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).2.1, ∀ x : p.1.shape.Idx, p.2 x = deltaBlock a g ρ (p.1.emb x))
    ∧ (∀ p ∈ (kernelRun0_A c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).2.2.1, ∀ x : p.1.shape.Idx, p.2 x = dcqBlock a g ρ (p.1.emb x)) := by
  unfold kernelRun0_A
  dsimp only
  sl_unfold_words
  simp only [View.readAt_eq_ld, harg2.read_unread, harg3.read_unread, harg4.read_unread, harg5.read_unread, harg6.read_unread, harg7.read_unread, harg8.read_unread]
  have hm : Named.named (F := Ideal) κ (φ := .f32) "mask" 0xF149F2CA#32 = ⊥ := rfl
  have hrows : ∀ r : Fin 128, k0_pay22 (BitVec.ofNat 32 (i 1).val) (ix2 r (0 : Fin 1)) = rowWord (i 1).val r.val := fun r =>
    congrArg (IntOp.addi _) (iota_single_apply .tc S128x1 32 0 iota_S128x1_d0_w32 (ix2 r (0 : Fin 1)))
  have hcols : ∀ c : Fin 256, iota .tc S1x256 32 [1] iota_S1x256_d1_w32 (ix2 (0 : Fin 1) c) = BitVec.ofNat 32 c.val := fun c =>
    iota_single_apply .tc S1x256 32 1 iota_S1x256_d1_w32 (ix2 (0 : Fin 1) c)
  have E0 := T.reads 0 (by decide) shapesA (i 1).val hρ hlast _ _ hrows hcols ![0, 0] rfl ![0, 0, 0] rfl
    inb_S128x256_S128x128_0_0 inb_S2176x256_S256x128_0_0 inb_S2176x256_S256x128_0_0 inb_S128x256_S128x128_0_0
    inb_S2x128x1_S1x128x1_0_0_0 inb_S2x1x2176_S1x1x256_0_0_0 inb_S2x128x1_S1x128x1_0_0_0 _ hm
  have E1 := T.reads 1 (by decide) shapesA (i 1).val hρ hlast _ _ hrows hcols ![0, 128] rfl ![1, 0, 0] rfl
    inb_S128x256_S128x128_0_128 inb_S2176x256_S256x128_0_128 inb_S2176x256_S256x128_0_128 inb_S128x256_S128x128_0_128
    inb_S2x128x1_S1x128x1_1_0_0 inb_S2x1x2176_S1x1x256_1_0_0 inb_S2x128x1_S1x128x1_1_0_0 _ hm
  refine ⟨fun p hp x => ?_, fun p hp x => ?_, fun p hp x => ?_⟩ <;>
    (simp only [List.mem_cons, List.mem_nil_iff, or_false] at hp; rcases hp with rfl | rfl)
  · exact E1.dq_piece shapesA ![0, 128] rfl inb_S128x256_S128x128_0_128 x
  · exact E0.dq_piece shapesA ![0, 0] rfl inb_S128x256_S128x128_0_0 x
  · exact E1.delta_piece shapesA ![1, 0, 0] rfl inb_S2x1x128_S1x1x128_1_0_0 x
  · exact E0.delta_piece shapesA ![0, 0, 0] rfl inb_S2x1x128_S1x1x128_0_0_0 x
  · exact E1.dcq_piece shapesA ![1, 0, 0] rfl inb_S2x128x1_S1x128x1_1_0_0 x
  · exact E0.dcq_piece shapesA ![0, 0, 0] rfl inb_S2x128x1_S1x128x1_0_0_0 x

end Cert.KernelIdeal.Pieces
-- ==== Proof.CaseB.lean ====
/-
  Case B of the query-side gradient kernel: the pieces its stores write, for the first 512 keys.
-/
module

public import proofs.«01_k».proof.Proof.Gen.KernelIdeal.Frame.RunB
public import proofs.«01_k».proof.Proof.Tile

@[expose] public section

set_option maxRecDepth 16384

noncomputable section

namespace Cert.KernelIdeal.Pieces

open Cert.KernelIdeal Cert.KernelIdeal.Gen Cert.Block Cert.Spec Idealize.SL.Sem Idealize.ShloMosaic.TcCoe
open Idealize.ShloMosaic hiding ix0 ix1 ix2 ix3
open Idealize.ShloMosaic.ValueIdx

/-- The shape facts of 512 keys. -/
theorem shapesB : Shapes 512 :=
  ⟨broadcasts_S128x1_S128x512, broadcasts_S1x512_S128x512, shapeCasts_S1x128x1_S128x1, shapeCasts_S1x1x512_S1x512,
    reduces_S128x512_S128, shapeCasts_S128_S128x1, shapeCasts_S128x1_S128x1, broadcasts_S128x1_S128x128,
    transposes_S128x128_p1_0_S128x128, slices_S128x128_o0_0_S1x128, shapeCasts_S1x128_S1x1x128, shapeCasts_S128x1_S1x128x1⟩

/-- Every piece the case writes holds the gradient's rows of its head. -/
theorem piecesB (c : Dev nD) (i : grid0.Coords) (arg2 : Memref sig .tc .vmem S128x256 .bf16) (harg2 : arg2.IsWhole) (arg3 : Memref sig .tc .vmem S2176x256 .bf16) (harg3 : arg3.IsWhole) (arg4 : Memref sig .tc .vmem S2176x256 .bf16) (harg4 : arg4.IsWhole) (arg5 : Memref sig .tc .vmem S128x256 .bf16) (harg5 : arg5.IsWhole) (arg6 : Memref sig .tc .vmem S2x128x1 .f32) (harg6 : arg6.IsWhole) (arg7 : Memref sig .tc .vmem S2x1x2176 .f32) (harg7 : arg7.IsWhole) (arg8 : Memref sig .tc .vmem S2x128x1 .f32) (harg8 : arg8.IsWhole) (arg9 : Memref sig .tc .vmem S128x256 .f32) (harg9 : arg9.IsWhole) (arg10 : Memref sig .tc .vmem S2x1x128 .f32) (harg10 : arg10.IsWhole) (arg11 : Memref sig .tc .vmem S2x128x1 .f32) (harg11 : arg11.IsWhole) (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec Ideal S128x256 .bf16) (x1 : Vec Ideal S2176x256 .bf16) (x2 : Vec Ideal S2176x256 .bf16) (x3 : Vec Ideal S128x256 .bf16) (x4 : Vec Ideal S2x128x1 .f32) (x5 : Vec Ideal S2x1x2176 .f32) (x6 : Vec Ideal S2x128x1 .f32)
    {a : Data} {g : Fin 2 → Fin 8} {ρ : Fin 128 → Fin 2176} (T : Tile a g ρ x0 x1 x2 x3 x4 x5 x6)
    (hρ : ∀ r, (ρ r).val = (i 1).val * 128 + r.val) (hlast : (i 1).val * 128 + 127 < 512) :
    (∀ p ∈ (kernelRun0_B c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).1, ∀ x : p.1.shape.Idx, p.2 x = dqBlock a g ρ (p.1.emb x))
    ∧ (∀ p ∈ (kernelRun0_B c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).2.1, ∀ x : p.1.shape.Idx, p.2 x = deltaBlock a g ρ (p.1.emb x))
    ∧ (∀ p ∈ (kernelRun0_B c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).2.2.1, ∀ x : p.1.shape.Idx, p.2 x = dcqBlock a g ρ (p.1.emb x)) := by
  unfold kernelRun0_B
  dsimp only
  sl_unfold_words
  simp only [View.readAt_eq_ld, harg2.read_unread, harg3.read_unread, harg4.read_unread, harg5.read_unread, harg6.read_unread, harg7.read_unread, harg8.read_unread]
  have hm : Named.named (F := Ideal) κ (φ := .f32) "mask" 0xF149F2CA#32 = ⊥ := rfl
  have hrows : ∀ r : Fin 128, k0_pay32 (BitVec.ofNat 32 (i 1).val) (ix2 r (0 : Fin 1)) = rowWord (i 1).val r.val := fun r =>
    congrArg (IntOp.addi _) (iota_single_apply .tc S128x1 32 0 iota_S128x1_d0_w32 (ix2 r (0 : Fin 1)))
  have hcols : ∀ c : Fin 512, iota .tc S1x512 32 [1] iota_S1x512_d1_w32 (ix2 (0 : Fin 1) c) = BitVec.ofNat 32 c.val := fun c =>
    iota_single_apply .tc S1x512 32 1 iota_S1x512_d1_w32 (ix2 (0 : Fin 1) c)
  have E0 := T.reads 0 (by decide) shapesB (i 1).val hρ hlast _ _ hrows hcols ![0, 0] rfl ![0, 0, 0] rfl
    inb_S128x256_S128x128_0_0 inb_S2176x256_S512x128_0_0 inb_S2176x256_S512x128_0_0 inb_S128x256_S128x128_0_0
    inb_S2x128x1_S1x128x1_0_0_0 inb_S2x1x2176_S1x1x512_0_0_0 inb_S2x128x1_S1x128x1_0_0_0 _ hm
  have E1 := T.reads 1 (by decide) shapesB (i 1).val hρ hlast _ _ hrows hcols ![0, 128] rfl ![1, 0, 0] rfl
    inb_S128x256_S128x128_0_128 inb_S2176x256_S512x128_0_128 inb_S2176x256_S512x128_0_128 inb_S128x256_S128x128_0_128
    inb_S2x128x1_S1x128x1_1_0_0 inb_S2x1x2176_S1x1x512_1_0_0 inb_S2x128x1_S1x128x1_1_0_0 _ hm
  refine ⟨fun p hp x => ?_, fun p hp x => ?_, fun p hp x => ?_⟩ <;>
    (simp only [List.mem_cons, List.mem_nil_iff, or_false] at hp; rcases hp with rfl | rfl)
  · exact E1.dq_piece shapesB ![0, 128] rfl inb_S128x256_S128x128_0_128 x
  · exact E0.dq_piece shapesB ![0, 0] rfl inb_S128x256_S128x128_0_0 x
  · exact E1.delta_piece shapesB ![1, 0, 0] rfl inb_S2x1x128_S1x1x128_1_0_0 x
  · exact E0.delta_piece shapesB ![0, 0, 0] rfl inb_S2x1x128_S1x1x128_0_0_0 x
  · exact E1.dcq_piece shapesB ![1, 0, 0] rfl inb_S2x128x1_S1x128x1_1_0_0 x
  · exact E0.dcq_piece shapesB ![0, 0, 0] rfl inb_S2x128x1_S1x128x1_0_0_0 x

end Cert.KernelIdeal.Pieces
-- ==== Proof.CaseC.lean ====
/-
  Case C of the query-side gradient kernel: the pieces its stores write, for the first 768 keys.
-/
module

public import proofs.«01_k».proof.Proof.Gen.KernelIdeal.Frame.RunC
public import proofs.«01_k».proof.Proof.Tile

@[expose] public section

set_option maxRecDepth 16384

noncomputable section

namespace Cert.KernelIdeal.Pieces

open Cert.KernelIdeal Cert.KernelIdeal.Gen Cert.Block Cert.Spec Idealize.SL.Sem Idealize.ShloMosaic.TcCoe
open Idealize.ShloMosaic hiding ix0 ix1 ix2 ix3
open Idealize.ShloMosaic.ValueIdx

/-- The shape facts of 768 keys. -/
theorem shapesC : Shapes 768 :=
  ⟨broadcasts_S128x1_S128x768, broadcasts_S1x768_S128x768, shapeCasts_S1x128x1_S128x1, shapeCasts_S1x1x768_S1x768,
    reduces_S128x768_S128, shapeCasts_S128_S128x1, shapeCasts_S128x1_S128x1, broadcasts_S128x1_S128x128,
    transposes_S128x128_p1_0_S128x128, slices_S128x128_o0_0_S1x128, shapeCasts_S1x128_S1x1x128, shapeCasts_S128x1_S1x128x1⟩

/-- Every piece the case writes holds the gradient's rows of its head. -/
theorem piecesC (c : Dev nD) (i : grid0.Coords) (arg2 : Memref sig .tc .vmem S128x256 .bf16) (harg2 : arg2.IsWhole) (arg3 : Memref sig .tc .vmem S2176x256 .bf16) (harg3 : arg3.IsWhole) (arg4 : Memref sig .tc .vmem S2176x256 .bf16) (harg4 : arg4.IsWhole) (arg5 : Memref sig .tc .vmem S128x256 .bf16) (harg5 : arg5.IsWhole) (arg6 : Memref sig .tc .vmem S2x128x1 .f32) (harg6 : arg6.IsWhole) (arg7 : Memref sig .tc .vmem S2x1x2176 .f32) (harg7 : arg7.IsWhole) (arg8 : Memref sig .tc .vmem S2x128x1 .f32) (harg8 : arg8.IsWhole) (arg9 : Memref sig .tc .vmem S128x256 .f32) (harg9 : arg9.IsWhole) (arg10 : Memref sig .tc .vmem S2x1x128 .f32) (harg10 : arg10.IsWhole) (arg11 : Memref sig .tc .vmem S2x128x1 .f32) (harg11 : arg11.IsWhole) (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i) (hc8 : ¬cond0_8 i)
    (x0 : Vec Ideal S128x256 .bf16) (x1 : Vec Ideal S2176x256 .bf16) (x2 : Vec Ideal S2176x256 .bf16) (x3 : Vec Ideal S128x256 .bf16) (x4 : Vec Ideal S2x128x1 .f32) (x5 : Vec Ideal S2x1x2176 .f32) (x6 : Vec Ideal S2x128x1 .f32)
    {a : Data} {g : Fin 2 → Fin 8} {ρ : Fin 128 → Fin 2176} (T : Tile a g ρ x0 x1 x2 x3 x4 x5 x6)
    (hρ : ∀ r, (ρ r).val = (i 1).val * 128 + r.val) (hlast : (i 1).val * 128 + 127 < 768) :
    (∀ p ∈ (kernelRun0_C c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).1, ∀ x : p.1.shape.Idx, p.2 x = dqBlock a g ρ (p.1.emb x))
    ∧ (∀ p ∈ (kernelRun0_C c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).2.1, ∀ x : p.1.shape.Idx, p.2 x = deltaBlock a g ρ (p.1.emb x))
    ∧ (∀ p ∈ (kernelRun0_C c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).2.2.1, ∀ x : p.1.shape.Idx, p.2 x = dcqBlock a g ρ (p.1.emb x)) := by
  unfold kernelRun0_C
  dsimp only
  sl_unfold_words
  simp only [View.readAt_eq_ld, harg2.read_unread, harg3.read_unread, harg4.read_unread, harg5.read_unread, harg6.read_unread, harg7.read_unread, harg8.read_unread]
  have hm : Named.named (F := Ideal) κ (φ := .f32) "mask" 0xF149F2CA#32 = ⊥ := rfl
  have hrows : ∀ r : Fin 128, k0_pay42 (BitVec.ofNat 32 (i 1).val) (ix2 r (0 : Fin 1)) = rowWord (i 1).val r.val := fun r =>
    congrArg (IntOp.addi _) (iota_single_apply .tc S128x1 32 0 iota_S128x1_d0_w32 (ix2 r (0 : Fin 1)))
  have hcols : ∀ c : Fin 768, iota .tc S1x768 32 [1] iota_S1x768_d1_w32 (ix2 (0 : Fin 1) c) = BitVec.ofNat 32 c.val := fun c =>
    iota_single_apply .tc S1x768 32 1 iota_S1x768_d1_w32 (ix2 (0 : Fin 1) c)
  have E0 := T.reads 0 (by decide) shapesC (i 1).val hρ hlast _ _ hrows hcols ![0, 0] rfl ![0, 0, 0] rfl
    inb_S128x256_S128x128_0_0 inb_S2176x256_S768x128_0_0 inb_S2176x256_S768x128_0_0 inb_S128x256_S128x128_0_0
    inb_S2x128x1_S1x128x1_0_0_0 inb_S2x1x2176_S1x1x768_0_0_0 inb_S2x128x1_S1x128x1_0_0_0 _ hm
  have E1 := T.reads 1 (by decide) shapesC (i 1).val hρ hlast _ _ hrows hcols ![0, 128] rfl ![1, 0, 0] rfl
    inb_S128x256_S128x128_0_128 inb_S2176x256_S768x128_0_128 inb_S2176x256_S768x128_0_128 inb_S128x256_S128x128_0_128
    inb_S2x128x1_S1x128x1_1_0_0 inb_S2x1x2176_S1x1x768_1_0_0 inb_S2x128x1_S1x128x1_1_0_0 _ hm
  refine ⟨fun p hp x => ?_, fun p hp x => ?_, fun p hp x => ?_⟩ <;>
    (simp only [List.mem_cons, List.mem_nil_iff, or_false] at hp; rcases hp with rfl | rfl)
  · exact E1.dq_piece shapesC ![0, 128] rfl inb_S128x256_S128x128_0_128 x
  · exact E0.dq_piece shapesC ![0, 0] rfl inb_S128x256_S128x128_0_0 x
  · exact E1.delta_piece shapesC ![1, 0, 0] rfl inb_S2x1x128_S1x1x128_1_0_0 x
  · exact E0.delta_piece shapesC ![0, 0, 0] rfl inb_S2x1x128_S1x1x128_0_0_0 x
  · exact E1.dcq_piece shapesC ![1, 0, 0] rfl inb_S2x128x1_S1x128x1_1_0_0 x
  · exact E0.dcq_piece shapesC ![0, 0, 0] rfl inb_S2x128x1_S1x128x1_0_0_0 x

end Cert.KernelIdeal.Pieces
-- ==== Proof.CaseD.lean ====
/-
  Case D of the query-side gradient kernel: the pieces its stores write, for the first 1024 keys.
-/
module

public import proofs.«01_k».proof.Proof.Gen.KernelIdeal.Frame.RunD
public import proofs.«01_k».proof.Proof.Tile

@[expose] public section

set_option maxRecDepth 16384

noncomputable section

namespace Cert.KernelIdeal.Pieces

open Cert.KernelIdeal Cert.KernelIdeal.Gen Cert.Block Cert.Spec Idealize.SL.Sem Idealize.ShloMosaic.TcCoe
open Idealize.ShloMosaic hiding ix0 ix1 ix2 ix3
open Idealize.ShloMosaic.ValueIdx

/-- The shape facts of 1024 keys. -/
theorem shapesD : Shapes 1024 :=
  ⟨broadcasts_S128x1_S128x1024, broadcasts_S1x1024_S128x1024, shapeCasts_S1x128x1_S128x1, shapeCasts_S1x1x1024_S1x1024,
    reduces_S128x1024_S128, shapeCasts_S128_S128x1, shapeCasts_S128x1_S128x1, broadcasts_S128x1_S128x128,
    transposes_S128x128_p1_0_S128x128, slices_S128x128_o0_0_S1x128, shapeCasts_S1x128_S1x1x128, shapeCasts_S128x1_S1x128x1⟩

/-- Every piece the case writes holds the gradient's rows of its head. -/
theorem piecesD (c : Dev nD) (i : grid0.Coords) (arg2 : Memref sig .tc .vmem S128x256 .bf16) (harg2 : arg2.IsWhole) (arg3 : Memref sig .tc .vmem S2176x256 .bf16) (harg3 : arg3.IsWhole) (arg4 : Memref sig .tc .vmem S2176x256 .bf16) (harg4 : arg4.IsWhole) (arg5 : Memref sig .tc .vmem S128x256 .bf16) (harg5 : arg5.IsWhole) (arg6 : Memref sig .tc .vmem S2x128x1 .f32) (harg6 : arg6.IsWhole) (arg7 : Memref sig .tc .vmem S2x1x2176 .f32) (harg7 : arg7.IsWhole) (arg8 : Memref sig .tc .vmem S2x128x1 .f32) (harg8 : arg8.IsWhole) (arg9 : Memref sig .tc .vmem S128x256 .f32) (harg9 : arg9.IsWhole) (arg10 : Memref sig .tc .vmem S2x1x128 .f32) (harg10 : arg10.IsWhole) (arg11 : Memref sig .tc .vmem S2x128x1 .f32) (harg11 : arg11.IsWhole) (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i) (hc8 : ¬cond0_8 i)
    (x0 : Vec Ideal S128x256 .bf16) (x1 : Vec Ideal S2176x256 .bf16) (x2 : Vec Ideal S2176x256 .bf16) (x3 : Vec Ideal S128x256 .bf16) (x4 : Vec Ideal S2x128x1 .f32) (x5 : Vec Ideal S2x1x2176 .f32) (x6 : Vec Ideal S2x128x1 .f32)
    {a : Data} {g : Fin 2 → Fin 8} {ρ : Fin 128 → Fin 2176} (T : Tile a g ρ x0 x1 x2 x3 x4 x5 x6)
    (hρ : ∀ r, (ρ r).val = (i 1).val * 128 + r.val) (hlast : (i 1).val * 128 + 127 < 1024) :
    (∀ p ∈ (kernelRun0_D c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).1, ∀ x : p.1.shape.Idx, p.2 x = dqBlock a g ρ (p.1.emb x))
    ∧ (∀ p ∈ (kernelRun0_D c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).2.1, ∀ x : p.1.shape.Idx, p.2 x = deltaBlock a g ρ (p.1.emb x))
    ∧ (∀ p ∈ (kernelRun0_D c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).2.2.1, ∀ x : p.1.shape.Idx, p.2 x = dcqBlock a g ρ (p.1.emb x)) := by
  unfold kernelRun0_D
  dsimp only
  sl_unfold_words
  simp only [View.readAt_eq_ld, harg2.read_unread, harg3.read_unread, harg4.read_unread, harg5.read_unread, harg6.read_unread, harg7.read_unread, harg8.read_unread]
  have hm : Named.named (F := Ideal) κ (φ := .f32) "mask" 0xF149F2CA#32 = ⊥ := rfl
  have hrows : ∀ r : Fin 128, k0_pay52 (BitVec.ofNat 32 (i 1).val) (ix2 r (0 : Fin 1)) = rowWord (i 1).val r.val := fun r =>
    congrArg (IntOp.addi _) (iota_single_apply .tc S128x1 32 0 iota_S128x1_d0_w32 (ix2 r (0 : Fin 1)))
  have hcols : ∀ c : Fin 1024, iota .tc S1x1024 32 [1] iota_S1x1024_d1_w32 (ix2 (0 : Fin 1) c) = BitVec.ofNat 32 c.val := fun c =>
    iota_single_apply .tc S1x1024 32 1 iota_S1x1024_d1_w32 (ix2 (0 : Fin 1) c)
  have E0 := T.reads 0 (by decide) shapesD (i 1).val hρ hlast _ _ hrows hcols ![0, 0] rfl ![0, 0, 0] rfl
    inb_S128x256_S128x128_0_0 inb_S2176x256_S1024x128_0_0 inb_S2176x256_S1024x128_0_0 inb_S128x256_S128x128_0_0
    inb_S2x128x1_S1x128x1_0_0_0 inb_S2x1x2176_S1x1x1024_0_0_0 inb_S2x128x1_S1x128x1_0_0_0 _ hm
  have E1 := T.reads 1 (by decide) shapesD (i 1).val hρ hlast _ _ hrows hcols ![0, 128] rfl ![1, 0, 0] rfl
    inb_S128x256_S128x128_0_128 inb_S2176x256_S1024x128_0_128 inb_S2176x256_S1024x128_0_128 inb_S128x256_S128x128_0_128
    inb_S2x128x1_S1x128x1_1_0_0 inb_S2x1x2176_S1x1x1024_1_0_0 inb_S2x128x1_S1x128x1_1_0_0 _ hm
  refine ⟨fun p hp x => ?_, fun p hp x => ?_, fun p hp x => ?_⟩ <;>
    (simp only [List.mem_cons, List.mem_nil_iff, or_false] at hp; rcases hp with rfl | rfl)
  · exact E1.dq_piece shapesD ![0, 128] rfl inb_S128x256_S128x128_0_128 x
  · exact E0.dq_piece shapesD ![0, 0] rfl inb_S128x256_S128x128_0_0 x
  · exact E1.delta_piece shapesD ![1, 0, 0] rfl inb_S2x1x128_S1x1x128_1_0_0 x
  · exact E0.delta_piece shapesD ![0, 0, 0] rfl inb_S2x1x128_S1x1x128_0_0_0 x
  · exact E1.dcq_piece shapesD ![1, 0, 0] rfl inb_S2x128x1_S1x128x1_1_0_0 x
  · exact E0.dcq_piece shapesD ![0, 0, 0] rfl inb_S2x128x1_S1x128x1_0_0_0 x

end Cert.KernelIdeal.Pieces
-- ==== Proof.CaseE.lean ====
/-
  Case E of the query-side gradient kernel: the pieces its stores write, for the first 1280 keys.
-/
module

public import proofs.«01_k».proof.Proof.Gen.KernelIdeal.Frame.RunE
public import proofs.«01_k».proof.Proof.Tile

@[expose] public section

set_option maxRecDepth 16384

noncomputable section

namespace Cert.KernelIdeal.Pieces

open Cert.KernelIdeal Cert.KernelIdeal.Gen Cert.Block Cert.Spec Idealize.SL.Sem Idealize.ShloMosaic.TcCoe
open Idealize.ShloMosaic hiding ix0 ix1 ix2 ix3
open Idealize.ShloMosaic.ValueIdx

/-- The shape facts of 1280 keys. -/
theorem shapesE : Shapes 1280 :=
  ⟨broadcasts_S128x1_S128x1280, broadcasts_S1x1280_S128x1280, shapeCasts_S1x128x1_S128x1, shapeCasts_S1x1x1280_S1x1280,
    reduces_S128x1280_S128, shapeCasts_S128_S128x1, shapeCasts_S128x1_S128x1, broadcasts_S128x1_S128x128,
    transposes_S128x128_p1_0_S128x128, slices_S128x128_o0_0_S1x128, shapeCasts_S1x128_S1x1x128, shapeCasts_S128x1_S1x128x1⟩

/-- Every piece the case writes holds the gradient's rows of its head. -/
theorem piecesE (c : Dev nD) (i : grid0.Coords) (arg2 : Memref sig .tc .vmem S128x256 .bf16) (harg2 : arg2.IsWhole) (arg3 : Memref sig .tc .vmem S2176x256 .bf16) (harg3 : arg3.IsWhole) (arg4 : Memref sig .tc .vmem S2176x256 .bf16) (harg4 : arg4.IsWhole) (arg5 : Memref sig .tc .vmem S128x256 .bf16) (harg5 : arg5.IsWhole) (arg6 : Memref sig .tc .vmem S2x128x1 .f32) (harg6 : arg6.IsWhole) (arg7 : Memref sig .tc .vmem S2x1x2176 .f32) (harg7 : arg7.IsWhole) (arg8 : Memref sig .tc .vmem S2x128x1 .f32) (harg8 : arg8.IsWhole) (arg9 : Memref sig .tc .vmem S128x256 .f32) (harg9 : arg9.IsWhole) (arg10 : Memref sig .tc .vmem S2x1x128 .f32) (harg10 : arg10.IsWhole) (arg11 : Memref sig .tc .vmem S2x128x1 .f32) (harg11 : arg11.IsWhole) (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i) (hc8 : ¬cond0_8 i)
    (x0 : Vec Ideal S128x256 .bf16) (x1 : Vec Ideal S2176x256 .bf16) (x2 : Vec Ideal S2176x256 .bf16) (x3 : Vec Ideal S128x256 .bf16) (x4 : Vec Ideal S2x128x1 .f32) (x5 : Vec Ideal S2x1x2176 .f32) (x6 : Vec Ideal S2x128x1 .f32)
    {a : Data} {g : Fin 2 → Fin 8} {ρ : Fin 128 → Fin 2176} (T : Tile a g ρ x0 x1 x2 x3 x4 x5 x6)
    (hρ : ∀ r, (ρ r).val = (i 1).val * 128 + r.val) (hlast : (i 1).val * 128 + 127 < 1280) :
    (∀ p ∈ (kernelRun0_E c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).1, ∀ x : p.1.shape.Idx, p.2 x = dqBlock a g ρ (p.1.emb x))
    ∧ (∀ p ∈ (kernelRun0_E c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).2.1, ∀ x : p.1.shape.Idx, p.2 x = deltaBlock a g ρ (p.1.emb x))
    ∧ (∀ p ∈ (kernelRun0_E c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).2.2.1, ∀ x : p.1.shape.Idx, p.2 x = dcqBlock a g ρ (p.1.emb x)) := by
  unfold kernelRun0_E
  dsimp only
  sl_unfold_words
  simp only [View.readAt_eq_ld, harg2.read_unread, harg3.read_unread, harg4.read_unread, harg5.read_unread, harg6.read_unread, harg7.read_unread, harg8.read_unread]
  have hm : Named.named (F := Ideal) κ (φ := .f32) "mask" 0xF149F2CA#32 = ⊥ := rfl
  have hrows : ∀ r : Fin 128, k0_pay62 (BitVec.ofNat 32 (i 1).val) (ix2 r (0 : Fin 1)) = rowWord (i 1).val r.val := fun r =>
    congrArg (IntOp.addi _) (iota_single_apply .tc S128x1 32 0 iota_S128x1_d0_w32 (ix2 r (0 : Fin 1)))
  have hcols : ∀ c : Fin 1280, iota .tc S1x1280 32 [1] iota_S1x1280_d1_w32 (ix2 (0 : Fin 1) c) = BitVec.ofNat 32 c.val := fun c =>
    iota_single_apply .tc S1x1280 32 1 iota_S1x1280_d1_w32 (ix2 (0 : Fin 1) c)
  have E0 := T.reads 0 (by decide) shapesE (i 1).val hρ hlast _ _ hrows hcols ![0, 0] rfl ![0, 0, 0] rfl
    inb_S128x256_S128x128_0_0 inb_S2176x256_S1280x128_0_0 inb_S2176x256_S1280x128_0_0 inb_S128x256_S128x128_0_0
    inb_S2x128x1_S1x128x1_0_0_0 inb_S2x1x2176_S1x1x1280_0_0_0 inb_S2x128x1_S1x128x1_0_0_0 _ hm
  have E1 := T.reads 1 (by decide) shapesE (i 1).val hρ hlast _ _ hrows hcols ![0, 128] rfl ![1, 0, 0] rfl
    inb_S128x256_S128x128_0_128 inb_S2176x256_S1280x128_0_128 inb_S2176x256_S1280x128_0_128 inb_S128x256_S128x128_0_128
    inb_S2x128x1_S1x128x1_1_0_0 inb_S2x1x2176_S1x1x1280_1_0_0 inb_S2x128x1_S1x128x1_1_0_0 _ hm
  refine ⟨fun p hp x => ?_, fun p hp x => ?_, fun p hp x => ?_⟩ <;>
    (simp only [List.mem_cons, List.mem_nil_iff, or_false] at hp; rcases hp with rfl | rfl)
  · exact E1.dq_piece shapesE ![0, 128] rfl inb_S128x256_S128x128_0_128 x
  · exact E0.dq_piece shapesE ![0, 0] rfl inb_S128x256_S128x128_0_0 x
  · exact E1.delta_piece shapesE ![1, 0, 0] rfl inb_S2x1x128_S1x1x128_1_0_0 x
  · exact E0.delta_piece shapesE ![0, 0, 0] rfl inb_S2x1x128_S1x1x128_0_0_0 x
  · exact E1.dcq_piece shapesE ![1, 0, 0] rfl inb_S2x128x1_S1x128x1_1_0_0 x
  · exact E0.dcq_piece shapesE ![0, 0, 0] rfl inb_S2x128x1_S1x128x1_0_0_0 x

end Cert.KernelIdeal.Pieces
-- ==== Proof.CaseF.lean ====
/-
  Case F of the query-side gradient kernel: the pieces its stores write, for the first 1536 keys.
-/
module

public import proofs.«01_k».proof.Proof.Gen.KernelIdeal.Frame.RunF
public import proofs.«01_k».proof.Proof.Tile

@[expose] public section

set_option maxRecDepth 16384

noncomputable section

namespace Cert.KernelIdeal.Pieces

open Cert.KernelIdeal Cert.KernelIdeal.Gen Cert.Block Cert.Spec Idealize.SL.Sem Idealize.ShloMosaic.TcCoe
open Idealize.ShloMosaic hiding ix0 ix1 ix2 ix3
open Idealize.ShloMosaic.ValueIdx

/-- The shape facts of 1536 keys. -/
theorem shapesF : Shapes 1536 :=
  ⟨broadcasts_S128x1_S128x1536, broadcasts_S1x1536_S128x1536, shapeCasts_S1x128x1_S128x1, shapeCasts_S1x1x1536_S1x1536,
    reduces_S128x1536_S128, shapeCasts_S128_S128x1, shapeCasts_S128x1_S128x1, broadcasts_S128x1_S128x128,
    transposes_S128x128_p1_0_S128x128, slices_S128x128_o0_0_S1x128, shapeCasts_S1x128_S1x1x128, shapeCasts_S128x1_S1x128x1⟩

/-- Every piece the case writes holds the gradient's rows of its head. -/
theorem piecesF (c : Dev nD) (i : grid0.Coords) (arg2 : Memref sig .tc .vmem S128x256 .bf16) (harg2 : arg2.IsWhole) (arg3 : Memref sig .tc .vmem S2176x256 .bf16) (harg3 : arg3.IsWhole) (arg4 : Memref sig .tc .vmem S2176x256 .bf16) (harg4 : arg4.IsWhole) (arg5 : Memref sig .tc .vmem S128x256 .bf16) (harg5 : arg5.IsWhole) (arg6 : Memref sig .tc .vmem S2x128x1 .f32) (harg6 : arg6.IsWhole) (arg7 : Memref sig .tc .vmem S2x1x2176 .f32) (harg7 : arg7.IsWhole) (arg8 : Memref sig .tc .vmem S2x128x1 .f32) (harg8 : arg8.IsWhole) (arg9 : Memref sig .tc .vmem S128x256 .f32) (harg9 : arg9.IsWhole) (arg10 : Memref sig .tc .vmem S2x1x128 .f32) (harg10 : arg10.IsWhole) (arg11 : Memref sig .tc .vmem S2x128x1 .f32) (harg11 : arg11.IsWhole) (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i) (hc8 : ¬cond0_8 i)
    (x0 : Vec Ideal S128x256 .bf16) (x1 : Vec Ideal S2176x256 .bf16) (x2 : Vec Ideal S2176x256 .bf16) (x3 : Vec Ideal S128x256 .bf16) (x4 : Vec Ideal S2x128x1 .f32) (x5 : Vec Ideal S2x1x2176 .f32) (x6 : Vec Ideal S2x128x1 .f32)
    {a : Data} {g : Fin 2 → Fin 8} {ρ : Fin 128 → Fin 2176} (T : Tile a g ρ x0 x1 x2 x3 x4 x5 x6)
    (hρ : ∀ r, (ρ r).val = (i 1).val * 128 + r.val) (hlast : (i 1).val * 128 + 127 < 1536) :
    (∀ p ∈ (kernelRun0_F c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).1, ∀ x : p.1.shape.Idx, p.2 x = dqBlock a g ρ (p.1.emb x))
    ∧ (∀ p ∈ (kernelRun0_F c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).2.1, ∀ x : p.1.shape.Idx, p.2 x = deltaBlock a g ρ (p.1.emb x))
    ∧ (∀ p ∈ (kernelRun0_F c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).2.2.1, ∀ x : p.1.shape.Idx, p.2 x = dcqBlock a g ρ (p.1.emb x)) := by
  unfold kernelRun0_F
  dsimp only
  sl_unfold_words
  simp only [View.readAt_eq_ld, harg2.read_unread, harg3.read_unread, harg4.read_unread, harg5.read_unread, harg6.read_unread, harg7.read_unread, harg8.read_unread]
  have hm : Named.named (F := Ideal) κ (φ := .f32) "mask" 0xF149F2CA#32 = ⊥ := rfl
  have hrows : ∀ r : Fin 128, k0_pay72 (BitVec.ofNat 32 (i 1).val) (ix2 r (0 : Fin 1)) = rowWord (i 1).val r.val := fun r =>
    congrArg (IntOp.addi _) (iota_single_apply .tc S128x1 32 0 iota_S128x1_d0_w32 (ix2 r (0 : Fin 1)))
  have hcols : ∀ c : Fin 1536, iota .tc S1x1536 32 [1] iota_S1x1536_d1_w32 (ix2 (0 : Fin 1) c) = BitVec.ofNat 32 c.val := fun c =>
    iota_single_apply .tc S1x1536 32 1 iota_S1x1536_d1_w32 (ix2 (0 : Fin 1) c)
  have E0 := T.reads 0 (by decide) shapesF (i 1).val hρ hlast _ _ hrows hcols ![0, 0] rfl ![0, 0, 0] rfl
    inb_S128x256_S128x128_0_0 inb_S2176x256_S1536x128_0_0 inb_S2176x256_S1536x128_0_0 inb_S128x256_S128x128_0_0
    inb_S2x128x1_S1x128x1_0_0_0 inb_S2x1x2176_S1x1x1536_0_0_0 inb_S2x128x1_S1x128x1_0_0_0 _ hm
  have E1 := T.reads 1 (by decide) shapesF (i 1).val hρ hlast _ _ hrows hcols ![0, 128] rfl ![1, 0, 0] rfl
    inb_S128x256_S128x128_0_128 inb_S2176x256_S1536x128_0_128 inb_S2176x256_S1536x128_0_128 inb_S128x256_S128x128_0_128
    inb_S2x128x1_S1x128x1_1_0_0 inb_S2x1x2176_S1x1x1536_1_0_0 inb_S2x128x1_S1x128x1_1_0_0 _ hm
  refine ⟨fun p hp x => ?_, fun p hp x => ?_, fun p hp x => ?_⟩ <;>
    (simp only [List.mem_cons, List.mem_nil_iff, or_false] at hp; rcases hp with rfl | rfl)
  · exact E1.dq_piece shapesF ![0, 128] rfl inb_S128x256_S128x128_0_128 x
  · exact E0.dq_piece shapesF ![0, 0] rfl inb_S128x256_S128x128_0_0 x
  · exact E1.delta_piece shapesF ![1, 0, 0] rfl inb_S2x1x128_S1x1x128_1_0_0 x
  · exact E0.delta_piece shapesF ![0, 0, 0] rfl inb_S2x1x128_S1x1x128_0_0_0 x
  · exact E1.dcq_piece shapesF ![1, 0, 0] rfl inb_S2x128x1_S1x128x1_1_0_0 x
  · exact E0.dcq_piece shapesF ![0, 0, 0] rfl inb_S2x128x1_S1x128x1_0_0_0 x

end Cert.KernelIdeal.Pieces
-- ==== Proof.CaseG.lean ====
/-
  Case G of the query-side gradient kernel: the pieces its stores write, for the first 1792 keys.
-/
module

public import proofs.«01_k».proof.Proof.Gen.KernelIdeal.Frame.RunG
public import proofs.«01_k».proof.Proof.Tile

@[expose] public section

set_option maxRecDepth 16384

noncomputable section

namespace Cert.KernelIdeal.Pieces

open Cert.KernelIdeal Cert.KernelIdeal.Gen Cert.Block Cert.Spec Idealize.SL.Sem Idealize.ShloMosaic.TcCoe
open Idealize.ShloMosaic hiding ix0 ix1 ix2 ix3
open Idealize.ShloMosaic.ValueIdx

/-- The shape facts of 1792 keys. -/
theorem shapesG : Shapes 1792 :=
  ⟨broadcasts_S128x1_S128x1792, broadcasts_S1x1792_S128x1792, shapeCasts_S1x128x1_S128x1, shapeCasts_S1x1x1792_S1x1792,
    reduces_S128x1792_S128, shapeCasts_S128_S128x1, shapeCasts_S128x1_S128x1, broadcasts_S128x1_S128x128,
    transposes_S128x128_p1_0_S128x128, slices_S128x128_o0_0_S1x128, shapeCasts_S1x128_S1x1x128, shapeCasts_S128x1_S1x128x1⟩

/-- Every piece the case writes holds the gradient's rows of its head. -/
theorem piecesG (c : Dev nD) (i : grid0.Coords) (arg2 : Memref sig .tc .vmem S128x256 .bf16) (harg2 : arg2.IsWhole) (arg3 : Memref sig .tc .vmem S2176x256 .bf16) (harg3 : arg3.IsWhole) (arg4 : Memref sig .tc .vmem S2176x256 .bf16) (harg4 : arg4.IsWhole) (arg5 : Memref sig .tc .vmem S128x256 .bf16) (harg5 : arg5.IsWhole) (arg6 : Memref sig .tc .vmem S2x128x1 .f32) (harg6 : arg6.IsWhole) (arg7 : Memref sig .tc .vmem S2x1x2176 .f32) (harg7 : arg7.IsWhole) (arg8 : Memref sig .tc .vmem S2x128x1 .f32) (harg8 : arg8.IsWhole) (arg9 : Memref sig .tc .vmem S128x256 .f32) (harg9 : arg9.IsWhole) (arg10 : Memref sig .tc .vmem S2x1x128 .f32) (harg10 : arg10.IsWhole) (arg11 : Memref sig .tc .vmem S2x128x1 .f32) (harg11 : arg11.IsWhole) (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i) (hc8 : ¬cond0_8 i)
    (x0 : Vec Ideal S128x256 .bf16) (x1 : Vec Ideal S2176x256 .bf16) (x2 : Vec Ideal S2176x256 .bf16) (x3 : Vec Ideal S128x256 .bf16) (x4 : Vec Ideal S2x128x1 .f32) (x5 : Vec Ideal S2x1x2176 .f32) (x6 : Vec Ideal S2x128x1 .f32)
    {a : Data} {g : Fin 2 → Fin 8} {ρ : Fin 128 → Fin 2176} (T : Tile a g ρ x0 x1 x2 x3 x4 x5 x6)
    (hρ : ∀ r, (ρ r).val = (i 1).val * 128 + r.val) (hlast : (i 1).val * 128 + 127 < 1792) :
    (∀ p ∈ (kernelRun0_G c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).1, ∀ x : p.1.shape.Idx, p.2 x = dqBlock a g ρ (p.1.emb x))
    ∧ (∀ p ∈ (kernelRun0_G c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).2.1, ∀ x : p.1.shape.Idx, p.2 x = deltaBlock a g ρ (p.1.emb x))
    ∧ (∀ p ∈ (kernelRun0_G c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).2.2.1, ∀ x : p.1.shape.Idx, p.2 x = dcqBlock a g ρ (p.1.emb x)) := by
  unfold kernelRun0_G
  dsimp only
  sl_unfold_words
  simp only [View.readAt_eq_ld, harg2.read_unread, harg3.read_unread, harg4.read_unread, harg5.read_unread, harg6.read_unread, harg7.read_unread, harg8.read_unread]
  have hm : Named.named (F := Ideal) κ (φ := .f32) "mask" 0xF149F2CA#32 = ⊥ := rfl
  have hrows : ∀ r : Fin 128, k0_pay82 (BitVec.ofNat 32 (i 1).val) (ix2 r (0 : Fin 1)) = rowWord (i 1).val r.val := fun r =>
    congrArg (IntOp.addi _) (iota_single_apply .tc S128x1 32 0 iota_S128x1_d0_w32 (ix2 r (0 : Fin 1)))
  have hcols : ∀ c : Fin 1792, iota .tc S1x1792 32 [1] iota_S1x1792_d1_w32 (ix2 (0 : Fin 1) c) = BitVec.ofNat 32 c.val := fun c =>
    iota_single_apply .tc S1x1792 32 1 iota_S1x1792_d1_w32 (ix2 (0 : Fin 1) c)
  have E0 := T.reads 0 (by decide) shapesG (i 1).val hρ hlast _ _ hrows hcols ![0, 0] rfl ![0, 0, 0] rfl
    inb_S128x256_S128x128_0_0 inb_S2176x256_S1792x128_0_0 inb_S2176x256_S1792x128_0_0 inb_S128x256_S128x128_0_0
    inb_S2x128x1_S1x128x1_0_0_0 inb_S2x1x2176_S1x1x1792_0_0_0 inb_S2x128x1_S1x128x1_0_0_0 _ hm
  have E1 := T.reads 1 (by decide) shapesG (i 1).val hρ hlast _ _ hrows hcols ![0, 128] rfl ![1, 0, 0] rfl
    inb_S128x256_S128x128_0_128 inb_S2176x256_S1792x128_0_128 inb_S2176x256_S1792x128_0_128 inb_S128x256_S128x128_0_128
    inb_S2x128x1_S1x128x1_1_0_0 inb_S2x1x2176_S1x1x1792_1_0_0 inb_S2x128x1_S1x128x1_1_0_0 _ hm
  refine ⟨fun p hp x => ?_, fun p hp x => ?_, fun p hp x => ?_⟩ <;>
    (simp only [List.mem_cons, List.mem_nil_iff, or_false] at hp; rcases hp with rfl | rfl)
  · exact E1.dq_piece shapesG ![0, 128] rfl inb_S128x256_S128x128_0_128 x
  · exact E0.dq_piece shapesG ![0, 0] rfl inb_S128x256_S128x128_0_0 x
  · exact E1.delta_piece shapesG ![1, 0, 0] rfl inb_S2x1x128_S1x1x128_1_0_0 x
  · exact E0.delta_piece shapesG ![0, 0, 0] rfl inb_S2x1x128_S1x1x128_0_0_0 x
  · exact E1.dcq_piece shapesG ![1, 0, 0] rfl inb_S2x128x1_S1x128x1_1_0_0 x
  · exact E0.dcq_piece shapesG ![0, 0, 0] rfl inb_S2x128x1_S1x128x1_0_0_0 x

end Cert.KernelIdeal.Pieces
-- ==== Proof.CaseH.lean ====
/-
  Case H of the query-side gradient kernel: the pieces its stores write, for the first 2048 keys.
-/
module

public import proofs.«01_k».proof.Proof.Gen.KernelIdeal.Frame.RunH
public import proofs.«01_k».proof.Proof.Tile

@[expose] public section

set_option maxRecDepth 16384

noncomputable section

namespace Cert.KernelIdeal.Pieces

open Cert.KernelIdeal Cert.KernelIdeal.Gen Cert.Block Cert.Spec Idealize.SL.Sem Idealize.ShloMosaic.TcCoe
open Idealize.ShloMosaic hiding ix0 ix1 ix2 ix3
open Idealize.ShloMosaic.ValueIdx

/-- The shape facts of 2048 keys. -/
theorem shapesH : Shapes 2048 :=
  ⟨broadcasts_S128x1_S128x2048, broadcasts_S1x2048_S128x2048, shapeCasts_S1x128x1_S128x1, shapeCasts_S1x1x2048_S1x2048,
    reduces_S128x2048_S128, shapeCasts_S128_S128x1, shapeCasts_S128x1_S128x1, broadcasts_S128x1_S128x128,
    transposes_S128x128_p1_0_S128x128, slices_S128x128_o0_0_S1x128, shapeCasts_S1x128_S1x1x128, shapeCasts_S128x1_S1x128x1⟩

/-- Every piece the case writes holds the gradient's rows of its head. -/
theorem piecesH (c : Dev nD) (i : grid0.Coords) (arg2 : Memref sig .tc .vmem S128x256 .bf16) (harg2 : arg2.IsWhole) (arg3 : Memref sig .tc .vmem S2176x256 .bf16) (harg3 : arg3.IsWhole) (arg4 : Memref sig .tc .vmem S2176x256 .bf16) (harg4 : arg4.IsWhole) (arg5 : Memref sig .tc .vmem S128x256 .bf16) (harg5 : arg5.IsWhole) (arg6 : Memref sig .tc .vmem S2x128x1 .f32) (harg6 : arg6.IsWhole) (arg7 : Memref sig .tc .vmem S2x1x2176 .f32) (harg7 : arg7.IsWhole) (arg8 : Memref sig .tc .vmem S2x128x1 .f32) (harg8 : arg8.IsWhole) (arg9 : Memref sig .tc .vmem S128x256 .f32) (harg9 : arg9.IsWhole) (arg10 : Memref sig .tc .vmem S2x1x128 .f32) (harg10 : arg10.IsWhole) (arg11 : Memref sig .tc .vmem S2x128x1 .f32) (harg11 : arg11.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i) (hc8 : ¬cond0_8 i)
    (x0 : Vec Ideal S128x256 .bf16) (x1 : Vec Ideal S2176x256 .bf16) (x2 : Vec Ideal S2176x256 .bf16) (x3 : Vec Ideal S128x256 .bf16) (x4 : Vec Ideal S2x128x1 .f32) (x5 : Vec Ideal S2x1x2176 .f32) (x6 : Vec Ideal S2x128x1 .f32)
    {a : Data} {g : Fin 2 → Fin 8} {ρ : Fin 128 → Fin 2176} (T : Tile a g ρ x0 x1 x2 x3 x4 x5 x6)
    (hρ : ∀ r, (ρ r).val = (i 1).val * 128 + r.val) (hlast : (i 1).val * 128 + 127 < 2048) :
    (∀ p ∈ (kernelRun0_H c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).1, ∀ x : p.1.shape.Idx, p.2 x = dqBlock a g ρ (p.1.emb x))
    ∧ (∀ p ∈ (kernelRun0_H c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).2.1, ∀ x : p.1.shape.Idx, p.2 x = deltaBlock a g ρ (p.1.emb x))
    ∧ (∀ p ∈ (kernelRun0_H c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).2.2.1, ∀ x : p.1.shape.Idx, p.2 x = dcqBlock a g ρ (p.1.emb x)) := by
  unfold kernelRun0_H
  dsimp only
  sl_unfold_words
  simp only [View.readAt_eq_ld, harg2.read_unread, harg3.read_unread, harg4.read_unread, harg5.read_unread, harg6.read_unread, harg7.read_unread, harg8.read_unread]
  have hm : Named.named (F := Ideal) κ (φ := .f32) "mask" 0xF149F2CA#32 = ⊥ := rfl
  have hrows : ∀ r : Fin 128, k0_pay92 (BitVec.ofNat 32 (i 1).val) (ix2 r (0 : Fin 1)) = rowWord (i 1).val r.val := fun r =>
    congrArg (IntOp.addi _) (iota_single_apply .tc S128x1 32 0 iota_S128x1_d0_w32 (ix2 r (0 : Fin 1)))
  have hcols : ∀ c : Fin 2048, iota .tc S1x2048 32 [1] iota_S1x2048_d1_w32 (ix2 (0 : Fin 1) c) = BitVec.ofNat 32 c.val := fun c =>
    iota_single_apply .tc S1x2048 32 1 iota_S1x2048_d1_w32 (ix2 (0 : Fin 1) c)
  have E0 := T.reads 0 (by decide) shapesH (i 1).val hρ hlast _ _ hrows hcols ![0, 0] rfl ![0, 0, 0] rfl
    inb_S128x256_S128x128_0_0 inb_S2176x256_S2048x128_0_0 inb_S2176x256_S2048x128_0_0 inb_S128x256_S128x128_0_0
    inb_S2x128x1_S1x128x1_0_0_0 inb_S2x1x2176_S1x1x2048_0_0_0 inb_S2x128x1_S1x128x1_0_0_0 _ hm
  have E1 := T.reads 1 (by decide) shapesH (i 1).val hρ hlast _ _ hrows hcols ![0, 128] rfl ![1, 0, 0] rfl
    inb_S128x256_S128x128_0_128 inb_S2176x256_S2048x128_0_128 inb_S2176x256_S2048x128_0_128 inb_S128x256_S128x128_0_128
    inb_S2x128x1_S1x128x1_1_0_0 inb_S2x1x2176_S1x1x2048_1_0_0 inb_S2x128x1_S1x128x1_1_0_0 _ hm
  refine ⟨fun p hp x => ?_, fun p hp x => ?_, fun p hp x => ?_⟩ <;>
    (simp only [List.mem_cons, List.mem_nil_iff, or_false] at hp; rcases hp with rfl | rfl)
  · exact E1.dq_piece shapesH ![0, 128] rfl inb_S128x256_S128x128_0_128 x
  · exact E0.dq_piece shapesH ![0, 0] rfl inb_S128x256_S128x128_0_0 x
  · exact E1.delta_piece shapesH ![1, 0, 0] rfl inb_S2x1x128_S1x1x128_1_0_0 x
  · exact E0.delta_piece shapesH ![0, 0, 0] rfl inb_S2x1x128_S1x1x128_0_0_0 x
  · exact E1.dcq_piece shapesH ![1, 0, 0] rfl inb_S2x128x1_S1x128x1_1_0_0 x
  · exact E0.dcq_piece shapesH ![0, 0, 0] rfl inb_S2x128x1_S1x128x1_0_0_0 x

end Cert.KernelIdeal.Pieces
-- ==== Proof.CaseI.lean ====
/-
  Case I of the query-side gradient kernel: the pieces its stores write, for the first 2176 keys.
-/
module

public import proofs.«01_k».proof.Proof.Gen.KernelIdeal.Frame.RunI
public import proofs.«01_k».proof.Proof.Tile

@[expose] public section

set_option maxRecDepth 16384

noncomputable section

namespace Cert.KernelIdeal.Pieces

open Cert.KernelIdeal Cert.KernelIdeal.Gen Cert.Block Cert.Spec Idealize.SL.Sem Idealize.ShloMosaic.TcCoe
open Idealize.ShloMosaic hiding ix0 ix1 ix2 ix3
open Idealize.ShloMosaic.ValueIdx

/-- The shape facts of 2176 keys. -/
theorem shapesI : Shapes 2176 :=
  ⟨broadcasts_S128x1_S128x2176, broadcasts_S1x2176_S128x2176, shapeCasts_S1x128x1_S128x1, shapeCasts_S1x1x2176_S1x2176,
    reduces_S128x2176_S128, shapeCasts_S128_S128x1, shapeCasts_S128x1_S128x1, broadcasts_S128x1_S128x128,
    transposes_S128x128_p1_0_S128x128, slices_S128x128_o0_0_S1x128, shapeCasts_S1x128_S1x1x128, shapeCasts_S128x1_S1x128x1⟩

/-- Every piece the case writes holds the gradient's rows of its head. -/
theorem piecesI (c : Dev nD) (i : grid0.Coords) (arg2 : Memref sig .tc .vmem S128x256 .bf16) (harg2 : arg2.IsWhole) (arg3 : Memref sig .tc .vmem S2176x256 .bf16) (harg3 : arg3.IsWhole) (arg4 : Memref sig .tc .vmem S2176x256 .bf16) (harg4 : arg4.IsWhole) (arg5 : Memref sig .tc .vmem S128x256 .bf16) (harg5 : arg5.IsWhole) (arg6 : Memref sig .tc .vmem S2x128x1 .f32) (harg6 : arg6.IsWhole) (arg7 : Memref sig .tc .vmem S2x1x2176 .f32) (harg7 : arg7.IsWhole) (arg8 : Memref sig .tc .vmem S2x128x1 .f32) (harg8 : arg8.IsWhole) (arg9 : Memref sig .tc .vmem S128x256 .f32) (harg9 : arg9.IsWhole) (arg10 : Memref sig .tc .vmem S2x1x128 .f32) (harg10 : arg10.IsWhole) (arg11 : Memref sig .tc .vmem S2x128x1 .f32) (harg11 : arg11.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : cond0_8 i)
    (x0 : Vec Ideal S128x256 .bf16) (x1 : Vec Ideal S2176x256 .bf16) (x2 : Vec Ideal S2176x256 .bf16) (x3 : Vec Ideal S128x256 .bf16) (x4 : Vec Ideal S2x128x1 .f32) (x5 : Vec Ideal S2x1x2176 .f32) (x6 : Vec Ideal S2x128x1 .f32)
    {a : Data} {g : Fin 2 → Fin 8} {ρ : Fin 128 → Fin 2176} (T : Tile a g ρ x0 x1 x2 x3 x4 x5 x6)
    (hρ : ∀ r, (ρ r).val = (i 1).val * 128 + r.val) (hlast : (i 1).val * 128 + 127 < 2176) :
    (∀ p ∈ (kernelRun0_I c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).1, ∀ x : p.1.shape.Idx, p.2 x = dqBlock a g ρ (p.1.emb x))
    ∧ (∀ p ∈ (kernelRun0_I c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).2.1, ∀ x : p.1.shape.Idx, p.2 x = deltaBlock a g ρ (p.1.emb x))
    ∧ (∀ p ∈ (kernelRun0_I c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6).2.2.1, ∀ x : p.1.shape.Idx, p.2 x = dcqBlock a g ρ (p.1.emb x)) := by
  unfold kernelRun0_I
  dsimp only
  sl_unfold_words
  simp only [View.readAt_eq_ld, harg2.read_unread, harg3.read_unread, harg4.read_unread, harg5.read_unread, harg6.read_unread, harg7.read_unread, harg8.read_unread]
  have hm : Named.named (F := Ideal) κ (φ := .f32) "mask" 0xF149F2CA#32 = ⊥ := rfl
  have hrows : ∀ r : Fin 128, k0_pay102 (BitVec.ofNat 32 (i 1).val) (ix2 r (0 : Fin 1)) = rowWord (i 1).val r.val := fun r =>
    congrArg (IntOp.addi _) (iota_single_apply .tc S128x1 32 0 iota_S128x1_d0_w32 (ix2 r (0 : Fin 1)))
  have hcols : ∀ c : Fin 2176, iota .tc S1x2176 32 [1] iota_S1x2176_d1_w32 (ix2 (0 : Fin 1) c) = BitVec.ofNat 32 c.val := fun c =>
    iota_single_apply .tc S1x2176 32 1 iota_S1x2176_d1_w32 (ix2 (0 : Fin 1) c)
  have E0 := T.reads 0 (by decide) shapesI (i 1).val hρ hlast _ _ hrows hcols ![0, 0] rfl ![0, 0, 0] rfl
    inb_S128x256_S128x128_0_0 inb_S2176x256_S2176x128_0_0 inb_S2176x256_S2176x128_0_0 inb_S128x256_S128x128_0_0
    inb_S2x128x1_S1x128x1_0_0_0 inb_S2x1x2176_S1x1x2176_0_0_0 inb_S2x128x1_S1x128x1_0_0_0 _ hm
  have E1 := T.reads 1 (by decide) shapesI (i 1).val hρ hlast _ _ hrows hcols ![0, 128] rfl ![1, 0, 0] rfl
    inb_S128x256_S128x128_0_128 inb_S2176x256_S2176x128_0_128 inb_S2176x256_S2176x128_0_128 inb_S128x256_S128x128_0_128
    inb_S2x128x1_S1x128x1_1_0_0 inb_S2x1x2176_S1x1x2176_1_0_0 inb_S2x128x1_S1x128x1_1_0_0 _ hm
  refine ⟨fun p hp x => ?_, fun p hp x => ?_, fun p hp x => ?_⟩ <;>
    (simp only [List.mem_cons, List.mem_nil_iff, or_false] at hp; rcases hp with rfl | rfl)
  · exact E1.dq_piece shapesI ![0, 128] rfl inb_S128x256_S128x128_0_128 x
  · exact E0.dq_piece shapesI ![0, 0] rfl inb_S128x256_S128x128_0_0 x
  · exact E1.delta_piece shapesI ![1, 0, 0] rfl inb_S2x1x128_S1x1x128_1_0_0 x
  · exact E0.delta_piece shapesI ![0, 0, 0] rfl inb_S2x1x128_S1x1x128_0_0_0 x
  · exact E1.dcq_piece shapesI ![1, 0, 0] rfl inb_S2x128x1_S1x128x1_1_0_0 x
  · exact E0.dcq_piece shapesI ![0, 0, 0] rfl inb_S2x128x1_S1x128x1_0_0_0 x

end Cert.KernelIdeal.Pieces
-- ==== Proof.Grid.lean ====
/-
  The query-side gradient kernel's grid: point `t` takes the heads `2 (t / 17)`, `2 (t / 17) + 1` and the 128 queries
  from `128 (t % 17)` on.  What each input window's block holds there.
-/
module

public import proofs.«01_k».proof.Proof.Gen.KernelIdeal.Frame.Runs
public import proofs.«01_k».proof.Proof.Tile

@[expose] public section

noncomputable section

namespace Cert.KernelIdeal.Grid

open Cert.KernelIdeal Cert.KernelIdeal.Gen Cert.Block Cert.Spec Idealize.SL.Sem Idealize.ShloMosaic.TcCoe
open Idealize.ShloMosaic hiding ix0 ix1 ix2 ix3
open Idealize.ShloMosaic.ValueIdx

/-- There are 68 grid points. -/
theorem lt68 (t : Fin cfg0.N) : t.val < 68 := t.isLt

/-- The heads of point `t`. -/
def headsAt (t : Fin cfg0.N) (p : Fin 2) : Fin 8 := ⟨t.val / 17 * 2 + p.val, by have := lt68 t; omega⟩

/-- The queries of point `t`. -/
def rowsAt (t : Fin cfg0.N) (r : Fin 128) : Fin 2176 := ⟨t.val % 17 * 128 + r.val, by omega⟩

/-- The second coordinate of a grid point. -/
theorem coord1 : ∀ t : Fin cfg0.N, (grid0.coords t 1).val = t.val % 17 :=
  (by decide +kernel : ∀ t : Fin grid0.N, (grid0.coords t 1).val = t.val % 17)

section Windows

/-- The block coordinates of argument 0. -/
theorem idx0 : ∀ t : Fin cfg0.N, win0_0.index t 0 = t.val % 17 ∧ win0_0.index t 1 = t.val / 17 :=
  (by decide +kernel : ∀ t : Fin grid0.N, win0_0.index t 0 = t.val % 17 ∧ win0_0.index t 1 = t.val / 17)
/-- The block coordinates of argument 1. -/
theorem idx1 : ∀ t : Fin cfg0.N, win0_1.index t 0 = 0 ∧ win0_1.index t 1 = t.val / 17 :=
  (by decide +kernel : ∀ t : Fin grid0.N, win0_1.index t 0 = 0 ∧ win0_1.index t 1 = t.val / 17)
/-- The block coordinates of argument 2. -/
theorem idx2 : ∀ t : Fin cfg0.N, win0_2.index t 0 = 0 ∧ win0_2.index t 1 = t.val / 17 :=
  (by decide +kernel : ∀ t : Fin grid0.N, win0_2.index t 0 = 0 ∧ win0_2.index t 1 = t.val / 17)
/-- The block coordinates of argument 3. -/
theorem idx3 : ∀ t : Fin cfg0.N, win0_3.index t 0 = t.val % 17 ∧ win0_3.index t 1 = t.val / 17 :=
  (by decide +kernel : ∀ t : Fin grid0.N, win0_3.index t 0 = t.val % 17 ∧ win0_3.index t 1 = t.val / 17)
/-- The block coordinates of argument 4. -/
theorem idx4 : ∀ t : Fin cfg0.N, win0_4.index t 0 = t.val / 17 ∧ win0_4.index t 1 = t.val % 17 ∧ win0_4.index t 2 = 0 :=
  (by decide +kernel : ∀ t : Fin grid0.N, win0_4.index t 0 = t.val / 17 ∧ win0_4.index t 1 = t.val % 17 ∧ win0_4.index t 2 = 0)
/-- The block coordinates of argument 5. -/
theorem idx5 : ∀ t : Fin cfg0.N, win0_5.index t 0 = t.val / 17 ∧ win0_5.index t 1 = 0 ∧ win0_5.index t 2 = 0 :=
  (by decide +kernel : ∀ t : Fin grid0.N, win0_5.index t 0 = t.val / 17 ∧ win0_5.index t 1 = 0 ∧ win0_5.index t 2 = 0)
/-- The block coordinates of argument 6. -/
theorem idx6 : ∀ t : Fin cfg0.N, win0_6.index t 0 = t.val / 17 ∧ win0_6.index t 1 = t.val % 17 ∧ win0_6.index t 2 = 0 :=
  (by decide +kernel : ∀ t : Fin grid0.N, win0_6.index t 0 = t.val / 17 ∧ win0_6.index t 1 = t.val % 17 ∧ win0_6.index t 2 = 0)

variable (m : (ℓ : Loc nD τ sig) → Buf (Elt Ideal) ℓ) (c : Dev nD) (t : Fin cfg0.N)

/-- Indices with equal coordinates are equal. -/
theorem ix3_congr {n k l : ℕ} {a a' : Fin n} {b b' : Fin k} {d d' : Fin l} (h₀ : a = a') (h₁ : b = b') (h₂ : d = d') :
    ix3 a b d = ix3 a' b' d' := by subst h₀ h₁ h₂; rfl

/-- An entry of argument 0's block is one of the array. -/
theorem at0 (p : Fin 2) (r : Fin 128) (e : Fin 128) :
    (iblk m c 0 t : Vec Ideal S128x256 .bf16) (ix2 r (half p e)) = V m c main_arg0 (ix2 (rowsAt t r) (lane (headsAt t p) e)) := by
  show V m c main_arg0 ((win0_0.rect t).emb (ix2 r (half p e))) = _
  refine congrArg _ ((ValueIdx.eq_ix2 _).trans (congrArg₂ ix2 (Fin.ext ?_) (Fin.ext ?_)))
  · refine (Pipeline.Window.rect_emb_val win0_0 t (ix2 r (half p e)) 0 rfl).trans ?_
    rw [(idx0 t).1]
    rfl
  · refine (Pipeline.Window.rect_emb_val win0_0 t (ix2 r (half p e)) 1 rfl).trans ?_
    rw [(idx0 t).2]
    show t.val / 17 * 256 + (p.val * 128 + e.val) = (t.val / 17 * 2 + p.val) * 128 + e.val
    omega

/-- An entry of argument 1's block is one of the array. -/
theorem at1 (p : Fin 2) (r : Fin 2176) (e : Fin 128) :
    (iblk m c 1 t : Vec Ideal S2176x256 .bf16) (ix2 r (half p e)) = V m c main_arg1 (ix2 (r) (lane (headsAt t p) e)) := by
  show V m c main_arg1 ((win0_1.rect t).emb (ix2 r (half p e))) = _
  refine congrArg _ ((ValueIdx.eq_ix2 _).trans (congrArg₂ ix2 (Fin.ext ?_) (Fin.ext ?_)))
  · refine (Pipeline.Window.rect_emb_val win0_1 t (ix2 r (half p e)) 0 rfl).trans ?_
    rw [(idx1 t).1]
    exact (congrArg (· + r.val) (Nat.zero_mul _)).trans (Nat.zero_add _)
  · refine (Pipeline.Window.rect_emb_val win0_1 t (ix2 r (half p e)) 1 rfl).trans ?_
    rw [(idx1 t).2]
    show t.val / 17 * 256 + (p.val * 128 + e.val) = (t.val / 17 * 2 + p.val) * 128 + e.val
    omega

/-- An entry of argument 2's block is one of the array. -/
theorem at2 (p : Fin 2) (r : Fin 2176) (e : Fin 128) :
    (iblk m c 2 t : Vec Ideal S2176x256 .bf16) (ix2 r (half p e)) = V m c main_arg2 (ix2 (r) (lane (headsAt t p) e)) := by
  show V m c main_arg2 ((win0_2.rect t).emb (ix2 r (half p e))) = _
  refine congrArg _ ((ValueIdx.eq_ix2 _).trans (congrArg₂ ix2 (Fin.ext ?_) (Fin.ext ?_)))
  · refine (Pipeline.Window.rect_emb_val win0_2 t (ix2 r (half p e)) 0 rfl).trans ?_
    rw [(idx2 t).1]
    exact (congrArg (· + r.val) (Nat.zero_mul _)).trans (Nat.zero_add _)
  · refine (Pipeline.Window.rect_emb_val win0_2 t (ix2 r (half p e)) 1 rfl).trans ?_
    rw [(idx2 t).2]
    show t.val / 17 * 256 + (p.val * 128 + e.val) = (t.val / 17 * 2 + p.val) * 128 + e.val
    omega

/-- An entry of argument 3's block is one of the array. -/
theorem at3 (p : Fin 2) (r : Fin 128) (e : Fin 128) :
    (iblk m c 3 t : Vec Ideal S128x256 .bf16) (ix2 r (half p e)) = V m c main_arg3 (ix2 (rowsAt t r) (lane (headsAt t p) e)) := by
  show V m c main_arg3 ((win0_3.rect t).emb (ix2 r (half p e))) = _
  refine congrArg _ ((ValueIdx.eq_ix2 _).trans (congrArg₂ ix2 (Fin.ext ?_) (Fin.ext ?_)))
  · refine (Pipeline.Window.rect_emb_val win0_3 t (ix2 r (half p e)) 0 rfl).trans ?_
    rw [(idx3 t).1]
    rfl
  · refine (Pipeline.Window.rect_emb_val win0_3 t (ix2 r (half p e)) 1 rfl).trans ?_
    rw [(idx3 t).2]
    show t.val / 17 * 256 + (p.val * 128 + e.val) = (t.val / 17 * 2 + p.val) * 128 + e.val
    omega

/-- An entry read through argument 4's block. -/
theorem read4 (X : Vec Ideal S8x2176x1 .f32) (p : Fin 2) (r : Fin 128) :
    (((cfg0.win 4).blk t).view.read (Elt Ideal) X : Vec Ideal S2x128x1 .f32) (ix3 p r (0 : Fin 1)) = X (ix3 (headsAt t p) (rowsAt t r) (0 : Fin 1)) := by
  show X ((win0_4.rect t).emb (ix3 p r (0 : Fin 1))) = _
  refine congrArg X ((ValueIdx.eq_ix3 _).trans (ix3_congr (Fin.ext ?_) (Fin.ext ?_) (Fin.ext ?_)))
  · refine (Pipeline.Window.rect_emb_val win0_4 t (ix3 p r (0 : Fin 1)) 0 rfl).trans ?_
    rw [(idx4 t).1]; rfl
  · refine (Pipeline.Window.rect_emb_val win0_4 t (ix3 p r (0 : Fin 1)) 1 rfl).trans ?_
    rw [(idx4 t).2.1]; rfl
  · refine (Pipeline.Window.rect_emb_val win0_4 t (ix3 p r (0 : Fin 1)) 2 rfl).trans ?_
    rw [(idx4 t).2.2]; exact Nat.zero_mul _

/-- An entry of argument 4's block is one of the array. -/
theorem at4 (p : Fin 2) (r : Fin 128) :
    (iblk m c 4 t : Vec Ideal S2x128x1 .f32) (ix3 p r (0 : Fin 1)) = V m c main_v28 (ix3 (headsAt t p) (rowsAt t r) (0 : Fin 1)) :=
  read4 t (V m c main_v28) p r

/-- An entry read through argument 6's block. -/
theorem read6 (X : Vec Ideal S8x2176x1 .f32) (p : Fin 2) (r : Fin 128) :
    (((cfg0.win 6).blk t).view.read (Elt Ideal) X : Vec Ideal S2x128x1 .f32) (ix3 p r (0 : Fin 1)) = X (ix3 (headsAt t p) (rowsAt t r) (0 : Fin 1)) := by
  show X ((win0_6.rect t).emb (ix3 p r (0 : Fin 1))) = _
  refine congrArg X ((ValueIdx.eq_ix3 _).trans (ix3_congr (Fin.ext ?_) (Fin.ext ?_) (Fin.ext ?_)))
  · refine (Pipeline.Window.rect_emb_val win0_6 t (ix3 p r (0 : Fin 1)) 0 rfl).trans ?_
    rw [(idx6 t).1]; rfl
  · refine (Pipeline.Window.rect_emb_val win0_6 t (ix3 p r (0 : Fin 1)) 1 rfl).trans ?_
    rw [(idx6 t).2.1]; rfl
  · refine (Pipeline.Window.rect_emb_val win0_6 t (ix3 p r (0 : Fin 1)) 2 rfl).trans ?_
    rw [(idx6 t).2.2]; exact Nat.zero_mul _

/-- An entry of argument 6's block is one of the array. -/
theorem at6 (p : Fin 2) (r : Fin 128) :
    (iblk m c 6 t : Vec Ideal S2x128x1 .f32) (ix3 p r (0 : Fin 1)) = V m c main_v30 (ix3 (headsAt t p) (rowsAt t r) (0 : Fin 1)) :=
  read6 t (V m c main_v30) p r

/-- An entry read through argument 5's block. -/
theorem read5 (X : Vec Ideal S8x1x2176 .f32) (p : Fin 2) (r : Fin 2176) :
    (((cfg0.win 5).blk t).view.read (Elt Ideal) X : Vec Ideal S2x1x2176 .f32) (ix3 p (0 : Fin 1) r) = X (ix3 (headsAt t p) (0 : Fin 1) r) := by
  show X ((win0_5.rect t).emb (ix3 p (0 : Fin 1) r)) = _
  refine congrArg X ((ValueIdx.eq_ix3 _).trans (ix3_congr (Fin.ext ?_) (Fin.ext ?_) (Fin.ext ?_)))
  · refine (Pipeline.Window.rect_emb_val win0_5 t (ix3 p (0 : Fin 1) r) 0 rfl).trans ?_
    rw [(idx5 t).1]; rfl
  · refine (Pipeline.Window.rect_emb_val win0_5 t (ix3 p (0 : Fin 1) r) 1 rfl).trans ?_
    rw [(idx5 t).2.1]; exact Nat.zero_mul _
  · refine (Pipeline.Window.rect_emb_val win0_5 t (ix3 p (0 : Fin 1) r) 2 rfl).trans ?_
    rw [(idx5 t).2.2]; exact (congrArg (· + r.val) (Nat.zero_mul _)).trans (Nat.zero_add _)

/-- An entry of argument 5's block is one of the array. -/
theorem at5 (p : Fin 2) (r : Fin 2176) :
    (iblk m c 5 t : Vec Ideal S2x1x2176 .f32) (ix3 p (0 : Fin 1) r) = V m c main_v29 (ix3 (headsAt t p) (0 : Fin 1) r) :=
  read5 t (V m c main_v29) p r

/-- The arrays the region finds hold the problem's data and the rows' log-sums. -/
structure Holds (a : Data) : Prop where
  scale : a.σ = scaleReal
  q : ∀ i e, V m c main_arg0 (ix2 i e) = (a.Q i e : EReal)
  k : ∀ i e, V m c main_arg1 (ix2 i e) = (a.K i e : EReal)
  v : ∀ i e, V m c main_arg2 (ix2 i e) = (a.V i e : EReal)
  d : ∀ i e, V m c main_arg3 (ix2 i e) = (a.D i e : EReal)
  cq : ∀ h i, V m c main_v28 (ix3 h i (0 : Fin 1)) = (a.C h i : EReal)
  ck : ∀ h i, V m c main_v29 (ix3 h (0 : Fin 1) i) = (a.C h i : EReal)
  l : ∀ h i, V m c main_v30 (ix3 h i (0 : Fin 1)) = (Real.log (a.total h i) : EReal)

/-- Then the blocks of point `t` hold what its step reads. -/
theorem Holds.tile {m : (ℓ : Loc nD τ sig) → Buf (Elt Ideal) ℓ} {c : Dev nD} {a : Data} (H : Holds m c a) (t : Fin cfg0.N) :
    Tile a (headsAt t) (rowsAt t) (iblk m c 0 t) (iblk m c 1 t) (iblk m c 2 t) (iblk m c 3 t) (iblk m c 4 t) (iblk m c 5 t)
      (iblk m c 6 t) where
  scale := H.scale
  q p r e := (at0 m c t p r e).trans (H.q _ _)
  k p j e := (at1 m c t p j e).trans (H.k _ _)
  v p j e := (at2 m c t p j e).trans (H.v _ _)
  d p r e := (at3 m c t p r e).trans (H.d _ _)
  cq p r := (at4 m c t p r).trans (H.cq _ _)
  ck p j := (at5 m c t p j).trans (H.ck _ _)
  l p r := (at6 m c t p r).trans (H.l _ _)

end Windows

end Cert.KernelIdeal.Grid
-- ==== Proof.Out.lean ====
/-
  What the query-side gradient kernel's body leaves of its three outputs at each grid point: the blocks of the gradient.
-/
module

public import proofs.«01_k».proof.Proof.CaseA
public import proofs.«01_k».proof.Proof.CaseB
public import proofs.«01_k».proof.Proof.CaseC
public import proofs.«01_k».proof.Proof.CaseD
public import proofs.«01_k».proof.Proof.CaseE
public import proofs.«01_k».proof.Proof.CaseF
public import proofs.«01_k».proof.Proof.CaseG
public import proofs.«01_k».proof.Proof.CaseH
public import proofs.«01_k».proof.Proof.CaseI
public import proofs.«01_k».proof.Proof.Gen.KernelIdeal.Frame
public import proofs.«01_k».proof.Proof.Grid

@[expose] public section

set_option maxRecDepth 16384

noncomputable section

namespace Cert.KernelIdeal.Out

open Cert.KernelIdeal Cert.KernelIdeal.Gen Cert.KernelIdeal.Grid Cert.KernelIdeal.Pieces Cert.Block Cert.Spec
open Idealize.SL.Sem Idealize.ShloMosaic.TcCoe
open Idealize.ShloMosaic hiding ix0 ix1 ix2 ix3
open Idealize.ShloMosaic.ValueIdx

variable {m : (ℓ : Loc nD τ sig) → Buf (Elt Ideal) ℓ} {c : Dev nD} {a : Data}

/-- The three blocks of point `t`. -/
abbrev blocks (a : Data) (t : Fin cfg0.N) : Vec Ideal S128x256 .f32 × Vec Ideal S2x1x128 .f32 × Vec Ideal S2x128x1 .f32 :=
  (dqBlock a (headsAt t) (rowsAt t), deltaBlock a (headsAt t) (rowsAt t), dcqBlock a (headsAt t) (rowsAt t))

/-- The array's row of a tile's row. -/
theorem rows_val (t : Fin cfg0.N) (r : Fin 128) : (rowsAt t r).val = (grid0.coords t 1).val * 128 + r.val := by
  rw [coord1]; rfl

/-- Case A: the pieces the run wrote tile each block and hold the gradient's rows. -/
theorem outA (H : Holds m c a) (t : Fin cfg0.N) (h0 : t.val % 17 ≤ 1) (h1 : ¬(2 ≤ t.val % 17 ∧ t.val % 17 ≤ 3)) (h2 : ¬(4 ≤ t.val % 17 ∧ t.val % 17 ≤ 5)) (h3 : ¬(6 ≤ t.val % 17 ∧ t.val % 17 ≤ 7)) (h4 : ¬(8 ≤ t.val % 17 ∧ t.val % 17 ≤ 9)) (h5 : ¬(10 ≤ t.val % 17 ∧ t.val % 17 ≤ 11)) (h6 : ¬(12 ≤ t.val % 17 ∧ t.val % 17 ≤ 13)) (h7 : ¬(14 ≤ t.val % 17 ∧ t.val % 17 ≤ 15)) (h8 : ¬t.val % 17 = 16) :
    outsAt0 m c t.val t.isLt = blocks a t := by
  rw [outsAt0_A m c t h0 h1 h2 h3 h4 h5 h6 h7 h8]
  have hl : (grid0.coords t 1).val * 128 + 127 < 256 := by rw [coord1]; omega
  have P := piecesA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t) (H.tile t) (rows_val t) hl
  have e7 := fun y => View.read_writes_apply_of_pieces VO0_7 VO0_7.junk _ _ P.1 y (cover0_A_7 (y := y) ..)
  have e8 := fun y => View.read_writes_apply_of_pieces VO0_8 VO0_8.junk _ _ P.2.1 y (cover0_A_8 (y := y) ..)
  have e9 := fun y => View.read_writes_apply_of_pieces VO0_9 VO0_9.junk _ _ P.2.2 y (cover0_A_9 (y := y) ..)
  exact congrArg₂ Prod.mk (funext e7) (congrArg₂ Prod.mk (funext e8) (funext e9))

/-- Case B: the pieces the run wrote tile each block and hold the gradient's rows. -/
theorem outB (H : Holds m c a) (t : Fin cfg0.N) (h0 : ¬t.val % 17 ≤ 1) (h1 : (2 ≤ t.val % 17 ∧ t.val % 17 ≤ 3)) (h2 : ¬(4 ≤ t.val % 17 ∧ t.val % 17 ≤ 5)) (h3 : ¬(6 ≤ t.val % 17 ∧ t.val % 17 ≤ 7)) (h4 : ¬(8 ≤ t.val % 17 ∧ t.val % 17 ≤ 9)) (h5 : ¬(10 ≤ t.val % 17 ∧ t.val % 17 ≤ 11)) (h6 : ¬(12 ≤ t.val % 17 ∧ t.val % 17 ≤ 13)) (h7 : ¬(14 ≤ t.val % 17 ∧ t.val % 17 ≤ 15)) (h8 : ¬t.val % 17 = 16) :
    outsAt0 m c t.val t.isLt = blocks a t := by
  rw [outsAt0_B m c t h0 h1 h2 h3 h4 h5 h6 h7 h8]
  have hl : (grid0.coords t 1).val * 128 + 127 < 512 := by rw [coord1]; omega
  have P := piecesB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t) (H.tile t) (rows_val t) hl
  have e7 := fun y => View.read_writes_apply_of_pieces VO0_7 VO0_7.junk _ _ P.1 y (cover0_B_7 (y := y) ..)
  have e8 := fun y => View.read_writes_apply_of_pieces VO0_8 VO0_8.junk _ _ P.2.1 y (cover0_B_8 (y := y) ..)
  have e9 := fun y => View.read_writes_apply_of_pieces VO0_9 VO0_9.junk _ _ P.2.2 y (cover0_B_9 (y := y) ..)
  exact congrArg₂ Prod.mk (funext e7) (congrArg₂ Prod.mk (funext e8) (funext e9))

/-- Case C: the pieces the run wrote tile each block and hold the gradient's rows. -/
theorem outC (H : Holds m c a) (t : Fin cfg0.N) (h0 : ¬t.val % 17 ≤ 1) (h1 : ¬(2 ≤ t.val % 17 ∧ t.val % 17 ≤ 3)) (h2 : (4 ≤ t.val % 17 ∧ t.val % 17 ≤ 5)) (h3 : ¬(6 ≤ t.val % 17 ∧ t.val % 17 ≤ 7)) (h4 : ¬(8 ≤ t.val % 17 ∧ t.val % 17 ≤ 9)) (h5 : ¬(10 ≤ t.val % 17 ∧ t.val % 17 ≤ 11)) (h6 : ¬(12 ≤ t.val % 17 ∧ t.val % 17 ≤ 13)) (h7 : ¬(14 ≤ t.val % 17 ∧ t.val % 17 ≤ 15)) (h8 : ¬t.val % 17 = 16) :
    outsAt0 m c t.val t.isLt = blocks a t := by
  rw [outsAt0_C m c t h0 h1 h2 h3 h4 h5 h6 h7 h8]
  have hl : (grid0.coords t 1).val * 128 + 127 < 768 := by rw [coord1]; omega
  have P := piecesC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t) (H.tile t) (rows_val t) hl
  have e7 := fun y => View.read_writes_apply_of_pieces VO0_7 VO0_7.junk _ _ P.1 y (cover0_C_7 (y := y) ..)
  have e8 := fun y => View.read_writes_apply_of_pieces VO0_8 VO0_8.junk _ _ P.2.1 y (cover0_C_8 (y := y) ..)
  have e9 := fun y => View.read_writes_apply_of_pieces VO0_9 VO0_9.junk _ _ P.2.2 y (cover0_C_9 (y := y) ..)
  exact congrArg₂ Prod.mk (funext e7) (congrArg₂ Prod.mk (funext e8) (funext e9))

/-- Case D: the pieces the run wrote tile each block and hold the gradient's rows. -/
theorem outD (H : Holds m c a) (t : Fin cfg0.N) (h0 : ¬t.val % 17 ≤ 1) (h1 : ¬(2 ≤ t.val % 17 ∧ t.val % 17 ≤ 3)) (h2 : ¬(4 ≤ t.val % 17 ∧ t.val % 17 ≤ 5)) (h3 : (6 ≤ t.val % 17 ∧ t.val % 17 ≤ 7)) (h4 : ¬(8 ≤ t.val % 17 ∧ t.val % 17 ≤ 9)) (h5 : ¬(10 ≤ t.val % 17 ∧ t.val % 17 ≤ 11)) (h6 : ¬(12 ≤ t.val % 17 ∧ t.val % 17 ≤ 13)) (h7 : ¬(14 ≤ t.val % 17 ∧ t.val % 17 ≤ 15)) (h8 : ¬t.val % 17 = 16) :
    outsAt0 m c t.val t.isLt = blocks a t := by
  rw [outsAt0_D m c t h0 h1 h2 h3 h4 h5 h6 h7 h8]
  have hl : (grid0.coords t 1).val * 128 + 127 < 1024 := by rw [coord1]; omega
  have P := piecesD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t) (H.tile t) (rows_val t) hl
  have e7 := fun y => View.read_writes_apply_of_pieces VO0_7 VO0_7.junk _ _ P.1 y (cover0_D_7 (y := y) ..)
  have e8 := fun y => View.read_writes_apply_of_pieces VO0_8 VO0_8.junk _ _ P.2.1 y (cover0_D_8 (y := y) ..)
  have e9 := fun y => View.read_writes_apply_of_pieces VO0_9 VO0_9.junk _ _ P.2.2 y (cover0_D_9 (y := y) ..)
  exact congrArg₂ Prod.mk (funext e7) (congrArg₂ Prod.mk (funext e8) (funext e9))

/-- Case E: the pieces the run wrote tile each block and hold the gradient's rows. -/
theorem outE (H : Holds m c a) (t : Fin cfg0.N) (h0 : ¬t.val % 17 ≤ 1) (h1 : ¬(2 ≤ t.val % 17 ∧ t.val % 17 ≤ 3)) (h2 : ¬(4 ≤ t.val % 17 ∧ t.val % 17 ≤ 5)) (h3 : ¬(6 ≤ t.val % 17 ∧ t.val % 17 ≤ 7)) (h4 : (8 ≤ t.val % 17 ∧ t.val % 17 ≤ 9)) (h5 : ¬(10 ≤ t.val % 17 ∧ t.val % 17 ≤ 11)) (h6 : ¬(12 ≤ t.val % 17 ∧ t.val % 17 ≤ 13)) (h7 : ¬(14 ≤ t.val % 17 ∧ t.val % 17 ≤ 15)) (h8 : ¬t.val % 17 = 16) :
    outsAt0 m c t.val t.isLt = blocks a t := by
  rw [outsAt0_E m c t h0 h1 h2 h3 h4 h5 h6 h7 h8]
  have hl : (grid0.coords t 1).val * 128 + 127 < 1280 := by rw [coord1]; omega
  have P := piecesE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t) (H.tile t) (rows_val t) hl
  have e7 := fun y => View.read_writes_apply_of_pieces VO0_7 VO0_7.junk _ _ P.1 y (cover0_E_7 (y := y) ..)
  have e8 := fun y => View.read_writes_apply_of_pieces VO0_8 VO0_8.junk _ _ P.2.1 y (cover0_E_8 (y := y) ..)
  have e9 := fun y => View.read_writes_apply_of_pieces VO0_9 VO0_9.junk _ _ P.2.2 y (cover0_E_9 (y := y) ..)
  exact congrArg₂ Prod.mk (funext e7) (congrArg₂ Prod.mk (funext e8) (funext e9))

/-- Case F: the pieces the run wrote tile each block and hold the gradient's rows. -/
theorem outF (H : Holds m c a) (t : Fin cfg0.N) (h0 : ¬t.val % 17 ≤ 1) (h1 : ¬(2 ≤ t.val % 17 ∧ t.val % 17 ≤ 3)) (h2 : ¬(4 ≤ t.val % 17 ∧ t.val % 17 ≤ 5)) (h3 : ¬(6 ≤ t.val % 17 ∧ t.val % 17 ≤ 7)) (h4 : ¬(8 ≤ t.val % 17 ∧ t.val % 17 ≤ 9)) (h5 : (10 ≤ t.val % 17 ∧ t.val % 17 ≤ 11)) (h6 : ¬(12 ≤ t.val % 17 ∧ t.val % 17 ≤ 13)) (h7 : ¬(14 ≤ t.val % 17 ∧ t.val % 17 ≤ 15)) (h8 : ¬t.val % 17 = 16) :
    outsAt0 m c t.val t.isLt = blocks a t := by
  rw [outsAt0_F m c t h0 h1 h2 h3 h4 h5 h6 h7 h8]
  have hl : (grid0.coords t 1).val * 128 + 127 < 1536 := by rw [coord1]; omega
  have P := piecesF c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t) (H.tile t) (rows_val t) hl
  have e7 := fun y => View.read_writes_apply_of_pieces VO0_7 VO0_7.junk _ _ P.1 y (cover0_F_7 (y := y) ..)
  have e8 := fun y => View.read_writes_apply_of_pieces VO0_8 VO0_8.junk _ _ P.2.1 y (cover0_F_8 (y := y) ..)
  have e9 := fun y => View.read_writes_apply_of_pieces VO0_9 VO0_9.junk _ _ P.2.2 y (cover0_F_9 (y := y) ..)
  exact congrArg₂ Prod.mk (funext e7) (congrArg₂ Prod.mk (funext e8) (funext e9))

/-- Case G: the pieces the run wrote tile each block and hold the gradient's rows. -/
theorem outG (H : Holds m c a) (t : Fin cfg0.N) (h0 : ¬t.val % 17 ≤ 1) (h1 : ¬(2 ≤ t.val % 17 ∧ t.val % 17 ≤ 3)) (h2 : ¬(4 ≤ t.val % 17 ∧ t.val % 17 ≤ 5)) (h3 : ¬(6 ≤ t.val % 17 ∧ t.val % 17 ≤ 7)) (h4 : ¬(8 ≤ t.val % 17 ∧ t.val % 17 ≤ 9)) (h5 : ¬(10 ≤ t.val % 17 ∧ t.val % 17 ≤ 11)) (h6 : (12 ≤ t.val % 17 ∧ t.val % 17 ≤ 13)) (h7 : ¬(14 ≤ t.val % 17 ∧ t.val % 17 ≤ 15)) (h8 : ¬t.val % 17 = 16) :
    outsAt0 m c t.val t.isLt = blocks a t := by
  rw [outsAt0_G m c t h0 h1 h2 h3 h4 h5 h6 h7 h8]
  have hl : (grid0.coords t 1).val * 128 + 127 < 1792 := by rw [coord1]; omega
  have P := piecesG c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) ((hcond0_6 t).mpr h6) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t) (H.tile t) (rows_val t) hl
  have e7 := fun y => View.read_writes_apply_of_pieces VO0_7 VO0_7.junk _ _ P.1 y (cover0_G_7 (y := y) ..)
  have e8 := fun y => View.read_writes_apply_of_pieces VO0_8 VO0_8.junk _ _ P.2.1 y (cover0_G_8 (y := y) ..)
  have e9 := fun y => View.read_writes_apply_of_pieces VO0_9 VO0_9.junk _ _ P.2.2 y (cover0_G_9 (y := y) ..)
  exact congrArg₂ Prod.mk (funext e7) (congrArg₂ Prod.mk (funext e8) (funext e9))

/-- Case H: the pieces the run wrote tile each block and hold the gradient's rows. -/
theorem outH (H : Holds m c a) (t : Fin cfg0.N) (h0 : ¬t.val % 17 ≤ 1) (h1 : ¬(2 ≤ t.val % 17 ∧ t.val % 17 ≤ 3)) (h2 : ¬(4 ≤ t.val % 17 ∧ t.val % 17 ≤ 5)) (h3 : ¬(6 ≤ t.val % 17 ∧ t.val % 17 ≤ 7)) (h4 : ¬(8 ≤ t.val % 17 ∧ t.val % 17 ≤ 9)) (h5 : ¬(10 ≤ t.val % 17 ∧ t.val % 17 ≤ 11)) (h6 : ¬(12 ≤ t.val % 17 ∧ t.val % 17 ≤ 13)) (h7 : (14 ≤ t.val % 17 ∧ t.val % 17 ≤ 15)) (h8 : ¬t.val % 17 = 16) :
    outsAt0 m c t.val t.isLt = blocks a t := by
  rw [outsAt0_H m c t h0 h1 h2 h3 h4 h5 h6 h7 h8]
  have hl : (grid0.coords t 1).val * 128 + 127 < 2048 := by rw [coord1]; omega
  have P := piecesH c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) ((hcond0_7 t).mpr h7) (fun h => h8 ((hcond0_8 t).mp h)) (iblk m c 0 t) (iblk m c 1 t) (iblk m c 2 t) (iblk m c 3 t) (iblk m c 4 t) (iblk m c 5 t) (iblk m c 6 t) (H.tile t) (rows_val t) hl
  have e7 := fun y => View.read_writes_apply_of_pieces VO0_7 VO0_7.junk _ _ P.1 y (cover0_H_7 (y := y) ..)
  have e8 := fun y => View.read_writes_apply_of_pieces VO0_8 VO0_8.junk _ _ P.2.1 y (cover0_H_8 (y := y) ..)
  have e9 := fun y => View.read_writes_apply_of_pieces VO0_9 VO0_9.junk _ _ P.2.2 y (cover0_H_9 (y := y) ..)
  exact congrArg₂ Prod.mk (funext e7) (congrArg₂ Prod.mk (funext e8) (funext e9))

/-- Case I: the pieces the run wrote tile each block and hold the gradient's rows. -/
theorem outI (H : Holds m c a) (t : Fin cfg0.N) (h0 : ¬t.val % 17 ≤ 1) (h1 : ¬(2 ≤ t.val % 17 ∧ t.val % 17 ≤ 3)) (h2 : ¬(4 ≤ t.val % 17 ∧ t.val % 17 ≤ 5)) (h3 : ¬(6 ≤ t.val % 17 ∧ t.val % 17 ≤ 7)) (h4 : ¬(8 ≤ t.val % 17 ∧ t.val % 17 ≤ 9)) (h5 : ¬(10 ≤ t.val % 17 ∧ t.val % 17 ≤ 11)) (h6 : ¬(12 ≤ t.val % 17 ∧ t.val % 17 ≤ 13)) (h7 : ¬(14 ≤ t.val % 17 ∧ t.val % 17 ≤ 15)) (h8 : t.val % 17 = 16) :
    outsAt0 m c t.val t.isLt = blocks a t := by
  rw [outsAt0_I m c t h0 h1 h2 h3 h4 h5 h6 h7 h8]
  have hl : (grid0.coords t 1).val * 128 + 127 < 2176 := by rw [coord1]; omega
  have P := piecesI c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) ((hcond0_8 t).mpr h8) (iblk m c 0 t) (iblk m c 1 t) (iblk m c 2 t) (iblk m c 3 t) (iblk m c 4 t) (iblk m c 5 t) (iblk m c 6 t) (H.tile t) (rows_val t) hl
  have e7 := fun y => View.read_writes_apply_of_pieces VO0_7 VO0_7.junk _ _ P.1 y (cover0_I_7 (y := y) ..)
  have e8 := fun y => View.read_writes_apply_of_pieces VO0_8 VO0_8.junk _ _ P.2.1 y (cover0_I_8 (y := y) ..)
  have e9 := fun y => View.read_writes_apply_of_pieces VO0_9 VO0_9.junk _ _ P.2.2 y (cover0_I_9 (y := y) ..)
  exact congrArg₂ Prod.mk (funext e7) (congrArg₂ Prod.mk (funext e8) (funext e9))

/-- At every point the body leaves the three blocks of the gradient. -/
theorem outs_eq (H : Holds m c a) (t : Fin cfg0.N) : outsAt0 m c t.val t.isLt = blocks a t := by
  have h17 : t.val % 17 < 17 := Nat.mod_lt _ (by decide)
  by_cases c0 : t.val % 17 ≤ 1
  · exact outA H t (by omega) (by omega) (by omega) (by omega) (by omega) (by omega) (by omega) (by omega) (by omega)
  by_cases c1 : t.val % 17 ≤ 3
  · exact outB H t (by omega) (by omega) (by omega) (by omega) (by omega) (by omega) (by omega) (by omega) (by omega)
  by_cases c2 : t.val % 17 ≤ 5
  · exact outC H t (by omega) (by omega) (by omega) (by omega) (by omega) (by omega) (by omega) (by omega) (by omega)
  by_cases c3 : t.val % 17 ≤ 7
  · exact outD H t (by omega) (by omega) (by omega) (by omega) (by omega) (by omega) (by omega) (by omega) (by omega)
  by_cases c4 : t.val % 17 ≤ 9
  · exact outE H t (by omega) (by omega) (by omega) (by omega) (by omega) (by omega) (by omega) (by omega) (by omega)
  by_cases c5 : t.val % 17 ≤ 11
  · exact outF H t (by omega) (by omega) (by omega) (by omega) (by omega) (by omega) (by omega) (by omega) (by omega)
  by_cases c6 : t.val % 17 ≤ 13
  · exact outG H t (by omega) (by omega) (by omega) (by omega) (by omega) (by omega) (by omega) (by omega) (by omega)
  by_cases c7 : t.val % 17 ≤ 15
  · exact outH H t (by omega) (by omega) (by omega) (by omega) (by omega) (by omega) (by omega) (by omega) (by omega)
  exact outI H t (by omega) (by omega) (by omega) (by omega) (by omega) (by omega) (by omega) (by omega) (by omega)

end Cert.KernelIdeal.Out
-- ==== Proof.Result.lean ====
/-
  The arrays both programs take and give, in terms of the problem's real data.
-/
module

public import proofs.«01_k».proof.Proof.Step

@[expose] public section

noncomputable section

namespace Cert.Block

open Idealize.ShloMosaic Idealize.ShloMosaic.ValueIdx
open Cert.Spec

/-- The five arguments hold the problem's data. -/
structure Inputs (a : Data) (x0 x1 x2 x3 : Mat 2176 1024 .bf16) (x4 : FVec Ideal ⟨2, ![8, 2176]⟩ .f32) : Prop where
  scale : a.σ = scaleReal
  q : ∀ i e, x0 (ix2 i e) = (a.Q i e : EReal)
  k : ∀ i e, x1 (ix2 i e) = (a.K i e : EReal)
  v : ∀ i e, x2 (ix2 i e) = (a.V i e : EReal)
  d : ∀ i e, x3 (ix2 i e) = (a.D i e : EReal)
  c : ∀ h i, x4 (ix2 h i) = (a.C h i : EReal)

/-- An array without an infinite entry. -/
def Finite {s : Shape} {φ : FTy} (x : FVec Ideal s φ) : Prop := ∀ y, (x y : EReal) ≠ ⊤ ∧ (x y : EReal) ≠ ⊥

/-- The real data of five arguments. -/
def dataOf (x0 x1 x2 x3 : Mat 2176 1024 .bf16) (x4 : FVec Ideal ⟨2, ![8, 2176]⟩ .f32) : Data where
  Q i e := EReal.toReal (x0 (ix2 i e))
  K i e := EReal.toReal (x1 (ix2 i e))
  V i e := EReal.toReal (x2 (ix2 i e))
  D i e := EReal.toReal (x3 (ix2 i e))
  C h i := EReal.toReal (x4 (ix2 h i))
  σ := scaleReal

/-- Arguments without an infinite entry hold their real data. -/
theorem inputs_dataOf {x0 x1 x2 x3 : Mat 2176 1024 .bf16} {x4 : FVec Ideal ⟨2, ![8, 2176]⟩ .f32}
    (h0 : Finite x0) (h1 : Finite x1) (h2 : Finite x2) (h3 : Finite x3) (h4 : Finite x4) :
    Inputs (dataOf x0 x1 x2 x3 x4) x0 x1 x2 x3 x4 where
  scale := rfl
  q _ _ := (EReal.coe_toReal (h0 _).1 (h0 _).2).symm
  k _ _ := (EReal.coe_toReal (h1 _).1 (h1 _).2).symm
  v _ _ := (EReal.coe_toReal (h2 _).1 (h2 _).2).symm
  d _ _ := (EReal.coe_toReal (h3 _).1 (h3 _).2).symm
  c _ _ := (EReal.coe_toReal (h4 _).1 (h4 _).2).symm

/-- The head and the lane of a column of the packed layout. -/
def headOfCol (e : Fin 1024) : Fin 8 := ⟨e.val / 128, by omega⟩
def laneOfCol (e : Fin 1024) : Fin 128 := ⟨e.val % 128, by omega⟩

/-- A column is the lane of its head. -/
theorem lane_of_col (e : Fin 1024) : lane (headOfCol e) (laneOfCol e) = e :=
  Fin.ext (by show e.val / 128 * 128 + e.val % 128 = e.val; omega)
/-- The head of a lane's column. -/
theorem headOfCol_lane (h : Fin 8) (d : Fin 128) : headOfCol (lane h d) = h :=
  Fin.ext (by show (h.val * 128 + d.val) / 128 = h.val; omega)
/-- The lane of a lane's column. -/
theorem laneOfCol_lane (h : Fin 8) (d : Fin 128) : laneOfCol (lane h d) = d :=
  Fin.ext (by show (h.val * 128 + d.val) % 128 = d.val; omega)

/-- The array of the queries' gradients. -/
def dqArr (a : Data) : Mat 2176 1024 .f32 := fun y => (a.dq (headOfCol (y 1)) (y 0) (laneOfCol (y 1)) : EReal)

/-- The array of the row sums. -/
def deltaArr (a : Data) : FVec Ideal ⟨3, ![8, 1, 2176]⟩ .f32 := fun y => (a.delta (y 0) (y 2) : EReal)

/-- The array of the running sums' gradients. -/
def dcqArr (a : Data) : FVec Ideal ⟨3, ![8, 2176, 1]⟩ .f32 := fun y => (a.dcq (y 0) (y 1) : EReal)

end Cert.Block
-- ==== Proof.Arrays.lean ====
/-
  The query-side gradient kernel's three result arrays after its run: every block written back is the gradient's, and the
  blocks cover the arrays.
-/
module

public import proofs.«01_k».proof.Proof.Out
public import proofs.«01_k».proof.Proof.Result
public import proofs.«01_k».proof.Proof.Gen.KernelIdeal.Value

@[expose] public section

noncomputable section

namespace Cert.KernelIdeal.Arrays

open Cert.KernelIdeal Cert.KernelIdeal.Gen Cert.KernelIdeal.Grid Cert.KernelIdeal.Out Cert.Block Cert.Spec
open Idealize.SL.Sem Idealize.ShloMosaic.TcCoe
open Idealize.ShloMosaic hiding ix0 ix1 ix2 ix3
open Idealize.ShloMosaic.ValueIdx

variable {m : (ℓ : Loc nD τ sig) → Buf (Elt Ideal) ℓ} {c : Dev nD} {a : Data}

/-- Block coordinates of the first result at point `t`. -/
theorem idx7 : ∀ t : Fin cfg0.N, win0_7.index t 0 = t.val % 17 ∧ win0_7.index t 1 = t.val / 17 :=
  (by decide +kernel : ∀ t : Fin grid0.N, win0_7.index t 0 = t.val % 17 ∧ win0_7.index t 1 = t.val / 17)

/-- Block coordinates of the second result at point `t`. -/
theorem idx8 : ∀ t : Fin cfg0.N, win0_8.index t 0 = t.val / 17 ∧ win0_8.index t 1 = 0 ∧ win0_8.index t 2 = t.val % 17 :=
  (by decide +kernel : ∀ t : Fin grid0.N, win0_8.index t 0 = t.val / 17 ∧ win0_8.index t 1 = 0 ∧ win0_8.index t 2 = t.val % 17)

/-- Block coordinates of the third result at point `t`. -/
theorem idx9 : ∀ t : Fin cfg0.N, win0_9.index t 0 = t.val / 17 ∧ win0_9.index t 1 = t.val % 17 ∧ win0_9.index t 2 = 0 :=
  (by decide +kernel : ∀ t : Fin grid0.N, win0_9.index t 0 = t.val / 17 ∧ win0_9.index t 1 = t.val % 17 ∧ win0_9.index t 2 = 0)

/-- No block is cut short. -/
theorem size7 : ∀ t : Fin cfg0.N, win0_7.xsize (grid0.coords t) 0 = 128 ∧ win0_7.xsize (grid0.coords t) 1 = 256 :=
  (by decide +kernel : ∀ t : Fin grid0.N, win0_7.xsize (grid0.coords t) 0 = 128 ∧ win0_7.xsize (grid0.coords t) 1 = 256)

/-- No block is cut short. -/
theorem size8 : ∀ t : Fin cfg0.N, win0_8.xsize (grid0.coords t) 0 = 2 ∧ win0_8.xsize (grid0.coords t) 1 = 1
    ∧ win0_8.xsize (grid0.coords t) 2 = 128 :=
  (by decide +kernel : ∀ t : Fin grid0.N, win0_8.xsize (grid0.coords t) 0 = 2 ∧ win0_8.xsize (grid0.coords t) 1 = 1
    ∧ win0_8.xsize (grid0.coords t) 2 = 128)

/-- No block is cut short. -/
theorem size9 : ∀ t : Fin cfg0.N, win0_9.xsize (grid0.coords t) 0 = 2 ∧ win0_9.xsize (grid0.coords t) 1 = 128
    ∧ win0_9.xsize (grid0.coords t) 2 = 1 :=
  (by decide +kernel : ∀ t : Fin grid0.N, win0_9.xsize (grid0.coords t) 0 = 2 ∧ win0_9.xsize (grid0.coords t) 1 = 128
    ∧ win0_9.xsize (grid0.coords t) 2 = 1)

/-- Block `t` of the first result's array. -/
theorem read7 (t : Fin cfg0.N) (a : Data) :
    (((cfg0.win 7).blk t).view.read (Elt Ideal) (dqArr a) : Vec Ideal S128x256 .f32) = dqBlock a (headsAt t) (rowsAt t) := by
  funext y
  obtain ⟨r, e, rfl⟩ : ∃ (r : Fin 128) (e : Fin 256), y = ix2 r e := ⟨y 0, y 1, ValueIdx.eq_ix2 y⟩
  have h0 : (win0_7.rect t).emb (ix2 r e) 0 = rowsAt t r := Fin.ext (by
    refine (Pipeline.Window.rect_emb_val win0_7 t (ix2 r e) 0 rfl).trans ?_
    rw [(idx7 t).1]; rfl)
  have h1 : ((win0_7.rect t).emb (ix2 r e) 1).val = t.val / 17 * 256 + e.val := by
    refine (Pipeline.Window.rect_emb_val win0_7 t (ix2 r e) 1 rfl).trans ?_
    rw [(idx7 t).2]; rfl
  show dqArr a ((win0_7.rect t).emb (ix2 r e)) = _
  unfold dqArr
  rw [h0, show headOfCol ((win0_7.rect t).emb (ix2 r e) 1) = headsAt t (headOf e) from Fin.ext (by
      show ((win0_7.rect t).emb (ix2 r e) 1).val / 128 = t.val / 17 * 2 + e.val / 128
      rw [h1]; omega),
    show laneOfCol ((win0_7.rect t).emb (ix2 r e) 1) = laneOf e from Fin.ext (by
      show ((win0_7.rect t).emb (ix2 r e) 1).val % 128 = e.val % 128
      rw [h1]; omega)]
  rfl

/-- Block `t` of the second result's array. -/
theorem read8 (t : Fin cfg0.N) (a : Data) :
    (((cfg0.win 8).blk t).view.read (Elt Ideal) (deltaArr a) : Vec Ideal S2x1x128 .f32) = deltaBlock a (headsAt t) (rowsAt t) := by
  funext y
  obtain ⟨p, u, r, rfl⟩ : ∃ (p : Fin 2) (u : Fin 1) (r : Fin 128), y = ix3 p u r := ⟨y 0, y 1, y 2, ValueIdx.eq_ix3 y⟩
  have h0 : (win0_8.rect t).emb (ix3 p u r) 0 = headsAt t p := Fin.ext (by
    refine (Pipeline.Window.rect_emb_val win0_8 t (ix3 p u r) 0 rfl).trans ?_
    rw [(idx8 t).1]; rfl)
  have h2 : (win0_8.rect t).emb (ix3 p u r) 2 = rowsAt t r := Fin.ext (by
    refine (Pipeline.Window.rect_emb_val win0_8 t (ix3 p u r) 2 rfl).trans ?_
    rw [(idx8 t).2.2]; rfl)
  show deltaArr a ((win0_8.rect t).emb (ix3 p u r)) = _
  unfold deltaArr
  rw [h0, h2]
  rfl

/-- Block `t` of the third result's array. -/
theorem read9 (t : Fin cfg0.N) (a : Data) :
    (((cfg0.win 9).blk t).view.read (Elt Ideal) (dcqArr a) : Vec Ideal S2x128x1 .f32) = dcqBlock a (headsAt t) (rowsAt t) := by
  funext y
  obtain ⟨p, r, u, rfl⟩ : ∃ (p : Fin 2) (r : Fin 128) (u : Fin 1), y = ix3 p r u := ⟨y 0, y 1, y 2, ValueIdx.eq_ix3 y⟩
  have h0 : (win0_9.rect t).emb (ix3 p r u) 0 = headsAt t p := Fin.ext (by
    refine (Pipeline.Window.rect_emb_val win0_9 t (ix3 p r u) 0 rfl).trans ?_
    rw [(idx9 t).1]; rfl)
  have h1 : (win0_9.rect t).emb (ix3 p r u) 1 = rowsAt t r := Fin.ext (by
    refine (Pipeline.Window.rect_emb_val win0_9 t (ix3 p r u) 1 rfl).trans ?_
    rw [(idx9 t).2.1]; rfl)
  show dcqArr a ((win0_9.rect t).emb (ix3 p r u)) = _
  unfold dcqArr
  rw [h0, h1]
  rfl

/-- The point whose blocks hold head pair `p` and query tile `q`. -/
def pointOf (p q : ℕ) (hp : p < 4) (hq : q < 17) : Fin cfg0.N := ⟨p * 17 + q, show p * 17 + q < 68 by omega⟩

/-- Every entry of the first result is in a block written back. -/
theorem cover7 (i : S2176x1024.Idx) : ∃ t : Fin cfg0.N, (cfg0.win 7).flush t = true ∧ i ∈ ((cfg0.win 7).blk t).view.set := by
  have b0 : (i 0).val < 2176 := (i 0).isLt
  have b1 : (i 1).val < 1024 := (i 1).isLt
  let t := pointOf ((i 1).val / 256) ((i 0).val / 128) (by omega) (by omega)
  have tv : t.val = (i 1).val / 256 * 17 + (i 0).val / 128 := rfl
  refine ⟨t, flush0_7 _, ?_⟩
  show i ∈ ((View.whole main_v31_0).slice (win0_7.rect t)).set
  rw [View.set_slice_whole, Rect.mem_set_unit]
  intro b
  match b with
  | ⟨0, _⟩ =>
    show win0_7.index t 0 * 128 ≤ (i 0).val ∧ (i 0).val < win0_7.index t 0 * 128 + win0_7.xsize (grid0.coords t) 0
    rw [(idx7 t).1, (size7 t).1]; omega
  | ⟨1, _⟩ =>
    show win0_7.index t 1 * 256 ≤ (i 1).val ∧ (i 1).val < win0_7.index t 1 * 256 + win0_7.xsize (grid0.coords t) 1
    rw [(idx7 t).2, (size7 t).2]; omega

/-- Every entry of the second result is in a block written back. -/
theorem cover8 (i : S8x1x2176.Idx) : ∃ t : Fin cfg0.N, (cfg0.win 8).flush t = true ∧ i ∈ ((cfg0.win 8).blk t).view.set := by
  have b0 : (i 0).val < 8 := (i 0).isLt
  have b1 : (i 1).val < 1 := (i 1).isLt
  have b2 : (i 2).val < 2176 := (i 2).isLt
  let t := pointOf ((i 0).val / 2) ((i 2).val / 128) (by omega) (by omega)
  have tv : t.val = (i 0).val / 2 * 17 + (i 2).val / 128 := rfl
  refine ⟨t, flush0_8 _, ?_⟩
  show i ∈ ((View.whole main_v31_1).slice (win0_8.rect t)).set
  rw [View.set_slice_whole, Rect.mem_set_unit]
  intro b
  match b with
  | ⟨0, _⟩ =>
    show win0_8.index t 0 * 2 ≤ (i 0).val ∧ (i 0).val < win0_8.index t 0 * 2 + win0_8.xsize (grid0.coords t) 0
    rw [(idx8 t).1, (size8 t).1]; omega
  | ⟨1, _⟩ =>
    show win0_8.index t 1 * 1 ≤ (i 1).val ∧ (i 1).val < win0_8.index t 1 * 1 + win0_8.xsize (grid0.coords t) 1
    rw [(idx8 t).2.1, (size8 t).2.1]; omega
  | ⟨2, _⟩ =>
    show win0_8.index t 2 * 128 ≤ (i 2).val ∧ (i 2).val < win0_8.index t 2 * 128 + win0_8.xsize (grid0.coords t) 2
    rw [(idx8 t).2.2, (size8 t).2.2]; omega

/-- Every entry of the third result is in a block written back. -/
theorem cover9 (i : S8x2176x1.Idx) : ∃ t : Fin cfg0.N, (cfg0.win 9).flush t = true ∧ i ∈ ((cfg0.win 9).blk t).view.set := by
  have b0 : (i 0).val < 8 := (i 0).isLt
  have b1 : (i 1).val < 2176 := (i 1).isLt
  have b2 : (i 2).val < 1 := (i 2).isLt
  let t := pointOf ((i 0).val / 2) ((i 1).val / 128) (by omega) (by omega)
  have tv : t.val = (i 0).val / 2 * 17 + (i 1).val / 128 := rfl
  refine ⟨t, flush0_9 _, ?_⟩
  show i ∈ ((View.whole main_v31_2).slice (win0_9.rect t)).set
  rw [View.set_slice_whole, Rect.mem_set_unit]
  intro b
  match b with
  | ⟨0, _⟩ =>
    show win0_9.index t 0 * 2 ≤ (i 0).val ∧ (i 0).val < win0_9.index t 0 * 2 + win0_9.xsize (grid0.coords t) 0
    rw [(idx9 t).1, (size9 t).1]; omega
  | ⟨1, _⟩ =>
    show win0_9.index t 1 * 128 ≤ (i 1).val ∧ (i 1).val < win0_9.index t 1 * 128 + win0_9.xsize (grid0.coords t) 1
    rw [(idx9 t).2.1, (size9 t).2.1]; omega
  | ⟨2, _⟩ =>
    show win0_9.index t 2 * 1 ≤ (i 2).val ∧ (i 2).val < win0_9.index t 2 * 1 + win0_9.xsize (grid0.coords t) 2
    rw [(idx9 t).2.2, (size9 t).2.2]; omega

/-- The first result: the gradients of the queries. -/
theorem final7 (H : Holds m c a) : (dats m 0 c).arrAt 7 cfg0.N = dqArr a :=
  (dats m 0 c).arrAt_eq_of_cover 7 (dqArr a) (fun t _ =>
    (Value.flushed7 m c t).trans ((congrArg (fun o => (cfg0.win 7).cut (grid0.coords t) o.1) (outs_eq H t)).trans (read7 t a).symm)) cover7

/-- The second result: the row sums the softmax gradient subtracts. -/
theorem final8 (H : Holds m c a) : (dats m 0 c).arrAt 8 cfg0.N = deltaArr a :=
  (dats m 0 c).arrAt_eq_of_cover 8 (deltaArr a) (fun t _ =>
    (Value.flushed8 m c t).trans ((congrArg (fun o => (cfg0.win 8).cut (grid0.coords t) o.2.1) (outs_eq H t)).trans (read8 t a).symm)) cover8

/-- The third result: the gradients of the running sums through the queries. -/
theorem final9 (H : Holds m c a) : (dats m 0 c).arrAt 9 cfg0.N = dcqArr a :=
  (dats m 0 c).arrAt_eq_of_cover 9 (dcqArr a) (fun t _ =>
    (Value.flushed9 m c t).trans ((congrArg (fun o => (cfg0.win 9).cut (grid0.coords t) o.2.2) (outs_eq H t)).trans (read9 t a).symm)) cover9

end Cert.KernelIdeal.Arrays
-- ==== Proof.RefForward.lean ====
/-
  The forward half of the plain program on real data, operation by operation: scores, masked scores, the row's maximum,
  the exponentials, their sum, the probabilities and the output.
-/
module

public import proofs.«01_k».proof.Proof.Gen.ReferenceIdeal.Read
public import proofs.«01_k».proof.Proof.Result
public import proofs.«01_k».proof.Proof.Tile
public import Idealize.ShloMosaic.PureOps.Ideal.Laws

@[expose] public section

noncomputable section

namespace Cert.ReferenceIdeal.Gradient

open Cert.ReferenceIdeal Cert.ReferenceIdeal.Gen Cert.ReferenceIdeal.Read Cert.Block Cert.Spec
open Idealize.ShloMosaic hiding ix0 ix1 ix2 ix3
open Idealize.ShloMosaic.ValueIdx
open scoped BigOperators

variable {a : Data} {x0 x1 x2 x3 : Mat 2176 1024 .bf16} {x4 : FVec Ideal ⟨2, ![8, 2176]⟩ .f32}
  (I : Inputs a x0 x1 x2 x3 x4)

/-- Where an entry of a head sits in the joined row. -/
theorem heads_idx (i : Fin 2176) (h : Fin 8) (d : Fin 128) : idx_main_v1 (ix3 i h d) = ix2 i (lane h d) := by
  funext b
  match b with
  | ⟨0, _⟩ => exact Fin.ext (by show ((i.val * 8 + h.val) * 128 + d.val) / 1024 = i.val; omega)
  | ⟨1, _⟩ => exact Fin.ext (by show ((i.val * 8 + h.val) * 128 + d.val) % 1024 = h.val * 128 + d.val; omega)

include I

/-- An entry of the queries split into heads. -/
theorem query_at (i : Fin 2176) (h : Fin 8) (d : Fin 128) :
    val_main_v1 (F := Ideal) x0 (ix3 i h d) = (a.Q i (lane h d) : EReal) := by
  rw [val_main_v1_apply]
  exact (congrArg x0 (heads_idx i h d)).trans (I.q _ _)

/-- An entry of the keys split into heads. -/
theorem key_at (i : Fin 2176) (h : Fin 8) (d : Fin 128) :
    val_main_v3 (F := Ideal) x1 (ix3 i h d) = (a.K i (lane h d) : EReal) := by
  rw [val_main_v3_apply]
  exact (congrArg x1 (heads_idx i h d)).trans (I.k _ _)

/-- An entry of the values split into heads. -/
theorem value_at (i : Fin 2176) (h : Fin 8) (d : Fin 128) :
    val_main_v5 (F := Ideal) x2 (ix3 i h d) = (a.V i (lane h d) : EReal) := by
  rw [val_main_v5_apply]
  exact (congrArg x2 (heads_idx i h d)).trans (I.v _ _)

/-- An entry of the cotangent split into heads. -/
theorem cotangent_at (i : Fin 2176) (h : Fin 8) (d : Fin 128) :
    val_main_v7 (F := Ideal) x3 (ix3 i h d) = (a.D i (lane h d) : EReal) := by
  rw [val_main_v7_apply]
  exact (congrArg x3 (heads_idx i h d)).trans (I.d _ _)

/-- A score before the mask. -/
theorem score_at (h : Fin 8) (i j : Fin 2176) :
    val_main_v17 (F := Ideal) x0 x1 x4 (ix3 h i j) = (a.score h i j : EReal) := by
  have e9 : val_main_v9 (F := Ideal) x0 x1 (ix3 h i j) = ((∑ d : Fin 128, a.Q i (lane h d) * a.K j (lane h d) : ℝ) : EReal) := by
    rw [val_main_v9_apply, coe_sum]
    refine Finset.sum_congr rfl fun d _ => ?_
    rw [EReal.coe_mul, ← query_at I i h d, ← key_at I j h d]
    exact congrArg₂ _ (congrArg _ (ValueIdx.eq_ix3 _)) (congrArg _ (ValueIdx.eq_ix3 _))
  have e10 : val_main_v10 (F := Ideal) (ix3 h i j) = (a.σ : EReal) := by
    rw [val_main_v10_apply, I.scale]; exact ofBits_scale
  have e14 : val_main_v14 (F := Ideal) x4 (ix3 h i j) = (a.C h i : EReal) := by
    rw [val_main_v14_apply, val_main_v12_apply, ← I.c]; exact congrArg x4 (ValueIdx.eq_ix2 _)
  have e15 : val_main_v15 (F := Ideal) x4 (ix3 h i j) = (a.C h j : EReal) := by
    rw [val_main_v15_apply, val_main_v13_apply, ← I.c]; exact congrArg x4 (ValueIdx.eq_ix2 _)
  rw [val_main_v17_apply, val_main_v11_apply, val_main_v16_apply, e9, e10, e14, e15]
  show _ * _ + (_ - _) = _
  unfold Data.score
  push_cast
  rfl

omit I in
/-- The mask holds for the keys up to the row. -/
theorem mask_at (h : Fin 8) (i j : Fin 2176) : val_main_v23_1 (F := Ideal) (ix3 h i j) = if j ≤ i then 1#1 else 0#1 := by
  rw [val_main_v23_1_apply, val_main_v22_apply, val_main_v20_apply, val_main_v21_apply, val_main_v18_apply, val_main_v19_apply,
    val_main_v8_apply, val_main_v8_apply]
  refine (WordCmp.cmpi_sge_ofNat (w := 32) (a := i.val) (b := j.val) (by omega) (by omega)).trans ?_
  by_cases hj : j ≤ i
  · rw [if_pos hj, decide_eq_true (Fin.le_def.mp hj)]; rfl
  · rw [if_neg hj, decide_eq_false (fun h => hj (Fin.le_def.mpr h))]; rfl

omit I in
/-- The mask's constant is minus infinity. -/
theorem ofBits_neg_inf : Ideal.ofBits .f32 0xFF800000#32 = ⊥ := by simp [Ideal.ofBits, Ideal.ieee, FTy.bits]

/-- A score after the mask. -/
theorem masked_at (h : Fin 8) (i j : Fin 2176) :
    val_main_v23_0 (F := Ideal) x0 x1 x4 (ix3 h i j) = if j ≤ i then (a.score h i j : EReal) else ⊥ := by
  rw [val_main_v23_0_apply, mask_at, score_at I]
  by_cases hj : j ≤ i
  · rw [if_pos hj, if_pos hj]; rfl
  · rw [if_neg hj, if_neg hj, val_main_call0_v2_apply]
    exact ofBits_neg_inf

/-- The maximum of a row is a real number. -/
theorem max_at (h : Fin 8) (i : Fin 2176) : ∃ M : ℝ, val_main_v24 (F := Ideal) x0 x1 x4 (ix2 h i) = (M : EReal) := by
  have key := Host.reduce_eq_fold (FloatOps.maximumf (F := Ideal) (φ := .f32)) (val_main_v23_0 (F := Ideal) x0 x1 x4)
    (val_main_cst_1 (F := Ideal)) reducesTo_S8x2176x2176_S8x2176_d2 h_S_ (ix2 h i)
  have e : val_main_v24 (F := Ideal) x0 x1 x4 (ix2 h i)
      = Finset.fold max (⊥ : EReal) (val_main_v23_0 (F := Ideal) x0 x1 x4)
          (Finset.univ.filter fun y => reducesTo_S8x2176x2176_S8x2176_d2.drop y = ix2 h i) := by
    refine (show _ = _ from key).trans ?_
    rw [show val_main_cst_1 (F := Ideal) (Shape.Idx.first h_S_) = ⊥ from ofBits_neg_inf]
    rfl
  have all (y : S8x2176x2176.Idx) : val_main_v23_0 (F := Ideal) x0 x1 x4 y < ⊤ := by
    obtain ⟨b, c, d, rfl⟩ : ∃ (b : Fin 8) (c d : Fin 2176), y = ix3 b c d := ⟨y 0, y 1, y 2, ValueIdx.eq_ix3 y⟩
    rw [masked_at I]
    split
    · exact EReal.coe_lt_top _
    · exact bot_lt_top
  have lo : ⊥ < val_main_v24 (F := Ideal) x0 x1 x4 (ix2 h i) := by
    rw [e, Finset.lt_fold_max]
    refine .inr ⟨ix3 h i i, Finset.mem_filter.mpr ⟨Finset.mem_univ _, ?_⟩, ?_⟩
    · funext b
      match b with
      | ⟨0, _⟩ => exact Fin.ext (reducesTo_S8x2176x2176_S8x2176_d2.drop_apply_val (ix3 h i i) 0)
      | ⟨1, _⟩ => exact Fin.ext (reducesTo_S8x2176x2176_S8x2176_d2.drop_apply_val (ix3 h i i) 1)
    · rw [masked_at I, if_pos le_rfl]; exact EReal.bot_lt_coe _
  have hi : val_main_v24 (F := Ideal) x0 x1 x4 (ix2 h i) < ⊤ := by
    rw [e, Finset.fold_max_lt]
    exact ⟨bot_lt_top, fun y _ => all y⟩
  exact ⟨_, (EReal.coe_toReal hi.ne lo.ne').symm⟩

/-- The exponentials of a row, shifted by its maximum. -/
theorem exp_at (h : Fin 8) (i : Fin 2176) {M : ℝ} (hM : val_main_v24 (F := Ideal) x0 x1 x4 (ix2 h i) = (M : EReal)) (j : Fin 2176) :
    val_main_v44 (F := Ideal) x0 x1 x4 (ix3 h i j) = ((if j ≤ i then Real.exp (a.score h i j - M) else 0 : ℝ) : EReal) := by
  have e42 : val_main_v42 (F := Ideal) x0 x1 x4 (ix3 h i j) = (M : EReal) := by
    rw [val_main_v42_apply, val_main_v41_apply, val_main_v31_apply, val_main_v30_apply]
    show max (Ideal.ofBits .f32 0xFF800000#32) (val_main_v24 (F := Ideal) x0 x1 x4 _) = _
    rw [ofBits_neg_inf, bot_sup_eq, ← hM]
    exact congrArg _ (ValueIdx.eq_ix2 _)
  rw [val_main_v44_apply, val_main_v43_apply, e42, masked_at I]
  show Ideal.exp ((_ : EReal) - (M : EReal)) = _
  split
  · rw [← EReal.coe_sub]; rfl
  · rfl

/-- The sum of a row's exponentials. -/
theorem sum_at (h : Fin 8) (i : Fin 2176) {M : ℝ} (hM : val_main_v24 (F := Ideal) x0 x1 x4 (ix2 h i) = (M : EReal)) :
    val_main_v45 (F := Ideal) x0 x1 x4 (ix2 h i) = (a.total h i * Real.exp (-M) : ℝ) := by
  rw [val_main_v45_apply, ← a.sum_shifted h i M, coe_sum]
  refine (congrArg (· + _) (show val_main_cst_9 (F := Ideal) (Shape.Idx.first h_S_) = 0 from Ideal.ofBits_zero_f32)).trans ?_
  refine (zero_add _).trans (Finset.sum_congr rfl fun j _ => ?_)
  rw [← exp_at I h i hM j]
  exact congrArg _ (ValueIdx.eq_ix3 _)

omit I in
variable (a) in
/-- The scaled sum of a row's exponentials isn't zero. -/
theorem sum_ne (h : Fin 8) (i : Fin 2176) (M : ℝ) : a.total h i * Real.exp (-M) ≠ 0 :=
  (mul_pos (a.total_pos h i) (Real.exp_pos _)).ne'

omit I in
/-- A quotient of real numbers. -/
theorem div_coe {x y : ℝ} (hy : y ≠ 0) : Ideal.div (x : EReal) (y : EReal) = ((x / y : ℝ) : EReal) := by
  rw [Ideal.div_coe hy, ← EReal.coe_mul, mul_one_div]

/-- The probabilities. -/
theorem prob_at (h : Fin 8) (i j : Fin 2176) : val_main_v48 (F := Ideal) x0 x1 x4 (ix3 h i j) = (a.prob h i j : EReal) := by
  obtain ⟨M, hM⟩ := max_at I h i
  have e47 : val_main_v47 (F := Ideal) x0 x1 x4 (ix3 h i j) = (a.total h i * Real.exp (-M) : ℝ) := by
    rw [val_main_v47_apply, val_main_v46_apply, ← sum_at I h i hM]
    exact congrArg _ (ValueIdx.eq_ix2 _)
  rw [val_main_v48_apply, exp_at I h i hM j, e47]
  refine (div_coe (sum_ne a h i M)).trans ?_
  rw [a.prob_eq_shifted h i j M]

/-- The output. -/
theorem out_at (i : Fin 2176) (h : Fin 8) (d : Fin 128) :
    val_main_v53 (F := Ideal) x0 x1 x2 x4 (ix3 i h d) = (a.out h i d : EReal) := by
  rw [val_main_v53_apply, val_main_v52_apply]
  unfold Data.out
  rw [coe_sum]
  refine Finset.sum_congr rfl fun j _ => ?_
  rw [EReal.coe_mul, ← value_at I j h d, ← prob_at I h i j, mul_comm]
  exact congrArg₂ _ (congrArg _ (ValueIdx.eq_ix3 _)) (congrArg _ (ValueIdx.eq_ix3 _))

/-- The cotangents of the probabilities. -/
theorem dprob_at (h : Fin 8) (i j : Fin 2176) : val_main_v55 (F := Ideal) x2 x3 (ix3 h i j) = (a.dprob h i j : EReal) := by
  rw [val_main_v55_apply]
  unfold Data.dprob
  rw [coe_sum]
  refine Finset.sum_congr rfl fun d _ => ?_
  rw [EReal.coe_mul, ← cotangent_at I i h d, ← value_at I j h d, val_main_v54_apply]
  exact congrArg₂ _ (congrArg _ (ValueIdx.eq_ix3 _)) (congrArg _ (ValueIdx.eq_ix3 _))

end Cert.ReferenceIdeal.Gradient
-- ==== Proof.LogSum.lean ====
/-
  The logarithm of a row's sum of weights, as the host lines form it: the row's maximum plus the logarithm of the sum of the
  exponentials shifted by it.
-/
module

public import proofs.«01_k».proof.Proof.RefForward

@[expose] public section

noncomputable section

namespace Cert.ReferenceIdeal.Gradient

open Cert.ReferenceIdeal Cert.ReferenceIdeal.Gen Cert.ReferenceIdeal.Read Cert.Block Cert.Spec
open Idealize.ShloMosaic hiding ix0 ix1 ix2 ix3
open Idealize.ShloMosaic.ValueIdx
open scoped BigOperators

variable {a : Data} {x0 x1 x2 x3 : Mat 2176 1024 .bf16} {x4 : FVec Ideal ⟨2, ![8, 2176]⟩ .f32}

/-- The sum of a row's exponentials, shifted by the row's maximum. -/
def shiftedSum (x0 x1 : Mat 2176 1024 .bf16) (x4 : FVec Ideal ⟨2, ![8, 2176]⟩ .f32) : FVec Ideal S8x2176 .f32 :=
  Host.reduceAdd (Host.exp (subf (val_main_v23_0 (F := Ideal) x0 x1 x4)
      (broadcastInDim S8x2176x2176 ![0, 1, 2] bcast_S8x2176x1_S8x2176x2176_0_1_2
        (broadcastInDim S8x2176x1 ![0, 1] bcast_S8x2176_S8x2176x1_0_1 (val_main_v24 (F := Ideal) x0 x1 x4)))))
    (constant S_ .f32 0x00000000#32) reducesTo_S8x2176x2176_S8x2176_d2 h_S_

/-- The logarithm of a row's sum. -/
def logSum (x0 x1 : Mat 2176 1024 .bf16) (x4 : FVec Ideal ⟨2, ![8, 2176]⟩ .f32) : FVec Ideal S8x2176 .f32 :=
  addf (val_main_v24 (F := Ideal) x0 x1 x4) (Host.log (shiftedSum x0 x1 x4))

/-- A maximum with minus infinity changes nothing. -/
theorem max_again (x0 x1 : Mat 2176 1024 .bf16) (x4 : FVec Ideal ⟨2, ![8, 2176]⟩ .f32) :
    val_main_v31 (F := Ideal) x0 x1 x4 = val_main_v24 (F := Ideal) x0 x1 x4 := by
  funext y
  rw [val_main_v31_apply, val_main_v30_apply]
  show max (Ideal.ofBits .f32 0xFF800000#32) _ = _
  rw [ofBits_neg_inf, bot_sup_eq]

/-- The shifted sum is the one the plain program divides by. -/
theorem shiftedSum_eq (x0 x1 : Mat 2176 1024 .bf16) (x4 : FVec Ideal ⟨2, ![8, 2176]⟩ .f32) :
    shiftedSum x0 x1 x4 = val_main_v45 (F := Ideal) x0 x1 x4 := by
  unfold shiftedSum val_main_v45 val_main_v44 val_main_v43 val_main_v42 val_main_v41
  rw [max_again]
  rfl

/-- A sum with a logarithm, entry by entry. -/
theorem add_log_apply (x z : FVec Ideal S8x2176 .f32) (y : S8x2176.Idx) {p q : ℝ} (hp : x y = (p : EReal)) (hq : z y = (q : EReal))
    (h : 0 < q) : addf x (Host.log z) y = ((p + Real.log q : ℝ) : EReal) := by
  show (x y : EReal) + Ideal.log (z y) = _
  rw [hp, hq, Ideal.log_coe, if_neg (not_le.mpr h), EReal.coe_add]

/-- The logarithm of a row's sum of weights. -/
theorem logSum_at (I : Inputs a x0 x1 x2 x3 x4) (h : Fin 8) (i : Fin 2176) :
    logSum x0 x1 x4 (ix2 h i) = (Real.log (a.total h i) : EReal) := by
  obtain ⟨M, hM⟩ := max_at I h i
  unfold logSum
  rw [shiftedSum_eq]
  refine (add_log_apply _ _ _ hM (sum_at I h i hM) (mul_pos (a.total_pos h i) (Real.exp_pos _))).trans ?_
  rw [a.log_shifted h i M]

end Cert.ReferenceIdeal.Gradient
-- ==== Proof.Host.lean ====
/-
  What the host lines before the query-side gradient kernel leave: the running sums in two layouts and the logarithms of the
  rows' sums.
-/
module

public import proofs.«01_k».proof.Proof.Grid
public import proofs.«01_k».proof.Proof.LogSum
public import Idealize.ShloMosaic.Lib.Claim

@[expose] public section

noncomputable section

namespace Cert.KernelIdeal.Host

open Cert.KernelIdeal Cert.KernelIdeal.Gen Cert.KernelIdeal.Grid Cert.Block Cert.Spec Cert.ReferenceIdeal.Gradient
open Idealize.SL.Sem Idealize.ShloMosaic.TcCoe
open Idealize.ShloMosaic hiding ix0 ix1 ix2 ix3
open Idealize.ShloMosaic.ValueIdx

variable (m : (ℓ : Loc nD τ sig) → Buf (Elt Ideal) ℓ) (c : Dev nD)

/-- The running sums as columns. -/
theorem v28_eq : V m c main_v28 = shapeCast S8x2176x1 (m ((c : Thread nD τ).loc main_arg4)) shapeCasts_S8x2176_S8x2176x1 := by
  show StableHlo.after (List.flatten [hostOps0, hostOps0_1, hostOps0_2]) (fun b => m (c, b)) _ = _
  simp only [hostOps0, hostOps0_1, hostOps0_2, List.flatten_cons, List.flatten_nil, List.append_nil, List.cons_append,
    List.nil_append, StableHlo.TRef.nullary, StableHlo.TRef.ternary, StableHlo.TRef.unary, StableHlo.TRef.toBuf,
    StableHlo.TRef.ofBuf, cast_eq]
  after_results_simp
  rfl

/-- The running sums as rows. -/
theorem v29_eq : V m c main_v29 = shapeCast S8x1x2176 (m ((c : Thread nD τ).loc main_arg4)) shapeCasts_S8x2176_S8x1x2176 := by
  show StableHlo.after (List.flatten [hostOps0, hostOps0_1, hostOps0_2]) (fun b => m (c, b)) _ = _
  simp only [hostOps0, hostOps0_1, hostOps0_2, List.flatten_cons, List.flatten_nil, List.append_nil, List.cons_append,
    List.nil_append, StableHlo.TRef.nullary, StableHlo.TRef.ternary, StableHlo.TRef.unary, StableHlo.TRef.toBuf,
    StableHlo.TRef.ofBuf, cast_eq]
  after_results_simp
  rfl

/-- The logarithms of the rows' sums as columns. -/
theorem v30_eq : V m c main_v30 = shapeCast S8x2176x1 (logSum (m ((c : Thread nD τ).loc main_arg0))
    (m ((c : Thread nD τ).loc main_arg1)) (m ((c : Thread nD τ).loc main_arg4))) shapeCasts_S8x2176_S8x2176x1 := by
  show StableHlo.after (List.flatten [hostOps0, hostOps0_1, hostOps0_2]) (fun b => m (c, b)) _ = _
  simp only [hostOps0, hostOps0_1, hostOps0_2, List.flatten_cons, List.flatten_nil, List.append_nil, List.cons_append,
    List.nil_append, StableHlo.TRef.nullary, StableHlo.TRef.ternary, StableHlo.TRef.unary, StableHlo.TRef.toBuf,
    StableHlo.TRef.ofBuf, cast_eq]
  after_results_simp
  rfl

/-- A column holds the entries of its row. -/
theorem column_apply (x : FVec Ideal S8x2176 .f32) (h : Fin 8) (i : Fin 2176) :
    shapeCast S8x2176x1 x shapeCasts_S8x2176_S8x2176x1 (ix3 h i (0 : Fin 1)) = x (ix2 h i) :=
  shapeCast_apply x shapeCasts_S8x2176_S8x2176x1 (ix3 h i (0 : Fin 1)) (ix2 h i) (by
    rewrite [Shape.rowMajor_val_two, Shape.rowMajor_val_three]
    show h.val * 2176 + i.val = (h.val * 2176 + i.val) * 1 + 0
    omega)

/-- So does a row with a unit axis before it. -/
theorem row_apply (x : FVec Ideal S8x2176 .f32) (h : Fin 8) (i : Fin 2176) :
    shapeCast S8x1x2176 x shapeCasts_S8x2176_S8x1x2176 (ix3 h (0 : Fin 1) i) = x (ix2 h i) :=
  shapeCast_apply x shapeCasts_S8x2176_S8x1x2176 (ix3 h (0 : Fin 1) i) (ix2 h i) (by
    rewrite [Shape.rowMajor_val_two, Shape.rowMajor_val_three]
    show h.val * 2176 + i.val = (h.val * 1 + 0) * 2176 + i.val
    omega)

/-- The arrays the region finds hold the problem's data and the rows' log-sums. -/
theorem holds {a : Data} (I : Inputs a (m ((c : Thread nD τ).loc main_arg0)) (m ((c : Thread nD τ).loc main_arg1))
    (m ((c : Thread nD τ).loc main_arg2)) (m ((c : Thread nD τ).loc main_arg3)) (m ((c : Thread nD τ).loc main_arg4))) :
    Holds m c a where
  scale := I.scale
  q i e := (congrFun (V_main_arg0 m c) _).trans (I.q i e)
  k i e := (congrFun (V_main_arg1 m c) _).trans (I.k i e)
  v i e := (congrFun (V_main_arg2 m c) _).trans (I.v i e)
  d i e := (congrFun (V_main_arg3 m c) _).trans (I.d i e)
  cq h i := (congrFun (v28_eq m c) _).trans ((column_apply _ h i).trans (I.c h i))
  ck h i := (congrFun (v29_eq m c) _).trans ((row_apply _ h i).trans (I.c h i))
  l h i := (congrFun (v30_eq m c) _).trans ((column_apply _ h i).trans (logSum_at I h i))

end Cert.KernelIdeal.Host
-- ==== Proof.RefBackward.lean ====
/-
  The backward half of the plain program on real data, operation by operation, and its results: the gradients of the queries,
  keys and values, the row sums the softmax gradient subtracts, and the gradients of the running sums through either side.
-/
module

public import proofs.«01_k».proof.Proof.RefForward

@[expose] public section

noncomputable section

namespace Cert.ReferenceIdeal.Gradient

open Cert.ReferenceIdeal Cert.ReferenceIdeal.Gen Cert.ReferenceIdeal.Read Cert.Block Cert.Spec
open Idealize.ShloMosaic hiding ix0 ix1 ix2 ix3
open Idealize.ShloMosaic.ValueIdx
open scoped BigOperators

variable {a : Data} {x0 x1 x2 x3 : Mat 2176 1024 .bf16} {x4 : FVec Ideal ⟨2, ![8, 2176]⟩ .f32}
  (I : Inputs a x0 x1 x2 x3 x4)

/-- The zero a sum starts from drops out. -/
theorem zero_start (y : EReal) : Ideal.ofBits .f32 0x00000000#32 + y = y := by
  rw [Ideal.ofBits_zero_f32, zero_add]

/-- The softmax gradient as the plain program forms it, over real numbers: one row with exponentials `e` and cotangents `p`. -/
theorem softmax_row (e p : Fin 2176 → ℝ) {z : ℝ} (hz : z ≠ 0) (j : Fin 2176) :
    (p j / z + -(∑ k, p k * (1 / (z * z)) * e k)) * e j = e j / z * (p j - ∑ k, e k / z * p k) := by
  have s : ∑ k, p k * (1 / (z * z)) * e k = (∑ k, e k / z * p k) / z := by
    rw [Finset.sum_div]
    exact Finset.sum_congr rfl fun k _ => by field_simp
  rw [s]; field_simp; ring

include I

/-- The total of a row, repeated along the row. -/
theorem total_at (h : Fin 8) (i : Fin 2176) {M : ℝ} (hM : val_main_v24 (F := Ideal) x0 x1 x4 (ix2 h i) = (M : EReal)) (u : Fin 1) :
    val_main_v46 (F := Ideal) x0 x1 x4 (ix3 h i u) = (a.total h i * Real.exp (-M) : ℝ) := by
  rw [val_main_v46_apply, ← sum_at I h i hM]
  exact congrArg _ (ValueIdx.eq_ix2 _)

/-- The reciprocal of the squared total. -/
theorem recip_at (h : Fin 8) (i : Fin 2176) {M : ℝ} (hM : val_main_v24 (F := Ideal) x0 x1 x4 (ix2 h i) = (M : EReal)) (j : Fin 2176) :
    val_main_v58 (F := Ideal) x0 x1 x4 (ix3 h i j)
      = (1 / ((a.total h i * Real.exp (-M)) * (a.total h i * Real.exp (-M))) : ℝ) := by
  have e : idx_main_v58 (ix3 h i j) = ix3 h i (0 : Fin 1) := ValueIdx.eq_ix3 _
  rw [val_main_v58_apply, e, val_main_v51_apply, val_main_v49_apply, total_at I h i hM 0, val_main_v50_apply, val_main_cst_10_apply]
  show Ideal.div (Ideal.ofBits .f32 0x3F800000#32) (_ * _ : EReal) = _
  rw [Ideal.ofBits_one_f32, ← EReal.coe_mul]
  exact div_coe (x := 1) (mul_ne_zero (sum_ne a h i M) (sum_ne a h i M))

/-- The part of the softmax gradient that is the same along a row. -/
theorem shared_at (h : Fin 8) (i : Fin 2176) {M : ℝ} (hM : val_main_v24 (F := Ideal) x0 x1 x4 (ix2 h i) = (M : EReal)) (j : Fin 2176) :
    val_main_v67 (F := Ideal) x0 x1 x2 x3 x4 (ix3 h i j)
      = (-(∑ k, a.dprob h i k * (1 / ((a.total h i * Real.exp (-M)) * (a.total h i * Real.exp (-M))))
          * (if k ≤ i then Real.exp (a.score h i k - M) else 0)) : ℝ) := by
  have e61 : val_main_v61 (F := Ideal) x0 x1 x2 x3 x4 (ix2 h i)
      = (∑ k, a.dprob h i k * (1 / ((a.total h i * Real.exp (-M)) * (a.total h i * Real.exp (-M))))
          * (if k ≤ i then Real.exp (a.score h i k - M) else 0) : ℝ) := by
    rw [val_main_v61_apply, coe_sum]
    refine (zero_start _).trans (Finset.sum_congr rfl fun k _ => ?_)
    have e : idx_main_v61 (ix2 h i) k = ix3 h i k := ValueIdx.eq_ix3 _
    rw [e, val_main_v60_apply, val_main_v59_apply, dprob_at I h i k, recip_at I h i hM k, exp_at I h i hM k, EReal.coe_mul,
      EReal.coe_mul]
    rfl
  have e62 : val_main_v62 (F := Ideal) x0 x1 x2 x3 x4 (ix3 h i (0 : Fin 1)) = val_main_v61 (F := Ideal) x0 x1 x2 x3 x4 (ix2 h i) := by
    rw [val_main_v62_apply, show idx_main_v62 (ix3 h i (0 : Fin 1)) = ix2 h i from ?_]
    funext b
    match b with
    | ⟨0, _⟩ => exact Fin.ext (by show ((h.val * 2176 + i.val) * 1 + 0) / 2176 = h.val; omega)
    | ⟨1, _⟩ => exact Fin.ext (by show ((h.val * 2176 + i.val) * 1 + 0) % 2176 = i.val; omega)
  have e66 : idx_main_v66 (idx_main_v67 (ix3 h i j)) 0 = ix3 h i (0 : Fin 1) := ValueIdx.eq_ix3 _
  rw [val_main_v67_apply, val_main_v66_apply]
  refine (zero_start _).trans ?_
  rw [Fin.sum_univ_one, e66, val_main_v63_apply, EReal.coe_neg]
  exact congrArg (fun y : EReal => -y) (e62.trans e61)

/-- The cotangents of the scores. -/
theorem dscore_at (h : Fin 8) (i j : Fin 2176) :
    val_main_v70 (F := Ideal) x0 x1 x2 x3 x4 (ix3 h i j) = (a.dscore h i j : EReal) := by
  rw [val_main_v70_apply, mask_at]
  by_cases hj : j ≤ i
  · rw [if_pos hj]
    obtain ⟨M, hM⟩ := max_at I h i
    have e64 : val_main_v64 (F := Ideal) x0 x1 x4 (ix3 h i j) = (a.total h i * Real.exp (-M) : ℝ) := by
      have e : idx_main_v64 (ix3 h i j) = ix3 h i (0 : Fin 1) := ValueIdx.eq_ix3 _
      rw [val_main_v64_apply, e]
      exact total_at I h i hM 0
    show val_main_v69 (F := Ideal) x0 x1 x2 x3 x4 (ix3 h i j) = _
    rw [val_main_v69_apply, val_main_v68_apply, val_main_v65_apply, shared_at I h i hM, exp_at I h i hM, e64, dprob_at I]
    refine (congrArg (fun y : EReal => (y + _) * _) (div_coe (sum_ne a h i M))).trans ?_
    rw [← EReal.coe_add, ← EReal.coe_mul]
    refine congrArg _ ?_
    refine (softmax_row (fun k => if k ≤ i then Real.exp (a.score h i k - M) else 0) (a.dprob h i) (sum_ne a h i M) j).trans ?_
    unfold Data.dscore Data.delta
    simp only [a.prob_eq_shifted h i _ M]
  · rw [if_neg hj, a.dscore_eq_zero h i j hj]
    exact Ideal.ofBits_zero_f32

/-- The cotangents of the scores, times the scale. -/
theorem scaled_at (h : Fin 8) (i j : Fin 2176) :
    val_main_v79 (F := Ideal) x0 x1 x2 x3 x4 (ix3 h i j) = (a.dscore h i j * a.σ : ℝ) := by
  rw [val_main_v79_apply, dscore_at I, EReal.coe_mul, val_main_v78_apply, I.scale]
  exact congrArg _ ofBits_scale

/-- The first result: the gradients of the queries. -/
theorem dq_result : val_main_v87 (F := Ideal) x0 x1 x2 x3 x4 = dqArr a := by
  funext y
  obtain ⟨i, e, rfl⟩ : ∃ (i : Fin 2176) (e : Fin 1024), y = ix2 i e := ⟨y 0, y 1, ValueIdx.eq_ix2 y⟩
  have e82 (h : Fin 8) (d : Fin 128) : val_main_v82 (F := Ideal) x0 x1 x2 x3 x4 (ix3 h i d) = (a.dq h i d : EReal) := by
    rw [val_main_v82_apply]
    unfold Data.dq
    rw [coe_sum]
    refine Finset.sum_congr rfl fun j _ => ?_
    rw [EReal.coe_mul, ← key_at I j h d, ← scaled_at I h i j]
    exact congrArg₂ _ (congrArg _ (ValueIdx.eq_ix3 _)) (congrArg _ (ValueIdx.eq_ix3 _))
  rw [val_main_v87_apply, val_main_v83_apply]
  refine Eq.trans ?_ (e82 (headOfCol e) (laneOfCol e))
  refine congrArg _ ?_
  funext b
  match b with
  | ⟨0, _⟩ => exact Fin.ext (by show (i.val * 1024 + e.val) / 128 % 8 = e.val / 128; omega)
  | ⟨1, _⟩ => exact Fin.ext (by show (i.val * 1024 + e.val) / 1024 = i.val; omega)
  | ⟨2, _⟩ => exact Fin.ext (by show (i.val * 1024 + e.val) % 128 = e.val % 128; omega)

/-- The second result: the row sums the softmax gradient subtracts. -/
theorem delta_result : val_main_v88 (F := Ideal) x0 x1 x2 x3 x4 = deltaArr a := by
  funext y
  obtain ⟨h, u, i, rfl⟩ : ∃ (h : Fin 8) (u : Fin 1) (i : Fin 2176), y = ix3 h u i := ⟨y 0, y 1, y 2, ValueIdx.eq_ix3 y⟩
  have e85 : val_main_v85 (F := Ideal) x0 x1 x2 x3 x4 (ix2 i h) = (a.delta h i : EReal) := by
    rw [val_main_v85_apply, ← a.delta_eq_out h i, coe_sum]
    refine (zero_start _).trans (Finset.sum_congr rfl fun d _ => ?_)
    have e : idx_main_v85 (ix2 i h) d = ix3 i h d := ValueIdx.eq_ix3 _
    rw [e, val_main_v84_apply, EReal.coe_mul, ← out_at I i h d, ← cotangent_at I i h d]
    rfl
  rw [val_main_v88_apply, val_main_v86_apply]
  refine Eq.trans ?_ e85
  refine congrArg _ ?_
  funext b
  match b with
  | ⟨0, _⟩ => exact Fin.ext (by show ((h.val * 1 + u.val) * 2176 + i.val) % 2176 = i.val; omega)
  | ⟨1, _⟩ => exact Fin.ext (by show ((h.val * 1 + u.val) * 2176 + i.val) / 2176 = h.val; omega)

/-- The third result: the gradients of the running sums through the queries. -/
theorem dcq_result : val_main_v89 (F := Ideal) x0 x1 x2 x3 x4 = dcqArr a := by
  funext y
  obtain ⟨h, i, u, rfl⟩ : ∃ (h : Fin 8) (i : Fin 2176) (u : Fin 1), y = ix3 h i u := ⟨y 0, y 1, y 2, ValueIdx.eq_ix3 y⟩
  have e71 : val_main_v71 (F := Ideal) x0 x1 x2 x3 x4 (ix2 h i) = (a.dcq h i : EReal) := by
    rw [val_main_v71_apply]
    unfold Data.dcq
    rw [coe_sum]
    refine (zero_start _).trans (Finset.sum_congr rfl fun j _ => ?_)
    have e : idx_main_v71 (ix2 h i) j = ix3 h i j := ValueIdx.eq_ix3 _
    rw [e]
    exact dscore_at I h i j
  have e72 : val_main_v72 (F := Ideal) x0 x1 x2 x3 x4 (ix3 h i (0 : Fin 1)) = (a.dcq h i : EReal) := by
    rw [val_main_v72_apply, show idx_main_v72 (ix3 h i (0 : Fin 1)) = ix2 h i from ?_, e71]
    funext b
    match b with
    | ⟨0, _⟩ => exact Fin.ext (by show ((h.val * 2176 + i.val) * 1 + 0) / 2176 = h.val; omega)
    | ⟨1, _⟩ => exact Fin.ext (by show ((h.val * 2176 + i.val) * 1 + 0) % 2176 = i.val; omega)
  have e77 : val_main_v77 (F := Ideal) x0 x1 x2 x3 x4 (ix2 h i) = (a.dcq h i : EReal) := by
    rw [val_main_v77_apply]
    refine (zero_start _).trans ?_
    have e : idx_main_v77 (ix2 h i) 0 = ix3 h i (0 : Fin 1) := ValueIdx.eq_ix3 _
    rw [Fin.sum_univ_one, e]
    exact e72
  rw [val_main_v89_apply]
  refine Eq.trans ?_ e77
  refine congrArg _ ?_
  funext b
  match b with
  | ⟨0, _⟩ => exact Fin.ext (by show ((h.val * 2176 + i.val) * 1 + u.val) / 2176 = h.val; omega)
  | ⟨1, _⟩ => exact Fin.ext (by show ((h.val * 2176 + i.val) * 1 + u.val) % 2176 = i.val; omega)

end Cert.ReferenceIdeal.Gradient
-- ==== Proof.Pre.lean ====
/-
  What the precondition says: no argument has an infinite entry.
-/
module

public import proofs.«01_k».proof.Defs
public import proofs.«01_k».proof.Proof.Result
public import Idealize.ShloMosaic.Lib.ReduceAll
public import Idealize.ShloMosaic.PureOps.Ideal.Laws

@[expose] public section

noncomputable section

namespace Cert.Pre_finite

open Idealize.ShloMosaic Cert.Block
open Facts

/-- The function's side conditions. -/
theorem facts : Cert.Pre_finite.Facts where
  bcast_S_S8x2176 := by decide
  reducesTo_S8x2176_S_d0_1 := by decide
  h_S_ := by decide
  bitsLt_bf16_f32 := by decide
  bcast_S_S2176x1024 := by decide
  reducesTo_S2176x1024_S_d0_1 := by decide

/-- The single-precision infinity. -/
theorem ofBits_inf : Ideal.ofBits .f32 0x7F800000#32 = ⊤ := by simp [Ideal.ofBits, Ideal.ieee, FTy.bits]

/-- A value whose magnitude is below infinity is finite. -/
theorem finite_of_lt {x : EReal} (h : Ideal.cmp .olt (max x (-x)) (Ideal.ofBits .f32 0x7F800000#32) = 1#1) : x ≠ ⊤ ∧ x ≠ ⊥ := by
  rw [ofBits_inf] at h
  have h' : max x (-x) < ⊤ := by
    by_contra hn
    simp [Ideal.cmp, hn] at h
  constructor
  · rintro rfl; simp at h'
  · rintro rfl; simp at h'

/-- The one index of an array without axes. -/
instance : Subsingleton S_.Idx := ⟨fun _ _ => funext fun a => a.elim0⟩

/-- A word of one bit that is an `and` of two is 1 when both are. -/
theorem andi_split {x y : IVec S_ 1} {i : S_.Idx} (h : andi x y i = 1#1) : x i = 1#1 ∧ y i = 1#1 := by
  have h' : x i &&& y i = 1#1 := h
  have both : ∀ p q : BitVec 1, p &&& q = 1#1 → p = 1#1 ∧ q = 1#1 := by decide
  exact both _ _ h'

variable [Facts]

/-- A wide argument whose check passes has no infinite entry. -/
theorem finite_wide (x : FVec Ideal S8x2176 .f32) (i : S_.Idx)
    (h : Host.reduce IntOp.andi (cmpf .olt (Host.absf x) (broadcastInDim S8x2176 ![] bcast_S_S8x2176 (constant S_ .f32 0x7F800000#32)))
      (constantI S_ 1 1#1) reducesTo_S8x2176_S_d0_1 h_S_ i = 1#1) : Finite x :=
  fun y => finite_of_lt (Host.reduce_andi_all _ _ _ _ i h y)

/-- A packed argument whose check passes has no infinite entry. -/
theorem finite_packed (x : FVec Ideal S2176x1024 .bf16) (i : S_.Idx)
    (h : Host.reduce IntOp.andi (cmpf .olt (Host.absf (extf .f32 x bitsLt_bf16_f32)) (broadcastInDim S2176x1024 ![] bcast_S_S2176x1024 (constant S_ .f32 0x7F800000#32)))
      (constantI S_ 1 1#1) reducesTo_S2176x1024_S_d0_1 h_S_ i = 1#1) : Finite x :=
  fun y => finite_of_lt (Host.reduce_andi_all _ _ _ _ i h y)

/-- The precondition: no argument has an infinite entry. -/
theorem finite_of_fn (x0 x1 x2 x3 : FVec Ideal S2176x1024 .bf16) (x4 : FVec Ideal S8x2176 .f32) (i : S_.Idx)
    (h : fn (F := Ideal) x0 x1 x2 x3 x4 i = 1#1) : Finite x0 ∧ Finite x1 ∧ Finite x2 ∧ Finite x3 ∧ Finite x4 := by
  dsimp only [fn, fn_part1] at h
  obtain ⟨h, h3⟩ := andi_split h
  obtain ⟨h, h2⟩ := andi_split h
  obtain ⟨h, h1⟩ := andi_split h
  obtain ⟨h4, h0⟩ := andi_split h
  exact ⟨finite_packed x0 i h0, finite_packed x1 i h1, finite_packed x2 i h2, finite_packed x3 i h3, finite_wide x4 i h4⟩

end Cert.Pre_finite
-- ==== Proof.Values.lean ====
/-
  The two runs set side by side: from arguments without an infinite entry, the query-side gradient kernel and the plain
  program end with the same three arrays.
-/
module

public import proofs.«01_k».proof.Proof.Arrays
public import proofs.«01_k».proof.Proof.Host
public import proofs.«01_k».proof.Proof.RefBackward
public import proofs.«01_k».proof.Proof.Pre
public import proofs.«01_k».proof.Proof.Gen.ReferenceIdeal.Run

@[expose] public section

noncomputable section

namespace Cert.Values

open Idealize.SL.Sem Idealize.ShloMosaic.TcCoe Cert.Block Cert.Spec
open Idealize.ShloMosaic hiding ix0 ix1 ix2 ix3

open Cert.KernelIdeal in
/-- The kernel's run: its results are the gradient's arrays, its arguments unchanged. -/
theorem kernel_run (m : (ℓ : Loc nD τ sig) → Buf (Elt Ideal) ℓ)
    (ρ : Dev nD → PrngReg) (a : Dev nD → Data)
    (I : ∀ c : Dev nD, Inputs (a c) (m (c.tc.loc main_arg0))
      (m (c.tc.loc main_arg1))
      (m (c.tc.loc main_arg2))
      (m (c.tc.loc main_arg3))
      (m (c.tc.loc main_arg4))) :
    θ_run defs (onTc (τ := τ) (main (F := Ideal))) ⟨m, fun _ => 0, ρ⟩ fun r =>
      ∀ c : Dev nD,
        r.2.mem (c.tc.loc main_v31_0) = dqArr (a c)
        ∧ r.2.mem (c.tc.loc main_v31_1) = deltaArr (a c)
        ∧ r.2.mem (c.tc.loc main_v31_2) = dcqArr (a c)
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3)
        ∧ r.2.mem (c.tc.loc main_arg4) = m (c.tc.loc main_arg4) :=
  (θ_run _ _ _).mono (fun _ h c => ⟨(h c).1.trans (Arrays.final7 (Host.holds m c (I c))),
      (h c).2.1.trans (Arrays.final8 (Host.holds m c (I c))),
      (h c).2.2.1.trans (Arrays.final9 (Host.holds m c (I c))), (h c).2.2.2⟩)
    (Value.run_blocks m ρ)

open Cert.ReferenceIdeal in
/-- The plain program's run: its results are the gradient's arrays, its arguments unchanged. -/
theorem reference_run (m : (ℓ : Loc nD τ sig) → Buf (Elt Ideal) ℓ)
    (ρ : Dev nD → PrngReg) (a : Dev nD → Data)
    (I : ∀ c : Dev nD, Inputs (a c) (m (c.tc.loc main_arg0))
      (m (c.tc.loc main_arg1))
      (m (c.tc.loc main_arg2))
      (m (c.tc.loc main_arg3))
      (m (c.tc.loc main_arg4))) :
    θ_run defs (onTc (τ := τ) (main (F := Ideal))) ⟨m, fun _ => 0, ρ⟩ fun r =>
      ∀ c : Dev nD,
        r.2.mem (c.tc.loc main_v87) = dqArr (a c)
        ∧ r.2.mem (c.tc.loc main_v88) = deltaArr (a c)
        ∧ r.2.mem (c.tc.loc main_v89) = dcqArr (a c)
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3)
        ∧ r.2.mem (c.tc.loc main_arg4) = m (c.tc.loc main_arg4) :=
  (θ_run _ _ _).mono (fun _ h c => ⟨(h c).1.trans ((Read.val_main_v87_eq m c).trans (Gradient.dq_result (I c))),
      (h c).2.1.trans ((Read.val_main_v88_eq m c).trans (Gradient.delta_result (I c))),
      (h c).2.2.1.trans ((Read.val_main_v89_eq m c).trans (Gradient.dcq_result (I c))), (h c).2.2.2⟩)
    (Value.run m ρ)

end Cert.Values
-- ==== Proof.Product.lean ====
/-
  Products of matrices over the extended reals read at an index, and what rescaling does to a sum.
-/
module

public import Idealize.ShloMosaic.Lib.MatmulPlain
public import Idealize.ShloMosaic.Lib.ValueLayout
public import Idealize.ShloMosaic.Lib.ValueLayoutCasts
public import Idealize.ShloMosaic.Lib.Pipeline.ValueKit
public import Idealize.ShloMosaic.Lib.Pipeline.Value

@[expose] public section

noncomputable section

open Idealize.ShloMosaic hiding ix0 ix1 ix2 ix3
open Idealize.ShloMosaic.ValueIdx
open scoped BigOperators

namespace Cert.Product

variable {m k n : ℕ}

/-- Indices with equal coordinates are equal. -/
theorem ix3_congr {a a' : Fin m} {b b' : Fin k} {c c' : Fin n} (ha : a.val = a'.val) (hb : b.val = b'.val) (hc : c.val = c'.val) :
    ix3 a b c = ix3 a' b' c' := by
  rw [Fin.ext ha, Fin.ext hb, Fin.ext hc]

/-- A product from the zero accumulator read at an index. -/
theorem plain_apply {φ : FTy} (x : FVec Ideal ⟨2, ![m, k]⟩ φ) (y : FVec Ideal ⟨2, ![k, n]⟩ φ) (r : Fin m) (c : Fin n) :
    matmul (DotDims.plain m k n) none x y (constant ⟨2, ![m, n]⟩ .f32 0x00000000#32) (ix2 r c) = ∑ d : Fin k, x (ix2 r d) * y (ix2 d c) := by
  rw [show matmul (DotDims.plain m k n) none x y (constant _ .f32 0x00000000#32) (ix2 r c) = _ from
    Ideal.matmul_plain_apply none x y _ r c, constant_apply, Ideal.ofBits_zero_f32, zero_add]

/-- A product of rows with rows from the zero accumulator read at an index. -/
theorem rows_apply {φ : FTy} (x : FVec Ideal ⟨2, ![m, k]⟩ φ) (y : FVec Ideal ⟨2, ![n, k]⟩ φ) (r : Fin m) (c : Fin n) :
    matmul (DotDims.transposedRhs m k n) none x y (constant ⟨2, ![m, n]⟩ .f32 0x00000000#32) (ix2 r c) = ∑ d : Fin k, x (ix2 r d) * y (ix2 c d) := by
  rw [show matmul (DotDims.transposedRhs m k n) none x y (constant _ .f32 0x00000000#32) (ix2 r c) = _ from
    Ideal.matmul_transposedRhs_apply none x y _ r c, constant_apply, Ideal.ofBits_zero_f32, zero_add]

/-- A positive real factor goes into a sum of extended reals. -/
theorem mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert i s hi ih =>
    rw [Finset.sum_insert hi, Finset.sum_insert hi, ← ih]
    exact EReal.left_distrib_of_nonneg_of_ne_top (EReal.coe_nonneg.mpr hc) (EReal.coe_ne_top c) _ _

/-- A sum taken slab by slab. -/
theorem slabs {a b n : ℕ} (hn : a * b = n) (f : Fin n → EReal) (g : Fin a → Fin b → Fin n) (hg : ∀ q s, (g q s).val = q.val * b + s.val) :
    ∑ q : Fin a, ∑ s : Fin b, f (g q s) = ∑ k : Fin n, f k := by
  subst hn
  rw [← Equiv.sum_comp finProdFinEquiv f, Fintype.sum_prod_type]
  refine Finset.sum_congr rfl fun q _ => Finset.sum_congr rfl fun s _ => congrArg f (Fin.ext ?_)
  rw [hg, finProdFinEquiv_apply_val]
  show q.val * b + s.val = s.val + b * q.val
  rw [Nat.mul_comm, Nat.add_comm]

/-- One half. -/
theorem half : Ideal.ofBits .f32 0x3F000000#32 = (((1 : ℝ) / 2 : ℝ) : EReal) := by
  simp [Ideal.ofBits, Ideal.ieee, -EReal.coe_mul]
  norm_num

/-- A load of everything after stores of which the last is of everything. -/
theorem readCov_last {Val : EltTy → Type} [∀ e, Nonempty (Val e)] {sig : RefSig} {κ : Kind} {sp : Space} {S : Shape} {e : EltTy}
    (v : View sig κ sp S e) {off off' : Fin S.rank → Nat} (h : off = fun _ => 0) (h' : off' = fun _ => 0)
    (inb : ∀ a, off a + S.size a ≤ S.size a) (inb' : ∀ a, off' a + S.size a ≤ S.size a) (w : S.Idx → Val e) (L : List (View.Piece Val S e)) :
    v.readCov ((⟨Rect.unit off S.size inb, w⟩ : View.Piece Val S e) :: L) (Rect.unit off' S.size inb').toLoadRect = w := by
  subst h; subst h'
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

end Cert.Product
-- ==== Proof.Hidden.lean ====
/-
  The gradients of the gated layer's two hidden products: the cotangent of the hidden rows times what the forward pass saved.
-/
module

public import proofs.«01_k».proof.Proof.Product
public import proofs.«01_k».proof.Proof.Gen.Kernel2Ideal.Value

@[expose] public section

set_option maxRecDepth 16384

noncomputable section

open Idealize.SL.Sem
open Idealize.ShloMosaic hiding ix0 ix1 ix2 ix3
open Idealize.ShloMosaic.ValueIdx
open scoped BigOperators

namespace Cert.Hidden

/-- The cotangent of the hidden rows: the outputs' cotangents `d`, halved, times the transposed weight `w`. -/
def back (d : FVec Ideal ⟨2, ![2176, 2048]⟩ .bf16) (w : FVec Ideal ⟨2, ![5632, 2048]⟩ .bf16) (r : Fin 2176) (e : Fin 5632) : EReal :=
  ∑ k : Fin 2048, ((((1 : ℝ) / 2 : ℝ) : EReal) * d (ix2 r k) * w (ix2 e k) : EReal)

/-- The same times the saved factor `p`. -/
def grad (d : FVec Ideal ⟨2, ![2176, 2048]⟩ .bf16) (w : FVec Ideal ⟨2, ![5632, 2048]⟩ .bf16) (p : FVec Ideal ⟨2, ![2176, 5632]⟩ .bf16) :
    FVec Ideal ⟨2, ![2176, 5632]⟩ .bf16 :=
  fun y => (back d w (y 0) (y 1) * p y : EReal)

/-- The halving goes into the product. -/
theorem half_sum (d : FVec Ideal ⟨2, ![2176, 2048]⟩ .bf16) {n : ℕ} (w : FVec Ideal ⟨2, ![n, 2048]⟩ .bf16) (r : Fin 2176) (e : Fin n) :
    (Ideal.ofBits .f32 0x3F000000#32 * ∑ k : Fin 2048, d (ix2 r k) * w (ix2 e k) : EReal)
      = ∑ k : Fin 2048, ((((1 : ℝ) / 2 : ℝ) : EReal) * d (ix2 r k) * w (ix2 e k) : EReal) := by
  rw [Product.half]
  refine (Product.mul_sum Finset.univ (1 / 2) (by norm_num) _).trans (Finset.sum_congr rfl fun k _ => ?_)
  exact (mul_assoc (_ : EReal) _ _).symm

end Cert.Hidden

namespace Cert.Kernel2Ideal.Array

open Cert.Kernel2Ideal Cert.Kernel2Ideal.Gen Cert.Hidden Idealize.ShloMosaic.TcCoe

/-- The cotangent of the hidden rows in a block. -/
theorem pay1_apply (x : Vec Ideal S2176x2048 .bf16) (y : Vec Ideal S256x2048 .bf16) (r : Fin 2176) (s : Fin 256) :
    k0_pay1 (F := Ideal) x y (ix2 r s) = (∑ k : Fin 2048, ((((1 : ℝ) / 2 : ℝ) : EReal) * x (ix2 r k) * y (ix2 s k) : EReal)) := by
  unfold k0_pay1
  refine Eq.trans ?_ (half_sum x y r s)
  exact congrArg (fun a : EReal => (Ideal.ofBits .f32 0x3F000000#32 : EReal) * a) (Product.rows_apply (φ := .bf16) x y r s)

/-- What the body stores of the first output. -/
theorem pay2_apply (x : Vec Ideal S2176x2048 .bf16) (y : Vec Ideal S256x2048 .bf16) (p : Vec Ideal S2176x256 .bf16) (r : Fin 2176) (s : Fin 256) :
    k0_pay2 (F := Ideal) x y p (ix2 r s) = ((∑ k : Fin 2048, ((((1 : ℝ) / 2 : ℝ) : EReal) * x (ix2 r k) * y (ix2 s k) : EReal)) * p (ix2 r s) : EReal) := by
  unfold k0_pay2
  simp only [shapeCast_self]
  exact congrArg (fun a : EReal => a * (p (ix2 r s) : EReal)) (pay1_apply x y r s)

/-- What the body stores of the second output. -/
theorem pay3_apply (x : Vec Ideal S2176x2048 .bf16) (y : Vec Ideal S256x2048 .bf16) (p : Vec Ideal S2176x256 .bf16) (r : Fin 2176) (s : Fin 256) :
    k0_pay3 (F := Ideal) x y p (ix2 r s) = ((∑ k : Fin 2048, ((((1 : ℝ) / 2 : ℝ) : EReal) * x (ix2 r k) * y (ix2 s k) : EReal)) * p (ix2 r s) : EReal) := by
  unfold k0_pay3
  simp only [shapeCast_self]
  exact congrArg (fun a : EReal => a * (p (ix2 r s) : EReal)) (pay1_apply x y r s)

variable (m : (ℓ : Loc nD τ sig) → Buf (Elt Ideal) ℓ) (c : Dev nD) (t : Fin cfg0.N)

/-- The cotangents are one block. -/
theorem idx0 : ∀ t : Fin cfg0.N, win0_0.index t 0 = 0 ∧ win0_0.index t 1 = 0 :=
  (by decide +kernel : ∀ t : Fin grid0.N, win0_0.index t 0 = 0 ∧ win0_0.index t 1 = 0)

/-- The weight's block coordinates. -/
theorem idx1 : ∀ t : Fin cfg0.N, win0_1.index t 0 = t.val ∧ win0_1.index t 1 = 0 :=
  (by decide +kernel : ∀ t : Fin grid0.N, win0_1.index t 0 = t.val ∧ win0_1.index t 1 = 0)

/-- The first saved factor's block coordinates. -/
theorem idx2 : ∀ t : Fin cfg0.N, win0_2.index t 0 = 0 ∧ win0_2.index t 1 = t.val :=
  (by decide +kernel : ∀ t : Fin grid0.N, win0_2.index t 0 = 0 ∧ win0_2.index t 1 = t.val)

/-- The second saved factor's block coordinates. -/
theorem idx3 : ∀ t : Fin cfg0.N, win0_3.index t 0 = 0 ∧ win0_3.index t 1 = t.val :=
  (by decide +kernel : ∀ t : Fin grid0.N, win0_3.index t 0 = 0 ∧ win0_3.index t 1 = t.val)

/-- The first output's block coordinates. -/
theorem idx4 : ∀ t : Fin cfg0.N, win0_4.index t 0 = 0 ∧ win0_4.index t 1 = t.val :=
  (by decide +kernel : ∀ t : Fin grid0.N, win0_4.index t 0 = 0 ∧ win0_4.index t 1 = t.val)

/-- The second output's block coordinates. -/
theorem idx5 : ∀ t : Fin cfg0.N, win0_5.index t 0 = 0 ∧ win0_5.index t 1 = t.val :=
  (by decide +kernel : ∀ t : Fin grid0.N, win0_5.index t 0 = 0 ∧ win0_5.index t 1 = t.val)

/-- No block of the first output is cut short. -/
theorem size4 : ∀ t : Fin cfg0.N, win0_4.xsize (grid0.coords t) 0 = 2176 ∧ win0_4.xsize (grid0.coords t) 1 = 256 :=
  (by decide +kernel : ∀ t : Fin grid0.N, win0_4.xsize (grid0.coords t) 0 = 2176 ∧ win0_4.xsize (grid0.coords t) 1 = 256)

/-- No block of the second output is cut short. -/
theorem size5 : ∀ t : Fin cfg0.N, win0_5.xsize (grid0.coords t) 0 = 2176 ∧ win0_5.xsize (grid0.coords t) 1 = 256 :=
  (by decide +kernel : ∀ t : Fin grid0.N, win0_5.xsize (grid0.coords t) 0 = 2176 ∧ win0_5.xsize (grid0.coords t) 1 = 256)

/-- There are twenty-two points. -/
theorem lt22 : t.val < 22 := t.isLt

/-- The hidden columns at point `t`. -/
def colAt (s : Fin 256) : Fin 5632 := ⟨t.val * 256 + s.val, by have := lt22 t; omega⟩

/-- The block of the cotangents. -/
theorem read0 (X : Vec Ideal S2176x2048 .bf16) (r : Fin 2176) (k : Fin 2048) :
    (((cfg0.win 0).blk t).view.read (Elt Ideal) X : Vec Ideal S2176x2048 .bf16) (ix2 r k) = X (ix2 r k) := by
  show X ((win0_0.rect t).emb (ix2 r k)) = _
  refine congrArg X ((ValueIdx.eq_ix2 _).trans (congrArg₂ ix2 (Fin.ext ?_) (Fin.ext ?_)))
  · refine (Pipeline.Window.rect_emb_val win0_0 t (ix2 r k) 0 rfl).trans ?_
    rw [(idx0 t).1]; exact Nat.zero_add _
  · refine (Pipeline.Window.rect_emb_val win0_0 t (ix2 r k) 1 rfl).trans ?_
    rw [(idx0 t).2]; exact Nat.zero_add _

/-- A block of the weight. -/
theorem read1 (X : Vec Ideal S5632x2048 .bf16) (s : Fin 256) (k : Fin 2048) :
    (((cfg0.win 1).blk t).view.read (Elt Ideal) X : Vec Ideal S256x2048 .bf16) (ix2 s k) = X (ix2 (colAt t s) k) := by
  show X ((win0_1.rect t).emb (ix2 s k)) = _
  refine congrArg X ((ValueIdx.eq_ix2 _).trans (congrArg₂ ix2 (Fin.ext ?_) (Fin.ext ?_)))
  · refine (Pipeline.Window.rect_emb_val win0_1 t (ix2 s k) 0 rfl).trans ?_
    rw [(idx1 t).1]; rfl
  · refine (Pipeline.Window.rect_emb_val win0_1 t (ix2 s k) 1 rfl).trans ?_
    rw [(idx1 t).2]; exact Nat.zero_add _

/-- A block of the first saved factor. -/
theorem read2 (X : Vec Ideal S2176x5632 .bf16) (r : Fin 2176) (s : Fin 256) :
    (((cfg0.win 2).blk t).view.read (Elt Ideal) X : Vec Ideal S2176x256 .bf16) (ix2 r s) = X (ix2 r (colAt t s)) := by
  show X ((win0_2.rect t).emb (ix2 r s)) = _
  refine congrArg X ((ValueIdx.eq_ix2 _).trans (congrArg₂ ix2 (Fin.ext ?_) (Fin.ext ?_)))
  · refine (Pipeline.Window.rect_emb_val win0_2 t (ix2 r s) 0 rfl).trans ?_
    rw [(idx2 t).1]; exact Nat.zero_add _
  · refine (Pipeline.Window.rect_emb_val win0_2 t (ix2 r s) 1 rfl).trans ?_
    rw [(idx2 t).2]; rfl

/-- A block of the second saved factor. -/
theorem read3 (X : Vec Ideal S2176x5632 .bf16) (r : Fin 2176) (s : Fin 256) :
    (((cfg0.win 3).blk t).view.read (Elt Ideal) X : Vec Ideal S2176x256 .bf16) (ix2 r s) = X (ix2 r (colAt t s)) := by
  show X ((win0_3.rect t).emb (ix2 r s)) = _
  refine congrArg X ((ValueIdx.eq_ix2 _).trans (congrArg₂ ix2 (Fin.ext ?_) (Fin.ext ?_)))
  · refine (Pipeline.Window.rect_emb_val win0_3 t (ix2 r s) 0 rfl).trans ?_
    rw [(idx3 t).1]; exact Nat.zero_add _
  · refine (Pipeline.Window.rect_emb_val win0_3 t (ix2 r s) 1 rfl).trans ?_
    rw [(idx3 t).2]; rfl

/-- A block of the first output. -/
theorem read4 (X : Vec Ideal S2176x5632 .bf16) (r : Fin 2176) (s : Fin 256) :
    (((cfg0.win 4).blk t).view.read (Elt Ideal) X : Vec Ideal S2176x256 .bf16) (ix2 r s) = X (ix2 r (colAt t s)) := by
  show X ((win0_4.rect t).emb (ix2 r s)) = _
  refine congrArg X ((ValueIdx.eq_ix2 _).trans (congrArg₂ ix2 (Fin.ext ?_) (Fin.ext ?_)))
  · refine (Pipeline.Window.rect_emb_val win0_4 t (ix2 r s) 0 rfl).trans ?_
    rw [(idx4 t).1]; exact Nat.zero_add _
  · refine (Pipeline.Window.rect_emb_val win0_4 t (ix2 r s) 1 rfl).trans ?_
    rw [(idx4 t).2]; rfl

/-- A block of the second output. -/
theorem read5 (X : Vec Ideal S2176x5632 .bf16) (r : Fin 2176) (s : Fin 256) :
    (((cfg0.win 5).blk t).view.read (Elt Ideal) X : Vec Ideal S2176x256 .bf16) (ix2 r s) = X (ix2 r (colAt t s)) := by
  show X ((win0_5.rect t).emb (ix2 r s)) = _
  refine congrArg X ((ValueIdx.eq_ix2 _).trans (congrArg₂ ix2 (Fin.ext ?_) (Fin.ext ?_)))
  · refine (Pipeline.Window.rect_emb_val win0_5 t (ix2 r s) 0 rfl).trans ?_
    rw [(idx5 t).1]; exact Nat.zero_add _
  · refine (Pipeline.Window.rect_emb_val win0_5 t (ix2 r s) 1 rfl).trans ?_
    rw [(idx5 t).2]; rfl

/-- The block of the hidden cotangent at point `t`. -/
theorem back_eq (r : Fin 2176) (s : Fin 256) :
    (∑ k : Fin 2048, ((((1 : ℝ) / 2 : ℝ) : EReal) * (iblk m c 0 t : Vec Ideal S2176x2048 .bf16) (ix2 r k)
      * (iblk m c 1 t : Vec Ideal S256x2048 .bf16) (ix2 s k) : EReal))
      = back (m ((c : Thread nD τ).loc main_arg3)) (m ((c : Thread nD τ).loc main_arg2)) r (colAt t s) := by
  refine Finset.sum_congr rfl fun k _ => ?_
  have h0 : (iblk m c 0 t : Vec Ideal S2176x2048 .bf16) (ix2 r k) = m ((c : Thread nD τ).loc main_arg3) (ix2 r k) :=
    (read0 t (V m c main_arg3) r k).trans (congrFun (V_main_arg3 m c) _)
  have h1 : (iblk m c 1 t : Vec Ideal S256x2048 .bf16) (ix2 s k) = m ((c : Thread nD τ).loc main_arg2) (ix2 (colAt t s) k) :=
    (read1 t (V m c main_arg2) s k).trans (congrFun (V_main_arg2 m c) _)
  exact congrArg₂ (fun a b : EReal => (((1 : ℝ) / 2 : ℝ) : EReal) * a * b) h0 h1

/-- A zero offset. -/
theorem off2 : (![0, 0] : Fin 2 → Nat) = fun _ => 0 := by funext a; match a with | ⟨0, _⟩ => rfl | ⟨1, _⟩ => rfl

/-- What the body leaves of its first output is the payload of the point's blocks. -/
theorem outs4_eq : (outsAt0 m c t).1 = k0_pay2 (F := Ideal) (iblk m c 0 t) (iblk m c 1 t) (iblk m c 2 t) := by
  unfold outsAt0 out0_A_4
  dsimp only
  rw [View.read_writes_eq_canon _ _ _ (cover0_A_4 c _ _ _ _ _ _ _ _ _ _ _ _ _ _ _ _ _)]
  unfold kernelRun0_A
  dsimp only
  sl_unfold_words
  simp only [View.readAt_eq_ld, (hs0_0 t).read_unread, (hs0_1 t).read_unread, (hs0_2 t).read_unread]
  rw [View.canon_unit_zero off2]
  rw [View.ld_unit_zero off2, View.ld_unit_zero off2, View.ld_unit_zero off2]

/-- What point `t` writes back of the first output is its block of the gradient. -/
theorem flushed4_eq : (dats m 0 c).flushed 4 t
    = (((cfg0.win 4).blk t).view.read (Elt Ideal) (grad (m ((c : Thread nD τ).loc main_arg3)) (m ((c : Thread nD τ).loc main_arg2)) (V m c main_v6))) := by
  refine (Value.flushed4 m c t).trans ((congrArg ((cfg0.win 4).cut (grid0.coords t)) (outs4_eq m c t)).trans ?_)
  show k0_pay2 (F := Ideal) (iblk m c 0 t) (iblk m c 1 t) (iblk m c 2 t) = _
  funext y
  obtain ⟨r, s, rfl⟩ : ∃ (r : Fin 2176) (s : Fin 256), y = ix2 r s := ⟨y 0, y 1, ValueIdx.eq_ix2 y⟩
  refine (pay2_apply _ _ _ r s).trans ?_
  refine Eq.trans ?_ (read4 t _ r s).symm
  exact congrArg₂ (fun a b : EReal => a * b) (back_eq m c t r s) (read2 t (V m c main_v6) r s)

/-- Every entry of the first output is in a block written back. -/
theorem cover4 (i : S2176x5632.Idx) : ∃ t : Fin cfg0.N, (cfg0.win 4).flush t = true ∧ i ∈ ((cfg0.win 4).blk t).view.set := by
  have b0 : (i 0).val < 2176 := (i 0).isLt
  have b1 : (i 1).val < 5632 := (i 1).isLt
  let t : Fin cfg0.N := ⟨(i 1).val / 256, show _ < 22 by omega⟩
  have tv : t.val = (i 1).val / 256 := rfl
  refine ⟨t, flush0_4 _, ?_⟩
  show i ∈ ((View.whole main_v9_0).slice (win0_4.rect t)).set
  rw [View.set_slice_whole, Rect.mem_set_unit]
  intro b
  match b with
  | ⟨0, _⟩ =>
    show win0_4.index t 0 * 2176 ≤ (i 0).val ∧ (i 0).val < win0_4.index t 0 * 2176 + win0_4.xsize (grid0.coords t) 0
    rw [(idx4 t).1, (size4 t).1]; omega
  | ⟨1, _⟩ =>
    show win0_4.index t 1 * 256 ≤ (i 1).val ∧ (i 1).val < win0_4.index t 1 * 256 + win0_4.xsize (grid0.coords t) 1
    rw [(idx4 t).2, (size4 t).2]; omega

/-- The first output's array after the run. -/
theorem final4 : (dats m 0 c).arrAt 4 cfg0.N = grad (m ((c : Thread nD τ).loc main_arg3)) (m ((c : Thread nD τ).loc main_arg2)) (V m c main_v6) :=
  (dats m 0 c).arrAt_eq_of_cover 4 _ (fun t _ => flushed4_eq m c t) cover4

/-- What the body leaves of its second output is the payload of the point's blocks. -/
theorem outs5_eq : (outsAt0 m c t).2 = k0_pay3 (F := Ideal) (iblk m c 0 t) (iblk m c 1 t) (iblk m c 3 t) := by
  unfold outsAt0 out0_A_5
  dsimp only
  rw [View.read_writes_eq_canon _ _ _ (cover0_A_5 c _ _ _ _ _ _ _ _ _ _ _ _ _ _ _ _ _)]
  unfold kernelRun0_A
  dsimp only
  sl_unfold_words
  simp only [View.readAt_eq_ld, (hs0_0 t).read_unread, (hs0_1 t).read_unread, (hs0_3 t).read_unread]
  rw [View.canon_unit_zero off2]
  rw [View.ld_unit_zero off2, View.ld_unit_zero off2, View.ld_unit_zero off2]

/-- What point `t` writes back of the second output is its block of the gradient. -/
theorem flushed5_eq : (dats m 0 c).flushed 5 t
    = (((cfg0.win 5).blk t).view.read (Elt Ideal) (grad (m ((c : Thread nD τ).loc main_arg3)) (m ((c : Thread nD τ).loc main_arg2)) (V m c main_v7))) := by
  refine (Value.flushed5 m c t).trans ((congrArg ((cfg0.win 5).cut (grid0.coords t)) (outs5_eq m c t)).trans ?_)
  show k0_pay3 (F := Ideal) (iblk m c 0 t) (iblk m c 1 t) (iblk m c 3 t) = _
  funext y
  obtain ⟨r, s, rfl⟩ : ∃ (r : Fin 2176) (s : Fin 256), y = ix2 r s := ⟨y 0, y 1, ValueIdx.eq_ix2 y⟩
  refine (pay3_apply _ _ _ r s).trans ?_
  refine Eq.trans ?_ (read5 t _ r s).symm
  exact congrArg₂ (fun a b : EReal => a * b) (back_eq m c t r s) (read3 t (V m c main_v7) r s)

/-- Every entry of the second output is in a block written back. -/
theorem cover5 (i : S2176x5632.Idx) : ∃ t : Fin cfg0.N, (cfg0.win 5).flush t = true ∧ i ∈ ((cfg0.win 5).blk t).view.set := by
  have b0 : (i 0).val < 2176 := (i 0).isLt
  have b1 : (i 1).val < 5632 := (i 1).isLt
  let t : Fin cfg0.N := ⟨(i 1).val / 256, show _ < 22 by omega⟩
  have tv : t.val = (i 1).val / 256 := rfl
  refine ⟨t, flush0_5 _, ?_⟩
  show i ∈ ((View.whole main_v9_1).slice (win0_5.rect t)).set
  rw [View.set_slice_whole, Rect.mem_set_unit]
  intro b
  match b with
  | ⟨0, _⟩ =>
    show win0_5.index t 0 * 2176 ≤ (i 0).val ∧ (i 0).val < win0_5.index t 0 * 2176 + win0_5.xsize (grid0.coords t) 0
    rw [(idx5 t).1, (size5 t).1]; omega
  | ⟨1, _⟩ =>
    show win0_5.index t 1 * 256 ≤ (i 1).val ∧ (i 1).val < win0_5.index t 1 * 256 + win0_5.xsize (grid0.coords t) 1
    rw [(idx5 t).2, (size5 t).2]; omega

/-- The second output's array after the run. -/
theorem final5 : (dats m 0 c).arrAt 5 cfg0.N = grad (m ((c : Thread nD τ).loc main_arg3)) (m ((c : Thread nD τ).loc main_arg2)) (V m c main_v7) :=
  (dats m 0 c).arrAt_eq_of_cover 5 _ (fun t _ => flushed5_eq m c t) cover5

end Cert.Kernel2Ideal.Array
-- ==== Proof.HiddenValue.lean ====
/-
  The gated layer's hidden gradients in full: what the forward lines on the host leave, and the plain derivative.
-/
module

public import proofs.«01_k».proof.Proof.Hidden
public import proofs.«01_k».proof.Proof.Result
public import proofs.«01_k».proof.Proof.Gen.Reference2Ideal.Run
public import proofs.«01_k».proof.Proof.Gen.Reference2Ideal.Read
public import Idealize.ShloMosaic.Lib.IdealHost
public import Idealize.ShloMosaic.PureOps.Ideal.Laws

@[expose] public section

set_option maxRecDepth 16384

noncomputable section

open Idealize.SL.Sem
open Idealize.ShloMosaic hiding ix0 ix1 ix2 ix3
open Idealize.ShloMosaic.ValueIdx
open scoped BigOperators

namespace Cert.Hidden

/-- The logistic function. -/
def logistic (x : EReal) : EReal := Ideal.div 1 (1 + Ideal.exp (-x))

/-- The derivative of the gated product with respect to its gate. -/
def slope (x y : EReal) : EReal := 1 * y * logistic x + x * (1 * y) * (logistic x * (1 - logistic x))

/-- The derivative of the gated product with respect to its other factor. -/
def level (x : EReal) : EReal := x * logistic x * 1

/-- The logistic function of a real is a real. -/
theorem logistic_real (x : ℝ) : ∃ s : ℝ, logistic (x : EReal) = (s : EReal) := by
  refine ⟨1 / (1 + Real.exp (-x)), ?_⟩
  have pos : (1 + Real.exp (-x) : ℝ) ≠ 0 := by positivity
  unfold logistic
  rw [← EReal.coe_neg, Ideal.exp_coe, ← EReal.coe_one, ← EReal.coe_add, Ideal.div_coe pos, ← EReal.coe_mul, one_mul]

/-- A sum of reals is a real. -/
theorem sum_real {ι : Type} (s : Finset ι) (f : ι → EReal) (h : ∀ i, ∃ r : ℝ, f i = (r : EReal)) : ∃ r : ℝ, ∑ i ∈ s, f i = (r : EReal) := by
  classical
  induction s using Finset.induction_on with
  | empty => exact ⟨0, by simp⟩
  | insert i s hi ih =>
    obtain ⟨a, ha⟩ := h i
    obtain ⟨b, hb⟩ := ih
    exact ⟨a + b, by rw [Finset.sum_insert hi, ha, hb, EReal.coe_add]⟩

/-- The product rule, the cotangent being given to each term or to their sum. -/
theorem product_rule (g x y : ℝ) :
    ((g : EReal) * slope x y : EReal) = (g : EReal) * y * logistic x + x * ((g : EReal) * y) * (logistic x * (1 - logistic x)) := by
  obtain ⟨s, hs⟩ := logistic_real x
  unfold slope
  rw [hs, ← EReal.coe_one]
  simp only [← EReal.coe_mul, ← EReal.coe_add, ← EReal.coe_sub]
  exact congrArg _ (by ring)

/-- The hidden cotangent of finite arrays is real. -/
theorem back_real (d : FVec Ideal ⟨2, ![2176, 2048]⟩ .bf16) (w : FVec Ideal ⟨2, ![5632, 2048]⟩ .bf16) (hd : Block.Finite d) (hw : Block.Finite w)
    (r : Fin 2176) (e : Fin 5632) : ∃ g : ℝ, back d w r e = (g : EReal) :=
  sum_real _ _ fun k => ⟨1 / 2 * EReal.toReal (d (ix2 r k)) * EReal.toReal (w (ix2 e k)), by
    rw [EReal.coe_mul, EReal.coe_mul, EReal.coe_toReal (hd _).1 (hd _).2, EReal.coe_toReal (hw _).1 (hw _).2]⟩

end Cert.Hidden

namespace Cert.Kernel2Ideal.Array

open Cert.Kernel2Ideal Cert.Kernel2Ideal.Gen Cert.Hidden Idealize.ShloMosaic.TcCoe

/-- One at every entry. -/
def ones : FVec Ideal S2176x5632 .f32 := broadcastInDim S2176x5632 ![] bcast_S_S2176x5632 (constant S_ .f32 0x3F800000#32)

/-- The logistic function of every entry. -/
def sigs (a : FVec Ideal S2176x5632 .f32) : FVec Ideal S2176x5632 .f32 := Host.divf ones (addf ones (Host.exp (Host.negf a)))

/-- What the host saves for the first output. -/
def slopes (a b : FVec Ideal S2176x5632 .f32) : FVec Ideal S2176x5632 .bf16 :=
  truncf .bf16 (addf (mulf (mulf ones b) (sigs a)) (mulf (mulf a (mulf ones b)) (mulf (sigs a) (subf ones (sigs a))))) bitsLt_bf16_f32

/-- What the host saves for the second output. -/
def levels (a : FVec Ideal S2176x5632 .f32) : FVec Ideal S2176x5632 .bf16 := truncf .bf16 (mulf (mulf a (sigs a)) ones) bitsLt_bf16_f32

variable (m : (ℓ : Loc nD τ sig) → Buf (Elt Ideal) ℓ) (c : Dev nD)

/-- The first saved factor when the kernel starts. -/
theorem v6_eq : V m c main_v6 = slopes (m ((c : Thread nD τ).loc main_arg0)) (m ((c : Thread nD τ).loc main_arg1)) := by
  show StableHlo.after (List.flatten [hostOps0, hostOps0_1, hostOps0_2, hostOps0_3]) (fun b => m (c, b)) _ = _
  simp only [hostOps0, hostOps0_1, hostOps0_2, hostOps0_3, List.flatten_cons, List.flatten_nil, List.append_nil, List.cons_append,
    List.nil_append, StableHlo.TRef.nullary, StableHlo.TRef.binary, StableHlo.TRef.unary, StableHlo.TRef.toBuf,
    StableHlo.TRef.ofBuf, cast_eq]
  after_results_simp
  rfl

/-- The second saved factor when the kernel starts. -/
theorem v7_eq : V m c main_v7 = levels (m ((c : Thread nD τ).loc main_arg0)) := by
  show StableHlo.after (List.flatten [hostOps0, hostOps0_1, hostOps0_2, hostOps0_3]) (fun b => m (c, b)) _ = _
  simp only [hostOps0, hostOps0_1, hostOps0_2, hostOps0_3, List.flatten_cons, List.flatten_nil, List.append_nil, List.cons_append,
    List.nil_append, StableHlo.TRef.nullary, StableHlo.TRef.binary, StableHlo.TRef.unary, StableHlo.TRef.toBuf,
    StableHlo.TRef.ofBuf, cast_eq]
  after_results_simp
  rfl

/-- One, at an entry. -/
theorem ones_apply (y : S2176x5632.Idx) : ones y = (1 : EReal) := Ideal.ofBits_one_f32

/-- The logistic function, at an entry. -/
theorem sigs_apply (a : FVec Ideal S2176x5632 .f32) (y : S2176x5632.Idx) : sigs a y = logistic (a y) :=
  congrArg₂ (fun p q : EReal => Ideal.div p (q + Ideal.exp (-(a y : EReal)))) (ones_apply y) (ones_apply y)

/-- The first saved factor, at an entry. -/
theorem slopes_apply (a b : FVec Ideal S2176x5632 .f32) (y : S2176x5632.Idx) : slopes a b y = slope (a y) (b y) := by
  show (ones y * b y * sigs a y + a y * (ones y * b y) * (sigs a y * (ones y - sigs a y)) : EReal) = _
  rw [ones_apply, sigs_apply]
  rfl

/-- The second saved factor, at an entry. -/
theorem levels_apply (a : FVec Ideal S2176x5632 .f32) (y : S2176x5632.Idx) : levels a y = level (a y) := by
  show (a y * sigs a y * ones y : EReal) = _
  rw [ones_apply, sigs_apply]
  rfl

end Cert.Kernel2Ideal.Array

namespace Cert.Reference2Ideal.Result

open Cert.Reference2Ideal Cert.Reference2Ideal.Gen Cert.Reference2Ideal.Read Cert.Hidden

variable (x0 x1 : (⟨S2176x5632, .f32⟩ : BufTy).Contents (Elt Ideal)) (x2 : (⟨S5632x2048, .bf16⟩ : BufTy).Contents (Elt Ideal))
  (x3 : (⟨S2176x2048, .bf16⟩ : BufTy).Contents (Elt Ideal))

/-- The reference's logistic function, at an entry. -/
theorem sig_eq (y : S2176x5632.Idx) : val_main_v1_2 (F := Ideal) x0 y = logistic (x0 y) :=
  congrArg₂ (fun p q : EReal => Ideal.div p (q + Ideal.exp (-(x0 y : EReal)))) Ideal.ofBits_one_f32 Ideal.ofBits_one_f32

/-- Its complement. -/
theorem sub_eq (y : S2176x5632.Idx) : val_main_call0_v7 (F := Ideal) x0 y = (1 - logistic (x0 y) : EReal) :=
  congrArg₂ (fun p q : EReal => p - q) Ideal.ofBits_one_f32 (sig_eq x0 y)

/-- The reference's hidden cotangent. -/
theorem back_eq (r : Fin 2176) (e : Fin 5632) : val_main_v9 (F := Ideal) x2 x3 (ix2 r e) = back x3 x2 r e := by
  refine (val_main_v9_apply x2 x3 _).trans (Finset.sum_congr rfl fun k _ => ?_)
  have el : lidx_main_v9 (ix2 r e) k = ix2 r k := ValueIdx.eq_ix2 _
  have er : ridx_main_v9 (ix2 r e) k = ix2 e k := ValueIdx.eq_ix2 _
  rw [el, er]
  exact congrArg (fun p : EReal => p * (x3 (ix2 r k) : EReal) * (x2 (ix2 e k) : EReal)) Product.half

/-- The plain derivative with respect to the ungated factor is the same array. -/
theorem result_up : val_main_v14 (F := Ideal) x0 x2 x3 = grad x3 x2 (Cert.Kernel2Ideal.Array.levels x0) := by
  funext y
  obtain ⟨r, e, rfl⟩ : ∃ (r : Fin 2176) (e : Fin 5632), y = ix2 r e := ⟨y 0, y 1, ValueIdx.eq_ix2 y⟩
  rw [val_main_v14_apply]
  show (x0 (ix2 r e) * val_main_v1_2 (F := Ideal) x0 (ix2 r e) * val_main_v9 (F := Ideal) x2 x3 (ix2 r e) : EReal)
    = back x3 x2 r e * Cert.Kernel2Ideal.Array.levels x0 (ix2 r e)
  rw [back_eq, sig_eq, Cert.Kernel2Ideal.Array.levels_apply]
  unfold level
  rw [mul_one]
  exact mul_comm (_ : EReal) _

/-- The plain derivative with respect to the gate is the same array. -/
theorem result_gate (h0 : Block.Finite (φ := .f32) x0) (h1 : Block.Finite (φ := .f32) x1) (h2 : Block.Finite (φ := .bf16) x2) (h3 : Block.Finite (φ := .bf16) x3) :
    val_main_v13 (F := Ideal) x0 x1 x2 x3 = grad x3 x2 (Cert.Kernel2Ideal.Array.slopes x0 x1) := by
  funext y
  obtain ⟨r, e, rfl⟩ : ∃ (r : Fin 2176) (e : Fin 5632), y = ix2 r e := ⟨y 0, y 1, ValueIdx.eq_ix2 y⟩
  rw [val_main_v13_apply]
  show (val_main_v9 (F := Ideal) x2 x3 (ix2 r e) * x1 (ix2 r e) * val_main_v1_2 (F := Ideal) x0 (ix2 r e)
      + x0 (ix2 r e) * (val_main_v9 (F := Ideal) x2 x3 (ix2 r e) * x1 (ix2 r e)) * (val_main_v1_2 (F := Ideal) x0 (ix2 r e) * val_main_call0_v7 (F := Ideal) x0 (ix2 r e)) : EReal)
    = back x3 x2 r e * Cert.Kernel2Ideal.Array.slopes x0 x1 (ix2 r e)
  rw [back_eq, sig_eq, sub_eq, Cert.Kernel2Ideal.Array.slopes_apply]
  obtain ⟨g, hg⟩ := back_real x3 x2 h3 h2 r e
  have ha : x0 (ix2 r e) = ((EReal.toReal (x0 (ix2 r e)) : ℝ) : EReal) := (EReal.coe_toReal (h0 _).1 (h0 _).2).symm
  have hb : x1 (ix2 r e) = ((EReal.toReal (x1 (ix2 r e)) : ℝ) : EReal) := (EReal.coe_toReal (h1 _).1 (h1 _).2).symm
  rw [hg, ha, hb]
  exact (product_rule g _ _).symm

end Cert.Reference2Ideal.Result
-- ==== Proof.PreFfn.lean ====
/-
  What the precondition of the gated layer says: no argument has an infinite entry.
-/
module

public import proofs.«01_k».proof.Defs
public import proofs.«01_k».proof.Proof.Pre

@[expose] public section

noncomputable section

namespace Cert.Pre_finite_ffn

open Idealize.ShloMosaic Cert.Block
open Facts

/-- The function's side conditions. -/
theorem facts : Cert.Pre_finite_ffn.Facts where
  bcast_S_S2176x5632 := by decide
  reducesTo_S2176x5632_S_d0_1 := by decide
  h_S_ := by decide
  bitsLt_bf16_f32 := by decide
  bcast_S_S5632x2048 := by decide
  reducesTo_S5632x2048_S_d0_1 := by decide
  bcast_S_S2176x2048 := by decide
  reducesTo_S2176x2048_S_d0_1 := by decide

/-- The one index of an array without axes. -/
instance : Subsingleton S_.Idx := ⟨fun _ _ => funext fun a => a.elim0⟩

/-- A word of one bit that is an `and` of two is 1 when both are. -/
theorem andi_split {x y : IVec S_ 1} {i : S_.Idx} (h : andi x y i = 1#1) : x i = 1#1 ∧ y i = 1#1 := by
  have h' : x i &&& y i = 1#1 := h
  have both : ∀ p q : BitVec 1, p &&& q = 1#1 → p = 1#1 ∧ q = 1#1 := by decide
  exact both _ _ h'

variable [Facts]

/-- The precondition: no argument has an infinite entry. -/
theorem finite_of_fn (x0 x1 : FVec Ideal S2176x5632 .f32) (x2 : FVec Ideal S5632x2048 .bf16) (x3 : FVec Ideal S2176x2048 .bf16) (i : S_.Idx)
    (h : fn (F := Ideal) x0 x1 x2 x3 i = 1#1) : Finite x0 ∧ Finite x1 ∧ Finite x2 ∧ Finite x3 := by
  dsimp only [fn, fn_part1] at h
  obtain ⟨h, h3⟩ := andi_split h
  obtain ⟨h, h2⟩ := andi_split h
  obtain ⟨h0, h1⟩ := andi_split h
  exact ⟨fun y => Pre_finite.finite_of_lt (Host.reduce_andi_all _ _ _ _ i h0 y), fun y => Pre_finite.finite_of_lt (Host.reduce_andi_all _ _ _ _ i h1 y),
    fun y => Pre_finite.finite_of_lt (Host.reduce_andi_all _ _ _ _ i h2 y), fun y => Pre_finite.finite_of_lt (Host.reduce_andi_all _ _ _ _ i h3 y)⟩

end Cert.Pre_finite_ffn
-- ==== Proof.Values2.lean ====
/-
  The gradients of the gated layer's two hidden products: the kernel's run and the plain program's run end with the same values.
-/
module

public import proofs.«01_k».proof.Defs
public import proofs.«01_k».proof.Proof.HiddenValue
public import proofs.«01_k».proof.Proof.PreFfn
public import Idealize.ShloMosaic.Adequacy
public import Idealize.ShloMosaic.Init

@[expose] public section

noncomputable section

namespace Cert.Values2

open Idealize.ShloMosaic Idealize.SL.Sem

open Cert.Kernel2Ideal in
/-- The kernel's run: what its results hold, its arguments unchanged. -/
theorem kernel_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v9_0) = Cert.Hidden.grad (m (c.tc.loc main_arg3)) (m (c.tc.loc main_arg2)) (Array.slopes (m (c.tc.loc main_arg0)) (m (c.tc.loc main_arg1)))
        ∧ r.2.mem (c.tc.loc main_v9_1) = Cert.Hidden.grad (m (c.tc.loc main_arg3)) (m (c.tc.loc main_arg2)) (Array.levels (m (c.tc.loc main_arg0)))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3) :=
  (θ_run _ _ _).mono (fun _ h c => ⟨(h c).1.trans ((Array.final4 m c).trans (congrArg (Cert.Hidden.grad _ _) (Array.v6_eq m c))), (h c).2.1.trans ((Array.final5 m c).trans (congrArg (Cert.Hidden.grad _ _) (Array.v7_eq m c))), (h c).2.2⟩)
    (Value.run_blocks m g)

open Cert.Reference2Ideal in
/-- The plain program's run: its results hold the same, its arguments unchanged. -/
theorem reference_run (m : (ℓ : Loc nD τ sig) → Buf (Elt Ideal) ℓ) (g : Dev nD → PrngReg)
    (fin : ∀ c : Dev nD, Cert.Block.Finite (φ := .f32) (m (c.tc.loc main_arg0)) ∧ Cert.Block.Finite (φ := .f32) (m (c.tc.loc main_arg1)) ∧ Cert.Block.Finite (φ := .bf16) (m (c.tc.loc main_arg2)) ∧ Cert.Block.Finite (φ := .bf16) (m (c.tc.loc main_arg3))) :
    θ_run defs (onTc (τ := τ) (main (F := Ideal))) ⟨m, fun _ => 0, g⟩ fun r =>
      ∀ c : Dev nD,
        r.2.mem (c.tc.loc main_v13) = Cert.Hidden.grad (m (c.tc.loc main_arg3)) (m (c.tc.loc main_arg2)) (Cert.Kernel2Ideal.Array.slopes (m (c.tc.loc main_arg0)) (m (c.tc.loc main_arg1)))
        ∧ r.2.mem (c.tc.loc main_v14) = Cert.Hidden.grad (m (c.tc.loc main_arg3)) (m (c.tc.loc main_arg2)) (Cert.Kernel2Ideal.Array.levels (m (c.tc.loc main_arg0)))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3) :=
  (θ_run _ _ _).mono (fun _ h c => ⟨(h c).1.trans ((Read.val_main_v13_eq _ _ _ _).trans (Result.result_gate _ _ _ _ (fin c).1 (fin c).2.1 (fin c).2.2.1 (fin c).2.2.2)), (h c).2.1.trans ((Read.val_main_v14_eq _ _ _).trans (Result.result_up _ _ _)), (h c).2.2⟩)
    (Value.run m g)

/-- From equal arguments the two runs end with the same values. -/
theorem values [hP : Cert.Pre_finite_ffn.Facts] : Cert.algebraic_Kernel2Ideal_Reference2Ideal_pre_finite_ffn
    (hKernel2Ideal := Cert.Kernel2Ideal.Gen.facts) (hReference2Ideal := Cert.Reference2Ideal.Gen.facts) (hPre_finite_ffn := hP) := by
  intro m g m' g' hpre hagree
  have fin : ∀ c : Dev Cert.Kernel2Ideal.nD, Cert.Block.Finite (φ := .f32) (m (c.tc.loc Cert.Kernel2Ideal.main_arg0)) ∧ Cert.Block.Finite (φ := .f32) (m (c.tc.loc Cert.Kernel2Ideal.main_arg1)) ∧ Cert.Block.Finite (φ := .bf16) (m (c.tc.loc Cert.Kernel2Ideal.main_arg2)) ∧ Cert.Block.Finite (φ := .bf16) (m (c.tc.loc Cert.Kernel2Ideal.main_arg3)) :=
    fun c => Cert.Pre_finite_ffn.finite_of_fn _ _ _ _ (fun a => a.elim0) (congrFun (hpre c) _)
  have e : ∀ c : Dev Cert.Kernel2Ideal.nD, Cert.Hidden.grad (m' (c.tc.loc Cert.Reference2Ideal.main_arg3)) (m' (c.tc.loc Cert.Reference2Ideal.main_arg2)) (Cert.Kernel2Ideal.Array.slopes (m' (c.tc.loc Cert.Reference2Ideal.main_arg0)) (m' (c.tc.loc Cert.Reference2Ideal.main_arg1))) = Cert.Hidden.grad (m (c.tc.loc Cert.Kernel2Ideal.main_arg3)) (m (c.tc.loc Cert.Kernel2Ideal.main_arg2)) (Cert.Kernel2Ideal.Array.slopes (m (c.tc.loc Cert.Kernel2Ideal.main_arg0)) (m (c.tc.loc Cert.Kernel2Ideal.main_arg1)))
      ∧ Cert.Hidden.grad (m' (c.tc.loc Cert.Reference2Ideal.main_arg3)) (m' (c.tc.loc Cert.Reference2Ideal.main_arg2)) (Cert.Kernel2Ideal.Array.levels (m' (c.tc.loc Cert.Reference2Ideal.main_arg0))) = Cert.Hidden.grad (m (c.tc.loc Cert.Kernel2Ideal.main_arg3)) (m (c.tc.loc Cert.Kernel2Ideal.main_arg2)) (Cert.Kernel2Ideal.Array.levels (m (c.tc.loc Cert.Kernel2Ideal.main_arg0))) := fun c => by
    rw [(hagree c).1, (hagree c).2.1, (hagree c).2.2.1, (hagree c).2.2.2]
    exact ⟨rfl, rfl⟩
  exact ⟨_, _, kernel_run m g, (θ_run _ _ _).mono (fun _ h c => ⟨(h c).1.trans (e c).1, (h c).2.1.trans (e c).2, (h c).2.2⟩) (reference_run m' g' (fun c => by rw [(hagree c).1, (hagree c).2.1, (hagree c).2.2.1, (hagree c).2.2.2]; exact fin c))⟩

/-- The plain program writes none of its arguments and declares no semaphore. -/
theorem reference_frame : Cert.quiescent_Reference2Ideal (hReference2Ideal := Cert.Reference2Ideal.Gen.facts) :=
  fun m ρ _ => (θ_run Cert.Reference2Ideal.defs _ _).mono (fun r h => ⟨fun c => (h c).2.2, sem_eq_zero_of_no_sems (by decide) r.2⟩)
    (Cert.Reference2Ideal.Value.run (F := Ideal) m ρ)

end Cert.Values2
-- ==== Proof.WeightDown.lean ====
/-
  The gradient of the narrowing weight: the kernel's blocks are those of the whole product, halved.
-/
module

public import proofs.«01_k».proof.Proof.Product
public import proofs.«01_k».proof.Proof.Gen.Kernel3Ideal.Value
public import proofs.«01_k».proof.Proof.Gen.Reference3Ideal.Run
public import proofs.«01_k».proof.Proof.Gen.Reference3Ideal.Read

@[expose] public section

set_option maxRecDepth 16384

noncomputable section

open Idealize.SL.Sem
open Idealize.ShloMosaic hiding ix0 ix1 ix2 ix3
open Idealize.ShloMosaic.ValueIdx
open scoped BigOperators

namespace Cert.WeightDown

/-- The gradient of the weight, from the inputs `n` and the cotangents `d` of the outputs, the outputs being halved. -/
def grad (n : FVec Ideal ⟨2, ![2176, 5632]⟩ .bf16) (d : FVec Ideal ⟨2, ![2176, 2048]⟩ .bf16) :
    FVec Ideal ⟨2, ![5632, 2048]⟩ .bf16 :=
  fun y => (∑ k : Fin 2176, (((1 : ℝ) / 2 : ℝ) : EReal) * (n (ix2 k (y 0)) * d (ix2 k (y 1))) : EReal)

end Cert.WeightDown

namespace Cert.Kernel3Ideal.Array

open Cert.Kernel3Ideal Cert.Kernel3Ideal.Gen Cert.WeightDown Idealize.ShloMosaic.TcCoe

/-- What the body stores, at an index of its block. -/
theorem pay_apply (x : Vec Ideal S1408x2176 .bf16) (y : Vec Ideal S2176x1024 .bf16) (r : Fin 1408) (s : Fin 1024) :
    k0_pay1 (F := Ideal) x y (ix2 r s) = (∑ k : Fin 2176, (((1 : ℝ) / 2 : ℝ) : EReal) * (x (ix2 r k) * y (ix2 k s)) : EReal) := by
  unfold k0_pay1
  rw [shapeCast_self]
  refine Eq.trans ?_ (Product.mul_sum Finset.univ (1 / 2) (by norm_num) _)
  exact congrArg₂ (fun a b : EReal => a * b) Product.half (Product.plain_apply (φ := .bf16) x y r s)

variable (m : (ℓ : Loc nD τ sig) → Buf (Elt Ideal) ℓ) (c : Dev nD) (t : Fin cfg0.N)

/-- The block coordinates of the left factor. -/
theorem idx0 : ∀ t : Fin cfg0.N, win0_0.index t 0 = t.val / 2 ∧ win0_0.index t 1 = 0 :=
  (by decide +kernel : ∀ t : Fin grid0.N, win0_0.index t 0 = t.val / 2 ∧ win0_0.index t 1 = 0)

/-- The block coordinates of the right factor. -/
theorem idx1 : ∀ t : Fin cfg0.N, win0_1.index t 0 = 0 ∧ win0_1.index t 1 = t.val % 2 :=
  (by decide +kernel : ∀ t : Fin grid0.N, win0_1.index t 0 = 0 ∧ win0_1.index t 1 = t.val % 2)

/-- The block coordinates of the result. -/
theorem idx2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- No block of the result is cut short. -/
theorem size2 : ∀ t : Fin cfg0.N, win0_2.xsize (grid0.coords t) 0 = 1408 ∧ win0_2.xsize (grid0.coords t) 1 = 1024 :=
  (by decide +kernel : ∀ t : Fin grid0.N, win0_2.xsize (grid0.coords t) 0 = 1408 ∧ win0_2.xsize (grid0.coords t) 1 = 1024)

/-- There are eight points. -/
theorem lt8 : t.val < 8 := t.isLt

/-- The result's rows at point `t`. -/
def rowAt (r : Fin 1408) : Fin 5632 := ⟨t.val / 2 * 1408 + r.val, by have := lt8 t; omega⟩

/-- The result's columns at point `t`. -/
def colAt (s : Fin 1024) : Fin 2048 := ⟨t.val % 2 * 1024 + s.val, by omega⟩

/-- The left factor is the transposed first argument. -/
theorem left_eq : V m c main_v0 = transpose S5632x2176 [1, 0] (m ((c : Thread nD τ).loc main_arg0)) transposes_S2176x5632_S5632x2176_1_0 := by
  show StableHlo.after hostOps0 (fun b => m (c, b)) _ = _
  simp only [hostOps0, StableHlo.TRef.nullary, StableHlo.TRef.ternary, StableHlo.TRef.unary, StableHlo.TRef.toBuf, StableHlo.TRef.ofBuf, cast_eq]
  after_results_simp

/-- A block of the left factor. -/
theorem read0 (X : Vec Ideal S5632x2176 .bf16) (r : Fin 1408) (k : Fin 2176) :
    (((cfg0.win 0).blk t).view.read (Elt Ideal) X : Vec Ideal S1408x2176 .bf16) (ix2 r k) = X (ix2 (rowAt t r) k) := by
  show X ((win0_0.rect t).emb (ix2 r k)) = _
  refine congrArg X ((ValueIdx.eq_ix2 _).trans (congrArg₂ ix2 (Fin.ext ?_) (Fin.ext ?_)))
  · refine (Pipeline.Window.rect_emb_val win0_0 t (ix2 r k) 0 rfl).trans ?_
    rw [(idx0 t).1]; rfl
  · refine (Pipeline.Window.rect_emb_val win0_0 t (ix2 r k) 1 rfl).trans ?_
    rw [(idx0 t).2]; exact Nat.zero_add _

/-- A block of the right factor. -/
theorem read1 (X : Vec Ideal S2176x2048 .bf16) (k : Fin 2176) (s : Fin 1024) :
    (((cfg0.win 1).blk t).view.read (Elt Ideal) X : Vec Ideal S2176x1024 .bf16) (ix2 k s) = X (ix2 k (colAt t s)) := by
  show X ((win0_1.rect t).emb (ix2 k s)) = _
  refine congrArg X ((ValueIdx.eq_ix2 _).trans (congrArg₂ ix2 (Fin.ext ?_) (Fin.ext ?_)))
  · refine (Pipeline.Window.rect_emb_val win0_1 t (ix2 k s) 0 rfl).trans ?_
    rw [(idx1 t).1]; exact Nat.zero_add _
  · refine (Pipeline.Window.rect_emb_val win0_1 t (ix2 k s) 1 rfl).trans ?_
    rw [(idx1 t).2]; rfl

/-- A block of the result. -/
theorem read2 (X : Vec Ideal S5632x2048 .bf16) (r : Fin 1408) (s : Fin 1024) :
    (((cfg0.win 2).blk t).view.read (Elt Ideal) X : Vec Ideal S1408x1024 .bf16) (ix2 r s) = X (ix2 (rowAt t r) (colAt t s)) := by
  show X ((win0_2.rect t).emb (ix2 r s)) = _
  refine congrArg X ((ValueIdx.eq_ix2 _).trans (congrArg₂ ix2 (Fin.ext ?_) (Fin.ext ?_)))
  · refine (Pipeline.Window.rect_emb_val win0_2 t (ix2 r s) 0 rfl).trans ?_
    rw [(idx2 t).1]; rfl
  · refine (Pipeline.Window.rect_emb_val win0_2 t (ix2 r s) 1 rfl).trans ?_
    rw [(idx2 t).2]; rfl

/-- What the body leaves of its output is the payload of the point's blocks. -/
theorem outs_eq : outsAt0 m c t = k0_pay1 (F := Ideal) (iblk m c 0 t) (iblk m c 1 t) := by
  unfold outsAt0 out0_A_2
  rw [View.read_writes_eq_canon _ _ _ (cover0_A_2 c _ _ _ _ _ _ _ _ _)]
  unfold kernelRun0_A
  dsimp only
  sl_unfold_words
  simp only [View.readAt_eq_ld, (hs0_0 t).read_unread, (hs0_1 t).read_unread]
  rw [View.canon_unit_zero (by funext a; match a with | ⟨0, _⟩ => rfl | ⟨1, _⟩ => rfl)]
  rw [View.ld_unit_zero (by funext a; match a with | ⟨0, _⟩ => rfl | ⟨1, _⟩ => rfl),
    View.ld_unit_zero (by funext a; match a with | ⟨0, _⟩ => rfl | ⟨1, _⟩ => rfl)]

/-- What point `t` writes back is its block of the gradient. -/
theorem flushed_eq : (dats m 0 c).flushed 2 t
    = (((cfg0.win 2).blk t).view.read (Elt Ideal) (grad (m ((c : Thread nD τ).loc main_arg0)) (m ((c : Thread nD τ).loc main_arg1)))) := by
  refine (Value.flushed2 m c t).trans ((congrArg ((cfg0.win 2).cut (grid0.coords t)) (outs_eq m c t)).trans ?_)
  show k0_pay1 (F := Ideal) (iblk m c 0 t) (iblk m c 1 t) = _
  funext y
  obtain ⟨r, s, rfl⟩ : ∃ (r : Fin 1408) (s : Fin 1024), y = ix2 r s := ⟨y 0, y 1, ValueIdx.eq_ix2 y⟩
  refine (pay_apply _ _ r s).trans ?_
  refine Eq.trans ?_ (read2 t _ r s).symm
  refine Finset.sum_congr rfl fun k _ => ?_
  have h0 : (iblk m c 0 t : Vec Ideal S1408x2176 .bf16) (ix2 r k) = m ((c : Thread nD τ).loc main_arg0) (ix2 k (rowAt t r)) :=
    (read0 t (V m c main_v0) r k).trans ((congrFun (left_eq m c) _).trans (transpose_ix2_apply _ _ _ _))
  have h1 : (iblk m c 1 t : Vec Ideal S2176x1024 .bf16) (ix2 k s) = m ((c : Thread nD τ).loc main_arg1) (ix2 k (colAt t s)) :=
    (read1 t (V m c main_arg1) k s).trans (congrFun (V_main_arg1 m c) _)
  exact congrArg (fun a : EReal => (((1 : ℝ) / 2 : ℝ) : EReal) * a) (congrArg₂ (fun a b : EReal => a * b) h0 h1)

/-- Every entry of the result is in a block written back. -/
theorem cover (i : S5632x2048.Idx) : ∃ t : Fin cfg0.N, (cfg0.win 2).flush t = true ∧ i ∈ ((cfg0.win 2).blk t).view.set := by
  have b0 : (i 0).val < 5632 := (i 0).isLt
  have b1 : (i 1).val < 2048 := (i 1).isLt
  let t : Fin cfg0.N := ⟨(i 0).val / 1408 * 2 + (i 1).val / 1024, show _ < 8 by omega⟩
  have tv : t.val = (i 0).val / 1408 * 2 + (i 1).val / 1024 := rfl
  refine ⟨t, flush0_2 _, ?_⟩
  show i ∈ ((View.whole main_v2).slice (win0_2.rect t)).set
  rw [View.set_slice_whole, Rect.mem_set_unit]
  intro b
  match b with
  | ⟨0, _⟩ =>
    show win0_2.index t 0 * 1408 ≤ (i 0).val ∧ (i 0).val < win0_2.index t 0 * 1408 + win0_2.xsize (grid0.coords t) 0
    rw [(idx2 t).1, (size2 t).1]; omega
  | ⟨1, _⟩ =>
    show win0_2.index t 1 * 1024 ≤ (i 1).val ∧ (i 1).val < win0_2.index t 1 * 1024 + win0_2.xsize (grid0.coords t) 1
    rw [(idx2 t).2, (size2 t).2]; omega

/-- The result's array after the run. -/
theorem final : (dats m 0 c).arrAt 2 cfg0.N = grad (m ((c : Thread nD τ).loc main_arg0)) (m ((c : Thread nD τ).loc main_arg1)) :=
  (dats m 0 c).arrAt_eq_of_cover 2 _ (fun t _ => flushed_eq m c t) cover

end Cert.Kernel3Ideal.Array

namespace Cert.Reference3Ideal.Result

open Cert.Reference3Ideal Cert.Reference3Ideal.Gen Cert.Reference3Ideal.Read Cert.WeightDown

/-- The plain derivative's result is the same array. -/
theorem result (x0 : (⟨S2176x5632, .bf16⟩ : BufTy).Contents (Elt Ideal)) (x1 : (⟨S2176x2048, .bf16⟩ : BufTy).Contents (Elt Ideal)) :
    val_main_v10 (F := Ideal) x0 x1 = grad x0 x1 := by
  funext y
  obtain ⟨r, s, rfl⟩ : ∃ (r : Fin 5632) (s : Fin 2048), y = ix2 r s := ⟨y 0, y 1, ValueIdx.eq_ix2 y⟩
  rw [val_main_v10_apply, val_main_v9_apply]
  refine (val_main_v8_apply x0 x1 _).trans (Finset.sum_congr rfl fun k _ => ?_)
  have el : lidx_main_v8 (idx_main_v9 (ix2 r s)) k = ix2 k s := ValueIdx.eq_ix2 _
  have er : ridx_main_v8 (idx_main_v9 (ix2 r s)) k = ix2 k r := ValueIdx.eq_ix2 _
  rw [el, er]
  have e : val_main_v7 (F := Ideal) x1 (ix2 k s) = ((((1 : ℝ) / 2 : ℝ) : EReal) * x1 (ix2 k s) : EReal) :=
    congrArg (fun a : EReal => a * (x1 (ix2 k s) : EReal)) Product.half
  rw [e]
  show ((((1 : ℝ) / 2 : ℝ) : EReal) * x1 (ix2 k s) * x0 (ix2 k r) : EReal) = (((1 : ℝ) / 2 : ℝ) : EReal) * (x0 (ix2 k r) * x1 (ix2 k s))
  rw [mul_assoc, mul_comm (x1 (ix2 k s) : EReal)]

end Cert.Reference3Ideal.Result
-- ==== Proof.Values3.lean ====
/-
  The gradient of the narrowing weight: the kernel's run and the plain program's run end with the same values.
-/
module

public import proofs.«01_k».proof.Defs
public import proofs.«01_k».proof.Proof.WeightDown
public import Idealize.ShloMosaic.Adequacy
public import Idealize.ShloMosaic.Init

@[expose] public section

noncomputable section

namespace Cert.Values3

open Idealize.ShloMosaic Idealize.SL.Sem

open Cert.Kernel3Ideal in
/-- The kernel's run: what its results hold, its arguments unchanged. -/
theorem kernel_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v2) = Cert.WeightDown.grad (m (c.tc.loc main_arg0)) (m (c.tc.loc main_arg1))
        ∧ r.2.mem (c.tc.loc main_arg0) = m (c.tc.loc main_arg0)
        ∧ r.2.mem (c.tc.loc main_arg1) = m (c.tc.loc main_arg1) :=
  (θ_run _ _ _).mono (fun _ h c => ⟨(h c).1.trans (Array.final m c), (h c).2⟩)
    (Value.run_blocks m g)

open Cert.Reference3Ideal in
/-- The plain program's run: its results hold the same, its arguments unchanged. -/
theorem reference_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v10) = Cert.WeightDown.grad (m (c.tc.loc main_arg0)) (m (c.tc.loc main_arg1))
        ∧ r.2.mem (c.tc.loc main_arg0) = m (c.tc.loc main_arg0)
        ∧ r.2.mem (c.tc.loc main_arg1) = m (c.tc.loc main_arg1) :=
  (θ_run _ _ _).mono (fun _ h c => ⟨(h c).1.trans ((Read.val_main_v10_eq _ _).trans (Result.result _ _)), (h c).2⟩)
    (Value.run m g)

/-- From equal arguments the two runs end with the same values. -/
theorem values : Cert.algebraic_Kernel3Ideal_Reference3Ideal
    (hKernel3Ideal := Cert.Kernel3Ideal.Gen.facts) (hReference3Ideal := Cert.Reference3Ideal.Gen.facts) := by
  intro m g m' g' _ hagree
  have e : ∀ c : Dev Cert.Kernel3Ideal.nD, Cert.WeightDown.grad (m' (c.tc.loc Cert.Reference3Ideal.main_arg0)) (m' (c.tc.loc Cert.Reference3Ideal.main_arg1)) = Cert.WeightDown.grad (m (c.tc.loc Cert.Kernel3Ideal.main_arg0)) (m (c.tc.loc Cert.Kernel3Ideal.main_arg1)) := fun c => by
    rw [(hagree c).1, (hagree c).2]
  exact ⟨_, kernel_run m g, (θ_run _ _ _).mono (fun _ h c => ⟨(h c).1.trans (e c), (h c).2⟩) (reference_run m' g')⟩

/-- The plain program writes none of its arguments and declares no semaphore. -/
theorem reference_frame : Cert.quiescent_Reference3Ideal (hReference3Ideal := Cert.Reference3Ideal.Gen.facts) :=
  fun m ρ _ => (θ_run Cert.Reference3Ideal.defs _ _).mono (fun r h => ⟨fun c => (h c).2, sem_eq_zero_of_no_sems (by decide) r.2⟩)
    (Cert.Reference3Ideal.Value.run (F := Ideal) m ρ)

end Cert.Values3
-- ==== Proof.WeightUp.lean ====
/-
  The gradient of a widening weight: the kernel's blocks are those of the whole product, each device's slab of columns a
  layer of the result.
-/
module

public import proofs.«01_k».proof.Proof.Product
public import proofs.«01_k».proof.Proof.Gen.Kernel4Ideal.Value
public import proofs.«01_k».proof.Proof.Gen.Reference4Ideal.Run
public import proofs.«01_k».proof.Proof.Gen.Reference4Ideal.Read

@[expose] public section

set_option maxRecDepth 16384

noncomputable section

open Idealize.SL.Sem
open Idealize.ShloMosaic hiding ix0 ix1 ix2 ix3
open Idealize.ShloMosaic.ValueIdx
open scoped BigOperators

namespace Cert.WeightUp

/-- Column `s` of slab `q`. -/
def col (q : Fin 4) (s : Fin 1408) : Fin 5632 := ⟨q.val * 1408 + s.val, by omega⟩

/-- The gradient of the weight, from the inputs `n` and the cotangents `d` of the outputs, its columns in four slabs. -/
def grad (n : FVec Ideal ⟨2, ![2176, 2048]⟩ .bf16) (d : FVec Ideal ⟨2, ![2176, 5632]⟩ .bf16) :
    FVec Ideal ⟨3, ![4, 2048, 1408]⟩ .bf16 :=
  fun y => (∑ k : Fin 2176, n (ix2 k (y 1)) * d (ix2 k (col (y 0) (y 2))) : EReal)

end Cert.WeightUp

namespace Cert.Kernel4Ideal.Array

open Cert.Kernel4Ideal Cert.Kernel4Ideal.Gen Cert.WeightUp Idealize.ShloMosaic.TcCoe

/-- What the body stores, at an index of its block. -/
theorem pay_apply (x : Vec Ideal S1024x2176 .bf16) (y : Vec Ideal S2176x1408 .bf16) (u : Fin 1) (r : Fin 1024) (s : Fin 1408) :
    k0_pay1 (F := Ideal) x y (ix3 u r s) = (∑ k : Fin 2176, x (ix2 r k) * y (ix2 k s) : EReal) := by
  unfold k0_pay1
  rw [shapeCast_self]
  refine (shapeCast_ab_1ab_apply _ _ _ _ _).trans ?_
  exact Product.plain_apply (φ := .bf16) x y r s

variable (m : (ℓ : Loc nD τ sig) → Buf (Elt Ideal) ℓ) (c : Dev nD) (t : Fin cfg0.N)

/-- The block coordinates of the left factor. -/
theorem idx0 : ∀ t : Fin cfg0.N, win0_0.index t 0 = t.val / 4 ∧ win0_0.index t 1 = 0 :=
  (by decide +kernel : ∀ t : Fin grid0.N, win0_0.index t 0 = t.val / 4 ∧ win0_0.index t 1 = 0)

/-- The block coordinates of the right factor. -/
theorem idx1 : ∀ t : Fin cfg0.N, win0_1.index t 0 = 0 ∧ win0_1.index t 1 = t.val % 4 :=
  (by decide +kernel : ∀ t : Fin grid0.N, win0_1.index t 0 = 0 ∧ win0_1.index t 1 = t.val % 4)

/-- The block coordinates of the result. -/
theorem idx2 : ∀ t : Fin cfg0.N, win0_2.index t 0 = t.val % 4 ∧ win0_2.index t 1 = t.val / 4 ∧ win0_2.index t 2 = 0 :=
  (by decide +kernel : ∀ t : Fin grid0.N, win0_2.index t 0 = t.val % 4 ∧ win0_2.index t 1 = t.val / 4 ∧ win0_2.index t 2 = 0)

/-- No block of the result is cut short. -/
theorem size2 : ∀ t : Fin cfg0.N, win0_2.xsize (grid0.coords t) 0 = 1 ∧ win0_2.xsize (grid0.coords t) 1 = 1024
    ∧ win0_2.xsize (grid0.coords t) 2 = 1408 :=
  (by decide +kernel : ∀ t : Fin grid0.N, win0_2.xsize (grid0.coords t) 0 = 1 ∧ win0_2.xsize (grid0.coords t) 1 = 1024
    ∧ win0_2.xsize (grid0.coords t) 2 = 1408)

/-- There are eight points. -/
theorem lt8 : t.val < 8 := t.isLt

/-- The result's rows at point `t`. -/
def rowAt (r : Fin 1024) : Fin 2048 := ⟨t.val / 4 * 1024 + r.val, by have := lt8 t; omega⟩

/-- The slab of point `t`. -/
def slabAt : Fin 4 := ⟨t.val % 4, by omega⟩

/-- The left factor is the transposed first argument. -/
theorem left_eq : V m c main_v0 = transpose S2048x2176 [1, 0] (m ((c : Thread nD τ).loc main_arg0)) transposes_S2176x2048_S2048x2176_1_0 := by
  show StableHlo.after hostOps0 (fun b => m (c, b)) _ = _
  simp only [hostOps0, StableHlo.TRef.nullary, StableHlo.TRef.ternary, StableHlo.TRef.unary, StableHlo.TRef.toBuf, StableHlo.TRef.ofBuf, cast_eq]
  after_results_simp

/-- A block of the left factor. -/
theorem read0 (X : Vec Ideal S2048x2176 .bf16) (r : Fin 1024) (k : Fin 2176) :
    (((cfg0.win 0).blk t).view.read (Elt Ideal) X : Vec Ideal S1024x2176 .bf16) (ix2 r k) = X (ix2 (rowAt t r) k) := by
  show X ((win0_0.rect t).emb (ix2 r k)) = _
  refine congrArg X ((ValueIdx.eq_ix2 _).trans (congrArg₂ ix2 (Fin.ext ?_) (Fin.ext ?_)))
  · refine (Pipeline.Window.rect_emb_val win0_0 t (ix2 r k) 0 rfl).trans ?_
    rw [(idx0 t).1]; rfl
  · refine (Pipeline.Window.rect_emb_val win0_0 t (ix2 r k) 1 rfl).trans ?_
    rw [(idx0 t).2]; exact Nat.zero_add _

/-- A block of the right factor. -/
theorem read1 (X : Vec Ideal S2176x5632 .bf16) (k : Fin 2176) (s : Fin 1408) :
    (((cfg0.win 1).blk t).view.read (Elt Ideal) X : Vec Ideal S2176x1408 .bf16) (ix2 k s) = X (ix2 k (col (slabAt t) s)) := by
  show X ((win0_1.rect t).emb (ix2 k s)) = _
  refine congrArg X ((ValueIdx.eq_ix2 _).trans (congrArg₂ ix2 (Fin.ext ?_) (Fin.ext ?_)))
  · refine (Pipeline.Window.rect_emb_val win0_1 t (ix2 k s) 0 rfl).trans ?_
    rw [(idx1 t).1]; exact Nat.zero_add _
  · refine (Pipeline.Window.rect_emb_val win0_1 t (ix2 k s) 1 rfl).trans ?_
    rw [(idx1 t).2]; rfl

/-- A block of the result. -/
theorem read2 (X : Vec Ideal S4x2048x1408 .bf16) (u : Fin 1) (r : Fin 1024) (s : Fin 1408) :
    (((cfg0.win 2).blk t).view.read (Elt Ideal) X : Vec Ideal S1x1024x1408 .bf16) (ix3 u r s) = X (ix3 (slabAt t) (rowAt t r) s) := by
  show X ((win0_2.rect t).emb (ix3 u r s)) = _
  have e : (win0_2.rect t).emb (ix3 u r s) = ix3 (slabAt t) (rowAt t r) s := by
    refine (ValueIdx.eq_ix3 _).trans (Product.ix3_congr ?_ ?_ ?_)
    · refine (Pipeline.Window.rect_emb_val win0_2 t (ix3 u r s) 0 rfl).trans ?_
      rw [(idx2 t).1]; show t.val % 4 * 1 + u.val = t.val % 4; omega
    · refine (Pipeline.Window.rect_emb_val win0_2 t (ix3 u r s) 1 rfl).trans ?_
      rw [(idx2 t).2.1]; rfl
    · refine (Pipeline.Window.rect_emb_val win0_2 t (ix3 u r s) 2 rfl).trans ?_
      rw [(idx2 t).2.2]; exact Nat.zero_add _
  exact congrArg X e

/-- What the body leaves of its output is the payload of the point's blocks. -/
theorem outs_eq : outsAt0 m c t = k0_pay1 (F := Ideal) (iblk m c 0 t) (iblk m c 1 t) := by
  unfold outsAt0 out0_A_2
  rw [View.read_writes_eq_canon _ _ _ (cover0_A_2 c _ _ _ _ _ _ _ _ _)]
  unfold kernelRun0_A
  dsimp only
  sl_unfold_words
  simp only [View.readAt_eq_ld, (hs0_0 t).read_unread, (hs0_1 t).read_unread]
  rw [View.canon_unit_zero (by funext a; match a with | ⟨0, _⟩ => rfl | ⟨1, _⟩ => rfl | ⟨2, _⟩ => rfl)]
  rw [View.ld_unit_zero (by funext a; match a with | ⟨0, _⟩ => rfl | ⟨1, _⟩ => rfl),
    View.ld_unit_zero (by funext a; match a with | ⟨0, _⟩ => rfl | ⟨1, _⟩ => rfl)]

/-- What point `t` writes back is its block of the gradient. -/
theorem flushed_eq : (dats m 0 c).flushed 2 t
    = (((cfg0.win 2).blk t).view.read (Elt Ideal) (grad (m ((c : Thread nD τ).loc main_arg0)) (m ((c : Thread nD τ).loc main_arg1)))) := by
  refine (Value.flushed2 m c t).trans ((congrArg ((cfg0.win 2).cut (grid0.coords t)) (outs_eq m c t)).trans ?_)
  show k0_pay1 (F := Ideal) (iblk m c 0 t) (iblk m c 1 t) = _
  funext y
  obtain ⟨u, r, s, rfl⟩ : ∃ (u : Fin 1) (r : Fin 1024) (s : Fin 1408), y = ix3 u r s := ⟨y 0, y 1, y 2, ValueIdx.eq_ix3 y⟩
  refine (pay_apply _ _ u r s).trans ?_
  refine Eq.trans ?_ (read2 t _ u r s).symm
  refine Finset.sum_congr rfl fun k _ => ?_
  have h0 : (iblk m c 0 t : Vec Ideal S1024x2176 .bf16) (ix2 r k) = m ((c : Thread nD τ).loc main_arg0) (ix2 k (rowAt t r)) :=
    (read0 t (V m c main_v0) r k).trans ((congrFun (left_eq m c) _).trans (transpose_ix2_apply _ _ _ _))
  have h1 : (iblk m c 1 t : Vec Ideal S2176x1408 .bf16) (ix2 k s) = m ((c : Thread nD τ).loc main_arg1) (ix2 k (col (slabAt t) s)) :=
    (read1 t (V m c main_arg1) k s).trans (congrFun (V_main_arg1 m c) _)
  exact congrArg₂ (fun a b : EReal => a * b) h0 h1

/-- Every entry of the result is in a block written back. -/
theorem cover (i : S4x2048x1408.Idx) : ∃ t : Fin cfg0.N, (cfg0.win 2).flush t = true ∧ i ∈ ((cfg0.win 2).blk t).view.set := by
  have b0 : (i 0).val < 4 := (i 0).isLt
  have b1 : (i 1).val < 2048 := (i 1).isLt
  have b2 : (i 2).val < 1408 := (i 2).isLt
  let t : Fin cfg0.N := ⟨(i 1).val / 1024 * 4 + (i 0).val, show _ < 8 by omega⟩
  have tv : t.val = (i 1).val / 1024 * 4 + (i 0).val := rfl
  refine ⟨t, flush0_2 _, ?_⟩
  show i ∈ ((View.whole main_v2).slice (win0_2.rect t)).set
  rw [View.set_slice_whole, Rect.mem_set_unit]
  intro b
  match b with
  | ⟨0, _⟩ =>
    show win0_2.index t 0 * 1 ≤ (i 0).val ∧ (i 0).val < win0_2.index t 0 * 1 + win0_2.xsize (grid0.coords t) 0
    rw [(idx2 t).1, (size2 t).1]; omega
  | ⟨1, _⟩ =>
    show win0_2.index t 1 * 1024 ≤ (i 1).val ∧ (i 1).val < win0_2.index t 1 * 1024 + win0_2.xsize (grid0.coords t) 1
    rw [(idx2 t).2.1, (size2 t).2.1]; omega
  | ⟨2, _⟩ =>
    show win0_2.index t 2 * 1408 ≤ (i 2).val ∧ (i 2).val < win0_2.index t 2 * 1408 + win0_2.xsize (grid0.coords t) 2
    rw [(idx2 t).2.2, (size2 t).2.2]; omega

/-- The result's array after the run. -/
theorem final : (dats m 0 c).arrAt 2 cfg0.N = grad (m ((c : Thread nD τ).loc main_arg0)) (m ((c : Thread nD τ).loc main_arg1)) :=
  (dats m 0 c).arrAt_eq_of_cover 2 _ (fun t _ => flushed_eq m c t) cover

end Cert.Kernel4Ideal.Array

namespace Cert.Reference4Ideal.Result

open Cert.Reference4Ideal Cert.Reference4Ideal.Gen Cert.Reference4Ideal.Read Cert.WeightUp

/-- The plain derivative's result is the same array. -/
theorem result (x0 : (⟨S2176x2048, .bf16⟩ : BufTy).Contents (Elt Ideal)) (x1 : (⟨S2176x5632, .bf16⟩ : BufTy).Contents (Elt Ideal)) :
    val_main_v8 (F := Ideal) x0 x1 = grad x0 x1 := by
  funext y
  obtain ⟨q, r, s, rfl⟩ : ∃ (q : Fin 4) (r : Fin 2048) (s : Fin 1408), y = ix3 q r s := ⟨y 0, y 1, y 2, ValueIdx.eq_ix3 y⟩
  rw [val_main_v8_apply, val_main_v7_apply, val_main_v6_apply, val_main_v5_apply]
  refine (val_main_v4_apply x0 x1 _).trans (Finset.sum_congr rfl fun k _ => ?_)
  have el : lidx_main_v4 (idx_main_v5 (idx_main_v7 (idx_main_v8 (ix3 q r s)))) k = ix2 k (col q s) := by
    refine (ValueIdx.eq_ix2 _).trans (congrArg₂ ix2 rfl (Fin.ext ?_))
    show ((r.val * 4 + q.val) * 1408 + s.val) % 5632 = q.val * 1408 + s.val
    omega
  have er : ridx_main_v4 (idx_main_v5 (idx_main_v7 (idx_main_v8 (ix3 q r s)))) k = ix2 k r := by
    refine (ValueIdx.eq_ix2 _).trans (congrArg₂ ix2 rfl (Fin.ext ?_))
    show ((r.val * 4 + q.val) * 1408 + s.val) / 5632 = r.val
    omega
  have e : val_main_v3 (F := Ideal) x1 (ix2 k (col q s)) * val_main_v1 (F := Ideal) x0 (ix2 k r)
      = (x0 (ix2 k r) * x1 (ix2 k (col q s)) : EReal) := mul_comm (x1 (ix2 k (col q s)) : EReal) _
  rw [el, er]
  exact e

end Cert.Reference4Ideal.Result
-- ==== Proof.Values4.lean ====
/-
  The gradient of the widening weight: the kernel's run and the plain program's run end with the same values.
-/
module

public import proofs.«01_k».proof.Defs
public import proofs.«01_k».proof.Proof.WeightUp
public import Idealize.ShloMosaic.Adequacy
public import Idealize.ShloMosaic.Init

@[expose] public section

noncomputable section

namespace Cert.Values4

open Idealize.ShloMosaic Idealize.SL.Sem

open Cert.Kernel4Ideal in
/-- The kernel's run: what its results hold, its arguments unchanged. -/
theorem kernel_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v2) = Cert.WeightUp.grad (m (c.tc.loc main_arg0)) (m (c.tc.loc main_arg1))
        ∧ r.2.mem (c.tc.loc main_arg0) = m (c.tc.loc main_arg0)
        ∧ r.2.mem (c.tc.loc main_arg1) = m (c.tc.loc main_arg1) :=
  (θ_run _ _ _).mono (fun _ h c => ⟨(h c).1.trans (Array.final m c), (h c).2⟩)
    (Value.run_blocks m g)

open Cert.Reference4Ideal in
/-- The plain program's run: its results hold the same, its arguments unchanged. -/
theorem reference_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v8) = Cert.WeightUp.grad (m (c.tc.loc main_arg0)) (m (c.tc.loc main_arg1))
        ∧ r.2.mem (c.tc.loc main_arg0) = m (c.tc.loc main_arg0)
        ∧ r.2.mem (c.tc.loc main_arg1) = m (c.tc.loc main_arg1) :=
  (θ_run _ _ _).mono (fun _ h c => ⟨(h c).1.trans ((Read.val_main_v8_eq _ _).trans (Result.result _ _)), (h c).2⟩)
    (Value.run m g)

/-- From equal arguments the two runs end with the same values. -/
theorem values : Cert.algebraic_Kernel4Ideal_Reference4Ideal
    (hKernel4Ideal := Cert.Kernel4Ideal.Gen.facts) (hReference4Ideal := Cert.Reference4Ideal.Gen.facts) := by
  intro m g m' g' _ hagree
  have e : ∀ c : Dev Cert.Kernel4Ideal.nD, Cert.WeightUp.grad (m' (c.tc.loc Cert.Reference4Ideal.main_arg0)) (m' (c.tc.loc Cert.Reference4Ideal.main_arg1)) = Cert.WeightUp.grad (m (c.tc.loc Cert.Kernel4Ideal.main_arg0)) (m (c.tc.loc Cert.Kernel4Ideal.main_arg1)) := fun c => by
    rw [(hagree c).1, (hagree c).2]
  exact ⟨_, kernel_run m g, (θ_run _ _ _).mono (fun _ h c => ⟨(h c).1.trans (e c), (h c).2⟩) (reference_run m' g')⟩

/-- The plain program writes none of its arguments and declares no semaphore. -/
theorem reference_frame : Cert.quiescent_Reference4Ideal (hReference4Ideal := Cert.Reference4Ideal.Gen.facts) :=
  fun m ρ _ => (θ_run Cert.Reference4Ideal.defs _ _).mono (fun r h => ⟨fun c => (h c).2, sem_eq_zero_of_no_sems (by decide) r.2⟩)
    (Cert.Reference4Ideal.Value.run (F := Ideal) m ρ)

end Cert.Values4
-- ==== Proof.RowsStep.lean ====
/-
  The gradient of the normalised rows: the kernel adds the two products slab by slab, which comes to the sum of the whole
  products.
-/
module

public import proofs.«01_k».proof.Proof.Product
public import proofs.«01_k».proof.Proof.Gen.Kernel5Ideal.Value
public import proofs.«01_k».proof.Proof.Gen.Reference5Ideal.Run
public import proofs.«01_k».proof.Proof.Gen.Reference5Ideal.Read

@[expose] public section

set_option maxRecDepth 16384

noncomputable section

open Idealize.SL.Sem
open Idealize.ShloMosaic hiding ix0 ix1 ix2 ix3
open Idealize.ShloMosaic.ValueIdx
open scoped BigOperators

namespace Cert.Kernel5Ideal.Body

open Cert.Kernel5Ideal Cert.Kernel5Ideal.Gen Idealize.ShloMosaic.TcCoe

/-- One point's step: both products are added to what is there. -/
def step (a : Vec Ideal S2176x512 .f32) (x0 x1 : Vec Ideal S2176x1408 .bf16) (x2 x3 : Vec Ideal S512x1408 .bf16) :
    Vec Ideal S2176x512 .f32 :=
  k0_pay3 (F := Ideal) (k0_pay2 (F := Ideal) a x0 x2) x1 x3

/-- The step at an index. -/
theorem step_apply (a : Vec Ideal S2176x512 .f32) (x0 x1 : Vec Ideal S2176x1408 .bf16) (x2 x3 : Vec Ideal S512x1408 .bf16)
    (r : Fin 2176) (s : Fin 512) :
    step a x0 x1 x2 x3 (ix2 r s)
      = (a (ix2 r s) + ∑ k : Fin 1408, x0 (ix2 r k) * x2 (ix2 s k) + ∑ k : Fin 1408, x1 (ix2 r k) * x3 (ix2 s k) : EReal) := by
  unfold step k0_pay3 k0_pay2
  simp only [shapeCast_self]
  exact congrArg₂ (fun x y : EReal => x + y)
    (congrArg (fun y : EReal => (a (ix2 r s) : EReal) + y) (Product.rows_apply (φ := .bf16) x0 x2 r s))
    (Product.rows_apply (φ := .bf16) x1 x3 r s)

/-- The sum starts at zero. -/
theorem start_apply (y : S2176x512.Idx) : k0_pay1 (F := Ideal) y = (0 : EReal) := by
  unfold k0_pay1
  rw [shapeCast_self]
  exact Ideal.ofBits_zero_f32

variable (c : Dev nD) (i : grid0.Coords) (arg2 : Memref sig .tc .vmem S2176x1408 .bf16) (harg2 : arg2.IsWhole) (arg3 : Memref sig .tc .vmem S2176x1408 .bf16) (harg3 : arg3.IsWhole) (arg4 : Memref sig .tc .vmem S512x1408 .bf16) (harg4 : arg4.IsWhole) (arg5 : Memref sig .tc .vmem S512x1408 .bf16) (harg5 : arg5.IsWhole) (arg7 : Memref sig .tc .vmem S2176x512 .f32) (harg7 : arg7.IsWhole) (arg8 : Memref sig .tc .vmem S2176x512 .f32) (harg8 : arg8.IsWhole)
  (x0 : Vec Ideal S2176x1408 .bf16) (x1 : Vec Ideal S2176x1408 .bf16) (x2 : Vec Ideal S512x1408 .bf16) (x3 : Vec Ideal S512x1408 .bf16) (xs0 : Vec Ideal S2176x512 .f32)

/-- No offset. -/
theorem off2 : (![0, 0] : Fin 2 → ℕ) = fun _ => 0 := by
  funext a; match a with | ⟨0, _⟩ => rfl | ⟨1, _⟩ => rfl

/-- The first slab starts the sum. -/
theorem soutA (hc0 : cond0_0 i) (hc1 : ¬cond0_1 i) :
    sout0_A_0 c i arg2 harg2 arg3 harg3 arg4 harg4 arg5 harg5 arg7 harg7 arg8 harg8 hc0 hc1 x0 x1 x2 x3 = step (k0_pay1 (F := Ideal)) x0 x1 x2 x3 := by
  unfold sout0_A_0
  rw [View.read_writes_eq_canon _ _ _ (scover0_A_0 c i arg2 harg2 arg3 harg3 arg4 harg4 arg5 harg5 arg7 harg7 arg8 harg8 hc0 hc1 x0 x1 x2 x3)]
  unfold kernelRun0_A
  dsimp only
  sl_unfold_words
  simp only [View.readAt_eq_ld, harg2.read_unread, harg3.read_unread, harg4.read_unread, harg5.read_unread]
  rw [View.canon_cons_unit_zero off2]
  simp only [Product.readCov_last (S := S2176x512) _ off2 off2]
  rw [View.ld_unit_zero off2, View.ld_unit_zero off2, View.ld_unit_zero off2, View.ld_unit_zero off2]
  rfl

/-- A middle slab goes on with the sum. -/
theorem soutB (hc0 : ¬cond0_0 i) (hc1 : ¬cond0_1 i) :
    sout0_B_0 c i arg2 harg2 arg3 harg3 arg4 harg4 arg5 harg5 arg7 harg7 arg8 harg8 hc0 hc1 x0 x1 x2 x3 xs0 = step xs0 x0 x1 x2 x3 := by
  unfold sout0_B_0
  rw [View.read_writes_eq_canon _ _ _ (scover0_B_0 c i arg2 harg2 arg3 harg3 arg4 harg4 arg5 harg5 arg7 harg7 arg8 harg8 hc0 hc1 x0 x1 x2 x3 xs0)]
  unfold kernelRun0_B
  dsimp only
  sl_unfold_words
  simp only [View.readAt_eq_ld, harg2.read_unread, harg3.read_unread, harg4.read_unread, harg5.read_unread, harg8.read_unread]
  rw [View.canon_cons_unit_zero off2]
  simp only [Product.readCov_last (S := S2176x512) _ off2 off2]
  rw [View.ld_unit_zero off2, View.ld_unit_zero off2, View.ld_unit_zero off2, View.ld_unit_zero off2, View.ld_unit_zero off2]
  rfl

/-- The last slab's sum is the output. -/
theorem outC (hc0 : ¬cond0_0 i) (hc1 : cond0_1 i) :
    out0_C_4 c i arg2 harg2 arg3 harg3 arg4 harg4 arg5 harg5 arg7 harg7 arg8 harg8 hc0 hc1 x0 x1 x2 x3 xs0 = step xs0 x0 x1 x2 x3 := by
  unfold out0_C_4
  rw [View.read_writes_eq_canon _ _ _ (cover0_C_4 c i arg2 harg2 arg3 harg3 arg4 harg4 arg5 harg5 arg7 harg7 arg8 harg8 hc0 hc1 x0 x1 x2 x3 xs0)]
  unfold kernelRun0_C
  dsimp only
  sl_unfold_words
  simp only [View.readAt_eq_ld, harg2.read_unread, harg3.read_unread, harg4.read_unread, harg5.read_unread, harg8.read_unread]
  rw [View.canon_cons_unit_zero off2]
  simp only [Product.readCov_last (S := S2176x512) _ off2 off2]
  rw [View.ld_unit_zero off2, View.ld_unit_zero off2, View.ld_unit_zero off2, View.ld_unit_zero off2, View.ld_unit_zero off2]
  rfl

end Cert.Kernel5Ideal.Body
-- ==== Proof.Rows.lean ====
/-
  The gradient of the normalised rows: the blocks the kernel reads, the four steps of a block of the result, and the whole
  result.
-/
module

public import proofs.«01_k».proof.Proof.RowsStep

@[expose] public section

set_option maxRecDepth 16384

noncomputable section

open Idealize.SL.Sem
open Idealize.ShloMosaic hiding ix0 ix1 ix2 ix3
open Idealize.ShloMosaic.ValueIdx
open scoped BigOperators

namespace Cert.Rows

/-- The gradient of the rows: both cotangents times their transposed weights. -/
def grad (d e : FVec Ideal ⟨2, ![2176, 5632]⟩ .bf16) (v w : FVec Ideal ⟨2, ![2048, 5632]⟩ .bf16) : FVec Ideal ⟨2, ![2176, 2048]⟩ .f32 :=
  fun y => (∑ k : Fin 5632, d (ix2 (y 0) k) * v (ix2 (y 1) k) + ∑ k : Fin 5632, e (ix2 (y 0) k) * w (ix2 (y 1) k) : EReal)

/-- Column `s` of slab `q`. -/
def col (q : Fin 4) (s : Fin 1408) : Fin 5632 := ⟨q.val * 1408 + s.val, by omega⟩

/-- Row `s` of block `j`. -/
def row (j : Fin 4) (s : Fin 512) : Fin 2048 := ⟨j.val * 512 + s.val, by omega⟩

end Cert.Rows

namespace Cert.Kernel5Ideal.Array

open Cert.Kernel5Ideal Cert.Kernel5Ideal.Gen Cert.Kernel5Ideal.Body Cert.Rows Idealize.ShloMosaic.TcCoe

variable (m : (ℓ : Loc nD τ sig) → Buf (Elt Ideal) ℓ) (c : Dev nD)

/-- The cotangents' block coordinates. -/
theorem idx0 : ∀ t : Fin cfg0.N, win0_0.index t 0 = 0 ∧ win0_0.index t 1 = t.val % 4 :=
  (by decide +kernel : ∀ t : Fin grid0.N, win0_0.index t 0 = 0 ∧ win0_0.index t 1 = t.val % 4)

/-- The other cotangents' block coordinates. -/
theorem idx1 : ∀ t : Fin cfg0.N, win0_1.index t 0 = 0 ∧ win0_1.index t 1 = t.val % 4 :=
  (by decide +kernel : ∀ t : Fin grid0.N, win0_1.index t 0 = 0 ∧ win0_1.index t 1 = t.val % 4)

/-- The weight's block coordinates. -/
theorem idx2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

/-- The other weight's block coordinates. -/
theorem idx3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)

/-- The result's block coordinates. -/
theorem idx4 : ∀ t : Fin cfg0.N, win0_4.index t 0 = 0 ∧ win0_4.index t 1 = t.val / 4 :=
  (by decide +kernel : ∀ t : Fin grid0.N, win0_4.index t 0 = 0 ∧ win0_4.index t 1 = t.val / 4)

/-- No block of the result is cut short. -/
theorem size4 : ∀ t : Fin cfg0.N, win0_4.xsize (grid0.coords t) 0 = 2176 ∧ win0_4.xsize (grid0.coords t) 1 = 512 :=
  (by decide +kernel : ∀ t : Fin grid0.N, win0_4.xsize (grid0.coords t) 0 = 2176 ∧ win0_4.xsize (grid0.coords t) 1 = 512)

/-- There are sixteen points. -/
theorem lt16 (t : Fin cfg0.N) : t.val < 16 := t.isLt

/-- The point of block `j` and slab `k`. -/
def pt (j k : Fin 4) : Fin cfg0.N := ⟨j.val * 4 + k.val, show _ < 16 by omega⟩

/-- Its slab. -/
theorem pt_mod (j k : Fin 4) : (pt j k).val % 4 = k.val := by show (j.val * 4 + k.val) % 4 = k.val; omega

/-- Its block. -/
theorem pt_div (j k : Fin 4) : (pt j k).val / 4 = j.val := by show (j.val * 4 + k.val) / 4 = j.val; omega

variable (j k : Fin 4)

/-- A block of the cotangents. -/
theorem read0 (X : Vec Ideal S2176x5632 .bf16) (r : Fin 2176) (q : Fin 1408) :
    (((cfg0.win 0).blk (pt j k)).view.read (Elt Ideal) X : Vec Ideal S2176x1408 .bf16) (ix2 r q) = X (ix2 r (col k q)) := by
  show X ((win0_0.rect (pt j k)).emb (ix2 r q)) = _
  refine congrArg X ((ValueIdx.eq_ix2 _).trans (congrArg₂ ix2 (Fin.ext ?_) (Fin.ext ?_)))
  · refine (Pipeline.Window.rect_emb_val win0_0 (pt j k) (ix2 r q) 0 rfl).trans ?_
    rw [(idx0 _).1]; exact Nat.zero_add _
  · refine (Pipeline.Window.rect_emb_val win0_0 (pt j k) (ix2 r q) 1 rfl).trans ?_
    rw [(idx0 _).2, pt_mod]; rfl

/-- A block of the other cotangents. -/
theorem read1 (X : Vec Ideal S2176x5632 .bf16) (r : Fin 2176) (q : Fin 1408) :
    (((cfg0.win 1).blk (pt j k)).view.read (Elt Ideal) X : Vec Ideal S2176x1408 .bf16) (ix2 r q) = X (ix2 r (col k q)) := by
  show X ((win0_1.rect (pt j k)).emb (ix2 r q)) = _
  refine congrArg X ((ValueIdx.eq_ix2 _).trans (congrArg₂ ix2 (Fin.ext ?_) (Fin.ext ?_)))
  · refine (Pipeline.Window.rect_emb_val win0_1 (pt j k) (ix2 r q) 0 rfl).trans ?_
    rw [(idx1 _).1]; exact Nat.zero_add _
  · refine (Pipeline.Window.rect_emb_val win0_1 (pt j k) (ix2 r q) 1 rfl).trans ?_
    rw [(idx1 _).2, pt_mod]; rfl

/-- A block of the weight. -/
theorem read2 (X : Vec Ideal S2048x5632 .bf16) (s : Fin 512) (q : Fin 1408) :
    (((cfg0.win 2).blk (pt j k)).view.read (Elt Ideal) X : Vec Ideal S512x1408 .bf16) (ix2 s q) = X (ix2 (row j s) (col k q)) := by
  show X ((win0_2.rect (pt j k)).emb (ix2 s q)) = _
  refine congrArg X ((ValueIdx.eq_ix2 _).trans (congrArg₂ ix2 (Fin.ext ?_) (Fin.ext ?_)))
  · refine (Pipeline.Window.rect_emb_val win0_2 (pt j k) (ix2 s q) 0 rfl).trans ?_
    rw [(idx2 _).1, pt_div]; rfl
  · refine (Pipeline.Window.rect_emb_val win0_2 (pt j k) (ix2 s q) 1 rfl).trans ?_
    rw [(idx2 _).2, pt_mod]; rfl

/-- A block of the other weight. -/
theorem read3 (X : Vec Ideal S2048x5632 .bf16) (s : Fin 512) (q : Fin 1408) :
    (((cfg0.win 3).blk (pt j k)).view.read (Elt Ideal) X : Vec Ideal S512x1408 .bf16) (ix2 s q) = X (ix2 (row j s) (col k q)) := by
  show X ((win0_3.rect (pt j k)).emb (ix2 s q)) = _
  refine congrArg X ((ValueIdx.eq_ix2 _).trans (congrArg₂ ix2 (Fin.ext ?_) (Fin.ext ?_)))
  · refine (Pipeline.Window.rect_emb_val win0_3 (pt j k) (ix2 s q) 0 rfl).trans ?_
    rw [(idx3 _).1, pt_div]; rfl
  · refine (Pipeline.Window.rect_emb_val win0_3 (pt j k) (ix2 s q) 1 rfl).trans ?_
    rw [(idx3 _).2, pt_mod]; rfl

/-- A block of the result. -/
theorem read4 (X : Vec Ideal S2176x2048 .f32) (r : Fin 2176) (s : Fin 512) :
    (((cfg0.win 4).blk (pt j k)).view.read (Elt Ideal) X : Vec Ideal S2176x512 .f32) (ix2 r s) = X (ix2 r (row j s)) := by
  show X ((win0_4.rect (pt j k)).emb (ix2 r s)) = _
  refine congrArg X ((ValueIdx.eq_ix2 _).trans (congrArg₂ ix2 (Fin.ext ?_) (Fin.ext ?_)))
  · refine (Pipeline.Window.rect_emb_val win0_4 (pt j k) (ix2 r s) 0 rfl).trans ?_
    rw [(idx4 _).1]; exact Nat.zero_add _
  · refine (Pipeline.Window.rect_emb_val win0_4 (pt j k) (ix2 r s) 1 rfl).trans ?_
    rw [(idx4 _).2, pt_div]; rfl

/-- The step of point `t` on a sum. -/
def next (t : Fin cfg0.N) (a : Vec Ideal S2176x512 .f32) : Vec Ideal S2176x512 .f32 :=
  step a (iblk m c 0 t) (iblk m c 1 t) (iblk m c 2 t) (iblk m c 3 t)

/-- What slab `k` adds of one product. -/
def slab (x : Vec Ideal S2176x5632 .bf16) (w : Vec Ideal S2048x5632 .bf16) (j k : Fin 4) (r : Fin 2176) (s : Fin 512) : EReal :=
  ∑ q : Fin 1408, (x (ix2 r (col k q)) * w (ix2 (row j s) (col k q)) : EReal)

/-- The four slabs are the whole product. -/
theorem slab_sum (x : Vec Ideal S2176x5632 .bf16) (w : Vec Ideal S2048x5632 .bf16) (j : Fin 4) (r : Fin 2176) (s : Fin 512) :
    slab x w j 0 r s + slab x w j 1 r s + slab x w j 2 r s + slab x w j 3 r s
      = ∑ k : Fin 5632, (x (ix2 r k) * w (ix2 (row j s) k) : EReal) :=
  (Fin.sum_univ_four (fun k => slab x w j k r s)).symm.trans
    (Product.slabs (by decide : 4 * 1408 = 5632) (fun k => (x (ix2 r k) * w (ix2 (row j s) k) : EReal)) col (fun _ _ => rfl))

/-- What slab `k` adds of the first product. -/
def part (k : Fin 4) (r : Fin 2176) (s : Fin 512) : EReal :=
  slab (m ((c : Thread nD τ).loc main_arg0)) (m ((c : Thread nD τ).loc main_arg2)) j k r s

/-- What slab `k` adds of the second product. -/
def part' (k : Fin 4) (r : Fin 2176) (s : Fin 512) : EReal :=
  slab (m ((c : Thread nD τ).loc main_arg1)) (m ((c : Thread nD τ).loc main_arg3)) j k r s

/-- A step at an index, from the arguments. -/
theorem next_apply (a : Vec Ideal S2176x512 .f32) (r : Fin 2176) (s : Fin 512) :
    next m c (pt j k) a (ix2 r s) = (a (ix2 r s) + part m c j k r s + part' m c j k r s : EReal) := by
  unfold next
  refine (step_apply _ _ _ _ _ r s).trans ?_
  refine congrArg₂ (fun x y : EReal => x + y) (congrArg (fun y : EReal => (a (ix2 r s) : EReal) + y) ?_) ?_
  · exact Finset.sum_congr rfl fun q _ => congrArg₂ (fun a b : EReal => a * b)
      ((read0 j k (V m c main_arg0) r q).trans (congrFun (V_main_arg0 m c) _))
      ((read2 j k (V m c main_arg2) s q).trans (congrFun (V_main_arg2 m c) _))
  · exact Finset.sum_congr rfl fun q _ => congrArg₂ (fun a b : EReal => a * b)
      ((read1 j k (V m c main_arg1) r q).trans (congrFun (V_main_arg1 m c) _))
      ((read3 j k (V m c main_arg3) s q).trans (congrFun (V_main_arg3 m c) _))

/-- The sum after the first slab. -/
theorem sum_first (t : Fin cfg0.N) (h : t.val % 4 = 0) : (outsAt0 m c t.val t.isLt).2 = next m c t (k0_pay1 (F := Ideal)) := by
  have h1 : ¬t.val % 4 = 3 := by omega
  rw [outsAt0_A m c t h h1]
  dsimp only
  rw [soutA]
  rfl

/-- The sum after a middle slab. -/
theorem sum_middle (t : Fin cfg0.N) (h0 : ¬t.val % 4 = 0) (h1 : ¬t.val % 4 = 3) :
    (outsAt0 m c t.val t.isLt).2 = next m c t (outsAt0 m c (t.val - 1) (Nat.lt_of_le_of_lt (Nat.sub_le _ _) t.isLt)).2 := by
  rw [outsAt0_B m c t h0 h1]
  dsimp only
  rw [soutB]
  rfl

/-- The output after the last slab. -/
theorem out_last (t : Fin cfg0.N) (h1 : t.val % 4 = 3) :
    (outsAt0 m c t.val t.isLt).1 = next m c t (outsAt0 m c (t.val - 1) (Nat.lt_of_le_of_lt (Nat.sub_le _ _) t.isLt)).2 := by
  have h0 : ¬t.val % 4 = 0 := by omega
  rw [outsAt0_C m c t h0 h1]
  dsimp only
  rw [outC]
  rfl

/-- The output of a block is its four steps. -/
theorem out_eq : (outsAt0 m c (pt j 3).val (pt j 3).isLt).1
    = next m c (pt j 3) (next m c (pt j 2) (next m c (pt j 1) (next m c (pt j 0) (k0_pay1 (F := Ideal))))) := by
  rw [out_last m c (pt j 3) (pt_mod j 3)]
  refine congrArg (next m c (pt j 3)) ?_
  have n0 : ∀ k : Fin 4, k.val ≠ 0 → ¬(pt j k).val % 4 = 0 := fun k hk h => hk ((pt_mod j k).symm.trans h)
  have n3 : ∀ k : Fin 4, k.val ≠ 3 → ¬(pt j k).val % 4 = 3 := fun k hk h => hk ((pt_mod j k).symm.trans h)
  refine (sum_middle m c (pt j 2) (n0 2 (by decide)) (n3 2 (by decide))).trans ?_
  refine congrArg (next m c (pt j 2)) ?_
  refine (sum_middle m c (pt j 1) (n0 1 (by decide)) (n3 1 (by decide))).trans ?_
  refine congrArg (next m c (pt j 1)) ?_
  exact sum_first m c (pt j 0) (pt_mod j 0)

/-- The four steps come to the whole products. -/
theorem out_apply (r : Fin 2176) (s : Fin 512) : (outsAt0 m c (pt j 3).val (pt j 3).isLt).1 (ix2 r s)
    = grad (m ((c : Thread nD τ).loc main_arg0)) (m ((c : Thread nD τ).loc main_arg1)) (m ((c : Thread nD τ).loc main_arg2))
      (m ((c : Thread nD τ).loc main_arg3)) (ix2 r (row j s)) := by
  rw [out_eq, next_apply, next_apply, next_apply, next_apply, start_apply]
  have a := slab_sum (m ((c : Thread nD τ).loc main_arg0)) (m ((c : Thread nD τ).loc main_arg2)) j r s
  have b := slab_sum (m ((c : Thread nD τ).loc main_arg1)) (m ((c : Thread nD τ).loc main_arg3)) j r s
  refine Eq.trans ?_ (congrArg₂ (fun x y : EReal => x + y) a b)
  show (0 + part m c j 0 r s + part' m c j 0 r s + part m c j 1 r s + part' m c j 1 r s + part m c j 2 r s + part' m c j 2 r s
    + part m c j 3 r s + part' m c j 3 r s : EReal)
    = (part m c j 0 r s + part m c j 1 r s + part m c j 2 r s + part m c j 3 r s)
      + (part' m c j 0 r s + part' m c j 1 r s + part' m c j 2 r s + part' m c j 3 r s)
  rw [zero_add]
  ac_rfl

/-- What a point that writes back writes is its block of the gradient. -/
theorem flushed_eq (t : Fin cfg0.N) (hf : (cfg0.win 4).flush t = true) : (dats m 0 c).flushed 4 t
    = (((cfg0.win 4).blk t).view.read (Elt Ideal) (grad (m ((c : Thread nD τ).loc main_arg0)) (m ((c : Thread nD τ).loc main_arg1))
      (m ((c : Thread nD τ).loc main_arg2)) (m ((c : Thread nD τ).loc main_arg3)))) := by
  have h3 := (flush0_4 t).mp hf
  have ht := lt16 t
  obtain ⟨j, rfl⟩ : ∃ j : Fin 4, t = pt j 3 := ⟨⟨t.val / 4, by omega⟩, Fin.ext (by show t.val = t.val / 4 * 4 + 3; omega)⟩
  refine (Value.flushed4 m c (pt j 3)).trans ?_
  show (outsAt0 m c (pt j 3).val (pt j 3).isLt).1 = _
  funext y
  obtain ⟨r, s, rfl⟩ : ∃ (r : Fin 2176) (s : Fin 512), y = ix2 r s := ⟨y 0, y 1, ValueIdx.eq_ix2 y⟩
  exact (out_apply m c j r s).trans (read4 j 3 _ r s).symm

/-- Every entry of the result is in a block written back. -/
theorem cover (i : S2176x2048.Idx) : ∃ t : Fin cfg0.N, (cfg0.win 4).flush t = true ∧ i ∈ ((cfg0.win 4).blk t).view.set := by
  have b0 : (i 0).val < 2176 := (i 0).isLt
  have b1 : (i 1).val < 2048 := (i 1).isLt
  let j : Fin 4 := ⟨(i 1).val / 512, by omega⟩
  have jv : j.val = (i 1).val / 512 := rfl
  refine ⟨pt j 3, (flush0_4 _).mpr (pt_mod j 3), ?_⟩
  show i ∈ ((View.whole main_v1).slice (win0_4.rect (pt j 3))).set
  rw [View.set_slice_whole, Rect.mem_set_unit]
  intro b
  match b with
  | ⟨0, _⟩ =>
    show win0_4.index (pt j 3) 0 * 2176 ≤ (i 0).val ∧ (i 0).val < win0_4.index (pt j 3) 0 * 2176 + win0_4.xsize (grid0.coords (pt j 3)) 0
    rw [(idx4 _).1, (size4 _).1]; omega
  | ⟨1, _⟩ =>
    show win0_4.index (pt j 3) 1 * 512 ≤ (i 1).val ∧ (i 1).val < win0_4.index (pt j 3) 1 * 512 + win0_4.xsize (grid0.coords (pt j 3)) 1
    rw [(idx4 _).2, (size4 _).2, pt_div]; omega

/-- The result's array after the run. -/
theorem final : (dats m 0 c).arrAt 4 cfg0.N = grad (m ((c : Thread nD τ).loc main_arg0)) (m ((c : Thread nD τ).loc main_arg1))
    (m ((c : Thread nD τ).loc main_arg2)) (m ((c : Thread nD τ).loc main_arg3)) :=
  (dats m 0 c).arrAt_eq_of_cover 4 _ (fun t hf => flushed_eq m c t hf) cover

end Cert.Kernel5Ideal.Array

namespace Cert.Reference5Ideal.Result

open Cert.Reference5Ideal Cert.Reference5Ideal.Gen Cert.Reference5Ideal.Read Cert.Rows

/-- The plain derivative's result is the same array. -/
theorem result (x0 x1 : (⟨S2176x5632, .bf16⟩ : BufTy).Contents (Elt Ideal)) (x2 x3 : (⟨S2048x5632, .bf16⟩ : BufTy).Contents (Elt Ideal)) :
    val_main_v9 (F := Ideal) x0 x1 x2 x3 = grad x0 x1 x2 x3 := by
  funext y
  obtain ⟨r, s, rfl⟩ : ∃ (r : Fin 2176) (s : Fin 2048), y = ix2 r s := ⟨y 0, y 1, ValueIdx.eq_ix2 y⟩
  have l7 : ∀ k, lidx_main_v7 (ix2 r s) k = ix2 r k := fun _ => ValueIdx.eq_ix2 _
  have r7 : ∀ k, ridx_main_v7 (ix2 r s) k = ix2 s k := fun _ => ValueIdx.eq_ix2 _
  have l8 : ∀ k, lidx_main_v8 (ix2 r s) k = ix2 r k := fun _ => ValueIdx.eq_ix2 _
  have r8 : ∀ k, ridx_main_v8 (ix2 r s) k = ix2 s k := fun _ => ValueIdx.eq_ix2 _
  have e7 : val_main_v7 (F := Ideal) x1 x3 (ix2 r s) = (∑ k : Fin 5632, x1 (ix2 r k) * x3 (ix2 s k) : EReal) :=
    (val_main_v7_apply x1 x3 _).trans (Finset.sum_congr rfl fun k _ => by rw [l7, r7]; rfl)
  have e8 : val_main_v8 (F := Ideal) x0 x2 (ix2 r s) = (∑ k : Fin 5632, x0 (ix2 r k) * x2 (ix2 s k) : EReal) :=
    (val_main_v8_apply x0 x2 _).trans (Finset.sum_congr rfl fun k _ => by rw [l8, r8]; rfl)
  rw [val_main_v9_apply]
  refine (congrArg₂ (fun a b : EReal => a + b) e7 e8).trans ?_
  exact add_comm (∑ k : Fin 5632, (x1 (ix2 r k) * x3 (ix2 s k) : EReal)) _

end Cert.Reference5Ideal.Result
-- ==== Proof.Values5.lean ====
/-
  The gradient of the normalised rows: the kernel's run and the plain program's run end with the same values.
-/
module

public import proofs.«01_k».proof.Defs
public import proofs.«01_k».proof.Proof.Rows
public import Idealize.ShloMosaic.Adequacy
public import Idealize.ShloMosaic.Init

@[expose] public section

noncomputable section

namespace Cert.Values5

open Idealize.ShloMosaic Idealize.SL.Sem

open Cert.Kernel5Ideal in
/-- The kernel's run: what its results hold, its arguments unchanged. -/
theorem kernel_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v1) = Cert.Rows.grad (m (c.tc.loc main_arg0)) (m (c.tc.loc main_arg1)) (m (c.tc.loc main_arg2)) (m (c.tc.loc main_arg3))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3) :=
  (θ_run _ _ _).mono (fun _ h c => ⟨(h c).1.trans (Array.final m c), (h c).2⟩)
    (Value.run_blocks m g)

open Cert.Reference5Ideal in
/-- The plain program's run: its results hold the same, its arguments unchanged. -/
theorem reference_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v9) = Cert.Rows.grad (m (c.tc.loc main_arg0)) (m (c.tc.loc main_arg1)) (m (c.tc.loc main_arg2)) (m (c.tc.loc main_arg3))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3) :=
  (θ_run _ _ _).mono (fun _ h c => ⟨(h c).1.trans ((Read.val_main_v9_eq _ _ _ _).trans (Result.result _ _ _ _)), (h c).2⟩)
    (Value.run m g)

/-- From equal arguments the two runs end with the same values. -/
theorem values : Cert.algebraic_Kernel5Ideal_Reference5Ideal
    (hKernel5Ideal := Cert.Kernel5Ideal.Gen.facts) (hReference5Ideal := Cert.Reference5Ideal.Gen.facts) := by
  intro m g m' g' _ hagree
  have e : ∀ c : Dev Cert.Kernel5Ideal.nD, Cert.Rows.grad (m' (c.tc.loc Cert.Reference5Ideal.main_arg0)) (m' (c.tc.loc Cert.Reference5Ideal.main_arg1)) (m' (c.tc.loc Cert.Reference5Ideal.main_arg2)) (m' (c.tc.loc Cert.Reference5Ideal.main_arg3)) = Cert.Rows.grad (m (c.tc.loc Cert.Kernel5Ideal.main_arg0)) (m (c.tc.loc Cert.Kernel5Ideal.main_arg1)) (m (c.tc.loc Cert.Kernel5Ideal.main_arg2)) (m (c.tc.loc Cert.Kernel5Ideal.main_arg3)) := fun c => by
    rw [(hagree c).1, (hagree c).2.1, (hagree c).2.2.1, (hagree c).2.2.2]
  exact ⟨_, kernel_run m g, (θ_run _ _ _).mono (fun _ h c => ⟨(h c).1.trans (e c), (h c).2⟩) (reference_run m' g')⟩

/-- The plain program writes none of its arguments and declares no semaphore. -/
theorem reference_frame : Cert.quiescent_Reference5Ideal (hReference5Ideal := Cert.Reference5Ideal.Gen.facts) :=
  fun m ρ _ => (θ_run Cert.Reference5Ideal.defs _ _).mono (fun r h => ⟨fun c => (h c).2, sem_eq_zero_of_no_sems (by decide) r.2⟩)
    (Cert.Reference5Ideal.Value.run (F := Ideal) m ρ)

end Cert.Values5
-- ==== Proof.Linear.lean ====
/-
  The plain products of a layer's forward and backward pass over the extended reals.
-/
module

public import proofs.«01_k».proof.Proof.Product

@[expose] public section

noncomputable section

open Idealize.ShloMosaic hiding ix0 ix1 ix2 ix3
open Idealize.ShloMosaic.ValueIdx
open scoped BigOperators

namespace Cert.Linear

variable {m k n : ℕ}

/-- An entry of the product of the rows `x` and the weight `w`. -/
def entry (x : FVec Ideal ⟨2, ![m, k]⟩ .bf16) (w : FVec Ideal ⟨2, ![k, n]⟩ .bf16) (r : Fin m) (c : Fin n) : EReal :=
  ∑ d : Fin k, (x (ix2 r d) * w (ix2 d c) : EReal)

/-- The product of the rows `x` and the weight `w`. -/
def prod (x : FVec Ideal ⟨2, ![m, k]⟩ .bf16) (w : FVec Ideal ⟨2, ![k, n]⟩ .bf16) : FVec Ideal ⟨2, ![m, n]⟩ .f32 :=
  fun y => entry x w (y 0) (y 1)

/-- The residual rows `h` plus the product, scaled by `s`. -/
def residual (s : ℝ) (x : FVec Ideal ⟨2, ![m, k]⟩ .bf16) (w : FVec Ideal ⟨2, ![k, n]⟩ .bf16) (h : FVec Ideal ⟨2, ![m, n]⟩ .f32) :
    FVec Ideal ⟨2, ![m, n]⟩ .f32 :=
  fun y => (h y + (s : EReal) * entry x w (y 0) (y 1) : EReal)

/-- The gradient of the rows, from the outputs' cotangents `d`. -/
def back (d : FVec Ideal ⟨2, ![m, k]⟩ .bf16) (w : FVec Ideal ⟨2, ![n, k]⟩ .bf16) : FVec Ideal ⟨2, ![m, n]⟩ .f32 :=
  fun y => ∑ j : Fin k, (d (ix2 (y 0) j) * w (ix2 (y 1) j) : EReal)

/-- The gradient of the weight, from the rows `x` and the outputs' cotangents `d`. -/
def weight (x : FVec Ideal ⟨2, ![m, k]⟩ .bf16) (d : FVec Ideal ⟨2, ![m, n]⟩ .bf16) : FVec Ideal ⟨2, ![k, n]⟩ .bf16 :=
  fun y => ∑ r : Fin m, (x (ix2 r (y 0)) * d (ix2 r (y 1)) : EReal)

end Cert.Linear
-- ==== Proof.Forward.lean ====
/-
  What the gated layer's forward pass keeps of its two hidden products: the factors of the backward pass and the hidden rows.
-/
module

public import proofs.«01_k».proof.Proof.Linear
public import proofs.«01_k».proof.Proof.HiddenValue

@[expose] public section

noncomputable section

open Idealize.ShloMosaic hiding ix0 ix1 ix2 ix3
open Idealize.ShloMosaic.ValueIdx
open scoped BigOperators

namespace Cert.Forward

open Cert.Hidden

/-- The derivative of the gated product with respect to its gate, as the forward pass computes it. -/
def tilt (x y : EReal) : EReal := y * (logistic x * (1 + x * (1 - logistic x)))

/-- On reals it is the sum of the product rule's two terms. -/
theorem tilt_real (x y : ℝ) : Hidden.slope (x : EReal) (y : EReal) = tilt (x : EReal) (y : EReal) := by
  obtain ⟨s, hs⟩ := logistic_real x
  unfold Hidden.slope tilt
  rw [hs, ← EReal.coe_one]
  simp only [← EReal.coe_mul, ← EReal.coe_add, ← EReal.coe_sub]
  exact congrArg _ (by ring)

/-- The kernel's logistic function. -/
theorem logistic_eq (x : EReal) :
    Ideal.div (Ideal.ofBits .f32 0x3F800000#32) (Ideal.ofBits .f32 0x3F800000#32 + Ideal.exp (Ideal.ofBits .f32 0x00000000#32 - x)) = logistic x := by
  rw [Ideal.ofBits_one_f32, Ideal.ofBits_zero_f32, zero_sub]
  rfl

variable (a b : FVec Ideal ⟨2, ![2176, 5632]⟩ .f32)

/-- The factor kept for the gate's gradient. -/
def keepGate : FVec Ideal ⟨2, ![2176, 5632]⟩ .bf16 := fun y => tilt (a y) (b y)

/-- The factor kept for the other gradient. -/
def keepUp : FVec Ideal ⟨2, ![2176, 5632]⟩ .bf16 := fun y => (a y * logistic (a y) : EReal)

/-- The hidden rows. -/
def hidden : FVec Ideal ⟨2, ![2176, 5632]⟩ .bf16 := fun y => (a y * logistic (a y) * b y : EReal)

/-- The hidden rows, transposed. -/
def hiddenT : FVec Ideal ⟨2, ![5632, 2176]⟩ .bf16 := fun y => hidden a b (ix2 (y 1) (y 0))

/-- A product of finite arrays has real entries. -/
theorem entry_real {m k n : ℕ} (x : FVec Ideal ⟨2, ![m, k]⟩ .bf16) (w : FVec Ideal ⟨2, ![k, n]⟩ .bf16) (hx : Block.Finite x) (hw : Block.Finite w)
    (r : Fin m) (c : Fin n) : ∃ g : ℝ, Linear.entry x w r c = (g : EReal) :=
  sum_real _ _ fun d => ⟨EReal.toReal (x (ix2 r d)) * EReal.toReal (w (ix2 d c)), by
    rw [EReal.coe_mul, EReal.coe_toReal (hx _).1 (hx _).2, EReal.coe_toReal (hw _).1 (hw _).2]⟩

end Cert.Forward
-- ==== Proof.Up.lean ====
/-
  The gated layer's two hidden products and what is kept of them.
-/
module

public import proofs.«01_k».proof.Proof.Linear
public import proofs.«01_k».proof.Proof.Gen.Kernel6Ideal.Value
public import proofs.«01_k».proof.Proof.Gen.Reference6Ideal.Run
public import proofs.«01_k».proof.Proof.Gen.Reference6Ideal.Read
public import proofs.«01_k».proof.Proof.Forward
public import Idealize.ShloMosaic.Lib.IdealHost

@[expose] public section

set_option maxRecDepth 16384

noncomputable section

open Idealize.SL.Sem
open Idealize.ShloMosaic hiding ix0 ix1 ix2 ix3
open Idealize.ShloMosaic.ValueIdx
open scoped BigOperators

namespace Cert.Kernel6Ideal.Array

open Cert.Kernel6Ideal Cert.Kernel6Ideal.Gen Cert.Linear Cert.Forward Cert.Hidden Idealize.ShloMosaic.TcCoe

/-- The gate product in a block. -/
theorem gate_apply (x : Vec Ideal S2176x2048 .bf16) (w : Vec Ideal S2048x256 .bf16) (r : Fin 2176) (s : Fin 256) : k0_pay1 (F := Ideal) x w (ix2 r s) = (∑ k : Fin 2048, (x (ix2 r k) * w (ix2 k s) : EReal)) := by
  unfold k0_pay1
  exact Product.plain_apply (φ := .bf16) x w r s

/-- The other product in a block. -/
theorem up_apply (x : Vec Ideal S2176x2048 .bf16) (v : Vec Ideal S2048x256 .bf16) (r : Fin 2176) (s : Fin 256) : k0_pay2 (F := Ideal) x v (ix2 r s) = (∑ k : Fin 2048, (x (ix2 r k) * v (ix2 k s) : EReal)) := by
  unfold k0_pay2
  exact Product.plain_apply (φ := .bf16) x v r s

/-- The logistic function in a block. -/
theorem logistic_apply (x : Vec Ideal S2176x2048 .bf16) (w : Vec Ideal S2048x256 .bf16) (r : Fin 2176) (s : Fin 256) : k0_pay3 (F := Ideal) x w (ix2 r s) = logistic (∑ k : Fin 2048, (x (ix2 r k) * w (ix2 k s) : EReal)) := by
  unfold k0_pay3
  refine Eq.trans (logistic_eq (k0_pay1 (F := Ideal) x w (ix2 r s))) ?_
  rw [gate_apply]

/-- What the body stores for the gate's gradient. -/
theorem pay_keepGate (x : Vec Ideal S2176x2048 .bf16) (w v : Vec Ideal S2048x256 .bf16) (r : Fin 2176) (s : Fin 256) : k0_pay5 (F := Ideal) x w v (ix2 r s) = tilt (∑ k : Fin 2048, (x (ix2 r k) * w (ix2 k s) : EReal)) (∑ k : Fin 2048, (x (ix2 r k) * v (ix2 k s) : EReal)) := by
  unfold k0_pay5
  show (k0_pay2 (F := Ideal) x v (ix2 r s) * (k0_pay3 (F := Ideal) x w (ix2 r s) * (Ideal.ofBits .f32 0x3F800000#32 + k0_pay1 (F := Ideal) x w (ix2 r s) * (Ideal.ofBits .f32 0x3F800000#32 - k0_pay3 (F := Ideal) x w (ix2 r s)))) : EReal) = _
  rw [up_apply, logistic_apply, gate_apply, Ideal.ofBits_one_f32]
  rfl

/-- What the body stores for the other gradient. -/
theorem pay_keepUp (x : Vec Ideal S2176x2048 .bf16) (w : Vec Ideal S2048x256 .bf16) (r : Fin 2176) (s : Fin 256) : k0_pay6 (F := Ideal) x w (ix2 r s) = ((∑ k : Fin 2048, (x (ix2 r k) * w (ix2 k s) : EReal)) * logistic (∑ k : Fin 2048, (x (ix2 r k) * w (ix2 k s) : EReal)) : EReal) := by
  unfold k0_pay6 k0_pay4
  show (k0_pay1 (F := Ideal) x w (ix2 r s) * k0_pay3 (F := Ideal) x w (ix2 r s) : EReal) = _
  rw [logistic_apply, gate_apply]

/-- The hidden rows in a block. -/
theorem mid_apply (x : Vec Ideal S2176x2048 .bf16) (w v : Vec Ideal S2048x256 .bf16) (r : Fin 2176) (s : Fin 256) : k0_pay7 (F := Ideal) x w v (ix2 r s) = ((∑ k : Fin 2048, (x (ix2 r k) * w (ix2 k s) : EReal)) * logistic (∑ k : Fin 2048, (x (ix2 r k) * w (ix2 k s) : EReal)) * (∑ k : Fin 2048, (x (ix2 r k) * v (ix2 k s) : EReal)) : EReal) := by
  unfold k0_pay7 k0_pay4
  show (k0_pay1 (F := Ideal) x w (ix2 r s) * k0_pay3 (F := Ideal) x w (ix2 r s) * k0_pay2 (F := Ideal) x v (ix2 r s) : EReal) = _
  rw [up_apply, logistic_apply, gate_apply]

/-- What the body stores of the hidden rows. -/
theorem pay_hidden (x : Vec Ideal S2176x2048 .bf16) (w v : Vec Ideal S2048x256 .bf16) (r : Fin 2176) (s : Fin 256) : k0_pay8 (F := Ideal) x w v (ix2 r s) = ((∑ k : Fin 2048, (x (ix2 r k) * w (ix2 k s) : EReal)) * logistic (∑ k : Fin 2048, (x (ix2 r k) * w (ix2 k s) : EReal)) * (∑ k : Fin 2048, (x (ix2 r k) * v (ix2 k s) : EReal)) : EReal) := by
  unfold k0_pay8
  exact mid_apply x w v r s

/-- What the body stores of the transposed hidden rows. -/
theorem pay_hiddenT (x : Vec Ideal S2176x2048 .bf16) (w v : Vec Ideal S2048x256 .bf16) (s : Fin 256) (r : Fin 2176) : k0_pay9 (F := Ideal) x w v (ix2 s r) = ((∑ k : Fin 2048, (x (ix2 r k) * w (ix2 k s) : EReal)) * logistic (∑ k : Fin 2048, (x (ix2 r k) * w (ix2 k s) : EReal)) * (∑ k : Fin 2048, (x (ix2 r k) * v (ix2 k s) : EReal)) : EReal) := by
  unfold k0_pay9
  exact (transpose_ix2_apply _ _ _ _).trans (mid_apply x w v r s)

variable (m : (ℓ : Loc nD τ sig) → Buf (Elt Ideal) ℓ) (c : Dev nD) (t : Fin cfg0.N)

/-- The block coordinates of window 0. -/
theorem idx0 : ∀ t : Fin cfg0.N, win0_0.index t 0 = 0 ∧ win0_0.index t 1 = 0 :=
  (by decide +kernel : ∀ t : Fin grid0.N, win0_0.index t 0 = 0 ∧ win0_0.index t 1 = 0)

/-- The block coordinates of window 1. -/
theorem idx1 : ∀ t : Fin cfg0.N, win0_1.index t 0 = 0 ∧ win0_1.index t 1 = t.val :=
  (by decide +kernel : ∀ t : Fin grid0.N, win0_1.index t 0 = 0 ∧ win0_1.index t 1 = t.val)

/-- The block coordinates of window 2. -/
theorem idx2 : ∀ t : Fin cfg0.N, win0_2.index t 0 = 0 ∧ win0_2.index t 1 = t.val :=
  (by decide +kernel : ∀ t : Fin grid0.N, win0_2.index t 0 = 0 ∧ win0_2.index t 1 = t.val)

/-- The block coordinates of window 3. -/
theorem idx3 : ∀ t : Fin cfg0.N, win0_3.index t 0 = 0 ∧ win0_3.index t 1 = t.val :=
  (by decide +kernel : ∀ t : Fin grid0.N, win0_3.index t 0 = 0 ∧ win0_3.index t 1 = t.val)

/-- The block coordinates of window 4. -/
theorem idx4 : ∀ t : Fin cfg0.N, win0_4.index t 0 = 0 ∧ win0_4.index t 1 = t.val :=
  (by decide +kernel : ∀ t : Fin grid0.N, win0_4.index t 0 = 0 ∧ win0_4.index t 1 = t.val)

/-- The block coordinates of window 5. -/
theorem idx5 : ∀ t : Fin cfg0.N, win0_5.index t 0 = 0 ∧ win0_5.index t 1 = t.val :=
  (by decide +kernel : ∀ t : Fin grid0.N, win0_5.index t 0 = 0 ∧ win0_5.index t 1 = t.val)

/-- The block coordinates of window 6. -/
theorem idx6 : ∀ t : Fin cfg0.N, win0_6.index t 0 = t.val ∧ win0_6.index t 1 = 0 :=
  (by decide +kernel : ∀ t : Fin grid0.N, win0_6.index t 0 = t.val ∧ win0_6.index t 1 = 0)

/-- No block of window 3 is cut short. -/
theorem size3 : ∀ t : Fin cfg0.N, win0_3.xsize (grid0.coords t) 0 = 2176 ∧ win0_3.xsize (grid0.coords t) 1 = 256 :=
  (by decide +kernel : ∀ t : Fin grid0.N, win0_3.xsize (grid0.coords t) 0 = 2176 ∧ win0_3.xsize (grid0.coords t) 1 = 256)

/-- No block of window 4 is cut short. -/
theorem size4 : ∀ t : Fin cfg0.N, win0_4.xsize (grid0.coords t) 0 = 2176 ∧ win0_4.xsize (grid0.coords t) 1 = 256 :=
  (by decide +kernel : ∀ t : Fin grid0.N, win0_4.xsize (grid0.coords t) 0 = 2176 ∧ win0_4.xsize (grid0.coords t) 1 = 256)

/-- No block of window 5 is cut short. -/
theorem size5 : ∀ t : Fin cfg0.N, win0_5.xsize (grid0.coords t) 0 = 2176 ∧ win0_5.xsize (grid0.coords t) 1 = 256 :=
  (by decide +kernel : ∀ t : Fin grid0.N, win0_5.xsize (grid0.coords t) 0 = 2176 ∧ win0_5.xsize (grid0.coords t) 1 = 256)

/-- No block of window 6 is cut short. -/
theorem size6 : ∀ t : Fin cfg0.N, win0_6.xsize (grid0.coords t) 0 = 256 ∧ win0_6.xsize (grid0.coords t) 1 = 2176 :=
  (by decide +kernel : ∀ t : Fin grid0.N, win0_6.xsize (grid0.coords t) 0 = 256 ∧ win0_6.xsize (grid0.coords t) 1 = 2176)

/-- There are 22 points. -/
theorem points : t.val < 22 := t.isLt

/-- The array's coordinate of a block's coordinate at point `t`. -/
def step256 (s : Fin 256) : Fin 5632 := ⟨t.val * 256 + s.val, by have := points t; omega⟩

/-- A block of window 0. -/
theorem read0 (X : Vec Ideal S2176x2048 .bf16) (r : Fin 2176) (s : Fin 2048) :
    (((cfg0.win 0).blk t).view.read (Elt Ideal) X : Vec Ideal S2176x2048 .bf16) (ix2 r s) = X (ix2 r s) := by
  show X ((win0_0.rect t).emb (ix2 r s)) = _
  refine congrArg X ((ValueIdx.eq_ix2 _).trans (congrArg₂ ix2 (Fin.ext ?_) (Fin.ext ?_)))
  · refine (Pipeline.Window.rect_emb_val win0_0 t (ix2 r s) 0 rfl).trans ?_
    rw [(idx0 t).1]; exact Nat.zero_add _
  · refine (Pipeline.Window.rect_emb_val win0_0 t (ix2 r s) 1 rfl).trans ?_
    rw [(idx0 t).2]; exact Nat.zero_add _

/-- A block of window 1. -/
theorem read1 (X : Vec Ideal S2048x5632 .bf16) (r : Fin 2048) (s : Fin 256) :
    (((cfg0.win 1).blk t).view.read (Elt Ideal) X : Vec Ideal S2048x256 .bf16) (ix2 r s) = X (ix2 r (step256 t s)) := by
  show X ((win0_1.rect t).emb (ix2 r s)) = _
  refine congrArg X ((ValueIdx.eq_ix2 _).trans (congrArg₂ ix2 (Fin.ext ?_) (Fin.ext ?_)))
  · refine (Pipeline.Window.rect_emb_val win0_1 t (ix2 r s) 0 rfl).trans ?_
    rw [(idx1 t).1]; exact Nat.zero_add _
  · refine (Pipeline.Window.rect_emb_val win0_1 t (ix2 r s) 1 rfl).trans ?_
    rw [(idx1 t).2]; rfl

/-- A block of window 2. -/
theorem read2 (X : Vec Ideal S2048x5632 .bf16) (r : Fin 2048) (s : Fin 256) :
    (((cfg0.win 2).blk t).view.read (Elt Ideal) X : Vec Ideal S2048x256 .bf16) (ix2 r s) = X (ix2 r (step256 t s)) := by
  show X ((win0_2.rect t).emb (ix2 r s)) = _
  refine congrArg X ((ValueIdx.eq_ix2 _).trans (congrArg₂ ix2 (Fin.ext ?_) (Fin.ext ?_)))
  · refine (Pipeline.Window.rect_emb_val win0_2 t (ix2 r s) 0 rfl).trans ?_
    rw [(idx2 t).1]; exact Nat.zero_add _
  · refine (Pipeline.Window.rect_emb_val win0_2 t (ix2 r s) 1 rfl).trans ?_
    rw [(idx2 t).2]; rfl

/-- A block of window 3. -/
theorem read3 (X : Vec Ideal S2176x5632 .bf16) (r : Fin 2176) (s : Fin 256) :
    (((cfg0.win 3).blk t).view.read (Elt Ideal) X : Vec Ideal S2176x256 .bf16) (ix2 r s) = X (ix2 r (step256 t s)) := by
  show X ((win0_3.rect t).emb (ix2 r s)) = _
  refine congrArg X ((ValueIdx.eq_ix2 _).trans (congrArg₂ ix2 (Fin.ext ?_) (Fin.ext ?_)))
  · refine (Pipeline.Window.rect_emb_val win0_3 t (ix2 r s) 0 rfl).trans ?_
    rw [(idx3 t).1]; exact Nat.zero_add _
  · refine (Pipeline.Window.rect_emb_val win0_3 t (ix2 r s) 1 rfl).trans ?_
    rw [(idx3 t).2]; rfl

/-- A block of window 4. -/
theorem read4 (X : Vec Ideal S2176x5632 .bf16) (r : Fin 2176) (s : Fin 256) :
    (((cfg0.win 4).blk t).view.read (Elt Ideal) X : Vec Ideal S2176x256 .bf16) (ix2 r s) = X (ix2 r (step256 t s)) := by
  show X ((win0_4.rect t).emb (ix2 r s)) = _
  refine congrArg X ((ValueIdx.eq_ix2 _).trans (congrArg₂ ix2 (Fin.ext ?_) (Fin.ext ?_)))
  · refine (Pipeline.Window.rect_emb_val win0_4 t (ix2 r s) 0 rfl).trans ?_
    rw [(idx4 t).1]; exact Nat.zero_add _
  · refine (Pipeline.Window.rect_emb_val win0_4 t (ix2 r s) 1 rfl).trans ?_
    rw [(idx4 t).2]; rfl

/-- A block of window 5. -/
theorem read5 (X : Vec Ideal S2176x5632 .bf16) (r : Fin 2176) (s : Fin 256) :
    (((cfg0.win 5).blk t).view.read (Elt Ideal) X : Vec Ideal S2176x256 .bf16) (ix2 r s) = X (ix2 r (step256 t s)) := by
  show X ((win0_5.rect t).emb (ix2 r s)) = _
  refine congrArg X ((ValueIdx.eq_ix2 _).trans (congrArg₂ ix2 (Fin.ext ?_) (Fin.ext ?_)))
  · refine (Pipeline.Window.rect_emb_val win0_5 t (ix2 r s) 0 rfl).trans ?_
    rw [(idx5 t).1]; exact Nat.zero_add _
  · refine (Pipeline.Window.rect_emb_val win0_5 t (ix2 r s) 1 rfl).trans ?_
    rw [(idx5 t).2]; rfl

/-- A block of window 6. -/
theorem read6 (X : Vec Ideal S5632x2176 .bf16) (r : Fin 256) (s : Fin 2176) :
    (((cfg0.win 6).blk t).view.read (Elt Ideal) X : Vec Ideal S256x2176 .bf16) (ix2 r s) = X (ix2 (step256 t r) s) := by
  show X ((win0_6.rect t).emb (ix2 r s)) = _
  refine congrArg X ((ValueIdx.eq_ix2 _).trans (congrArg₂ ix2 (Fin.ext ?_) (Fin.ext ?_)))
  · refine (Pipeline.Window.rect_emb_val win0_6 t (ix2 r s) 0 rfl).trans ?_
    rw [(idx6 t).1]; rfl
  · refine (Pipeline.Window.rect_emb_val win0_6 t (ix2 r s) 1 rfl).trans ?_
    rw [(idx6 t).2]; exact Nat.zero_add _

/-- A zero offset. -/
theorem off2 : (![0, 0] : Fin 2 → Nat) = fun _ => 0 := by funext a; match a with | ⟨0, _⟩ => rfl | ⟨1, _⟩ => rfl

/-- The gate product in a block is that of the whole arrays. -/
theorem gate_eq (r : Fin 2176) (s : Fin 256) :
    entry (m := 2176) (k := 2048) (n := 256) (iblk m c 0 t) (iblk m c 1 t) r s
      = prod (m ((c : Thread nD τ).loc main_arg0)) (m ((c : Thread nD τ).loc main_arg1)) (ix2 r (step256 t s)) := by
  unfold prod entry
  refine Finset.sum_congr rfl fun k _ => ?_
  have h0 : (iblk m c 0 t : Vec Ideal S2176x2048 .bf16) (ix2 r k) = m ((c : Thread nD τ).loc main_arg0) (ix2 r k) :=
    (read0 t (V m c main_arg0) r k).trans (congrFun (V_main_arg0 m c) _)
  have h1 : (iblk m c 1 t : Vec Ideal S2048x256 .bf16) (ix2 k s) = m ((c : Thread nD τ).loc main_arg1) (ix2 k (step256 t s)) :=
    (read1 t (V m c main_arg1) k s).trans (congrFun (V_main_arg1 m c) _)
  exact congrArg₂ (fun a b : EReal => a * b) h0 h1

/-- The other product in a block is that of the whole arrays. -/
theorem up_eq (r : Fin 2176) (s : Fin 256) :
    entry (m := 2176) (k := 2048) (n := 256) (iblk m c 0 t) (iblk m c 2 t) r s
      = prod (m ((c : Thread nD τ).loc main_arg0)) (m ((c : Thread nD τ).loc main_arg2)) (ix2 r (step256 t s)) := by
  unfold prod entry
  refine Finset.sum_congr rfl fun k _ => ?_
  have h0 : (iblk m c 0 t : Vec Ideal S2176x2048 .bf16) (ix2 r k) = m ((c : Thread nD τ).loc main_arg0) (ix2 r k) :=
    (read0 t (V m c main_arg0) r k).trans (congrFun (V_main_arg0 m c) _)
  have h2 : (iblk m c 2 t : Vec Ideal S2048x256 .bf16) (ix2 k s) = m ((c : Thread nD τ).loc main_arg2) (ix2 k (step256 t s)) :=
    (read2 t (V m c main_arg2) k s).trans (congrFun (V_main_arg2 m c) _)
  exact congrArg₂ (fun a b : EReal => a * b) h0 h2

/-- What the body leaves of window 3 is the payload of the point's blocks. -/
theorem outs3_eq : (outsAt0 m c t).1 = k0_pay5 (F := Ideal) (iblk m c 0 t) (iblk m c 1 t) (iblk m c 2 t) := by
  unfold outsAt0 out0_A_3
  dsimp only
  rw [View.read_writes_eq_canon _ _ _ (cover0_A_3 c _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread]
  rw [View.canon_unit_zero off2]
  rw [View.ld_unit_zero off2, View.ld_unit_zero off2, View.ld_unit_zero off2]

/-- What point `t` writes back of window 3 is its block of the whole result. -/
theorem flushed3_eq : (dats m 0 c).flushed 3 t = (((cfg0.win 3).blk t).view.read (Elt Ideal) (keepGate (prod (m ((c : Thread nD τ).loc main_arg0)) (m ((c : Thread nD τ).loc main_arg1))) (prod (m ((c : Thread nD τ).loc main_arg0)) (m ((c : Thread nD τ).loc main_arg2))))) := by
  refine (Value.flushed3 m c t).trans ((congrArg ((cfg0.win 3).cut (grid0.coords t)) (outs3_eq m c t)).trans ?_)
  show k0_pay5 (F := Ideal) (iblk m c 0 t) (iblk m c 1 t) (iblk m c 2 t) = _
  funext y
  obtain ⟨r, s, rfl⟩ : ∃ (r : Fin 2176) (s : Fin 256), y = ix2 r s := ⟨y 0, y 1, ValueIdx.eq_ix2 y⟩
  refine (pay_keepGate _ _ _ r s).trans ?_
  refine Eq.trans ?_ (read3 t _ r s).symm
  exact congrArg₂ tilt (gate_eq m c t r s) (up_eq m c t r s)

/-- Every entry of window 3's array is in a block written back. -/
theorem cover3 (i : S2176x5632.Idx) : ∃ t : Fin cfg0.N, (cfg0.win 3).flush t = true ∧ i ∈ ((cfg0.win 3).blk t).view.set := by
  have b0 : (i 0).val < 2176 := (i 0).isLt
  have b1 : (i 1).val < 5632 := (i 1).isLt
  let t : Fin cfg0.N := ⟨(i 1).val / 256, show _ < 22 by omega⟩
  have tv : t.val = (i 1).val / 256 := rfl
  refine ⟨t, flush0_3 _, ?_⟩
  show i ∈ ((View.whole main_v1_0).slice (win0_3.rect t)).set
  rw [View.set_slice_whole, Rect.mem_set_unit]
  intro b
  match b with
  | ⟨0, _⟩ =>
    show win0_3.index t 0 * 2176 ≤ (i 0).val ∧ (i 0).val < win0_3.index t 0 * 2176 + win0_3.xsize (grid0.coords t) 0
    rw [(idx3 t).1, (size3 t).1]; omega
  | ⟨1, _⟩ =>
    show win0_3.index t 1 * 256 ≤ (i 1).val ∧ (i 1).val < win0_3.index t 1 * 256 + win0_3.xsize (grid0.coords t) 1
    rw [(idx3 t).2, (size3 t).2]; omega

/-- Window 3's array after the run. -/
theorem final3 : (dats m 0 c).arrAt 3 cfg0.N = keepGate (prod (m ((c : Thread nD τ).loc main_arg0)) (m ((c : Thread nD τ).loc main_arg1))) (prod (m ((c : Thread nD τ).loc main_arg0)) (m ((c : Thread nD τ).loc main_arg2))) :=
  (dats m 0 c).arrAt_eq_of_cover 3 _ (fun t _ => flushed3_eq m c t) cover3

/-- What the body leaves of window 4 is the payload of the point's blocks. -/
theorem outs4_eq : (outsAt0 m c t).2.1 = k0_pay6 (F := Ideal) (iblk m c 0 t) (iblk m c 1 t) := by
  unfold outsAt0 out0_A_4
  dsimp only
  rw [View.read_writes_eq_canon _ _ _ (cover0_A_4 c _ _ _ _ _ _ _ _ _ _ _ _ _ _ _ _ _ _)]
  unfold kernelRun0_A
  dsimp only
  sl_unfold_words
  simp only [View.readAt_eq_ld, (hs0_0 t).read_unread, (hs0_1 t).read_unread]
  rw [View.canon_unit_zero off2]
  rw [View.ld_unit_zero off2, View.ld_unit_zero off2]

/-- What point `t` writes back of window 4 is its block of the whole result. -/
theorem flushed4_eq : (dats m 0 c).flushed 4 t = (((cfg0.win 4).blk t).view.read (Elt Ideal) (keepUp (prod (m ((c : Thread nD τ).loc main_arg0)) (m ((c : Thread nD τ).loc main_arg1))))) := by
  refine (Value.flushed4 m c t).trans ((congrArg ((cfg0.win 4).cut (grid0.coords t)) (outs4_eq m c t)).trans ?_)
  show k0_pay6 (F := Ideal) (iblk m c 0 t) (iblk m c 1 t) = _
  funext y
  obtain ⟨r, s, rfl⟩ : ∃ (r : Fin 2176) (s : Fin 256), y = ix2 r s := ⟨y 0, y 1, ValueIdx.eq_ix2 y⟩
  refine (pay_keepUp _ _ r s).trans ?_
  refine Eq.trans ?_ (read4 t _ r s).symm
  exact congrArg (fun a : EReal => a * logistic a) (gate_eq m c t r s)

/-- Every entry of window 4's array is in a block written back. -/
theorem cover4 (i : S2176x5632.Idx) : ∃ t : Fin cfg0.N, (cfg0.win 4).flush t = true ∧ i ∈ ((cfg0.win 4).blk t).view.set := by
  have b0 : (i 0).val < 2176 := (i 0).isLt
  have b1 : (i 1).val < 5632 := (i 1).isLt
  let t : Fin cfg0.N := ⟨(i 1).val / 256, show _ < 22 by omega⟩
  have tv : t.val = (i 1).val / 256 := rfl
  refine ⟨t, flush0_4 _, ?_⟩
  show i ∈ ((View.whole main_v1_1).slice (win0_4.rect t)).set
  rw [View.set_slice_whole, Rect.mem_set_unit]
  intro b
  match b with
  | ⟨0, _⟩ =>
    show win0_4.index t 0 * 2176 ≤ (i 0).val ∧ (i 0).val < win0_4.index t 0 * 2176 + win0_4.xsize (grid0.coords t) 0
    rw [(idx4 t).1, (size4 t).1]; omega
  | ⟨1, _⟩ =>
    show win0_4.index t 1 * 256 ≤ (i 1).val ∧ (i 1).val < win0_4.index t 1 * 256 + win0_4.xsize (grid0.coords t) 1
    rw [(idx4 t).2, (size4 t).2]; omega

/-- Window 4's array after the run. -/
theorem final4 : (dats m 0 c).arrAt 4 cfg0.N = keepUp (prod (m ((c : Thread nD τ).loc main_arg0)) (m ((c : Thread nD τ).loc main_arg1))) :=
  (dats m 0 c).arrAt_eq_of_cover 4 _ (fun t _ => flushed4_eq m c t) cover4

/-- What the body leaves of window 5 is the payload of the point's blocks. -/
theorem outs5_eq : (outsAt0 m c t).2.2.1 = k0_pay8 (F := Ideal) (iblk m c 0 t) (iblk m c 1 t) (iblk m c 2 t) := by
  unfold outsAt0 out0_A_5
  dsimp only
  rw [View.read_writes_eq_canon _ _ _ (cover0_A_5 c _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread]
  rw [View.canon_unit_zero off2]
  rw [View.ld_unit_zero off2, View.ld_unit_zero off2, View.ld_unit_zero off2]

/-- What point `t` writes back of window 5 is its block of the whole result. -/
theorem flushed5_eq : (dats m 0 c).flushed 5 t = (((cfg0.win 5).blk t).view.read (Elt Ideal) (hidden (prod (m ((c : Thread nD τ).loc main_arg0)) (m ((c : Thread nD τ).loc main_arg1))) (prod (m ((c : Thread nD τ).loc main_arg0)) (m ((c : Thread nD τ).loc main_arg2))))) := by
  refine (Value.flushed5 m c t).trans ((congrArg ((cfg0.win 5).cut (grid0.coords t)) (outs5_eq m c t)).trans ?_)
  show k0_pay8 (F := Ideal) (iblk m c 0 t) (iblk m c 1 t) (iblk m c 2 t) = _
  funext y
  obtain ⟨r, s, rfl⟩ : ∃ (r : Fin 2176) (s : Fin 256), y = ix2 r s := ⟨y 0, y 1, ValueIdx.eq_ix2 y⟩
  refine (pay_hidden _ _ _ r s).trans ?_
  refine Eq.trans ?_ (read5 t _ r s).symm
  exact congrArg₂ (fun a b : EReal => a * logistic a * b) (gate_eq m c t r s) (up_eq m c t r s)

/-- Every entry of window 5's array is in a block written back. -/
theorem cover5 (i : S2176x5632.Idx) : ∃ t : Fin cfg0.N, (cfg0.win 5).flush t = true ∧ i ∈ ((cfg0.win 5).blk t).view.set := by
  have b0 : (i 0).val < 2176 := (i 0).isLt
  have b1 : (i 1).val < 5632 := (i 1).isLt
  let t : Fin cfg0.N := ⟨(i 1).val / 256, show _ < 22 by omega⟩
  have tv : t.val = (i 1).val / 256 := rfl
  refine ⟨t, flush0_5 _, ?_⟩
  show i ∈ ((View.whole main_v1_2).slice (win0_5.rect t)).set
  rw [View.set_slice_whole, Rect.mem_set_unit]
  intro b
  match b with
  | ⟨0, _⟩ =>
    show win0_5.index t 0 * 2176 ≤ (i 0).val ∧ (i 0).val < win0_5.index t 0 * 2176 + win0_5.xsize (grid0.coords t) 0
    rw [(idx5 t).1, (size5 t).1]; omega
  | ⟨1, _⟩ =>
    show win0_5.index t 1 * 256 ≤ (i 1).val ∧ (i 1).val < win0_5.index t 1 * 256 + win0_5.xsize (grid0.coords t) 1
    rw [(idx5 t).2, (size5 t).2]; omega

/-- Window 5's array after the run. -/
theorem final5 : (dats m 0 c).arrAt 5 cfg0.N = hidden (prod (m ((c : Thread nD τ).loc main_arg0)) (m ((c : Thread nD τ).loc main_arg1))) (prod (m ((c : Thread nD τ).loc main_arg0)) (m ((c : Thread nD τ).loc main_arg2))) :=
  (dats m 0 c).arrAt_eq_of_cover 5 _ (fun t _ => flushed5_eq m c t) cover5

/-- What the body leaves of window 6 is the payload of the point's blocks. -/
theorem outs6_eq : (outsAt0 m c t).2.2.2 = k0_pay9 (F := Ideal) (iblk m c 0 t) (iblk m c 1 t) (iblk m c 2 t) := by
  unfold outsAt0 out0_A_6
  dsimp only
  rw [View.read_writes_eq_canon _ _ _ (cover0_A_6 c _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread]
  rw [View.canon_unit_zero off2]
  rw [View.ld_unit_zero off2, View.ld_unit_zero off2, View.ld_unit_zero off2]

/-- What point `t` writes back of window 6 is its block of the whole result. -/
theorem flushed6_eq : (dats m 0 c).flushed 6 t = (((cfg0.win 6).blk t).view.read (Elt Ideal) (hiddenT (prod (m ((c : Thread nD τ).loc main_arg0)) (m ((c : Thread nD τ).loc main_arg1))) (prod (m ((c : Thread nD τ).loc main_arg0)) (m ((c : Thread nD τ).loc main_arg2))))) := by
  refine (Value.flushed6 m c t).trans ((congrArg ((cfg0.win 6).cut (grid0.coords t)) (outs6_eq m c t)).trans ?_)
  show k0_pay9 (F := Ideal) (iblk m c 0 t) (iblk m c 1 t) (iblk m c 2 t) = _
  funext y
  obtain ⟨r, s, rfl⟩ : ∃ (r : Fin 256) (s : Fin 2176), y = ix2 r s := ⟨y 0, y 1, ValueIdx.eq_ix2 y⟩
  refine (pay_hiddenT _ _ _ r s).trans ?_
  refine Eq.trans ?_ (read6 t _ r s).symm
  exact congrArg₂ (fun a b : EReal => a * logistic a * b) (gate_eq m c t s r) (up_eq m c t s r)

/-- Every entry of window 6's array is in a block written back. -/
theorem cover6 (i : S5632x2176.Idx) : ∃ t : Fin cfg0.N, (cfg0.win 6).flush t = true ∧ i ∈ ((cfg0.win 6).blk t).view.set := by
  have b0 : (i 0).val < 5632 := (i 0).isLt
  have b1 : (i 1).val < 2176 := (i 1).isLt
  let t : Fin cfg0.N := ⟨(i 0).val / 256, show _ < 22 by omega⟩
  have tv : t.val = (i 0).val / 256 := rfl
  refine ⟨t, flush0_6 _, ?_⟩
  show i ∈ ((View.whole main_v1_3).slice (win0_6.rect t)).set
  rw [View.set_slice_whole, Rect.mem_set_unit]
  intro b
  match b with
  | ⟨0, _⟩ =>
    show win0_6.index t 0 * 256 ≤ (i 0).val ∧ (i 0).val < win0_6.index t 0 * 256 + win0_6.xsize (grid0.coords t) 0
    rw [(idx6 t).1, (size6 t).1]; omega
  | ⟨1, _⟩ =>
    show win0_6.index t 1 * 2176 ≤ (i 1).val ∧ (i 1).val < win0_6.index t 1 * 2176 + win0_6.xsize (grid0.coords t) 1
    rw [(idx6 t).2, (size6 t).2]; omega

/-- Window 6's array after the run. -/
theorem final6 : (dats m 0 c).arrAt 6 cfg0.N = hiddenT (prod (m ((c : Thread nD τ).loc main_arg0)) (m ((c : Thread nD τ).loc main_arg1))) (prod (m ((c : Thread nD τ).loc main_arg0)) (m ((c : Thread nD τ).loc main_arg2))) :=
  (dats m 0 c).arrAt_eq_of_cover 6 _ (fun t _ => flushed6_eq m c t) cover6

end Cert.Kernel6Ideal.Array

namespace Cert.Reference6Ideal.Result

open Cert.Reference6Ideal Cert.Reference6Ideal.Gen Cert.Reference6Ideal.Read Cert.Linear Cert.Forward Cert.Hidden

variable (x0 : (⟨S2176x2048, .bf16⟩ : BufTy).Contents (Elt Ideal)) (x1 x2 : (⟨S2048x5632, .bf16⟩ : BufTy).Contents (Elt Ideal))

/-- The plain gate product. -/
theorem gate_eq : val_main_v2 (F := Ideal) x0 x1 = prod x0 x1 := by
  funext y
  obtain ⟨r, s, rfl⟩ : ∃ (r : Fin 2176) (s : Fin 5632), y = ix2 r s := ⟨y 0, y 1, ValueIdx.eq_ix2 y⟩
  refine (val_main_v2_apply x0 x1 _).trans ?_
  unfold prod entry
  refine Finset.sum_congr rfl fun k _ => ?_
  have el : lidx_main_v2 (ix2 r s) k = ix2 r k := ValueIdx.eq_ix2 _
  have er : ridx_main_v2 (ix2 r s) k = ix2 k s := ValueIdx.eq_ix2 _
  rw [el, er]
  rfl

/-- The other plain product. -/
theorem up_eq : val_main_v4 (F := Ideal) x0 x2 = prod x0 x2 := by
  funext y
  obtain ⟨r, s, rfl⟩ : ∃ (r : Fin 2176) (s : Fin 5632), y = ix2 r s := ⟨y 0, y 1, ValueIdx.eq_ix2 y⟩
  refine (val_main_v4_apply x0 x2 _).trans ?_
  unfold prod entry
  refine Finset.sum_congr rfl fun k _ => ?_
  have el : lidx_main_v4 (ix2 r s) k = ix2 r k := ValueIdx.eq_ix2 _
  have er : ridx_main_v4 (ix2 r s) k = ix2 k s := ValueIdx.eq_ix2 _
  rw [el, er]
  rfl

/-- The plain logistic function, at an entry. -/
theorem logistic_apply (y : S2176x5632.Idx) : val_main_v5_2 (F := Ideal) x0 x1 y = logistic ((prod x0 x1) y) := by
  refine (congrArg₂ (fun p q : EReal => Ideal.div p (q + Ideal.exp (-(val_main_v2 (F := Ideal) x0 x1 y : EReal)))) Ideal.ofBits_one_f32 Ideal.ofBits_one_f32).trans ?_
  rw [gate_eq]; rfl

/-- The plain factor of the gate's gradient. -/
theorem result_keepGate (h0 : Block.Finite (φ := .bf16) x0) (h1 : Block.Finite (φ := .bf16) x1) (h2 : Block.Finite (φ := .bf16) x2) :
    val_main_v11 (F := Ideal) x0 x1 x2 = keepGate (prod x0 x1) (prod x0 x2) := by
  funext y
  obtain ⟨r, s, rfl⟩ : ∃ (r : Fin 2176) (s : Fin 5632), y = ix2 r s := ⟨y 0, y 1, ValueIdx.eq_ix2 y⟩
  show (Ideal.ofBits .f32 0x3F800000#32 * val_main_v4 (F := Ideal) x0 x2 (ix2 r s) * val_main_v5_2 (F := Ideal) x0 x1 (ix2 r s)
      + val_main_v2 (F := Ideal) x0 x1 (ix2 r s) * (Ideal.ofBits .f32 0x3F800000#32 * val_main_v4 (F := Ideal) x0 x2 (ix2 r s)) * (val_main_v5_2 (F := Ideal) x0 x1 (ix2 r s) * (Ideal.ofBits .f32 0x3F800000#32 - val_main_v5_2 (F := Ideal) x0 x1 (ix2 r s))) : EReal) = tilt ((prod x0 x1) (ix2 r s)) ((prod x0 x2) (ix2 r s))
  rw [gate_eq, up_eq, logistic_apply, Ideal.ofBits_one_f32]
  obtain ⟨q, hq⟩ := entry_real x0 x2 h0 h2 r s
  obtain ⟨p, hp⟩ := entry_real x0 x1 h0 h1 r s
  have ha : prod x0 x1 (ix2 r s) = (p : EReal) := hp
  have hb : prod x0 x2 (ix2 r s) = (q : EReal) := hq
  rw [ha, hb]
  exact tilt_real p q

/-- The plain factor of the other gradient. -/
theorem result_keepUp : val_main_v12 (F := Ideal) x0 x1 = keepUp (prod x0 x1) := by
  funext y
  show (val_main_v2 (F := Ideal) x0 x1 y * val_main_v5_2 (F := Ideal) x0 x1 y * Ideal.ofBits .f32 0x3F800000#32 : EReal) = _
  rw [logistic_apply, Ideal.ofBits_one_f32, mul_one, gate_eq]
  rfl

/-- The plain hidden rows, before rounding. -/
theorem mid_eq (y : S2176x5632.Idx) : val_main_v6 (F := Ideal) x0 x1 x2 y = ((prod x0 x1) y * logistic ((prod x0 x1) y) * (prod x0 x2) y : EReal) := by
  show (val_main_v2 (F := Ideal) x0 x1 y * val_main_v5_2 (F := Ideal) x0 x1 y * val_main_v4 (F := Ideal) x0 x2 y : EReal) = _
  rw [logistic_apply, up_eq, gate_eq]

/-- The plain hidden rows. -/
theorem result_hidden : val_main_v13 (F := Ideal) x0 x1 x2 = hidden (prod x0 x1) (prod x0 x2) :=
  funext fun y => mid_eq x0 x1 x2 y

/-- The plain hidden rows, transposed. -/
theorem result_hiddenT : val_main_v15 (F := Ideal) x0 x1 x2 = hiddenT (prod x0 x1) (prod x0 x2) := by
  funext y
  obtain ⟨r, s, rfl⟩ : ∃ (r : Fin 5632) (s : Fin 2176), y = ix2 r s := ⟨y 0, y 1, ValueIdx.eq_ix2 y⟩
  rw [val_main_v15_apply, val_main_v14_apply]
  have e : idx_main_v14 (ix2 r s) = ix2 s r := ValueIdx.eq_ix2 _
  rw [e]
  exact mid_eq x0 x1 x2 (ix2 s r)

end Cert.Reference6Ideal.Result
-- ==== Proof.PreUp.lean ====
/-
  What the precondition of the gated layer's forward pass says: no argument has an infinite entry.
-/
module

public import proofs.«01_k».proof.Defs
public import proofs.«01_k».proof.Proof.Pre

@[expose] public section

noncomputable section

namespace Cert.Pre_finite_up

open Idealize.ShloMosaic Cert.Block
open Facts

/-- The function's side conditions. -/
theorem facts : Cert.Pre_finite_up.Facts where
  bitsLt_bf16_f32 := by decide
  bcast_S_S2176x2048 := by decide
  reducesTo_S2176x2048_S_d0_1 := by decide
  h_S_ := by decide
  bcast_S_S2048x5632 := by decide
  reducesTo_S2048x5632_S_d0_1 := by decide

/-- The one index of an array without axes. -/
instance : Subsingleton S_.Idx := ⟨fun _ _ => funext fun a => a.elim0⟩

/-- A word of one bit that is an `and` of two is 1 when both are. -/
theorem andi_split {x y : IVec S_ 1} {i : S_.Idx} (h : andi x y i = 1#1) : x i = 1#1 ∧ y i = 1#1 := by
  have h' : x i &&& y i = 1#1 := h
  have both : ∀ p q : BitVec 1, p &&& q = 1#1 → p = 1#1 ∧ q = 1#1 := by decide
  exact both _ _ h'

variable [Facts]

/-- The precondition: no argument has an infinite entry. -/
theorem finite_of_fn (x0 : FVec Ideal S2176x2048 .bf16) (x1 x2 : FVec Ideal S2048x5632 .bf16) (i : S_.Idx)
    (h : fn (F := Ideal) x0 x1 x2 i = 1#1) : Finite x0 ∧ Finite x1 ∧ Finite x2 := by
  dsimp only [fn] at h
  obtain ⟨h, h2⟩ := andi_split h
  obtain ⟨h0, h1⟩ := andi_split h
  exact ⟨fun y => Pre_finite.finite_of_lt (Host.reduce_andi_all _ _ _ _ i h0 y), fun y => Pre_finite.finite_of_lt (Host.reduce_andi_all _ _ _ _ i h1 y), fun y => Pre_finite.finite_of_lt (Host.reduce_andi_all _ _ _ _ i h2 y)⟩

end Cert.Pre_finite_up
-- ==== Proof.Values6.lean ====
/-
  What the gated layer keeps: the kernel's run and the plain program's run end with the same values.
-/
module

public import proofs.«01_k».proof.Defs
public import proofs.«01_k».proof.Proof.Up
public import proofs.«01_k».proof.Proof.PreUp
public import Idealize.ShloMosaic.Adequacy
public import Idealize.ShloMosaic.Init

@[expose] public section

noncomputable section

namespace Cert.Values6

open Idealize.ShloMosaic Idealize.SL.Sem

open Cert.Kernel6Ideal in
/-- The kernel's run: what its results hold, its arguments unchanged. -/
theorem kernel_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v1_0) = Cert.Forward.keepGate (Cert.Linear.prod (m (c.tc.loc main_arg0)) (m (c.tc.loc main_arg1))) (Cert.Linear.prod (m (c.tc.loc main_arg0)) (m (c.tc.loc main_arg2)))
        ∧ r.2.mem (c.tc.loc main_v1_1) = Cert.Forward.keepUp (Cert.Linear.prod (m (c.tc.loc main_arg0)) (m (c.tc.loc main_arg1)))
        ∧ r.2.mem (c.tc.loc main_v1_2) = Cert.Forward.hidden (Cert.Linear.prod (m (c.tc.loc main_arg0)) (m (c.tc.loc main_arg1))) (Cert.Linear.prod (m (c.tc.loc main_arg0)) (m (c.tc.loc main_arg2)))
        ∧ r.2.mem (c.tc.loc main_v1_3) = Cert.Forward.hiddenT (Cert.Linear.prod (m (c.tc.loc main_arg0)) (m (c.tc.loc main_arg1))) (Cert.Linear.prod (m (c.tc.loc main_arg0)) (m (c.tc.loc main_arg2)))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2) :=
  (θ_run _ _ _).mono (fun _ h c => ⟨(h c).1.trans (Array.final3 m c), (h c).2.1.trans (Array.final4 m c), (h c).2.2.1.trans (Array.final5 m c), (h c).2.2.2.1.trans (Array.final6 m c), (h c).2.2.2.2⟩)
    (Value.run_blocks m g)

open Cert.Reference6Ideal in
/-- The plain program's run: its results hold the same, its arguments unchanged. -/
theorem reference_run (m : (ℓ : Loc nD τ sig) → Buf (Elt Ideal) ℓ) (g : Dev nD → PrngReg)
    (fin : ∀ c : Dev nD, Cert.Block.Finite (φ := .bf16) (m (c.tc.loc main_arg0)) ∧ Cert.Block.Finite (φ := .bf16) (m (c.tc.loc main_arg1)) ∧ Cert.Block.Finite (φ := .bf16) (m (c.tc.loc main_arg2))) :
    θ_run defs (onTc (τ := τ) (main (F := Ideal))) ⟨m, fun _ => 0, g⟩ fun r =>
      ∀ c : Dev nD,
        r.2.mem (c.tc.loc main_v11) = Cert.Forward.keepGate (Cert.Linear.prod (m (c.tc.loc main_arg0)) (m (c.tc.loc main_arg1))) (Cert.Linear.prod (m (c.tc.loc main_arg0)) (m (c.tc.loc main_arg2)))
        ∧ r.2.mem (c.tc.loc main_v12) = Cert.Forward.keepUp (Cert.Linear.prod (m (c.tc.loc main_arg0)) (m (c.tc.loc main_arg1)))
        ∧ r.2.mem (c.tc.loc main_v13) = Cert.Forward.hidden (Cert.Linear.prod (m (c.tc.loc main_arg0)) (m (c.tc.loc main_arg1))) (Cert.Linear.prod (m (c.tc.loc main_arg0)) (m (c.tc.loc main_arg2)))
        ∧ r.2.mem (c.tc.loc main_v15) = Cert.Forward.hiddenT (Cert.Linear.prod (m (c.tc.loc main_arg0)) (m (c.tc.loc main_arg1))) (Cert.Linear.prod (m (c.tc.loc main_arg0)) (m (c.tc.loc main_arg2)))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2) :=
  (θ_run _ _ _).mono (fun _ h c => ⟨(h c).1.trans ((Read.val_main_v11_eq _ _ _).trans (Result.result_keepGate _ _ _ (fin c).1 (fin c).2.1 (fin c).2.2)), (h c).2.1.trans ((Read.val_main_v12_eq _ _).trans (Result.result_keepUp _ _)), (h c).2.2.1.trans ((Read.val_main_v13_eq _ _ _).trans (Result.result_hidden _ _ _)), (h c).2.2.2.1.trans ((Read.val_main_v15_eq _ _ _).trans (Result.result_hiddenT _ _ _)), (h c).2.2.2.2⟩)
    (Value.run m g)

/-- From equal arguments the two runs end with the same values. -/
theorem values [hP : Cert.Pre_finite_up.Facts] : Cert.algebraic_Kernel6Ideal_Reference6Ideal_pre_finite_up
    (hKernel6Ideal := Cert.Kernel6Ideal.Gen.facts) (hReference6Ideal := Cert.Reference6Ideal.Gen.facts) (hPre_finite_up := hP) := by
  intro m g m' g' hpre hagree
  have fin : ∀ c : Dev Cert.Kernel6Ideal.nD, Cert.Block.Finite (φ := .bf16) (m (c.tc.loc Cert.Kernel6Ideal.main_arg0)) ∧ Cert.Block.Finite (φ := .bf16) (m (c.tc.loc Cert.Kernel6Ideal.main_arg1)) ∧ Cert.Block.Finite (φ := .bf16) (m (c.tc.loc Cert.Kernel6Ideal.main_arg2)) :=
    fun c => Cert.Pre_finite_up.finite_of_fn _ _ _ (fun a => a.elim0) (congrFun (hpre c) _)
  have e : ∀ c : Dev Cert.Kernel6Ideal.nD, Cert.Forward.keepGate (Cert.Linear.prod (m' (c.tc.loc Cert.Reference6Ideal.main_arg0)) (m' (c.tc.loc Cert.Reference6Ideal.main_arg1))) (Cert.Linear.prod (m' (c.tc.loc Cert.Reference6Ideal.main_arg0)) (m' (c.tc.loc Cert.Reference6Ideal.main_arg2))) = Cert.Forward.keepGate (Cert.Linear.prod (m (c.tc.loc Cert.Kernel6Ideal.main_arg0)) (m (c.tc.loc Cert.Kernel6Ideal.main_arg1))) (Cert.Linear.prod (m (c.tc.loc Cert.Kernel6Ideal.main_arg0)) (m (c.tc.loc Cert.Kernel6Ideal.main_arg2)))
      ∧ Cert.Forward.keepUp (Cert.Linear.prod (m' (c.tc.loc Cert.Reference6Ideal.main_arg0)) (m' (c.tc.loc Cert.Reference6Ideal.main_arg1))) = Cert.Forward.keepUp (Cert.Linear.prod (m (c.tc.loc Cert.Kernel6Ideal.main_arg0)) (m (c.tc.loc Cert.Kernel6Ideal.main_arg1)))
      ∧ Cert.Forward.hidden (Cert.Linear.prod (m' (c.tc.loc Cert.Reference6Ideal.main_arg0)) (m' (c.tc.loc Cert.Reference6Ideal.main_arg1))) (Cert.Linear.prod (m' (c.tc.loc Cert.Reference6Ideal.main_arg0)) (m' (c.tc.loc Cert.Reference6Ideal.main_arg2))) = Cert.Forward.hidden (Cert.Linear.prod (m (c.tc.loc Cert.Kernel6Ideal.main_arg0)) (m (c.tc.loc Cert.Kernel6Ideal.main_arg1))) (Cert.Linear.prod (m (c.tc.loc Cert.Kernel6Ideal.main_arg0)) (m (c.tc.loc Cert.Kernel6Ideal.main_arg2)))
      ∧ Cert.Forward.hiddenT (Cert.Linear.prod (m' (c.tc.loc Cert.Reference6Ideal.main_arg0)) (m' (c.tc.loc Cert.Reference6Ideal.main_arg1))) (Cert.Linear.prod (m' (c.tc.loc Cert.Reference6Ideal.main_arg0)) (m' (c.tc.loc Cert.Reference6Ideal.main_arg2))) = Cert.Forward.hiddenT (Cert.Linear.prod (m (c.tc.loc Cert.Kernel6Ideal.main_arg0)) (m (c.tc.loc Cert.Kernel6Ideal.main_arg1))) (Cert.Linear.prod (m (c.tc.loc Cert.Kernel6Ideal.main_arg0)) (m (c.tc.loc Cert.Kernel6Ideal.main_arg2))) := fun c => by
    rw [(hagree c).1, (hagree c).2.1, (hagree c).2.2]
    exact ⟨rfl, rfl, rfl, rfl⟩
  exact ⟨_, _, _, _, kernel_run m g, (θ_run _ _ _).mono (fun _ h c => ⟨(h c).1.trans (e c).1, (h c).2.1.trans (e c).2.1, (h c).2.2.1.trans (e c).2.2.1, (h c).2.2.2.1.trans (e c).2.2.2, (h c).2.2.2.2⟩) (reference_run m' g' (fun c => by rw [(hagree c).1, (hagree c).2.1, (hagree c).2.2]; exact fin c))⟩

/-- The plain program writes none of its arguments and declares no semaphore. -/
theorem reference_frame : Cert.quiescent_Reference6Ideal (hReference6Ideal := Cert.Reference6Ideal.Gen.facts) :=
  fun m ρ _ => (θ_run Cert.Reference6Ideal.defs _ _).mono (fun r h => ⟨fun c => (h c).2.2.2.2, sem_eq_zero_of_no_sems (by decide) r.2⟩)
    (Cert.Reference6Ideal.Value.run (F := Ideal) m ρ)

end Cert.Values6
-- ==== Proof.UpFromGate.lean ====
/-
  What the gated layer keeps when its gate product is given.
-/
module

public import proofs.«01_k».proof.Proof.Linear
public import proofs.«01_k».proof.Proof.Gen.Kernel7Ideal.Value
public import proofs.«01_k».proof.Proof.Gen.Reference7Ideal.Run
public import proofs.«01_k».proof.Proof.Gen.Reference7Ideal.Read
public import proofs.«01_k».proof.Proof.Forward
public import Idealize.ShloMosaic.Lib.IdealHost

@[expose] public section

set_option maxRecDepth 16384

noncomputable section

open Idealize.SL.Sem
open Idealize.ShloMosaic hiding ix0 ix1 ix2 ix3
open Idealize.ShloMosaic.ValueIdx
open scoped BigOperators

namespace Cert.Kernel7Ideal.Array

open Cert.Kernel7Ideal Cert.Kernel7Ideal.Gen Cert.Linear Cert.Forward Cert.Hidden Idealize.ShloMosaic.TcCoe

/-- The other product in a block. -/
theorem up_apply (x : Vec Ideal S2176x2048 .bf16) (v : Vec Ideal S2048x256 .bf16) (r : Fin 2176) (s : Fin 256) : k0_pay1 (F := Ideal) x v (ix2 r s) = (∑ k : Fin 2048, (x (ix2 r k) * v (ix2 k s) : EReal)) := by
  unfold k0_pay1
  exact Product.plain_apply (φ := .bf16) x v r s

/-- The logistic function in a block. -/
theorem logistic_apply (a : Vec Ideal S2176x256 .f32) (r : Fin 2176) (s : Fin 256) : k0_pay2 (F := Ideal) a (ix2 r s) = logistic (a (ix2 r s)) := by
  unfold k0_pay2
  refine Eq.trans (logistic_eq (a (ix2 r s))) ?_
  rfl

/-- What the body stores for the gate's gradient. -/
theorem pay_keepGate (a : Vec Ideal S2176x256 .f32) (x : Vec Ideal S2176x2048 .bf16) (v : Vec Ideal S2048x256 .bf16) (r : Fin 2176) (s : Fin 256) : k0_pay4 (F := Ideal) a x v (ix2 r s) = tilt (a (ix2 r s)) (∑ k : Fin 2048, (x (ix2 r k) * v (ix2 k s) : EReal)) := by
  unfold k0_pay4
  show (k0_pay1 (F := Ideal) x v (ix2 r s) * (k0_pay2 (F := Ideal) a (ix2 r s) * (Ideal.ofBits .f32 0x3F800000#32 + a (ix2 r s) * (Ideal.ofBits .f32 0x3F800000#32 - k0_pay2 (F := Ideal) a (ix2 r s)))) : EReal) = _
  rw [up_apply, logistic_apply, Ideal.ofBits_one_f32]
  rfl

/-- What the body stores for the other gradient. -/
theorem pay_keepUp (a : Vec Ideal S2176x256 .f32) (r : Fin 2176) (s : Fin 256) : k0_pay5 (F := Ideal) a (ix2 r s) = ((a (ix2 r s)) * logistic (a (ix2 r s)) : EReal) := by
  unfold k0_pay5 k0_pay3
  show (a (ix2 r s) * k0_pay2 (F := Ideal) a (ix2 r s) : EReal) = _
  rw [logistic_apply]

/-- The hidden rows in a block. -/
theorem mid_apply (a : Vec Ideal S2176x256 .f32) (x : Vec Ideal S2176x2048 .bf16) (v : Vec Ideal S2048x256 .bf16) (r : Fin 2176) (s : Fin 256) : k0_pay6 (F := Ideal) a x v (ix2 r s) = ((a (ix2 r s)) * logistic (a (ix2 r s)) * (∑ k : Fin 2048, (x (ix2 r k) * v (ix2 k s) : EReal)) : EReal) := by
  unfold k0_pay6 k0_pay3
  show (a (ix2 r s) * k0_pay2 (F := Ideal) a (ix2 r s) * k0_pay1 (F := Ideal) x v (ix2 r s) : EReal) = _
  rw [up_apply, logistic_apply]

/-- What the body stores of the hidden rows. -/
theorem pay_hidden (a : Vec Ideal S2176x256 .f32) (x : Vec Ideal S2176x2048 .bf16) (v : Vec Ideal S2048x256 .bf16) (r : Fin 2176) (s : Fin 256) : k0_pay7 (F := Ideal) a x v (ix2 r s) = ((a (ix2 r s)) * logistic (a (ix2 r s)) * (∑ k : Fin 2048, (x (ix2 r k) * v (ix2 k s) : EReal)) : EReal) := by
  unfold k0_pay7
  exact mid_apply a x v r s

/-- What the body stores of the transposed hidden rows. -/
theorem pay_hiddenT (a : Vec Ideal S2176x256 .f32) (x : Vec Ideal S2176x2048 .bf16) (v : Vec Ideal S2048x256 .bf16) (s : Fin 256) (r : Fin 2176) : k0_pay8 (F := Ideal) a x v (ix2 s r) = ((a (ix2 r s)) * logistic (a (ix2 r s)) * (∑ k : Fin 2048, (x (ix2 r k) * v (ix2 k s) : EReal)) : EReal) := by
  unfold k0_pay8
  exact (transpose_ix2_apply _ _ _ _).trans (mid_apply a x v r s)

variable (m : (ℓ : Loc nD τ sig) → Buf (Elt Ideal) ℓ) (c : Dev nD) (t : Fin cfg0.N)

/-- The block coordinates of window 0. -/
theorem idx0 : ∀ t : Fin cfg0.N, win0_0.index t 0 = 0 ∧ win0_0.index t 1 = 0 :=
  (by decide +kernel : ∀ t : Fin grid0.N, win0_0.index t 0 = 0 ∧ win0_0.index t 1 = 0)

/-- The block coordinates of window 1. -/
theorem idx1 : ∀ t : Fin cfg0.N, win0_1.index t 0 = 0 ∧ win0_1.index t 1 = t.val :=
  (by decide +kernel : ∀ t : Fin grid0.N, win0_1.index t 0 = 0 ∧ win0_1.index t 1 = t.val)

/-- The block coordinates of window 2. -/
theorem idx2 : ∀ t : Fin cfg0.N, win0_2.index t 0 = 0 ∧ win0_2.index t 1 = t.val :=
  (by decide +kernel : ∀ t : Fin grid0.N, win0_2.index t 0 = 0 ∧ win0_2.index t 1 = t.val)

/-- The block coordinates of window 3. -/
theorem idx3 : ∀ t : Fin cfg0.N, win0_3.index t 0 = 0 ∧ win0_3.index t 1 = t.val :=
  (by decide +kernel : ∀ t : Fin grid0.N, win0_3.index t 0 = 0 ∧ win0_3.index t 1 = t.val)

/-- The block coordinates of window 4. -/
theorem idx4 : ∀ t : Fin cfg0.N, win0_4.index t 0 = 0 ∧ win0_4.index t 1 = t.val :=
  (by decide +kernel : ∀ t : Fin grid0.N, win0_4.index t 0 = 0 ∧ win0_4.index t 1 = t.val)

/-- The block coordinates of window 5. -/
theorem idx5 : ∀ t : Fin cfg0.N, win0_5.index t 0 = 0 ∧ win0_5.index t 1 = t.val :=
  (by decide +kernel : ∀ t : Fin grid0.N, win0_5.index t 0 = 0 ∧ win0_5.index t 1 = t.val)

/-- The block coordinates of window 6. -/
theorem idx6 : ∀ t : Fin cfg0.N, win0_6.index t 0 = t.val ∧ win0_6.index t 1 = 0 :=
  (by decide +kernel : ∀ t : Fin grid0.N, win0_6.index t 0 = t.val ∧ win0_6.index t 1 = 0)

/-- No block of window 3 is cut short. -/
theorem size3 : ∀ t : Fin cfg0.N, win0_3.xsize (grid0.coords t) 0 = 2176 ∧ win0_3.xsize (grid0.coords t) 1 = 256 :=
  (by decide +kernel : ∀ t : Fin grid0.N, win0_3.xsize (grid0.coords t) 0 = 2176 ∧ win0_3.xsize (grid0.coords t) 1 = 256)

/-- No block of window 4 is cut short. -/
theorem size4 : ∀ t : Fin cfg0.N, win0_4.xsize (grid0.coords t) 0 = 2176 ∧ win0_4.xsize (grid0.coords t) 1 = 256 :=
  (by decide +kernel : ∀ t : Fin grid0.N, win0_4.xsize (grid0.coords t) 0 = 2176 ∧ win0_4.xsize (grid0.coords t) 1 = 256)

/-- No block of window 5 is cut short. -/
theorem size5 : ∀ t : Fin cfg0.N, win0_5.xsize (grid0.coords t) 0 = 2176 ∧ win0_5.xsize (grid0.coords t) 1 = 256 :=
  (by decide +kernel : ∀ t : Fin grid0.N, win0_5.xsize (grid0.coords t) 0 = 2176 ∧ win0_5.xsize (grid0.coords t) 1 = 256)

/-- No block of window 6 is cut short. -/
theorem size6 : ∀ t : Fin cfg0.N, win0_6.xsize (grid0.coords t) 0 = 256 ∧ win0_6.xsize (grid0.coords t) 1 = 2176 :=
  (by decide +kernel : ∀ t : Fin grid0.N, win0_6.xsize (grid0.coords t) 0 = 256 ∧ win0_6.xsize (grid0.coords t) 1 = 2176)

/-- There are 22 points. -/
theorem points : t.val < 22 := t.isLt

/-- The array's coordinate of a block's coordinate at point `t`. -/
def step256 (s : Fin 256) : Fin 5632 := ⟨t.val * 256 + s.val, by have := points t; omega⟩

/-- A block of window 0. -/
theorem read0 (X : Vec Ideal S2176x2048 .bf16) (r : Fin 2176) (s : Fin 2048) :
    (((cfg0.win 0).blk t).view.read (Elt Ideal) X : Vec Ideal S2176x2048 .bf16) (ix2 r s) = X (ix2 r s) := by
  show X ((win0_0.rect t).emb (ix2 r s)) = _
  refine congrArg X ((ValueIdx.eq_ix2 _).trans (congrArg₂ ix2 (Fin.ext ?_) (Fin.ext ?_)))
  · refine (Pipeline.Window.rect_emb_val win0_0 t (ix2 r s) 0 rfl).trans ?_
    rw [(idx0 t).1]; exact Nat.zero_add _
  · refine (Pipeline.Window.rect_emb_val win0_0 t (ix2 r s) 1 rfl).trans ?_
    rw [(idx0 t).2]; exact Nat.zero_add _

/-- A block of window 1. -/
theorem read1 (X : Vec Ideal S2176x5632 .f32) (r : Fin 2176) (s : Fin 256) :
    (((cfg0.win 1).blk t).view.read (Elt Ideal) X : Vec Ideal S2176x256 .f32) (ix2 r s) = X (ix2 r (step256 t s)) := by
  show X ((win0_1.rect t).emb (ix2 r s)) = _
  refine congrArg X ((ValueIdx.eq_ix2 _).trans (congrArg₂ ix2 (Fin.ext ?_) (Fin.ext ?_)))
  · refine (Pipeline.Window.rect_emb_val win0_1 t (ix2 r s) 0 rfl).trans ?_
    rw [(idx1 t).1]; exact Nat.zero_add _
  · refine (Pipeline.Window.rect_emb_val win0_1 t (ix2 r s) 1 rfl).trans ?_
    rw [(idx1 t).2]; rfl

/-- A block of window 2. -/
theorem read2 (X : Vec Ideal S2048x5632 .bf16) (r : Fin 2048) (s : Fin 256) :
    (((cfg0.win 2).blk t).view.read (Elt Ideal) X : Vec Ideal S2048x256 .bf16) (ix2 r s) = X (ix2 r (step256 t s)) := by
  show X ((win0_2.rect t).emb (ix2 r s)) = _
  refine congrArg X ((ValueIdx.eq_ix2 _).trans (congrArg₂ ix2 (Fin.ext ?_) (Fin.ext ?_)))
  · refine (Pipeline.Window.rect_emb_val win0_2 t (ix2 r s) 0 rfl).trans ?_
    rw [(idx2 t).1]; exact Nat.zero_add _
  · refine (Pipeline.Window.rect_emb_val win0_2 t (ix2 r s) 1 rfl).trans ?_
    rw [(idx2 t).2]; rfl

/-- A block of window 3. -/
theorem read3 (X : Vec Ideal S2176x5632 .bf16) (r : Fin 2176) (s : Fin 256) :
    (((cfg0.win 3).blk t).view.read (Elt Ideal) X : Vec Ideal S2176x256 .bf16) (ix2 r s) = X (ix2 r (step256 t s)) := by
  show X ((win0_3.rect t).emb (ix2 r s)) = _
  refine congrArg X ((ValueIdx.eq_ix2 _).trans (congrArg₂ ix2 (Fin.ext ?_) (Fin.ext ?_)))
  · refine (Pipeline.Window.rect_emb_val win0_3 t (ix2 r s) 0 rfl).trans ?_
    rw [(idx3 t).1]; exact Nat.zero_add _
  · refine (Pipeline.Window.rect_emb_val win0_3 t (ix2 r s) 1 rfl).trans ?_
    rw [(idx3 t).2]; rfl

/-- A block of window 4. -/
theorem read4 (X : Vec Ideal S2176x5632 .bf16) (r : Fin 2176) (s : Fin 256) :
    (((cfg0.win 4).blk t).view.read (Elt Ideal) X : Vec Ideal S2176x256 .bf16) (ix2 r s) = X (ix2 r (step256 t s)) := by
  show X ((win0_4.rect t).emb (ix2 r s)) = _
  refine congrArg X ((ValueIdx.eq_ix2 _).trans (congrArg₂ ix2 (Fin.ext ?_) (Fin.ext ?_)))
  · refine (Pipeline.Window.rect_emb_val win0_4 t (ix2 r s) 0 rfl).trans ?_
    rw [(idx4 t).1]; exact Nat.zero_add _
  · refine (Pipeline.Window.rect_emb_val win0_4 t (ix2 r s) 1 rfl).trans ?_
    rw [(idx4 t).2]; rfl

/-- A block of window 5. -/
theorem read5 (X : Vec Ideal S2176x5632 .bf16) (r : Fin 2176) (s : Fin 256) :
    (((cfg0.win 5).blk t).view.read (Elt Ideal) X : Vec Ideal S2176x256 .bf16) (ix2 r s) = X (ix2 r (step256 t s)) := by
  show X ((win0_5.rect t).emb (ix2 r s)) = _
  refine congrArg X ((ValueIdx.eq_ix2 _).trans (congrArg₂ ix2 (Fin.ext ?_) (Fin.ext ?_)))
  · refine (Pipeline.Window.rect_emb_val win0_5 t (ix2 r s) 0 rfl).trans ?_
    rw [(idx5 t).1]; exact Nat.zero_add _
  · refine (Pipeline.Window.rect_emb_val win0_5 t (ix2 r s) 1 rfl).trans ?_
    rw [(idx5 t).2]; rfl

/-- A block of window 6. -/
theorem read6 (X : Vec Ideal S5632x2176 .bf16) (r : Fin 256) (s : Fin 2176) :
    (((cfg0.win 6).blk t).view.read (Elt Ideal) X : Vec Ideal S256x2176 .bf16) (ix2 r s) = X (ix2 (step256 t r) s) := by
  show X ((win0_6.rect t).emb (ix2 r s)) = _
  refine congrArg X ((ValueIdx.eq_ix2 _).trans (congrArg₂ ix2 (Fin.ext ?_) (Fin.ext ?_)))
  · refine (Pipeline.Window.rect_emb_val win0_6 t (ix2 r s) 0 rfl).trans ?_
    rw [(idx6 t).1]; rfl
  · refine (Pipeline.Window.rect_emb_val win0_6 t (ix2 r s) 1 rfl).trans ?_
    rw [(idx6 t).2]; exact Nat.zero_add _

/-- A zero offset. -/
theorem off2 : (![0, 0] : Fin 2 → Nat) = fun _ => 0 := by funext a; match a with | ⟨0, _⟩ => rfl | ⟨1, _⟩ => rfl

/-- The gate in a block. -/
theorem gate_eq (r : Fin 2176) (s : Fin 256) : (iblk m c 1 t : Vec Ideal S2176x256 .f32) (ix2 r s) = m ((c : Thread nD τ).loc main_arg1) (ix2 r (step256 t s)) :=
  (read1 t (V m c main_arg1) r s).trans (congrFun (V_main_arg1 m c) _)

/-- The other product in a block is that of the whole arrays. -/
theorem up_eq (r : Fin 2176) (s : Fin 256) :
    entry (m := 2176) (k := 2048) (n := 256) (iblk m c 0 t) (iblk m c 2 t) r s
      = prod (m ((c : Thread nD τ).loc main_arg0)) (m ((c : Thread nD τ).loc main_arg2)) (ix2 r (step256 t s)) := by
  unfold prod entry
  refine Finset.sum_congr rfl fun k _ => ?_
  have h0 : (iblk m c 0 t : Vec Ideal S2176x2048 .bf16) (ix2 r k) = m ((c : Thread nD τ).loc main_arg0) (ix2 r k) :=
    (read0 t (V m c main_arg0) r k).trans (congrFun (V_main_arg0 m c) _)
  have h2 : (iblk m c 2 t : Vec Ideal S2048x256 .bf16) (ix2 k s) = m ((c : Thread nD τ).loc main_arg2) (ix2 k (step256 t s)) :=
    (read2 t (V m c main_arg2) k s).trans (congrFun (V_main_arg2 m c) _)
  exact congrArg₂ (fun a b : EReal => a * b) h0 h2

/-- What the body leaves of window 3 is the payload of the point's blocks. -/
theorem outs3_eq : out0_3 (iblk m c 0 t) (iblk m c 1 t) (iblk m c 2 t) = k0_pay4 (F := Ideal) (iblk m c 1 t) (iblk m c 0 t) (iblk m c 2 t) := by
  unfold out0_3
  rw [View.canon_unit_zero off2]
  rw [View.ld_unit_zero off2, View.ld_unit_zero off2, View.ld_unit_zero off2]

/-- What point `t` writes back of window 3 is its block of the whole result. -/
theorem flushed3_eq : (dats m 0 c).flushed 3 t = (((cfg0.win 3).blk t).view.read (Elt Ideal) (keepGate (m ((c : Thread nD τ).loc main_arg1)) (prod (m ((c : Thread nD τ).loc main_arg0)) (m ((c : Thread nD τ).loc main_arg2))))) := by
  refine (Value.flushed3 m c t).trans ((congrArg ((cfg0.win 3).cut (grid0.coords t)) (outs3_eq m c t)).trans ?_)
  show k0_pay4 (F := Ideal) (iblk m c 1 t) (iblk m c 0 t) (iblk m c 2 t) = _
  funext y
  obtain ⟨r, s, rfl⟩ : ∃ (r : Fin 2176) (s : Fin 256), y = ix2 r s := ⟨y 0, y 1, ValueIdx.eq_ix2 y⟩
  refine (pay_keepGate _ _ _ r s).trans ?_
  refine Eq.trans ?_ (read3 t _ r s).symm
  exact congrArg₂ tilt (gate_eq m c t r s) (up_eq m c t r s)

/-- Every entry of window 3's array is in a block written back. -/
theorem cover3 (i : S2176x5632.Idx) : ∃ t : Fin cfg0.N, (cfg0.win 3).flush t = true ∧ i ∈ ((cfg0.win 3).blk t).view.set := by
  have b0 : (i 0).val < 2176 := (i 0).isLt
  have b1 : (i 1).val < 5632 := (i 1).isLt
  let t : Fin cfg0.N := ⟨(i 1).val / 256, show _ < 22 by omega⟩
  have tv : t.val = (i 1).val / 256 := rfl
  refine ⟨t, flush0_3 _, ?_⟩
  show i ∈ ((View.whole main_v0_0).slice (win0_3.rect t)).set
  rw [View.set_slice_whole, Rect.mem_set_unit]
  intro b
  match b with
  | ⟨0, _⟩ =>
    show win0_3.index t 0 * 2176 ≤ (i 0).val ∧ (i 0).val < win0_3.index t 0 * 2176 + win0_3.xsize (grid0.coords t) 0
    rw [(idx3 t).1, (size3 t).1]; omega
  | ⟨1, _⟩ =>
    show win0_3.index t 1 * 256 ≤ (i 1).val ∧ (i 1).val < win0_3.index t 1 * 256 + win0_3.xsize (grid0.coords t) 1
    rw [(idx3 t).2, (size3 t).2]; omega

/-- Window 3's array after the run. -/
theorem final3 : (dats m 0 c).arrAt 3 cfg0.N = keepGate (m ((c : Thread nD τ).loc main_arg1)) (prod (m ((c : Thread nD τ).loc main_arg0)) (m ((c : Thread nD τ).loc main_arg2))) :=
  (dats m 0 c).arrAt_eq_of_cover 3 _ (fun t _ => flushed3_eq m c t) cover3

/-- What the body leaves of window 4 is the payload of the point's blocks. -/
theorem outs4_eq : out0_4 (iblk m c 0 t) (iblk m c 1 t) (iblk m c 2 t) = k0_pay5 (F := Ideal) (iblk m c 1 t) := by
  unfold out0_4
  rw [View.canon_unit_zero off2]
  rw [View.ld_unit_zero off2]

/-- What point `t` writes back of window 4 is its block of the whole result. -/
theorem flushed4_eq : (dats m 0 c).flushed 4 t = (((cfg0.win 4).blk t).view.read (Elt Ideal) (keepUp (m ((c : Thread nD τ).loc main_arg1)))) := by
  refine (Value.flushed4 m c t).trans ((congrArg ((cfg0.win 4).cut (grid0.coords t)) (outs4_eq m c t)).trans ?_)
  show k0_pay5 (F := Ideal) (iblk m c 1 t) = _
  funext y
  obtain ⟨r, s, rfl⟩ : ∃ (r : Fin 2176) (s : Fin 256), y = ix2 r s := ⟨y 0, y 1, ValueIdx.eq_ix2 y⟩
  refine (pay_keepUp _ r s).trans ?_
  refine Eq.trans ?_ (read4 t _ r s).symm
  exact congrArg (fun a : EReal => a * logistic a) (gate_eq m c t r s)

/-- Every entry of window 4's array is in a block written back. -/
theorem cover4 (i : S2176x5632.Idx) : ∃ t : Fin cfg0.N, (cfg0.win 4).flush t = true ∧ i ∈ ((cfg0.win 4).blk t).view.set := by
  have b0 : (i 0).val < 2176 := (i 0).isLt
  have b1 : (i 1).val < 5632 := (i 1).isLt
  let t : Fin cfg0.N := ⟨(i 1).val / 256, show _ < 22 by omega⟩
  have tv : t.val = (i 1).val / 256 := rfl
  refine ⟨t, flush0_4 _, ?_⟩
  show i ∈ ((View.whole main_v0_1).slice (win0_4.rect t)).set
  rw [View.set_slice_whole, Rect.mem_set_unit]
  intro b
  match b with
  | ⟨0, _⟩ =>
    show win0_4.index t 0 * 2176 ≤ (i 0).val ∧ (i 0).val < win0_4.index t 0 * 2176 + win0_4.xsize (grid0.coords t) 0
    rw [(idx4 t).1, (size4 t).1]; omega
  | ⟨1, _⟩ =>
    show win0_4.index t 1 * 256 ≤ (i 1).val ∧ (i 1).val < win0_4.index t 1 * 256 + win0_4.xsize (grid0.coords t) 1
    rw [(idx4 t).2, (size4 t).2]; omega

/-- Window 4's array after the run. -/
theorem final4 : (dats m 0 c).arrAt 4 cfg0.N = keepUp (m ((c : Thread nD τ).loc main_arg1)) :=
  (dats m 0 c).arrAt_eq_of_cover 4 _ (fun t _ => flushed4_eq m c t) cover4

/-- What the body leaves of window 5 is the payload of the point's blocks. -/
theorem outs5_eq : out0_5 (iblk m c 0 t) (iblk m c 1 t) (iblk m c 2 t) = k0_pay7 (F := Ideal) (iblk m c 1 t) (iblk m c 0 t) (iblk m c 2 t) := by
  unfold out0_5
  rw [View.canon_unit_zero off2]
  rw [View.ld_unit_zero off2, View.ld_unit_zero off2, View.ld_unit_zero off2]

/-- What point `t` writes back of window 5 is its block of the whole result. -/
theorem flushed5_eq : (dats m 0 c).flushed 5 t = (((cfg0.win 5).blk t).view.read (Elt Ideal) (hidden (m ((c : Thread nD τ).loc main_arg1)) (prod (m ((c : Thread nD τ).loc main_arg0)) (m ((c : Thread nD τ).loc main_arg2))))) := by
  refine (Value.flushed5 m c t).trans ((congrArg ((cfg0.win 5).cut (grid0.coords t)) (outs5_eq m c t)).trans ?_)
  show k0_pay7 (F := Ideal) (iblk m c 1 t) (iblk m c 0 t) (iblk m c 2 t) = _
  funext y
  obtain ⟨r, s, rfl⟩ : ∃ (r : Fin 2176) (s : Fin 256), y = ix2 r s := ⟨y 0, y 1, ValueIdx.eq_ix2 y⟩
  refine (pay_hidden _ _ _ r s).trans ?_
  refine Eq.trans ?_ (read5 t _ r s).symm
  exact congrArg₂ (fun a b : EReal => a * logistic a * b) (gate_eq m c t r s) (up_eq m c t r s)

/-- Every entry of window 5's array is in a block written back. -/
theorem cover5 (i : S2176x5632.Idx) : ∃ t : Fin cfg0.N, (cfg0.win 5).flush t = true ∧ i ∈ ((cfg0.win 5).blk t).view.set := by
  have b0 : (i 0).val < 2176 := (i 0).isLt
  have b1 : (i 1).val < 5632 := (i 1).isLt
  let t : Fin cfg0.N := ⟨(i 1).val / 256, show _ < 22 by omega⟩
  have tv : t.val = (i 1).val / 256 := rfl
  refine ⟨t, flush0_5 _, ?_⟩
  show i ∈ ((View.whole main_v0_2).slice (win0_5.rect t)).set
  rw [View.set_slice_whole, Rect.mem_set_unit]
  intro b
  match b with
  | ⟨0, _⟩ =>
    show win0_5.index t 0 * 2176 ≤ (i 0).val ∧ (i 0).val < win0_5.index t 0 * 2176 + win0_5.xsize (grid0.coords t) 0
    rw [(idx5 t).1, (size5 t).1]; omega
  | ⟨1, _⟩ =>
    show win0_5.index t 1 * 256 ≤ (i 1).val ∧ (i 1).val < win0_5.index t 1 * 256 + win0_5.xsize (grid0.coords t) 1
    rw [(idx5 t).2, (size5 t).2]; omega

/-- Window 5's array after the run. -/
theorem final5 : (dats m 0 c).arrAt 5 cfg0.N = hidden (m ((c : Thread nD τ).loc main_arg1)) (prod (m ((c : Thread nD τ).loc main_arg0)) (m ((c : Thread nD τ).loc main_arg2))) :=
  (dats m 0 c).arrAt_eq_of_cover 5 _ (fun t _ => flushed5_eq m c t) cover5

/-- What the body leaves of window 6 is the payload of the point's blocks. -/
theorem outs6_eq : out0_6 (iblk m c 0 t) (iblk m c 1 t) (iblk m c 2 t) = k0_pay8 (F := Ideal) (iblk m c 1 t) (iblk m c 0 t) (iblk m c 2 t) := by
  unfold out0_6
  rw [View.canon_unit_zero off2]
  rw [View.ld_unit_zero off2, View.ld_unit_zero off2, View.ld_unit_zero off2]

/-- What point `t` writes back of window 6 is its block of the whole result. -/
theorem flushed6_eq : (dats m 0 c).flushed 6 t = (((cfg0.win 6).blk t).view.read (Elt Ideal) (hiddenT (m ((c : Thread nD τ).loc main_arg1)) (prod (m ((c : Thread nD τ).loc main_arg0)) (m ((c : Thread nD τ).loc main_arg2))))) := by
  refine (Value.flushed6 m c t).trans ((congrArg ((cfg0.win 6).cut (grid0.coords t)) (outs6_eq m c t)).trans ?_)
  show k0_pay8 (F := Ideal) (iblk m c 1 t) (iblk m c 0 t) (iblk m c 2 t) = _
  funext y
  obtain ⟨r, s, rfl⟩ : ∃ (r : Fin 256) (s : Fin 2176), y = ix2 r s := ⟨y 0, y 1, ValueIdx.eq_ix2 y⟩
  refine (pay_hiddenT _ _ _ r s).trans ?_
  refine Eq.trans ?_ (read6 t _ r s).symm
  exact congrArg₂ (fun a b : EReal => a * logistic a * b) (gate_eq m c t s r) (up_eq m c t s r)

/-- Every entry of window 6's array is in a block written back. -/
theorem cover6 (i : S5632x2176.Idx) : ∃ t : Fin cfg0.N, (cfg0.win 6).flush t = true ∧ i ∈ ((cfg0.win 6).blk t).view.set := by
  have b0 : (i 0).val < 5632 := (i 0).isLt
  have b1 : (i 1).val < 2176 := (i 1).isLt
  let t : Fin cfg0.N := ⟨(i 0).val / 256, show _ < 22 by omega⟩
  have tv : t.val = (i 0).val / 256 := rfl
  refine ⟨t, flush0_6 _, ?_⟩
  show i ∈ ((View.whole main_v0_3).slice (win0_6.rect t)).set
  rw [View.set_slice_whole, Rect.mem_set_unit]
  intro b
  match b with
  | ⟨0, _⟩ =>
    show win0_6.index t 0 * 256 ≤ (i 0).val ∧ (i 0).val < win0_6.index t 0 * 256 + win0_6.xsize (grid0.coords t) 0
    rw [(idx6 t).1, (size6 t).1]; omega
  | ⟨1, _⟩ =>
    show win0_6.index t 1 * 2176 ≤ (i 1).val ∧ (i 1).val < win0_6.index t 1 * 2176 + win0_6.xsize (grid0.coords t) 1
    rw [(idx6 t).2, (size6 t).2]; omega

/-- Window 6's array after the run. -/
theorem final6 : (dats m 0 c).arrAt 6 cfg0.N = hiddenT (m ((c : Thread nD τ).loc main_arg1)) (prod (m ((c : Thread nD τ).loc main_arg0)) (m ((c : Thread nD τ).loc main_arg2))) :=
  (dats m 0 c).arrAt_eq_of_cover 6 _ (fun t _ => flushed6_eq m c t) cover6

end Cert.Kernel7Ideal.Array

namespace Cert.Reference7Ideal.Result

open Cert.Reference7Ideal Cert.Reference7Ideal.Gen Cert.Reference7Ideal.Read Cert.Linear Cert.Forward Cert.Hidden

variable (x0 : (⟨S2176x2048, .bf16⟩ : BufTy).Contents (Elt Ideal)) (x1 : (⟨S2176x5632, .f32⟩ : BufTy).Contents (Elt Ideal)) (x2 : (⟨S2048x5632, .bf16⟩ : BufTy).Contents (Elt Ideal))

/-- The other plain product. -/
theorem up_eq : val_main_v2 (F := Ideal) x0 x2 = prod x0 x2 := by
  funext y
  obtain ⟨r, s, rfl⟩ : ∃ (r : Fin 2176) (s : Fin 5632), y = ix2 r s := ⟨y 0, y 1, ValueIdx.eq_ix2 y⟩
  refine (val_main_v2_apply x0 x2 _).trans ?_
  unfold prod entry
  refine Finset.sum_congr rfl fun k _ => ?_
  have el : lidx_main_v2 (ix2 r s) k = ix2 r k := ValueIdx.eq_ix2 _
  have er : ridx_main_v2 (ix2 r s) k = ix2 k s := ValueIdx.eq_ix2 _
  rw [el, er]
  rfl

/-- The plain logistic function, at an entry. -/
theorem logistic_apply (y : S2176x5632.Idx) : val_main_v3_2 (F := Ideal) x1 y = logistic (x1 y) := by
  refine (congrArg₂ (fun p q : EReal => Ideal.div p (q + Ideal.exp (-(x1 y : EReal)))) Ideal.ofBits_one_f32 Ideal.ofBits_one_f32).trans ?_
  rfl

/-- The plain factor of the gate's gradient. -/
theorem result_keepGate (h0 : Block.Finite (φ := .bf16) x0) (h1 : Block.Finite (φ := .f32) x1) (h2 : Block.Finite (φ := .bf16) x2) :
    val_main_v9 (F := Ideal) x0 x1 x2 = keepGate x1 (prod x0 x2) := by
  funext y
  obtain ⟨r, s, rfl⟩ : ∃ (r : Fin 2176) (s : Fin 5632), y = ix2 r s := ⟨y 0, y 1, ValueIdx.eq_ix2 y⟩
  show (Ideal.ofBits .f32 0x3F800000#32 * val_main_v2 (F := Ideal) x0 x2 (ix2 r s) * val_main_v3_2 (F := Ideal) x1 (ix2 r s)
      + x1 (ix2 r s) * (Ideal.ofBits .f32 0x3F800000#32 * val_main_v2 (F := Ideal) x0 x2 (ix2 r s)) * (val_main_v3_2 (F := Ideal) x1 (ix2 r s) * (Ideal.ofBits .f32 0x3F800000#32 - val_main_v3_2 (F := Ideal) x1 (ix2 r s))) : EReal) = tilt (x1 (ix2 r s)) ((prod x0 x2) (ix2 r s))
  rw [up_eq, logistic_apply, Ideal.ofBits_one_f32]
  obtain ⟨q, hq⟩ := entry_real x0 x2 h0 h2 r s
  have ha : x1 (ix2 r s) = ((EReal.toReal (x1 (ix2 r s)) : ℝ) : EReal) := (EReal.coe_toReal (h1 _).1 (h1 _).2).symm
  have hb : prod x0 x2 (ix2 r s) = (q : EReal) := hq
  rw [ha, hb]
  exact tilt_real _ q

/-- The plain factor of the other gradient. -/
theorem result_keepUp : val_main_v10 (F := Ideal) x1 = keepUp x1 := by
  funext y
  show (x1 y * val_main_v3_2 (F := Ideal) x1 y * Ideal.ofBits .f32 0x3F800000#32 : EReal) = _
  rw [logistic_apply, Ideal.ofBits_one_f32, mul_one]
  rfl

/-- The plain hidden rows, before rounding. -/
theorem mid_eq (y : S2176x5632.Idx) : val_main_v4 (F := Ideal) x0 x1 x2 y = (x1 y * logistic (x1 y) * (prod x0 x2) y : EReal) := by
  show (x1 y * val_main_v3_2 (F := Ideal) x1 y * val_main_v2 (F := Ideal) x0 x2 y : EReal) = _
  rw [logistic_apply, up_eq]

/-- The plain hidden rows. -/
theorem result_hidden : val_main_v11 (F := Ideal) x0 x1 x2 = hidden x1 (prod x0 x2) :=
  funext fun y => mid_eq x0 x1 x2 y

/-- The plain hidden rows, transposed. -/
theorem result_hiddenT : val_main_v13 (F := Ideal) x0 x1 x2 = hiddenT x1 (prod x0 x2) := by
  funext y
  obtain ⟨r, s, rfl⟩ : ∃ (r : Fin 5632) (s : Fin 2176), y = ix2 r s := ⟨y 0, y 1, ValueIdx.eq_ix2 y⟩
  rw [val_main_v13_apply, val_main_v12_apply]
  have e : idx_main_v12 (ix2 r s) = ix2 s r := ValueIdx.eq_ix2 _
  rw [e]
  exact mid_eq x0 x1 x2 (ix2 s r)

end Cert.Reference7Ideal.Result
-- ==== Proof.PreUpGate.lean ====
/-
  What the precondition of the gated layer with a given gate says: no argument has an infinite entry.
-/
module

public import proofs.«01_k».proof.Defs
public import proofs.«01_k».proof.Proof.Pre

@[expose] public section

noncomputable section

namespace Cert.Pre_finite_up_gate

open Idealize.ShloMosaic Cert.Block
open Facts

/-- The function's side conditions. -/
theorem facts : Cert.Pre_finite_up_gate.Facts where
  bcast_S_S2176x5632 := by decide
  reducesTo_S2176x5632_S_d0_1 := by decide
  h_S_ := by decide
  bitsLt_bf16_f32 := by decide
  bcast_S_S2176x2048 := by decide
  reducesTo_S2176x2048_S_d0_1 := by decide
  bcast_S_S2048x5632 := by decide
  reducesTo_S2048x5632_S_d0_1 := by decide

/-- The one index of an array without axes. -/
instance : Subsingleton S_.Idx := ⟨fun _ _ => funext fun a => a.elim0⟩

/-- A word of one bit that is an `and` of two is 1 when both are. -/
theorem andi_split {x y : IVec S_ 1} {i : S_.Idx} (h : andi x y i = 1#1) : x i = 1#1 ∧ y i = 1#1 := by
  have h' : x i &&& y i = 1#1 := h
  have both : ∀ p q : BitVec 1, p &&& q = 1#1 → p = 1#1 ∧ q = 1#1 := by decide
  exact both _ _ h'

variable [Facts]

/-- The precondition: no argument has an infinite entry. -/
theorem finite_of_fn (x0 : FVec Ideal S2176x2048 .bf16) (x1 : FVec Ideal S2176x5632 .f32) (x2 : FVec Ideal S2048x5632 .bf16) (i : S_.Idx)
    (h : fn (F := Ideal) x0 x1 x2 i = 1#1) : Finite x0 ∧ Finite x1 ∧ Finite x2 := by
  dsimp only [fn] at h
  obtain ⟨h, h2⟩ := andi_split h
  obtain ⟨h1, h0⟩ := andi_split h
  exact ⟨fun y => Pre_finite.finite_of_lt (Host.reduce_andi_all _ _ _ _ i h0 y), fun y => Pre_finite.finite_of_lt (Host.reduce_andi_all _ _ _ _ i h1 y), fun y => Pre_finite.finite_of_lt (Host.reduce_andi_all _ _ _ _ i h2 y)⟩

end Cert.Pre_finite_up_gate
-- ==== Proof.Values7.lean ====
/-
  What the gated layer keeps of a given gate: the kernel's run and the plain program's run end with the same values.
-/
module

public import proofs.«01_k».proof.Defs
public import proofs.«01_k».proof.Proof.UpFromGate
public import proofs.«01_k».proof.Proof.PreUpGate
public import Idealize.ShloMosaic.Adequacy
public import Idealize.ShloMosaic.Init

@[expose] public section

noncomputable section

namespace Cert.Values7

open Idealize.ShloMosaic Idealize.SL.Sem

open Cert.Kernel7Ideal in
/-- The kernel's run: what its results hold, its arguments unchanged. -/
theorem kernel_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v0_0) = Cert.Forward.keepGate (m (c.tc.loc main_arg1)) (Cert.Linear.prod (m (c.tc.loc main_arg0)) (m (c.tc.loc main_arg2)))
        ∧ r.2.mem (c.tc.loc main_v0_1) = Cert.Forward.keepUp (m (c.tc.loc main_arg1))
        ∧ r.2.mem (c.tc.loc main_v0_2) = Cert.Forward.hidden (m (c.tc.loc main_arg1)) (Cert.Linear.prod (m (c.tc.loc main_arg0)) (m (c.tc.loc main_arg2)))
        ∧ r.2.mem (c.tc.loc main_v0_3) = Cert.Forward.hiddenT (m (c.tc.loc main_arg1)) (Cert.Linear.prod (m (c.tc.loc main_arg0)) (m (c.tc.loc main_arg2)))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2) :=
  (θ_run _ _ _).mono (fun _ h c => ⟨(h c).1.trans (Array.final3 m c), (h c).2.1.trans (Array.final4 m c), (h c).2.2.1.trans (Array.final5 m c), (h c).2.2.2.1.trans (Array.final6 m c), (h c).2.2.2.2⟩)
    (Value.run_blocks m g)

open Cert.Reference7Ideal in
/-- The plain program's run: its results hold the same, its arguments unchanged. -/
theorem reference_run (m : (ℓ : Loc nD τ sig) → Buf (Elt Ideal) ℓ) (g : Dev nD → PrngReg)
    (fin : ∀ c : Dev nD, Cert.Block.Finite (φ := .bf16) (m (c.tc.loc main_arg0)) ∧ Cert.Block.Finite (φ := .f32) (m (c.tc.loc main_arg1)) ∧ Cert.Block.Finite (φ := .bf16) (m (c.tc.loc main_arg2))) :
    θ_run defs (onTc (τ := τ) (main (F := Ideal))) ⟨m, fun _ => 0, g⟩ fun r =>
      ∀ c : Dev nD,
        r.2.mem (c.tc.loc main_v9) = Cert.Forward.keepGate (m (c.tc.loc main_arg1)) (Cert.Linear.prod (m (c.tc.loc main_arg0)) (m (c.tc.loc main_arg2)))
        ∧ r.2.mem (c.tc.loc main_v10) = Cert.Forward.keepUp (m (c.tc.loc main_arg1))
        ∧ r.2.mem (c.tc.loc main_v11) = Cert.Forward.hidden (m (c.tc.loc main_arg1)) (Cert.Linear.prod (m (c.tc.loc main_arg0)) (m (c.tc.loc main_arg2)))
        ∧ r.2.mem (c.tc.loc main_v13) = Cert.Forward.hiddenT (m (c.tc.loc main_arg1)) (Cert.Linear.prod (m (c.tc.loc main_arg0)) (m (c.tc.loc main_arg2)))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2) :=
  (θ_run _ _ _).mono (fun _ h c => ⟨(h c).1.trans ((Read.val_main_v9_eq _ _ _).trans (Result.result_keepGate _ _ _ (fin c).1 (fin c).2.1 (fin c).2.2)), (h c).2.1.trans ((Read.val_main_v10_eq _).trans (Result.result_keepUp _)), (h c).2.2.1.trans ((Read.val_main_v11_eq _ _ _).trans (Result.result_hidden _ _ _)), (h c).2.2.2.1.trans ((Read.val_main_v13_eq _ _ _).trans (Result.result_hiddenT _ _ _)), (h c).2.2.2.2⟩)
    (Value.run m g)

/-- From equal arguments the two runs end with the same values. -/
theorem values [hP : Cert.Pre_finite_up_gate.Facts] : Cert.algebraic_Kernel7Ideal_Reference7Ideal_pre_finite_up_gate
    (hKernel7Ideal := Cert.Kernel7Ideal.Gen.facts) (hReference7Ideal := Cert.Reference7Ideal.Gen.facts) (hPre_finite_up_gate := hP) := by
  intro m g m' g' hpre hagree
  have fin : ∀ c : Dev Cert.Kernel7Ideal.nD, Cert.Block.Finite (φ := .bf16) (m (c.tc.loc Cert.Kernel7Ideal.main_arg0)) ∧ Cert.Block.Finite (φ := .f32) (m (c.tc.loc Cert.Kernel7Ideal.main_arg1)) ∧ Cert.Block.Finite (φ := .bf16) (m (c.tc.loc Cert.Kernel7Ideal.main_arg2)) :=
    fun c => Cert.Pre_finite_up_gate.finite_of_fn _ _ _ (fun a => a.elim0) (congrFun (hpre c) _)
  have e : ∀ c : Dev Cert.Kernel7Ideal.nD, Cert.Forward.keepGate (m' (c.tc.loc Cert.Reference7Ideal.main_arg1)) (Cert.Linear.prod (m' (c.tc.loc Cert.Reference7Ideal.main_arg0)) (m' (c.tc.loc Cert.Reference7Ideal.main_arg2))) = Cert.Forward.keepGate (m (c.tc.loc Cert.Kernel7Ideal.main_arg1)) (Cert.Linear.prod (m (c.tc.loc Cert.Kernel7Ideal.main_arg0)) (m (c.tc.loc Cert.Kernel7Ideal.main_arg2)))
      ∧ Cert.Forward.keepUp (m' (c.tc.loc Cert.Reference7Ideal.main_arg1)) = Cert.Forward.keepUp (m (c.tc.loc Cert.Kernel7Ideal.main_arg1))
      ∧ Cert.Forward.hidden (m' (c.tc.loc Cert.Reference7Ideal.main_arg1)) (Cert.Linear.prod (m' (c.tc.loc Cert.Reference7Ideal.main_arg0)) (m' (c.tc.loc Cert.Reference7Ideal.main_arg2))) = Cert.Forward.hidden (m (c.tc.loc Cert.Kernel7Ideal.main_arg1)) (Cert.Linear.prod (m (c.tc.loc Cert.Kernel7Ideal.main_arg0)) (m (c.tc.loc Cert.Kernel7Ideal.main_arg2)))
      ∧ Cert.Forward.hiddenT (m' (c.tc.loc Cert.Reference7Ideal.main_arg1)) (Cert.Linear.prod (m' (c.tc.loc Cert.Reference7Ideal.main_arg0)) (m' (c.tc.loc Cert.Reference7Ideal.main_arg2))) = Cert.Forward.hiddenT (m (c.tc.loc Cert.Kernel7Ideal.main_arg1)) (Cert.Linear.prod (m (c.tc.loc Cert.Kernel7Ideal.main_arg0)) (m (c.tc.loc Cert.Kernel7Ideal.main_arg2))) := fun c => by
    rw [(hagree c).1, (hagree c).2.1, (hagree c).2.2]
    exact ⟨rfl, rfl, rfl, rfl⟩
  exact ⟨_, _, _, _, kernel_run m g, (θ_run _ _ _).mono (fun _ h c => ⟨(h c).1.trans (e c).1, (h c).2.1.trans (e c).2.1, (h c).2.2.1.trans (e c).2.2.1, (h c).2.2.2.1.trans (e c).2.2.2, (h c).2.2.2.2⟩) (reference_run m' g' (fun c => by rw [(hagree c).1, (hagree c).2.1, (hagree c).2.2]; exact fin c))⟩

/-- The plain program writes none of its arguments and declares no semaphore. -/
theorem reference_frame : Cert.quiescent_Reference7Ideal (hReference7Ideal := Cert.Reference7Ideal.Gen.facts) :=
  fun m ρ _ => (θ_run Cert.Reference7Ideal.defs _ _).mono (fun r h => ⟨fun c => (h c).2.2.2.2, sem_eq_zero_of_no_sems (by decide) r.2⟩)
    (Cert.Reference7Ideal.Value.run (F := Ideal) m ρ)

end Cert.Values7
-- ==== Proof.Gate.lean ====
/-
  The gated layer's gate product: the kernel's column blocks are those of the whole product.
-/
module

public import proofs.«01_k».proof.Proof.Linear
public import proofs.«01_k».proof.Proof.Gen.Kernel8Ideal.Value
public import proofs.«01_k».proof.Proof.Gen.Reference8Ideal.Run
public import proofs.«01_k».proof.Proof.Gen.Reference8Ideal.Read
public import Idealize.ShloMosaic.Lib.IdealHost

@[expose] public section

set_option maxRecDepth 16384

noncomputable section

open Idealize.SL.Sem
open Idealize.ShloMosaic hiding ix0 ix1 ix2 ix3
open Idealize.ShloMosaic.ValueIdx
open scoped BigOperators

namespace Cert.Kernel8Ideal.Array

open Cert.Kernel8Ideal Cert.Kernel8Ideal.Gen Cert.Linear Idealize.ShloMosaic.TcCoe

/-- What the body stores, at an index of its block. -/
theorem pay_apply (x : Vec Ideal S2176x2048 .bf16) (y : Vec Ideal S2048x256 .bf16) (r : Fin 2176) (s : Fin 256) :
    k0_pay1 (F := Ideal) x y (ix2 r s) = (∑ k : Fin 2048, (x (ix2 r k) * y (ix2 k s) : EReal)) := by
  unfold k0_pay1
  exact Product.plain_apply (φ := .bf16) x y r s

variable (m : (ℓ : Loc nD τ sig) → Buf (Elt Ideal) ℓ) (c : Dev nD) (t : Fin cfg0.N)

/-- The block coordinates of window 0. -/
theorem idx0 : ∀ t : Fin cfg0.N, win0_0.index t 0 = 0 ∧ win0_0.index t 1 = 0 :=
  (by decide +kernel : ∀ t : Fin grid0.N, win0_0.index t 0 = 0 ∧ win0_0.index t 1 = 0)

/-- The block coordinates of window 1. -/
theorem idx1 : ∀ t : Fin cfg0.N, win0_1.index t 0 = 0 ∧ win0_1.index t 1 = t.val :=
  (by decide +kernel : ∀ t : Fin grid0.N, win0_1.index t 0 = 0 ∧ win0_1.index t 1 = t.val)

/-- The block coordinates of window 2. -/
theorem idx2 : ∀ t : Fin cfg0.N, win0_2.index t 0 = 0 ∧ win0_2.index t 1 = t.val :=
  (by decide +kernel : ∀ t : Fin grid0.N, win0_2.index t 0 = 0 ∧ win0_2.index t 1 = t.val)

/-- No block of window 2 is cut short. -/
theorem size2 : ∀ t : Fin cfg0.N, win0_2.xsize (grid0.coords t) 0 = 2176 ∧ win0_2.xsize (grid0.coords t) 1 = 256 :=
  (by decide +kernel : ∀ t : Fin grid0.N, win0_2.xsize (grid0.coords t) 0 = 2176 ∧ win0_2.xsize (grid0.coords t) 1 = 256)

/-- There are 22 points. -/
theorem points : t.val < 22 := t.isLt

/-- The array's coordinate of a block's coordinate at point `t`. -/
def step256 (s : Fin 256) : Fin 5632 := ⟨t.val * 256 + s.val, by have := points t; omega⟩

/-- A block of window 0. -/
theorem read0 (X : Vec Ideal S2176x2048 .bf16) (r : Fin 2176) (s : Fin 2048) :
    (((cfg0.win 0).blk t).view.read (Elt Ideal) X : Vec Ideal S2176x2048 .bf16) (ix2 r s) = X (ix2 r s) := by
  show X ((win0_0.rect t).emb (ix2 r s)) = _
  refine congrArg X ((ValueIdx.eq_ix2 _).trans (congrArg₂ ix2 (Fin.ext ?_) (Fin.ext ?_)))
  · refine (Pipeline.Window.rect_emb_val win0_0 t (ix2 r s) 0 rfl).trans ?_
    rw [(idx0 t).1]; exact Nat.zero_add _
  · refine (Pipeline.Window.rect_emb_val win0_0 t (ix2 r s) 1 rfl).trans ?_
    rw [(idx0 t).2]; exact Nat.zero_add _

/-- A block of window 1. -/
theorem read1 (X : Vec Ideal S2048x5632 .bf16) (r : Fin 2048) (s : Fin 256) :
    (((cfg0.win 1).blk t).view.read (Elt Ideal) X : Vec Ideal S2048x256 .bf16) (ix2 r s) = X (ix2 r (step256 t s)) := by
  show X ((win0_1.rect t).emb (ix2 r s)) = _
  refine congrArg X ((ValueIdx.eq_ix2 _).trans (congrArg₂ ix2 (Fin.ext ?_) (Fin.ext ?_)))
  · refine (Pipeline.Window.rect_emb_val win0_1 t (ix2 r s) 0 rfl).trans ?_
    rw [(idx1 t).1]; exact Nat.zero_add _
  · refine (Pipeline.Window.rect_emb_val win0_1 t (ix2 r s) 1 rfl).trans ?_
    rw [(idx1 t).2]; rfl

/-- A block of window 2. -/
theorem read2 (X : Vec Ideal S2176x5632 .f32) (r : Fin 2176) (s : Fin 256) :
    (((cfg0.win 2).blk t).view.read (Elt Ideal) X : Vec Ideal S2176x256 .f32) (ix2 r s) = X (ix2 r (step256 t s)) := by
  show X ((win0_2.rect t).emb (ix2 r s)) = _
  refine congrArg X ((ValueIdx.eq_ix2 _).trans (congrArg₂ ix2 (Fin.ext ?_) (Fin.ext ?_)))
  · refine (Pipeline.Window.rect_emb_val win0_2 t (ix2 r s) 0 rfl).trans ?_
    rw [(idx2 t).1]; exact Nat.zero_add _
  · refine (Pipeline.Window.rect_emb_val win0_2 t (ix2 r s) 1 rfl).trans ?_
    rw [(idx2 t).2]; rfl

/-- A zero offset. -/
theorem off2 : (![0, 0] : Fin 2 → Nat) = fun _ => 0 := by funext a; match a with | ⟨0, _⟩ => rfl | ⟨1, _⟩ => rfl

/-- What the body leaves of window 2 is the payload of the point's blocks. -/
theorem outs2_eq : out0_2 (iblk m c 0 t) (iblk m c 1 t) = k0_pay1 (F := Ideal) (iblk m c 0 t) (iblk m c 1 t) := by
  unfold out0_2
  rw [View.canon_unit_zero off2]
  rw [View.ld_unit_zero off2, View.ld_unit_zero off2]

/-- What point `t` writes back of window 2 is its block of the whole result. -/
theorem flushed2_eq : (dats m 0 c).flushed 2 t = (((cfg0.win 2).blk t).view.read (Elt Ideal) (prod (m ((c : Thread nD τ).loc main_arg0)) (m ((c : Thread nD τ).loc main_arg1)))) := by
  refine (Value.flushed2 m c t).trans ((congrArg ((cfg0.win 2).cut (grid0.coords t)) (outs2_eq m c t)).trans ?_)
  show k0_pay1 (F := Ideal) (iblk m c 0 t) (iblk m c 1 t) = _
  funext y
  obtain ⟨r, s, rfl⟩ : ∃ (r : Fin 2176) (s : Fin 256), y = ix2 r s := ⟨y 0, y 1, ValueIdx.eq_ix2 y⟩
  refine (pay_apply _ _ r s).trans ?_
  refine Eq.trans ?_ (read2 t _ r s).symm
  unfold prod entry
  refine Finset.sum_congr rfl fun k _ => ?_
  have h0 : (iblk m c 0 t : Vec Ideal S2176x2048 .bf16) (ix2 r k) = m ((c : Thread nD τ).loc main_arg0) (ix2 r k) :=
    (read0 t (V m c main_arg0) r k).trans (congrFun (V_main_arg0 m c) _)
  have h1 : (iblk m c 1 t : Vec Ideal S2048x256 .bf16) (ix2 k s) = m ((c : Thread nD τ).loc main_arg1) (ix2 k (step256 t s)) :=
    (read1 t (V m c main_arg1) k s).trans (congrFun (V_main_arg1 m c) _)
  exact congrArg₂ (fun a b : EReal => a * b) h0 h1

/-- Every entry of window 2's array is in a block written back. -/
theorem cover2 (i : S2176x5632.Idx) : ∃ t : Fin cfg0.N, (cfg0.win 2).flush t = true ∧ i ∈ ((cfg0.win 2).blk t).view.set := by
  have b0 : (i 0).val < 2176 := (i 0).isLt
  have b1 : (i 1).val < 5632 := (i 1).isLt
  let t : Fin cfg0.N := ⟨(i 1).val / 256, show _ < 22 by omega⟩
  have tv : t.val = (i 1).val / 256 := rfl
  refine ⟨t, flush0_2 _, ?_⟩
  show i ∈ ((View.whole main_v0).slice (win0_2.rect t)).set
  rw [View.set_slice_whole, Rect.mem_set_unit]
  intro b
  match b with
  | ⟨0, _⟩ =>
    show win0_2.index t 0 * 2176 ≤ (i 0).val ∧ (i 0).val < win0_2.index t 0 * 2176 + win0_2.xsize (grid0.coords t) 0
    rw [(idx2 t).1, (size2 t).1]; omega
  | ⟨1, _⟩ =>
    show win0_2.index t 1 * 256 ≤ (i 1).val ∧ (i 1).val < win0_2.index t 1 * 256 + win0_2.xsize (grid0.coords t) 1
    rw [(idx2 t).2, (size2 t).2]; omega

/-- Window 2's array after the run. -/
theorem final2 : (dats m 0 c).arrAt 2 cfg0.N = prod (m ((c : Thread nD τ).loc main_arg0)) (m ((c : Thread nD τ).loc main_arg1)) :=
  (dats m 0 c).arrAt_eq_of_cover 2 _ (fun t _ => flushed2_eq m c t) cover2

end Cert.Kernel8Ideal.Array

namespace Cert.Reference8Ideal.Result

open Cert.Reference8Ideal Cert.Reference8Ideal.Gen Cert.Reference8Ideal.Read Cert.Linear

/-- The plain product is the same array. -/
theorem result (x0 : (⟨S2176x2048, .bf16⟩ : BufTy).Contents (Elt Ideal)) (x1 : (⟨S2048x5632, .bf16⟩ : BufTy).Contents (Elt Ideal)) :
    val_main_v2 (F := Ideal) x0 x1 = prod x0 x1 := by
  funext y
  obtain ⟨r, s, rfl⟩ : ∃ (r : Fin 2176) (s : Fin 5632), y = ix2 r s := ⟨y 0, y 1, ValueIdx.eq_ix2 y⟩
  refine (val_main_v2_apply x0 x1 _).trans ?_
  unfold prod entry
  refine Finset.sum_congr rfl fun k _ => ?_
  have el : lidx_main_v2 (ix2 r s) k = ix2 r k := ValueIdx.eq_ix2 _
  have er : ridx_main_v2 (ix2 r s) k = ix2 k s := ValueIdx.eq_ix2 _
  rw [el, er]
  rfl

end Cert.Reference8Ideal.Result
-- ==== Proof.Values8.lean ====
/-
  The gate product: the kernel's run and the plain program's run end with the same values.
-/
module

public import proofs.«01_k».proof.Defs
public import proofs.«01_k».proof.Proof.Gate
public import Idealize.ShloMosaic.Adequacy
public import Idealize.ShloMosaic.Init

@[expose] public section

noncomputable section

namespace Cert.Values8

open Idealize.ShloMosaic Idealize.SL.Sem

open Cert.Kernel8Ideal in
/-- The kernel's run: what its results hold, its arguments unchanged. -/
theorem kernel_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v0) = Cert.Linear.prod (m (c.tc.loc main_arg0)) (m (c.tc.loc main_arg1))
        ∧ r.2.mem (c.tc.loc main_arg0) = m (c.tc.loc main_arg0)
        ∧ r.2.mem (c.tc.loc main_arg1) = m (c.tc.loc main_arg1) :=
  (θ_run _ _ _).mono (fun _ h c => ⟨(h c).1.trans (Array.final2 m c), (h c).2⟩)
    (Value.run_blocks m g)

open Cert.Reference8Ideal in
/-- The plain program's run: its results hold the same, its arguments unchanged. -/
theorem reference_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v2) = Cert.Linear.prod (m (c.tc.loc main_arg0)) (m (c.tc.loc main_arg1))
        ∧ r.2.mem (c.tc.loc main_arg0) = m (c.tc.loc main_arg0)
        ∧ r.2.mem (c.tc.loc main_arg1) = m (c.tc.loc main_arg1) :=
  (θ_run _ _ _).mono (fun _ h c => ⟨(h c).1.trans ((Read.val_main_v2_eq _ _).trans (Result.result _ _)), (h c).2⟩)
    (Value.run m g)

/-- From equal arguments the two runs end with the same values. -/
theorem values : Cert.algebraic_Kernel8Ideal_Reference8Ideal
    (hKernel8Ideal := Cert.Kernel8Ideal.Gen.facts) (hReference8Ideal := Cert.Reference8Ideal.Gen.facts) := by
  intro m g m' g' _ hagree
  have e : ∀ c : Dev Cert.Kernel8Ideal.nD, Cert.Linear.prod (m' (c.tc.loc Cert.Reference8Ideal.main_arg0)) (m' (c.tc.loc Cert.Reference8Ideal.main_arg1)) = Cert.Linear.prod (m (c.tc.loc Cert.Kernel8Ideal.main_arg0)) (m (c.tc.loc Cert.Kernel8Ideal.main_arg1)) := fun c => by
    rw [(hagree c).1, (hagree c).2]
  exact ⟨_, kernel_run m g, (θ_run _ _ _).mono (fun _ h c => ⟨(h c).1.trans (e c), (h c).2⟩) (reference_run m' g')⟩

/-- The plain program writes none of its arguments and declares no semaphore. -/
theorem reference_frame : Cert.quiescent_Reference8Ideal (hReference8Ideal := Cert.Reference8Ideal.Gen.facts) :=
  fun m ρ _ => (θ_run Cert.Reference8Ideal.defs _ _).mono (fun r h => ⟨fun c => (h c).2, sem_eq_zero_of_no_sems (by decide) r.2⟩)
    (Cert.Reference8Ideal.Value.run (F := Ideal) m ρ)

end Cert.Values8
-- ==== Proof.Down.lean ====
/-
  The gated layer's narrowing product, halved and added to the residual rows.
-/
module

public import proofs.«01_k».proof.Proof.Linear
public import proofs.«01_k».proof.Proof.Gen.Kernel9Ideal.Value
public import proofs.«01_k».proof.Proof.Gen.Reference9Ideal.Run
public import proofs.«01_k».proof.Proof.Gen.Reference9Ideal.Read
public import Idealize.ShloMosaic.Lib.IdealHost

@[expose] public section

set_option maxRecDepth 16384

noncomputable section

open Idealize.SL.Sem
open Idealize.ShloMosaic hiding ix0 ix1 ix2 ix3
open Idealize.ShloMosaic.ValueIdx
open scoped BigOperators

namespace Cert.Kernel9Ideal.Array

open Cert.Kernel9Ideal Cert.Kernel9Ideal.Gen Cert.Linear Idealize.ShloMosaic.TcCoe

/-- What the body stores, at an index of its block. -/
theorem pay_apply (h : Vec Ideal S2176x256 .f32) (x : Vec Ideal S2176x5632 .bf16) (y : Vec Ideal S5632x256 .bf16) (r : Fin 2176) (s : Fin 256) :
    k0_pay1 (F := Ideal) h x y (ix2 r s) = (h (ix2 r s) + ((((1 / 2) : ℝ) : ℝ) : EReal) * (∑ k : Fin 5632, (x (ix2 r k) * y (ix2 k s) : EReal)) : EReal) := by
  unfold k0_pay1
  exact congrArg₂ (fun a b : EReal => (h (ix2 r s) : EReal) + a * b) Product.half (Product.plain_apply (φ := .bf16) x y r s)

variable (m : (ℓ : Loc nD τ sig) → Buf (Elt Ideal) ℓ) (c : Dev nD) (t : Fin cfg0.N)

/-- The block coordinates of window 0. -/
theorem idx0 : ∀ t : Fin cfg0.N, win0_0.index t 0 = 0 ∧ win0_0.index t 1 = 0 :=
  (by decide +kernel : ∀ t : Fin grid0.N, win0_0.index t 0 = 0 ∧ win0_0.index t 1 = 0)

/-- The block coordinates of window 1. -/
theorem idx1 : ∀ t : Fin cfg0.N, win0_1.index t 0 = 0 ∧ win0_1.index t 1 = t.val :=
  (by decide +kernel : ∀ t : Fin grid0.N, win0_1.index t 0 = 0 ∧ win0_1.index t 1 = t.val)

/-- The block coordinates of window 2. -/
theorem idx2 : ∀ t : Fin cfg0.N, win0_2.index t 0 = 0 ∧ win0_2.index t 1 = t.val :=
  (by decide +kernel : ∀ t : Fin grid0.N, win0_2.index t 0 = 0 ∧ win0_2.index t 1 = t.val)

/-- The block coordinates of window 3. -/
theorem idx3 : ∀ t : Fin cfg0.N, win0_3.index t 0 = 0 ∧ win0_3.index t 1 = t.val :=
  (by decide +kernel : ∀ t : Fin grid0.N, win0_3.index t 0 = 0 ∧ win0_3.index t 1 = t.val)

/-- No block of window 3 is cut short. -/
theorem size3 : ∀ t : Fin cfg0.N, win0_3.xsize (grid0.coords t) 0 = 2176 ∧ win0_3.xsize (grid0.coords t) 1 = 256 :=
  (by decide +kernel : ∀ t : Fin grid0.N, win0_3.xsize (grid0.coords t) 0 = 2176 ∧ win0_3.xsize (grid0.coords t) 1 = 256)

/-- There are 8 points. -/
theorem points : t.val < 8 := t.isLt

/-- The array's coordinate of a block's coordinate at point `t`. -/
def step256 (s : Fin 256) : Fin 2048 := ⟨t.val * 256 + s.val, by have := points t; omega⟩

/-- A block of window 0. -/
theorem read0 (X : Vec Ideal S2176x5632 .bf16) (r : Fin 2176) (s : Fin 5632) :
    (((cfg0.win 0).blk t).view.read (Elt Ideal) X : Vec Ideal S2176x5632 .bf16) (ix2 r s) = X (ix2 r s) := by
  show X ((win0_0.rect t).emb (ix2 r s)) = _
  refine congrArg X ((ValueIdx.eq_ix2 _).trans (congrArg₂ ix2 (Fin.ext ?_) (Fin.ext ?_)))
  · refine (Pipeline.Window.rect_emb_val win0_0 t (ix2 r s) 0 rfl).trans ?_
    rw [(idx0 t).1]; exact Nat.zero_add _
  · refine (Pipeline.Window.rect_emb_val win0_0 t (ix2 r s) 1 rfl).trans ?_
    rw [(idx0 t).2]; exact Nat.zero_add _

/-- A block of window 1. -/
theorem read1 (X : Vec Ideal S5632x2048 .bf16) (r : Fin 5632) (s : Fin 256) :
    (((cfg0.win 1).blk t).view.read (Elt Ideal) X : Vec Ideal S5632x256 .bf16) (ix2 r s) = X (ix2 r (step256 t s)) := by
  show X ((win0_1.rect t).emb (ix2 r s)) = _
  refine congrArg X ((ValueIdx.eq_ix2 _).trans (congrArg₂ ix2 (Fin.ext ?_) (Fin.ext ?_)))
  · refine (Pipeline.Window.rect_emb_val win0_1 t (ix2 r s) 0 rfl).trans ?_
    rw [(idx1 t).1]; exact Nat.zero_add _
  · refine (Pipeline.Window.rect_emb_val win0_1 t (ix2 r s) 1 rfl).trans ?_
    rw [(idx1 t).2]; rfl

/-- A block of window 2. -/
theorem read2 (X : Vec Ideal S2176x2048 .f32) (r : Fin 2176) (s : Fin 256) :
    (((cfg0.win 2).blk t).view.read (Elt Ideal) X : Vec Ideal S2176x256 .f32) (ix2 r s) = X (ix2 r (step256 t s)) := by
  show X ((win0_2.rect t).emb (ix2 r s)) = _
  refine congrArg X ((ValueIdx.eq_ix2 _).trans (congrArg₂ ix2 (Fin.ext ?_) (Fin.ext ?_)))
  · refine (Pipeline.Window.rect_emb_val win0_2 t (ix2 r s) 0 rfl).trans ?_
    rw [(idx2 t).1]; exact Nat.zero_add _
  · refine (Pipeline.Window.rect_emb_val win0_2 t (ix2 r s) 1 rfl).trans ?_
    rw [(idx2 t).2]; rfl

/-- A block of window 3. -/
theorem read3 (X : Vec Ideal S2176x2048 .f32) (r : Fin 2176) (s : Fin 256) :
    (((cfg0.win 3).blk t).view.read (Elt Ideal) X : Vec Ideal S2176x256 .f32) (ix2 r s) = X (ix2 r (step256 t s)) := by
  show X ((win0_3.rect t).emb (ix2 r s)) = _
  refine congrArg X ((ValueIdx.eq_ix2 _).trans (congrArg₂ ix2 (Fin.ext ?_) (Fin.ext ?_)))
  · refine (Pipeline.Window.rect_emb_val win0_3 t (ix2 r s) 0 rfl).trans ?_
    rw [(idx3 t).1]; exact Nat.zero_add _
  · refine (Pipeline.Window.rect_emb_val win0_3 t (ix2 r s) 1 rfl).trans ?_
    rw [(idx3 t).2]; rfl

/-- A zero offset. -/
theorem off2 : (![0, 0] : Fin 2 → Nat) = fun _ => 0 := by funext a; match a with | ⟨0, _⟩ => rfl | ⟨1, _⟩ => rfl

/-- What the body leaves of window 3 is the payload of the point's blocks. -/
theorem outs3_eq : (outsAt0 m c t) = k0_pay1 (F := Ideal) (iblk m c 2 t) (iblk m c 0 t) (iblk m c 1 t) := by
  unfold outsAt0 out0_A_3
  dsimp only
  rw [View.read_writes_eq_canon _ _ _ (cover0_A_3 c _ _ _ _ _ _ _ _ _ _ _ _)]
  unfold kernelRun0_A
  dsimp only
  sl_unfold_words
  simp only [View.readAt_eq_ld, (hs0_0 t).read_unread, (hs0_1 t).read_unread, (hs0_2 t).read_unread]
  rw [View.canon_unit_zero off2]
  rw [View.ld_unit_zero off2, View.ld_unit_zero off2, View.ld_unit_zero off2]

/-- What point `t` writes back of window 3 is its block of the whole result. -/
theorem flushed3_eq : (dats m 0 c).flushed 3 t = (((cfg0.win 3).blk t).view.read (Elt Ideal) (residual (1 / 2) (m ((c : Thread nD τ).loc main_arg0)) (m ((c : Thread nD τ).loc main_arg1)) (m ((c : Thread nD τ).loc main_arg2)))) := by
  refine (Value.flushed3 m c t).trans ((congrArg ((cfg0.win 3).cut (grid0.coords t)) (outs3_eq m c t)).trans ?_)
  show k0_pay1 (F := Ideal) (iblk m c 2 t) (iblk m c 0 t) (iblk m c 1 t) = _
  funext y
  obtain ⟨r, s, rfl⟩ : ∃ (r : Fin 2176) (s : Fin 256), y = ix2 r s := ⟨y 0, y 1, ValueIdx.eq_ix2 y⟩
  refine (pay_apply _ _ _ r s).trans ?_
  refine Eq.trans ?_ (read3 t _ r s).symm
  have h2 : (iblk m c 2 t : Vec Ideal S2176x256 .f32) (ix2 r s) = m ((c : Thread nD τ).loc main_arg2) (ix2 r (step256 t s)) :=
    (read2 t (V m c main_arg2) r s).trans (congrFun (V_main_arg2 m c) _)
  refine congrArg₂ (fun a b : EReal => a + ((((1 / 2) : ℝ) : ℝ) : EReal) * b) h2 ?_
  unfold entry
  refine Finset.sum_congr rfl fun k _ => ?_
  have h0 : (iblk m c 0 t : Vec Ideal S2176x5632 .bf16) (ix2 r k) = m ((c : Thread nD τ).loc main_arg0) (ix2 r k) :=
    (read0 t (V m c main_arg0) r k).trans (congrFun (V_main_arg0 m c) _)
  have h1 : (iblk m c 1 t : Vec Ideal S5632x256 .bf16) (ix2 k s) = m ((c : Thread nD τ).loc main_arg1) (ix2 k (step256 t s)) :=
    (read1 t (V m c main_arg1) k s).trans (congrFun (V_main_arg1 m c) _)
  exact congrArg₂ (fun a b : EReal => a * b) h0 h1

/-- Every entry of window 3's array is in a block written back. -/
theorem cover3 (i : S2176x2048.Idx) : ∃ t : Fin cfg0.N, (cfg0.win 3).flush t = true ∧ i ∈ ((cfg0.win 3).blk t).view.set := by
  have b0 : (i 0).val < 2176 := (i 0).isLt
  have b1 : (i 1).val < 2048 := (i 1).isLt
  let t : Fin cfg0.N := ⟨(i 1).val / 256, show _ < 8 by omega⟩
  have tv : t.val = (i 1).val / 256 := rfl
  refine ⟨t, flush0_3 _, ?_⟩
  show i ∈ ((View.whole main_v1).slice (win0_3.rect t)).set
  rw [View.set_slice_whole, Rect.mem_set_unit]
  intro b
  match b with
  | ⟨0, _⟩ =>
    show win0_3.index t 0 * 2176 ≤ (i 0).val ∧ (i 0).val < win0_3.index t 0 * 2176 + win0_3.xsize (grid0.coords t) 0
    rw [(idx3 t).1, (size3 t).1]; omega
  | ⟨1, _⟩ =>
    show win0_3.index t 1 * 256 ≤ (i 1).val ∧ (i 1).val < win0_3.index t 1 * 256 + win0_3.xsize (grid0.coords t) 1
    rw [(idx3 t).2, (size3 t).2]; omega

/-- Window 3's array after the run. -/
theorem final3 : (dats m 0 c).arrAt 3 cfg0.N = residual (1 / 2) (m ((c : Thread nD τ).loc main_arg0)) (m ((c : Thread nD τ).loc main_arg1)) (m ((c : Thread nD τ).loc main_arg2)) :=
  (dats m 0 c).arrAt_eq_of_cover 3 _ (fun t _ => flushed3_eq m c t) cover3

end Cert.Kernel9Ideal.Array

namespace Cert.Reference9Ideal.Result

open Cert.Reference9Ideal Cert.Reference9Ideal.Gen Cert.Reference9Ideal.Read Cert.Linear

variable (x0 : (⟨S2176x5632, .bf16⟩ : BufTy).Contents (Elt Ideal)) (x1 : (⟨S5632x2048, .bf16⟩ : BufTy).Contents (Elt Ideal))

/-- The plain product. -/
theorem prod_eq (r : Fin 2176) (s : Fin 2048) : val_main_v2 (F := Ideal) x0 x1 (ix2 r s) = entry x0 x1 r s := by
  refine (val_main_v2_apply x0 x1 _).trans ?_
  unfold entry
  refine Finset.sum_congr rfl fun k _ => ?_
  have el : lidx_main_v2 (ix2 r s) k = ix2 r k := ValueIdx.eq_ix2 _
  have er : ridx_main_v2 (ix2 r s) k = ix2 k s := ValueIdx.eq_ix2 _
  rw [el, er]
  rfl

/-- The plain lines' result is the same array. -/
theorem result (x2 : (⟨S2176x2048, .f32⟩ : BufTy).Contents (Elt Ideal)) : val_main_v5 (F := Ideal) x0 x1 x2 = residual (1 / 2) x0 x1 x2 := by
  funext y
  obtain ⟨r, s, rfl⟩ : ∃ (r : Fin 2176) (s : Fin 2048), y = ix2 r s := ⟨y 0, y 1, ValueIdx.eq_ix2 y⟩
  show (x2 (ix2 r s) + Ideal.ofBits .f32 0x3F000000#32 * val_main_v2 (F := Ideal) x0 x1 (ix2 r s) : EReal) = _
  rw [prod_eq]
  exact congrArg (fun a : EReal => (x2 (ix2 r s) : EReal) + a * entry x0 x1 r s) Product.half

end Cert.Reference9Ideal.Result
-- ==== Proof.Values9.lean ====
/-
  The narrowing product: the kernel's run and the plain program's run end with the same values.
-/
module

public import proofs.«01_k».proof.Defs
public import proofs.«01_k».proof.Proof.Down
public import Idealize.ShloMosaic.Adequacy
public import Idealize.ShloMosaic.Init

@[expose] public section

noncomputable section

namespace Cert.Values9

open Idealize.ShloMosaic Idealize.SL.Sem

open Cert.Kernel9Ideal in
/-- The kernel's run: what its results hold, its arguments unchanged. -/
theorem kernel_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v1) = Cert.Linear.residual (1 / 2) (m (c.tc.loc main_arg0)) (m (c.tc.loc main_arg1)) (m (c.tc.loc main_arg2))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2) :=
  (θ_run _ _ _).mono (fun _ h c => ⟨(h c).1.trans (Array.final3 m c), (h c).2⟩)
    (Value.run_blocks m g)

open Cert.Reference9Ideal in
/-- The plain program's run: its results hold the same, its arguments unchanged. -/
theorem reference_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v5) = Cert.Linear.residual (1 / 2) (m (c.tc.loc main_arg0)) (m (c.tc.loc main_arg1)) (m (c.tc.loc main_arg2))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2) :=
  (θ_run _ _ _).mono (fun _ h c => ⟨(h c).1.trans ((Read.val_main_v5_eq _ _ _).trans (Result.result _ _ _)), (h c).2⟩)
    (Value.run m g)

/-- From equal arguments the two runs end with the same values. -/
theorem values : Cert.algebraic_Kernel9Ideal_Reference9Ideal
    (hKernel9Ideal := Cert.Kernel9Ideal.Gen.facts) (hReference9Ideal := Cert.Reference9Ideal.Gen.facts) := by
  intro m g m' g' _ hagree
  have e : ∀ c : Dev Cert.Kernel9Ideal.nD, Cert.Linear.residual (1 / 2) (m' (c.tc.loc Cert.Reference9Ideal.main_arg0)) (m' (c.tc.loc Cert.Reference9Ideal.main_arg1)) (m' (c.tc.loc Cert.Reference9Ideal.main_arg2)) = Cert.Linear.residual (1 / 2) (m (c.tc.loc Cert.Kernel9Ideal.main_arg0)) (m (c.tc.loc Cert.Kernel9Ideal.main_arg1)) (m (c.tc.loc Cert.Kernel9Ideal.main_arg2)) := fun c => by
    rw [(hagree c).1, (hagree c).2.1, (hagree c).2.2]
  exact ⟨_, kernel_run m g, (θ_run _ _ _).mono (fun _ h c => ⟨(h c).1.trans (e c), (h c).2⟩) (reference_run m' g')⟩

/-- The plain program writes none of its arguments and declares no semaphore. -/
theorem reference_frame : Cert.quiescent_Reference9Ideal (hReference9Ideal := Cert.Reference9Ideal.Gen.facts) :=
  fun m ρ _ => (θ_run Cert.Reference9Ideal.defs _ _).mono (fun r h => ⟨fun c => (h c).2, sem_eq_zero_of_no_sems (by decide) r.2⟩)
    (Cert.Reference9Ideal.Value.run (F := Ideal) m ρ)

end Cert.Values9
-- ==== Proof.OutProjBack.lean ====
/-
  The gradient of the mixed rows: the cotangents times the transposed output projection.
-/
module

public import proofs.«01_k».proof.Proof.Linear
public import proofs.«01_k».proof.Proof.Gen.Kernel10Ideal.Value
public import proofs.«01_k».proof.Proof.Gen.Reference10Ideal.Run
public import proofs.«01_k».proof.Proof.Gen.Reference10Ideal.Read
public import Idealize.ShloMosaic.Lib.IdealHost

@[expose] public section

set_option maxRecDepth 16384

noncomputable section

open Idealize.SL.Sem
open Idealize.ShloMosaic hiding ix0 ix1 ix2 ix3
open Idealize.ShloMosaic.ValueIdx
open scoped BigOperators

namespace Cert.Kernel10Ideal.Array

open Cert.Kernel10Ideal Cert.Kernel10Ideal.Gen Cert.Linear Idealize.ShloMosaic.TcCoe

/-- What the body stores, at an index of its block. -/
theorem pay_apply (x : Vec Ideal S2176x2048 .bf16) (y : Vec Ideal S512x2048 .bf16) (r : Fin 2176) (s : Fin 512) :
    k0_pay1 (F := Ideal) x y (ix2 r s) = (∑ k : Fin 2048, (x (ix2 r k) * y (ix2 s k) : EReal)) := by
  unfold k0_pay1
  exact Product.rows_apply (φ := .bf16) x y r s

variable (m : (ℓ : Loc nD τ sig) → Buf (Elt Ideal) ℓ) (c : Dev nD) (t : Fin cfg0.N)

/-- The block coordinates of window 0. -/
theorem idx0 : ∀ t : Fin cfg0.N, win0_0.index t 0 = 0 ∧ win0_0.index t 1 = 0 :=
  (by decide +kernel : ∀ t : Fin grid0.N, win0_0.index t 0 = 0 ∧ win0_0.index t 1 = 0)

/-- The block coordinates of window 1. -/
theorem idx1 : ∀ t : Fin cfg0.N, win0_1.index t 0 = t.val ∧ win0_1.index t 1 = 0 :=
  (by decide +kernel : ∀ t : Fin grid0.N, win0_1.index t 0 = t.val ∧ win0_1.index t 1 = 0)

/-- The block coordinates of window 2. -/
theorem idx2 : ∀ t : Fin cfg0.N, win0_2.index t 0 = 0 ∧ win0_2.index t 1 = t.val :=
  (by decide +kernel : ∀ t : Fin grid0.N, win0_2.index t 0 = 0 ∧ win0_2.index t 1 = t.val)

/-- No block of window 2 is cut short. -/
theorem size2 : ∀ t : Fin cfg0.N, win0_2.xsize (grid0.coords t) 0 = 2176 ∧ win0_2.xsize (grid0.coords t) 1 = 512 :=
  (by decide +kernel : ∀ t : Fin grid0.N, win0_2.xsize (grid0.coords t) 0 = 2176 ∧ win0_2.xsize (grid0.coords t) 1 = 512)

/-- There are 4 points. -/
theorem points : t.val < 4 := t.isLt

/-- The array's coordinate of a block's coordinate at point `t`. -/
def step512 (s : Fin 512) : Fin 2048 := ⟨t.val * 512 + s.val, by have := points t; omega⟩

/-- A block of window 0. -/
theorem read0 (X : Vec Ideal S2176x2048 .bf16) (r : Fin 2176) (s : Fin 2048) :
    (((cfg0.win 0).blk t).view.read (Elt Ideal) X : Vec Ideal S2176x2048 .bf16) (ix2 r s) = X (ix2 r s) := by
  show X ((win0_0.rect t).emb (ix2 r s)) = _
  refine congrArg X ((ValueIdx.eq_ix2 _).trans (congrArg₂ ix2 (Fin.ext ?_) (Fin.ext ?_)))
  · refine (Pipeline.Window.rect_emb_val win0_0 t (ix2 r s) 0 rfl).trans ?_
    rw [(idx0 t).1]; exact Nat.zero_add _
  · refine (Pipeline.Window.rect_emb_val win0_0 t (ix2 r s) 1 rfl).trans ?_
    rw [(idx0 t).2]; exact Nat.zero_add _

/-- A block of window 1. -/
theorem read1 (X : Vec Ideal S2048x2048 .bf16) (r : Fin 512) (s : Fin 2048) :
    (((cfg0.win 1).blk t).view.read (Elt Ideal) X : Vec Ideal S512x2048 .bf16) (ix2 r s) = X (ix2 (step512 t r) s) := by
  show X ((win0_1.rect t).emb (ix2 r s)) = _
  refine congrArg X ((ValueIdx.eq_ix2 _).trans (congrArg₂ ix2 (Fin.ext ?_) (Fin.ext ?_)))
  · refine (Pipeline.Window.rect_emb_val win0_1 t (ix2 r s) 0 rfl).trans ?_
    rw [(idx1 t).1]; rfl
  · refine (Pipeline.Window.rect_emb_val win0_1 t (ix2 r s) 1 rfl).trans ?_
    rw [(idx1 t).2]; exact Nat.zero_add _

/-- A block of window 2. -/
theorem read2 (X : Vec Ideal S2176x2048 .f32) (r : Fin 2176) (s : Fin 512) :
    (((cfg0.win 2).blk t).view.read (Elt Ideal) X : Vec Ideal S2176x512 .f32) (ix2 r s) = X (ix2 r (step512 t s)) := by
  show X ((win0_2.rect t).emb (ix2 r s)) = _
  refine congrArg X ((ValueIdx.eq_ix2 _).trans (congrArg₂ ix2 (Fin.ext ?_) (Fin.ext ?_)))
  · refine (Pipeline.Window.rect_emb_val win0_2 t (ix2 r s) 0 rfl).trans ?_
    rw [(idx2 t).1]; exact Nat.zero_add _
  · refine (Pipeline.Window.rect_emb_val win0_2 t (ix2 r s) 1 rfl).trans ?_
    rw [(idx2 t).2]; rfl

/-- A zero offset. -/
theorem off2 : (![0, 0] : Fin 2 → Nat) = fun _ => 0 := by funext a; match a with | ⟨0, _⟩ => rfl | ⟨1, _⟩ => rfl

/-- What the body leaves of window 2 is the payload of the point's blocks. -/
theorem outs2_eq : (outsAt0 m c t) = k0_pay1 (F := Ideal) (iblk m c 0 t) (iblk m c 1 t) := by
  unfold outsAt0 out0_A_2
  dsimp only
  rw [View.read_writes_eq_canon _ _ _ (cover0_A_2 c _ _ _ _ _ _ _ _ _)]
  unfold kernelRun0_A
  dsimp only
  sl_unfold_words
  simp only [View.readAt_eq_ld, (hs0_0 t).read_unread, (hs0_1 t).read_unread]
  rw [View.canon_unit_zero off2]
  rw [View.ld_unit_zero off2, View.ld_unit_zero off2]

/-- What point `t` writes back of window 2 is its block of the whole result. -/
theorem flushed2_eq : (dats m 0 c).flushed 2 t = (((cfg0.win 2).blk t).view.read (Elt Ideal) (back (m ((c : Thread nD τ).loc main_arg0)) (m ((c : Thread nD τ).loc main_arg1)))) := by
  refine (Value.flushed2 m c t).trans ((congrArg ((cfg0.win 2).cut (grid0.coords t)) (outs2_eq m c t)).trans ?_)
  show k0_pay1 (F := Ideal) (iblk m c 0 t) (iblk m c 1 t) = _
  funext y
  obtain ⟨r, s, rfl⟩ : ∃ (r : Fin 2176) (s : Fin 512), y = ix2 r s := ⟨y 0, y 1, ValueIdx.eq_ix2 y⟩
  refine (pay_apply _ _ r s).trans ?_
  refine Eq.trans ?_ (read2 t _ r s).symm
  refine Finset.sum_congr rfl fun k _ => ?_
  have h0 : (iblk m c 0 t : Vec Ideal S2176x2048 .bf16) (ix2 r k) = m ((c : Thread nD τ).loc main_arg0) (ix2 r k) :=
    (read0 t (V m c main_arg0) r k).trans (congrFun (V_main_arg0 m c) _)
  have h1 : (iblk m c 1 t : Vec Ideal S512x2048 .bf16) (ix2 s k) = m ((c : Thread nD τ).loc main_arg1) (ix2 (step512 t s) k) :=
    (read1 t (V m c main_arg1) s k).trans (congrFun (V_main_arg1 m c) _)
  exact congrArg₂ (fun a b : EReal => a * b) h0 h1

/-- Every entry of window 2's array is in a block written back. -/
theorem cover2 (i : S2176x2048.Idx) : ∃ t : Fin cfg0.N, (cfg0.win 2).flush t = true ∧ i ∈ ((cfg0.win 2).blk t).view.set := by
  have b0 : (i 0).val < 2176 := (i 0).isLt
  have b1 : (i 1).val < 2048 := (i 1).isLt
  let t : Fin cfg0.N := ⟨(i 1).val / 512, show _ < 4 by omega⟩
  have tv : t.val = (i 1).val / 512 := rfl
  refine ⟨t, flush0_2 _, ?_⟩
  show i ∈ ((View.whole main_v1).slice (win0_2.rect t)).set
  rw [View.set_slice_whole, Rect.mem_set_unit]
  intro b
  match b with
  | ⟨0, _⟩ =>
    show win0_2.index t 0 * 2176 ≤ (i 0).val ∧ (i 0).val < win0_2.index t 0 * 2176 + win0_2.xsize (grid0.coords t) 0
    rw [(idx2 t).1, (size2 t).1]; omega
  | ⟨1, _⟩ =>
    show win0_2.index t 1 * 512 ≤ (i 1).val ∧ (i 1).val < win0_2.index t 1 * 512 + win0_2.xsize (grid0.coords t) 1
    rw [(idx2 t).2, (size2 t).2]; omega

/-- Window 2's array after the run. -/
theorem final2 : (dats m 0 c).arrAt 2 cfg0.N = back (m ((c : Thread nD τ).loc main_arg0)) (m ((c : Thread nD τ).loc main_arg1)) :=
  (dats m 0 c).arrAt_eq_of_cover 2 _ (fun t _ => flushed2_eq m c t) cover2

end Cert.Kernel10Ideal.Array

namespace Cert.Reference10Ideal.Result

open Cert.Reference10Ideal Cert.Reference10Ideal.Gen Cert.Reference10Ideal.Read Cert.Linear

/-- The plain derivative is the same array. -/
theorem result (x0 : (⟨S2176x2048, .bf16⟩ : BufTy).Contents (Elt Ideal)) (x1 : (⟨S2048x2048, .bf16⟩ : BufTy).Contents (Elt Ideal)) :
    val_main_v4 (F := Ideal) x0 x1 = back x0 x1 := by
  funext y
  obtain ⟨r, s, rfl⟩ : ∃ (r : Fin 2176) (s : Fin 2048), y = ix2 r s := ⟨y 0, y 1, ValueIdx.eq_ix2 y⟩
  refine (val_main_v4_apply x0 x1 _).trans (Finset.sum_congr rfl fun k _ => ?_)
  have el : lidx_main_v4 (ix2 r s) k = ix2 r k := ValueIdx.eq_ix2 _
  have er : ridx_main_v4 (ix2 r s) k = ix2 s k := ValueIdx.eq_ix2 _
  rw [el, er]
  rfl

end Cert.Reference10Ideal.Result
-- ==== Proof.Values10.lean ====
/-
  The gradient of the mixed rows: the kernel's run and the plain program's run end with the same values.
-/
module

public import proofs.«01_k».proof.Defs
public import proofs.«01_k».proof.Proof.OutProjBack
public import Idealize.ShloMosaic.Adequacy
public import Idealize.ShloMosaic.Init

@[expose] public section

noncomputable section

namespace Cert.Values10

open Idealize.ShloMosaic Idealize.SL.Sem

open Cert.Kernel10Ideal in
/-- The kernel's run: what its results hold, its arguments unchanged. -/
theorem kernel_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v1) = Cert.Linear.back (m (c.tc.loc main_arg0)) (m (c.tc.loc main_arg1))
        ∧ r.2.mem (c.tc.loc main_arg0) = m (c.tc.loc main_arg0)
        ∧ r.2.mem (c.tc.loc main_arg1) = m (c.tc.loc main_arg1) :=
  (θ_run _ _ _).mono (fun _ h c => ⟨(h c).1.trans (Array.final2 m c), (h c).2⟩)
    (Value.run_blocks m g)

open Cert.Reference10Ideal in
/-- The plain program's run: its results hold the same, its arguments unchanged. -/
theorem reference_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v4) = Cert.Linear.back (m (c.tc.loc main_arg0)) (m (c.tc.loc main_arg1))
        ∧ r.2.mem (c.tc.loc main_arg0) = m (c.tc.loc main_arg0)
        ∧ r.2.mem (c.tc.loc main_arg1) = m (c.tc.loc main_arg1) :=
  (θ_run _ _ _).mono (fun _ h c => ⟨(h c).1.trans ((Read.val_main_v4_eq _ _).trans (Result.result _ _)), (h c).2⟩)
    (Value.run m g)

/-- From equal arguments the two runs end with the same values. -/
theorem values : Cert.algebraic_Kernel10Ideal_Reference10Ideal
    (hKernel10Ideal := Cert.Kernel10Ideal.Gen.facts) (hReference10Ideal := Cert.Reference10Ideal.Gen.facts) := by
  intro m g m' g' _ hagree
  have e : ∀ c : Dev Cert.Kernel10Ideal.nD, Cert.Linear.back (m' (c.tc.loc Cert.Reference10Ideal.main_arg0)) (m' (c.tc.loc Cert.Reference10Ideal.main_arg1)) = Cert.Linear.back (m (c.tc.loc Cert.Kernel10Ideal.main_arg0)) (m (c.tc.loc Cert.Kernel10Ideal.main_arg1)) := fun c => by
    rw [(hagree c).1, (hagree c).2]
  exact ⟨_, kernel_run m g, (θ_run _ _ _).mono (fun _ h c => ⟨(h c).1.trans (e c), (h c).2⟩) (reference_run m' g')⟩

/-- The plain program writes none of its arguments and declares no semaphore. -/
theorem reference_frame : Cert.quiescent_Reference10Ideal (hReference10Ideal := Cert.Reference10Ideal.Gen.facts) :=
  fun m ρ _ => (θ_run Cert.Reference10Ideal.defs _ _).mono (fun r h => ⟨fun c => (h c).2, sem_eq_zero_of_no_sems (by decide) r.2⟩)
    (Cert.Reference10Ideal.Value.run (F := Ideal) m ρ)

end Cert.Values10
-- ==== Proof.WeightOut.lean ====
/-
  The gradient of the output projection.
-/
module

public import proofs.«01_k».proof.Proof.Linear
public import proofs.«01_k».proof.Proof.Gen.Kernel11Ideal.Value
public import proofs.«01_k».proof.Proof.Gen.Reference11Ideal.Run
public import proofs.«01_k».proof.Proof.Gen.Reference11Ideal.Read
public import Idealize.ShloMosaic.Lib.IdealHost

@[expose] public section

set_option maxRecDepth 16384

noncomputable section

open Idealize.SL.Sem
open Idealize.ShloMosaic hiding ix0 ix1 ix2 ix3
open Idealize.ShloMosaic.ValueIdx
open scoped BigOperators

namespace Cert.Kernel11Ideal.Array

open Cert.Kernel11Ideal Cert.Kernel11Ideal.Gen Cert.Linear Idealize.ShloMosaic.TcCoe

/-- What the body stores, at an index of its block. -/
theorem pay_apply (x : Vec Ideal S1024x2176 .bf16) (y : Vec Ideal S2176x1024 .bf16) (r : Fin 1024) (s : Fin 1024) :
    k0_pay1 (F := Ideal) x y (ix2 r s) = (∑ k : Fin 2176, (x (ix2 r k) * y (ix2 k s) : EReal)) := by
  unfold k0_pay1
  simp only [shapeCast_self]
  exact Product.plain_apply (φ := .bf16) x y r s

variable (m : (ℓ : Loc nD τ sig) → Buf (Elt Ideal) ℓ) (c : Dev nD) (t : Fin cfg0.N)

/-- The left factor is the transposed first argument. -/
theorem left_eq : V m c main_v0 = transpose S2048x2176 [1, 0] (m ((c : Thread nD τ).loc main_arg0)) transposes_S2176x2048_S2048x2176_1_0 := by
  show StableHlo.after hostOps0 (fun b => m (c, b)) _ = _
  simp only [hostOps0, StableHlo.TRef.nullary, StableHlo.TRef.ternary, StableHlo.TRef.unary, StableHlo.TRef.toBuf, StableHlo.TRef.ofBuf, cast_eq]
  after_results_simp

/-- The block coordinates of window 0. -/
theorem idx0 : ∀ t : Fin cfg0.N, win0_0.index t 0 = t.val / 2 ∧ win0_0.index t 1 = 0 :=
  (by decide +kernel : ∀ t : Fin grid0.N, win0_0.index t 0 = t.val / 2 ∧ win0_0.index t 1 = 0)

/-- The block coordinates of window 1. -/
theorem idx1 : ∀ t : Fin cfg0.N, win0_1.index t 0 = 0 ∧ win0_1.index t 1 = t.val % 2 :=
  (by decide +kernel : ∀ t : Fin grid0.N, win0_1.index t 0 = 0 ∧ win0_1.index t 1 = t.val % 2)

/-- The block coordinates of window 2. -/
theorem idx2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- No block of window 2 is cut short. -/
theorem size2 : ∀ t : Fin cfg0.N, win0_2.xsize (grid0.coords t) 0 = 1024 ∧ win0_2.xsize (grid0.coords t) 1 = 1024 :=
  (by decide +kernel : ∀ t : Fin grid0.N, win0_2.xsize (grid0.coords t) 0 = 1024 ∧ win0_2.xsize (grid0.coords t) 1 = 1024)

/-- There are 4 points. -/
theorem points : t.val < 4 := t.isLt

/-- The array's coordinate of a block's coordinate at point `t`. -/
def hi1024 (s : Fin 1024) : Fin 2048 := ⟨t.val / 2 * 1024 + s.val, by have := points t; omega⟩

/-- The array's coordinate of a block's coordinate at point `t`. -/
def lo1024 (s : Fin 1024) : Fin 2048 := ⟨t.val % 2 * 1024 + s.val, by have := points t; omega⟩

/-- A block of window 0. -/
theorem read0 (X : Vec Ideal S2048x2176 .bf16) (r : Fin 1024) (s : Fin 2176) :
    (((cfg0.win 0).blk t).view.read (Elt Ideal) X : Vec Ideal S1024x2176 .bf16) (ix2 r s) = X (ix2 (hi1024 t r) s) := by
  show X ((win0_0.rect t).emb (ix2 r s)) = _
  refine congrArg X ((ValueIdx.eq_ix2 _).trans (congrArg₂ ix2 (Fin.ext ?_) (Fin.ext ?_)))
  · refine (Pipeline.Window.rect_emb_val win0_0 t (ix2 r s) 0 rfl).trans ?_
    rw [(idx0 t).1]; rfl
  · refine (Pipeline.Window.rect_emb_val win0_0 t (ix2 r s) 1 rfl).trans ?_
    rw [(idx0 t).2]; exact Nat.zero_add _

/-- A block of window 1. -/
theorem read1 (X : Vec Ideal S2176x2048 .bf16) (r : Fin 2176) (s : Fin 1024) :
    (((cfg0.win 1).blk t).view.read (Elt Ideal) X : Vec Ideal S2176x1024 .bf16) (ix2 r s) = X (ix2 r (lo1024 t s)) := by
  show X ((win0_1.rect t).emb (ix2 r s)) = _
  refine congrArg X ((ValueIdx.eq_ix2 _).trans (congrArg₂ ix2 (Fin.ext ?_) (Fin.ext ?_)))
  · refine (Pipeline.Window.rect_emb_val win0_1 t (ix2 r s) 0 rfl).trans ?_
    rw [(idx1 t).1]; exact Nat.zero_add _
  · refine (Pipeline.Window.rect_emb_val win0_1 t (ix2 r s) 1 rfl).trans ?_
    rw [(idx1 t).2]; rfl

/-- A block of window 2. -/
theorem read2 (X : Vec Ideal S2048x2048 .bf16) (r : Fin 1024) (s : Fin 1024) :
    (((cfg0.win 2).blk t).view.read (Elt Ideal) X : Vec Ideal S1024x1024 .bf16) (ix2 r s) = X (ix2 (hi1024 t r) (lo1024 t s)) := by
  show X ((win0_2.rect t).emb (ix2 r s)) = _
  refine congrArg X ((ValueIdx.eq_ix2 _).trans (congrArg₂ ix2 (Fin.ext ?_) (Fin.ext ?_)))
  · refine (Pipeline.Window.rect_emb_val win0_2 t (ix2 r s) 0 rfl).trans ?_
    rw [(idx2 t).1]; rfl
  · refine (Pipeline.Window.rect_emb_val win0_2 t (ix2 r s) 1 rfl).trans ?_
    rw [(idx2 t).2]; rfl

/-- A zero offset. -/
theorem off2 : (![0, 0] : Fin 2 → Nat) = fun _ => 0 := by funext a; match a with | ⟨0, _⟩ => rfl | ⟨1, _⟩ => rfl

/-- What the body leaves of window 2 is the payload of the point's blocks. -/
theorem outs2_eq : (outsAt0 m c t) = k0_pay1 (F := Ideal) (iblk m c 0 t) (iblk m c 1 t) := by
  unfold outsAt0 out0_A_2
  dsimp only
  rw [View.read_writes_eq_canon _ _ _ (cover0_A_2 c _ _ _ _ _ _ _ _ _)]
  unfold kernelRun0_A
  dsimp only
  sl_unfold_words
  simp only [View.readAt_eq_ld, (hs0_0 t).read_unread, (hs0_1 t).read_unread]
  rw [View.canon_unit_zero off2]
  rw [View.ld_unit_zero off2, View.ld_unit_zero off2]

/-- What point `t` writes back of window 2 is its block of the whole result. -/
theorem flushed2_eq : (dats m 0 c).flushed 2 t = (((cfg0.win 2).blk t).view.read (Elt Ideal) (weight (m ((c : Thread nD τ).loc main_arg0)) (m ((c : Thread nD τ).loc main_arg1)))) := by
  refine (Value.flushed2 m c t).trans ((congrArg ((cfg0.win 2).cut (grid0.coords t)) (outs2_eq m c t)).trans ?_)
  show k0_pay1 (F := Ideal) (iblk m c 0 t) (iblk m c 1 t) = _
  funext y
  obtain ⟨r, s, rfl⟩ : ∃ (r : Fin 1024) (s : Fin 1024), y = ix2 r s := ⟨y 0, y 1, ValueIdx.eq_ix2 y⟩
  refine (pay_apply _ _ r s).trans ?_
  refine Eq.trans ?_ (read2 t _ r s).symm
  refine Finset.sum_congr rfl fun k _ => ?_
  have h0 : (iblk m c 0 t : Vec Ideal S1024x2176 .bf16) (ix2 r k) = m ((c : Thread nD τ).loc main_arg0) (ix2 k (hi1024 t r)) :=
    (read0 t (V m c main_v0) r k).trans ((congrFun (left_eq m c) _).trans (transpose_ix2_apply _ _ _ _))
  have h1 : (iblk m c 1 t : Vec Ideal S2176x1024 .bf16) (ix2 k s) = m ((c : Thread nD τ).loc main_arg1) (ix2 k (lo1024 t s)) :=
    (read1 t (V m c main_arg1) k s).trans (congrFun (V_main_arg1 m c) _)
  exact congrArg₂ (fun a b : EReal => a * b) h0 h1

/-- Every entry of window 2's array is in a block written back. -/
theorem cover2 (i : S2048x2048.Idx) : ∃ t : Fin cfg0.N, (cfg0.win 2).flush t = true ∧ i ∈ ((cfg0.win 2).blk t).view.set := by
  have b0 : (i 0).val < 2048 := (i 0).isLt
  have b1 : (i 1).val < 2048 := (i 1).isLt
  let t : Fin cfg0.N := ⟨(i 0).val / 1024 * 2 + (i 1).val / 1024, show _ < 4 by omega⟩
  have tv : t.val = (i 0).val / 1024 * 2 + (i 1).val / 1024 := rfl
  refine ⟨t, flush0_2 _, ?_⟩
  show i ∈ ((View.whole main_v2).slice (win0_2.rect t)).set
  rw [View.set_slice_whole, Rect.mem_set_unit]
  intro b
  match b with
  | ⟨0, _⟩ =>
    show win0_2.index t 0 * 1024 ≤ (i 0).val ∧ (i 0).val < win0_2.index t 0 * 1024 + win0_2.xsize (grid0.coords t) 0
    rw [(idx2 t).1, (size2 t).1]; omega
  | ⟨1, _⟩ =>
    show win0_2.index t 1 * 1024 ≤ (i 1).val ∧ (i 1).val < win0_2.index t 1 * 1024 + win0_2.xsize (grid0.coords t) 1
    rw [(idx2 t).2, (size2 t).2]; omega

/-- Window 2's array after the run. -/
theorem final2 : (dats m 0 c).arrAt 2 cfg0.N = weight (m ((c : Thread nD τ).loc main_arg0)) (m ((c : Thread nD τ).loc main_arg1)) :=
  (dats m 0 c).arrAt_eq_of_cover 2 _ (fun t _ => flushed2_eq m c t) cover2

end Cert.Kernel11Ideal.Array

namespace Cert.Reference11Ideal.Result

open Cert.Reference11Ideal Cert.Reference11Ideal.Gen Cert.Reference11Ideal.Read Cert.Linear

/-- The plain derivative is the same array. -/
theorem result (x0 : (⟨S2176x2048, .bf16⟩ : BufTy).Contents (Elt Ideal)) (x1 : (⟨S2176x2048, .bf16⟩ : BufTy).Contents (Elt Ideal)) :
    val_main_v6 (F := Ideal) x0 x1 = weight x0 x1 := by
  funext y
  obtain ⟨r, s, rfl⟩ : ∃ (r : Fin 2048) (s : Fin 2048), y = ix2 r s := ⟨y 0, y 1, ValueIdx.eq_ix2 y⟩
  rw [val_main_v6_apply, val_main_v5_apply]
  refine (val_main_v4_apply x0 x1 _).trans (Finset.sum_congr rfl fun k _ => ?_)
  have el : lidx_main_v4 (idx_main_v5 (ix2 r s)) k = ix2 k s := ValueIdx.eq_ix2 _
  have er : ridx_main_v4 (idx_main_v5 (ix2 r s)) k = ix2 k r := ValueIdx.eq_ix2 _
  rw [el, er]
  exact mul_comm (x1 (ix2 k s) : EReal) _

end Cert.Reference11Ideal.Result
-- ==== Proof.Values11.lean ====
/-
  The gradient of the output projection: the kernel's run and the plain program's run end with the same values.
-/
module

public import proofs.«01_k».proof.Defs
public import proofs.«01_k».proof.Proof.WeightOut
public import Idealize.ShloMosaic.Adequacy
public import Idealize.ShloMosaic.Init

@[expose] public section

noncomputable section

namespace Cert.Values11

open Idealize.ShloMosaic Idealize.SL.Sem

open Cert.Kernel11Ideal in
/-- The kernel's run: what its results hold, its arguments unchanged. -/
theorem kernel_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v2) = Cert.Linear.weight (m (c.tc.loc main_arg0)) (m (c.tc.loc main_arg1))
        ∧ r.2.mem (c.tc.loc main_arg0) = m (c.tc.loc main_arg0)
        ∧ r.2.mem (c.tc.loc main_arg1) = m (c.tc.loc main_arg1) :=
  (θ_run _ _ _).mono (fun _ h c => ⟨(h c).1.trans (Array.final2 m c), (h c).2⟩)
    (Value.run_blocks m g)

open Cert.Reference11Ideal in
/-- The plain program's run: its results hold the same, its arguments unchanged. -/
theorem reference_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v6) = Cert.Linear.weight (m (c.tc.loc main_arg0)) (m (c.tc.loc main_arg1))
        ∧ r.2.mem (c.tc.loc main_arg0) = m (c.tc.loc main_arg0)
        ∧ r.2.mem (c.tc.loc main_arg1) = m (c.tc.loc main_arg1) :=
  (θ_run _ _ _).mono (fun _ h c => ⟨(h c).1.trans ((Read.val_main_v6_eq _ _).trans (Result.result _ _)), (h c).2⟩)
    (Value.run m g)

/-- From equal arguments the two runs end with the same values. -/
theorem values : Cert.algebraic_Kernel11Ideal_Reference11Ideal
    (hKernel11Ideal := Cert.Kernel11Ideal.Gen.facts) (hReference11Ideal := Cert.Reference11Ideal.Gen.facts) := by
  intro m g m' g' _ hagree
  have e : ∀ c : Dev Cert.Kernel11Ideal.nD, Cert.Linear.weight (m' (c.tc.loc Cert.Reference11Ideal.main_arg0)) (m' (c.tc.loc Cert.Reference11Ideal.main_arg1)) = Cert.Linear.weight (m (c.tc.loc Cert.Kernel11Ideal.main_arg0)) (m (c.tc.loc Cert.Kernel11Ideal.main_arg1)) := fun c => by
    rw [(hagree c).1, (hagree c).2]
  exact ⟨_, kernel_run m g, (θ_run _ _ _).mono (fun _ h c => ⟨(h c).1.trans (e c), (h c).2⟩) (reference_run m' g')⟩

/-- The plain program writes none of its arguments and declares no semaphore. -/
theorem reference_frame : Cert.quiescent_Reference11Ideal (hReference11Ideal := Cert.Reference11Ideal.Gen.facts) :=
  fun m ρ _ => (θ_run Cert.Reference11Ideal.defs _ _).mono (fun r h => ⟨fun c => (h c).2, sem_eq_zero_of_no_sems (by decide) r.2⟩)
    (Cert.Reference11Ideal.Value.run (F := Ideal) m ρ)

end Cert.Values11
-- ==== Proof.WeightIn.lean ====
/-
  The gradient of the input projection.
-/
module

public import proofs.«01_k».proof.Proof.Linear
public import proofs.«01_k».proof.Proof.Gen.Kernel12Ideal.Value
public import proofs.«01_k».proof.Proof.Gen.Reference12Ideal.Run
public import proofs.«01_k».proof.Proof.Gen.Reference12Ideal.Read
public import Idealize.ShloMosaic.Lib.IdealHost

@[expose] public section

set_option maxRecDepth 16384

noncomputable section

open Idealize.SL.Sem
open Idealize.ShloMosaic hiding ix0 ix1 ix2 ix3
open Idealize.ShloMosaic.ValueIdx
open scoped BigOperators

namespace Cert.Kernel12Ideal.Array

open Cert.Kernel12Ideal Cert.Kernel12Ideal.Gen Cert.Linear Idealize.ShloMosaic.TcCoe

/-- What the body stores, at an index of its block. -/
theorem pay_apply (x : Vec Ideal S1024x2176 .bf16) (y : Vec Ideal S2176x1408 .bf16) (r : Fin 1024) (s : Fin 1408) :
    k0_pay1 (F := Ideal) x y (ix2 r s) = (∑ k : Fin 2176, (x (ix2 r k) * y (ix2 k s) : EReal)) := by
  unfold k0_pay1
  simp only [shapeCast_self]
  exact Product.plain_apply (φ := .bf16) x y r s

variable (m : (ℓ : Loc nD τ sig) → Buf (Elt Ideal) ℓ) (c : Dev nD) (t : Fin cfg0.N)

/-- The left factor is the transposed first argument. -/
theorem left_eq : V m c main_v0 = transpose S2048x2176 [1, 0] (m ((c : Thread nD τ).loc main_arg0)) transposes_S2176x2048_S2048x2176_1_0 := by
  show StableHlo.after hostOps0 (fun b => m (c, b)) _ = _
  simp only [hostOps0, StableHlo.TRef.nullary, StableHlo.TRef.ternary, StableHlo.TRef.unary, StableHlo.TRef.toBuf, StableHlo.TRef.ofBuf, cast_eq]
  after_results_simp

/-- The block coordinates of window 0. -/
theorem idx0 : ∀ t : Fin cfg0.N, win0_0.index t 0 = t.val / 3 ∧ win0_0.index t 1 = 0 :=
  (by decide +kernel : ∀ t : Fin grid0.N, win0_0.index t 0 = t.val / 3 ∧ win0_0.index t 1 = 0)

/-- The block coordinates of window 1. -/
theorem idx1 : ∀ t : Fin cfg0.N, win0_1.index t 0 = 0 ∧ win0_1.index t 1 = t.val % 3 :=
  (by decide +kernel : ∀ t : Fin grid0.N, win0_1.index t 0 = 0 ∧ win0_1.index t 1 = t.val % 3)

/-- The block coordinates of window 2. -/
theorem idx2 : ∀ t : Fin cfg0.N, win0_2.index t 0 = t.val / 3 ∧ win0_2.index t 1 = t.val % 3 :=
  (by decide +kernel : ∀ t : Fin grid0.N, win0_2.index t 0 = t.val / 3 ∧ win0_2.index t 1 = t.val % 3)

/-- No block of window 2 is cut short. -/
theorem size2 : ∀ t : Fin cfg0.N, win0_2.xsize (grid0.coords t) 0 = 1024 ∧ win0_2.xsize (grid0.coords t) 1 = 1408 :=
  (by decide +kernel : ∀ t : Fin grid0.N, win0_2.xsize (grid0.coords t) 0 = 1024 ∧ win0_2.xsize (grid0.coords t) 1 = 1408)

/-- There are 6 points. -/
theorem points : t.val < 6 := t.isLt

/-- The array's coordinate of a block's coordinate at point `t`. -/
def hi1024 (s : Fin 1024) : Fin 2048 := ⟨t.val / 3 * 1024 + s.val, by have := points t; omega⟩

/-- The array's coordinate of a block's coordinate at point `t`. -/
def lo1408 (s : Fin 1408) : Fin 4224 := ⟨t.val % 3 * 1408 + s.val, by have := points t; omega⟩

/-- A block of window 0. -/
theorem read0 (X : Vec Ideal S2048x2176 .bf16) (r : Fin 1024) (s : Fin 2176) :
    (((cfg0.win 0).blk t).view.read (Elt Ideal) X : Vec Ideal S1024x2176 .bf16) (ix2 r s) = X (ix2 (hi1024 t r) s) := by
  show X ((win0_0.rect t).emb (ix2 r s)) = _
  refine congrArg X ((ValueIdx.eq_ix2 _).trans (congrArg₂ ix2 (Fin.ext ?_) (Fin.ext ?_)))
  · refine (Pipeline.Window.rect_emb_val win0_0 t (ix2 r s) 0 rfl).trans ?_
    rw [(idx0 t).1]; rfl
  · refine (Pipeline.Window.rect_emb_val win0_0 t (ix2 r s) 1 rfl).trans ?_
    rw [(idx0 t).2]; exact Nat.zero_add _

/-- A block of window 1. -/
theorem read1 (X : Vec Ideal S2176x4224 .bf16) (r : Fin 2176) (s : Fin 1408) :
    (((cfg0.win 1).blk t).view.read (Elt Ideal) X : Vec Ideal S2176x1408 .bf16) (ix2 r s) = X (ix2 r (lo1408 t s)) := by
  show X ((win0_1.rect t).emb (ix2 r s)) = _
  refine congrArg X ((ValueIdx.eq_ix2 _).trans (congrArg₂ ix2 (Fin.ext ?_) (Fin.ext ?_)))
  · refine (Pipeline.Window.rect_emb_val win0_1 t (ix2 r s) 0 rfl).trans ?_
    rw [(idx1 t).1]; exact Nat.zero_add _
  · refine (Pipeline.Window.rect_emb_val win0_1 t (ix2 r s) 1 rfl).trans ?_
    rw [(idx1 t).2]; rfl

/-- A block of window 2. -/
theorem read2 (X : Vec Ideal S2048x4224 .bf16) (r : Fin 1024) (s : Fin 1408) :
    (((cfg0.win 2).blk t).view.read (Elt Ideal) X : Vec Ideal S1024x1408 .bf16) (ix2 r s) = X (ix2 (hi1024 t r) (lo1408 t s)) := by
  show X ((win0_2.rect t).emb (ix2 r s)) = _
  refine congrArg X ((ValueIdx.eq_ix2 _).trans (congrArg₂ ix2 (Fin.ext ?_) (Fin.ext ?_)))
  · refine (Pipeline.Window.rect_emb_val win0_2 t (ix2 r s) 0 rfl).trans ?_
    rw [(idx2 t).1]; rfl
  · refine (Pipeline.Window.rect_emb_val win0_2 t (ix2 r s) 1 rfl).trans ?_
    rw [(idx2 t).2]; rfl

/-- A zero offset. -/
theorem off2 : (![0, 0] : Fin 2 → Nat) = fun _ => 0 := by funext a; match a with | ⟨0, _⟩ => rfl | ⟨1, _⟩ => rfl

/-- What the body leaves of window 2 is the payload of the point's blocks. -/
theorem outs2_eq : (outsAt0 m c t) = k0_pay1 (F := Ideal) (iblk m c 0 t) (iblk m c 1 t) := by
  unfold outsAt0 out0_A_2
  dsimp only
  rw [View.read_writes_eq_canon _ _ _ (cover0_A_2 c _ _ _ _ _ _ _ _ _)]
  unfold kernelRun0_A
  dsimp only
  sl_unfold_words
  simp only [View.readAt_eq_ld, (hs0_0 t).read_unread, (hs0_1 t).read_unread]
  rw [View.canon_unit_zero off2]
  rw [View.ld_unit_zero off2, View.ld_unit_zero off2]

/-- What point `t` writes back of window 2 is its block of the whole result. -/
theorem flushed2_eq : (dats m 0 c).flushed 2 t = (((cfg0.win 2).blk t).view.read (Elt Ideal) (weight (m ((c : Thread nD τ).loc main_arg0)) (m ((c : Thread nD τ).loc main_arg1)))) := by
  refine (Value.flushed2 m c t).trans ((congrArg ((cfg0.win 2).cut (grid0.coords t)) (outs2_eq m c t)).trans ?_)
  show k0_pay1 (F := Ideal) (iblk m c 0 t) (iblk m c 1 t) = _
  funext y
  obtain ⟨r, s, rfl⟩ : ∃ (r : Fin 1024) (s : Fin 1408), y = ix2 r s := ⟨y 0, y 1, ValueIdx.eq_ix2 y⟩
  refine (pay_apply _ _ r s).trans ?_
  refine Eq.trans ?_ (read2 t _ r s).symm
  refine Finset.sum_congr rfl fun k _ => ?_
  have h0 : (iblk m c 0 t : Vec Ideal S1024x2176 .bf16) (ix2 r k) = m ((c : Thread nD τ).loc main_arg0) (ix2 k (hi1024 t r)) :=
    (read0 t (V m c main_v0) r k).trans ((congrFun (left_eq m c) _).trans (transpose_ix2_apply _ _ _ _))
  have h1 : (iblk m c 1 t : Vec Ideal S2176x1408 .bf16) (ix2 k s) = m ((c : Thread nD τ).loc main_arg1) (ix2 k (lo1408 t s)) :=
    (read1 t (V m c main_arg1) k s).trans (congrFun (V_main_arg1 m c) _)
  exact congrArg₂ (fun a b : EReal => a * b) h0 h1

/-- Every entry of window 2's array is in a block written back. -/
theorem cover2 (i : S2048x4224.Idx) : ∃ t : Fin cfg0.N, (cfg0.win 2).flush t = true ∧ i ∈ ((cfg0.win 2).blk t).view.set := by
  have b0 : (i 0).val < 2048 := (i 0).isLt
  have b1 : (i 1).val < 4224 := (i 1).isLt
  let t : Fin cfg0.N := ⟨(i 0).val / 1024 * 3 + (i 1).val / 1408, show _ < 6 by omega⟩
  have tv : t.val = (i 0).val / 1024 * 3 + (i 1).val / 1408 := rfl
  refine ⟨t, flush0_2 _, ?_⟩
  show i ∈ ((View.whole main_v2).slice (win0_2.rect t)).set
  rw [View.set_slice_whole, Rect.mem_set_unit]
  intro b
  match b with
  | ⟨0, _⟩ =>
    show win0_2.index t 0 * 1024 ≤ (i 0).val ∧ (i 0).val < win0_2.index t 0 * 1024 + win0_2.xsize (grid0.coords t) 0
    rw [(idx2 t).1, (size2 t).1]; omega
  | ⟨1, _⟩ =>
    show win0_2.index t 1 * 1408 ≤ (i 1).val ∧ (i 1).val < win0_2.index t 1 * 1408 + win0_2.xsize (grid0.coords t) 1
    rw [(idx2 t).2, (size2 t).2]; omega

/-- Window 2's array after the run. -/
theorem final2 : (dats m 0 c).arrAt 2 cfg0.N = weight (m ((c : Thread nD τ).loc main_arg0)) (m ((c : Thread nD τ).loc main_arg1)) :=
  (dats m 0 c).arrAt_eq_of_cover 2 _ (fun t _ => flushed2_eq m c t) cover2

end Cert.Kernel12Ideal.Array

namespace Cert.Reference12Ideal.Result

open Cert.Reference12Ideal Cert.Reference12Ideal.Gen Cert.Reference12Ideal.Read Cert.Linear

/-- The plain derivative is the same array. -/
theorem result (x0 : (⟨S2176x2048, .bf16⟩ : BufTy).Contents (Elt Ideal)) (x1 : (⟨S2176x4224, .bf16⟩ : BufTy).Contents (Elt Ideal)) :
    val_main_v6 (F := Ideal) x0 x1 = weight x0 x1 := by
  funext y
  obtain ⟨r, s, rfl⟩ : ∃ (r : Fin 2048) (s : Fin 4224), y = ix2 r s := ⟨y 0, y 1, ValueIdx.eq_ix2 y⟩
  rw [val_main_v6_apply, val_main_v5_apply]
  refine (val_main_v4_apply x0 x1 _).trans (Finset.sum_congr rfl fun k _ => ?_)
  have el : lidx_main_v4 (idx_main_v5 (ix2 r s)) k = ix2 k s := ValueIdx.eq_ix2 _
  have er : ridx_main_v4 (idx_main_v5 (ix2 r s)) k = ix2 k r := ValueIdx.eq_ix2 _
  rw [el, er]
  exact mul_comm (x1 (ix2 k s) : EReal) _

end Cert.Reference12Ideal.Result
-- ==== Proof.Values12.lean ====
/-
  The gradient of the input projection: the kernel's run and the plain program's run end with the same values.
-/
module

public import proofs.«01_k».proof.Defs
public import proofs.«01_k».proof.Proof.WeightIn
public import Idealize.ShloMosaic.Adequacy
public import Idealize.ShloMosaic.Init

@[expose] public section

noncomputable section

namespace Cert.Values12

open Idealize.ShloMosaic Idealize.SL.Sem

open Cert.Kernel12Ideal in
/-- The kernel's run: what its results hold, its arguments unchanged. -/
theorem kernel_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v2) = Cert.Linear.weight (m (c.tc.loc main_arg0)) (m (c.tc.loc main_arg1))
        ∧ r.2.mem (c.tc.loc main_arg0) = m (c.tc.loc main_arg0)
        ∧ r.2.mem (c.tc.loc main_arg1) = m (c.tc.loc main_arg1) :=
  (θ_run _ _ _).mono (fun _ h c => ⟨(h c).1.trans (Array.final2 m c), (h c).2⟩)
    (Value.run_blocks m g)

open Cert.Reference12Ideal in
/-- The plain program's run: its results hold the same, its arguments unchanged. -/
theorem reference_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v6) = Cert.Linear.weight (m (c.tc.loc main_arg0)) (m (c.tc.loc main_arg1))
        ∧ r.2.mem (c.tc.loc main_arg0) = m (c.tc.loc main_arg0)
        ∧ r.2.mem (c.tc.loc main_arg1) = m (c.tc.loc main_arg1) :=
  (θ_run _ _ _).mono (fun _ h c => ⟨(h c).1.trans ((Read.val_main_v6_eq _ _).trans (Result.result _ _)), (h c).2⟩)
    (Value.run m g)

/-- From equal arguments the two runs end with the same values. -/
theorem values : Cert.algebraic_Kernel12Ideal_Reference12Ideal
    (hKernel12Ideal := Cert.Kernel12Ideal.Gen.facts) (hReference12Ideal := Cert.Reference12Ideal.Gen.facts) := by
  intro m g m' g' _ hagree
  have e : ∀ c : Dev Cert.Kernel12Ideal.nD, Cert.Linear.weight (m' (c.tc.loc Cert.Reference12Ideal.main_arg0)) (m' (c.tc.loc Cert.Reference12Ideal.main_arg1)) = Cert.Linear.weight (m (c.tc.loc Cert.Kernel12Ideal.main_arg0)) (m (c.tc.loc Cert.Kernel12Ideal.main_arg1)) := fun c => by
    rw [(hagree c).1, (hagree c).2]
  exact ⟨_, kernel_run m g, (θ_run _ _ _).mono (fun _ h c => ⟨(h c).1.trans (e c), (h c).2⟩) (reference_run m' g')⟩

/-- The plain program writes none of its arguments and declares no semaphore. -/
theorem reference_frame : Cert.quiescent_Reference12Ideal (hReference12Ideal := Cert.Reference12Ideal.Gen.facts) :=
  fun m ρ _ => (θ_run Cert.Reference12Ideal.defs _ _).mono (fun r h => ⟨fun c => (h c).2, sem_eq_zero_of_no_sems (by decide) r.2⟩)
    (Cert.Reference12Ideal.Value.run (F := Ideal) m ρ)

end Cert.Values12
-- ==== Proof.InProjStep.lean ====
/-
  The gradient of the normalised rows before the mixers: one step of the sum over slabs.
-/
module

public import proofs.«01_k».proof.Proof.Linear
public import proofs.«01_k».proof.Proof.Gen.Kernel13Ideal.Value
public import proofs.«01_k».proof.Proof.Gen.Reference13Ideal.Run
public import proofs.«01_k».proof.Proof.Gen.Reference13Ideal.Read

@[expose] public section

set_option maxRecDepth 16384

noncomputable section

open Idealize.SL.Sem
open Idealize.ShloMosaic hiding ix0 ix1 ix2 ix3
open Idealize.ShloMosaic.ValueIdx
open scoped BigOperators

namespace Cert.Kernel13Ideal.Body

open Cert.Kernel13Ideal Cert.Kernel13Ideal.Gen Idealize.ShloMosaic.TcCoe

/-- One point's step: the slab's product is added to what is there. -/
def step (a : Vec Ideal S2176x512 .f32) (x0 : Vec Ideal S2176x1408 .bf16) (x1 : Vec Ideal S512x1408 .bf16) : Vec Ideal S2176x512 .f32 :=
  k0_pay2 (F := Ideal) a x0 x1

/-- The step at an index. -/
theorem step_apply (a : Vec Ideal S2176x512 .f32) (x0 : Vec Ideal S2176x1408 .bf16) (x1 : Vec Ideal S512x1408 .bf16) (r : Fin 2176) (s : Fin 512) :
    step a x0 x1 (ix2 r s) = (a (ix2 r s) + ∑ k : Fin 1408, x0 (ix2 r k) * x1 (ix2 s k) : EReal) := by
  unfold step k0_pay2
  simp only [shapeCast_self]
  exact congrArg (fun y : EReal => (a (ix2 r s) : EReal) + y) (Product.rows_apply (φ := .bf16) x0 x1 r s)

/-- The sum starts at zero. -/
theorem start_apply (y : S2176x512.Idx) : k0_pay1 (F := Ideal) y = (0 : EReal) := by
  unfold k0_pay1
  rw [shapeCast_self]
  exact Ideal.ofBits_zero_f32

variable (c : Dev nD) (i : grid0.Coords) (arg2 : Memref sig .tc .vmem S2176x1408 .bf16) (harg2 : arg2.IsWhole) (arg3 : Memref sig .tc .vmem S512x1408 .bf16) (harg3 : arg3.IsWhole) (arg5 : Memref sig .tc .vmem S2176x512 .f32) (harg5 : arg5.IsWhole) (arg6 : Memref sig .tc .vmem S2176x512 .f32) (harg6 : arg6.IsWhole)
  (x0 : Vec Ideal S2176x1408 .bf16) (x1 : Vec Ideal S512x1408 .bf16) (xs0 : Vec Ideal S2176x512 .f32)

/-- No offset. -/
theorem off2 : (![0, 0] : Fin 2 → ℕ) = fun _ => 0 := by
  funext a; match a with | ⟨0, _⟩ => rfl | ⟨1, _⟩ => rfl

/-- The first slab starts the sum. -/
theorem soutA (hc0 : cond0_0 i) (hc1 : ¬cond0_1 i) :
    sout0_A_0 c i arg2 harg2 arg3 harg3 arg5 harg5 arg6 harg6 hc0 hc1 x0 x1 = step (k0_pay1 (F := Ideal)) x0 x1 := by
  unfold sout0_A_0
  rw [View.read_writes_eq_canon _ _ _ (scover0_A_0 c i arg2 harg2 arg3 harg3 arg5 harg5 arg6 harg6 hc0 hc1 x0 x1)]
  unfold kernelRun0_A
  dsimp only
  sl_unfold_words
  simp only [View.readAt_eq_ld, harg2.read_unread, harg3.read_unread]
  rw [View.canon_cons_unit_zero off2]
  simp only [Product.readCov_last (S := S2176x512) _ off2 off2]
  rw [View.ld_unit_zero off2, View.ld_unit_zero off2]
  rfl

/-- A middle slab goes on with the sum. -/
theorem soutB (hc0 : ¬cond0_0 i) (hc1 : ¬cond0_1 i) :
    sout0_B_0 c i arg2 harg2 arg3 harg3 arg5 harg5 arg6 harg6 hc0 hc1 x0 x1 xs0 = step xs0 x0 x1 := by
  unfold sout0_B_0
  rw [View.read_writes_eq_canon _ _ _ (scover0_B_0 c i arg2 harg2 arg3 harg3 arg5 harg5 arg6 harg6 hc0 hc1 x0 x1 xs0)]
  unfold kernelRun0_B
  dsimp only
  sl_unfold_words
  simp only [View.readAt_eq_ld, harg2.read_unread, harg3.read_unread, harg6.read_unread]
  rw [View.canon_unit_zero off2]
  rw [View.ld_unit_zero off2, View.ld_unit_zero off2, View.ld_unit_zero off2]
  rfl

/-- The last slab's sum is the output. -/
theorem outC (hc0 : ¬cond0_0 i) (hc1 : cond0_1 i) :
    out0_C_2 c i arg2 harg2 arg3 harg3 arg5 harg5 arg6 harg6 hc0 hc1 x0 x1 xs0 = step xs0 x0 x1 := by
  unfold out0_C_2
  rw [View.read_writes_eq_canon _ _ _ (cover0_C_2 c i arg2 harg2 arg3 harg3 arg5 harg5 arg6 harg6 hc0 hc1 x0 x1 xs0)]
  unfold kernelRun0_C
  dsimp only
  sl_unfold_words
  simp only [View.readAt_eq_ld, harg2.read_unread, harg3.read_unread, harg6.read_unread]
  rw [View.canon_cons_unit_zero off2]
  simp only [Product.readCov_last (S := S2176x512) _ off2 off2]
  rw [View.ld_unit_zero off2, View.ld_unit_zero off2, View.ld_unit_zero off2]
  rfl

end Cert.Kernel13Ideal.Body
-- ==== Proof.InProjBack.lean ====
/-
  The gradient of the normalised rows before the mixers: the blocks, the three steps of a block of the result, and the
  whole result.
-/
module

public import proofs.«01_k».proof.Proof.InProjStep

@[expose] public section

set_option maxRecDepth 16384

noncomputable section

open Idealize.SL.Sem
open Idealize.ShloMosaic hiding ix0 ix1 ix2 ix3
open Idealize.ShloMosaic.ValueIdx
open scoped BigOperators

namespace Cert.InProjBack

/-- Column `s` of slab `q`. -/
def col (q : Fin 3) (s : Fin 1408) : Fin 4224 := ⟨q.val * 1408 + s.val, by omega⟩

/-- Row `s` of block `j`. -/
def row (j : Fin 4) (s : Fin 512) : Fin 2048 := ⟨j.val * 512 + s.val, by omega⟩

end Cert.InProjBack

namespace Cert.Kernel13Ideal.Array

open Cert.Kernel13Ideal Cert.Kernel13Ideal.Gen Cert.Kernel13Ideal.Body Cert.InProjBack Cert.Linear Idealize.ShloMosaic.TcCoe

variable (m : (ℓ : Loc nD τ sig) → Buf (Elt Ideal) ℓ) (c : Dev nD)

/-- The cotangents' block coordinates. -/
theorem idx0 : ∀ t : Fin cfg0.N, win0_0.index t 0 = 0 ∧ win0_0.index t 1 = t.val % 3 :=
  (by decide +kernel : ∀ t : Fin grid0.N, win0_0.index t 0 = 0 ∧ win0_0.index t 1 = t.val % 3)

/-- The weight's block coordinates. -/
theorem idx1 : ∀ t : Fin cfg0.N, win0_1.index t 0 = t.val / 3 ∧ win0_1.index t 1 = t.val % 3 :=
  (by decide +kernel : ∀ t : Fin grid0.N, win0_1.index t 0 = t.val / 3 ∧ win0_1.index t 1 = t.val % 3)

/-- The result's block coordinates. -/
theorem idx2 : ∀ t : Fin cfg0.N, win0_2.index t 0 = 0 ∧ win0_2.index t 1 = t.val / 3 :=
  (by decide +kernel : ∀ t : Fin grid0.N, win0_2.index t 0 = 0 ∧ win0_2.index t 1 = t.val / 3)

/-- No block of the result is cut short. -/
theorem size2 : ∀ t : Fin cfg0.N, win0_2.xsize (grid0.coords t) 0 = 2176 ∧ win0_2.xsize (grid0.coords t) 1 = 512 :=
  (by decide +kernel : ∀ t : Fin grid0.N, win0_2.xsize (grid0.coords t) 0 = 2176 ∧ win0_2.xsize (grid0.coords t) 1 = 512)

/-- There are twelve points. -/
theorem lt12 (t : Fin cfg0.N) : t.val < 12 := t.isLt

/-- The point of block `j` and slab `k`. -/
def pt (j : Fin 4) (k : Fin 3) : Fin cfg0.N := ⟨j.val * 3 + k.val, show _ < 12 by omega⟩

/-- Its slab. -/
theorem pt_mod (j : Fin 4) (k : Fin 3) : (pt j k).val % 3 = k.val := by show (j.val * 3 + k.val) % 3 = k.val; omega

/-- Its block. -/
theorem pt_div (j : Fin 4) (k : Fin 3) : (pt j k).val / 3 = j.val := by show (j.val * 3 + k.val) / 3 = j.val; omega

variable (j : Fin 4) (k : Fin 3)

/-- A block of the cotangents. -/
theorem read0 (X : Vec Ideal S2176x4224 .bf16) (r : Fin 2176) (q : Fin 1408) :
    (((cfg0.win 0).blk (pt j k)).view.read (Elt Ideal) X : Vec Ideal S2176x1408 .bf16) (ix2 r q) = X (ix2 r (col k q)) := by
  show X ((win0_0.rect (pt j k)).emb (ix2 r q)) = _
  refine congrArg X ((ValueIdx.eq_ix2 _).trans (congrArg₂ ix2 (Fin.ext ?_) (Fin.ext ?_)))
  · refine (Pipeline.Window.rect_emb_val win0_0 (pt j k) (ix2 r q) 0 rfl).trans ?_
    rw [(idx0 _).1]; exact Nat.zero_add _
  · refine (Pipeline.Window.rect_emb_val win0_0 (pt j k) (ix2 r q) 1 rfl).trans ?_
    rw [(idx0 _).2, pt_mod]; rfl

/-- A block of the weight. -/
theorem read1 (X : Vec Ideal S2048x4224 .bf16) (s : Fin 512) (q : Fin 1408) :
    (((cfg0.win 1).blk (pt j k)).view.read (Elt Ideal) X : Vec Ideal S512x1408 .bf16) (ix2 s q) = X (ix2 (row j s) (col k q)) := by
  show X ((win0_1.rect (pt j k)).emb (ix2 s q)) = _
  refine congrArg X ((ValueIdx.eq_ix2 _).trans (congrArg₂ ix2 (Fin.ext ?_) (Fin.ext ?_)))
  · refine (Pipeline.Window.rect_emb_val win0_1 (pt j k) (ix2 s q) 0 rfl).trans ?_
    rw [(idx1 _).1, pt_div]; rfl
  · refine (Pipeline.Window.rect_emb_val win0_1 (pt j k) (ix2 s q) 1 rfl).trans ?_
    rw [(idx1 _).2, pt_mod]; rfl

/-- A block of the result. -/
theorem read2 (X : Vec Ideal S2176x2048 .f32) (r : Fin 2176) (s : Fin 512) :
    (((cfg0.win 2).blk (pt j k)).view.read (Elt Ideal) X : Vec Ideal S2176x512 .f32) (ix2 r s) = X (ix2 r (row j s)) := by
  show X ((win0_2.rect (pt j k)).emb (ix2 r s)) = _
  refine congrArg X ((ValueIdx.eq_ix2 _).trans (congrArg₂ ix2 (Fin.ext ?_) (Fin.ext ?_)))
  · refine (Pipeline.Window.rect_emb_val win0_2 (pt j k) (ix2 r s) 0 rfl).trans ?_
    rw [(idx2 _).1]; exact Nat.zero_add _
  · refine (Pipeline.Window.rect_emb_val win0_2 (pt j k) (ix2 r s) 1 rfl).trans ?_
    rw [(idx2 _).2, pt_div]; rfl

/-- The step of point `t` on a sum. -/
def next (t : Fin cfg0.N) (a : Vec Ideal S2176x512 .f32) : Vec Ideal S2176x512 .f32 :=
  step a (iblk m c 0 t) (iblk m c 1 t)

/-- What slab `k` adds of a product. -/
def slab (x : Vec Ideal S2176x4224 .bf16) (w : Vec Ideal S2048x4224 .bf16) (j : Fin 4) (k : Fin 3) (r : Fin 2176) (s : Fin 512) : EReal :=
  ∑ q : Fin 1408, (x (ix2 r (col k q)) * w (ix2 (row j s) (col k q)) : EReal)

/-- The three slabs are the whole product. -/
theorem slab_sum (x : Vec Ideal S2176x4224 .bf16) (w : Vec Ideal S2048x4224 .bf16) (j : Fin 4) (r : Fin 2176) (s : Fin 512) :
    slab x w j 0 r s + slab x w j 1 r s + slab x w j 2 r s = ∑ k : Fin 4224, (x (ix2 r k) * w (ix2 (row j s) k) : EReal) :=
  (Fin.sum_univ_three (fun k => slab x w j k r s)).symm.trans
    (Product.slabs (by decide : 3 * 1408 = 4224) (fun k => (x (ix2 r k) * w (ix2 (row j s) k) : EReal)) col (fun _ _ => rfl))

/-- What slab `k` adds of the arguments' product. -/
def part (k : Fin 3) (r : Fin 2176) (s : Fin 512) : EReal := slab (m ((c : Thread nD τ).loc main_arg0)) (m ((c : Thread nD τ).loc main_arg1)) j k r s

/-- A step at an index, from the arguments. -/
theorem next_apply (a : Vec Ideal S2176x512 .f32) (r : Fin 2176) (s : Fin 512) :
    next m c (pt j k) a (ix2 r s) = (a (ix2 r s) + part m c j k r s : EReal) := by
  unfold next
  refine (step_apply _ _ _ r s).trans ?_
  refine congrArg (fun y : EReal => (a (ix2 r s) : EReal) + y) ?_
  exact Finset.sum_congr rfl fun q _ => congrArg₂ (fun a b : EReal => a * b)
    ((read0 j k (V m c main_arg0) r q).trans (congrFun (V_main_arg0 m c) _))
    ((read1 j k (V m c main_arg1) s q).trans (congrFun (V_main_arg1 m c) _))

/-- The sum after the first slab. -/
theorem sum_first (t : Fin cfg0.N) (h : t.val % 3 = 0) : (outsAt0 m c t.val t.isLt).2 = next m c t (k0_pay1 (F := Ideal)) := by
  have h1 : ¬t.val % 3 = 2 := by omega
  rw [outsAt0_A m c t h h1]
  dsimp only
  rw [soutA]
  rfl

/-- The sum after a middle slab. -/
theorem sum_middle (t : Fin cfg0.N) (h0 : ¬t.val % 3 = 0) (h1 : ¬t.val % 3 = 2) :
    (outsAt0 m c t.val t.isLt).2 = next m c t (outsAt0 m c (t.val - 1) (Nat.lt_of_le_of_lt (Nat.sub_le _ _) t.isLt)).2 := by
  rw [outsAt0_B m c t h0 h1]
  dsimp only
  rw [soutB]
  rfl

/-- The output after the last slab. -/
theorem out_last (t : Fin cfg0.N) (h1 : t.val % 3 = 2) :
    (outsAt0 m c t.val t.isLt).1 = next m c t (outsAt0 m c (t.val - 1) (Nat.lt_of_le_of_lt (Nat.sub_le _ _) t.isLt)).2 := by
  have h0 : ¬t.val % 3 = 0 := by omega
  rw [outsAt0_C m c t h0 h1]
  dsimp only
  rw [outC]
  rfl

/-- The output of a block is its three steps. -/
theorem out_eq : (outsAt0 m c (pt j 2).val (pt j 2).isLt).1 = next m c (pt j 2) (next m c (pt j 1) (next m c (pt j 0) (k0_pay1 (F := Ideal)))) := by
  rw [out_last m c (pt j 2) (pt_mod j 2)]
  refine congrArg (next m c (pt j 2)) ?_
  have n0 : ¬(pt j 1).val % 3 = 0 := by rw [pt_mod]; decide
  have n2 : ¬(pt j 1).val % 3 = 2 := by rw [pt_mod]; decide
  refine (sum_middle m c (pt j 1) n0 n2).trans ?_
  refine congrArg (next m c (pt j 1)) ?_
  exact sum_first m c (pt j 0) (pt_mod j 0)

/-- The three steps come to the whole product. -/
theorem out_apply (r : Fin 2176) (s : Fin 512) : (outsAt0 m c (pt j 2).val (pt j 2).isLt).1 (ix2 r s) = back (m ((c : Thread nD τ).loc main_arg0)) (m ((c : Thread nD τ).loc main_arg1)) (ix2 r (row j s)) := by
  rw [out_eq, next_apply, next_apply, next_apply, start_apply, zero_add]
  exact slab_sum (m ((c : Thread nD τ).loc main_arg0)) (m ((c : Thread nD τ).loc main_arg1)) j r s

/-- What a point that writes back writes is its block of the gradient. -/
theorem flushed_eq (t : Fin cfg0.N) (hf : (cfg0.win 2).flush t = true) : (dats m 0 c).flushed 2 t
    = (((cfg0.win 2).blk t).view.read (Elt Ideal) (back (m ((c : Thread nD τ).loc main_arg0)) (m ((c : Thread nD τ).loc main_arg1)))) := by
  have h2 := (flush0_2 t).mp hf
  have ht := lt12 t
  obtain ⟨j, rfl⟩ : ∃ j : Fin 4, t = pt j 2 := ⟨⟨t.val / 3, by omega⟩, Fin.ext (by show t.val = t.val / 3 * 3 + 2; omega)⟩
  refine (Value.flushed2 m c (pt j 2)).trans ?_
  show (outsAt0 m c (pt j 2).val (pt j 2).isLt).1 = _
  funext y
  obtain ⟨r, s, rfl⟩ : ∃ (r : Fin 2176) (s : Fin 512), y = ix2 r s := ⟨y 0, y 1, ValueIdx.eq_ix2 y⟩
  exact (out_apply m c j r s).trans (read2 j 2 _ r s).symm

/-- Every entry of the result is in a block written back. -/
theorem cover (i : S2176x2048.Idx) : ∃ t : Fin cfg0.N, (cfg0.win 2).flush t = true ∧ i ∈ ((cfg0.win 2).blk t).view.set := by
  have b0 : (i 0).val < 2176 := (i 0).isLt
  have b1 : (i 1).val < 2048 := (i 1).isLt
  let j : Fin 4 := ⟨(i 1).val / 512, by omega⟩
  have jv : j.val = (i 1).val / 512 := rfl
  refine ⟨pt j 2, (flush0_2 _).mpr (pt_mod j 2), ?_⟩
  show i ∈ ((View.whole main_v1).slice (win0_2.rect (pt j 2))).set
  rw [View.set_slice_whole, Rect.mem_set_unit]
  intro b
  match b with
  | ⟨0, _⟩ =>
    show win0_2.index (pt j 2) 0 * 2176 ≤ (i 0).val ∧ (i 0).val < win0_2.index (pt j 2) 0 * 2176 + win0_2.xsize (grid0.coords (pt j 2)) 0
    rw [(idx2 _).1, (size2 _).1]; omega
  | ⟨1, _⟩ =>
    show win0_2.index (pt j 2) 1 * 512 ≤ (i 1).val ∧ (i 1).val < win0_2.index (pt j 2) 1 * 512 + win0_2.xsize (grid0.coords (pt j 2)) 1
    rw [(idx2 _).2, (size2 _).2, pt_div]; omega

/-- The result's array after the run. -/
theorem final : (dats m 0 c).arrAt 2 cfg0.N = back (m ((c : Thread nD τ).loc main_arg0)) (m ((c : Thread nD τ).loc main_arg1)) :=
  (dats m 0 c).arrAt_eq_of_cover 2 _ (fun t hf => flushed_eq m c t hf) cover

end Cert.Kernel13Ideal.Array

namespace Cert.Reference13Ideal.Result

open Cert.Reference13Ideal Cert.Reference13Ideal.Gen Cert.Reference13Ideal.Read Cert.Linear

/-- The plain derivative's result is the same array. -/
theorem result (x0 : (⟨S2176x4224, .bf16⟩ : BufTy).Contents (Elt Ideal)) (x1 : (⟨S2048x4224, .bf16⟩ : BufTy).Contents (Elt Ideal)) :
    val_main_v4 (F := Ideal) x0 x1 = back x0 x1 := by
  funext y
  obtain ⟨r, s, rfl⟩ : ∃ (r : Fin 2176) (s : Fin 2048), y = ix2 r s := ⟨y 0, y 1, ValueIdx.eq_ix2 y⟩
  refine (val_main_v4_apply x0 x1 _).trans ?_
  unfold back
  refine Finset.sum_congr rfl fun k _ => ?_
  have el : lidx_main_v4 (ix2 r s) k = ix2 r k := ValueIdx.eq_ix2 _
  have er : ridx_main_v4 (ix2 r s) k = ix2 s k := ValueIdx.eq_ix2 _
  rw [el, er]
  rfl

end Cert.Reference13Ideal.Result
-- ==== Proof.Values13.lean ====
/-
  The gradient of the normalised rows before the mixers: the kernel's run and the plain program's run end with the same values.
-/
module

public import proofs.«01_k».proof.Defs
public import proofs.«01_k».proof.Proof.InProjBack
public import Idealize.ShloMosaic.Adequacy
public import Idealize.ShloMosaic.Init

@[expose] public section

noncomputable section

namespace Cert.Values13

open Idealize.ShloMosaic Idealize.SL.Sem

open Cert.Kernel13Ideal in
/-- The kernel's run: what its results hold, its arguments unchanged. -/
theorem kernel_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v1) = Cert.Linear.back (m (c.tc.loc main_arg0)) (m (c.tc.loc main_arg1))
        ∧ r.2.mem (c.tc.loc main_arg0) = m (c.tc.loc main_arg0)
        ∧ r.2.mem (c.tc.loc main_arg1) = m (c.tc.loc main_arg1) :=
  (θ_run _ _ _).mono (fun _ h c => ⟨(h c).1.trans (Array.final m c), (h c).2⟩)
    (Value.run_blocks m g)

open Cert.Reference13Ideal in
/-- The plain program's run: its results hold the same, its arguments unchanged. -/
theorem reference_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v4) = Cert.Linear.back (m (c.tc.loc main_arg0)) (m (c.tc.loc main_arg1))
        ∧ r.2.mem (c.tc.loc main_arg0) = m (c.tc.loc main_arg0)
        ∧ r.2.mem (c.tc.loc main_arg1) = m (c.tc.loc main_arg1) :=
  (θ_run _ _ _).mono (fun _ h c => ⟨(h c).1.trans ((Read.val_main_v4_eq _ _).trans (Result.result _ _)), (h c).2⟩)
    (Value.run m g)

/-- From equal arguments the two runs end with the same values. -/
theorem values : Cert.algebraic_Kernel13Ideal_Reference13Ideal
    (hKernel13Ideal := Cert.Kernel13Ideal.Gen.facts) (hReference13Ideal := Cert.Reference13Ideal.Gen.facts) := by
  intro m g m' g' _ hagree
  have e : ∀ c : Dev Cert.Kernel13Ideal.nD, Cert.Linear.back (m' (c.tc.loc Cert.Reference13Ideal.main_arg0)) (m' (c.tc.loc Cert.Reference13Ideal.main_arg1)) = Cert.Linear.back (m (c.tc.loc Cert.Kernel13Ideal.main_arg0)) (m (c.tc.loc Cert.Kernel13Ideal.main_arg1)) := fun c => by
    rw [(hagree c).1, (hagree c).2]
  exact ⟨_, kernel_run m g, (θ_run _ _ _).mono (fun _ h c => ⟨(h c).1.trans (e c), (h c).2⟩) (reference_run m' g')⟩

/-- The plain program writes none of its arguments and declares no semaphore. -/
theorem reference_frame : Cert.quiescent_Reference13Ideal (hReference13Ideal := Cert.Reference13Ideal.Gen.facts) :=
  fun m ρ _ => (θ_run Cert.Reference13Ideal.defs _ _).mono (fun r h => ⟨fun c => (h c).2, sem_eq_zero_of_no_sems (by decide) r.2⟩)
    (Cert.Reference13Ideal.Value.run (F := Ideal) m ρ)

end Cert.Values13
-- ==== Proof.InProj.lean ====
/-
  The input projection: the kernel's column blocks are those of the whole product.
-/
module

public import proofs.«01_k».proof.Proof.Linear
public import proofs.«01_k».proof.Proof.Gen.Kernel14Ideal.Value
public import proofs.«01_k».proof.Proof.Gen.Reference14Ideal.Run
public import proofs.«01_k».proof.Proof.Gen.Reference14Ideal.Read
public import Idealize.ShloMosaic.Lib.IdealHost

@[expose] public section

set_option maxRecDepth 16384

noncomputable section

open Idealize.SL.Sem
open Idealize.ShloMosaic hiding ix0 ix1 ix2 ix3
open Idealize.ShloMosaic.ValueIdx
open scoped BigOperators

namespace Cert.Kernel14Ideal.Array

open Cert.Kernel14Ideal Cert.Kernel14Ideal.Gen Cert.Linear Idealize.ShloMosaic.TcCoe

/-- What the body stores, at an index of its block. -/
theorem pay_apply (x : Vec Ideal S2176x2048 .bf16) (y : Vec Ideal S2048x384 .bf16) (r : Fin 2176) (s : Fin 384) :
    k0_pay1 (F := Ideal) x y (ix2 r s) = (∑ k : Fin 2048, (x (ix2 r k) * y (ix2 k s) : EReal)) := by
  unfold k0_pay1
  exact Product.plain_apply (φ := .bf16) x y r s

variable (m : (ℓ : Loc nD τ sig) → Buf (Elt Ideal) ℓ) (c : Dev nD) (t : Fin cfg0.N)

/-- The block coordinates of window 0. -/
theorem idx0 : ∀ t : Fin cfg0.N, win0_0.index t 0 = 0 ∧ win0_0.index t 1 = 0 :=
  (by decide +kernel : ∀ t : Fin grid0.N, win0_0.index t 0 = 0 ∧ win0_0.index t 1 = 0)

/-- The block coordinates of window 1. -/
theorem idx1 : ∀ t : Fin cfg0.N, win0_1.index t 0 = 0 ∧ win0_1.index t 1 = t.val :=
  (by decide +kernel : ∀ t : Fin grid0.N, win0_1.index t 0 = 0 ∧ win0_1.index t 1 = t.val)

/-- The block coordinates of window 2. -/
theorem idx2 : ∀ t : Fin cfg0.N, win0_2.index t 0 = 0 ∧ win0_2.index t 1 = t.val :=
  (by decide +kernel : ∀ t : Fin grid0.N, win0_2.index t 0 = 0 ∧ win0_2.index t 1 = t.val)

/-- No block of window 2 is cut short. -/
theorem size2 : ∀ t : Fin cfg0.N, win0_2.xsize (grid0.coords t) 0 = 2176 ∧ win0_2.xsize (grid0.coords t) 1 = 384 :=
  (by decide +kernel : ∀ t : Fin grid0.N, win0_2.xsize (grid0.coords t) 0 = 2176 ∧ win0_2.xsize (grid0.coords t) 1 = 384)

/-- There are 11 points. -/
theorem points : t.val < 11 := t.isLt

/-- The array's coordinate of a block's coordinate at point `t`. -/
def step384 (s : Fin 384) : Fin 4224 := ⟨t.val * 384 + s.val, by have := points t; omega⟩

/-- A block of window 0. -/
theorem read0 (X : Vec Ideal S2176x2048 .bf16) (r : Fin 2176) (s : Fin 2048) :
    (((cfg0.win 0).blk t).view.read (Elt Ideal) X : Vec Ideal S2176x2048 .bf16) (ix2 r s) = X (ix2 r s) := by
  show X ((win0_0.rect t).emb (ix2 r s)) = _
  refine congrArg X ((ValueIdx.eq_ix2 _).trans (congrArg₂ ix2 (Fin.ext ?_) (Fin.ext ?_)))
  · refine (Pipeline.Window.rect_emb_val win0_0 t (ix2 r s) 0 rfl).trans ?_
    rw [(idx0 t).1]; exact Nat.zero_add _
  · refine (Pipeline.Window.rect_emb_val win0_0 t (ix2 r s) 1 rfl).trans ?_
    rw [(idx0 t).2]; exact Nat.zero_add _

/-- A block of window 1. -/
theorem read1 (X : Vec Ideal S2048x4224 .bf16) (r : Fin 2048) (s : Fin 384) :
    (((cfg0.win 1).blk t).view.read (Elt Ideal) X : Vec Ideal S2048x384 .bf16) (ix2 r s) = X (ix2 r (step384 t s)) := by
  show X ((win0_1.rect t).emb (ix2 r s)) = _
  refine congrArg X ((ValueIdx.eq_ix2 _).trans (congrArg₂ ix2 (Fin.ext ?_) (Fin.ext ?_)))
  · refine (Pipeline.Window.rect_emb_val win0_1 t (ix2 r s) 0 rfl).trans ?_
    rw [(idx1 t).1]; exact Nat.zero_add _
  · refine (Pipeline.Window.rect_emb_val win0_1 t (ix2 r s) 1 rfl).trans ?_
    rw [(idx1 t).2]; rfl

/-- A block of window 2. -/
theorem read2 (X : Vec Ideal S2176x4224 .f32) (r : Fin 2176) (s : Fin 384) :
    (((cfg0.win 2).blk t).view.read (Elt Ideal) X : Vec Ideal S2176x384 .f32) (ix2 r s) = X (ix2 r (step384 t s)) := by
  show X ((win0_2.rect t).emb (ix2 r s)) = _
  refine congrArg X ((ValueIdx.eq_ix2 _).trans (congrArg₂ ix2 (Fin.ext ?_) (Fin.ext ?_)))
  · refine (Pipeline.Window.rect_emb_val win0_2 t (ix2 r s) 0 rfl).trans ?_
    rw [(idx2 t).1]; exact Nat.zero_add _
  · refine (Pipeline.Window.rect_emb_val win0_2 t (ix2 r s) 1 rfl).trans ?_
    rw [(idx2 t).2]; rfl

/-- A zero offset. -/
theorem off2 : (![0, 0] : Fin 2 → Nat) = fun _ => 0 := by funext a; match a with | ⟨0, _⟩ => rfl | ⟨1, _⟩ => rfl

/-- What the body leaves of window 2 is the payload of the point's blocks. -/
theorem outs2_eq : out0_2 (iblk m c 0 t) (iblk m c 1 t) = k0_pay1 (F := Ideal) (iblk m c 0 t) (iblk m c 1 t) := by
  unfold out0_2
  rw [View.canon_unit_zero off2]
  rw [View.ld_unit_zero off2, View.ld_unit_zero off2]

/-- What point `t` writes back of window 2 is its block of the whole result. -/
theorem flushed2_eq : (dats m 0 c).flushed 2 t = (((cfg0.win 2).blk t).view.read (Elt Ideal) (prod (m ((c : Thread nD τ).loc main_arg0)) (m ((c : Thread nD τ).loc main_arg1)))) := by
  refine (Value.flushed2 m c t).trans ((congrArg ((cfg0.win 2).cut (grid0.coords t)) (outs2_eq m c t)).trans ?_)
  show k0_pay1 (F := Ideal) (iblk m c 0 t) (iblk m c 1 t) = _
  funext y
  obtain ⟨r, s, rfl⟩ : ∃ (r : Fin 2176) (s : Fin 384), y = ix2 r s := ⟨y 0, y 1, ValueIdx.eq_ix2 y⟩
  refine (pay_apply _ _ r s).trans ?_
  refine Eq.trans ?_ (read2 t _ r s).symm
  unfold prod entry
  refine Finset.sum_congr rfl fun k _ => ?_
  have h0 : (iblk m c 0 t : Vec Ideal S2176x2048 .bf16) (ix2 r k) = m ((c : Thread nD τ).loc main_arg0) (ix2 r k) :=
    (read0 t (V m c main_arg0) r k).trans (congrFun (V_main_arg0 m c) _)
  have h1 : (iblk m c 1 t : Vec Ideal S2048x384 .bf16) (ix2 k s) = m ((c : Thread nD τ).loc main_arg1) (ix2 k (step384 t s)) :=
    (read1 t (V m c main_arg1) k s).trans (congrFun (V_main_arg1 m c) _)
  exact congrArg₂ (fun a b : EReal => a * b) h0 h1

/-- Every entry of window 2's array is in a block written back. -/
theorem cover2 (i : S2176x4224.Idx) : ∃ t : Fin cfg0.N, (cfg0.win 2).flush t = true ∧ i ∈ ((cfg0.win 2).blk t).view.set := by
  have b0 : (i 0).val < 2176 := (i 0).isLt
  have b1 : (i 1).val < 4224 := (i 1).isLt
  let t : Fin cfg0.N := ⟨(i 1).val / 384, show _ < 11 by omega⟩
  have tv : t.val = (i 1).val / 384 := rfl
  refine ⟨t, flush0_2 _, ?_⟩
  show i ∈ ((View.whole main_v0).slice (win0_2.rect t)).set
  rw [View.set_slice_whole, Rect.mem_set_unit]
  intro b
  match b with
  | ⟨0, _⟩ =>
    show win0_2.index t 0 * 2176 ≤ (i 0).val ∧ (i 0).val < win0_2.index t 0 * 2176 + win0_2.xsize (grid0.coords t) 0
    rw [(idx2 t).1, (size2 t).1]; omega
  | ⟨1, _⟩ =>
    show win0_2.index t 1 * 384 ≤ (i 1).val ∧ (i 1).val < win0_2.index t 1 * 384 + win0_2.xsize (grid0.coords t) 1
    rw [(idx2 t).2, (size2 t).2]; omega

/-- Window 2's array after the run. -/
theorem final2 : (dats m 0 c).arrAt 2 cfg0.N = prod (m ((c : Thread nD τ).loc main_arg0)) (m ((c : Thread nD τ).loc main_arg1)) :=
  (dats m 0 c).arrAt_eq_of_cover 2 _ (fun t _ => flushed2_eq m c t) cover2

end Cert.Kernel14Ideal.Array

namespace Cert.Reference14Ideal.Result

open Cert.Reference14Ideal Cert.Reference14Ideal.Gen Cert.Reference14Ideal.Read Cert.Linear

/-- The plain product is the same array. -/
theorem result (x0 : (⟨S2176x2048, .bf16⟩ : BufTy).Contents (Elt Ideal)) (x1 : (⟨S2048x4224, .bf16⟩ : BufTy).Contents (Elt Ideal)) :
    val_main_v2 (F := Ideal) x0 x1 = prod x0 x1 := by
  funext y
  obtain ⟨r, s, rfl⟩ : ∃ (r : Fin 2176) (s : Fin 4224), y = ix2 r s := ⟨y 0, y 1, ValueIdx.eq_ix2 y⟩
  refine (val_main_v2_apply x0 x1 _).trans ?_
  unfold prod entry
  refine Finset.sum_congr rfl fun k _ => ?_
  have el : lidx_main_v2 (ix2 r s) k = ix2 r k := ValueIdx.eq_ix2 _
  have er : ridx_main_v2 (ix2 r s) k = ix2 k s := ValueIdx.eq_ix2 _
  rw [el, er]
  rfl

end Cert.Reference14Ideal.Result
-- ==== Proof.Values14.lean ====
/-
  The input projection: the kernel's run and the plain program's run end with the same values.
-/
module

public import proofs.«01_k».proof.Defs
public import proofs.«01_k».proof.Proof.InProj
public import Idealize.ShloMosaic.Adequacy
public import Idealize.ShloMosaic.Init

@[expose] public section

noncomputable section

namespace Cert.Values14

open Idealize.ShloMosaic Idealize.SL.Sem

open Cert.Kernel14Ideal in
/-- The kernel's run: what its results hold, its arguments unchanged. -/
theorem kernel_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v0) = Cert.Linear.prod (m (c.tc.loc main_arg0)) (m (c.tc.loc main_arg1))
        ∧ r.2.mem (c.tc.loc main_arg0) = m (c.tc.loc main_arg0)
        ∧ r.2.mem (c.tc.loc main_arg1) = m (c.tc.loc main_arg1) :=
  (θ_run _ _ _).mono (fun _ h c => ⟨(h c).1.trans (Array.final2 m c), (h c).2⟩)
    (Value.run_blocks m g)

open Cert.Reference14Ideal in
/-- The plain program's run: its results hold the same, its arguments unchanged. -/
theorem reference_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v2) = Cert.Linear.prod (m (c.tc.loc main_arg0)) (m (c.tc.loc main_arg1))
        ∧ r.2.mem (c.tc.loc main_arg0) = m (c.tc.loc main_arg0)
        ∧ r.2.mem (c.tc.loc main_arg1) = m (c.tc.loc main_arg1) :=
  (θ_run _ _ _).mono (fun _ h c => ⟨(h c).1.trans ((Read.val_main_v2_eq _ _).trans (Result.result _ _)), (h c).2⟩)
    (Value.run m g)

/-- From equal arguments the two runs end with the same values. -/
theorem values : Cert.algebraic_Kernel14Ideal_Reference14Ideal
    (hKernel14Ideal := Cert.Kernel14Ideal.Gen.facts) (hReference14Ideal := Cert.Reference14Ideal.Gen.facts) := by
  intro m g m' g' _ hagree
  have e : ∀ c : Dev Cert.Kernel14Ideal.nD, Cert.Linear.prod (m' (c.tc.loc Cert.Reference14Ideal.main_arg0)) (m' (c.tc.loc Cert.Reference14Ideal.main_arg1)) = Cert.Linear.prod (m (c.tc.loc Cert.Kernel14Ideal.main_arg0)) (m (c.tc.loc Cert.Kernel14Ideal.main_arg1)) := fun c => by
    rw [(hagree c).1, (hagree c).2]
  exact ⟨_, kernel_run m g, (θ_run _ _ _).mono (fun _ h c => ⟨(h c).1.trans (e c), (h c).2⟩) (reference_run m' g')⟩

/-- The plain program writes none of its arguments and declares no semaphore. -/
theorem reference_frame : Cert.quiescent_Reference14Ideal (hReference14Ideal := Cert.Reference14Ideal.Gen.facts) :=
  fun m ρ _ => (θ_run Cert.Reference14Ideal.defs _ _).mono (fun r h => ⟨fun c => (h c).2, sem_eq_zero_of_no_sems (by decide) r.2⟩)
    (Cert.Reference14Ideal.Value.run (F := Ideal) m ρ)

end Cert.Values14
-- ==== Proof.OutProj.lean ====
/-
  The output projection, added to the residual rows.
-/
module

public import proofs.«01_k».proof.Proof.Linear
public import proofs.«01_k».proof.Proof.Gen.Kernel15Ideal.Value
public import proofs.«01_k».proof.Proof.Gen.Reference15Ideal.Run
public import proofs.«01_k».proof.Proof.Gen.Reference15Ideal.Read
public import Idealize.ShloMosaic.Lib.IdealHost

@[expose] public section

set_option maxRecDepth 16384

noncomputable section

open Idealize.SL.Sem
open Idealize.ShloMosaic hiding ix0 ix1 ix2 ix3
open Idealize.ShloMosaic.ValueIdx
open scoped BigOperators

namespace Cert.Kernel15Ideal.Array

open Cert.Kernel15Ideal Cert.Kernel15Ideal.Gen Cert.Linear Idealize.ShloMosaic.TcCoe

/-- What the body stores, at an index of its block. -/
theorem pay_apply (h : Vec Ideal S2176x512 .f32) (x : Vec Ideal S2176x2048 .bf16) (y : Vec Ideal S2048x512 .bf16) (r : Fin 2176) (s : Fin 512) :
    k0_pay1 (F := Ideal) h x y (ix2 r s) = (h (ix2 r s) + (((1 : ℝ) : ℝ) : EReal) * (∑ k : Fin 2048, (x (ix2 r k) * y (ix2 k s) : EReal)) : EReal) := by
  unfold k0_pay1
  exact congrArg₂ (fun a b : EReal => (h (ix2 r s) : EReal) + a * b) (Ideal.ofBits_one_f32.trans EReal.coe_one.symm) (Product.plain_apply (φ := .bf16) x y r s)

variable (m : (ℓ : Loc nD τ sig) → Buf (Elt Ideal) ℓ) (c : Dev nD) (t : Fin cfg0.N)

/-- The block coordinates of window 0. -/
theorem idx0 : ∀ t : Fin cfg0.N, win0_0.index t 0 = 0 ∧ win0_0.index t 1 = 0 :=
  (by decide +kernel : ∀ t : Fin grid0.N, win0_0.index t 0 = 0 ∧ win0_0.index t 1 = 0)

/-- The block coordinates of window 1. -/
theorem idx1 : ∀ t : Fin cfg0.N, win0_1.index t 0 = 0 ∧ win0_1.index t 1 = t.val :=
  (by decide +kernel : ∀ t : Fin grid0.N, win0_1.index t 0 = 0 ∧ win0_1.index t 1 = t.val)

/-- The block coordinates of window 2. -/
theorem idx2 : ∀ t : Fin cfg0.N, win0_2.index t 0 = 0 ∧ win0_2.index t 1 = t.val :=
  (by decide +kernel : ∀ t : Fin grid0.N, win0_2.index t 0 = 0 ∧ win0_2.index t 1 = t.val)

/-- The block coordinates of window 3. -/
theorem idx3 : ∀ t : Fin cfg0.N, win0_3.index t 0 = 0 ∧ win0_3.index t 1 = t.val :=
  (by decide +kernel : ∀ t : Fin grid0.N, win0_3.index t 0 = 0 ∧ win0_3.index t 1 = t.val)

/-- No block of window 3 is cut short. -/
theorem size3 : ∀ t : Fin cfg0.N, win0_3.xsize (grid0.coords t) 0 = 2176 ∧ win0_3.xsize (grid0.coords t) 1 = 512 :=
  (by decide +kernel : ∀ t : Fin grid0.N, win0_3.xsize (grid0.coords t) 0 = 2176 ∧ win0_3.xsize (grid0.coords t) 1 = 512)

/-- There are 4 points. -/
theorem points : t.val < 4 := t.isLt

/-- The array's coordinate of a block's coordinate at point `t`. -/
def step512 (s : Fin 512) : Fin 2048 := ⟨t.val * 512 + s.val, by have := points t; omega⟩

/-- A block of window 0. -/
theorem read0 (X : Vec Ideal S2176x2048 .bf16) (r : Fin 2176) (s : Fin 2048) :
    (((cfg0.win 0).blk t).view.read (Elt Ideal) X : Vec Ideal S2176x2048 .bf16) (ix2 r s) = X (ix2 r s) := by
  show X ((win0_0.rect t).emb (ix2 r s)) = _
  refine congrArg X ((ValueIdx.eq_ix2 _).trans (congrArg₂ ix2 (Fin.ext ?_) (Fin.ext ?_)))
  · refine (Pipeline.Window.rect_emb_val win0_0 t (ix2 r s) 0 rfl).trans ?_
    rw [(idx0 t).1]; exact Nat.zero_add _
  · refine (Pipeline.Window.rect_emb_val win0_0 t (ix2 r s) 1 rfl).trans ?_
    rw [(idx0 t).2]; exact Nat.zero_add _

/-- A block of window 1. -/
theorem read1 (X : Vec Ideal S2048x2048 .bf16) (r : Fin 2048) (s : Fin 512) :
    (((cfg0.win 1).blk t).view.read (Elt Ideal) X : Vec Ideal S2048x512 .bf16) (ix2 r s) = X (ix2 r (step512 t s)) := by
  show X ((win0_1.rect t).emb (ix2 r s)) = _
  refine congrArg X ((ValueIdx.eq_ix2 _).trans (congrArg₂ ix2 (Fin.ext ?_) (Fin.ext ?_)))
  · refine (Pipeline.Window.rect_emb_val win0_1 t (ix2 r s) 0 rfl).trans ?_
    rw [(idx1 t).1]; exact Nat.zero_add _
  · refine (Pipeline.Window.rect_emb_val win0_1 t (ix2 r s) 1 rfl).trans ?_
    rw [(idx1 t).2]; rfl

/-- A block of window 2. -/
theorem read2 (X : Vec Ideal S2176x2048 .f32) (r : Fin 2176) (s : Fin 512) :
    (((cfg0.win 2).blk t).view.read (Elt Ideal) X : Vec Ideal S2176x512 .f32) (ix2 r s) = X (ix2 r (step512 t s)) := by
  show X ((win0_2.rect t).emb (ix2 r s)) = _
  refine congrArg X ((ValueIdx.eq_ix2 _).trans (congrArg₂ ix2 (Fin.ext ?_) (Fin.ext ?_)))
  · refine (Pipeline.Window.rect_emb_val win0_2 t (ix2 r s) 0 rfl).trans ?_
    rw [(idx2 t).1]; exact Nat.zero_add _
  · refine (Pipeline.Window.rect_emb_val win0_2 t (ix2 r s) 1 rfl).trans ?_
    rw [(idx2 t).2]; rfl

/-- A block of window 3. -/
theorem read3 (X : Vec Ideal S2176x2048 .f32) (r : Fin 2176) (s : Fin 512) :
    (((cfg0.win 3).blk t).view.read (Elt Ideal) X : Vec Ideal S2176x512 .f32) (ix2 r s) = X (ix2 r (step512 t s)) := by
  show X ((win0_3.rect t).emb (ix2 r s)) = _
  refine congrArg X ((ValueIdx.eq_ix2 _).trans (congrArg₂ ix2 (Fin.ext ?_) (Fin.ext ?_)))
  · refine (Pipeline.Window.rect_emb_val win0_3 t (ix2 r s) 0 rfl).trans ?_
    rw [(idx3 t).1]; exact Nat.zero_add _
  · refine (Pipeline.Window.rect_emb_val win0_3 t (ix2 r s) 1 rfl).trans ?_
    rw [(idx3 t).2]; rfl

/-- A zero offset. -/
theorem off2 : (![0, 0] : Fin 2 → Nat) = fun _ => 0 := by funext a; match a with | ⟨0, _⟩ => rfl | ⟨1, _⟩ => rfl

/-- What the body leaves of window 3 is the payload of the point's blocks. -/
theorem outs3_eq : (outsAt0 m c t) = k0_pay1 (F := Ideal) (iblk m c 2 t) (iblk m c 0 t) (iblk m c 1 t) := by
  unfold outsAt0 out0_A_3
  dsimp only
  rw [View.read_writes_eq_canon _ _ _ (cover0_A_3 c _ _ _ _ _ _ _ _ _ _ _ _)]
  unfold kernelRun0_A
  dsimp only
  sl_unfold_words
  simp only [View.readAt_eq_ld, (hs0_0 t).read_unread, (hs0_1 t).read_unread, (hs0_2 t).read_unread]
  rw [View.canon_unit_zero off2]
  rw [View.ld_unit_zero off2, View.ld_unit_zero off2, View.ld_unit_zero off2]

/-- What point `t` writes back of window 3 is its block of the whole result. -/
theorem flushed3_eq : (dats m 0 c).flushed 3 t = (((cfg0.win 3).blk t).view.read (Elt Ideal) (residual 1 (m ((c : Thread nD τ).loc main_arg0)) (m ((c : Thread nD τ).loc main_arg1)) (m ((c : Thread nD τ).loc main_arg2)))) := by
  refine (Value.flushed3 m c t).trans ((congrArg ((cfg0.win 3).cut (grid0.coords t)) (outs3_eq m c t)).trans ?_)
  show k0_pay1 (F := Ideal) (iblk m c 2 t) (iblk m c 0 t) (iblk m c 1 t) = _
  funext y
  obtain ⟨r, s, rfl⟩ : ∃ (r : Fin 2176) (s : Fin 512), y = ix2 r s := ⟨y 0, y 1, ValueIdx.eq_ix2 y⟩
  refine (pay_apply _ _ _ r s).trans ?_
  refine Eq.trans ?_ (read3 t _ r s).symm
  have h2 : (iblk m c 2 t : Vec Ideal S2176x512 .f32) (ix2 r s) = m ((c : Thread nD τ).loc main_arg2) (ix2 r (step512 t s)) :=
    (read2 t (V m c main_arg2) r s).trans (congrFun (V_main_arg2 m c) _)
  refine congrArg₂ (fun a b : EReal => a + (((1 : ℝ) : ℝ) : EReal) * b) h2 ?_
  unfold entry
  refine Finset.sum_congr rfl fun k _ => ?_
  have h0 : (iblk m c 0 t : Vec Ideal S2176x2048 .bf16) (ix2 r k) = m ((c : Thread nD τ).loc main_arg0) (ix2 r k) :=
    (read0 t (V m c main_arg0) r k).trans (congrFun (V_main_arg0 m c) _)
  have h1 : (iblk m c 1 t : Vec Ideal S2048x512 .bf16) (ix2 k s) = m ((c : Thread nD τ).loc main_arg1) (ix2 k (step512 t s)) :=
    (read1 t (V m c main_arg1) k s).trans (congrFun (V_main_arg1 m c) _)
  exact congrArg₂ (fun a b : EReal => a * b) h0 h1

/-- Every entry of window 3's array is in a block written back. -/
theorem cover3 (i : S2176x2048.Idx) : ∃ t : Fin cfg0.N, (cfg0.win 3).flush t = true ∧ i ∈ ((cfg0.win 3).blk t).view.set := by
  have b0 : (i 0).val < 2176 := (i 0).isLt
  have b1 : (i 1).val < 2048 := (i 1).isLt
  let t : Fin cfg0.N := ⟨(i 1).val / 512, show _ < 4 by omega⟩
  have tv : t.val = (i 1).val / 512 := rfl
  refine ⟨t, flush0_3 _, ?_⟩
  show i ∈ ((View.whole main_v1).slice (win0_3.rect t)).set
  rw [View.set_slice_whole, Rect.mem_set_unit]
  intro b
  match b with
  | ⟨0, _⟩ =>
    show win0_3.index t 0 * 2176 ≤ (i 0).val ∧ (i 0).val < win0_3.index t 0 * 2176 + win0_3.xsize (grid0.coords t) 0
    rw [(idx3 t).1, (size3 t).1]; omega
  | ⟨1, _⟩ =>
    show win0_3.index t 1 * 512 ≤ (i 1).val ∧ (i 1).val < win0_3.index t 1 * 512 + win0_3.xsize (grid0.coords t) 1
    rw [(idx3 t).2, (size3 t).2]; omega

/-- Window 3's array after the run. -/
theorem final3 : (dats m 0 c).arrAt 3 cfg0.N = residual 1 (m ((c : Thread nD τ).loc main_arg0)) (m ((c : Thread nD τ).loc main_arg1)) (m ((c : Thread nD τ).loc main_arg2)) :=
  (dats m 0 c).arrAt_eq_of_cover 3 _ (fun t _ => flushed3_eq m c t) cover3

end Cert.Kernel15Ideal.Array

namespace Cert.Reference15Ideal.Result

open Cert.Reference15Ideal Cert.Reference15Ideal.Gen Cert.Reference15Ideal.Read Cert.Linear

variable (x0 : (⟨S2176x2048, .bf16⟩ : BufTy).Contents (Elt Ideal)) (x1 : (⟨S2048x2048, .bf16⟩ : BufTy).Contents (Elt Ideal))

/-- The plain product. -/
theorem prod_eq (r : Fin 2176) (s : Fin 2048) : val_main_v2 (F := Ideal) x0 x1 (ix2 r s) = entry x0 x1 r s := by
  refine (val_main_v2_apply x0 x1 _).trans ?_
  unfold entry
  refine Finset.sum_congr rfl fun k _ => ?_
  have el : lidx_main_v2 (ix2 r s) k = ix2 r k := ValueIdx.eq_ix2 _
  have er : ridx_main_v2 (ix2 r s) k = ix2 k s := ValueIdx.eq_ix2 _
  rw [el, er]
  rfl

/-- The plain lines' result is the same array. -/
theorem result (x2 : (⟨S2176x2048, .f32⟩ : BufTy).Contents (Elt Ideal)) : val_main_v3 (F := Ideal) x0 x1 x2 = residual 1 x0 x1 x2 := by
  funext y
  obtain ⟨r, s, rfl⟩ : ∃ (r : Fin 2176) (s : Fin 2048), y = ix2 r s := ⟨y 0, y 1, ValueIdx.eq_ix2 y⟩
  show (x2 (ix2 r s) + val_main_v2 (F := Ideal) x0 x1 (ix2 r s) : EReal) = _
  rw [prod_eq]
  exact congrArg (fun a : EReal => (x2 (ix2 r s) : EReal) + a) ((one_mul (entry x0 x1 r s)).symm.trans (congrArg (fun a : EReal => a * entry x0 x1 r s) EReal.coe_one.symm))

end Cert.Reference15Ideal.Result
-- ==== Proof.Values15.lean ====
/-
  The output projection: the kernel's run and the plain program's run end with the same values.
-/
module

public import proofs.«01_k».proof.Defs
public import proofs.«01_k».proof.Proof.OutProj
public import Idealize.ShloMosaic.Adequacy
public import Idealize.ShloMosaic.Init

@[expose] public section

noncomputable section

namespace Cert.Values15

open Idealize.ShloMosaic Idealize.SL.Sem

open Cert.Kernel15Ideal in
/-- The kernel's run: what its results hold, its arguments unchanged. -/
theorem kernel_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v1) = Cert.Linear.residual 1 (m (c.tc.loc main_arg0)) (m (c.tc.loc main_arg1)) (m (c.tc.loc main_arg2))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2) :=
  (θ_run _ _ _).mono (fun _ h c => ⟨(h c).1.trans (Array.final3 m c), (h c).2⟩)
    (Value.run_blocks m g)

open Cert.Reference15Ideal in
/-- The plain program's run: its results hold the same, its arguments unchanged. -/
theorem reference_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v3) = Cert.Linear.residual 1 (m (c.tc.loc main_arg0)) (m (c.tc.loc main_arg1)) (m (c.tc.loc main_arg2))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2) :=
  (θ_run _ _ _).mono (fun _ h c => ⟨(h c).1.trans ((Read.val_main_v3_eq _ _ _).trans (Result.result _ _ _)), (h c).2⟩)
    (Value.run m g)

/-- From equal arguments the two runs end with the same values. -/
theorem values : Cert.algebraic_Kernel15Ideal_Reference15Ideal
    (hKernel15Ideal := Cert.Kernel15Ideal.Gen.facts) (hReference15Ideal := Cert.Reference15Ideal.Gen.facts) := by
  intro m g m' g' _ hagree
  have e : ∀ c : Dev Cert.Kernel15Ideal.nD, Cert.Linear.residual 1 (m' (c.tc.loc Cert.Reference15Ideal.main_arg0)) (m' (c.tc.loc Cert.Reference15Ideal.main_arg1)) (m' (c.tc.loc Cert.Reference15Ideal.main_arg2)) = Cert.Linear.residual 1 (m (c.tc.loc Cert.Kernel15Ideal.main_arg0)) (m (c.tc.loc Cert.Kernel15Ideal.main_arg1)) (m (c.tc.loc Cert.Kernel15Ideal.main_arg2)) := fun c => by
    rw [(hagree c).1, (hagree c).2.1, (hagree c).2.2]
  exact ⟨_, kernel_run m g, (θ_run _ _ _).mono (fun _ h c => ⟨(h c).1.trans (e c), (h c).2⟩) (reference_run m' g')⟩

/-- The plain program writes none of its arguments and declares no semaphore. -/
theorem reference_frame : Cert.quiescent_Reference15Ideal (hReference15Ideal := Cert.Reference15Ideal.Gen.facts) :=
  fun m ρ _ => (θ_run Cert.Reference15Ideal.defs _ _).mono (fun r h => ⟨fun c => (h c).2, sem_eq_zero_of_no_sems (by decide) r.2⟩)
    (Cert.Reference15Ideal.Value.run (F := Ideal) m ρ)

end Cert.Values15
-- ==== Proof.Adam.lean ====
/-
  One step of the optimiser, entry by entry: the two moments and the change of the weight.
-/
module

public import Idealize.ShloMosaic.Lib.IdealHost

@[expose] public section

noncomputable section

open Idealize.ShloMosaic

namespace Cert.Adam

variable {s : Shape} (g w m v : FVec Ideal s .f32)

/-- The new first moment: nine tenths of the old one and a tenth of the gradient. -/
def mean : FVec Ideal s .f32 := fun y => (Ideal.ofBits .f32 0x3F666666#32 * m y + Ideal.ofBits .f32 0x3DCCCCCD#32 * g y : EReal)

/-- The new second moment, of the squared gradient. -/
def square : FVec Ideal s .f32 := fun y => (Ideal.ofBits .f32 0x3F7FBE77#32 * v y + Ideal.ofBits .f32 0x3A83126F#32 * (g y * g y) : EReal)

/-- The change of the weight: the corrected mean over the root of the corrected square, and the weight's decay. -/
def delta : FVec Ideal s .f32 := fun y =>
  (Ideal.ofBits .f32 0xBA83126F#32 * (Ideal.div (Ideal.div (mean g m y) (Ideal.ofBits .f32 0x3F26BD02#32))
    (Ideal.sqrt (Ideal.div (square g v y) (Ideal.ofBits .f32 0x3C231ACC#32)) + Ideal.ofBits .f32 0x322BCC77#32)
    + Ideal.ofBits .f32 0x3C23D70A#32 * w y) : EReal)

variable {g w m v} {t : Shape} {G W M V : FVec Ideal t .f32} {y : s.Idx} {z : t.Idx}

/-- An entry of the mean needs only the entries at its place. -/
theorem mean_at (hg : g y = G z) (hm : m y = M z) : mean g m y = mean G M z := by unfold mean; rw [hg, hm]

/-- An entry of the square needs only the entries at its place. -/
theorem square_at (hg : g y = G z) (hv : v y = V z) : square g v y = square G V z := by unfold square; rw [hg, hv]

/-- An entry of the change needs only the entries at its place. -/
theorem delta_at (hg : g y = G z) (hw : w y = W z) (hm : m y = M z) (hv : v y = V z) : delta g w m v y = delta G W M V z := by
  unfold delta; rw [mean_at hg hm, square_at hg hv, hw]

end Cert.Adam
-- ==== Proof.Adam17.lean ====
/-
  The optimiser's step on the meta tokens: the kernel's and the plain program's results are the same arrays.
-/
module

public import proofs.«01_k».proof.Proof.Adam
public import proofs.«01_k».proof.Proof.Gen.Kernel17Ideal.Value
public import proofs.«01_k».proof.Proof.Gen.Reference17Ideal.Run
public import proofs.«01_k».proof.Proof.Gen.Reference17Ideal.Read

@[expose] public section

noncomputable section

open Idealize.ShloMosaic

namespace Cert.Kernel17Ideal.Array

open Cert.Kernel17Ideal Cert.Kernel17Ideal.Gen

variable (g w m v : Vec Ideal S16x512 .f32)

/-- The gradient passes through. -/
theorem grad_eq : Value.G4 (F := Ideal) g w m v = g := rfl

/-- The change of the weights. -/
theorem delta_eq : Value.G5 (F := Ideal) g w m v = Cert.Adam.delta g w m v := rfl

/-- The first moments. -/
theorem mean_eq : Value.G6 (F := Ideal) g w m v = Cert.Adam.mean g m := rfl

/-- The second moments. -/
theorem square_eq : Value.G7 (F := Ideal) g w m v = Cert.Adam.square g v := rfl

end Cert.Kernel17Ideal.Array

namespace Cert.Reference17Ideal.Result

open Cert.Reference17Ideal Cert.Reference17Ideal.Read

variable (g w m v : (⟨S16x512, .f32⟩ : BufTy).Contents (Elt Ideal))

/-- The plain change of the weights. -/
theorem delta_eq : val_main_v23 (F := Ideal) g w m v = Cert.Adam.delta g w m v := rfl

/-- The plain first moments. -/
theorem mean_eq : val_main_v4 (F := Ideal) g m = Cert.Adam.mean g m := rfl

/-- The plain second moments. -/
theorem square_eq : val_main_v10 (F := Ideal) g v = Cert.Adam.square g v := rfl

end Cert.Reference17Ideal.Result
-- ==== Proof.Values17.lean ====
/-
  The optimiser's step on the meta tokens: the kernel's run and the plain program's run end with the same values.
-/
module

public import proofs.«01_k».proof.Defs
public import proofs.«01_k».proof.Proof.Adam17
public import Idealize.ShloMosaic.Adequacy
public import Idealize.ShloMosaic.Init

@[expose] public section

noncomputable section

namespace Cert.Values17

open Idealize.ShloMosaic Idealize.SL.Sem

open Cert.Kernel17Ideal in
/-- The kernel's run: what its results hold, its arguments unchanged. -/
theorem kernel_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_v0_0) = (m (c.tc.loc main_arg0))
        ∧ r.2.mem (c.tc.loc main_v0_1) = Cert.Adam.delta (m (c.tc.loc main_arg0)) (m (c.tc.loc main_arg1)) (m (c.tc.loc main_arg2)) (m (c.tc.loc main_arg3))
        ∧ r.2.mem (c.tc.loc main_v0_2) = Cert.Adam.mean (m (c.tc.loc main_arg0)) (m (c.tc.loc main_arg2))
        ∧ r.2.mem (c.tc.loc main_v0_3) = Cert.Adam.square (m (c.tc.loc main_arg0)) (m (c.tc.loc main_arg3))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3) :=
  (θ_run _ _ _).mono (fun _ h c => ⟨(h c).1.trans (Array.grad_eq _ _ _ _), (h c).2.1.trans (Array.delta_eq _ _ _ _), (h c).2.2.1.trans (Array.mean_eq _ _ _ _), (h c).2.2.2.1.trans (Array.square_eq _ _ _ _), (h c).2.2.2.2⟩)
    (Value.run m g)

open Cert.Reference17Ideal in
/-- The plain program's run: its results hold the same, its arguments unchanged. -/
theorem reference_run (m : (ℓ : Loc nD τ sig) → Buf (Elt Ideal) ℓ) (g : Dev nD → PrngReg) :
    θ_run defs (onTc (τ := τ) (main (F := Ideal))) ⟨m, fun _ => 0, g⟩ fun r =>
      ∀ c : Dev nD,
        r.2.mem (c.tc.loc main_arg0) = (m (c.tc.loc main_arg0))
        ∧ r.2.mem (c.tc.loc main_v23) = Cert.Adam.delta (m (c.tc.loc main_arg0)) (m (c.tc.loc main_arg1)) (m (c.tc.loc main_arg2)) (m (c.tc.loc main_arg3))
        ∧ r.2.mem (c.tc.loc main_v4) = Cert.Adam.mean (m (c.tc.loc main_arg0)) (m (c.tc.loc main_arg2))
        ∧ r.2.mem (c.tc.loc main_v10) = Cert.Adam.square (m (c.tc.loc main_arg0)) (m (c.tc.loc main_arg3))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3) :=
  (θ_run _ _ _).mono (fun _ h c => ⟨(h c).1.trans ((rfl).trans (rfl)), (h c).2.1.trans ((Read.val_main_v23_eq _ _ _ _).trans (Result.delta_eq _ _ _ _)), (h c).2.2.1.trans ((Read.val_main_v4_eq _ _).trans (Result.mean_eq _ _)), (h c).2.2.2.1.trans ((Read.val_main_v10_eq _ _).trans (Result.square_eq _ _)), (h c).2.2.2.2⟩)
    (Value.run m g)

/-- From equal arguments the two runs end with the same values. -/
theorem values : Cert.algebraic_Kernel17Ideal_Reference17Ideal
    (hKernel17Ideal := Cert.Kernel17Ideal.Gen.facts) (hReference17Ideal := Cert.Reference17Ideal.Gen.facts) := by
  intro m g m' g' _ hagree
  have e : ∀ c : Dev Cert.Kernel17Ideal.nD, (m' (c.tc.loc Cert.Reference17Ideal.main_arg0)) = (m (c.tc.loc Cert.Kernel17Ideal.main_arg0))
      ∧ Cert.Adam.delta (m' (c.tc.loc Cert.Reference17Ideal.main_arg0)) (m' (c.tc.loc Cert.Reference17Ideal.main_arg1)) (m' (c.tc.loc Cert.Reference17Ideal.main_arg2)) (m' (c.tc.loc Cert.Reference17Ideal.main_arg3)) = Cert.Adam.delta (m (c.tc.loc Cert.Kernel17Ideal.main_arg0)) (m (c.tc.loc Cert.Kernel17Ideal.main_arg1)) (m (c.tc.loc Cert.Kernel17Ideal.main_arg2)) (m (c.tc.loc Cert.Kernel17Ideal.main_arg3))
      ∧ Cert.Adam.mean (m' (c.tc.loc Cert.Reference17Ideal.main_arg0)) (m' (c.tc.loc Cert.Reference17Ideal.main_arg2)) = Cert.Adam.mean (m (c.tc.loc Cert.Kernel17Ideal.main_arg0)) (m (c.tc.loc Cert.Kernel17Ideal.main_arg2))
      ∧ Cert.Adam.square (m' (c.tc.loc Cert.Reference17Ideal.main_arg0)) (m' (c.tc.loc Cert.Reference17Ideal.main_arg3)) = Cert.Adam.square (m (c.tc.loc Cert.Kernel17Ideal.main_arg0)) (m (c.tc.loc Cert.Kernel17Ideal.main_arg3)) := fun c => by
    rw [(hagree c).1, (hagree c).2.1, (hagree c).2.2.1, (hagree c).2.2.2]
    exact ⟨rfl, rfl, rfl, rfl⟩
  exact ⟨_, _, _, _, kernel_run m g, (θ_run _ _ _).mono (fun _ h c => ⟨(h c).1.trans (e c).1, (h c).2.1.trans (e c).2.1, (h c).2.2.1.trans (e c).2.2.1, (h c).2.2.2.1.trans (e c).2.2.2, (h c).2.2.2.2⟩) (reference_run m' g')⟩

/-- The plain program writes none of its arguments and declares no semaphore. -/
theorem reference_frame : Cert.quiescent_Reference17Ideal (hReference17Ideal := Cert.Reference17Ideal.Gen.facts) :=
  fun m ρ _ => (θ_run Cert.Reference17Ideal.defs _ _).mono (fun r h => ⟨fun c => (h c).2.2.2.2, sem_eq_zero_of_no_sems (by decide) r.2⟩)
    (Cert.Reference17Ideal.Value.run (F := Ideal) m ρ)

end Cert.Values17
-- ==== Proof.Small.lean ====
/-
  The optimiser's step on the small weights: packed into one array, updated there by the kernel, and cut out again.
-/
module

public import proofs.«01_k».proof.Defs
public import proofs.«01_k».proof.Proof.Adam
public import proofs.«01_k».proof.Proof.Gen.Kernel24.Frame
public import proofs.«01_k».proof.Proof.Gen.Kernel24Ideal.Frame
public import proofs.«01_k».proof.Proof.Gen.Reference24Ideal.Run
public import Idealize.ShloMosaic.Lib.Claim
public import Idealize.ShloMosaic.Lib.KernelVsHost
public import Idealize.ShloMosaic.Adequacy
public import Idealize.ShloMosaic.Init

@[expose] public section

set_option maxRecDepth 16384

noncomputable section

open Idealize.SL.Sem
open Idealize.ShloMosaic
open Idealize.ShloMosaic.ValueIdx

namespace Cert.Kernel24Ideal.Array

open Cert.Kernel24Ideal Cert.Kernel24Ideal.Gen Idealize.ShloMosaic.TcCoe

/-- The packed array. -/
abbrev P := Vec Ideal S8x1024 .f32

section
variable (a b d : Vec Ideal S1x2048 .f32) (e : Vec Ideal S1x1024 .f32) (q k : Vec Ideal S1x128 .f32) (h : Vec Ideal S1x8 .f32)

/-- The three short weights one after the other. -/
def short : Vec Ideal S264 .f32 := concatenate S264 0 [⟨S128, shapeCast S128 q shapeCasts_S1x128_S128⟩, ⟨S128, shapeCast S128 k shapeCasts_S1x128_S128⟩, ⟨S8, shapeCast S8 h shapeCasts_S1x8_S8⟩] concatenates_S128_S128_S8_S264_d0

/-- The packed array's last row. -/
def last : Vec Ideal S1x1024 .f32 := shapeCast S1x1024 (pad S1024 ![0] ![760] ![0] (short q k h) (sitofp (F := Ideal) .f32 (constantI S_ 32 0#32)) pads_S264_S1024_07600 h_S_) shapeCasts_S1024_S1x1024

/-- Seven small weights packed into eight rows. -/
def pack : P := concatenate S8x1024 0 [⟨S2x1024, shapeCast S2x1024 a shapeCasts_S1x2048_S2x1024⟩, ⟨S2x1024, shapeCast S2x1024 b shapeCasts_S1x2048_S2x1024⟩, ⟨S2x1024, shapeCast S2x1024 d shapeCasts_S1x2048_S2x1024⟩, ⟨S1x1024, e⟩, ⟨S1x1024, last q k h⟩] concatenates_S2x1024_S2x1024_S2x1024_S1x1024_S1x1024_S8x1024_d0

/-- A wide weight in two rows. -/
theorem fold_at (r : Fin 2) (s : Fin 1024) : shapeCast S2x1024 a shapeCasts_S1x2048_S2x1024 (ix2 r s) = a (ix2 0 ⟨r.val * 1024 + s.val, by omega⟩) :=
  shapeCast_apply a shapeCasts_S1x2048_S2x1024 (ix2 r s) (ix2 0 ⟨r.val * 1024 + s.val, by omega⟩) (by
    rewrite [Shape.rowMajor_val_two, Shape.rowMajor_val_two]
    show 0 * 2048 + (r.val * 1024 + s.val) = r.val * 1024 + s.val
    omega)

/-- The last row starts with the short weights. -/
theorem last_at (j : Fin 264) : last q k h (ix2 0 ⟨j.val, by omega⟩) = short q k h (ix1 j) :=
  (shapeCast_apply _ shapeCasts_S1024_S1x1024 (ix2 0 ⟨j.val, by omega⟩) (ix1 ⟨j.val, by omega⟩) (by
    rewrite [Shape.rowMajor_val_one, Shape.rowMajor_val_two]
    show j.val = 0 * 1024 + j.val
    omega)).trans (pad_apply_of_inside _ _ _ _ _ _ _ _ (ix1 j) (fun b => match b with | ⟨0, _⟩ => by show j.val = 0 + j.val * (0 + 1); omega))

/-- A short weight as a plain list. -/
theorem flat_at {l : ℕ} (x : Vec Ideal ⟨2, ![1, l]⟩ .f32) (hc : Shape.ShapeCasts ⟨2, ![1, l]⟩ ⟨1, ![l]⟩) (j : Fin l) : shapeCast ⟨1, ![l]⟩ x hc (ix1 j) = x (ix2 0 j) :=
  shapeCast_apply x hc (ix1 j) (ix2 0 j) (by
    rewrite [Shape.rowMajor_val_one, Shape.rowMajor_val_two]
    show 0 * l + j.val = j.val
    omega)

/-- And back. -/
theorem unflat_at {l : ℕ} (x : Vec Ideal ⟨1, ![l]⟩ .f32) (hc : Shape.ShapeCasts ⟨1, ![l]⟩ ⟨2, ![1, l]⟩) (z : Fin 1) (j : Fin l) : shapeCast ⟨2, ![1, l]⟩ x hc (ix2 z j) = x (ix1 j) :=
  shapeCast_apply x hc (ix2 z j) (ix1 j) (by
    rewrite [Shape.rowMajor_val_one, Shape.rowMajor_val_two]
    show j.val = z.val * l + j.val
    have : z.val = 0 := by omega
    rw [this]; omega)

/-- Where the first layer's norm lies. -/
def at0 (y : S1x2048.Idx) : S8x1024.Idx := ix2 ⟨0 + (y 1).val / 1024, by have : (y 1).val < 2048 := (y 1).isLt; omega⟩ ⟨(y 1).val % 1024, by omega⟩

/-- What lies there. -/
theorem pack0 (y : S1x2048.Idx) : pack a b d e q k h (at0 y) = a y := by
  unfold pack
  have hy : (y 1).val < 2048 := (y 1).isLt
  refine Eq.trans (concatenate_apply_piece (t := S8x1024) 0 _ _ (at0 y) 0 (by show 0 < 5; decide) S2x1024 _ (by exact rfl) rfl 0 (by exact rfl) (ix2 ⟨(y 1).val / 1024, by omega⟩ ⟨(y 1).val % 1024, by omega⟩) (fun b hb => match b with | ⟨0, _⟩ => absurd rfl hb | ⟨1, _⟩ => rfl) rfl) ((fold_at a _ _).trans ?_)
  refine congrArg a ((congrArg₂ ix2 (Subsingleton.elim _ _) (Fin.ext ?_)).trans (ValueIdx.eq_ix2 y).symm)
  show (y 1).val / 1024 * 1024 + (y 1).val % 1024 = (y 1).val
  omega

/-- Where the mixer's norm lies. -/
def at1 (y : S1x2048.Idx) : S8x1024.Idx := ix2 ⟨2 + (y 1).val / 1024, by have : (y 1).val < 2048 := (y 1).isLt; omega⟩ ⟨(y 1).val % 1024, by omega⟩

/-- What lies there. -/
theorem pack1 (y : S1x2048.Idx) : pack a b d e q k h (at1 y) = b y := by
  unfold pack
  have hy : (y 1).val < 2048 := (y 1).isLt
  refine Eq.trans (concatenate_apply_piece (t := S8x1024) 0 _ _ (at1 y) 1 (by show 1 < 5; decide) S2x1024 _ (by exact rfl) rfl 2 (by exact rfl) (ix2 ⟨(y 1).val / 1024, by omega⟩ ⟨(y 1).val % 1024, by omega⟩) (fun b hb => match b with | ⟨0, _⟩ => absurd rfl hb | ⟨1, _⟩ => rfl) rfl) ((fold_at b _ _).trans ?_)
  refine congrArg b ((congrArg₂ ix2 (Subsingleton.elim _ _) (Fin.ext ?_)).trans (ValueIdx.eq_ix2 y).symm)
  show (y 1).val / 1024 * 1024 + (y 1).val % 1024 = (y 1).val
  omega

/-- Where the second layer's norm lies. -/
def at2 (y : S1x2048.Idx) : S8x1024.Idx := ix2 ⟨4 + (y 1).val / 1024, by have : (y 1).val < 2048 := (y 1).isLt; omega⟩ ⟨(y 1).val % 1024, by omega⟩

/-- What lies there. -/
theorem pack2 (y : S1x2048.Idx) : pack a b d e q k h (at2 y) = d y := by
  unfold pack
  have hy : (y 1).val < 2048 := (y 1).isLt
  refine Eq.trans (concatenate_apply_piece (t := S8x1024) 0 _ _ (at2 y) 2 (by show 2 < 5; decide) S2x1024 _ (by exact rfl) rfl 4 (by exact rfl) (ix2 ⟨(y 1).val / 1024, by omega⟩ ⟨(y 1).val % 1024, by omega⟩) (fun b hb => match b with | ⟨0, _⟩ => absurd rfl hb | ⟨1, _⟩ => rfl) rfl) ((fold_at d _ _).trans ?_)
  refine congrArg d ((congrArg₂ ix2 (Subsingleton.elim _ _) (Fin.ext ?_)).trans (ValueIdx.eq_ix2 y).symm)
  show (y 1).val / 1024 * 1024 + (y 1).val % 1024 = (y 1).val
  omega

/-- Where the pooling scale lies. -/
def at3 (y : S1x1024.Idx) : S8x1024.Idx := ix2 6 (y 1)

/-- What lies there. -/
theorem pack3 (y : S1x1024.Idx) : pack a b d e q k h (at3 y) = e y := by
  unfold pack
  exact Eq.trans (concatenate_apply_piece (t := S8x1024) 0 _ _ (at3 y) 3 (by show 3 < 5; decide) S1x1024 _ (by exact rfl) rfl 6 (by exact rfl) (ix2 0 (y 1)) (fun b hb => match b with | ⟨0, _⟩ => absurd rfl hb | ⟨1, _⟩ => rfl) rfl)
    (congrArg e ((congrArg₂ ix2 (Subsingleton.elim _ _) rfl).trans (ValueIdx.eq_ix2 y).symm))

/-- Where the query norm lies. -/
def at4 (y : S1x128.Idx) : S8x1024.Idx := ix2 7 ⟨0 + (y 1).val, by have : (y 1).val < 128 := (y 1).isLt; omega⟩

/-- What lies there. -/
theorem pack4 (y : S1x128.Idx) : pack a b d e q k h (at4 y) = q y := by
  unfold pack
  have hy : (y 1).val < 128 := (y 1).isLt
  refine Eq.trans (concatenate_apply_piece (t := S8x1024) 0 _ _ (at4 y) 4 (by show 4 < 5; decide) S1x1024 _ (by exact rfl) rfl 7 (by exact rfl) (ix2 0 ⟨0 + (y 1).val, by omega⟩) (fun b hb => match b with | ⟨0, _⟩ => absurd rfl hb | ⟨1, _⟩ => rfl) rfl)
    ((last_at q k h ⟨0 + (y 1).val, by omega⟩).trans ?_)
  unfold short
  refine Eq.trans (concatenate_apply_piece (t := S264) 0 _ _ (ix1 ⟨0 + (y 1).val, by omega⟩) 0 (by show 0 < 3; decide) S128 _ (by exact rfl) rfl 0 (by exact rfl) (ix1 (y 1)) (fun b hb => absurd (Subsingleton.elim _ _) hb) rfl) ((flat_at q _ (y 1)).trans ?_)
  exact congrArg q ((congrArg₂ ix2 (Subsingleton.elim _ _) rfl).trans (ValueIdx.eq_ix2 y).symm)

/-- Where the key norm lies. -/
def at5 (y : S1x128.Idx) : S8x1024.Idx := ix2 7 ⟨128 + (y 1).val, by have : (y 1).val < 128 := (y 1).isLt; omega⟩

/-- What lies there. -/
theorem pack5 (y : S1x128.Idx) : pack a b d e q k h (at5 y) = k y := by
  unfold pack
  have hy : (y 1).val < 128 := (y 1).isLt
  refine Eq.trans (concatenate_apply_piece (t := S8x1024) 0 _ _ (at5 y) 4 (by show 4 < 5; decide) S1x1024 _ (by exact rfl) rfl 7 (by exact rfl) (ix2 0 ⟨128 + (y 1).val, by omega⟩) (fun b hb => match b with | ⟨0, _⟩ => absurd rfl hb | ⟨1, _⟩ => rfl) rfl)
    ((last_at q k h ⟨128 + (y 1).val, by omega⟩).trans ?_)
  unfold short
  refine Eq.trans (concatenate_apply_piece (t := S264) 0 _ _ (ix1 ⟨128 + (y 1).val, by omega⟩) 1 (by show 1 < 3; decide) S128 _ (by exact rfl) rfl 128 (by exact rfl) (ix1 (y 1)) (fun b hb => absurd (Subsingleton.elim _ _) hb) rfl) ((flat_at k _ (y 1)).trans ?_)
  exact congrArg k ((congrArg₂ ix2 (Subsingleton.elim _ _) rfl).trans (ValueIdx.eq_ix2 y).symm)

/-- Where the forgetting bias lies. -/
def at6 (y : S1x8.Idx) : S8x1024.Idx := ix2 7 ⟨256 + (y 1).val, by have : (y 1).val < 8 := (y 1).isLt; omega⟩

/-- What lies there. -/
theorem pack6 (y : S1x8.Idx) : pack a b d e q k h (at6 y) = h y := by
  unfold pack
  have hy : (y 1).val < 8 := (y 1).isLt
  refine Eq.trans (concatenate_apply_piece (t := S8x1024) 0 _ _ (at6 y) 4 (by show 4 < 5; decide) S1x1024 _ (by exact rfl) rfl 7 (by exact rfl) (ix2 0 ⟨256 + (y 1).val, by omega⟩) (fun b hb => match b with | ⟨0, _⟩ => absurd rfl hb | ⟨1, _⟩ => rfl) rfl)
    ((last_at q k h ⟨256 + (y 1).val, by omega⟩).trans ?_)
  unfold short
  refine Eq.trans (concatenate_apply_piece (t := S264) 0 _ _ (ix1 ⟨256 + (y 1).val, by omega⟩) 2 (by show 2 < 3; decide) S8 _ (by exact rfl) rfl 256 (by exact rfl) (ix1 (y 1)) (fun b hb => absurd (Subsingleton.elim _ _) hb) rfl) ((flat_at h _ (y 1)).trans ?_)
  exact congrArg h ((congrArg₂ ix2 (Subsingleton.elim _ _) rfl).trans (ValueIdx.eq_ix2 y).symm)

end

section
variable (X : P)

/-- The first layer's norm cut out. -/
def cut0 : Vec Ideal S1x2048 .f32 := shapeCast S1x2048 (extractStridedSlice S2x1024 ![0, 0] X slices_S8x1024_S2x1024_0_0) shapeCasts_S2x1024_S1x2048

/-- Cutting reads where it lies. -/
theorem cut0_at (y : S1x2048.Idx) : cut0 X y = X (at0 y) := by
  have hy : (y 1).val < 2048 := (y 1).isLt
  refine (congrArg (cut0 X) (ValueIdx.eq_ix2 y)).trans ((shapeCast_apply _ shapeCasts_S2x1024_S1x2048 (ix2 (y 0) (y 1)) (ix2 ⟨(y 1).val / 1024, by omega⟩ ⟨(y 1).val % 1024, by omega⟩) (by
    rewrite [Shape.rowMajor_val_two, Shape.rowMajor_val_two]
    have h0 : (y 0).val < 1 := (y 0).isLt
    show (y 1).val / 1024 * 1024 + (y 1).val % 1024 = (y 0).val * 2048 + (y 1).val
    omega)).trans (extractStridedSlice_apply _ X _ _ (at0 y) (fun a => match a with | ⟨0, _⟩ => rfl | ⟨1, _⟩ => by show (y 1).val % 1024 = 0 + (y 1).val % 1024; omega)))

/-- The mixer's norm cut out. -/
def cut1 : Vec Ideal S1x2048 .f32 := shapeCast S1x2048 (extractStridedSlice S2x1024 ![2, 0] X slices_S8x1024_S2x1024_2_0) shapeCasts_S2x1024_S1x2048

/-- Cutting reads where it lies. -/
theorem cut1_at (y : S1x2048.Idx) : cut1 X y = X (at1 y) := by
  have hy : (y 1).val < 2048 := (y 1).isLt
  refine (congrArg (cut1 X) (ValueIdx.eq_ix2 y)).trans ((shapeCast_apply _ shapeCasts_S2x1024_S1x2048 (ix2 (y 0) (y 1)) (ix2 ⟨(y 1).val / 1024, by omega⟩ ⟨(y 1).val % 1024, by omega⟩) (by
    rewrite [Shape.rowMajor_val_two, Shape.rowMajor_val_two]
    have h0 : (y 0).val < 1 := (y 0).isLt
    show (y 1).val / 1024 * 1024 + (y 1).val % 1024 = (y 0).val * 2048 + (y 1).val
    omega)).trans (extractStridedSlice_apply _ X _ _ (at1 y) (fun a => match a with | ⟨0, _⟩ => rfl | ⟨1, _⟩ => by show (y 1).val % 1024 = 0 + (y 1).val % 1024; omega)))

/-- The second layer's norm cut out. -/
def cut2 : Vec Ideal S1x2048 .f32 := shapeCast S1x2048 (extractStridedSlice S2x1024 ![4, 0] X slices_S8x1024_S2x1024_4_0) shapeCasts_S2x1024_S1x2048

/-- Cutting reads where it lies. -/
theorem cut2_at (y : S1x2048.Idx) : cut2 X y = X (at2 y) := by
  have hy : (y 1).val < 2048 := (y 1).isLt
  refine (congrArg (cut2 X) (ValueIdx.eq_ix2 y)).trans ((shapeCast_apply _ shapeCasts_S2x1024_S1x2048 (ix2 (y 0) (y 1)) (ix2 ⟨(y 1).val / 1024, by omega⟩ ⟨(y 1).val % 1024, by omega⟩) (by
    rewrite [Shape.rowMajor_val_two, Shape.rowMajor_val_two]
    have h0 : (y 0).val < 1 := (y 0).isLt
    show (y 1).val / 1024 * 1024 + (y 1).val % 1024 = (y 0).val * 2048 + (y 1).val
    omega)).trans (extractStridedSlice_apply _ X _ _ (at2 y) (fun a => match a with | ⟨0, _⟩ => rfl | ⟨1, _⟩ => by show (y 1).val % 1024 = 0 + (y 1).val % 1024; omega)))

/-- The pooling scale cut out. -/
def cut3 : Vec Ideal S1x1024 .f32 := extractStridedSlice S1x1024 ![6, 0] X slices_S8x1024_S1x1024_6_0

/-- Cutting reads where it lies. -/
theorem cut3_at (y : S1x1024.Idx) : cut3 X y = X (at3 y) := by
  exact extractStridedSlice_apply _ X _ y (at3 y) (fun a => match a with | ⟨0, _⟩ => by have h0 : (y 0).val < 1 := (y 0).isLt; show 6 = 6 + (y 0).val; omega | ⟨1, _⟩ => by show (y 1).val = 0 + (y 1).val; omega)

/-- The query norm cut out. -/
def cut4 : Vec Ideal S1x128 .f32 := shapeCast S1x128 (shapeCast S128 (extractStridedSlice S1x128 ![7, 0] X slices_S8x1024_S1x128_7_0) shapeCasts_S1x128_S128) shapeCasts_S128_S1x128

/-- Cutting reads where it lies. -/
theorem cut4_at (y : S1x128.Idx) : cut4 X y = X (at4 y) := by
  refine (congrArg (cut4 X) (ValueIdx.eq_ix2 y)).trans ((unflat_at _ _ _ (y 1)).trans ((flat_at _ _ (y 1)).trans ?_))
  exact extractStridedSlice_apply _ X _ _ (at4 y) (fun a => match a with | ⟨0, _⟩ => rfl | ⟨1, _⟩ => rfl)

/-- The key norm cut out. -/
def cut5 : Vec Ideal S1x128 .f32 := shapeCast S1x128 (shapeCast S128 (extractStridedSlice S1x128 ![7, 128] X slices_S8x1024_S1x128_7_128) shapeCasts_S1x128_S128) shapeCasts_S128_S1x128

/-- Cutting reads where it lies. -/
theorem cut5_at (y : S1x128.Idx) : cut5 X y = X (at5 y) := by
  refine (congrArg (cut5 X) (ValueIdx.eq_ix2 y)).trans ((unflat_at _ _ _ (y 1)).trans ((flat_at _ _ (y 1)).trans ?_))
  exact extractStridedSlice_apply _ X _ _ (at5 y) (fun a => match a with | ⟨0, _⟩ => rfl | ⟨1, _⟩ => rfl)

/-- The forgetting bias cut out. -/
def cut6 : Vec Ideal S1x8 .f32 := shapeCast S1x8 (shapeCast S8 (extractStridedSlice S1x8 ![7, 256] X slices_S8x1024_S1x8_7_256) shapeCasts_S1x8_S8) shapeCasts_S8_S1x8

/-- Cutting reads where it lies. -/
theorem cut6_at (y : S1x8.Idx) : cut6 X y = X (at6 y) := by
  refine (congrArg (cut6 X) (ValueIdx.eq_ix2 y)).trans ((unflat_at _ _ _ (y 1)).trans ((flat_at _ _ (y 1)).trans ?_))
  exact extractStridedSlice_apply _ X _ _ (at6 y) (fun a => match a with | ⟨0, _⟩ => rfl | ⟨1, _⟩ => rfl)

end

/-- Of the stepped packed arrays, a weight's part is the step of the weight alone. -/
theorem parts {s : Shape} {f : P → Vec Ideal s .f32} {p : s.Idx → S8x1024.Idx} (hf : ∀ X y, f X y = X (p y)) {G W M N : P} {g w m v : Vec Ideal s .f32}
    (hg : ∀ y, G (p y) = g y) (hw : ∀ y, W (p y) = w y) (hm : ∀ y, M (p y) = m y) (hv : ∀ y, N (p y) = v y) :
    f G = g ∧ f (Adam.delta G W M N) = Adam.delta g w m v ∧ f (Adam.mean G M) = Adam.mean g m ∧ f (Adam.square G N) = Adam.square g v :=
  ⟨funext fun y => (hf _ y).trans (hg y), funext fun y => (hf _ y).trans (Adam.delta_at (hg y) (hw y) (hm y) (hv y)),
    funext fun y => (hf _ y).trans (Adam.mean_at (hg y) (hm y)), funext fun y => (hf _ y).trans (Adam.square_at (hg y) (hv y))⟩

/-- Steps of equal arrays are equal. -/
theorem same {s : Shape} {g w m v G W M N : Vec Ideal s .f32} (hg : g = G) (hw : w = W) (hm : m = M) (hv : v = N) :
    Adam.delta g w m v = Adam.delta G W M N ∧ Adam.mean g m = Adam.mean G M ∧ Adam.square g v = Adam.square G N := by
  rw [hg, hw, hm, hv]
  exact ⟨rfl, rfl, rfl⟩

variable (m : (ℓ : Loc nD τ sig) → Buf (Elt Ideal) ℓ) (c : Dev nD)

/-- The packed gradients. -/
def packed0 : P := pack (m (c.tc.loc main_arg0)) (m (c.tc.loc main_arg1)) (m (c.tc.loc main_arg2)) (m (c.tc.loc main_arg3)) (m (c.tc.loc main_arg4)) (m (c.tc.loc main_arg5)) (m (c.tc.loc main_arg6))

/-- The packed weights. -/
def packed1 : P := pack (m (c.tc.loc main_arg7)) (m (c.tc.loc main_arg8)) (m (c.tc.loc main_arg9)) (m (c.tc.loc main_arg10)) (m (c.tc.loc main_arg11)) (m (c.tc.loc main_arg12)) (m (c.tc.loc main_arg13))

/-- The packed first moments. -/
def packed2 : P := pack (m (c.tc.loc main_arg14)) (m (c.tc.loc main_arg15)) (m (c.tc.loc main_arg16)) (m (c.tc.loc main_arg17)) (m (c.tc.loc main_arg18)) (m (c.tc.loc main_arg19)) (m (c.tc.loc main_arg20))

/-- The packed second moments. -/
def packed3 : P := pack (m (c.tc.loc main_arg21)) (m (c.tc.loc main_arg22)) (m (c.tc.loc main_arg23)) (m (c.tc.loc main_arg24)) (m (c.tc.loc main_arg25)) (m (c.tc.loc main_arg26)) (m (c.tc.loc main_arg27))

/-- The host lines pack them. -/
theorem packed_eq : V m c main_v9 = packed0 m c ∧ V m c main_v19 = packed1 m c ∧ V m c main_v29 = packed2 m c ∧ V m c main_v39 = packed3 m c := by
  refine ⟨?_, ?_, ?_, ?_⟩
  all_goals
    show StableHlo.after (List.flatten [hostOps0, hostOps0_1, hostOps0_2, hostOps0_3, hostOps0_4, hostOps0_5, hostOps0_6, hostOps0_7, hostOps0_8]) (fun b => m (c, b)) _ = _
    simp only [hostOps0, hostOps0_1, hostOps0_2, hostOps0_3, hostOps0_4, hostOps0_5, hostOps0_6, hostOps0_7, hostOps0_8, List.flatten_cons, List.flatten_nil, List.append_nil, List.cons_append,
      List.nil_append, StableHlo.TRef.nullary, StableHlo.TRef.binary, StableHlo.TRef.unary, StableHlo.TRef.toBuf, StableHlo.TRef.ofBuf, cast_eq]
    after_results_simp
    rfl

/-- The one block is the whole array. -/
theorem emb_whole (t : Fin cfg0.N) (y : S8x1024.Idx) : (((cfg0.win 0).rect t).emb y : S8x1024.Idx) = y := by
  refine (ValueIdx.eq_ix2 _).trans ((congrArg₂ ix2 (Fin.ext ?_) (Fin.ext ?_)).trans (ValueIdx.eq_ix2 y).symm)
  · have h := (by decide +kernel : ∀ t : Fin grid0.N, win0_0.index t (0 : Fin 2) = 0) t
    exact (Pipeline.Window.rect_emb_val (cfg0.win 0) t y (0 : Fin 2) rfl).trans (by show win0_0.index t (0 : Fin 2) * 8 + (y 0).val = (y 0).val; omega)
  · exact (Pipeline.Window.rect_emb_val (cfg0.win 0) t y (1 : Fin 2) rfl).trans (by show 0 * 1024 + (y 1).val = (y 1).val; omega)

/-- So an array is read there as it is. -/
theorem whole_at (X : P) (t : Fin cfg0.N) (y : S8x1024.Idx) : X y = X (((cfg0.win 0).rect t).emb y : S8x1024.Idx) := congrArg X (emb_whole t y).symm

/-- What the kernel reads: the packed arrays. -/
theorem blocks (t : Fin cfg0.N) : iblk m c 0 t = packed0 m c ∧ iblk m c 1 t = packed1 m c ∧ iblk m c 2 t = packed2 m c ∧ iblk m c 3 t = packed3 m c := by
  obtain ⟨e0, e1, e2, e3⟩ := packed_eq m c
  exact ⟨Eq.trans (funext fun y => congrArg (V m c main_v9) (emb_whole t y)) e0, Eq.trans (funext fun y => congrArg (V m c main_v19) (emb_whole t y)) e1,
    Eq.trans (funext fun y => congrArg (V m c main_v29) (emb_whole t y)) e2, Eq.trans (funext fun y => congrArg (V m c main_v39) (emb_whole t y)) e3⟩

/-- A zero offset. -/
theorem off2 : (![0, 0] : Fin 2 → Nat) = fun _ => 0 := by funext a; match a with | ⟨0, _⟩ => rfl | ⟨1, _⟩ => rfl

/-- The array of the gradients after the run. -/
theorem final4 : (dats m 0 c).arrAt 4 cfg0.N = packed0 m c := by
  refine (dats m 0 c).arrAt_eq_of_cover 4 _ (fun t _ => ?_) fun y => ⟨t0_0, flush0_4 t0_0, ?_⟩
  · show (cfg0.win 4).cut (cfg0.grid.coords t) ((dats m 0 c).after 4 t) = _
    rw [after0_4, (blocks m c t).1, (blocks m c t).2.1, (blocks m c t).2.2.1, (blocks m c t).2.2.2]
    show (out0_4 (packed0 m c) (packed1 m c) (packed2 m c) (packed3 m c) : P) = _
    funext y
    refine Eq.trans (congrFun (?_ : _ = packed0 m c) y) (whole_at (packed0 m c) t y)
    unfold out0_4
    rw [View.canon_unit_zero off2]
    repeat rw [View.ld_unit_zero off2]
    exact shapeCast_self _ _
  · exact (emb_whole t0_0 y) ▸ View.emb_mem_set _ _

/-- The array of the changes after the run. -/
theorem final5 : (dats m 0 c).arrAt 5 cfg0.N = Adam.delta (packed0 m c) (packed1 m c) (packed2 m c) (packed3 m c) := by
  refine (dats m 0 c).arrAt_eq_of_cover 5 _ (fun t _ => ?_) fun y => ⟨t0_0, flush0_5 t0_0, ?_⟩
  · show (cfg0.win 5).cut (cfg0.grid.coords t) ((dats m 0 c).after 5 t) = _
    rw [after0_5, (blocks m c t).1, (blocks m c t).2.1, (blocks m c t).2.2.1, (blocks m c t).2.2.2]
    show (out0_5 (packed0 m c) (packed1 m c) (packed2 m c) (packed3 m c) : P) = _
    funext y
    refine Eq.trans (congrFun (?_ : _ = Adam.delta (packed0 m c) (packed1 m c) (packed2 m c) (packed3 m c)) y) (whole_at (Adam.delta (packed0 m c) (packed1 m c) (packed2 m c) (packed3 m c)) t y)
    unfold out0_5
    rw [View.canon_unit_zero off2]
    repeat rw [View.ld_unit_zero off2]
    unfold k0_pay4 k0_pay2 k0_pay3 k0_pay1
    simp only [shapeCast_self]
    rfl
  · exact (emb_whole t0_0 y) ▸ View.emb_mem_set _ _

/-- The array of the first moments after the run. -/
theorem final6 : (dats m 0 c).arrAt 6 cfg0.N = Adam.mean (packed0 m c) (packed2 m c) := by
  refine (dats m 0 c).arrAt_eq_of_cover 6 _ (fun t _ => ?_) fun y => ⟨t0_0, flush0_6 t0_0, ?_⟩
  · show (cfg0.win 6).cut (cfg0.grid.coords t) ((dats m 0 c).after 6 t) = _
    rw [after0_6, (blocks m c t).1, (blocks m c t).2.1, (blocks m c t).2.2.1, (blocks m c t).2.2.2]
    show (out0_6 (packed0 m c) (packed1 m c) (packed2 m c) (packed3 m c) : P) = _
    funext y
    refine Eq.trans (congrFun (?_ : _ = Adam.mean (packed0 m c) (packed2 m c)) y) (whole_at (Adam.mean (packed0 m c) (packed2 m c)) t y)
    unfold out0_6
    rw [View.canon_unit_zero off2]
    repeat rw [View.ld_unit_zero off2]
    unfold k0_pay2 k0_pay1
    simp only [shapeCast_self]
    rfl
  · exact (emb_whole t0_0 y) ▸ View.emb_mem_set _ _

/-- The array of the second moments after the run. -/
theorem final7 : (dats m 0 c).arrAt 7 cfg0.N = Adam.square (packed0 m c) (packed3 m c) := by
  refine (dats m 0 c).arrAt_eq_of_cover 7 _ (fun t _ => ?_) fun y => ⟨t0_0, flush0_7 t0_0, ?_⟩
  · show (cfg0.win 7).cut (cfg0.grid.coords t) ((dats m 0 c).after 7 t) = _
    rw [after0_7, (blocks m c t).1, (blocks m c t).2.1, (blocks m c t).2.2.1, (blocks m c t).2.2.2]
    show (out0_7 (packed0 m c) (packed1 m c) (packed2 m c) (packed3 m c) : P) = _
    funext y
    refine Eq.trans (congrFun (?_ : _ = Adam.square (packed0 m c) (packed3 m c)) y) (whole_at (Adam.square (packed0 m c) (packed3 m c)) t y)
    unfold out0_7
    rw [View.canon_unit_zero off2]
    repeat rw [View.ld_unit_zero off2]
    unfold k0_pay3 k0_pay1
    simp only [shapeCast_self]
    rfl
  · exact (emb_whole t0_0 y) ▸ View.emb_mem_set _ _

/-- A buffer after the lines that follow the kernel. -/
abbrev later (X : Valuation τ sig (Elt Ideal)) (b : Ref sig .tc) := StableHlo.after (List.flatten [hostOps1]) X (Proc.devRef .tc b)

/-- The lines after the kernel cut each of its results into the seven weights' parts. -/
theorem ends (X : Valuation τ sig (Elt Ideal)) :
    later X main_v42 = cut0 (X (Proc.devRef .tc main_v40_0))
    ∧ later X main_v44 = cut1 (X (Proc.devRef .tc main_v40_0))
    ∧ later X main_v46 = cut2 (X (Proc.devRef .tc main_v40_0))
    ∧ later X main_v47 = cut3 (X (Proc.devRef .tc main_v40_0))
    ∧ later X main_v50 = cut4 (X (Proc.devRef .tc main_v40_0))
    ∧ later X main_v53 = cut5 (X (Proc.devRef .tc main_v40_0))
    ∧ later X main_v56 = cut6 (X (Proc.devRef .tc main_v40_0))
    ∧ later X main_v58 = cut0 (X (Proc.devRef .tc main_v40_1))
    ∧ later X main_v60 = cut1 (X (Proc.devRef .tc main_v40_1))
    ∧ later X main_v62 = cut2 (X (Proc.devRef .tc main_v40_1))
    ∧ later X main_v63 = cut3 (X (Proc.devRef .tc main_v40_1))
    ∧ later X main_v66 = cut4 (X (Proc.devRef .tc main_v40_1))
    ∧ later X main_v69 = cut5 (X (Proc.devRef .tc main_v40_1))
    ∧ later X main_v72 = cut6 (X (Proc.devRef .tc main_v40_1))
    ∧ later X main_v74 = cut0 (X (Proc.devRef .tc main_v40_2))
    ∧ later X main_v76 = cut1 (X (Proc.devRef .tc main_v40_2))
    ∧ later X main_v78 = cut2 (X (Proc.devRef .tc main_v40_2))
    ∧ later X main_v79 = cut3 (X (Proc.devRef .tc main_v40_2))
    ∧ later X main_v82 = cut4 (X (Proc.devRef .tc main_v40_2))
    ∧ later X main_v85 = cut5 (X (Proc.devRef .tc main_v40_2))
    ∧ later X main_v88 = cut6 (X (Proc.devRef .tc main_v40_2))
    ∧ later X main_v90 = cut0 (X (Proc.devRef .tc main_v40_3))
    ∧ later X main_v92 = cut1 (X (Proc.devRef .tc main_v40_3))
    ∧ later X main_v94 = cut2 (X (Proc.devRef .tc main_v40_3))
    ∧ later X main_v95 = cut3 (X (Proc.devRef .tc main_v40_3))
    ∧ later X main_v98 = cut4 (X (Proc.devRef .tc main_v40_3))
    ∧ later X main_v101 = cut5 (X (Proc.devRef .tc main_v40_3))
    ∧ later X main_v104 = cut6 (X (Proc.devRef .tc main_v40_3)) := by
  refine ⟨?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [later, hostOps1, List.flatten_cons, List.flatten_nil, List.append_nil, List.cons_append, List.nil_append]
    after_results_simp
    rfl

/-- Every window has an array of its own. -/
theorem arrays_ne : Function.Injective (Pipeline.arrRef spec0) :=
  fun a b => (by decide : ∀ a b, Pipeline.arrRef spec0 a = Pipeline.arrRef spec0 b → a = b) a b

/-- The argument of this number. -/
abbrev arg (b : Ref sig .tc) : Buf (Elt Ideal) ((c.tc : Thread nD τ).loc b) := m ((c.tc : Thread nD τ).loc b)

end Cert.Kernel24Ideal.Array

namespace Cert.Values24

open Cert.Kernel24Ideal Cert.Kernel24Ideal.Array Cert.Kernel24Ideal.Gen

/-- From equal arguments the two runs end with the same values. -/
theorem values : Cert.algebraic_Kernel24Ideal_Reference24Ideal
    (hKernel24Ideal := Cert.Kernel24Ideal.Gen.facts) (hReference24Ideal := Cert.Reference24Ideal.Gen.facts) := by
  intro m g m' g' _ hagree
  let a := arg m
  refine ⟨fun c => a c main_arg0, fun c => a c main_arg1, fun c => a c main_arg2, fun c => a c main_arg3, fun c => a c main_arg4, fun c => a c main_arg5, fun c => a c main_arg6,
    fun c => Adam.delta (a c main_arg0) (a c main_arg7) (a c main_arg14) (a c main_arg21), fun c => Adam.delta (a c main_arg1) (a c main_arg8) (a c main_arg15) (a c main_arg22), fun c => Adam.delta (a c main_arg2) (a c main_arg9) (a c main_arg16) (a c main_arg23), fun c => Adam.delta (a c main_arg3) (a c main_arg10) (a c main_arg17) (a c main_arg24), fun c => Adam.delta (a c main_arg4) (a c main_arg11) (a c main_arg18) (a c main_arg25), fun c => Adam.delta (a c main_arg5) (a c main_arg12) (a c main_arg19) (a c main_arg26), fun c => Adam.delta (a c main_arg6) (a c main_arg13) (a c main_arg20) (a c main_arg27),
    fun c => Adam.mean (a c main_arg0) (a c main_arg14), fun c => Adam.mean (a c main_arg1) (a c main_arg15), fun c => Adam.mean (a c main_arg2) (a c main_arg16), fun c => Adam.mean (a c main_arg3) (a c main_arg17), fun c => Adam.mean (a c main_arg4) (a c main_arg18), fun c => Adam.mean (a c main_arg5) (a c main_arg19), fun c => Adam.mean (a c main_arg6) (a c main_arg20),
    fun c => Adam.square (a c main_arg0) (a c main_arg21), fun c => Adam.square (a c main_arg1) (a c main_arg22), fun c => Adam.square (a c main_arg2) (a c main_arg23), fun c => Adam.square (a c main_arg3) (a c main_arg24), fun c => Adam.square (a c main_arg4) (a c main_arg25), fun c => Adam.square (a c main_arg5) (a c main_arg26), fun c => Adam.square (a c main_arg6) (a c main_arg27),
    (θ_run _ _ _).mono (fun r h c => ?_) (run_main m g), (θ_run _ _ _).mono (fun r h c => ?_) (Cert.Reference24Ideal.Value.run m' g')⟩
  · obtain ⟨p0, p1, p2, p3, p4, p5, p6, p7, p8, p9, p10, p11, p12, p13, p14, p15, p16, p17, p18, p19, p20, p21, p22, p23, p24, p25, p26, p27⟩ := ends (Pipeline.withArrays spec0 c (V0 m c) fun w => (dats m 0 c).arrAt w cfg0.N)
    have a0 := (Pipeline.withArrays_arr spec0 arrays_ne c (V0 m c) (fun w => (dats m 0 c).arrAt w cfg0.N) 4).trans (final4 m c)
    have a1 := (Pipeline.withArrays_arr spec0 arrays_ne c (V0 m c) (fun w => (dats m 0 c).arrAt w cfg0.N) 5).trans (final5 m c)
    have a2 := (Pipeline.withArrays_arr spec0 arrays_ne c (V0 m c) (fun w => (dats m 0 c).arrAt w cfg0.N) 6).trans (final6 m c)
    have a3 := (Pipeline.withArrays_arr spec0 arrays_ne c (V0 m c) (fun w => (dats m 0 c).arrAt w cfg0.N) 7).trans (final7 m c)
    have q0 := parts (G := packed0 m c) (W := packed1 m c) (M := packed2 m c) (N := packed3 m c) cut0_at (pack0 _ _ _ _ _ _ _) (pack0 _ _ _ _ _ _ _) (pack0 _ _ _ _ _ _ _) (pack0 _ _ _ _ _ _ _)
    have q1 := parts (G := packed0 m c) (W := packed1 m c) (M := packed2 m c) (N := packed3 m c) cut1_at (pack1 _ _ _ _ _ _ _) (pack1 _ _ _ _ _ _ _) (pack1 _ _ _ _ _ _ _) (pack1 _ _ _ _ _ _ _)
    have q2 := parts (G := packed0 m c) (W := packed1 m c) (M := packed2 m c) (N := packed3 m c) cut2_at (pack2 _ _ _ _ _ _ _) (pack2 _ _ _ _ _ _ _) (pack2 _ _ _ _ _ _ _) (pack2 _ _ _ _ _ _ _)
    have q3 := parts (G := packed0 m c) (W := packed1 m c) (M := packed2 m c) (N := packed3 m c) cut3_at (pack3 _ _ _ _ _ _ _) (pack3 _ _ _ _ _ _ _) (pack3 _ _ _ _ _ _ _) (pack3 _ _ _ _ _ _ _)
    have q4 := parts (G := packed0 m c) (W := packed1 m c) (M := packed2 m c) (N := packed3 m c) cut4_at (pack4 _ _ _ _ _ _ _) (pack4 _ _ _ _ _ _ _) (pack4 _ _ _ _ _ _ _) (pack4 _ _ _ _ _ _ _)
    have q5 := parts (G := packed0 m c) (W := packed1 m c) (M := packed2 m c) (N := packed3 m c) cut5_at (pack5 _ _ _ _ _ _ _) (pack5 _ _ _ _ _ _ _) (pack5 _ _ _ _ _ _ _) (pack5 _ _ _ _ _ _ _)
    have q6 := parts (G := packed0 m c) (W := packed1 m c) (M := packed2 m c) (N := packed3 m c) cut6_at (pack6 _ _ _ _ _ _ _) (pack6 _ _ _ _ _ _ _) (pack6 _ _ _ _ _ _ _) (pack6 _ _ _ _ _ _ _)
    exact ⟨((h c).2 main_v42 (by decide)).trans (p0.trans ((congrArg cut0 a0).trans q0.1)),
      ((h c).2 main_v44 (by decide)).trans (p1.trans ((congrArg cut1 a0).trans q1.1)),
      ((h c).2 main_v46 (by decide)).trans (p2.trans ((congrArg cut2 a0).trans q2.1)),
      ((h c).2 main_v47 (by decide)).trans (p3.trans ((congrArg cut3 a0).trans q3.1)),
      ((h c).2 main_v50 (by decide)).trans (p4.trans ((congrArg cut4 a0).trans q4.1)),
      ((h c).2 main_v53 (by decide)).trans (p5.trans ((congrArg cut5 a0).trans q5.1)),
      ((h c).2 main_v56 (by decide)).trans (p6.trans ((congrArg cut6 a0).trans q6.1)),
      ((h c).2 main_v58 (by decide)).trans (p7.trans ((congrArg cut0 a1).trans q0.2.1)),
      ((h c).2 main_v60 (by decide)).trans (p8.trans ((congrArg cut1 a1).trans q1.2.1)),
      ((h c).2 main_v62 (by decide)).trans (p9.trans ((congrArg cut2 a1).trans q2.2.1)),
      ((h c).2 main_v63 (by decide)).trans (p10.trans ((congrArg cut3 a1).trans q3.2.1)),
      ((h c).2 main_v66 (by decide)).trans (p11.trans ((congrArg cut4 a1).trans q4.2.1)),
      ((h c).2 main_v69 (by decide)).trans (p12.trans ((congrArg cut5 a1).trans q5.2.1)),
      ((h c).2 main_v72 (by decide)).trans (p13.trans ((congrArg cut6 a1).trans q6.2.1)),
      ((h c).2 main_v74 (by decide)).trans (p14.trans ((congrArg cut0 a2).trans q0.2.2.1)),
      ((h c).2 main_v76 (by decide)).trans (p15.trans ((congrArg cut1 a2).trans q1.2.2.1)),
      ((h c).2 main_v78 (by decide)).trans (p16.trans ((congrArg cut2 a2).trans q2.2.2.1)),
      ((h c).2 main_v79 (by decide)).trans (p17.trans ((congrArg cut3 a2).trans q3.2.2.1)),
      ((h c).2 main_v82 (by decide)).trans (p18.trans ((congrArg cut4 a2).trans q4.2.2.1)),
      ((h c).2 main_v85 (by decide)).trans (p19.trans ((congrArg cut5 a2).trans q5.2.2.1)),
      ((h c).2 main_v88 (by decide)).trans (p20.trans ((congrArg cut6 a2).trans q6.2.2.1)),
      ((h c).2 main_v90 (by decide)).trans (p21.trans ((congrArg cut0 a3).trans q0.2.2.2)),
      ((h c).2 main_v92 (by decide)).trans (p22.trans ((congrArg cut1 a3).trans q1.2.2.2)),
      ((h c).2 main_v94 (by decide)).trans (p23.trans ((congrArg cut2 a3).trans q2.2.2.2)),
      ((h c).2 main_v95 (by decide)).trans (p24.trans ((congrArg cut3 a3).trans q3.2.2.2)),
      ((h c).2 main_v98 (by decide)).trans (p25.trans ((congrArg cut4 a3).trans q4.2.2.2)),
      ((h c).2 main_v101 (by decide)).trans (p26.trans ((congrArg cut5 a3).trans q5.2.2.2)),
      ((h c).2 main_v104 (by decide)).trans (p27.trans ((congrArg cut6 a3).trans q6.2.2.2)),
      ((h c).2 main_arg0 (by decide)).trans (W_main_arg0 m (dats m) c),
      ((h c).2 main_arg1 (by decide)).trans (W_main_arg1 m (dats m) c),
      ((h c).2 main_arg2 (by decide)).trans (W_main_arg2 m (dats m) c),
      ((h c).2 main_arg3 (by decide)).trans (W_main_arg3 m (dats m) c),
      ((h c).2 main_arg4 (by decide)).trans (W_main_arg4 m (dats m) c),
      ((h c).2 main_arg5 (by decide)).trans (W_main_arg5 m (dats m) c),
      ((h c).2 main_arg6 (by decide)).trans (W_main_arg6 m (dats m) c),
      ((h c).2 main_arg7 (by decide)).trans (W_main_arg7 m (dats m) c),
      ((h c).2 main_arg8 (by decide)).trans (W_main_arg8 m (dats m) c),
      ((h c).2 main_arg9 (by decide)).trans (W_main_arg9 m (dats m) c),
      ((h c).2 main_arg10 (by decide)).trans (W_main_arg10 m (dats m) c),
      ((h c).2 main_arg11 (by decide)).trans (W_main_arg11 m (dats m) c),
      ((h c).2 main_arg12 (by decide)).trans (W_main_arg12 m (dats m) c),
      ((h c).2 main_arg13 (by decide)).trans (W_main_arg13 m (dats m) c),
      ((h c).2 main_arg14 (by decide)).trans (W_main_arg14 m (dats m) c),
      ((h c).2 main_arg15 (by decide)).trans (W_main_arg15 m (dats m) c),
      ((h c).2 main_arg16 (by decide)).trans (W_main_arg16 m (dats m) c),
      ((h c).2 main_arg17 (by decide)).trans (W_main_arg17 m (dats m) c),
      ((h c).2 main_arg18 (by decide)).trans (W_main_arg18 m (dats m) c),
      ((h c).2 main_arg19 (by decide)).trans (W_main_arg19 m (dats m) c),
      ((h c).2 main_arg20 (by decide)).trans (W_main_arg20 m (dats m) c),
      ((h c).2 main_arg21 (by decide)).trans (W_main_arg21 m (dats m) c),
      ((h c).2 main_arg22 (by decide)).trans (W_main_arg22 m (dats m) c),
      ((h c).2 main_arg23 (by decide)).trans (W_main_arg23 m (dats m) c),
      ((h c).2 main_arg24 (by decide)).trans (W_main_arg24 m (dats m) c),
      ((h c).2 main_arg25 (by decide)).trans (W_main_arg25 m (dats m) c),
      ((h c).2 main_arg26 (by decide)).trans (W_main_arg26 m (dats m) c),
      ((h c).2 main_arg27 (by decide)).trans (W_main_arg27 m (dats m) c)⟩
  · obtain ⟨r0, r1, r2, r3, r4, r5, r6, r7, r8, r9, r10, r11, r12, r13, r14, r15, r16, r17, r18, r19, r20, r21, r22, r23, r24, r25, r26, r27, hr⟩ := h c
    obtain ⟨e0, e1, e2, e3, e4, e5, e6, e7, e8, e9, e10, e11, e12, e13, e14, e15, e16, e17, e18, e19, e20, e21, e22, e23, e24, e25, e26, e27⟩ := hagree c
    have s0 := same e0 e7 e14 e21
    have s1 := same e1 e8 e15 e22
    have s2 := same e2 e9 e16 e23
    have s3 := same e3 e10 e17 e24
    have s4 := same e4 e11 e18 e25
    have s5 := same e5 e12 e19 e26
    have s6 := same e6 e13 e20 e27
    exact ⟨r0.trans e0,
      r1.trans e1,
      r2.trans e2,
      r3.trans e3,
      r4.trans e4,
      r5.trans e5,
      r6.trans e6,
      r7.trans s0.1,
      r8.trans s1.1,
      r9.trans s2.1,
      r10.trans s3.1,
      r11.trans s4.1,
      r12.trans s5.1,
      r13.trans s6.1,
      r14.trans s0.2.1,
      r15.trans s1.2.1,
      r16.trans s2.2.1,
      r17.trans s3.2.1,
      r18.trans s4.2.1,
      r19.trans s5.2.1,
      r20.trans s6.2.1,
      r21.trans s0.2.2,
      r22.trans s1.2.2,
      r23.trans s2.2.2,
      r24.trans s3.2.2,
      r25.trans s4.2.2,
      r26.trans s5.2.2,
      r27.trans s6.2.2, hr⟩

/-- The plain program writes none of its arguments and declares no semaphore. -/
theorem reference_frame : Cert.quiescent_Reference24Ideal (hReference24Ideal := Cert.Reference24Ideal.Gen.facts) :=
  fun m ρ _ => (θ_run Cert.Reference24Ideal.defs _ _).mono (fun r h => ⟨fun c => by
    obtain ⟨_, _, _, _, _, _, _, _, _, _, _, _, _, _, _, _, _, _, _, _, _, _, _, _, _, _, _, _, hr⟩ := h c
    exact hr, sem_eq_zero_of_no_sems (by decide) r.2⟩) (Cert.Reference24Ideal.Value.run (F := Ideal) m ρ)

end Cert.Values24
-- ==== Proof.Halves.lean ====
/-
  The optimiser's step on a weight whose gradient comes as two halves, one summed here and one received.
-/
module

public import proofs.«01_k».proof.Proof.Adam
public import Idealize.ShloMosaic.Lib.Pipeline.Value
public import Idealize.ShloMosaic.Lib.Pipeline.ValueKit

@[expose] public section

noncomputable section

open Idealize.ShloMosaic hiding ix0 ix1 ix2 ix3
open Idealize.ShloMosaic.ValueIdx

namespace Cert.Halves

/-- The first word of the table: which half of the rows the device summed itself. -/
def place (x : IVec ⟨1, ![5]⟩ 32) : BitVec 32 := x (ix1 0)

/-- A clipped word is at most the upper bound. -/
theorem clip_le {b x : BitVec 32} (hb : 0 ≤ b.toInt) : (Scalar.minsi b (Scalar.maxsi 0#32 x)).toNat ≤ b.toNat := by
  generalize hc : Scalar.maxsi 0#32 x = c
  have c0 : 0 ≤ c.toInt := by
    rw [← hc]
    show 0 ≤ (if x.slt 0#32 then 0#32 else x).toInt
    split
    · decide
    · rename_i h
      rw [BitVec.slt_iff_toInt_lt, not_lt] at h
      exact h
  show (if b.slt c then b else c).toNat ≤ b.toNat
  split
  · exact Nat.le_refl _
  · rename_i h
    rw [BitVec.slt_iff_toInt_lt, not_lt] at h
    rw [BitVec.toInt_eq_toNat_cond] at h c0 hb
    rw [BitVec.toInt_eq_toNat_cond] at h
    have := c.isLt; have := b.isLt
    split at h <;> split at h <;> split at c0 <;> split at hb <;> omega

/-- The whole gradient: the device's half at its place, the other half at the other. -/
def joined {h n k : ℕ} (hn : n = h + h) (p : BitVec 32) (a b : FVec Ideal ⟨2, ![h, k]⟩ .f32) : FVec Ideal ⟨2, ![n, k]⟩ .f32 := fun y =>
  if hy : (y 0).val < h then (if p = 0#32 then a else b) (ix2 ⟨(y 0).val, hy⟩ (y 1))
  else (if p = 0#32 then b else a) (ix2 ⟨(y 0).val - h, by have : (y 0).val < n := (y 0).isLt; omega⟩ (y 1))

/-- An entry of the first half. -/
theorem joined_low {h n k : ℕ} (hn : n = h + h) (p : BitVec 32) (a b : FVec Ideal ⟨2, ![h, k]⟩ .f32) (r : Fin n) (s : Fin k) (hr : r.val < h) :
    joined hn p a b (ix2 r s) = (if p = 0#32 then a else b) (ix2 ⟨r.val, hr⟩ s) := dif_pos hr

/-- An entry of the second half. -/
theorem joined_high {h n k : ℕ} (hn : n = h + h) (p : BitVec 32) (a b : FVec Ideal ⟨2, ![h, k]⟩ .f32) (r : Fin n) (s : Fin k) (hr : ¬ r.val < h) :
    joined hn p a b (ix2 r s) = (if p = 0#32 then b else a) (ix2 ⟨r.val - h, by have := r.isLt; omega⟩ s) := dif_neg hr

/-- An entry of a block of `T` rows, chosen at point `t` between the two halves' blocks: the first half at the low points, the second at the high ones. -/
theorem joined_block {l T h n k : ℕ} (hn : n = h + h) (hh : h = l * T) {p : BitVec 32} (hp : p = 0#32 ∨ p = 1#32) (a b : FVec Ideal ⟨2, ![h, k]⟩ .f32)
    (t : ℕ) (ht : t < 2 * l) (at_ : BitVec 32 → ℕ) (low : t < l → at_ 0#32 = t) (high : ¬ t < l → at_ 1#32 = t - l) (r : Fin T) (s : Fin k)
    (hr : t * T + r.val < n) {g x y : EReal} (c0 : p = 0#32 → g = if t < l then x else y) (c1 : p = 1#32 → g = if t < l then y else x)
    (hx : ∀ q, p = q → ∀ d : at_ q * T + r.val < h, x = a (ix2 ⟨at_ q * T + r.val, d⟩ s))
    (hy : ∀ q, Scalar.subi 1#32 p = q → ∀ d : at_ q * T + r.val < h, y = b (ix2 ⟨at_ q * T + r.val, d⟩ s)) :
    g = joined hn p a b (ix2 ⟨t * T + r.val, hr⟩ s) := by
  have hrT := r.isLt
  by_cases hl : t < l
  · have hb := low hl
    have h1 : (t + 1) * T ≤ l * T := Nat.mul_le_mul_right T hl
    have h2 : (t + 1) * T = t * T + T := by ring
    have d : at_ 0#32 * T + r.val < h := by rw [hb]; omega
    have e : (⟨at_ 0#32 * T + r.val, d⟩ : Fin h) = ⟨t * T + r.val, by omega⟩ := Fin.ext (by show at_ 0#32 * T + r.val = t * T + r.val; rw [hb])
    rw [joined_low hn p a b ⟨t * T + r.val, hr⟩ s (by show t * T + r.val < h; omega)]
    rcases hp with hp | hp
    · rw [c0 hp, if_pos hl, if_pos hp, hx _ hp d, e]
    · rw [c1 hp, if_pos hl, if_neg (by rw [hp]; decide), hy 0#32 (by rw [hp]; rfl) d, e]
  · have hb := high hl
    have h1 : l * T ≤ t * T := Nat.mul_le_mul_right T (not_lt.mp hl)
    have h2 : (t - l) * T = t * T - l * T := Nat.sub_mul t l T
    have d : at_ 1#32 * T + r.val < h := by rw [hb]; omega
    have e : (⟨at_ 1#32 * T + r.val, d⟩ : Fin h) = ⟨t * T + r.val - h, by omega⟩ := Fin.ext (by show at_ 1#32 * T + r.val = t * T + r.val - h; rw [hb]; omega)
    rw [joined_high hn p a b ⟨t * T + r.val, hr⟩ s (by show ¬ t * T + r.val < h; omega)]
    rcases hp with hp | hp
    · rw [c0 hp, if_neg hl, if_pos hp, hy 1#32 (by rw [hp]; rfl) d, e]
    · rw [c1 hp, if_neg hl, if_neg (by rw [hp]; decide), hx _ hp d, e]

/-- The precondition's word says that the place is the first or the second. -/
theorem place_of_word {p : BitVec 32} (h : IntOp.ori (IntOp.cmpi .eq p 0#32) (IntOp.cmpi .eq p 1#32) = 1#1) : p = 0#32 ∨ p = 1#32 := by
  by_cases h0 : p = 0#32
  · exact Or.inl h0
  by_cases h1 : p = 1#32
  · exact Or.inr h1
  exfalso
  have e0 : (p == 0#32) = false := beq_false_of_ne h0
  have e1 : (p == 1#32) = false := beq_false_of_ne h1
  have h' : BitVec.ofBool (p == 0#32) ||| BitVec.ofBool (p == 1#32) = 1#1 := h
  rw [e0, e1] at h'
  exact absurd h' (by decide)

/-- The first word of a table, sliced out and made a scalar. -/
theorem place_slice (x : IVec ⟨1, ![5]⟩ 32) (ht : Shape.Slices ⟨1, ![5]⟩ ![0] ⟨1, ![1]⟩) (hu : Shape.ShapeCasts ⟨1, ![1]⟩ ⟨0, ![]⟩) (i : Shape.Idx ⟨0, ![]⟩) :
    shapeCast ⟨0, ![]⟩ (extractStridedSlice ⟨1, ![1]⟩ ![0] x ht) hu i = place x := by
  refine (shapeCast_apply _ hu i (ix1 0) (by rfl)).trans ?_
  exact extractStridedSlice_apply ![0] x ht (ix1 0) (ix1 0) (fun a => match a with | ⟨0, _⟩ => rfl)

/-- Choosing by the comparison with zero. -/
theorem select_place {t : Shape} (w : IVec ⟨1, ![5]⟩ 32) (ht : Shape.Slices ⟨1, ![5]⟩ ![0] ⟨1, ![1]⟩) (hu : Shape.ShapeCasts ⟨1, ![1]⟩ ⟨0, ![]⟩)
    (hb : Shape.BroadcastsInDim ⟨0, ![]⟩ t (![] : Fin 0 → Fin t.rank)) (a b : FVec Ideal t .f32) (j : t.Idx) :
    select (broadcastInDim t ![] hb (cmpi .eq (shapeCast ⟨0, ![]⟩ (extractStridedSlice ⟨1, ![1]⟩ ![0] w ht) hu) (constantI ⟨0, ![]⟩ 32 0#32))) a b j
      = (if place w = 0#32 then a else b) j := by
  have e : (broadcastInDim t ![] hb (cmpi .eq (shapeCast ⟨0, ![]⟩ (extractStridedSlice ⟨1, ![1]⟩ ![0] w ht) hu) (constantI ⟨0, ![]⟩ 32 0#32)) : IVec t 1) j
      = IntOp.cmpi .eq (place w) 0#32 := congrArg (fun x => IntOp.cmpi .eq x 0#32) (place_slice w ht hu _)
  show (if _ = 1#1 then a j else b j) = _
  rw [e]
  by_cases h : place w = 0#32
  · rw [if_pos h, h]; rfl
  · have e0 : (place w == 0#32) = false := beq_false_of_ne h
    have e1 : IntOp.cmpi .eq (place w) 0#32 = 0#1 := congrArg BitVec.ofBool e0
    rw [if_neg h, e1]; rfl

/-- The two halves put one below the other in their order are the joined array. -/
theorem joined_eq {h n k : ℕ} (hn : n = h + h) (p : BitVec 32) (a b : FVec Ideal ⟨2, ![h, k]⟩ .f32) {x y : FVec Ideal ⟨2, ![h, k]⟩ .f32}
    (hx : ∀ j, x j = (if p = 0#32 then a else b) j) (hy : ∀ j, y j = (if p = 0#32 then b else a) j)
    (hc : Shape.Concatenates [(⟨2, ![h, k]⟩ : Shape), ⟨2, ![h, k]⟩] ⟨2, ![n, k]⟩ 0) :
    concatenate ⟨2, ![n, k]⟩ 0 [⟨⟨2, ![h, k]⟩, x⟩, ⟨⟨2, ![h, k]⟩, y⟩] hc = joined hn p a b := by
  funext z
  obtain ⟨r, s, rfl⟩ : ∃ (r : Fin n) (s : Fin k), z = ix2 r s := ⟨z 0, z 1, ValueIdx.eq_ix2 z⟩
  by_cases hr : r.val < h
  · rw [joined_low hn p a b r s hr, ← hx]
    exact concatenate_pair_apply_left 0 x y hc (ix2 r s) rfl (ix2 ⟨r.val, hr⟩ s) (fun b => match b with | ⟨0, _⟩ => rfl | ⟨1, _⟩ => rfl)
  · rw [joined_high hn p a b r s hr, ← hy]
    exact concatenate_pair_apply_right 0 x y hc (ix2 r s) rfl rfl (ix2 ⟨r.val - h, by have := r.isLt; omega⟩ s)
      (fun b hb => match b with | ⟨0, _⟩ => absurd rfl hb | ⟨1, _⟩ => rfl) (by show r.val - h + h = r.val; omega)

end Cert.Halves
-- ==== Proof.Half19.lean ====
/-
  The optimiser's step on a widening weight, whose gradient comes as two halves.
-/
module

public import proofs.«01_k».proof.Defs
public import proofs.«01_k».proof.Proof.Halves
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Reference19Ideal.Read
public import Idealize.ShloMosaic.Adequacy
public import Idealize.ShloMosaic.Init

@[expose] public section

set_option maxRecDepth 16384

noncomputable section

open Idealize.SL.Sem
open Idealize.ShloMosaic hiding ix0 ix1 ix2 ix3
open Idealize.ShloMosaic.ValueIdx

namespace Cert.Kernel19.Array

open Cert.Kernel19 Cert.Kernel19.Gen

/-- Whatever the table holds, every block lies inside its array. -/
theorem ok {F : FTy → Type} [FloatOps F] (m : (ℓ : Loc nD τ sig) → Buf (Elt F) ℓ) : Ok m := by
  refine ⟨fun i => ⟨fun a => ?_, Or.inl rfl⟩, fun i => ⟨fun a => ?_, Or.inl rfl⟩⟩ <;>
  match a with
  | ⟨0, _⟩ => exact Nat.mul_le_mul_right 256 (Nat.succ_le_succ (Halves.clip_le (b := 3#32) (by decide)))
  | ⟨1, _⟩ => show (0 + 1) * 1408 ≤ 1408; omega

end Cert.Kernel19.Array

namespace Cert.Kernel19Ideal.Array

open Cert.Kernel19Ideal Cert.Kernel19Ideal.Gen Idealize.ShloMosaic.TcCoe

/-- Whatever the table holds, every block lies inside its array. -/
theorem ok {F : FTy → Type} [FloatOps F] (m : (ℓ : Loc nD τ sig) → Buf (Elt F) ℓ) : Ok m := by
  refine ⟨fun i => ⟨fun a => ?_, Or.inl rfl⟩, fun i => ⟨fun a => ?_, Or.inl rfl⟩⟩ <;>
  match a with
  | ⟨0, _⟩ => exact Nat.mul_le_mul_right 256 (Nat.succ_le_succ (Halves.clip_le (b := 3#32) (by decide)))
  | ⟨1, _⟩ => show (0 + 1) * 1408 ≤ 1408; omega

/-- A block's contents. -/
abbrev B := Vec Ideal S256x1408 .f32

/-- The clipped block number of a half, `q` halves down. -/
def blockOf (q : BitVec 32) (t : Fin grid0.N) : ℕ :=
  (Scalar.minsi 3#32 (Scalar.maxsi 0#32 (Scalar.subi (BitVec.ofNat 32 (grid0.coords t 0).val) (Scalar.muli q 4#32)))).toNat

/-- In the first half of the points the first half's block is the point's. -/
theorem block_low : ∀ t : Fin grid0.N, t.val < 4 → blockOf 0#32 t = t.val := by decide +kernel

/-- In the second half of the points the second half's block is counted from its start. -/
theorem block_high : ∀ t : Fin grid0.N, ¬ t.val < 4 → blockOf 1#32 t = t.val - 4 := by decide +kernel

/-- The block coordinates of the whole arrays. -/
theorem rows : ∀ t : Fin grid0.N, cc0_transform_2 (grid0.coords t) 0 = t.val ∧ cc0_transform_2 (grid0.coords t) 1 = 0 := by decide +kernel

section
variable (a : (pcfg0 (F := Ideal)).Adm) (t : Fin grid0.N) (r : Fin 256) (s : Fin 1408)

/-- The array's row of a block's row at point `t`. -/
def row : Fin 2048 := ⟨t.val * 256 + r.val, by have : t.val < 8 := t.isLt; omega⟩

/-- Where an entry of a whole array's block sits in the array. -/
theorem emb2 : (((win0 a 2).rect t).emb (ix2 r s) : Shape.Idx S2048x1408) = ix2 (row t r) s := by
  refine (ValueIdx.eq_ix2 _).trans (congrArg₂ ix2 (Fin.ext ?_) (Fin.ext ?_))
  · refine (Pipeline.Window.rect_emb_val (win0 a 2) t (ix2 r s) (0 : Fin 2) rfl).trans ?_
    show cc0_transform_2 (grid0.coords t) 0 * 256 + r.val = t.val * 256 + r.val
    rw [(rows t).1]
  · refine (Pipeline.Window.rect_emb_val (win0 a 2) t (ix2 r s) (1 : Fin 2) rfl).trans ?_
    show cc0_transform_2 (grid0.coords t) 1 * 1408 + s.val = s.val
    rw [(rows t).2]; omega

/-- Where an entry of the own half's block sits in the half. -/
theorem emb0 {q : BitVec 32} (hq : a.1.at 0 (Rect.unit (s := S5) ![0] S1.size Facts₀.inb_S5_S1_0) Facts₀.numel1_S1 = q) (h : blockOf q t * 256 + r.val < 1024) :
    (((win0 a 0).rect t).emb (ix2 r s) : Shape.Idx S1024x1408) = ix2 ⟨blockOf q t * 256 + r.val, h⟩ s := by
  subst hq
  refine (ValueIdx.eq_ix2 _).trans (congrArg₂ ix2 (Fin.ext ?_) (Fin.ext ?_))
  · exact (Pipeline.Window.rect_emb_val (win0 a 0) t (ix2 r s) (0 : Fin 2) rfl).trans rfl
  · exact (Pipeline.Window.rect_emb_val (win0 a 0) t (ix2 r s) (1 : Fin 2) rfl).trans (by show 0 * 1408 + s.val = s.val; omega)

/-- Where an entry of the other half's block sits in the half. -/
theorem emb1 {q : BitVec 32} (hq : Scalar.subi 1#32 (a.1.at 0 (Rect.unit (s := S5) ![0] S1.size Facts₀.inb_S5_S1_0) Facts₀.numel1_S1) = q) (h : blockOf q t * 256 + r.val < 1024) :
    (((win0 a 1).rect t).emb (ix2 r s) : Shape.Idx S1024x1408) = ix2 ⟨blockOf q t * 256 + r.val, h⟩ s := by
  subst hq
  refine (ValueIdx.eq_ix2 _).trans (congrArg₂ ix2 (Fin.ext ?_) (Fin.ext ?_))
  · exact (Pipeline.Window.rect_emb_val (win0 a 1) t (ix2 r s) (0 : Fin 2) rfl).trans rfl
  · exact (Pipeline.Window.rect_emb_val (win0 a 1) t (ix2 r s) (1 : Fin 2) rfl).trans (by show 0 * 1408 + s.val = s.val; omega)

/-- Every entry of a whole array is in a block. -/
theorem in_block (i : S2048x1408.Idx) : ∃ (t : Fin grid0.N) (r : Fin 256) (s : Fin 1408), i = ix2 (row t r) s := by
  have b0 : (i 0).val < 2048 := (i 0).isLt
  refine ⟨⟨(i 0).val / 256, show _ < 8 by omega⟩, ⟨(i 0).val % 256, by omega⟩, i 1, (ValueIdx.eq_ix2 i).trans (congrArg₂ ix2 (Fin.ext ?_) rfl)⟩
  show (i 0).val = (i 0).val / 256 * 256 + (i 0).val % 256
  omega

/-- An entry of an array is one of a block's. -/
theorem read2 (X : Vec Ideal S2048x1408 .f32) : (((win0 a 2).blk t).view.read (Elt Ideal) X : B) (ix2 r s) = X (ix2 (row t r) s) := congrArg X (emb2 a t r s)
end

variable (m : (ℓ : Loc nD τ sig) → Buf (Elt Ideal) ℓ) (c : Dev nD) (t : Fin grid0.N)

/-- The table's first word. -/
def first : BitVec 32 := Halves.place (m ((c : Thread nD τ).loc main_arg0))

/-- The word the block coordinates are computed from. -/
theorem word_eq : (tbl m).at 0 (Rect.unit (s := S5) ![0] S1.size Facts₀.inb_S5_S1_0) Facts₀.numel1_S1 = first m c := by
  obtain rfl : c = 0 := Subsingleton.elim _ _
  refine congrArg (m (((0 : Dev nD) : Thread nD τ).loc main_arg0)) (funext fun a => Fin.ext ?_)
  match a with
  | ⟨0, _⟩ => rfl

/-- Argument 1. -/
abbrev arg1 : Vec Ideal S1024x1408 .f32 := m ((c : Thread nD τ).loc main_arg1)

/-- Its block at point `t`. -/
def piece0 : B := iblk m (ok m) c 0 t

/-- Argument 2. -/
abbrev arg2 : Vec Ideal S1024x1408 .f32 := m ((c : Thread nD τ).loc main_arg2)

/-- Its block at point `t`. -/
def piece1 : B := iblk m (ok m) c 1 t

/-- Argument 3. -/
abbrev arg3 : Vec Ideal S2048x1408 .f32 := m ((c : Thread nD τ).loc main_arg3)

/-- Its block at point `t`. -/
def piece2 : B := iblk m (ok m) c 2 t

/-- Argument 4. -/
abbrev arg4 : Vec Ideal S2048x1408 .f32 := m ((c : Thread nD τ).loc main_arg4)

/-- Its block at point `t`. -/
def piece3 : B := iblk m (ok m) c 3 t

/-- Argument 5. -/
abbrev arg5 : Vec Ideal S2048x1408 .f32 := m ((c : Thread nD τ).loc main_arg5)

/-- Its block at point `t`. -/
def piece4 : B := iblk m (ok m) c 4 t

/-- The joined gradient. -/
def grad : Vec Ideal S2048x1408 .f32 := Halves.joined (by decide) (first m c) (arg1 m c) (arg2 m c)

/-- A block of argument 3. -/
theorem block3 (r : Fin 256) (s : Fin 1408) : (piece2 m c t) (ix2 r s) = (arg3 m c) (ix2 (row t r) s) := by
  show V m c main_arg3 (((win0 (adm m (ok m)) 2).rect t).emb (ix2 r s)) = _
  rw [V_main_arg3]
  exact congrArg (arg3 m c) (emb2 (adm m (ok m)) t r s)

/-- A block of argument 4. -/
theorem block4 (r : Fin 256) (s : Fin 1408) : (piece3 m c t) (ix2 r s) = (arg4 m c) (ix2 (row t r) s) := by
  show V m c main_arg4 (((win0 (adm m (ok m)) 3).rect t).emb (ix2 r s)) = _
  rw [V_main_arg4]
  exact congrArg (arg4 m c) (emb2 (adm m (ok m)) t r s)

/-- A block of argument 5. -/
theorem block5 (r : Fin 256) (s : Fin 1408) : (piece4 m c t) (ix2 r s) = (arg5 m c) (ix2 (row t r) s) := by
  show V m c main_arg5 (((win0 (adm m (ok m)) 4).rect t).emb (ix2 r s)) = _
  rw [V_main_arg5]
  exact congrArg (arg5 m c) (emb2 (adm m (ok m)) t r s)

/-- A block of the own half. -/
theorem half0 {q : BitVec 32} (hq : first m c = q) (r : Fin 256) (s : Fin 1408) (h : blockOf q t * 256 + r.val < 1024) :
    (piece0 m c t) (ix2 r s) = (arg1 m c) (ix2 ⟨blockOf q t * 256 + r.val, h⟩ s) := by
  show V m c main_arg1 (((win0 (adm m (ok m)) 0).rect t).emb (ix2 r s)) = _
  rw [V_main_arg1]
  exact congrArg (arg1 m c) (emb0 (adm m (ok m)) t r s ((word_eq m c).trans hq) h)

/-- A block of the other half. -/
theorem half1 {q : BitVec 32} (hq : Scalar.subi 1#32 (first m c) = q) (r : Fin 256) (s : Fin 1408) (h : blockOf q t * 256 + r.val < 1024) :
    (piece1 m c t) (ix2 r s) = (arg2 m c) (ix2 ⟨blockOf q t * 256 + r.val, h⟩ s) := by
  show V m c main_arg2 (((win0 (adm m (ok m)) 1).rect t).emb (ix2 r s)) = _
  rw [V_main_arg2]
  exact congrArg (arg2 m c) (emb1 (adm m (ok m)) t r s ((congrArg (Scalar.subi 1#32) (word_eq m c)).trans hq) h)

/-- The block taken at each point when the own half is the first. -/
theorem chosen0 (x y : B) (t : Fin grid0.N) (e : S256x1408.Idx) : k0_pay2 (F := Ideal) (grid0.coords t) 0#32 x y e = if t.val < 4 then x e else y e := by
  by_cases ht : t.val < 4
  · rw [if_pos ht]
    refine congrArg (fun b : BitVec 1 => (Scalar.select b x y : B) e) (?_ : _ = 1#1)
    revert t; decide +kernel
  · rw [if_neg ht]
    refine congrArg (fun b : BitVec 1 => (Scalar.select b x y : B) e) (?_ : _ = 0#1)
    revert t; decide +kernel

/-- The block taken at each point when the own half is the second. -/
theorem chosen1 (x y : B) (t : Fin grid0.N) (e : S256x1408.Idx) : k0_pay2 (F := Ideal) (grid0.coords t) 1#32 x y e = if t.val < 4 then y e else x e := by
  by_cases ht : t.val < 4
  · rw [if_pos ht]
    refine congrArg (fun b : BitVec 1 => (Scalar.select b x y : B) e) (?_ : _ = 0#1)
    revert t; decide +kernel
  · rw [if_neg ht]
    refine congrArg (fun b : BitVec 1 => (Scalar.select b x y : B) e) (?_ : _ = 1#1)
    revert t; decide +kernel

/-- The block of the gradient the body takes. -/
def own : B := k0_pay2 (F := Ideal) (grid0.coords t) (first m c) (piece0 m c t) (piece1 m c t)

/-- Either the first or the second half is the device's. -/
abbrev Placed : Prop := first m c = 0#32 ∨ first m c = 1#32

/-- The block of the joined gradient. -/
theorem grad_at (hp : Placed m c) (r : Fin 256) (s : Fin 1408) : (own m c t) (ix2 r s) = grad m c (ix2 (row t r) s) :=
  Halves.joined_block (l := 4) (by decide) (by decide) hp (arg1 m c) (arg2 m c) t.val t.isLt (blockOf · t) (block_low t) (block_high t) r s (row t r).isLt
    (fun h => (congrArg (fun w => k0_pay2 (F := Ideal) (grid0.coords t) w (piece0 m c t) (piece1 m c t) (ix2 r s)) h).trans (chosen0 (piece0 m c t) (piece1 m c t) t (ix2 r s)))
    (fun h => (congrArg (fun w => k0_pay2 (F := Ideal) (grid0.coords t) w (piece0 m c t) (piece1 m c t) (ix2 r s)) h).trans (chosen1 (piece0 m c t) (piece1 m c t) t (ix2 r s)))
    (fun _ h => half0 m c t h r s) (fun _ h => half1 m c t h r s)

/-- A zero offset. -/
theorem off2 : (![0, 0] : Fin 2 → Nat) = fun _ => 0 := by funext a; match a with | ⟨0, _⟩ => rfl | ⟨1, _⟩ => rfl

section
variable (i : grid0.Coords) (x0 x1 x2 x3 x4 : B) (z : TbBuf0 (F := Ideal) c tbM0_0)

/-- The table's word the body reads. -/
def seen : BitVec 32 := Halves.place z

/-- The word as the body loads it. -/
theorem seen_eq {h : 0 < S1.numel} : (View.ld (View.read (Elt Ideal) (View.whole main_arg0) z) (Rect.unit (s := S5) ![0] S1.size Facts₀.inb_S5_S1_0) (Shape.Idx.first h) : BitVec 32) = seen c z := by
  refine congrArg z (funext fun a => Fin.ext ?_)
  match a with
  | ⟨0, _⟩ => rfl

/-- The payloads: the change, the first and the second moment of the chosen block. -/
theorem pay_eq (w : BitVec 32) : k0_pay1 (F := Ideal) (k0_pay4 i w x0 x1 x4) (k0_pay5 i w x0 x1 x3) (Scalar.ofBits .f32 0x3C231ACC#32) x2 = Adam.delta (k0_pay2 (F := Ideal) i w x0 x1) x2 x3 x4
    ∧ k0_pay3 (F := Ideal) i w x0 x1 x3 = Adam.mean (k0_pay2 (F := Ideal) i w x0 x1) x3
    ∧ k0_pay4 (F := Ideal) i w x0 x1 x4 = Adam.square (k0_pay2 (F := Ideal) i w x0 x1) x4 := ⟨rfl, rfl, rfl⟩

variable {a2 a3 a4 a5 a6 a7 a8 a9 a10 : Memref sig .tc .vmem S256x1408 .f32} (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole)

/-- What the body leaves of its four results. -/
theorem out_eq : out0_A_5 c i a2 h2 a3 h3 a4 h4 a5 h5 a6 h6 a7 h7 a8 h8 a9 h9 a10 h10 x0 x1 x2 x3 x4 z = (k0_pay2 (F := Ideal) i (seen c z) x0 x1) ∧ out0_A_6 c i a2 h2 a3 h3 a4 h4 a5 h5 a6 h6 a7 h7 a8 h8 a9 h9 a10 h10 x0 x1 x2 x3 x4 z = Adam.delta (k0_pay2 (F := Ideal) i (seen c z) x0 x1) x2 x3 x4 ∧ out0_A_7 c i a2 h2 a3 h3 a4 h4 a5 h5 a6 h6 a7 h7 a8 h8 a9 h9 a10 h10 x0 x1 x2 x3 x4 z = Adam.mean (k0_pay2 (F := Ideal) i (seen c z) x0 x1) x3 ∧ out0_A_8 c i a2 h2 a3 h3 a4 h4 a5 h5 a6 h6 a7 h7 a8 h8 a9 h9 a10 h10 x0 x1 x2 x3 x4 z = Adam.square (k0_pay2 (F := Ideal) i (seen c z) x0 x1) x4 := by
  refine ⟨(View.read_writes_eq_canon _ _ _ (cover0_A_5 c i a2 h2 a3 h3 a4 h4 a5 h5 a6 h6 a7 h7 a8 h8 a9 h9 a10 h10 x0 x1 x2 x3 x4 z)).trans ?_, (View.read_writes_eq_canon _ _ _ (cover0_A_6 c i a2 h2 a3 h3 a4 h4 a5 h5 a6 h6 a7 h7 a8 h8 a9 h9 a10 h10 x0 x1 x2 x3 x4 z)).trans ?_, (View.read_writes_eq_canon _ _ _ (cover0_A_7 c i a2 h2 a3 h3 a4 h4 a5 h5 a6 h6 a7 h7 a8 h8 a9 h9 a10 h10 x0 x1 x2 x3 x4 z)).trans ?_, (View.read_writes_eq_canon _ _ _ (cover0_A_8 c i a2 h2 a3 h3 a4 h4 a5 h5 a6 h6 a7 h7 a8 h8 a9 h9 a10 h10 x0 x1 x2 x3 x4 z)).trans ?_⟩
  all_goals
    unfold kernelRun0_A
    dsimp only
    sl_unfold_words
    simp only [View.readAt_eq_ld, h2.read_unread, h3.read_unread, h4.read_unread, h5.read_unread, h6.read_unread]
    rw [View.canon_unit_zero off2, View.ld_unit_zero off2, View.ld_unit_zero off2]
  · rw [seen_eq c z]
  · rw [View.ld_unit_zero off2, View.ld_unit_zero off2, View.ld_unit_zero off2, seen_eq c z]; exact (pay_eq i x0 x1 x2 x3 x4 _).1
  · rw [View.ld_unit_zero off2, seen_eq c z]; exact (pay_eq i x0 x1 x2 x3 x4 _).2.1
  · rw [View.ld_unit_zero off2, seen_eq c z]; exact (pay_eq i x0 x1 x2 x3 x4 _).2.2
end

/-- The table's word, for the body and for the block coordinates. -/
theorem seen_first : seen c (tbl m 0) = first m c := by
  obtain rfl : c = 0 := Subsingleton.elim _ _
  rfl

/-- What the body leaves of the joined gradient at point `t`. -/
theorem outs5 : ((outsAt0 m (ok m) c t).1 : B) = (own m c t) := by
  unfold outsAt0
  dsimp only
  refine Eq.trans (And.left (out_eq c _ _ _ _ _ _ _ _ _ _ _ _ _ _ _ _)) ?_
  rw [seen_first]
  rfl

/-- The array of the joined gradient after the run. -/
theorem final5 (hp : Placed m c) : (dats m (ok m) 0 c).arrAt 5 (cfgM m (ok m)).N = grad m c := by
  refine (dats m (ok m) 0 c).arrAt_eq_of_cover 5 _ (fun t _ => ?_) fun i => ?_
  · show (win0 (adm m (ok m)) 5).cut (grid0.coords t) ((dats m (ok m) 0 c).after 5 t) = _
    rw [after0_5, outs5]
    show ((own m c t) : B) = _
    funext y
    obtain ⟨r, s, rfl⟩ : ∃ (r : Fin 256) (s : Fin 1408), y = ix2 r s := ⟨y 0, y 1, ValueIdx.eq_ix2 y⟩
    exact (grad_at m c t hp r s).trans (read2 (adm m (ok m)) t r s (grad m c)).symm
  · obtain ⟨t, r, s, rfl⟩ := in_block i
    refine ⟨t, flush0_5 (adm m (ok m)) t, ?_⟩
    rw [← emb2 (adm m (ok m)) t r s]
    exact View.emb_mem_set _ _

/-- What the body leaves of the weight's change at point `t`. -/
theorem outs6 : ((outsAt0 m (ok m) c t).2.1 : B) = Adam.delta (own m c t) (piece2 m c t) (piece3 m c t) (piece4 m c t) := by
  unfold outsAt0
  dsimp only
  refine Eq.trans (And.left (And.right (out_eq c _ _ _ _ _ _ _ _ _ _ _ _ _ _ _ _))) ?_
  rw [seen_first]
  rfl

/-- The array of the weight's change after the run. -/
theorem final6 (hp : Placed m c) : (dats m (ok m) 0 c).arrAt 6 (cfgM m (ok m)).N = Adam.delta (grad m c) (arg3 m c) (arg4 m c) (arg5 m c) := by
  refine (dats m (ok m) 0 c).arrAt_eq_of_cover 6 _ (fun t _ => ?_) fun i => ?_
  · show (win0 (adm m (ok m)) 6).cut (grid0.coords t) ((dats m (ok m) 0 c).after 6 t) = _
    rw [after0_6, outs6]
    show (Adam.delta (own m c t) (piece2 m c t) (piece3 m c t) (piece4 m c t) : B) = _
    funext y
    obtain ⟨r, s, rfl⟩ : ∃ (r : Fin 256) (s : Fin 1408), y = ix2 r s := ⟨y 0, y 1, ValueIdx.eq_ix2 y⟩
    exact (Adam.delta_at (grad_at m c t hp r s) (block3 m c t r s) (block4 m c t r s) (block5 m c t r s)).trans (read2 (adm m (ok m)) t r s (Adam.delta (grad m c) (arg3 m c) (arg4 m c) (arg5 m c))).symm
  · obtain ⟨t, r, s, rfl⟩ := in_block i
    refine ⟨t, flush0_6 (adm m (ok m)) t, ?_⟩
    rw [← emb2 (adm m (ok m)) t r s]
    exact View.emb_mem_set _ _

/-- What the body leaves of the first moment at point `t`. -/
theorem outs7 : ((outsAt0 m (ok m) c t).2.2.1 : B) = Adam.mean (own m c t) (piece3 m c t) := by
  unfold outsAt0
  dsimp only
  refine Eq.trans (And.left (And.right (And.right (out_eq c _ _ _ _ _ _ _ _ _ _ _ _ _ _ _ _)))) ?_
  rw [seen_first]
  rfl

/-- The array of the first moment after the run. -/
theorem final7 (hp : Placed m c) : (dats m (ok m) 0 c).arrAt 7 (cfgM m (ok m)).N = Adam.mean (grad m c) (arg4 m c) := by
  refine (dats m (ok m) 0 c).arrAt_eq_of_cover 7 _ (fun t _ => ?_) fun i => ?_
  · show (win0 (adm m (ok m)) 7).cut (grid0.coords t) ((dats m (ok m) 0 c).after 7 t) = _
    rw [after0_7, outs7]
    show (Adam.mean (own m c t) (piece3 m c t) : B) = _
    funext y
    obtain ⟨r, s, rfl⟩ : ∃ (r : Fin 256) (s : Fin 1408), y = ix2 r s := ⟨y 0, y 1, ValueIdx.eq_ix2 y⟩
    exact (Adam.mean_at (grad_at m c t hp r s) (block4 m c t r s)).trans (read2 (adm m (ok m)) t r s (Adam.mean (grad m c) (arg4 m c))).symm
  · obtain ⟨t, r, s, rfl⟩ := in_block i
    refine ⟨t, flush0_7 (adm m (ok m)) t, ?_⟩
    rw [← emb2 (adm m (ok m)) t r s]
    exact View.emb_mem_set _ _

/-- What the body leaves of the second moment at point `t`. -/
theorem outs8 : ((outsAt0 m (ok m) c t).2.2.2 : B) = Adam.square (own m c t) (piece4 m c t) := by
  unfold outsAt0
  dsimp only
  refine Eq.trans (And.right (And.right (And.right (out_eq c _ _ _ _ _ _ _ _ _ _ _ _ _ _ _ _)))) ?_
  rw [seen_first]
  rfl

/-- The array of the second moment after the run. -/
theorem final8 (hp : Placed m c) : (dats m (ok m) 0 c).arrAt 8 (cfgM m (ok m)).N = Adam.square (grad m c) (arg5 m c) := by
  refine (dats m (ok m) 0 c).arrAt_eq_of_cover 8 _ (fun t _ => ?_) fun i => ?_
  · show (win0 (adm m (ok m)) 8).cut (grid0.coords t) ((dats m (ok m) 0 c).after 8 t) = _
    rw [after0_8, outs8]
    show (Adam.square (own m c t) (piece4 m c t) : B) = _
    funext y
    obtain ⟨r, s, rfl⟩ : ∃ (r : Fin 256) (s : Fin 1408), y = ix2 r s := ⟨y 0, y 1, ValueIdx.eq_ix2 y⟩
    exact (Adam.square_at (grad_at m c t hp r s) (block5 m c t r s)).trans (read2 (adm m (ok m)) t r s (Adam.square (grad m c) (arg5 m c))).symm
  · obtain ⟨t, r, s, rfl⟩ := in_block i
    refine ⟨t, flush0_8 (adm m (ok m)) t, ?_⟩
    rw [← emb2 (adm m (ok m)) t r s]
    exact View.emb_mem_set _ _

end Cert.Kernel19Ideal.Array

namespace Cert.Reference19Ideal.Result

open Cert.Reference19Ideal Cert.Reference19Ideal.Gen Cert.Reference19Ideal.Read

variable (x0 : (⟨S5, .i32⟩ : BufTy).Contents (Elt Ideal)) (x1 x2 : (⟨S1024x1408, .f32⟩ : BufTy).Contents (Elt Ideal)) (x3 x4 x5 : (⟨S2048x1408, .f32⟩ : BufTy).Contents (Elt Ideal))

/-- The plain gradient is the two halves in their order. -/
theorem grad_eq : val_main_v5 (F := Ideal) x0 x1 x2 = Halves.joined (by decide) (Halves.place x0) x1 x2 :=
  Halves.joined_eq (h := 1024) (k := 1408) _ _ x1 x2 (fun j => Halves.select_place x0 _ _ _ x1 x2 j) (fun j => Halves.select_place x0 _ _ _ x2 x1 j) _

/-- The plain change of the weight. -/
theorem delta_eq : val_main_v29 (F := Ideal) x0 x1 x2 x3 x4 x5 = Adam.delta (Halves.joined (by decide) (Halves.place x0) x1 x2) x3 x4 x5 :=
  Eq.trans (by rfl : _ = Adam.delta (val_main_v5 (F := Ideal) x0 x1 x2) x3 x4 x5) (congrArg (fun g : Vec Ideal S2048x1408 .f32 => Adam.delta g x3 x4 x5) (grad_eq x0 x1 x2))

/-- The plain first moment. -/
theorem mean_eq : val_main_v10 (F := Ideal) x0 x1 x2 x4 = Adam.mean (Halves.joined (by decide) (Halves.place x0) x1 x2) x4 :=
  Eq.trans (by rfl : _ = Adam.mean (val_main_v5 (F := Ideal) x0 x1 x2) x4) (congrArg (fun g : Vec Ideal S2048x1408 .f32 => Adam.mean g x4) (grad_eq x0 x1 x2))

/-- The plain second moment. -/
theorem square_eq : val_main_v16 (F := Ideal) x0 x1 x2 x5 = Adam.square (Halves.joined (by decide) (Halves.place x0) x1 x2) x5 :=
  Eq.trans (by rfl : _ = Adam.square (val_main_v5 (F := Ideal) x0 x1 x2) x5) (congrArg (fun g : Vec Ideal S2048x1408 .f32 => Adam.square g x5) (grad_eq x0 x1 x2))

end Cert.Reference19Ideal.Result

namespace Cert.Pre_half_wide

/-- The function's side conditions. -/
theorem facts : Cert.Pre_half_wide.Facts where
  slices_S5_S1_0 := by decide
  shapeCasts_S1_S_ := by decide

end Cert.Pre_half_wide

namespace Cert.Values19

open Cert.Kernel19Ideal Cert.Kernel19Ideal.Array Cert.Kernel19Ideal.Gen Cert.Reference19Ideal.Read

/-- From equal arguments the two runs end with the same values. -/
theorem values [hP : Cert.Pre_half_wide.Facts] : Cert.algebraic_Kernel19Ideal_Reference19Ideal_pre_half_wide
    (hKernel19Ideal := Cert.Kernel19Ideal.Gen.facts) (hReference19Ideal := Cert.Reference19Ideal.Gen.facts) (hPre_half_wide := hP) := by
  intro m g m' g' hpre hagree
  have hp : ∀ c, Placed m c := fun c => by
    have h := congrFun (hpre c) (fun a => a.elim0)
    refine Halves.place_of_word (Eq.trans (congrArg₂ (fun a b => IntOp.ori (IntOp.cmpi .eq a 0#32) (IntOp.cmpi .eq b 1#32)) ?_ ?_) h) <;>
      exact (Halves.place_slice _ _ _ _).symm
  refine ⟨fun c => grad m c, fun c => Adam.delta (grad m c) (arg3 m c) (arg4 m c) (arg5 m c), fun c => Adam.mean (grad m c) (arg4 m c), fun c => Adam.square (grad m c) (arg5 m c),
    (θ_run _ _ _).mono (fun r h c => ⟨((h c).1 5).trans (final5 m c (hp c)), ((h c).1 6).trans (final6 m c (hp c)), ((h c).1 7).trans (final7 m c (hp c)), ((h c).1 8).trans (final8 m c (hp c)),
    ((h c).2 main_arg0 (by decide : main_arg0 ∈ Pipeline.restRefs sig spec0)).trans (V_main_arg0 m c),
    ((h c).1 0).trans (((dats m (ok m) 0 c).arrAt_in 0 rfl _).trans ((A_eq m (ok m) c 0).trans (V_main_arg1 m c))),
    ((h c).1 1).trans (((dats m (ok m) 0 c).arrAt_in 1 rfl _).trans ((A_eq m (ok m) c 1).trans (V_main_arg2 m c))),
    ((h c).1 2).trans (((dats m (ok m) 0 c).arrAt_in 2 rfl _).trans ((A_eq m (ok m) c 2).trans (V_main_arg3 m c))),
    ((h c).1 3).trans (((dats m (ok m) 0 c).arrAt_in 3 rfl _).trans ((A_eq m (ok m) c 3).trans (V_main_arg4 m c))),
    ((h c).1 4).trans (((dats m (ok m) 0 c).arrAt_in 4 rfl _).trans ((A_eq m (ok m) c 4).trans (V_main_arg5 m c)))⟩) (run_main m g (ok m)),
    (θ_run _ _ _).mono (fun r h c => ?_) (Cert.Reference19Ideal.Value.run m' g')⟩
  obtain ⟨r5, r6, r7, r8, ha⟩ := h c
  have r5' := r5.trans ((val_main_v5_eq _ _ _).trans (Cert.Reference19Ideal.Result.grad_eq _ _ _))
  have r6' := r6.trans ((val_main_v29_eq _ _ _ _ _ _).trans (Cert.Reference19Ideal.Result.delta_eq _ _ _ _ _ _))
  have r7' := r7.trans ((val_main_v10_eq _ _ _ _).trans (Cert.Reference19Ideal.Result.mean_eq _ _ _ _))
  have r8' := r8.trans ((val_main_v16_eq _ _ _ _).trans (Cert.Reference19Ideal.Result.square_eq _ _ _ _))
  obtain ⟨e0, e1, e2, e3, e4, e5⟩ := hagree c
  rw [e0, e1, e2] at r5'
  rw [e0, e1, e2, e3, e4, e5] at r6'
  rw [e0, e1, e2, e4] at r7'
  rw [e0, e1, e2, e5] at r8'
  exact ⟨r5', r6', r7', r8', ha⟩

/-- The plain program writes none of its arguments and declares no semaphore. -/
theorem reference_frame : Cert.quiescent_Reference19Ideal (hReference19Ideal := Cert.Reference19Ideal.Gen.facts) :=
  fun m ρ _ => (θ_run Cert.Reference19Ideal.defs _ _).mono (fun r h => ⟨fun c => (h c).2.2.2.2, sem_eq_zero_of_no_sems (by decide) r.2⟩)
    (Cert.Reference19Ideal.Value.run (F := Ideal) m ρ)

end Cert.Values19
-- ==== Proof.Half20.lean ====
/-
  The optimiser's step on a narrowing weight, whose gradient comes as two halves.
-/
module

public import proofs.«01_k».proof.Defs
public import proofs.«01_k».proof.Proof.Halves
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Reference20Ideal.Read
public import Idealize.ShloMosaic.Adequacy
public import Idealize.ShloMosaic.Init

@[expose] public section

set_option maxRecDepth 16384

noncomputable section

open Idealize.SL.Sem
open Idealize.ShloMosaic hiding ix0 ix1 ix2 ix3
open Idealize.ShloMosaic.ValueIdx

namespace Cert.Kernel20.Array

open Cert.Kernel20 Cert.Kernel20.Gen

/-- Whatever the table holds, every block lies inside its array. -/
theorem ok {F : FTy → Type} [FloatOps F] (m : (ℓ : Loc nD τ sig) → Buf (Elt F) ℓ) : Ok m := by
  refine ⟨fun i => ⟨fun a => ?_, Or.inl rfl⟩, fun i => ⟨fun a => ?_, Or.inl rfl⟩⟩ <;>
  match a with
  | ⟨0, _⟩ => exact Nat.mul_le_mul_right 176 (Nat.succ_le_succ (Halves.clip_le (b := 3#32) (by decide)))
  | ⟨1, _⟩ => show (0 + 1) * 2048 ≤ 2048; omega

end Cert.Kernel20.Array

namespace Cert.Kernel20Ideal.Array

open Cert.Kernel20Ideal Cert.Kernel20Ideal.Gen Idealize.ShloMosaic.TcCoe

/-- Whatever the table holds, every block lies inside its array. -/
theorem ok {F : FTy → Type} [FloatOps F] (m : (ℓ : Loc nD τ sig) → Buf (Elt F) ℓ) : Ok m := by
  refine ⟨fun i => ⟨fun a => ?_, Or.inl rfl⟩, fun i => ⟨fun a => ?_, Or.inl rfl⟩⟩ <;>
  match a with
  | ⟨0, _⟩ => exact Nat.mul_le_mul_right 176 (Nat.succ_le_succ (Halves.clip_le (b := 3#32) (by decide)))
  | ⟨1, _⟩ => show (0 + 1) * 2048 ≤ 2048; omega

/-- A block's contents. -/
abbrev B := Vec Ideal S176x2048 .f32

/-- The clipped block number of a half, `q` halves down. -/
def blockOf (q : BitVec 32) (t : Fin grid0.N) : ℕ :=
  (Scalar.minsi 3#32 (Scalar.maxsi 0#32 (Scalar.subi (BitVec.ofNat 32 (grid0.coords t 0).val) (Scalar.muli q 4#32)))).toNat

/-- In the first half of the points the first half's block is the point's. -/
theorem block_low : ∀ t : Fin grid0.N, t.val < 4 → blockOf 0#32 t = t.val := by decide +kernel

/-- In the second half of the points the second half's block is counted from its start. -/
theorem block_high : ∀ t : Fin grid0.N, ¬ t.val < 4 → blockOf 1#32 t = t.val - 4 := by decide +kernel

/-- The block coordinates of the whole arrays. -/
theorem rows : ∀ t : Fin grid0.N, cc0_transform_2 (grid0.coords t) 0 = t.val ∧ cc0_transform_2 (grid0.coords t) 1 = 0 := by decide +kernel

section
variable (a : (pcfg0 (F := Ideal)).Adm) (t : Fin grid0.N) (r : Fin 176) (s : Fin 2048)

/-- The array's row of a block's row at point `t`. -/
def row : Fin 1408 := ⟨t.val * 176 + r.val, by have : t.val < 8 := t.isLt; omega⟩

/-- Where an entry of a whole array's block sits in the array. -/
theorem emb2 : (((win0 a 2).rect t).emb (ix2 r s) : Shape.Idx S1408x2048) = ix2 (row t r) s := by
  refine (ValueIdx.eq_ix2 _).trans (congrArg₂ ix2 (Fin.ext ?_) (Fin.ext ?_))
  · refine (Pipeline.Window.rect_emb_val (win0 a 2) t (ix2 r s) (0 : Fin 2) rfl).trans ?_
    show cc0_transform_2 (grid0.coords t) 0 * 176 + r.val = t.val * 176 + r.val
    rw [(rows t).1]
  · refine (Pipeline.Window.rect_emb_val (win0 a 2) t (ix2 r s) (1 : Fin 2) rfl).trans ?_
    show cc0_transform_2 (grid0.coords t) 1 * 2048 + s.val = s.val
    rw [(rows t).2]; omega

/-- Where an entry of the own half's block sits in the half. -/
theorem emb0 {q : BitVec 32} (hq : a.1.at 0 (Rect.unit (s := S5) ![0] S1.size Facts₀.inb_S5_S1_0) Facts₀.numel1_S1 = q) (h : blockOf q t * 176 + r.val < 704) :
    (((win0 a 0).rect t).emb (ix2 r s) : Shape.Idx S704x2048) = ix2 ⟨blockOf q t * 176 + r.val, h⟩ s := by
  subst hq
  refine (ValueIdx.eq_ix2 _).trans (congrArg₂ ix2 (Fin.ext ?_) (Fin.ext ?_))
  · exact (Pipeline.Window.rect_emb_val (win0 a 0) t (ix2 r s) (0 : Fin 2) rfl).trans rfl
  · exact (Pipeline.Window.rect_emb_val (win0 a 0) t (ix2 r s) (1 : Fin 2) rfl).trans (by show 0 * 2048 + s.val = s.val; omega)

/-- Where an entry of the other half's block sits in the half. -/
theorem emb1 {q : BitVec 32} (hq : Scalar.subi 1#32 (a.1.at 0 (Rect.unit (s := S5) ![0] S1.size Facts₀.inb_S5_S1_0) Facts₀.numel1_S1) = q) (h : blockOf q t * 176 + r.val < 704) :
    (((win0 a 1).rect t).emb (ix2 r s) : Shape.Idx S704x2048) = ix2 ⟨blockOf q t * 176 + r.val, h⟩ s := by
  subst hq
  refine (ValueIdx.eq_ix2 _).trans (congrArg₂ ix2 (Fin.ext ?_) (Fin.ext ?_))
  · exact (Pipeline.Window.rect_emb_val (win0 a 1) t (ix2 r s) (0 : Fin 2) rfl).trans rfl
  · exact (Pipeline.Window.rect_emb_val (win0 a 1) t (ix2 r s) (1 : Fin 2) rfl).trans (by show 0 * 2048 + s.val = s.val; omega)

/-- Every entry of a whole array is in a block. -/
theorem in_block (i : S1408x2048.Idx) : ∃ (t : Fin grid0.N) (r : Fin 176) (s : Fin 2048), i = ix2 (row t r) s := by
  have b0 : (i 0).val < 1408 := (i 0).isLt
  refine ⟨⟨(i 0).val / 176, show _ < 8 by omega⟩, ⟨(i 0).val % 176, by omega⟩, i 1, (ValueIdx.eq_ix2 i).trans (congrArg₂ ix2 (Fin.ext ?_) rfl)⟩
  show (i 0).val = (i 0).val / 176 * 176 + (i 0).val % 176
  omega

/-- An entry of an array is one of a block's. -/
theorem read2 (X : Vec Ideal S1408x2048 .f32) : (((win0 a 2).blk t).view.read (Elt Ideal) X : B) (ix2 r s) = X (ix2 (row t r) s) := congrArg X (emb2 a t r s)
end

variable (m : (ℓ : Loc nD τ sig) → Buf (Elt Ideal) ℓ) (c : Dev nD) (t : Fin grid0.N)

/-- The table's first word. -/
def first : BitVec 32 := Halves.place (m ((c : Thread nD τ).loc main_arg0))

/-- The word the block coordinates are computed from. -/
theorem word_eq : (tbl m).at 0 (Rect.unit (s := S5) ![0] S1.size Facts₀.inb_S5_S1_0) Facts₀.numel1_S1 = first m c := by
  obtain rfl : c = 0 := Subsingleton.elim _ _
  refine congrArg (m (((0 : Dev nD) : Thread nD τ).loc main_arg0)) (funext fun a => Fin.ext ?_)
  match a with
  | ⟨0, _⟩ => rfl

/-- Argument 1. -/
abbrev arg1 : Vec Ideal S704x2048 .f32 := m ((c : Thread nD τ).loc main_arg1)

/-- Its block at point `t`. -/
def piece0 : B := iblk m (ok m) c 0 t

/-- Argument 2. -/
abbrev arg2 : Vec Ideal S704x2048 .f32 := m ((c : Thread nD τ).loc main_arg2)

/-- Its block at point `t`. -/
def piece1 : B := iblk m (ok m) c 1 t

/-- Argument 3. -/
abbrev arg3 : Vec Ideal S1408x2048 .f32 := m ((c : Thread nD τ).loc main_arg3)

/-- Its block at point `t`. -/
def piece2 : B := iblk m (ok m) c 2 t

/-- Argument 4. -/
abbrev arg4 : Vec Ideal S1408x2048 .f32 := m ((c : Thread nD τ).loc main_arg4)

/-- Its block at point `t`. -/
def piece3 : B := iblk m (ok m) c 3 t

/-- Argument 5. -/
abbrev arg5 : Vec Ideal S1408x2048 .f32 := m ((c : Thread nD τ).loc main_arg5)

/-- Its block at point `t`. -/
def piece4 : B := iblk m (ok m) c 4 t

/-- The joined gradient. -/
def grad : Vec Ideal S1408x2048 .f32 := Halves.joined (by decide) (first m c) (arg1 m c) (arg2 m c)

/-- A block of argument 3. -/
theorem block3 (r : Fin 176) (s : Fin 2048) : (piece2 m c t) (ix2 r s) = (arg3 m c) (ix2 (row t r) s) := by
  show V m c main_arg3 (((win0 (adm m (ok m)) 2).rect t).emb (ix2 r s)) = _
  rw [V_main_arg3]
  exact congrArg (arg3 m c) (emb2 (adm m (ok m)) t r s)

/-- A block of argument 4. -/
theorem block4 (r : Fin 176) (s : Fin 2048) : (piece3 m c t) (ix2 r s) = (arg4 m c) (ix2 (row t r) s) := by
  show V m c main_arg4 (((win0 (adm m (ok m)) 3).rect t).emb (ix2 r s)) = _
  rw [V_main_arg4]
  exact congrArg (arg4 m c) (emb2 (adm m (ok m)) t r s)

/-- A block of argument 5. -/
theorem block5 (r : Fin 176) (s : Fin 2048) : (piece4 m c t) (ix2 r s) = (arg5 m c) (ix2 (row t r) s) := by
  show V m c main_arg5 (((win0 (adm m (ok m)) 4).rect t).emb (ix2 r s)) = _
  rw [V_main_arg5]
  exact congrArg (arg5 m c) (emb2 (adm m (ok m)) t r s)

/-- A block of the own half. -/
theorem half0 {q : BitVec 32} (hq : first m c = q) (r : Fin 176) (s : Fin 2048) (h : blockOf q t * 176 + r.val < 704) :
    (piece0 m c t) (ix2 r s) = (arg1 m c) (ix2 ⟨blockOf q t * 176 + r.val, h⟩ s) := by
  show V m c main_arg1 (((win0 (adm m (ok m)) 0).rect t).emb (ix2 r s)) = _
  rw [V_main_arg1]
  exact congrArg (arg1 m c) (emb0 (adm m (ok m)) t r s ((word_eq m c).trans hq) h)

/-- A block of the other half. -/
theorem half1 {q : BitVec 32} (hq : Scalar.subi 1#32 (first m c) = q) (r : Fin 176) (s : Fin 2048) (h : blockOf q t * 176 + r.val < 704) :
    (piece1 m c t) (ix2 r s) = (arg2 m c) (ix2 ⟨blockOf q t * 176 + r.val, h⟩ s) := by
  show V m c main_arg2 (((win0 (adm m (ok m)) 1).rect t).emb (ix2 r s)) = _
  rw [V_main_arg2]
  exact congrArg (arg2 m c) (emb1 (adm m (ok m)) t r s ((congrArg (Scalar.subi 1#32) (word_eq m c)).trans hq) h)

/-- The block taken at each point when the own half is the first. -/
theorem chosen0 (x y : B) (t : Fin grid0.N) (e : S176x2048.Idx) : k0_pay2 (F := Ideal) (grid0.coords t) 0#32 x y e = if t.val < 4 then x e else y e := by
  by_cases ht : t.val < 4
  · rw [if_pos ht]
    refine congrArg (fun b : BitVec 1 => (Scalar.select b x y : B) e) (?_ : _ = 1#1)
    revert t; decide +kernel
  · rw [if_neg ht]
    refine congrArg (fun b : BitVec 1 => (Scalar.select b x y : B) e) (?_ : _ = 0#1)
    revert t; decide +kernel

/-- The block taken at each point when the own half is the second. -/
theorem chosen1 (x y : B) (t : Fin grid0.N) (e : S176x2048.Idx) : k0_pay2 (F := Ideal) (grid0.coords t) 1#32 x y e = if t.val < 4 then y e else x e := by
  by_cases ht : t.val < 4
  · rw [if_pos ht]
    refine congrArg (fun b : BitVec 1 => (Scalar.select b x y : B) e) (?_ : _ = 0#1)
    revert t; decide +kernel
  · rw [if_neg ht]
    refine congrArg (fun b : BitVec 1 => (Scalar.select b x y : B) e) (?_ : _ = 1#1)
    revert t; decide +kernel

/-- The block of the gradient the body takes. -/
def own : B := k0_pay2 (F := Ideal) (grid0.coords t) (first m c) (piece0 m c t) (piece1 m c t)

/-- Either the first or the second half is the device's. -/
abbrev Placed : Prop := first m c = 0#32 ∨ first m c = 1#32

/-- The block of the joined gradient. -/
theorem grad_at (hp : Placed m c) (r : Fin 176) (s : Fin 2048) : (own m c t) (ix2 r s) = grad m c (ix2 (row t r) s) :=
  Halves.joined_block (l := 4) (by decide) (by decide) hp (arg1 m c) (arg2 m c) t.val t.isLt (blockOf · t) (block_low t) (block_high t) r s (row t r).isLt
    (fun h => (congrArg (fun w => k0_pay2 (F := Ideal) (grid0.coords t) w (piece0 m c t) (piece1 m c t) (ix2 r s)) h).trans (chosen0 (piece0 m c t) (piece1 m c t) t (ix2 r s)))
    (fun h => (congrArg (fun w => k0_pay2 (F := Ideal) (grid0.coords t) w (piece0 m c t) (piece1 m c t) (ix2 r s)) h).trans (chosen1 (piece0 m c t) (piece1 m c t) t (ix2 r s)))
    (fun _ h => half0 m c t h r s) (fun _ h => half1 m c t h r s)

/-- A zero offset. -/
theorem off2 : (![0, 0] : Fin 2 → Nat) = fun _ => 0 := by funext a; match a with | ⟨0, _⟩ => rfl | ⟨1, _⟩ => rfl

section
variable (i : grid0.Coords) (x0 x1 x2 x3 x4 : B) (z : TbBuf0 (F := Ideal) c tbM0_0)

/-- The table's word the body reads. -/
def seen : BitVec 32 := Halves.place z

/-- The word as the body loads it. -/
theorem seen_eq {h : 0 < S1.numel} : (View.ld (View.read (Elt Ideal) (View.whole main_arg0) z) (Rect.unit (s := S5) ![0] S1.size Facts₀.inb_S5_S1_0) (Shape.Idx.first h) : BitVec 32) = seen c z := by
  refine congrArg z (funext fun a => Fin.ext ?_)
  match a with
  | ⟨0, _⟩ => rfl

/-- The payloads: the change, the first and the second moment of the chosen block. -/
theorem pay_eq (w : BitVec 32) : k0_pay1 (F := Ideal) (k0_pay4 i w x0 x1 x4) (k0_pay5 i w x0 x1 x3) (Scalar.ofBits .f32 0x3C231ACC#32) x2 = Adam.delta (k0_pay2 (F := Ideal) i w x0 x1) x2 x3 x4
    ∧ k0_pay3 (F := Ideal) i w x0 x1 x3 = Adam.mean (k0_pay2 (F := Ideal) i w x0 x1) x3
    ∧ k0_pay4 (F := Ideal) i w x0 x1 x4 = Adam.square (k0_pay2 (F := Ideal) i w x0 x1) x4 := ⟨rfl, rfl, rfl⟩

variable {a2 a3 a4 a5 a6 a7 a8 a9 a10 : Memref sig .tc .vmem S176x2048 .f32} (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole)

/-- What the body leaves of its four results. -/
theorem out_eq : out0_A_5 c i a2 h2 a3 h3 a4 h4 a5 h5 a6 h6 a7 h7 a8 h8 a9 h9 a10 h10 x0 x1 x2 x3 x4 z = (k0_pay2 (F := Ideal) i (seen c z) x0 x1) ∧ out0_A_6 c i a2 h2 a3 h3 a4 h4 a5 h5 a6 h6 a7 h7 a8 h8 a9 h9 a10 h10 x0 x1 x2 x3 x4 z = Adam.delta (k0_pay2 (F := Ideal) i (seen c z) x0 x1) x2 x3 x4 ∧ out0_A_7 c i a2 h2 a3 h3 a4 h4 a5 h5 a6 h6 a7 h7 a8 h8 a9 h9 a10 h10 x0 x1 x2 x3 x4 z = Adam.mean (k0_pay2 (F := Ideal) i (seen c z) x0 x1) x3 ∧ out0_A_8 c i a2 h2 a3 h3 a4 h4 a5 h5 a6 h6 a7 h7 a8 h8 a9 h9 a10 h10 x0 x1 x2 x3 x4 z = Adam.square (k0_pay2 (F := Ideal) i (seen c z) x0 x1) x4 := by
  refine ⟨(View.read_writes_eq_canon _ _ _ (cover0_A_5 c i a2 h2 a3 h3 a4 h4 a5 h5 a6 h6 a7 h7 a8 h8 a9 h9 a10 h10 x0 x1 x2 x3 x4 z)).trans ?_, (View.read_writes_eq_canon _ _ _ (cover0_A_6 c i a2 h2 a3 h3 a4 h4 a5 h5 a6 h6 a7 h7 a8 h8 a9 h9 a10 h10 x0 x1 x2 x3 x4 z)).trans ?_, (View.read_writes_eq_canon _ _ _ (cover0_A_7 c i a2 h2 a3 h3 a4 h4 a5 h5 a6 h6 a7 h7 a8 h8 a9 h9 a10 h10 x0 x1 x2 x3 x4 z)).trans ?_, (View.read_writes_eq_canon _ _ _ (cover0_A_8 c i a2 h2 a3 h3 a4 h4 a5 h5 a6 h6 a7 h7 a8 h8 a9 h9 a10 h10 x0 x1 x2 x3 x4 z)).trans ?_⟩
  all_goals
    unfold kernelRun0_A
    dsimp only
    sl_unfold_words
    simp only [View.readAt_eq_ld, h2.read_unread, h3.read_unread, h4.read_unread, h5.read_unread, h6.read_unread]
    rw [View.canon_unit_zero off2, View.ld_unit_zero off2, View.ld_unit_zero off2]
  · rw [seen_eq c z]
  · rw [View.ld_unit_zero off2, View.ld_unit_zero off2, View.ld_unit_zero off2, seen_eq c z]; exact (pay_eq i x0 x1 x2 x3 x4 _).1
  · rw [View.ld_unit_zero off2, seen_eq c z]; exact (pay_eq i x0 x1 x2 x3 x4 _).2.1
  · rw [View.ld_unit_zero off2, seen_eq c z]; exact (pay_eq i x0 x1 x2 x3 x4 _).2.2
end

/-- The table's word, for the body and for the block coordinates. -/
theorem seen_first : seen c (tbl m 0) = first m c := by
  obtain rfl : c = 0 := Subsingleton.elim _ _
  rfl

/-- What the body leaves of the joined gradient at point `t`. -/
theorem outs5 : ((outsAt0 m (ok m) c t).1 : B) = (own m c t) := by
  unfold outsAt0
  dsimp only
  refine Eq.trans (And.left (out_eq c _ _ _ _ _ _ _ _ _ _ _ _ _ _ _ _)) ?_
  rw [seen_first]
  rfl

/-- The array of the joined gradient after the run. -/
theorem final5 (hp : Placed m c) : (dats m (ok m) 0 c).arrAt 5 (cfgM m (ok m)).N = grad m c := by
  refine (dats m (ok m) 0 c).arrAt_eq_of_cover 5 _ (fun t _ => ?_) fun i => ?_
  · show (win0 (adm m (ok m)) 5).cut (grid0.coords t) ((dats m (ok m) 0 c).after 5 t) = _
    rw [after0_5, outs5]
    show ((own m c t) : B) = _
    funext y
    obtain ⟨r, s, rfl⟩ : ∃ (r : Fin 176) (s : Fin 2048), y = ix2 r s := ⟨y 0, y 1, ValueIdx.eq_ix2 y⟩
    exact (grad_at m c t hp r s).trans (read2 (adm m (ok m)) t r s (grad m c)).symm
  · obtain ⟨t, r, s, rfl⟩ := in_block i
    refine ⟨t, flush0_5 (adm m (ok m)) t, ?_⟩
    rw [← emb2 (adm m (ok m)) t r s]
    exact View.emb_mem_set _ _

/-- What the body leaves of the weight's change at point `t`. -/
theorem outs6 : ((outsAt0 m (ok m) c t).2.1 : B) = Adam.delta (own m c t) (piece2 m c t) (piece3 m c t) (piece4 m c t) := by
  unfold outsAt0
  dsimp only
  refine Eq.trans (And.left (And.right (out_eq c _ _ _ _ _ _ _ _ _ _ _ _ _ _ _ _))) ?_
  rw [seen_first]
  rfl

/-- The array of the weight's change after the run. -/
theorem final6 (hp : Placed m c) : (dats m (ok m) 0 c).arrAt 6 (cfgM m (ok m)).N = Adam.delta (grad m c) (arg3 m c) (arg4 m c) (arg5 m c) := by
  refine (dats m (ok m) 0 c).arrAt_eq_of_cover 6 _ (fun t _ => ?_) fun i => ?_
  · show (win0 (adm m (ok m)) 6).cut (grid0.coords t) ((dats m (ok m) 0 c).after 6 t) = _
    rw [after0_6, outs6]
    show (Adam.delta (own m c t) (piece2 m c t) (piece3 m c t) (piece4 m c t) : B) = _
    funext y
    obtain ⟨r, s, rfl⟩ : ∃ (r : Fin 176) (s : Fin 2048), y = ix2 r s := ⟨y 0, y 1, ValueIdx.eq_ix2 y⟩
    exact (Adam.delta_at (grad_at m c t hp r s) (block3 m c t r s) (block4 m c t r s) (block5 m c t r s)).trans (read2 (adm m (ok m)) t r s (Adam.delta (grad m c) (arg3 m c) (arg4 m c) (arg5 m c))).symm
  · obtain ⟨t, r, s, rfl⟩ := in_block i
    refine ⟨t, flush0_6 (adm m (ok m)) t, ?_⟩
    rw [← emb2 (adm m (ok m)) t r s]
    exact View.emb_mem_set _ _

/-- What the body leaves of the first moment at point `t`. -/
theorem outs7 : ((outsAt0 m (ok m) c t).2.2.1 : B) = Adam.mean (own m c t) (piece3 m c t) := by
  unfold outsAt0
  dsimp only
  refine Eq.trans (And.left (And.right (And.right (out_eq c _ _ _ _ _ _ _ _ _ _ _ _ _ _ _ _)))) ?_
  rw [seen_first]
  rfl

/-- The array of the first moment after the run. -/
theorem final7 (hp : Placed m c) : (dats m (ok m) 0 c).arrAt 7 (cfgM m (ok m)).N = Adam.mean (grad m c) (arg4 m c) := by
  refine (dats m (ok m) 0 c).arrAt_eq_of_cover 7 _ (fun t _ => ?_) fun i => ?_
  · show (win0 (adm m (ok m)) 7).cut (grid0.coords t) ((dats m (ok m) 0 c).after 7 t) = _
    rw [after0_7, outs7]
    show (Adam.mean (own m c t) (piece3 m c t) : B) = _
    funext y
    obtain ⟨r, s, rfl⟩ : ∃ (r : Fin 176) (s : Fin 2048), y = ix2 r s := ⟨y 0, y 1, ValueIdx.eq_ix2 y⟩
    exact (Adam.mean_at (grad_at m c t hp r s) (block4 m c t r s)).trans (read2 (adm m (ok m)) t r s (Adam.mean (grad m c) (arg4 m c))).symm
  · obtain ⟨t, r, s, rfl⟩ := in_block i
    refine ⟨t, flush0_7 (adm m (ok m)) t, ?_⟩
    rw [← emb2 (adm m (ok m)) t r s]
    exact View.emb_mem_set _ _

/-- What the body leaves of the second moment at point `t`. -/
theorem outs8 : ((outsAt0 m (ok m) c t).2.2.2 : B) = Adam.square (own m c t) (piece4 m c t) := by
  unfold outsAt0
  dsimp only
  refine Eq.trans (And.right (And.right (And.right (out_eq c _ _ _ _ _ _ _ _ _ _ _ _ _ _ _ _)))) ?_
  rw [seen_first]
  rfl

/-- The array of the second moment after the run. -/
theorem final8 (hp : Placed m c) : (dats m (ok m) 0 c).arrAt 8 (cfgM m (ok m)).N = Adam.square (grad m c) (arg5 m c) := by
  refine (dats m (ok m) 0 c).arrAt_eq_of_cover 8 _ (fun t _ => ?_) fun i => ?_
  · show (win0 (adm m (ok m)) 8).cut (grid0.coords t) ((dats m (ok m) 0 c).after 8 t) = _
    rw [after0_8, outs8]
    show (Adam.square (own m c t) (piece4 m c t) : B) = _
    funext y
    obtain ⟨r, s, rfl⟩ : ∃ (r : Fin 176) (s : Fin 2048), y = ix2 r s := ⟨y 0, y 1, ValueIdx.eq_ix2 y⟩
    exact (Adam.square_at (grad_at m c t hp r s) (block5 m c t r s)).trans (read2 (adm m (ok m)) t r s (Adam.square (grad m c) (arg5 m c))).symm
  · obtain ⟨t, r, s, rfl⟩ := in_block i
    refine ⟨t, flush0_8 (adm m (ok m)) t, ?_⟩
    rw [← emb2 (adm m (ok m)) t r s]
    exact View.emb_mem_set _ _

end Cert.Kernel20Ideal.Array

namespace Cert.Reference20Ideal.Result

open Cert.Reference20Ideal Cert.Reference20Ideal.Gen Cert.Reference20Ideal.Read

variable (x0 : (⟨S5, .i32⟩ : BufTy).Contents (Elt Ideal)) (x1 x2 : (⟨S704x2048, .f32⟩ : BufTy).Contents (Elt Ideal)) (x3 x4 x5 : (⟨S1408x2048, .f32⟩ : BufTy).Contents (Elt Ideal))

/-- The plain gradient is the two halves in their order. -/
theorem grad_eq : val_main_v5 (F := Ideal) x0 x1 x2 = Halves.joined (by decide) (Halves.place x0) x1 x2 :=
  Halves.joined_eq (h := 704) (k := 2048) _ _ x1 x2 (fun j => Halves.select_place x0 _ _ _ x1 x2 j) (fun j => Halves.select_place x0 _ _ _ x2 x1 j) _

/-- The plain change of the weight. -/
theorem delta_eq : val_main_v29 (F := Ideal) x0 x1 x2 x3 x4 x5 = Adam.delta (Halves.joined (by decide) (Halves.place x0) x1 x2) x3 x4 x5 :=
  Eq.trans (by rfl : _ = Adam.delta (val_main_v5 (F := Ideal) x0 x1 x2) x3 x4 x5) (congrArg (fun g : Vec Ideal S1408x2048 .f32 => Adam.delta g x3 x4 x5) (grad_eq x0 x1 x2))

/-- The plain first moment. -/
theorem mean_eq : val_main_v10 (F := Ideal) x0 x1 x2 x4 = Adam.mean (Halves.joined (by decide) (Halves.place x0) x1 x2) x4 :=
  Eq.trans (by rfl : _ = Adam.mean (val_main_v5 (F := Ideal) x0 x1 x2) x4) (congrArg (fun g : Vec Ideal S1408x2048 .f32 => Adam.mean g x4) (grad_eq x0 x1 x2))

/-- The plain second moment. -/
theorem square_eq : val_main_v16 (F := Ideal) x0 x1 x2 x5 = Adam.square (Halves.joined (by decide) (Halves.place x0) x1 x2) x5 :=
  Eq.trans (by rfl : _ = Adam.square (val_main_v5 (F := Ideal) x0 x1 x2) x5) (congrArg (fun g : Vec Ideal S1408x2048 .f32 => Adam.square g x5) (grad_eq x0 x1 x2))

end Cert.Reference20Ideal.Result

namespace Cert.Pre_half_down

/-- The function's side conditions. -/
theorem facts : Cert.Pre_half_down.Facts where
  slices_S5_S1_0 := by decide
  shapeCasts_S1_S_ := by decide

end Cert.Pre_half_down

namespace Cert.Values20

open Cert.Kernel20Ideal Cert.Kernel20Ideal.Array Cert.Kernel20Ideal.Gen Cert.Reference20Ideal.Read

/-- From equal arguments the two runs end with the same values. -/
theorem values [hP : Cert.Pre_half_down.Facts] : Cert.algebraic_Kernel20Ideal_Reference20Ideal_pre_half_down
    (hKernel20Ideal := Cert.Kernel20Ideal.Gen.facts) (hReference20Ideal := Cert.Reference20Ideal.Gen.facts) (hPre_half_down := hP) := by
  intro m g m' g' hpre hagree
  have hp : ∀ c, Placed m c := fun c => by
    have h := congrFun (hpre c) (fun a => a.elim0)
    refine Halves.place_of_word (Eq.trans (congrArg₂ (fun a b => IntOp.ori (IntOp.cmpi .eq a 0#32) (IntOp.cmpi .eq b 1#32)) ?_ ?_) h) <;>
      exact (Halves.place_slice _ _ _ _).symm
  refine ⟨fun c => grad m c, fun c => Adam.delta (grad m c) (arg3 m c) (arg4 m c) (arg5 m c), fun c => Adam.mean (grad m c) (arg4 m c), fun c => Adam.square (grad m c) (arg5 m c),
    (θ_run _ _ _).mono (fun r h c => ⟨((h c).1 5).trans (final5 m c (hp c)), ((h c).1 6).trans (final6 m c (hp c)), ((h c).1 7).trans (final7 m c (hp c)), ((h c).1 8).trans (final8 m c (hp c)),
    ((h c).2 main_arg0 (by decide : main_arg0 ∈ Pipeline.restRefs sig spec0)).trans (V_main_arg0 m c),
    ((h c).1 0).trans (((dats m (ok m) 0 c).arrAt_in 0 rfl _).trans ((A_eq m (ok m) c 0).trans (V_main_arg1 m c))),
    ((h c).1 1).trans (((dats m (ok m) 0 c).arrAt_in 1 rfl _).trans ((A_eq m (ok m) c 1).trans (V_main_arg2 m c))),
    ((h c).1 2).trans (((dats m (ok m) 0 c).arrAt_in 2 rfl _).trans ((A_eq m (ok m) c 2).trans (V_main_arg3 m c))),
    ((h c).1 3).trans (((dats m (ok m) 0 c).arrAt_in 3 rfl _).trans ((A_eq m (ok m) c 3).trans (V_main_arg4 m c))),
    ((h c).1 4).trans (((dats m (ok m) 0 c).arrAt_in 4 rfl _).trans ((A_eq m (ok m) c 4).trans (V_main_arg5 m c)))⟩) (run_main m g (ok m)),
    (θ_run _ _ _).mono (fun r h c => ?_) (Cert.Reference20Ideal.Value.run m' g')⟩
  obtain ⟨r5, r6, r7, r8, ha⟩ := h c
  have r5' := r5.trans ((val_main_v5_eq _ _ _).trans (Cert.Reference20Ideal.Result.grad_eq _ _ _))
  have r6' := r6.trans ((val_main_v29_eq _ _ _ _ _ _).trans (Cert.Reference20Ideal.Result.delta_eq _ _ _ _ _ _))
  have r7' := r7.trans ((val_main_v10_eq _ _ _ _).trans (Cert.Reference20Ideal.Result.mean_eq _ _ _ _))
  have r8' := r8.trans ((val_main_v16_eq _ _ _ _).trans (Cert.Reference20Ideal.Result.square_eq _ _ _ _))
  obtain ⟨e0, e1, e2, e3, e4, e5⟩ := hagree c
  rw [e0, e1, e2] at r5'
  rw [e0, e1, e2, e3, e4, e5] at r6'
  rw [e0, e1, e2, e4] at r7'
  rw [e0, e1, e2, e5] at r8'
  exact ⟨r5', r6', r7', r8', ha⟩

/-- The plain program writes none of its arguments and declares no semaphore. -/
theorem reference_frame : Cert.quiescent_Reference20Ideal (hReference20Ideal := Cert.Reference20Ideal.Gen.facts) :=
  fun m ρ _ => (θ_run Cert.Reference20Ideal.defs _ _).mono (fun r h => ⟨fun c => (h c).2.2.2.2, sem_eq_zero_of_no_sems (by decide) r.2⟩)
    (Cert.Reference20Ideal.Value.run (F := Ideal) m ρ)

end Cert.Values20
-- ==== Proof.Half21.lean ====
/-
  The optimiser's step on the input weight, whose gradient comes as two halves.
-/
module

public import proofs.«01_k».proof.Defs
public import proofs.«01_k».proof.Proof.Halves
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Reference21Ideal.Read
public import Idealize.ShloMosaic.Adequacy
public import Idealize.ShloMosaic.Init

@[expose] public section

set_option maxRecDepth 16384

noncomputable section

open Idealize.SL.Sem
open Idealize.ShloMosaic hiding ix0 ix1 ix2 ix3
open Idealize.ShloMosaic.ValueIdx

namespace Cert.Kernel21.Array

open Cert.Kernel21 Cert.Kernel21.Gen

/-- Whatever the table holds, every block lies inside its array. -/
theorem ok {F : FTy → Type} [FloatOps F] (m : (ℓ : Loc nD τ sig) → Buf (Elt F) ℓ) : Ok m := by
  refine ⟨fun i => ⟨fun a => ?_, Or.inl rfl⟩, fun i => ⟨fun a => ?_, Or.inl rfl⟩⟩ <;>
  match a with
  | ⟨0, _⟩ => exact Nat.mul_le_mul_right 512 (Nat.succ_le_succ (Halves.clip_le (b := 1#32) (by decide)))
  | ⟨1, _⟩ => show (0 + 1) * 1026 ≤ 1026; omega

end Cert.Kernel21.Array

namespace Cert.Kernel21Ideal.Array

open Cert.Kernel21Ideal Cert.Kernel21Ideal.Gen Idealize.ShloMosaic.TcCoe

/-- Whatever the table holds, every block lies inside its array. -/
theorem ok {F : FTy → Type} [FloatOps F] (m : (ℓ : Loc nD τ sig) → Buf (Elt F) ℓ) : Ok m := by
  refine ⟨fun i => ⟨fun a => ?_, Or.inl rfl⟩, fun i => ⟨fun a => ?_, Or.inl rfl⟩⟩ <;>
  match a with
  | ⟨0, _⟩ => exact Nat.mul_le_mul_right 512 (Nat.succ_le_succ (Halves.clip_le (b := 1#32) (by decide)))
  | ⟨1, _⟩ => show (0 + 1) * 1026 ≤ 1026; omega

/-- A block's contents. -/
abbrev B := Vec Ideal S512x1026 .f32

/-- The clipped block number of a half, `q` halves down. -/
def blockOf (q : BitVec 32) (t : Fin grid0.N) : ℕ :=
  (Scalar.minsi 1#32 (Scalar.maxsi 0#32 (Scalar.subi (BitVec.ofNat 32 (grid0.coords t 0).val) (Scalar.muli q 2#32)))).toNat

/-- In the first half of the points the first half's block is the point's. -/
theorem block_low : ∀ t : Fin grid0.N, t.val < 2 → blockOf 0#32 t = t.val := by decide +kernel

/-- In the second half of the points the second half's block is counted from its start. -/
theorem block_high : ∀ t : Fin grid0.N, ¬ t.val < 2 → blockOf 1#32 t = t.val - 2 := by decide +kernel

/-- The block coordinates of the whole arrays. -/
theorem rows : ∀ t : Fin grid0.N, cc0_transform_2 (grid0.coords t) 0 = t.val ∧ cc0_transform_2 (grid0.coords t) 1 = 0 := by decide +kernel

section
variable (a : (pcfg0 (F := Ideal)).Adm) (t : Fin grid0.N) (r : Fin 512) (s : Fin 1026)

/-- The array's row of a block's row at point `t`. -/
def row : Fin 2048 := ⟨t.val * 512 + r.val, by have : t.val < 4 := t.isLt; omega⟩

/-- Where an entry of a whole array's block sits in the array. -/
theorem emb2 : (((win0 a 2).rect t).emb (ix2 r s) : Shape.Idx S2048x1026) = ix2 (row t r) s := by
  refine (ValueIdx.eq_ix2 _).trans (congrArg₂ ix2 (Fin.ext ?_) (Fin.ext ?_))
  · refine (Pipeline.Window.rect_emb_val (win0 a 2) t (ix2 r s) (0 : Fin 2) rfl).trans ?_
    show cc0_transform_2 (grid0.coords t) 0 * 512 + r.val = t.val * 512 + r.val
    rw [(rows t).1]
  · refine (Pipeline.Window.rect_emb_val (win0 a 2) t (ix2 r s) (1 : Fin 2) rfl).trans ?_
    show cc0_transform_2 (grid0.coords t) 1 * 1026 + s.val = s.val
    rw [(rows t).2]; omega

/-- Where an entry of the own half's block sits in the half. -/
theorem emb0 {q : BitVec 32} (hq : a.1.at 0 (Rect.unit (s := S5) ![0] S1.size Facts₀.inb_S5_S1_0) Facts₀.numel1_S1 = q) (h : blockOf q t * 512 + r.val < 1024) :
    (((win0 a 0).rect t).emb (ix2 r s) : Shape.Idx S1024x1026) = ix2 ⟨blockOf q t * 512 + r.val, h⟩ s := by
  subst hq
  refine (ValueIdx.eq_ix2 _).trans (congrArg₂ ix2 (Fin.ext ?_) (Fin.ext ?_))
  · exact (Pipeline.Window.rect_emb_val (win0 a 0) t (ix2 r s) (0 : Fin 2) rfl).trans rfl
  · exact (Pipeline.Window.rect_emb_val (win0 a 0) t (ix2 r s) (1 : Fin 2) rfl).trans (by show 0 * 1026 + s.val = s.val; omega)

/-- Where an entry of the other half's block sits in the half. -/
theorem emb1 {q : BitVec 32} (hq : Scalar.subi 1#32 (a.1.at 0 (Rect.unit (s := S5) ![0] S1.size Facts₀.inb_S5_S1_0) Facts₀.numel1_S1) = q) (h : blockOf q t * 512 + r.val < 1024) :
    (((win0 a 1).rect t).emb (ix2 r s) : Shape.Idx S1024x1026) = ix2 ⟨blockOf q t * 512 + r.val, h⟩ s := by
  subst hq
  refine (ValueIdx.eq_ix2 _).trans (congrArg₂ ix2 (Fin.ext ?_) (Fin.ext ?_))
  · exact (Pipeline.Window.rect_emb_val (win0 a 1) t (ix2 r s) (0 : Fin 2) rfl).trans rfl
  · exact (Pipeline.Window.rect_emb_val (win0 a 1) t (ix2 r s) (1 : Fin 2) rfl).trans (by show 0 * 1026 + s.val = s.val; omega)

/-- Every entry of a whole array is in a block. -/
theorem in_block (i : S2048x1026.Idx) : ∃ (t : Fin grid0.N) (r : Fin 512) (s : Fin 1026), i = ix2 (row t r) s := by
  have b0 : (i 0).val < 2048 := (i 0).isLt
  refine ⟨⟨(i 0).val / 512, show _ < 4 by omega⟩, ⟨(i 0).val % 512, by omega⟩, i 1, (ValueIdx.eq_ix2 i).trans (congrArg₂ ix2 (Fin.ext ?_) rfl)⟩
  show (i 0).val = (i 0).val / 512 * 512 + (i 0).val % 512
  omega

/-- An entry of an array is one of a block's. -/
theorem read2 (X : Vec Ideal S2048x1026 .f32) : (((win0 a 2).blk t).view.read (Elt Ideal) X : B) (ix2 r s) = X (ix2 (row t r) s) := congrArg X (emb2 a t r s)
end

variable (m : (ℓ : Loc nD τ sig) → Buf (Elt Ideal) ℓ) (c : Dev nD) (t : Fin grid0.N)

/-- The table's first word. -/
def first : BitVec 32 := Halves.place (m ((c : Thread nD τ).loc main_arg0))

/-- The word the block coordinates are computed from. -/
theorem word_eq : (tbl m).at 0 (Rect.unit (s := S5) ![0] S1.size Facts₀.inb_S5_S1_0) Facts₀.numel1_S1 = first m c := by
  obtain rfl : c = 0 := Subsingleton.elim _ _
  refine congrArg (m (((0 : Dev nD) : Thread nD τ).loc main_arg0)) (funext fun a => Fin.ext ?_)
  match a with
  | ⟨0, _⟩ => rfl

/-- Argument 1. -/
abbrev arg1 : Vec Ideal S1024x1026 .f32 := m ((c : Thread nD τ).loc main_arg1)

/-- Its block at point `t`. -/
def piece0 : B := iblk m (ok m) c 0 t

/-- Argument 2. -/
abbrev arg2 : Vec Ideal S1024x1026 .f32 := m ((c : Thread nD τ).loc main_arg2)

/-- Its block at point `t`. -/
def piece1 : B := iblk m (ok m) c 1 t

/-- Argument 3. -/
abbrev arg3 : Vec Ideal S2048x1026 .f32 := m ((c : Thread nD τ).loc main_arg3)

/-- Its block at point `t`. -/
def piece2 : B := iblk m (ok m) c 2 t

/-- Argument 4. -/
abbrev arg4 : Vec Ideal S2048x1026 .f32 := m ((c : Thread nD τ).loc main_arg4)

/-- Its block at point `t`. -/
def piece3 : B := iblk m (ok m) c 3 t

/-- Argument 5. -/
abbrev arg5 : Vec Ideal S2048x1026 .f32 := m ((c : Thread nD τ).loc main_arg5)

/-- Its block at point `t`. -/
def piece4 : B := iblk m (ok m) c 4 t

/-- The joined gradient. -/
def grad : Vec Ideal S2048x1026 .f32 := Halves.joined (by decide) (first m c) (arg1 m c) (arg2 m c)

/-- A block of argument 3. -/
theorem block3 (r : Fin 512) (s : Fin 1026) : (piece2 m c t) (ix2 r s) = (arg3 m c) (ix2 (row t r) s) := by
  show V m c main_arg3 (((win0 (adm m (ok m)) 2).rect t).emb (ix2 r s)) = _
  rw [V_main_arg3]
  exact congrArg (arg3 m c) (emb2 (adm m (ok m)) t r s)

/-- A block of argument 4. -/
theorem block4 (r : Fin 512) (s : Fin 1026) : (piece3 m c t) (ix2 r s) = (arg4 m c) (ix2 (row t r) s) := by
  show V m c main_arg4 (((win0 (adm m (ok m)) 3).rect t).emb (ix2 r s)) = _
  rw [V_main_arg4]
  exact congrArg (arg4 m c) (emb2 (adm m (ok m)) t r s)

/-- A block of argument 5. -/
theorem block5 (r : Fin 512) (s : Fin 1026) : (piece4 m c t) (ix2 r s) = (arg5 m c) (ix2 (row t r) s) := by
  show V m c main_arg5 (((win0 (adm m (ok m)) 4).rect t).emb (ix2 r s)) = _
  rw [V_main_arg5]
  exact congrArg (arg5 m c) (emb2 (adm m (ok m)) t r s)

/-- A block of the own half. -/
theorem half0 {q : BitVec 32} (hq : first m c = q) (r : Fin 512) (s : Fin 1026) (h : blockOf q t * 512 + r.val < 1024) :
    (piece0 m c t) (ix2 r s) = (arg1 m c) (ix2 ⟨blockOf q t * 512 + r.val, h⟩ s) := by
  show V m c main_arg1 (((win0 (adm m (ok m)) 0).rect t).emb (ix2 r s)) = _
  rw [V_main_arg1]
  exact congrArg (arg1 m c) (emb0 (adm m (ok m)) t r s ((word_eq m c).trans hq) h)

/-- A block of the other half. -/
theorem half1 {q : BitVec 32} (hq : Scalar.subi 1#32 (first m c) = q) (r : Fin 512) (s : Fin 1026) (h : blockOf q t * 512 + r.val < 1024) :
    (piece1 m c t) (ix2 r s) = (arg2 m c) (ix2 ⟨blockOf q t * 512 + r.val, h⟩ s) := by
  show V m c main_arg2 (((win0 (adm m (ok m)) 1).rect t).emb (ix2 r s)) = _
  rw [V_main_arg2]
  exact congrArg (arg2 m c) (emb1 (adm m (ok m)) t r s ((congrArg (Scalar.subi 1#32) (word_eq m c)).trans hq) h)

/-- The block taken at each point when the own half is the first. -/
theorem chosen0 (x y : B) (t : Fin grid0.N) (e : S512x1026.Idx) : k0_pay2 (F := Ideal) (grid0.coords t) 0#32 x y e = if t.val < 2 then x e else y e := by
  by_cases ht : t.val < 2
  · rw [if_pos ht]
    refine congrArg (fun b : BitVec 1 => (Scalar.select b x y : B) e) (?_ : _ = 1#1)
    revert t; decide +kernel
  · rw [if_neg ht]
    refine congrArg (fun b : BitVec 1 => (Scalar.select b x y : B) e) (?_ : _ = 0#1)
    revert t; decide +kernel

/-- The block taken at each point when the own half is the second. -/
theorem chosen1 (x y : B) (t : Fin grid0.N) (e : S512x1026.Idx) : k0_pay2 (F := Ideal) (grid0.coords t) 1#32 x y e = if t.val < 2 then y e else x e := by
  by_cases ht : t.val < 2
  · rw [if_pos ht]
    refine congrArg (fun b : BitVec 1 => (Scalar.select b x y : B) e) (?_ : _ = 0#1)
    revert t; decide +kernel
  · rw [if_neg ht]
    refine congrArg (fun b : BitVec 1 => (Scalar.select b x y : B) e) (?_ : _ = 1#1)
    revert t; decide +kernel

/-- The block of the gradient the body takes. -/
def own : B := k0_pay2 (F := Ideal) (grid0.coords t) (first m c) (piece0 m c t) (piece1 m c t)

/-- Either the first or the second half is the device's. -/
abbrev Placed : Prop := first m c = 0#32 ∨ first m c = 1#32

/-- The block of the joined gradient. -/
theorem grad_at (hp : Placed m c) (r : Fin 512) (s : Fin 1026) : (own m c t) (ix2 r s) = grad m c (ix2 (row t r) s) :=
  Halves.joined_block (l := 2) (by decide) (by decide) hp (arg1 m c) (arg2 m c) t.val t.isLt (blockOf · t) (block_low t) (block_high t) r s (row t r).isLt
    (fun h => (congrArg (fun w => k0_pay2 (F := Ideal) (grid0.coords t) w (piece0 m c t) (piece1 m c t) (ix2 r s)) h).trans (chosen0 (piece0 m c t) (piece1 m c t) t (ix2 r s)))
    (fun h => (congrArg (fun w => k0_pay2 (F := Ideal) (grid0.coords t) w (piece0 m c t) (piece1 m c t) (ix2 r s)) h).trans (chosen1 (piece0 m c t) (piece1 m c t) t (ix2 r s)))
    (fun _ h => half0 m c t h r s) (fun _ h => half1 m c t h r s)

/-- A zero offset. -/
theorem off2 : (![0, 0] : Fin 2 → Nat) = fun _ => 0 := by funext a; match a with | ⟨0, _⟩ => rfl | ⟨1, _⟩ => rfl

section
variable (i : grid0.Coords) (x0 x1 x2 x3 x4 : B) (z : TbBuf0 (F := Ideal) c tbM0_0)

/-- The table's word the body reads. -/
def seen : BitVec 32 := Halves.place z

/-- The word as the body loads it. -/
theorem seen_eq {h : 0 < S1.numel} : (View.ld (View.read (Elt Ideal) (View.whole main_arg0) z) (Rect.unit (s := S5) ![0] S1.size Facts₀.inb_S5_S1_0) (Shape.Idx.first h) : BitVec 32) = seen c z := by
  refine congrArg z (funext fun a => Fin.ext ?_)
  match a with
  | ⟨0, _⟩ => rfl

/-- The payloads: the change, the first and the second moment of the chosen block. -/
theorem pay_eq (w : BitVec 32) : k0_pay1 (F := Ideal) (k0_pay4 i w x0 x1 x4) (k0_pay5 i w x0 x1 x3) (Scalar.ofBits .f32 0x3C231ACC#32) x2 = Adam.delta (k0_pay2 (F := Ideal) i w x0 x1) x2 x3 x4
    ∧ k0_pay3 (F := Ideal) i w x0 x1 x3 = Adam.mean (k0_pay2 (F := Ideal) i w x0 x1) x3
    ∧ k0_pay4 (F := Ideal) i w x0 x1 x4 = Adam.square (k0_pay2 (F := Ideal) i w x0 x1) x4 := ⟨rfl, rfl, rfl⟩

variable {a2 a3 a4 a5 a6 a7 a8 a9 a10 : Memref sig .tc .vmem S512x1026 .f32} (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole)

/-- What the body leaves of its four results. -/
theorem out_eq : out0_A_5 c i a2 h2 a3 h3 a4 h4 a5 h5 a6 h6 a7 h7 a8 h8 a9 h9 a10 h10 x0 x1 x2 x3 x4 z = (k0_pay2 (F := Ideal) i (seen c z) x0 x1) ∧ out0_A_6 c i a2 h2 a3 h3 a4 h4 a5 h5 a6 h6 a7 h7 a8 h8 a9 h9 a10 h10 x0 x1 x2 x3 x4 z = Adam.delta (k0_pay2 (F := Ideal) i (seen c z) x0 x1) x2 x3 x4 ∧ out0_A_7 c i a2 h2 a3 h3 a4 h4 a5 h5 a6 h6 a7 h7 a8 h8 a9 h9 a10 h10 x0 x1 x2 x3 x4 z = Adam.mean (k0_pay2 (F := Ideal) i (seen c z) x0 x1) x3 ∧ out0_A_8 c i a2 h2 a3 h3 a4 h4 a5 h5 a6 h6 a7 h7 a8 h8 a9 h9 a10 h10 x0 x1 x2 x3 x4 z = Adam.square (k0_pay2 (F := Ideal) i (seen c z) x0 x1) x4 := by
  refine ⟨(View.read_writes_eq_canon _ _ _ (cover0_A_5 c i a2 h2 a3 h3 a4 h4 a5 h5 a6 h6 a7 h7 a8 h8 a9 h9 a10 h10 x0 x1 x2 x3 x4 z)).trans ?_, (View.read_writes_eq_canon _ _ _ (cover0_A_6 c i a2 h2 a3 h3 a4 h4 a5 h5 a6 h6 a7 h7 a8 h8 a9 h9 a10 h10 x0 x1 x2 x3 x4 z)).trans ?_, (View.read_writes_eq_canon _ _ _ (cover0_A_7 c i a2 h2 a3 h3 a4 h4 a5 h5 a6 h6 a7 h7 a8 h8 a9 h9 a10 h10 x0 x1 x2 x3 x4 z)).trans ?_, (View.read_writes_eq_canon _ _ _ (cover0_A_8 c i a2 h2 a3 h3 a4 h4 a5 h5 a6 h6 a7 h7 a8 h8 a9 h9 a10 h10 x0 x1 x2 x3 x4 z)).trans ?_⟩
  all_goals
    unfold kernelRun0_A
    dsimp only
    sl_unfold_words
    simp only [View.readAt_eq_ld, h2.read_unread, h3.read_unread, h4.read_unread, h5.read_unread, h6.read_unread]
    rw [View.canon_unit_zero off2, View.ld_unit_zero off2, View.ld_unit_zero off2]
  · rw [seen_eq c z]
  · rw [View.ld_unit_zero off2, View.ld_unit_zero off2, View.ld_unit_zero off2, seen_eq c z]; exact (pay_eq i x0 x1 x2 x3 x4 _).1
  · rw [View.ld_unit_zero off2, seen_eq c z]; exact (pay_eq i x0 x1 x2 x3 x4 _).2.1
  · rw [View.ld_unit_zero off2, seen_eq c z]; exact (pay_eq i x0 x1 x2 x3 x4 _).2.2
end

/-- The table's word, for the body and for the block coordinates. -/
theorem seen_first : seen c (tbl m 0) = first m c := by
  obtain rfl : c = 0 := Subsingleton.elim _ _
  rfl

/-- What the body leaves of the joined gradient at point `t`. -/
theorem outs5 : ((outsAt0 m (ok m) c t).1 : B) = (own m c t) := by
  unfold outsAt0
  dsimp only
  refine Eq.trans (And.left (out_eq c _ _ _ _ _ _ _ _ _ _ _ _ _ _ _ _)) ?_
  rw [seen_first]
  rfl

/-- The array of the joined gradient after the run. -/
theorem final5 (hp : Placed m c) : (dats m (ok m) 0 c).arrAt 5 (cfgM m (ok m)).N = grad m c := by
  refine (dats m (ok m) 0 c).arrAt_eq_of_cover 5 _ (fun t _ => ?_) fun i => ?_
  · show (win0 (adm m (ok m)) 5).cut (grid0.coords t) ((dats m (ok m) 0 c).after 5 t) = _
    rw [after0_5, outs5]
    show ((own m c t) : B) = _
    funext y
    obtain ⟨r, s, rfl⟩ : ∃ (r : Fin 512) (s : Fin 1026), y = ix2 r s := ⟨y 0, y 1, ValueIdx.eq_ix2 y⟩
    exact (grad_at m c t hp r s).trans (read2 (adm m (ok m)) t r s (grad m c)).symm
  · obtain ⟨t, r, s, rfl⟩ := in_block i
    refine ⟨t, flush0_5 (adm m (ok m)) t, ?_⟩
    rw [← emb2 (adm m (ok m)) t r s]
    exact View.emb_mem_set _ _

/-- What the body leaves of the weight's change at point `t`. -/
theorem outs6 : ((outsAt0 m (ok m) c t).2.1 : B) = Adam.delta (own m c t) (piece2 m c t) (piece3 m c t) (piece4 m c t) := by
  unfold outsAt0
  dsimp only
  refine Eq.trans (And.left (And.right (out_eq c _ _ _ _ _ _ _ _ _ _ _ _ _ _ _ _))) ?_
  rw [seen_first]
  rfl

/-- The array of the weight's change after the run. -/
theorem final6 (hp : Placed m c) : (dats m (ok m) 0 c).arrAt 6 (cfgM m (ok m)).N = Adam.delta (grad m c) (arg3 m c) (arg4 m c) (arg5 m c) := by
  refine (dats m (ok m) 0 c).arrAt_eq_of_cover 6 _ (fun t _ => ?_) fun i => ?_
  · show (win0 (adm m (ok m)) 6).cut (grid0.coords t) ((dats m (ok m) 0 c).after 6 t) = _
    rw [after0_6, outs6]
    show (Adam.delta (own m c t) (piece2 m c t) (piece3 m c t) (piece4 m c t) : B) = _
    funext y
    obtain ⟨r, s, rfl⟩ : ∃ (r : Fin 512) (s : Fin 1026), y = ix2 r s := ⟨y 0, y 1, ValueIdx.eq_ix2 y⟩
    exact (Adam.delta_at (grad_at m c t hp r s) (block3 m c t r s) (block4 m c t r s) (block5 m c t r s)).trans (read2 (adm m (ok m)) t r s (Adam.delta (grad m c) (arg3 m c) (arg4 m c) (arg5 m c))).symm
  · obtain ⟨t, r, s, rfl⟩ := in_block i
    refine ⟨t, flush0_6 (adm m (ok m)) t, ?_⟩
    rw [← emb2 (adm m (ok m)) t r s]
    exact View.emb_mem_set _ _

/-- What the body leaves of the first moment at point `t`. -/
theorem outs7 : ((outsAt0 m (ok m) c t).2.2.1 : B) = Adam.mean (own m c t) (piece3 m c t) := by
  unfold outsAt0
  dsimp only
  refine Eq.trans (And.left (And.right (And.right (out_eq c _ _ _ _ _ _ _ _ _ _ _ _ _ _ _ _)))) ?_
  rw [seen_first]
  rfl

/-- The array of the first moment after the run. -/
theorem final7 (hp : Placed m c) : (dats m (ok m) 0 c).arrAt 7 (cfgM m (ok m)).N = Adam.mean (grad m c) (arg4 m c) := by
  refine (dats m (ok m) 0 c).arrAt_eq_of_cover 7 _ (fun t _ => ?_) fun i => ?_
  · show (win0 (adm m (ok m)) 7).cut (grid0.coords t) ((dats m (ok m) 0 c).after 7 t) = _
    rw [after0_7, outs7]
    show (Adam.mean (own m c t) (piece3 m c t) : B) = _
    funext y
    obtain ⟨r, s, rfl⟩ : ∃ (r : Fin 512) (s : Fin 1026), y = ix2 r s := ⟨y 0, y 1, ValueIdx.eq_ix2 y⟩
    exact (Adam.mean_at (grad_at m c t hp r s) (block4 m c t r s)).trans (read2 (adm m (ok m)) t r s (Adam.mean (grad m c) (arg4 m c))).symm
  · obtain ⟨t, r, s, rfl⟩ := in_block i
    refine ⟨t, flush0_7 (adm m (ok m)) t, ?_⟩
    rw [← emb2 (adm m (ok m)) t r s]
    exact View.emb_mem_set _ _

/-- What the body leaves of the second moment at point `t`. -/
theorem outs8 : ((outsAt0 m (ok m) c t).2.2.2 : B) = Adam.square (own m c t) (piece4 m c t) := by
  unfold outsAt0
  dsimp only
  refine Eq.trans (And.right (And.right (And.right (out_eq c _ _ _ _ _ _ _ _ _ _ _ _ _ _ _ _)))) ?_
  rw [seen_first]
  rfl

/-- The array of the second moment after the run. -/
theorem final8 (hp : Placed m c) : (dats m (ok m) 0 c).arrAt 8 (cfgM m (ok m)).N = Adam.square (grad m c) (arg5 m c) := by
  refine (dats m (ok m) 0 c).arrAt_eq_of_cover 8 _ (fun t _ => ?_) fun i => ?_
  · show (win0 (adm m (ok m)) 8).cut (grid0.coords t) ((dats m (ok m) 0 c).after 8 t) = _
    rw [after0_8, outs8]
    show (Adam.square (own m c t) (piece4 m c t) : B) = _
    funext y
    obtain ⟨r, s, rfl⟩ : ∃ (r : Fin 512) (s : Fin 1026), y = ix2 r s := ⟨y 0, y 1, ValueIdx.eq_ix2 y⟩
    exact (Adam.square_at (grad_at m c t hp r s) (block5 m c t r s)).trans (read2 (adm m (ok m)) t r s (Adam.square (grad m c) (arg5 m c))).symm
  · obtain ⟨t, r, s, rfl⟩ := in_block i
    refine ⟨t, flush0_8 (adm m (ok m)) t, ?_⟩
    rw [← emb2 (adm m (ok m)) t r s]
    exact View.emb_mem_set _ _

end Cert.Kernel21Ideal.Array

namespace Cert.Reference21Ideal.Result

open Cert.Reference21Ideal Cert.Reference21Ideal.Gen Cert.Reference21Ideal.Read

variable (x0 : (⟨S5, .i32⟩ : BufTy).Contents (Elt Ideal)) (x1 x2 : (⟨S1024x1026, .f32⟩ : BufTy).Contents (Elt Ideal)) (x3 x4 x5 : (⟨S2048x1026, .f32⟩ : BufTy).Contents (Elt Ideal))

/-- The plain gradient is the two halves in their order. -/
theorem grad_eq : val_main_v5 (F := Ideal) x0 x1 x2 = Halves.joined (by decide) (Halves.place x0) x1 x2 :=
  Halves.joined_eq (h := 1024) (k := 1026) _ _ x1 x2 (fun j => Halves.select_place x0 _ _ _ x1 x2 j) (fun j => Halves.select_place x0 _ _ _ x2 x1 j) _

/-- The plain change of the weight. -/
theorem delta_eq : val_main_v29 (F := Ideal) x0 x1 x2 x3 x4 x5 = Adam.delta (Halves.joined (by decide) (Halves.place x0) x1 x2) x3 x4 x5 :=
  Eq.trans (by rfl : _ = Adam.delta (val_main_v5 (F := Ideal) x0 x1 x2) x3 x4 x5) (congrArg (fun g : Vec Ideal S2048x1026 .f32 => Adam.delta g x3 x4 x5) (grad_eq x0 x1 x2))

/-- The plain first moment. -/
theorem mean_eq : val_main_v10 (F := Ideal) x0 x1 x2 x4 = Adam.mean (Halves.joined (by decide) (Halves.place x0) x1 x2) x4 :=
  Eq.trans (by rfl : _ = Adam.mean (val_main_v5 (F := Ideal) x0 x1 x2) x4) (congrArg (fun g : Vec Ideal S2048x1026 .f32 => Adam.mean g x4) (grad_eq x0 x1 x2))

/-- The plain second moment. -/
theorem square_eq : val_main_v16 (F := Ideal) x0 x1 x2 x5 = Adam.square (Halves.joined (by decide) (Halves.place x0) x1 x2) x5 :=
  Eq.trans (by rfl : _ = Adam.square (val_main_v5 (F := Ideal) x0 x1 x2) x5) (congrArg (fun g : Vec Ideal S2048x1026 .f32 => Adam.square g x5) (grad_eq x0 x1 x2))

end Cert.Reference21Ideal.Result

namespace Cert.Pre_half_w_in

/-- The function's side conditions. -/
theorem facts : Cert.Pre_half_w_in.Facts where
  slices_S5_S1_0 := by decide
  shapeCasts_S1_S_ := by decide

end Cert.Pre_half_w_in

namespace Cert.Values21

open Cert.Kernel21Ideal Cert.Kernel21Ideal.Array Cert.Kernel21Ideal.Gen Cert.Reference21Ideal.Read

/-- From equal arguments the two runs end with the same values. -/
theorem values [hP : Cert.Pre_half_w_in.Facts] : Cert.algebraic_Kernel21Ideal_Reference21Ideal_pre_half_w_in
    (hKernel21Ideal := Cert.Kernel21Ideal.Gen.facts) (hReference21Ideal := Cert.Reference21Ideal.Gen.facts) (hPre_half_w_in := hP) := by
  intro m g m' g' hpre hagree
  have hp : ∀ c, Placed m c := fun c => by
    have h := congrFun (hpre c) (fun a => a.elim0)
    refine Halves.place_of_word (Eq.trans (congrArg₂ (fun a b => IntOp.ori (IntOp.cmpi .eq a 0#32) (IntOp.cmpi .eq b 1#32)) ?_ ?_) h) <;>
      exact (Halves.place_slice _ _ _ _).symm
  refine ⟨fun c => grad m c, fun c => Adam.delta (grad m c) (arg3 m c) (arg4 m c) (arg5 m c), fun c => Adam.mean (grad m c) (arg4 m c), fun c => Adam.square (grad m c) (arg5 m c),
    (θ_run _ _ _).mono (fun r h c => ⟨((h c).1 5).trans (final5 m c (hp c)), ((h c).1 6).trans (final6 m c (hp c)), ((h c).1 7).trans (final7 m c (hp c)), ((h c).1 8).trans (final8 m c (hp c)),
    ((h c).2 main_arg0 (by decide : main_arg0 ∈ Pipeline.restRefs sig spec0)).trans (V_main_arg0 m c),
    ((h c).1 0).trans (((dats m (ok m) 0 c).arrAt_in 0 rfl _).trans ((A_eq m (ok m) c 0).trans (V_main_arg1 m c))),
    ((h c).1 1).trans (((dats m (ok m) 0 c).arrAt_in 1 rfl _).trans ((A_eq m (ok m) c 1).trans (V_main_arg2 m c))),
    ((h c).1 2).trans (((dats m (ok m) 0 c).arrAt_in 2 rfl _).trans ((A_eq m (ok m) c 2).trans (V_main_arg3 m c))),
    ((h c).1 3).trans (((dats m (ok m) 0 c).arrAt_in 3 rfl _).trans ((A_eq m (ok m) c 3).trans (V_main_arg4 m c))),
    ((h c).1 4).trans (((dats m (ok m) 0 c).arrAt_in 4 rfl _).trans ((A_eq m (ok m) c 4).trans (V_main_arg5 m c)))⟩) (run_main m g (ok m)),
    (θ_run _ _ _).mono (fun r h c => ?_) (Cert.Reference21Ideal.Value.run m' g')⟩
  obtain ⟨r5, r6, r7, r8, ha⟩ := h c
  have r5' := r5.trans ((val_main_v5_eq _ _ _).trans (Cert.Reference21Ideal.Result.grad_eq _ _ _))
  have r6' := r6.trans ((val_main_v29_eq _ _ _ _ _ _).trans (Cert.Reference21Ideal.Result.delta_eq _ _ _ _ _ _))
  have r7' := r7.trans ((val_main_v10_eq _ _ _ _).trans (Cert.Reference21Ideal.Result.mean_eq _ _ _ _))
  have r8' := r8.trans ((val_main_v16_eq _ _ _ _).trans (Cert.Reference21Ideal.Result.square_eq _ _ _ _))
  obtain ⟨e0, e1, e2, e3, e4, e5⟩ := hagree c
  rw [e0, e1, e2] at r5'
  rw [e0, e1, e2, e3, e4, e5] at r6'
  rw [e0, e1, e2, e4] at r7'
  rw [e0, e1, e2, e5] at r8'
  exact ⟨r5', r6', r7', r8', ha⟩

/-- The plain program writes none of its arguments and declares no semaphore. -/
theorem reference_frame : Cert.quiescent_Reference21Ideal (hReference21Ideal := Cert.Reference21Ideal.Gen.facts) :=
  fun m ρ _ => (θ_run Cert.Reference21Ideal.defs _ _).mono (fun r h => ⟨fun c => (h c).2.2.2.2, sem_eq_zero_of_no_sems (by decide) r.2⟩)
    (Cert.Reference21Ideal.Value.run (F := Ideal) m ρ)

end Cert.Values21
-- ==== Proof.Half22.lean ====
/-
  The optimiser's step on the output weight, whose gradient comes as two halves.
-/
module

public import proofs.«01_k».proof.Defs
public import proofs.«01_k».proof.Proof.Halves
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Reference22Ideal.Read
public import Idealize.ShloMosaic.Adequacy
public import Idealize.ShloMosaic.Init

@[expose] public section

set_option maxRecDepth 16384

noncomputable section

open Idealize.SL.Sem
open Idealize.ShloMosaic hiding ix0 ix1 ix2 ix3
open Idealize.ShloMosaic.ValueIdx

namespace Cert.Kernel22.Array

open Cert.Kernel22 Cert.Kernel22.Gen

/-- Whatever the table holds, every block lies inside its array. -/
theorem ok {F : FTy → Type} [FloatOps F] (m : (ℓ : Loc nD τ sig) → Buf (Elt F) ℓ) : Ok m := by
  refine ⟨fun i => ⟨fun a => ?_, Or.inl rfl⟩, fun i => ⟨fun a => ?_, Or.inl rfl⟩⟩ <;>
  match a with
  | ⟨0, _⟩ => exact Nat.mul_le_mul_right 256 (Nat.succ_le_succ (Halves.clip_le (b := 0#32) (by decide)))
  | ⟨1, _⟩ => show (0 + 1) * 2048 ≤ 2048; omega

end Cert.Kernel22.Array

namespace Cert.Kernel22Ideal.Array

open Cert.Kernel22Ideal Cert.Kernel22Ideal.Gen Idealize.ShloMosaic.TcCoe

/-- Whatever the table holds, every block lies inside its array. -/
theorem ok {F : FTy → Type} [FloatOps F] (m : (ℓ : Loc nD τ sig) → Buf (Elt F) ℓ) : Ok m := by
  refine ⟨fun i => ⟨fun a => ?_, Or.inl rfl⟩, fun i => ⟨fun a => ?_, Or.inl rfl⟩⟩ <;>
  match a with
  | ⟨0, _⟩ => exact Nat.mul_le_mul_right 256 (Nat.succ_le_succ (Halves.clip_le (b := 0#32) (by decide)))
  | ⟨1, _⟩ => show (0 + 1) * 2048 ≤ 2048; omega

/-- A block's contents. -/
abbrev B := Vec Ideal S256x2048 .f32

/-- The clipped block number of a half, `q` halves down. -/
def blockOf (q : BitVec 32) (t : Fin grid0.N) : ℕ :=
  (Scalar.minsi 0#32 (Scalar.maxsi 0#32 (Scalar.subi (BitVec.ofNat 32 (grid0.coords t 0).val) (Scalar.muli q 1#32)))).toNat

/-- In the first half of the points the first half's block is the point's. -/
theorem block_low : ∀ t : Fin grid0.N, t.val < 1 → blockOf 0#32 t = t.val := by decide +kernel

/-- In the second half of the points the second half's block is counted from its start. -/
theorem block_high : ∀ t : Fin grid0.N, ¬ t.val < 1 → blockOf 1#32 t = t.val - 1 := by decide +kernel

/-- The block coordinates of the whole arrays. -/
theorem rows : ∀ t : Fin grid0.N, cc0_transform_2 (grid0.coords t) 0 = t.val ∧ cc0_transform_2 (grid0.coords t) 1 = 0 := by decide +kernel

section
variable (a : (pcfg0 (F := Ideal)).Adm) (t : Fin grid0.N) (r : Fin 256) (s : Fin 2048)

/-- The array's row of a block's row at point `t`. -/
def row : Fin 512 := ⟨t.val * 256 + r.val, by have : t.val < 2 := t.isLt; omega⟩

/-- Where an entry of a whole array's block sits in the array. -/
theorem emb2 : (((win0 a 2).rect t).emb (ix2 r s) : Shape.Idx S512x2048) = ix2 (row t r) s := by
  refine (ValueIdx.eq_ix2 _).trans (congrArg₂ ix2 (Fin.ext ?_) (Fin.ext ?_))
  · refine (Pipeline.Window.rect_emb_val (win0 a 2) t (ix2 r s) (0 : Fin 2) rfl).trans ?_
    show cc0_transform_2 (grid0.coords t) 0 * 256 + r.val = t.val * 256 + r.val
    rw [(rows t).1]
  · refine (Pipeline.Window.rect_emb_val (win0 a 2) t (ix2 r s) (1 : Fin 2) rfl).trans ?_
    show cc0_transform_2 (grid0.coords t) 1 * 2048 + s.val = s.val
    rw [(rows t).2]; omega

/-- Where an entry of the own half's block sits in the half. -/
theorem emb0 {q : BitVec 32} (hq : a.1.at 0 (Rect.unit (s := S5) ![0] S1.size Facts₀.inb_S5_S1_0) Facts₀.numel1_S1 = q) (h : blockOf q t * 256 + r.val < 256) :
    (((win0 a 0).rect t).emb (ix2 r s) : Shape.Idx S256x2048) = ix2 ⟨blockOf q t * 256 + r.val, h⟩ s := by
  subst hq
  refine (ValueIdx.eq_ix2 _).trans (congrArg₂ ix2 (Fin.ext ?_) (Fin.ext ?_))
  · exact (Pipeline.Window.rect_emb_val (win0 a 0) t (ix2 r s) (0 : Fin 2) rfl).trans rfl
  · exact (Pipeline.Window.rect_emb_val (win0 a 0) t (ix2 r s) (1 : Fin 2) rfl).trans (by show 0 * 2048 + s.val = s.val; omega)

/-- Where an entry of the other half's block sits in the half. -/
theorem emb1 {q : BitVec 32} (hq : Scalar.subi 1#32 (a.1.at 0 (Rect.unit (s := S5) ![0] S1.size Facts₀.inb_S5_S1_0) Facts₀.numel1_S1) = q) (h : blockOf q t * 256 + r.val < 256) :
    (((win0 a 1).rect t).emb (ix2 r s) : Shape.Idx S256x2048) = ix2 ⟨blockOf q t * 256 + r.val, h⟩ s := by
  subst hq
  refine (ValueIdx.eq_ix2 _).trans (congrArg₂ ix2 (Fin.ext ?_) (Fin.ext ?_))
  · exact (Pipeline.Window.rect_emb_val (win0 a 1) t (ix2 r s) (0 : Fin 2) rfl).trans rfl
  · exact (Pipeline.Window.rect_emb_val (win0 a 1) t (ix2 r s) (1 : Fin 2) rfl).trans (by show 0 * 2048 + s.val = s.val; omega)

/-- Every entry of a whole array is in a block. -/
theorem in_block (i : S512x2048.Idx) : ∃ (t : Fin grid0.N) (r : Fin 256) (s : Fin 2048), i = ix2 (row t r) s := by
  have b0 : (i 0).val < 512 := (i 0).isLt
  refine ⟨⟨(i 0).val / 256, show _ < 2 by omega⟩, ⟨(i 0).val % 256, by omega⟩, i 1, (ValueIdx.eq_ix2 i).trans (congrArg₂ ix2 (Fin.ext ?_) rfl)⟩
  show (i 0).val = (i 0).val / 256 * 256 + (i 0).val % 256
  omega

/-- An entry of an array is one of a block's. -/
theorem read2 (X : Vec Ideal S512x2048 .f32) : (((win0 a 2).blk t).view.read (Elt Ideal) X : B) (ix2 r s) = X (ix2 (row t r) s) := congrArg X (emb2 a t r s)
end

variable (m : (ℓ : Loc nD τ sig) → Buf (Elt Ideal) ℓ) (c : Dev nD) (t : Fin grid0.N)

/-- The table's first word. -/
def first : BitVec 32 := Halves.place (m ((c : Thread nD τ).loc main_arg0))

/-- The word the block coordinates are computed from. -/
theorem word_eq : (tbl m).at 0 (Rect.unit (s := S5) ![0] S1.size Facts₀.inb_S5_S1_0) Facts₀.numel1_S1 = first m c := by
  obtain rfl : c = 0 := Subsingleton.elim _ _
  refine congrArg (m (((0 : Dev nD) : Thread nD τ).loc main_arg0)) (funext fun a => Fin.ext ?_)
  match a with
  | ⟨0, _⟩ => rfl

/-- Argument 1. -/
abbrev arg1 : Vec Ideal S256x2048 .f32 := m ((c : Thread nD τ).loc main_arg1)

/-- Its block at point `t`. -/
def piece0 : B := iblk m (ok m) c 0 t

/-- Argument 2. -/
abbrev arg2 : Vec Ideal S256x2048 .f32 := m ((c : Thread nD τ).loc main_arg2)

/-- Its block at point `t`. -/
def piece1 : B := iblk m (ok m) c 1 t

/-- Argument 3. -/
abbrev arg3 : Vec Ideal S512x2048 .f32 := m ((c : Thread nD τ).loc main_arg3)

/-- Its block at point `t`. -/
def piece2 : B := iblk m (ok m) c 2 t

/-- Argument 4. -/
abbrev arg4 : Vec Ideal S512x2048 .f32 := m ((c : Thread nD τ).loc main_arg4)

/-- Its block at point `t`. -/
def piece3 : B := iblk m (ok m) c 3 t

/-- Argument 5. -/
abbrev arg5 : Vec Ideal S512x2048 .f32 := m ((c : Thread nD τ).loc main_arg5)

/-- Its block at point `t`. -/
def piece4 : B := iblk m (ok m) c 4 t

/-- The joined gradient. -/
def grad : Vec Ideal S512x2048 .f32 := Halves.joined (by decide) (first m c) (arg1 m c) (arg2 m c)

/-- A block of argument 3. -/
theorem block3 (r : Fin 256) (s : Fin 2048) : (piece2 m c t) (ix2 r s) = (arg3 m c) (ix2 (row t r) s) := by
  show V m c main_arg3 (((win0 (adm m (ok m)) 2).rect t).emb (ix2 r s)) = _
  rw [V_main_arg3]
  exact congrArg (arg3 m c) (emb2 (adm m (ok m)) t r s)

/-- A block of argument 4. -/
theorem block4 (r : Fin 256) (s : Fin 2048) : (piece3 m c t) (ix2 r s) = (arg4 m c) (ix2 (row t r) s) := by
  show V m c main_arg4 (((win0 (adm m (ok m)) 3).rect t).emb (ix2 r s)) = _
  rw [V_main_arg4]
  exact congrArg (arg4 m c) (emb2 (adm m (ok m)) t r s)

/-- A block of argument 5. -/
theorem block5 (r : Fin 256) (s : Fin 2048) : (piece4 m c t) (ix2 r s) = (arg5 m c) (ix2 (row t r) s) := by
  show V m c main_arg5 (((win0 (adm m (ok m)) 4).rect t).emb (ix2 r s)) = _
  rw [V_main_arg5]
  exact congrArg (arg5 m c) (emb2 (adm m (ok m)) t r s)

/-- A block of the own half. -/
theorem half0 {q : BitVec 32} (hq : first m c = q) (r : Fin 256) (s : Fin 2048) (h : blockOf q t * 256 + r.val < 256) :
    (piece0 m c t) (ix2 r s) = (arg1 m c) (ix2 ⟨blockOf q t * 256 + r.val, h⟩ s) := by
  show V m c main_arg1 (((win0 (adm m (ok m)) 0).rect t).emb (ix2 r s)) = _
  rw [V_main_arg1]
  exact congrArg (arg1 m c) (emb0 (adm m (ok m)) t r s ((word_eq m c).trans hq) h)

/-- A block of the other half. -/
theorem half1 {q : BitVec 32} (hq : Scalar.subi 1#32 (first m c) = q) (r : Fin 256) (s : Fin 2048) (h : blockOf q t * 256 + r.val < 256) :
    (piece1 m c t) (ix2 r s) = (arg2 m c) (ix2 ⟨blockOf q t * 256 + r.val, h⟩ s) := by
  show V m c main_arg2 (((win0 (adm m (ok m)) 1).rect t).emb (ix2 r s)) = _
  rw [V_main_arg2]
  exact congrArg (arg2 m c) (emb1 (adm m (ok m)) t r s ((congrArg (Scalar.subi 1#32) (word_eq m c)).trans hq) h)

/-- The block taken at each point when the own half is the first. -/
theorem chosen0 (x y : B) (t : Fin grid0.N) (e : S256x2048.Idx) : k0_pay2 (F := Ideal) (grid0.coords t) 0#32 x y e = if t.val < 1 then x e else y e := by
  by_cases ht : t.val < 1
  · rw [if_pos ht]
    refine congrArg (fun b : BitVec 1 => (Scalar.select b x y : B) e) (?_ : _ = 1#1)
    revert t; decide +kernel
  · rw [if_neg ht]
    refine congrArg (fun b : BitVec 1 => (Scalar.select b x y : B) e) (?_ : _ = 0#1)
    revert t; decide +kernel

/-- The block taken at each point when the own half is the second. -/
theorem chosen1 (x y : B) (t : Fin grid0.N) (e : S256x2048.Idx) : k0_pay2 (F := Ideal) (grid0.coords t) 1#32 x y e = if t.val < 1 then y e else x e := by
  by_cases ht : t.val < 1
  · rw [if_pos ht]
    refine congrArg (fun b : BitVec 1 => (Scalar.select b x y : B) e) (?_ : _ = 0#1)
    revert t; decide +kernel
  · rw [if_neg ht]
    refine congrArg (fun b : BitVec 1 => (Scalar.select b x y : B) e) (?_ : _ = 1#1)
    revert t; decide +kernel

/-- The block of the gradient the body takes. -/
def own : B := k0_pay2 (F := Ideal) (grid0.coords t) (first m c) (piece0 m c t) (piece1 m c t)

/-- Either the first or the second half is the device's. -/
abbrev Placed : Prop := first m c = 0#32 ∨ first m c = 1#32

/-- The block of the joined gradient. -/
theorem grad_at (hp : Placed m c) (r : Fin 256) (s : Fin 2048) : (own m c t) (ix2 r s) = grad m c (ix2 (row t r) s) :=
  Halves.joined_block (l := 1) (by decide) (by decide) hp (arg1 m c) (arg2 m c) t.val t.isLt (blockOf · t) (block_low t) (block_high t) r s (row t r).isLt
    (fun h => (congrArg (fun w => k0_pay2 (F := Ideal) (grid0.coords t) w (piece0 m c t) (piece1 m c t) (ix2 r s)) h).trans (chosen0 (piece0 m c t) (piece1 m c t) t (ix2 r s)))
    (fun h => (congrArg (fun w => k0_pay2 (F := Ideal) (grid0.coords t) w (piece0 m c t) (piece1 m c t) (ix2 r s)) h).trans (chosen1 (piece0 m c t) (piece1 m c t) t (ix2 r s)))
    (fun _ h => half0 m c t h r s) (fun _ h => half1 m c t h r s)

/-- A zero offset. -/
theorem off2 : (![0, 0] : Fin 2 → Nat) = fun _ => 0 := by funext a; match a with | ⟨0, _⟩ => rfl | ⟨1, _⟩ => rfl

section
variable (i : grid0.Coords) (x0 x1 x2 x3 x4 : B) (z : TbBuf0 (F := Ideal) c tbM0_0)

/-- The table's word the body reads. -/
def seen : BitVec 32 := Halves.place z

/-- The word as the body loads it. -/
theorem seen_eq {h : 0 < S1.numel} : (View.ld (View.read (Elt Ideal) (View.whole main_arg0) z) (Rect.unit (s := S5) ![0] S1.size Facts₀.inb_S5_S1_0) (Shape.Idx.first h) : BitVec 32) = seen c z := by
  refine congrArg z (funext fun a => Fin.ext ?_)
  match a with
  | ⟨0, _⟩ => rfl

/-- The payloads: the change, the first and the second moment of the chosen block. -/
theorem pay_eq (w : BitVec 32) : k0_pay1 (F := Ideal) (k0_pay4 i w x0 x1 x4) (k0_pay5 i w x0 x1 x3) (Scalar.ofBits .f32 0x3C231ACC#32) x2 = Adam.delta (k0_pay2 (F := Ideal) i w x0 x1) x2 x3 x4
    ∧ k0_pay3 (F := Ideal) i w x0 x1 x3 = Adam.mean (k0_pay2 (F := Ideal) i w x0 x1) x3
    ∧ k0_pay4 (F := Ideal) i w x0 x1 x4 = Adam.square (k0_pay2 (F := Ideal) i w x0 x1) x4 := ⟨rfl, rfl, rfl⟩

variable {a2 a3 a4 a5 a6 a7 a8 a9 a10 : Memref sig .tc .vmem S256x2048 .f32} (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole)

/-- What the body leaves of its four results. -/
theorem out_eq : out0_A_5 c i a2 h2 a3 h3 a4 h4 a5 h5 a6 h6 a7 h7 a8 h8 a9 h9 a10 h10 x0 x1 x2 x3 x4 z = (k0_pay2 (F := Ideal) i (seen c z) x0 x1) ∧ out0_A_6 c i a2 h2 a3 h3 a4 h4 a5 h5 a6 h6 a7 h7 a8 h8 a9 h9 a10 h10 x0 x1 x2 x3 x4 z = Adam.delta (k0_pay2 (F := Ideal) i (seen c z) x0 x1) x2 x3 x4 ∧ out0_A_7 c i a2 h2 a3 h3 a4 h4 a5 h5 a6 h6 a7 h7 a8 h8 a9 h9 a10 h10 x0 x1 x2 x3 x4 z = Adam.mean (k0_pay2 (F := Ideal) i (seen c z) x0 x1) x3 ∧ out0_A_8 c i a2 h2 a3 h3 a4 h4 a5 h5 a6 h6 a7 h7 a8 h8 a9 h9 a10 h10 x0 x1 x2 x3 x4 z = Adam.square (k0_pay2 (F := Ideal) i (seen c z) x0 x1) x4 := by
  refine ⟨(View.read_writes_eq_canon _ _ _ (cover0_A_5 c i a2 h2 a3 h3 a4 h4 a5 h5 a6 h6 a7 h7 a8 h8 a9 h9 a10 h10 x0 x1 x2 x3 x4 z)).trans ?_, (View.read_writes_eq_canon _ _ _ (cover0_A_6 c i a2 h2 a3 h3 a4 h4 a5 h5 a6 h6 a7 h7 a8 h8 a9 h9 a10 h10 x0 x1 x2 x3 x4 z)).trans ?_, (View.read_writes_eq_canon _ _ _ (cover0_A_7 c i a2 h2 a3 h3 a4 h4 a5 h5 a6 h6 a7 h7 a8 h8 a9 h9 a10 h10 x0 x1 x2 x3 x4 z)).trans ?_, (View.read_writes_eq_canon _ _ _ (cover0_A_8 c i a2 h2 a3 h3 a4 h4 a5 h5 a6 h6 a7 h7 a8 h8 a9 h9 a10 h10 x0 x1 x2 x3 x4 z)).trans ?_⟩
  all_goals
    unfold kernelRun0_A
    dsimp only
    sl_unfold_words
    simp only [View.readAt_eq_ld, h2.read_unread, h3.read_unread, h4.read_unread, h5.read_unread, h6.read_unread]
    rw [View.canon_unit_zero off2, View.ld_unit_zero off2, View.ld_unit_zero off2]
  · rw [seen_eq c z]
  · rw [View.ld_unit_zero off2, View.ld_unit_zero off2, View.ld_unit_zero off2, seen_eq c z]; exact (pay_eq i x0 x1 x2 x3 x4 _).1
  · rw [View.ld_unit_zero off2, seen_eq c z]; exact (pay_eq i x0 x1 x2 x3 x4 _).2.1
  · rw [View.ld_unit_zero off2, seen_eq c z]; exact (pay_eq i x0 x1 x2 x3 x4 _).2.2
end

/-- The table's word, for the body and for the block coordinates. -/
theorem seen_first : seen c (tbl m 0) = first m c := by
  obtain rfl : c = 0 := Subsingleton.elim _ _
  rfl

/-- What the body leaves of the joined gradient at point `t`. -/
theorem outs5 : ((outsAt0 m (ok m) c t).1 : B) = (own m c t) := by
  unfold outsAt0
  dsimp only
  refine Eq.trans (And.left (out_eq c _ _ _ _ _ _ _ _ _ _ _ _ _ _ _ _)) ?_
  rw [seen_first]
  rfl

/-- The array of the joined gradient after the run. -/
theorem final5 (hp : Placed m c) : (dats m (ok m) 0 c).arrAt 5 (cfgM m (ok m)).N = grad m c := by
  refine (dats m (ok m) 0 c).arrAt_eq_of_cover 5 _ (fun t _ => ?_) fun i => ?_
  · show (win0 (adm m (ok m)) 5).cut (grid0.coords t) ((dats m (ok m) 0 c).after 5 t) = _
    rw [after0_5, outs5]
    show ((own m c t) : B) = _
    funext y
    obtain ⟨r, s, rfl⟩ : ∃ (r : Fin 256) (s : Fin 2048), y = ix2 r s := ⟨y 0, y 1, ValueIdx.eq_ix2 y⟩
    exact (grad_at m c t hp r s).trans (read2 (adm m (ok m)) t r s (grad m c)).symm
  · obtain ⟨t, r, s, rfl⟩ := in_block i
    refine ⟨t, flush0_5 (adm m (ok m)) t, ?_⟩
    rw [← emb2 (adm m (ok m)) t r s]
    exact View.emb_mem_set _ _

/-- What the body leaves of the weight's change at point `t`. -/
theorem outs6 : ((outsAt0 m (ok m) c t).2.1 : B) = Adam.delta (own m c t) (piece2 m c t) (piece3 m c t) (piece4 m c t) := by
  unfold outsAt0
  dsimp only
  refine Eq.trans (And.left (And.right (out_eq c _ _ _ _ _ _ _ _ _ _ _ _ _ _ _ _))) ?_
  rw [seen_first]
  rfl

/-- The array of the weight's change after the run. -/
theorem final6 (hp : Placed m c) : (dats m (ok m) 0 c).arrAt 6 (cfgM m (ok m)).N = Adam.delta (grad m c) (arg3 m c) (arg4 m c) (arg5 m c) := by
  refine (dats m (ok m) 0 c).arrAt_eq_of_cover 6 _ (fun t _ => ?_) fun i => ?_
  · show (win0 (adm m (ok m)) 6).cut (grid0.coords t) ((dats m (ok m) 0 c).after 6 t) = _
    rw [after0_6, outs6]
    show (Adam.delta (own m c t) (piece2 m c t) (piece3 m c t) (piece4 m c t) : B) = _
    funext y
    obtain ⟨r, s, rfl⟩ : ∃ (r : Fin 256) (s : Fin 2048), y = ix2 r s := ⟨y 0, y 1, ValueIdx.eq_ix2 y⟩
    exact (Adam.delta_at (grad_at m c t hp r s) (block3 m c t r s) (block4 m c t r s) (block5 m c t r s)).trans (read2 (adm m (ok m)) t r s (Adam.delta (grad m c) (arg3 m c) (arg4 m c) (arg5 m c))).symm
  · obtain ⟨t, r, s, rfl⟩ := in_block i
    refine ⟨t, flush0_6 (adm m (ok m)) t, ?_⟩
    rw [← emb2 (adm m (ok m)) t r s]
    exact View.emb_mem_set _ _

/-- What the body leaves of the first moment at point `t`. -/
theorem outs7 : ((outsAt0 m (ok m) c t).2.2.1 : B) = Adam.mean (own m c t) (piece3 m c t) := by
  unfold outsAt0
  dsimp only
  refine Eq.trans (And.left (And.right (And.right (out_eq c _ _ _ _ _ _ _ _ _ _ _ _ _ _ _ _)))) ?_
  rw [seen_first]
  rfl

/-- The array of the first moment after the run. -/
theorem final7 (hp : Placed m c) : (dats m (ok m) 0 c).arrAt 7 (cfgM m (ok m)).N = Adam.mean (grad m c) (arg4 m c) := by
  refine (dats m (ok m) 0 c).arrAt_eq_of_cover 7 _ (fun t _ => ?_) fun i => ?_
  · show (win0 (adm m (ok m)) 7).cut (grid0.coords t) ((dats m (ok m) 0 c).after 7 t) = _
    rw [after0_7, outs7]
    show (Adam.mean (own m c t) (piece3 m c t) : B) = _
    funext y
    obtain ⟨r, s, rfl⟩ : ∃ (r : Fin 256) (s : Fin 2048), y = ix2 r s := ⟨y 0, y 1, ValueIdx.eq_ix2 y⟩
    exact (Adam.mean_at (grad_at m c t hp r s) (block4 m c t r s)).trans (read2 (adm m (ok m)) t r s (Adam.mean (grad m c) (arg4 m c))).symm
  · obtain ⟨t, r, s, rfl⟩ := in_block i
    refine ⟨t, flush0_7 (adm m (ok m)) t, ?_⟩
    rw [← emb2 (adm m (ok m)) t r s]
    exact View.emb_mem_set _ _

/-- What the body leaves of the second moment at point `t`. -/
theorem outs8 : ((outsAt0 m (ok m) c t).2.2.2 : B) = Adam.square (own m c t) (piece4 m c t) := by
  unfold outsAt0
  dsimp only
  refine Eq.trans (And.right (And.right (And.right (out_eq c _ _ _ _ _ _ _ _ _ _ _ _ _ _ _ _)))) ?_
  rw [seen_first]
  rfl

/-- The array of the second moment after the run. -/
theorem final8 (hp : Placed m c) : (dats m (ok m) 0 c).arrAt 8 (cfgM m (ok m)).N = Adam.square (grad m c) (arg5 m c) := by
  refine (dats m (ok m) 0 c).arrAt_eq_of_cover 8 _ (fun t _ => ?_) fun i => ?_
  · show (win0 (adm m (ok m)) 8).cut (grid0.coords t) ((dats m (ok m) 0 c).after 8 t) = _
    rw [after0_8, outs8]
    show (Adam.square (own m c t) (piece4 m c t) : B) = _
    funext y
    obtain ⟨r, s, rfl⟩ : ∃ (r : Fin 256) (s : Fin 2048), y = ix2 r s := ⟨y 0, y 1, ValueIdx.eq_ix2 y⟩
    exact (Adam.square_at (grad_at m c t hp r s) (block5 m c t r s)).trans (read2 (adm m (ok m)) t r s (Adam.square (grad m c) (arg5 m c))).symm
  · obtain ⟨t, r, s, rfl⟩ := in_block i
    refine ⟨t, flush0_8 (adm m (ok m)) t, ?_⟩
    rw [← emb2 (adm m (ok m)) t r s]
    exact View.emb_mem_set _ _

end Cert.Kernel22Ideal.Array

namespace Cert.Reference22Ideal.Result

open Cert.Reference22Ideal Cert.Reference22Ideal.Gen Cert.Reference22Ideal.Read

variable (x0 : (⟨S5, .i32⟩ : BufTy).Contents (Elt Ideal)) (x1 x2 : (⟨S256x2048, .f32⟩ : BufTy).Contents (Elt Ideal)) (x3 x4 x5 : (⟨S512x2048, .f32⟩ : BufTy).Contents (Elt Ideal))

/-- The plain gradient is the two halves in their order. -/
theorem grad_eq : val_main_v5 (F := Ideal) x0 x1 x2 = Halves.joined (by decide) (Halves.place x0) x1 x2 :=
  Halves.joined_eq (h := 256) (k := 2048) _ _ x1 x2 (fun j => Halves.select_place x0 _ _ _ x1 x2 j) (fun j => Halves.select_place x0 _ _ _ x2 x1 j) _

/-- The plain change of the weight. -/
theorem delta_eq : val_main_v29 (F := Ideal) x0 x1 x2 x3 x4 x5 = Adam.delta (Halves.joined (by decide) (Halves.place x0) x1 x2) x3 x4 x5 :=
  Eq.trans (by rfl : _ = Adam.delta (val_main_v5 (F := Ideal) x0 x1 x2) x3 x4 x5) (congrArg (fun g : Vec Ideal S512x2048 .f32 => Adam.delta g x3 x4 x5) (grad_eq x0 x1 x2))

/-- The plain first moment. -/
theorem mean_eq : val_main_v10 (F := Ideal) x0 x1 x2 x4 = Adam.mean (Halves.joined (by decide) (Halves.place x0) x1 x2) x4 :=
  Eq.trans (by rfl : _ = Adam.mean (val_main_v5 (F := Ideal) x0 x1 x2) x4) (congrArg (fun g : Vec Ideal S512x2048 .f32 => Adam.mean g x4) (grad_eq x0 x1 x2))

/-- The plain second moment. -/
theorem square_eq : val_main_v16 (F := Ideal) x0 x1 x2 x5 = Adam.square (Halves.joined (by decide) (Halves.place x0) x1 x2) x5 :=
  Eq.trans (by rfl : _ = Adam.square (val_main_v5 (F := Ideal) x0 x1 x2) x5) (congrArg (fun g : Vec Ideal S512x2048 .f32 => Adam.square g x5) (grad_eq x0 x1 x2))

end Cert.Reference22Ideal.Result

namespace Cert.Pre_half_w_out

/-- The function's side conditions. -/
theorem facts : Cert.Pre_half_w_out.Facts where
  slices_S5_S1_0 := by decide
  shapeCasts_S1_S_ := by decide

end Cert.Pre_half_w_out

namespace Cert.Values22

open Cert.Kernel22Ideal Cert.Kernel22Ideal.Array Cert.Kernel22Ideal.Gen Cert.Reference22Ideal.Read

/-- From equal arguments the two runs end with the same values. -/
theorem values [hP : Cert.Pre_half_w_out.Facts] : Cert.algebraic_Kernel22Ideal_Reference22Ideal_pre_half_w_out
    (hKernel22Ideal := Cert.Kernel22Ideal.Gen.facts) (hReference22Ideal := Cert.Reference22Ideal.Gen.facts) (hPre_half_w_out := hP) := by
  intro m g m' g' hpre hagree
  have hp : ∀ c, Placed m c := fun c => by
    have h := congrFun (hpre c) (fun a => a.elim0)
    refine Halves.place_of_word (Eq.trans (congrArg₂ (fun a b => IntOp.ori (IntOp.cmpi .eq a 0#32) (IntOp.cmpi .eq b 1#32)) ?_ ?_) h) <;>
      exact (Halves.place_slice _ _ _ _).symm
  refine ⟨fun c => grad m c, fun c => Adam.delta (grad m c) (arg3 m c) (arg4 m c) (arg5 m c), fun c => Adam.mean (grad m c) (arg4 m c), fun c => Adam.square (grad m c) (arg5 m c),
    (θ_run _ _ _).mono (fun r h c => ⟨((h c).1 5).trans (final5 m c (hp c)), ((h c).1 6).trans (final6 m c (hp c)), ((h c).1 7).trans (final7 m c (hp c)), ((h c).1 8).trans (final8 m c (hp c)),
    ((h c).2 main_arg0 (by decide : main_arg0 ∈ Pipeline.restRefs sig spec0)).trans (V_main_arg0 m c),
    ((h c).1 0).trans (((dats m (ok m) 0 c).arrAt_in 0 rfl _).trans ((A_eq m (ok m) c 0).trans (V_main_arg1 m c))),
    ((h c).1 1).trans (((dats m (ok m) 0 c).arrAt_in 1 rfl _).trans ((A_eq m (ok m) c 1).trans (V_main_arg2 m c))),
    ((h c).1 2).trans (((dats m (ok m) 0 c).arrAt_in 2 rfl _).trans ((A_eq m (ok m) c 2).trans (V_main_arg3 m c))),
    ((h c).1 3).trans (((dats m (ok m) 0 c).arrAt_in 3 rfl _).trans ((A_eq m (ok m) c 3).trans (V_main_arg4 m c))),
    ((h c).1 4).trans (((dats m (ok m) 0 c).arrAt_in 4 rfl _).trans ((A_eq m (ok m) c 4).trans (V_main_arg5 m c)))⟩) (run_main m g (ok m)),
    (θ_run _ _ _).mono (fun r h c => ?_) (Cert.Reference22Ideal.Value.run m' g')⟩
  obtain ⟨r5, r6, r7, r8, ha⟩ := h c
  have r5' := r5.trans ((val_main_v5_eq _ _ _).trans (Cert.Reference22Ideal.Result.grad_eq _ _ _))
  have r6' := r6.trans ((val_main_v29_eq _ _ _ _ _ _).trans (Cert.Reference22Ideal.Result.delta_eq _ _ _ _ _ _))
  have r7' := r7.trans ((val_main_v10_eq _ _ _ _).trans (Cert.Reference22Ideal.Result.mean_eq _ _ _ _))
  have r8' := r8.trans ((val_main_v16_eq _ _ _ _).trans (Cert.Reference22Ideal.Result.square_eq _ _ _ _))
  obtain ⟨e0, e1, e2, e3, e4, e5⟩ := hagree c
  rw [e0, e1, e2] at r5'
  rw [e0, e1, e2, e3, e4, e5] at r6'
  rw [e0, e1, e2, e4] at r7'
  rw [e0, e1, e2, e5] at r8'
  exact ⟨r5', r6', r7', r8', ha⟩

/-- The plain program writes none of its arguments and declares no semaphore. -/
theorem reference_frame : Cert.quiescent_Reference22Ideal (hReference22Ideal := Cert.Reference22Ideal.Gen.facts) :=
  fun m ρ _ => (θ_run Cert.Reference22Ideal.defs _ _).mono (fun r h => ⟨fun c => (h c).2.2.2.2, sem_eq_zero_of_no_sems (by decide) r.2⟩)
    (Cert.Reference22Ideal.Value.run (F := Ideal) m ρ)

end Cert.Values22
-- ==== Proof.Half23.lean ====
/-
  The optimiser's step on the pooling weight, whose gradient comes as two halves.
-/
module

public import proofs.«01_k».proof.Defs
public import proofs.«01_k».proof.Proof.Halves
public import proofs.«01_k».proof.Proof.Gen.Kernel23.Frame
public import proofs.«01_k».proof.Proof.Gen.Kernel23Ideal.Frame
public import proofs.«01_k».proof.Proof.Gen.Reference23Ideal.Run
public import proofs.«01_k».proof.Proof.Gen.Reference23Ideal.Read
public import Idealize.ShloMosaic.Adequacy
public import Idealize.ShloMosaic.Init

@[expose] public section

set_option maxRecDepth 16384

noncomputable section

open Idealize.SL.Sem
open Idealize.ShloMosaic hiding ix0 ix1 ix2 ix3
open Idealize.ShloMosaic.ValueIdx

namespace Cert.Kernel23.Array

open Cert.Kernel23 Cert.Kernel23.Gen

/-- Whatever the table holds, every block lies inside its array. -/
theorem ok {F : FTy → Type} [FloatOps F] (m : (ℓ : Loc nD τ sig) → Buf (Elt F) ℓ) : Ok m := by
  refine ⟨fun i => ⟨fun a => ?_, Or.inl rfl⟩, fun i => ⟨fun a => ?_, Or.inl rfl⟩⟩ <;>
  match a with
  | ⟨0, _⟩ => exact Nat.mul_le_mul_right 128 (Nat.succ_le_succ (Halves.clip_le (b := 0#32) (by decide)))
  | ⟨1, _⟩ => show (0 + 1) * 256 ≤ 256; omega

end Cert.Kernel23.Array

namespace Cert.Kernel23Ideal.Array

open Cert.Kernel23Ideal Cert.Kernel23Ideal.Gen Idealize.ShloMosaic.TcCoe

/-- Whatever the table holds, every block lies inside its array. -/
theorem ok {F : FTy → Type} [FloatOps F] (m : (ℓ : Loc nD τ sig) → Buf (Elt F) ℓ) : Ok m := by
  refine ⟨fun i => ⟨fun a => ?_, Or.inl rfl⟩, fun i => ⟨fun a => ?_, Or.inl rfl⟩⟩ <;>
  match a with
  | ⟨0, _⟩ => exact Nat.mul_le_mul_right 128 (Nat.succ_le_succ (Halves.clip_le (b := 0#32) (by decide)))
  | ⟨1, _⟩ => show (0 + 1) * 256 ≤ 256; omega

/-- A block's contents. -/
abbrev B := Vec Ideal S128x256 .f32

/-- The clipped block number of a half, `q` halves down. -/
def blockOf (q : BitVec 32) (t : Fin grid0.N) : ℕ :=
  (Scalar.minsi 0#32 (Scalar.maxsi 0#32 (Scalar.subi (BitVec.ofNat 32 (grid0.coords t 0).val) (Scalar.muli q 1#32)))).toNat

/-- In the first half of the points the first half's block is the point's. -/
theorem block_low : ∀ t : Fin grid0.N, t.val < 1 → blockOf 0#32 t = t.val := by decide +kernel

/-- In the second half of the points the second half's block is counted from its start. -/
theorem block_high : ∀ t : Fin grid0.N, ¬ t.val < 1 → blockOf 1#32 t = t.val - 1 := by decide +kernel

/-- The block coordinates of the whole arrays. -/
theorem rows : ∀ t : Fin grid0.N, cc0_transform_2 (grid0.coords t) 0 = t.val ∧ cc0_transform_2 (grid0.coords t) 1 = 0 := by decide +kernel

section
variable (a : (pcfg0 (F := Ideal)).Adm) (t : Fin grid0.N) (r : Fin 128) (s : Fin 256)

/-- The array's row of a block's row at point `t`. -/
def row : Fin 256 := ⟨t.val * 128 + r.val, by have : t.val < 2 := t.isLt; omega⟩

/-- Where an entry of a whole array's block sits in the array. -/
theorem emb2 : (((win0 a 2).rect t).emb (ix2 r s) : Shape.Idx S256x256) = ix2 (row t r) s := by
  refine (ValueIdx.eq_ix2 _).trans (congrArg₂ ix2 (Fin.ext ?_) (Fin.ext ?_))
  · refine (Pipeline.Window.rect_emb_val (win0 a 2) t (ix2 r s) (0 : Fin 2) rfl).trans ?_
    show cc0_transform_2 (grid0.coords t) 0 * 128 + r.val = t.val * 128 + r.val
    rw [(rows t).1]
  · refine (Pipeline.Window.rect_emb_val (win0 a 2) t (ix2 r s) (1 : Fin 2) rfl).trans ?_
    show cc0_transform_2 (grid0.coords t) 1 * 256 + s.val = s.val
    rw [(rows t).2]; omega

/-- Where an entry of the own half's block sits in the half. -/
theorem emb0 {q : BitVec 32} (hq : a.1.at 0 (Rect.unit (s := S5) ![0] S1.size Facts₀.inb_S5_S1_0) Facts₀.numel1_S1 = q) (h : blockOf q t * 128 + r.val < 128) :
    (((win0 a 0).rect t).emb (ix2 r s) : Shape.Idx S128x256) = ix2 ⟨blockOf q t * 128 + r.val, h⟩ s := by
  subst hq
  refine (ValueIdx.eq_ix2 _).trans (congrArg₂ ix2 (Fin.ext ?_) (Fin.ext ?_))
  · exact (Pipeline.Window.rect_emb_val (win0 a 0) t (ix2 r s) (0 : Fin 2) rfl).trans rfl
  · exact (Pipeline.Window.rect_emb_val (win0 a 0) t (ix2 r s) (1 : Fin 2) rfl).trans (by show 0 * 256 + s.val = s.val; omega)

/-- Where an entry of the other half's block sits in the half. -/
theorem emb1 {q : BitVec 32} (hq : Scalar.subi 1#32 (a.1.at 0 (Rect.unit (s := S5) ![0] S1.size Facts₀.inb_S5_S1_0) Facts₀.numel1_S1) = q) (h : blockOf q t * 128 + r.val < 128) :
    (((win0 a 1).rect t).emb (ix2 r s) : Shape.Idx S128x256) = ix2 ⟨blockOf q t * 128 + r.val, h⟩ s := by
  subst hq
  refine (ValueIdx.eq_ix2 _).trans (congrArg₂ ix2 (Fin.ext ?_) (Fin.ext ?_))
  · exact (Pipeline.Window.rect_emb_val (win0 a 1) t (ix2 r s) (0 : Fin 2) rfl).trans rfl
  · exact (Pipeline.Window.rect_emb_val (win0 a 1) t (ix2 r s) (1 : Fin 2) rfl).trans (by show 0 * 256 + s.val = s.val; omega)

/-- Every entry of a whole array is in a block. -/
theorem in_block (i : S256x256.Idx) : ∃ (t : Fin grid0.N) (r : Fin 128) (s : Fin 256), i = ix2 (row t r) s := by
  have b0 : (i 0).val < 256 := (i 0).isLt
  refine ⟨⟨(i 0).val / 128, show _ < 2 by omega⟩, ⟨(i 0).val % 128, by omega⟩, i 1, (ValueIdx.eq_ix2 i).trans (congrArg₂ ix2 (Fin.ext ?_) rfl)⟩
  show (i 0).val = (i 0).val / 128 * 128 + (i 0).val % 128
  omega

/-- An entry of an array is one of a block's. -/
theorem read2 (X : Vec Ideal S256x256 .f32) : (((win0 a 2).blk t).view.read (Elt Ideal) X : B) (ix2 r s) = X (ix2 (row t r) s) := congrArg X (emb2 a t r s)
end

variable (m : (ℓ : Loc nD τ sig) → Buf (Elt Ideal) ℓ) (c : Dev nD) (t : Fin grid0.N)

/-- The table's first word. -/
def first : BitVec 32 := Halves.place (m ((c : Thread nD τ).loc main_arg0))

/-- The word the block coordinates are computed from. -/
theorem word_eq : (tbl m).at 0 (Rect.unit (s := S5) ![0] S1.size Facts₀.inb_S5_S1_0) Facts₀.numel1_S1 = first m c := by
  obtain rfl : c = 0 := Subsingleton.elim _ _
  refine congrArg (m (((0 : Dev nD) : Thread nD τ).loc main_arg0)) (funext fun a => Fin.ext ?_)
  match a with
  | ⟨0, _⟩ => rfl

/-- Argument 1. -/
abbrev arg1 : Vec Ideal S128x256 .f32 := m ((c : Thread nD τ).loc main_arg1)

/-- Its block at point `t`. -/
def piece0 : B := iblk m (ok m) c 0 t

/-- Argument 2. -/
abbrev arg2 : Vec Ideal S128x256 .f32 := m ((c : Thread nD τ).loc main_arg2)

/-- Its block at point `t`. -/
def piece1 : B := iblk m (ok m) c 1 t

/-- Argument 3. -/
abbrev arg3 : Vec Ideal S256x256 .f32 := m ((c : Thread nD τ).loc main_arg3)

/-- Its block at point `t`. -/
def piece2 : B := iblk m (ok m) c 2 t

/-- Argument 4. -/
abbrev arg4 : Vec Ideal S256x256 .f32 := m ((c : Thread nD τ).loc main_arg4)

/-- Its block at point `t`. -/
def piece3 : B := iblk m (ok m) c 3 t

/-- Argument 5. -/
abbrev arg5 : Vec Ideal S256x256 .f32 := m ((c : Thread nD τ).loc main_arg5)

/-- Its block at point `t`. -/
def piece4 : B := iblk m (ok m) c 4 t

/-- The joined gradient. -/
def grad : Vec Ideal S256x256 .f32 := Halves.joined (by decide) (first m c) (arg1 m c) (arg2 m c)

/-- A block of argument 3. -/
theorem block3 (r : Fin 128) (s : Fin 256) : (piece2 m c t) (ix2 r s) = (arg3 m c) (ix2 (row t r) s) := by
  show V m c main_arg3 (((win0 (adm m (ok m)) 2).rect t).emb (ix2 r s)) = _
  rw [V_main_arg3]
  exact congrArg (arg3 m c) (emb2 (adm m (ok m)) t r s)

/-- A block of argument 4. -/
theorem block4 (r : Fin 128) (s : Fin 256) : (piece3 m c t) (ix2 r s) = (arg4 m c) (ix2 (row t r) s) := by
  show V m c main_arg4 (((win0 (adm m (ok m)) 3).rect t).emb (ix2 r s)) = _
  rw [V_main_arg4]
  exact congrArg (arg4 m c) (emb2 (adm m (ok m)) t r s)

/-- A block of argument 5. -/
theorem block5 (r : Fin 128) (s : Fin 256) : (piece4 m c t) (ix2 r s) = (arg5 m c) (ix2 (row t r) s) := by
  show V m c main_arg5 (((win0 (adm m (ok m)) 4).rect t).emb (ix2 r s)) = _
  rw [V_main_arg5]
  exact congrArg (arg5 m c) (emb2 (adm m (ok m)) t r s)

/-- A block of the own half. -/
theorem half0 {q : BitVec 32} (hq : first m c = q) (r : Fin 128) (s : Fin 256) (h : blockOf q t * 128 + r.val < 128) :
    (piece0 m c t) (ix2 r s) = (arg1 m c) (ix2 ⟨blockOf q t * 128 + r.val, h⟩ s) := by
  show V m c main_arg1 (((win0 (adm m (ok m)) 0).rect t).emb (ix2 r s)) = _
  rw [V_main_arg1]
  exact congrArg (arg1 m c) (emb0 (adm m (ok m)) t r s ((word_eq m c).trans hq) h)

/-- A block of the other half. -/
theorem half1 {q : BitVec 32} (hq : Scalar.subi 1#32 (first m c) = q) (r : Fin 128) (s : Fin 256) (h : blockOf q t * 128 + r.val < 128) :
    (piece1 m c t) (ix2 r s) = (arg2 m c) (ix2 ⟨blockOf q t * 128 + r.val, h⟩ s) := by
  show V m c main_arg2 (((win0 (adm m (ok m)) 1).rect t).emb (ix2 r s)) = _
  rw [V_main_arg2]
  exact congrArg (arg2 m c) (emb1 (adm m (ok m)) t r s ((congrArg (Scalar.subi 1#32) (word_eq m c)).trans hq) h)

/-- The block taken at each point when the own half is the first. -/
theorem chosen0 (x y : B) (t : Fin grid0.N) (e : S128x256.Idx) : k0_pay2 (F := Ideal) (grid0.coords t) 0#32 x y e = if t.val < 1 then x e else y e := by
  by_cases ht : t.val < 1
  · rw [if_pos ht]
    refine congrArg (fun b : BitVec 1 => (Scalar.select b x y : B) e) (?_ : _ = 1#1)
    revert t; decide +kernel
  · rw [if_neg ht]
    refine congrArg (fun b : BitVec 1 => (Scalar.select b x y : B) e) (?_ : _ = 0#1)
    revert t; decide +kernel

/-- The block taken at each point when the own half is the second. -/
theorem chosen1 (x y : B) (t : Fin grid0.N) (e : S128x256.Idx) : k0_pay2 (F := Ideal) (grid0.coords t) 1#32 x y e = if t.val < 1 then y e else x e := by
  by_cases ht : t.val < 1
  · rw [if_pos ht]
    refine congrArg (fun b : BitVec 1 => (Scalar.select b x y : B) e) (?_ : _ = 0#1)
    revert t; decide +kernel
  · rw [if_neg ht]
    refine congrArg (fun b : BitVec 1 => (Scalar.select b x y : B) e) (?_ : _ = 1#1)
    revert t; decide +kernel

/-- The block of the gradient the body takes. -/
def own : B := k0_pay2 (F := Ideal) (grid0.coords t) (first m c) (piece0 m c t) (piece1 m c t)

/-- Either the first or the second half is the device's. -/
abbrev Placed : Prop := first m c = 0#32 ∨ first m c = 1#32

/-- The block of the joined gradient. -/
theorem grad_at (hp : Placed m c) (r : Fin 128) (s : Fin 256) : (own m c t) (ix2 r s) = grad m c (ix2 (row t r) s) :=
  Halves.joined_block (l := 1) (by decide) (by decide) hp (arg1 m c) (arg2 m c) t.val t.isLt (blockOf · t) (block_low t) (block_high t) r s (row t r).isLt
    (fun h => (congrArg (fun w => k0_pay2 (F := Ideal) (grid0.coords t) w (piece0 m c t) (piece1 m c t) (ix2 r s)) h).trans (chosen0 (piece0 m c t) (piece1 m c t) t (ix2 r s)))
    (fun h => (congrArg (fun w => k0_pay2 (F := Ideal) (grid0.coords t) w (piece0 m c t) (piece1 m c t) (ix2 r s)) h).trans (chosen1 (piece0 m c t) (piece1 m c t) t (ix2 r s)))
    (fun _ h => half0 m c t h r s) (fun _ h => half1 m c t h r s)

/-- A zero offset. -/
theorem off2 : (![0, 0] : Fin 2 → Nat) = fun _ => 0 := by funext a; match a with | ⟨0, _⟩ => rfl | ⟨1, _⟩ => rfl

section
variable (i : grid0.Coords) (x0 x1 x2 x3 x4 : B) (z : TbBuf0 (F := Ideal) c tbM0_0)

/-- The table's word the body reads. -/
def seen : BitVec 32 := Halves.place z

/-- The word as the body loads it. -/
theorem seen_eq {h : 0 < S1.numel} : (View.ld (View.read (Elt Ideal) (View.whole main_arg0) z) (Rect.unit (s := S5) ![0] S1.size Facts₀.inb_S5_S1_0) (Shape.Idx.first h) : BitVec 32) = seen c z := by
  refine congrArg z (funext fun a => Fin.ext ?_)
  match a with
  | ⟨0, _⟩ => rfl

/-- The payloads: the change, the first and the second moment of the chosen block. -/
theorem pay_eq (w : BitVec 32) : k0_pay1 (F := Ideal) (k0_pay4 i w x0 x1 x4) (k0_pay5 i w x0 x1 x3) (Scalar.ofBits .f32 0x3C231ACC#32) x2 = Adam.delta (k0_pay2 (F := Ideal) i w x0 x1) x2 x3 x4
    ∧ k0_pay3 (F := Ideal) i w x0 x1 x3 = Adam.mean (k0_pay2 (F := Ideal) i w x0 x1) x3
    ∧ k0_pay4 (F := Ideal) i w x0 x1 x4 = Adam.square (k0_pay2 (F := Ideal) i w x0 x1) x4 := ⟨rfl, rfl, rfl⟩

variable {a2 a3 a4 a5 a6 a7 a8 a9 a10 : Memref sig .tc .vmem S128x256 .f32} (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole)

/-- What the body leaves of its four results. -/
theorem out_eq : out0_A_5 c i a2 h2 a3 h3 a4 h4 a5 h5 a6 h6 a7 h7 a8 h8 a9 h9 a10 h10 x0 x1 x2 x3 x4 z = (k0_pay2 (F := Ideal) i (seen c z) x0 x1) ∧ out0_A_6 c i a2 h2 a3 h3 a4 h4 a5 h5 a6 h6 a7 h7 a8 h8 a9 h9 a10 h10 x0 x1 x2 x3 x4 z = Adam.delta (k0_pay2 (F := Ideal) i (seen c z) x0 x1) x2 x3 x4 ∧ out0_A_7 c i a2 h2 a3 h3 a4 h4 a5 h5 a6 h6 a7 h7 a8 h8 a9 h9 a10 h10 x0 x1 x2 x3 x4 z = Adam.mean (k0_pay2 (F := Ideal) i (seen c z) x0 x1) x3 ∧ out0_A_8 c i a2 h2 a3 h3 a4 h4 a5 h5 a6 h6 a7 h7 a8 h8 a9 h9 a10 h10 x0 x1 x2 x3 x4 z = Adam.square (k0_pay2 (F := Ideal) i (seen c z) x0 x1) x4 := by
  refine ⟨(View.read_writes_eq_canon _ _ _ (cover0_A_5 c i a2 h2 a3 h3 a4 h4 a5 h5 a6 h6 a7 h7 a8 h8 a9 h9 a10 h10 x0 x1 x2 x3 x4 z)).trans ?_, (View.read_writes_eq_canon _ _ _ (cover0_A_6 c i a2 h2 a3 h3 a4 h4 a5 h5 a6 h6 a7 h7 a8 h8 a9 h9 a10 h10 x0 x1 x2 x3 x4 z)).trans ?_, (View.read_writes_eq_canon _ _ _ (cover0_A_7 c i a2 h2 a3 h3 a4 h4 a5 h5 a6 h6 a7 h7 a8 h8 a9 h9 a10 h10 x0 x1 x2 x3 x4 z)).trans ?_, (View.read_writes_eq_canon _ _ _ (cover0_A_8 c i a2 h2 a3 h3 a4 h4 a5 h5 a6 h6 a7 h7 a8 h8 a9 h9 a10 h10 x0 x1 x2 x3 x4 z)).trans ?_⟩
  all_goals
    unfold kernelRun0_A
    dsimp only
    sl_unfold_words
    simp only [View.readAt_eq_ld, h2.read_unread, h3.read_unread, h4.read_unread, h5.read_unread, h6.read_unread]
    rw [View.canon_unit_zero off2, View.ld_unit_zero off2, View.ld_unit_zero off2]
  · rw [seen_eq c z]
  · rw [View.ld_unit_zero off2, View.ld_unit_zero off2, View.ld_unit_zero off2, seen_eq c z]; exact (pay_eq i x0 x1 x2 x3 x4 _).1
  · rw [View.ld_unit_zero off2, seen_eq c z]; exact (pay_eq i x0 x1 x2 x3 x4 _).2.1
  · rw [View.ld_unit_zero off2, seen_eq c z]; exact (pay_eq i x0 x1 x2 x3 x4 _).2.2
end

/-- The table's word, for the body and for the block coordinates. -/
theorem seen_first : seen c (tbl m 0) = first m c := by
  obtain rfl : c = 0 := Subsingleton.elim _ _
  rfl

/-- What the body leaves of the joined gradient at point `t`. -/
theorem outs5 : ((outsAt0 m (ok m) c t).1 : B) = (own m c t) := by
  unfold outsAt0
  dsimp only
  refine Eq.trans (And.left (out_eq c _ _ _ _ _ _ _ _ _ _ _ _ _ _ _ _)) ?_
  rw [seen_first]
  rfl

/-- The array of the joined gradient after the run. -/
theorem final5 (hp : Placed m c) : (dats m (ok m) 0 c).arrAt 5 (cfgM m (ok m)).N = grad m c := by
  refine (dats m (ok m) 0 c).arrAt_eq_of_cover 5 _ (fun t _ => ?_) fun i => ?_
  · show (win0 (adm m (ok m)) 5).cut (grid0.coords t) ((dats m (ok m) 0 c).after 5 t) = _
    rw [after0_5, outs5]
    show ((own m c t) : B) = _
    funext y
    obtain ⟨r, s, rfl⟩ : ∃ (r : Fin 128) (s : Fin 256), y = ix2 r s := ⟨y 0, y 1, ValueIdx.eq_ix2 y⟩
    exact (grad_at m c t hp r s).trans (read2 (adm m (ok m)) t r s (grad m c)).symm
  · obtain ⟨t, r, s, rfl⟩ := in_block i
    refine ⟨t, flush0_5 (adm m (ok m)) t, ?_⟩
    rw [← emb2 (adm m (ok m)) t r s]
    exact View.emb_mem_set _ _

/-- What the body leaves of the weight's change at point `t`. -/
theorem outs6 : ((outsAt0 m (ok m) c t).2.1 : B) = Adam.delta (own m c t) (piece2 m c t) (piece3 m c t) (piece4 m c t) := by
  unfold outsAt0
  dsimp only
  refine Eq.trans (And.left (And.right (out_eq c _ _ _ _ _ _ _ _ _ _ _ _ _ _ _ _))) ?_
  rw [seen_first]
  rfl

/-- The array of the weight's change after the run. -/
theorem final6 (hp : Placed m c) : (dats m (ok m) 0 c).arrAt 6 (cfgM m (ok m)).N = Adam.delta (grad m c) (arg3 m c) (arg4 m c) (arg5 m c) := by
  refine (dats m (ok m) 0 c).arrAt_eq_of_cover 6 _ (fun t _ => ?_) fun i => ?_
  · show (win0 (adm m (ok m)) 6).cut (grid0.coords t) ((dats m (ok m) 0 c).after 6 t) = _
    rw [after0_6, outs6]
    show (Adam.delta (own m c t) (piece2 m c t) (piece3 m c t) (piece4 m c t) : B) = _
    funext y
    obtain ⟨r, s, rfl⟩ : ∃ (r : Fin 128) (s : Fin 256), y = ix2 r s := ⟨y 0, y 1, ValueIdx.eq_ix2 y⟩
    exact (Adam.delta_at (grad_at m c t hp r s) (block3 m c t r s) (block4 m c t r s) (block5 m c t r s)).trans (read2 (adm m (ok m)) t r s (Adam.delta (grad m c) (arg3 m c) (arg4 m c) (arg5 m c))).symm
  · obtain ⟨t, r, s, rfl⟩ := in_block i
    refine ⟨t, flush0_6 (adm m (ok m)) t, ?_⟩
    rw [← emb2 (adm m (ok m)) t r s]
    exact View.emb_mem_set _ _

/-- What the body leaves of the first moment at point `t`. -/
theorem outs7 : ((outsAt0 m (ok m) c t).2.2.1 : B) = Adam.mean (own m c t) (piece3 m c t) := by
  unfold outsAt0
  dsimp only
  refine Eq.trans (And.left (And.right (And.right (out_eq c _ _ _ _ _ _ _ _ _ _ _ _ _ _ _ _)))) ?_
  rw [seen_first]
  rfl

/-- The array of the first moment after the run. -/
theorem final7 (hp : Placed m c) : (dats m (ok m) 0 c).arrAt 7 (cfgM m (ok m)).N = Adam.mean (grad m c) (arg4 m c) := by
  refine (dats m (ok m) 0 c).arrAt_eq_of_cover 7 _ (fun t _ => ?_) fun i => ?_
  · show (win0 (adm m (ok m)) 7).cut (grid0.coords t) ((dats m (ok m) 0 c).after 7 t) = _
    rw [after0_7, outs7]
    show (Adam.mean (own m c t) (piece3 m c t) : B) = _
    funext y
    obtain ⟨r, s, rfl⟩ : ∃ (r : Fin 128) (s : Fin 256), y = ix2 r s := ⟨y 0, y 1, ValueIdx.eq_ix2 y⟩
    exact (Adam.mean_at (grad_at m c t hp r s) (block4 m c t r s)).trans (read2 (adm m (ok m)) t r s (Adam.mean (grad m c) (arg4 m c))).symm
  · obtain ⟨t, r, s, rfl⟩ := in_block i
    refine ⟨t, flush0_7 (adm m (ok m)) t, ?_⟩
    rw [← emb2 (adm m (ok m)) t r s]
    exact View.emb_mem_set _ _

/-- What the body leaves of the second moment at point `t`. -/
theorem outs8 : ((outsAt0 m (ok m) c t).2.2.2 : B) = Adam.square (own m c t) (piece4 m c t) := by
  unfold outsAt0
  dsimp only
  refine Eq.trans (And.right (And.right (And.right (out_eq c _ _ _ _ _ _ _ _ _ _ _ _ _ _ _ _)))) ?_
  rw [seen_first]
  rfl

/-- The array of the second moment after the run. -/
theorem final8 (hp : Placed m c) : (dats m (ok m) 0 c).arrAt 8 (cfgM m (ok m)).N = Adam.square (grad m c) (arg5 m c) := by
  refine (dats m (ok m) 0 c).arrAt_eq_of_cover 8 _ (fun t _ => ?_) fun i => ?_
  · show (win0 (adm m (ok m)) 8).cut (grid0.coords t) ((dats m (ok m) 0 c).after 8 t) = _
    rw [after0_8, outs8]
    show (Adam.square (own m c t) (piece4 m c t) : B) = _
    funext y
    obtain ⟨r, s, rfl⟩ : ∃ (r : Fin 128) (s : Fin 256), y = ix2 r s := ⟨y 0, y 1, ValueIdx.eq_ix2 y⟩
    exact (Adam.square_at (grad_at m c t hp r s) (block5 m c t r s)).trans (read2 (adm m (ok m)) t r s (Adam.square (grad m c) (arg5 m c))).symm
  · obtain ⟨t, r, s, rfl⟩ := in_block i
    refine ⟨t, flush0_8 (adm m (ok m)) t, ?_⟩
    rw [← emb2 (adm m (ok m)) t r s]
    exact View.emb_mem_set _ _

end Cert.Kernel23Ideal.Array

namespace Cert.Reference23Ideal.Result

open Cert.Reference23Ideal Cert.Reference23Ideal.Gen Cert.Reference23Ideal.Read

variable (x0 : (⟨S5, .i32⟩ : BufTy).Contents (Elt Ideal)) (x1 x2 : (⟨S128x256, .f32⟩ : BufTy).Contents (Elt Ideal)) (x3 x4 x5 : (⟨S256x256, .f32⟩ : BufTy).Contents (Elt Ideal))

/-- The plain gradient is the two halves in their order. -/
theorem grad_eq : val_main_v5 (F := Ideal) x0 x1 x2 = Halves.joined (by decide) (Halves.place x0) x1 x2 :=
  Halves.joined_eq (h := 128) (k := 256) _ _ x1 x2 (fun j => Halves.select_place x0 _ _ _ x1 x2 j) (fun j => Halves.select_place x0 _ _ _ x2 x1 j) _

/-- The plain change of the weight. -/
theorem delta_eq : val_main_v29 (F := Ideal) x0 x1 x2 x3 x4 x5 = Adam.delta (Halves.joined (by decide) (Halves.place x0) x1 x2) x3 x4 x5 :=
  Eq.trans (by rfl : _ = Adam.delta (val_main_v5 (F := Ideal) x0 x1 x2) x3 x4 x5) (congrArg (fun g : Vec Ideal S256x256 .f32 => Adam.delta g x3 x4 x5) (grad_eq x0 x1 x2))

/-- The plain first moment. -/
theorem mean_eq : val_main_v10 (F := Ideal) x0 x1 x2 x4 = Adam.mean (Halves.joined (by decide) (Halves.place x0) x1 x2) x4 :=
  Eq.trans (by rfl : _ = Adam.mean (val_main_v5 (F := Ideal) x0 x1 x2) x4) (congrArg (fun g : Vec Ideal S256x256 .f32 => Adam.mean g x4) (grad_eq x0 x1 x2))

/-- The plain second moment. -/
theorem square_eq : val_main_v16 (F := Ideal) x0 x1 x2 x5 = Adam.square (Halves.joined (by decide) (Halves.place x0) x1 x2) x5 :=
  Eq.trans (by rfl : _ = Adam.square (val_main_v5 (F := Ideal) x0 x1 x2) x5) (congrArg (fun g : Vec Ideal S256x256 .f32 => Adam.square g x5) (grad_eq x0 x1 x2))

end Cert.Reference23Ideal.Result

namespace Cert.Pre_half_pool_w

/-- The function's side conditions. -/
theorem facts : Cert.Pre_half_pool_w.Facts where
  slices_S5_S1_0 := by decide
  shapeCasts_S1_S_ := by decide

end Cert.Pre_half_pool_w

namespace Cert.Values23

open Cert.Kernel23Ideal Cert.Kernel23Ideal.Array Cert.Kernel23Ideal.Gen Cert.Reference23Ideal.Read

/-- From equal arguments the two runs end with the same values. -/
theorem values [hP : Cert.Pre_half_pool_w.Facts] : Cert.algebraic_Kernel23Ideal_Reference23Ideal_pre_half_pool_w
    (hKernel23Ideal := Cert.Kernel23Ideal.Gen.facts) (hReference23Ideal := Cert.Reference23Ideal.Gen.facts) (hPre_half_pool_w := hP) := by
  intro m g m' g' hpre hagree
  have hp : ∀ c, Placed m c := fun c => by
    have h := congrFun (hpre c) (fun a => a.elim0)
    refine Halves.place_of_word (Eq.trans (congrArg₂ (fun a b => IntOp.ori (IntOp.cmpi .eq a 0#32) (IntOp.cmpi .eq b 1#32)) ?_ ?_) h) <;>
      exact (Halves.place_slice _ _ _ _).symm
  refine ⟨fun c => grad m c, fun c => Adam.delta (grad m c) (arg3 m c) (arg4 m c) (arg5 m c), fun c => Adam.mean (grad m c) (arg4 m c), fun c => Adam.square (grad m c) (arg5 m c),
    (θ_run _ _ _).mono (fun r h c => ⟨((h c).1 5).trans (final5 m c (hp c)), ((h c).1 6).trans (final6 m c (hp c)), ((h c).1 7).trans (final7 m c (hp c)), ((h c).1 8).trans (final8 m c (hp c)),
    ((h c).2 main_arg0 (by decide : main_arg0 ∈ Pipeline.restRefs sig spec0)).trans (V_main_arg0 m c),
    ((h c).1 0).trans (((dats m (ok m) 0 c).arrAt_in 0 rfl _).trans ((A_eq m (ok m) c 0).trans (V_main_arg1 m c))),
    ((h c).1 1).trans (((dats m (ok m) 0 c).arrAt_in 1 rfl _).trans ((A_eq m (ok m) c 1).trans (V_main_arg2 m c))),
    ((h c).1 2).trans (((dats m (ok m) 0 c).arrAt_in 2 rfl _).trans ((A_eq m (ok m) c 2).trans (V_main_arg3 m c))),
    ((h c).1 3).trans (((dats m (ok m) 0 c).arrAt_in 3 rfl _).trans ((A_eq m (ok m) c 3).trans (V_main_arg4 m c))),
    ((h c).1 4).trans (((dats m (ok m) 0 c).arrAt_in 4 rfl _).trans ((A_eq m (ok m) c 4).trans (V_main_arg5 m c)))⟩) (run_main m g (ok m)),
    (θ_run _ _ _).mono (fun r h c => ?_) (Cert.Reference23Ideal.Value.run m' g')⟩
  obtain ⟨r5, r6, r7, r8, ha⟩ := h c
  have r5' := r5.trans ((val_main_v5_eq _ _ _).trans (Cert.Reference23Ideal.Result.grad_eq _ _ _))
  have r6' := r6.trans ((val_main_v29_eq _ _ _ _ _ _).trans (Cert.Reference23Ideal.Result.delta_eq _ _ _ _ _ _))
  have r7' := r7.trans ((val_main_v10_eq _ _ _ _).trans (Cert.Reference23Ideal.Result.mean_eq _ _ _ _))
  have r8' := r8.trans ((val_main_v16_eq _ _ _ _).trans (Cert.Reference23Ideal.Result.square_eq _ _ _ _))
  obtain ⟨e0, e1, e2, e3, e4, e5⟩ := hagree c
  rw [e0, e1, e2] at r5'
  rw [e0, e1, e2, e3, e4, e5] at r6'
  rw [e0, e1, e2, e4] at r7'
  rw [e0, e1, e2, e5] at r8'
  exact ⟨r5', r6', r7', r8', ha⟩

/-- The plain program writes none of its arguments and declares no semaphore. -/
theorem reference_frame : Cert.quiescent_Reference23Ideal (hReference23Ideal := Cert.Reference23Ideal.Gen.facts) :=
  fun m ρ _ => (θ_run Cert.Reference23Ideal.defs _ _).mono (fun r h => ⟨fun c => (h c).2.2.2.2, sem_eq_zero_of_no_sems (by decide) r.2⟩)
    (Cert.Reference23Ideal.Value.run (F := Ideal) m ρ)

end Cert.Values23
-- ==== Proof.lean ====
/-
  The proof of the claim: the programs' side conditions, the frames, the named constant and the values.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Values
public import proofs.«01_k».proof.Proof.Gen.Kernel2.Frame
public import proofs.«01_k».proof.Proof.Values2
public import proofs.«01_k».proof.Proof.Gen.Kernel3.Frame
public import proofs.«01_k».proof.Proof.Values3
public import proofs.«01_k».proof.Proof.Gen.Kernel4.Frame
public import proofs.«01_k».proof.Proof.Values4
public import proofs.«01_k».proof.Proof.Gen.Kernel5.Frame
public import proofs.«01_k».proof.Proof.Values5
public import proofs.«01_k».proof.Proof.Gen.Kernel6.Frame
public import proofs.«01_k».proof.Proof.Values6
public import proofs.«01_k».proof.Proof.Gen.Kernel7.Frame
public import proofs.«01_k».proof.Proof.Values7
public import proofs.«01_k».proof.Proof.Gen.Kernel8.Frame
public import proofs.«01_k».proof.Proof.Values8
public import proofs.«01_k».proof.Proof.Gen.Kernel9.Frame
public import proofs.«01_k».proof.Proof.Values9
public import proofs.«01_k».proof.Proof.Gen.Kernel10.Frame
public import proofs.«01_k».proof.Proof.Values10
public import proofs.«01_k».proof.Proof.Gen.Kernel11.Frame
public import proofs.«01_k».proof.Proof.Values11
public import proofs.«01_k».proof.Proof.Gen.Kernel12.Frame
public import proofs.«01_k».proof.Proof.Values12
public import proofs.«01_k».proof.Proof.Gen.Kernel13.Frame
public import proofs.«01_k».proof.Proof.Values13
public import proofs.«01_k».proof.Proof.Gen.Kernel14.Frame
public import proofs.«01_k».proof.Proof.Values14
public import proofs.«01_k».proof.Proof.Gen.Kernel15.Frame
public import proofs.«01_k».proof.Proof.Values15
public import proofs.«01_k».proof.Proof.Gen.Kernel17.Frame
public import proofs.«01_k».proof.Proof.Values17
public import proofs.«01_k».proof.Proof.Gen.Kernel24.Frame
public import proofs.«01_k».proof.Proof.Small
public import proofs.«01_k».proof.Proof.Gen.Kernel19.Frame
public import proofs.«01_k».proof.Proof.Half19
public import proofs.«01_k».proof.Proof.Gen.Kernel20.Frame
public import proofs.«01_k».proof.Proof.Half20
public import proofs.«01_k».proof.Proof.Gen.Kernel21.Frame
public import proofs.«01_k».proof.Proof.Half21
public import proofs.«01_k».proof.Proof.Gen.Kernel22.Frame
public import proofs.«01_k».proof.Proof.Half22
public import proofs.«01_k».proof.Proof.Gen.Kernel23.Frame
public import proofs.«01_k».proof.Proof.Half23
public import Idealize.ShloMosaic.Adequacy
public import Idealize.ShloMosaic.Init

@[expose] public section

noncomputable section

namespace Cert.Proof

open Idealize.ShloMosaic Idealize.SL.Sem Cert.Kernel

/-- From arguments without an infinite entry both runs end with the gradient's arrays. -/
theorem values [hP : Cert.Pre_finite.Facts] : Cert.algebraic_KernelIdeal_ReferenceIdeal_pre_finite
    (hKernelIdeal := Cert.KernelIdeal.Gen.facts) (hReferenceIdeal := Cert.ReferenceIdeal.Gen.facts) (hPre_finite := hP) := by
  intro m g m' g' hpre hagree
  have fin := fun c : Dev Cert.KernelIdeal.nD => Cert.Pre_finite.finite_of_fn _ _ _ _ _ (fun a => a.elim0) (congrFun (hpre c) _)
  have I := fun c : Dev Cert.KernelIdeal.nD => Cert.Block.inputs_dataOf (fin c).1 (fin c).2.1 (fin c).2.2.1 (fin c).2.2.2.1 (fin c).2.2.2.2
  refine ⟨_, _, _, Cert.Values.kernel_run m g _ I, Cert.Values.reference_run m' g' _ fun c => ?_⟩
  rw [(hagree c).1, (hagree c).2.1, (hagree c).2.2.1, (hagree c).2.2.2.1, (hagree c).2.2.2.2]
  exact I c

/-- The reference writes none of its arguments and declares no semaphore. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run Cert.ReferenceIdeal.defs _ _).mono (fun r h => ⟨fun c => (h c).2.2.2, sem_eq_zero_of_no_sems (by decide) r.2⟩)
    (Cert.ReferenceIdeal.Value.run (F := Ideal) m ρ)

/-- The claim: the frames, the named constant, the values. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel17.Gen.facts, Cert.Kernel17Ideal.Gen.facts, Cert.Reference17Ideal.Gen.facts, Cert.Kernel24.Gen.facts, Cert.Kernel24Ideal.Gen.facts, Cert.Reference24Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Pre_finite.facts, Cert.Pre_finite_ffn.facts, Cert.Pre_finite_up.facts, Cert.Pre_finite_up_gate.facts, Cert.Pre_half_wide.facts, Cert.Pre_half_down.facts, Cert.Pre_half_w_in.facts, Cert.Pre_half_w_out.facts, Cert.Pre_half_pool_w.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  fun m ρ _ => Cert.Kernel2.Gen.frame m ρ,
  fun m ρ _ => Cert.Kernel2Ideal.Gen.frame m ρ,
  fun m ρ _ => Cert.Kernel2Ideal.Gen.frame m ρ,
  Values2.reference_frame,
  fun m ρ _ => Values2.reference_frame m ρ trivial,
  fun m ρ _ => Cert.Kernel3.Gen.frame m ρ,
  fun m ρ _ => Cert.Kernel3Ideal.Gen.frame m ρ,
  Values3.reference_frame,
  fun m ρ _ => Cert.Kernel4.Gen.frame m ρ,
  fun m ρ _ => Cert.Kernel4Ideal.Gen.frame m ρ,
  Values4.reference_frame,
  fun m ρ _ => Cert.Kernel5.Gen.frame m ρ,
  fun m ρ _ => Cert.Kernel5Ideal.Gen.frame m ρ,
  Values5.reference_frame,
  fun m ρ _ => Cert.Kernel6.Gen.frame m ρ,
  fun m ρ _ => Cert.Kernel6Ideal.Gen.frame m ρ,
  fun m ρ _ => Cert.Kernel6Ideal.Gen.frame m ρ,
  Values6.reference_frame,
  fun m ρ _ => Values6.reference_frame m ρ trivial,
  fun m ρ _ => Cert.Kernel7.Gen.frame m ρ,
  fun m ρ _ => Cert.Kernel7Ideal.Gen.frame m ρ,
  fun m ρ _ => Cert.Kernel7Ideal.Gen.frame m ρ,
  Values7.reference_frame,
  fun m ρ _ => Values7.reference_frame m ρ trivial,
  fun m ρ _ => Cert.Kernel8.Gen.frame m ρ,
  fun m ρ _ => Cert.Kernel8Ideal.Gen.frame m ρ,
  Values8.reference_frame,
  fun m ρ _ => Cert.Kernel9.Gen.frame m ρ,
  fun m ρ _ => Cert.Kernel9Ideal.Gen.frame m ρ,
  Values9.reference_frame,
  fun m ρ _ => Cert.Kernel10.Gen.frame m ρ,
  fun m ρ _ => Cert.Kernel10Ideal.Gen.frame m ρ,
  Values10.reference_frame,
  fun m ρ _ => Cert.Kernel11.Gen.frame m ρ,
  fun m ρ _ => Cert.Kernel11Ideal.Gen.frame m ρ,
  Values11.reference_frame,
  fun m ρ _ => Cert.Kernel12.Gen.frame m ρ,
  fun m ρ _ => Cert.Kernel12Ideal.Gen.frame m ρ,
  Values12.reference_frame,
  fun m ρ _ => Cert.Kernel13.Gen.frame m ρ,
  fun m ρ _ => Cert.Kernel13Ideal.Gen.frame m ρ,
  Values13.reference_frame,
  fun m ρ _ => Cert.Kernel14.Gen.frame m ρ,
  fun m ρ _ => Cert.Kernel14Ideal.Gen.frame m ρ,
  Values14.reference_frame,
  fun m ρ _ => Cert.Kernel15.Gen.frame m ρ,
  fun m ρ _ => Cert.Kernel15Ideal.Gen.frame m ρ,
  Values15.reference_frame,
  fun m ρ _ => Cert.Kernel17.Gen.frame m ρ,
  fun m ρ _ => Cert.Kernel17Ideal.Gen.frame m ρ,
  Values17.reference_frame,
  fun m ρ _ => Cert.Kernel24.Gen.frame m ρ,
  fun m ρ _ => Cert.Kernel24Ideal.Gen.frame m ρ,
  Values24.reference_frame,
  fun m ρ _ => Cert.Kernel19.Gen.frame m ρ (Cert.Kernel19.Array.ok m),
  fun m ρ _ => Cert.Kernel19Ideal.Gen.frame m ρ (Cert.Kernel19Ideal.Array.ok m),
  fun m ρ _ => Cert.Kernel19Ideal.Gen.frame m ρ (Cert.Kernel19Ideal.Array.ok m),
  Values19.reference_frame,
  fun m ρ _ => Values19.reference_frame m ρ trivial,
  fun m ρ _ => Cert.Kernel20.Gen.frame m ρ (Cert.Kernel20.Array.ok m),
  fun m ρ _ => Cert.Kernel20Ideal.Gen.frame m ρ (Cert.Kernel20Ideal.Array.ok m),
  fun m ρ _ => Cert.Kernel20Ideal.Gen.frame m ρ (Cert.Kernel20Ideal.Array.ok m),
  Values20.reference_frame,
  fun m ρ _ => Values20.reference_frame m ρ trivial,
  fun m ρ _ => Cert.Kernel21.Gen.frame m ρ (Cert.Kernel21.Array.ok m),
  fun m ρ _ => Cert.Kernel21Ideal.Gen.frame m ρ (Cert.Kernel21Ideal.Array.ok m),
  fun m ρ _ => Cert.Kernel21Ideal.Gen.frame m ρ (Cert.Kernel21Ideal.Array.ok m),
  Values21.reference_frame,
  fun m ρ _ => Values21.reference_frame m ρ trivial,
  fun m ρ _ => Cert.Kernel22.Gen.frame m ρ (Cert.Kernel22.Array.ok m),
  fun m ρ _ => Cert.Kernel22Ideal.Gen.frame m ρ (Cert.Kernel22Ideal.Array.ok m),
  fun m ρ _ => Cert.Kernel22Ideal.Gen.frame m ρ (Cert.Kernel22Ideal.Array.ok m),
  Values22.reference_frame,
  fun m ρ _ => Values22.reference_frame m ρ trivial,
  fun m ρ _ => Cert.Kernel23.Gen.frame m ρ (Cert.Kernel23.Array.ok m),
  fun m ρ _ => Cert.Kernel23Ideal.Gen.frame m ρ (Cert.Kernel23Ideal.Array.ok m),
  fun m ρ _ => Cert.Kernel23Ideal.Gen.frame m ρ (Cert.Kernel23Ideal.Array.ok m),
  Values23.reference_frame,
  fun m ρ _ => Values23.reference_frame m ρ trivial,
  IdealRules.named_const.statement Cert.KernelIdeal.κ "mask" .f32 0xF149F2CA#32 ⊥ rfl,
  values (hP := Cert.Pre_finite.facts),
  trivial,
  Values2.values (hP := Cert.Pre_finite_ffn.facts),
  trivial,
  Values3.values,
  trivial,
  Values4.values,
  trivial,
  Values5.values,
  trivial,
  Values6.values (hP := Cert.Pre_finite_up.facts),
  trivial,
  Values7.values (hP := Cert.Pre_finite_up_gate.facts),
  trivial,
  Values8.values,
  trivial,
  Values9.values,
  trivial,
  Values10.values,
  trivial,
  Values11.values,
  trivial,
  Values12.values,
  trivial,
  Values13.values,
  trivial,
  Values14.values,
  trivial,
  Values15.values,
  trivial,
  Values17.values,
  trivial,
  Values24.values,
  trivial,
  Values19.values (hP := Cert.Pre_half_wide.facts),
  trivial,
  Values20.values (hP := Cert.Pre_half_down.facts),
  trivial,
  Values21.values (hP := Cert.Pre_half_w_in.facts),
  trivial,
  Values22.values (hP := Cert.Pre_half_w_out.facts),
  trivial,
  Values23.values (hP := Cert.Pre_half_pool_w.facts)⟩

end Cert.Proof

end
